-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096 : Shape := ⟨1, ![4096]⟩
abbrev S12x4096x4 : Shape := ⟨3, ![12, 4096, 4]⟩
abbrev S12x4096 : Shape := ⟨2, ![12, 4096]⟩
abbrev S4 : Shape := ⟨1, ![4]⟩
abbrev S_ : Shape := ⟨0, ![]⟩

class Facts : Prop where
  bcast_S_S12x4096x4 : S_.BroadcastsInDim S12x4096x4 (![] : Fin 0 → Fin S12x4096x4.rank)
  reducesTo_S12x4096x4_S_d0_1_2 : S12x4096x4.ReducesTo [0, 1, 2] S_
  h_S_ : 0 < S_.numel
  bcast_S_S12x4096 : S_.BroadcastsInDim S12x4096 (![] : Fin 0 → Fin S12x4096.rank)
  reducesTo_S12x4096_S_d0_1 : S12x4096.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg3 : IVec S4 32) (main_arg4 : IVec S_ 32) (main_v12 : IVec S_ 1) (main_v14 : IVec S4 1) (main_v15 : IVec S4 32) : IVec S_ 1 :=
  let main_v16 : IVec S4 1 := cmpi .slt main_arg3 main_v15
  let main_v17 : IVec S4 1 := andi main_v14 main_v16
  let main_c_7 : IVec S_ 1 := constantI S_ 1 1#1
  let main_v18 : IVec S_ 1 := (fun x v => Host.reduce IntOp.andi x v reducesTo_S4_S_d0 h_S_) main_v17 main_c_7
  let main_v19 : IVec S_ 1 := andi main_v12 main_v18
  let main_c_8 : IVec S_ 32 := constantI S_ 32 0#32
  let main_v20 : IVec S_ 1 := cmpi .sge main_arg4 main_c_8
  let main_v21 : IVec S_ 1 := andi main_v19 main_v20
  let main_c_9 : IVec S_ 32 := constantI S_ 32 4#32
  let main_v22 : IVec S_ 1 := cmpi .slt main_arg4 main_c_9
  let main_v23 : IVec S_ 1 := andi main_v21 main_v22
  main_v23

def fn {F : FTy → Type} [FloatOps F] (main_arg0 : IVec S4096 1) (main_arg1 : IVec S12x4096x4 32) (main_arg2 : IVec S12x4096 32) (main_arg3 : IVec S4 32) (main_arg4 : IVec S_ 32) : IVec S_ 1 :=
  let main_c : IVec S_ 32 := constantI S_ 32 0#32
  let main_v0 : IVec S12x4096x4 32 := broadcastInDim S12x4096x4 ![] bcast_S_S12x4096x4 main_c
  let main_v1 : IVec S12x4096x4 1 := cmpi .sge main_arg1 main_v0
  let main_c_0 : IVec S_ 32 := constantI S_ 32 4096#32
  let main_v2 : IVec S12x4096x4 32 := broadcastInDim S12x4096x4 ![] bcast_S_S12x4096x4 main_c_0
  let main_v3 : IVec S12x4096x4 1 := cmpi .slt main_arg1 main_v2
  let main_v4 : IVec S12x4096x4 1 := andi main_v1 main_v3
  let main_c_1 : IVec S_ 1 := constantI S_ 1 1#1
  let main_v5 : IVec S_ 1 := (fun x v => Host.reduce IntOp.andi x v reducesTo_S12x4096x4_S_d0_1_2 h_S_) main_v4 main_c_1
  let main_c_2 : IVec S_ 32 := constantI S_ 32 0#32
  let main_v6 : IVec S12x4096 32 := broadcastInDim S12x4096 ![] bcast_S_S12x4096 main_c_2
  let main_v7 : IVec S12x4096 1 := cmpi .sge main_arg2 main_v6
  let main_c_3 : IVec S_ 32 := constantI S_ 32 4#32
  let main_v8 : IVec S12x4096 32 := broadcastInDim S12x4096 ![] bcast_S_S12x4096 main_c_3
  let main_v9 : IVec S12x4096 1 := cmpi .slt main_arg2 main_v8
  let main_v10 : IVec S12x4096 1 := andi main_v7 main_v9
  let main_c_4 : IVec S_ 1 := constantI S_ 1 1#1
  let main_v11 : IVec S_ 1 := (fun x v => Host.reduce IntOp.andi x v reducesTo_S12x4096_S_d0_1 h_S_) main_v10 main_c_4
  let main_v12 : IVec S_ 1 := andi main_v5 main_v11
  let main_c_5 : IVec S_ 32 := constantI S_ 32 0#32
  let main_v13 : IVec S4 32 := broadcastInDim S4 ![] bcast_S_S4 main_c_5
  let main_v14 : IVec S4 1 := cmpi .sge main_arg3 main_v13
  let main_c_6 : IVec S_ 32 := constantI S_ 32 4096#32
  let main_v15 : IVec S4 32 := broadcastInDim S4 ![] bcast_S_S4 main_c_6
  fn_part1 (F := F) main_arg3 main_arg4 main_v12 main_v14 main_v15
-- ==== Kernel.lean ====
abbrev S4096 : Shape := ⟨1, ![4096]⟩
abbrev S12x4096x4 : Shape := ⟨3, ![12, 4096, 4]⟩
abbrev S12x4096 : Shape := ⟨2, ![12, 4096]⟩
abbrev S4 : Shape := ⟨1, ![4]⟩
abbrev S_ : Shape := ⟨0, ![]⟩
abbrev S12x16384 : Shape := ⟨2, ![12, 16384]⟩
abbrev S1 : Shape := ⟨1, ![1]⟩
abbrev S8 : Shape := ⟨1, ![8]⟩
abbrev S16 : Shape := ⟨1, ![16]⟩
abbrev S256 : Shape := ⟨1, ![256]⟩
abbrev S12288 : Shape := ⟨1, ![12288]⟩
abbrev S3072 : Shape := ⟨1, ![3072]⟩
abbrev S12x256 : Shape := ⟨2, ![12, 256]⟩
abbrev S2x4096 : Shape := ⟨2, ![2, 4096]⟩
abbrev S1024 : Shape := ⟨1, ![1024]⟩
abbrev S1x1024 : Shape := ⟨2, ![1, 1024]⟩
abbrev S1x256 : Shape := ⟨2, ![1, 256]⟩
abbrev S1x16 : Shape := ⟨2, ![1, 16]⟩
abbrev S1x4096 : Shape := ⟨2, ![1, 4096]⟩
abbrev S49152 : Shape := ⟨1, ![49152]⟩

abbrev nBuf : Table → Nat
  | .hbm => 16
  | .shared => 1
  | .local .scVector .vmem => 7
  | _ => 0

abbrev bufTy : (tb : Table) → Fin (nBuf tb) → BufTy
  | .hbm, ⟨0, _⟩ => ⟨S4096, .i1⟩
  | .hbm, ⟨1, _⟩ => ⟨S12x4096x4, .i32⟩
  | .hbm, ⟨2, _⟩ => ⟨S12x4096, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4096, .i32⟩
  | .hbm, ⟨7, _⟩ => ⟨S12x16384, .i32⟩
  | .hbm, ⟨8, _⟩ => ⟨S1, .i32⟩
  | .hbm, ⟨9, _⟩ => ⟨S8, .i32⟩
  | .hbm, ⟨10, _⟩ => ⟨S16, .i32⟩
  | .hbm, ⟨11, _⟩ => ⟨S12x4096, .i32⟩
  | .hbm, ⟨12, _⟩ => ⟨S16, .i32⟩
  | .hbm, ⟨13, _⟩ => ⟨S1, .i32⟩
  | .hbm, ⟨14, _⟩ => ⟨S_, .i32⟩
  | .hbm, ⟨15, _⟩ => ⟨S49152, .i32⟩
  | .shared, ⟨0, _⟩ => ⟨S2x4096, .i32⟩
  | .local .scVector .vmem, ⟨0, _⟩ => ⟨S4096, .i32⟩
  | .local .scVector .vmem, ⟨1, _⟩ => ⟨S256, .i32⟩
  | .local .scVector .vmem, ⟨2, _⟩ => ⟨S12288, .i32⟩
  | .local .scVector .vmem, ⟨3, _⟩ => ⟨S3072, .i32⟩
  | .local .scVector .vmem, ⟨4, _⟩ => ⟨S12x256, .i32⟩
  | .local .scVector .vmem, ⟨5, _⟩ => ⟨S16, .i32⟩
  | .local .scVector .vmem, ⟨6, _⟩ => ⟨S16, .i32⟩
  | _, _ => ⟨S4096, .i1⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 31 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | _ => false

abbrev sig : RefSig :=
  ofTables nBuf rfl bufTy 5 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v0_scv : Ref sig .scVector := ⟨.hbm, 6, rfl⟩
abbrev main_v1_scv : Ref sig .scVector := ⟨.hbm, 7, rfl⟩
abbrev main_arg2_scv : Ref sig .scVector := ⟨.hbm, 2, rfl⟩
abbrev main_v4_scv : Ref sig .scVector := ⟨.hbm, 10, rfl⟩
abbrev main_v5_0_scv : Ref sig .scVector := ⟨.hbm, 11, rfl⟩
abbrev main_v5_1_scv : Ref sig .scVector := ⟨.hbm, 12, rfl⟩
abbrev cc0_scratch7 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let c0_i32 : BitVec 32 := 0#32
  let arg1 : BitVec 32 := BitVec.ofNat 32 (i 1).val
  let c256_i32 : BitVec 32 := 256#32
  let v0 : BitVec 32 := Scalar.muli arg1 c256_i32
  let c4_i32 : BitVec 32 := 4#32
  let v1 : BitVec 32 := Scalar.muli v0 c4_i32
  ![0, v1.toNat]
def k0_off2 (i : grid0.Coords) : Fin 2 → Nat :=
  let c0_i32_3 : BitVec 32 := 0#32
  let arg1 : BitVec 32 := BitVec.ofNat 32 (i 1).val
  let c256_i32_2 : BitVec 32 := 256#32
  let v8 : BitVec 32 := Scalar.muli arg1 c256_i32_2
  ![0, v8.toNat]
def k0_off3 (i : grid0.Coords) : Fin 2 → Nat :=
  let c1_i32 : BitVec 32 := 1#32
  let arg1 : BitVec 32 := BitVec.ofNat 32 (i 1).val
  let c256_i32_6 : BitVec 32 := 256#32
  let v15 : BitVec 32 := Scalar.muli arg1 c256_i32_6
  let c4_i32_7 : BitVec 32 := 4#32
  let v16 : BitVec 32 := Scalar.muli v15 c4_i32_7
  ![1, v16.toNat]
def k0_off4 (i : grid0.Coords) : Fin 2 → Nat :=
  let c1_i32_10 : BitVec 32 := 1#32
  let arg1 : BitVec 32 := BitVec.ofNat 32 (i 1).val
  let c256_i32_9 : BitVec 32 := 256#32
  let v23 : BitVec 32 := Scalar.muli arg1 c256_i32_9
  ![1, v23.toNat]
def k0_off5 (i : grid0.Coords) : Fin 2 → Nat :=
  let c2_i32 : BitVec 32 := 2#32
  let arg1 : BitVec 32 := BitVec.ofNat 32 (i 1).val
  let c256_i32_13 : BitVec 32 := 256#32
  let v30 : BitVec 32 := Scalar.muli arg1 c256_i32_13
  let c4_i32_14 : BitVec 32 := 4#32
  let v31 : BitVec 32 := Scalar.muli v30 c4_i32_14
  ![2, v31.toNat]
def k0_off6 (i : grid0.Coords) : Fin 2 → Nat :=
  let c2_i32_17 : BitVec 32 := 2#32
  let arg1 : BitVec 32 := BitVec.ofNat 32 (i 1).val
  let c256_i32_16 : BitVec 32 := 256#32
  let v38 : BitVec 32 := Scalar.muli arg1 c256_i32_16
  ![2, v38.toNat]
def k0_off7 (i : grid0.Coords) : Fin 2 → Nat :=
  let c3_i32 : BitVec 32 := 3#32
  let arg1 : BitVec 32 := BitVec.ofNat 32 (i 1).val
  let c256_i32_19 : BitVec 32 := 256#32
  let v45 : BitVec 32 := Scalar.muli arg1 c256_i32_19
  let c4_i32_20 : BitVec 32 := 4#32
  let v46 : BitVec 32 := Scalar.muli v45 c4_i32_20
  ![3, v46.toNat]
def k0_off8 (i : grid0.Coords) : Fin 2 → Nat :=
  let c3_i32_23 : BitVec 32 := 3#32
  let arg1 : BitVec 32 := BitVec.ofNat 32 (i 1).val
  let c256_i32_22 : BitVec 32 := 256#32
  let v53 : BitVec 32 := Scalar.muli arg1 c256_i32_22
  ![3, v53.toNat]
def k0_off9 (i : grid0.Coords) : Fin 2 → Nat :=
  let c4_i32_27 : BitVec 32 := 4#32
  let arg1 : BitVec 32 := BitVec.ofNat 32 (i 1).val
  let c256_i32_25 : BitVec 32 := 256#32
  let v60 : BitVec 32 := Scalar.muli arg1 c256_i32_25
  let c4_i32_26 : BitVec 32 := 4#32
  let v61 : BitVec 32 := Scalar.muli v60 c4_i32_26
  ![4, v61.toNat]
def k0_off10 (i : grid0.Coords) : Fin 2 → Nat :=
  let c4_i32_30 : BitVec 32 := 4#32
  let arg1 : BitVec 32 := BitVec.ofNat 32 (i 1).val
  let c256_i32_29 : BitVec 32 := 256#32
  let v68 : BitVec 32 := Scalar.muli arg1 c256_i32_29
  ![4, v68.toNat]
def k0_off11 (i : grid0.Coords) : Fin 2 → Nat :=
  let c5_i32 : BitVec 32 := 5#32
  let arg1 : BitVec 32 := BitVec.ofNat 32 (i 1).val
  let c256_i32_33 : BitVec 32 := 256#32
  let v75 : BitVec 32 := Scalar.muli arg1 c256_i32_33
  let c4_i32_34 : BitVec 32 := 4#32
  let v76 : BitVec 32 := Scalar.muli v75 c4_i32_34
  ![5, v76.toNat]
def k0_off12 (i : grid0.Coords) : Fin 2 → Nat :=
  let c5_i32_37 : BitVec 32 := 5#32
  let arg1 : BitVec 32 := BitVec.ofNat 32 (i 1).val
  let c256_i32_36 : BitVec 32 := 256#32
  let v83 : BitVec 32 := Scalar.muli arg1 c256_i32_36
  ![5, v83.toNat]
def k0_off13 (i : grid0.Coords) : Fin 2 → Nat :=
  let c6_i32 : BitVec 32 := 6#32
  let arg1 : BitVec 32 := BitVec.ofNat 32 (i 1).val
  let c256_i32_39 : BitVec 32 := 256#32
  let v90 : BitVec 32 := Scalar.muli arg1 c256_i32_39
  let c4_i32_40 : BitVec 32 := 4#32
  let v91 : BitVec 32 := Scalar.muli v90 c4_i32_40
  ![6, v91.toNat]
def k0_off14 (i : grid0.Coords) : Fin 2 → Nat :=
  let c6_i32_43 : BitVec 32 := 6#32
  let arg1 : BitVec 32 := BitVec.ofNat 32 (i 1).val
  let c256_i32_42 : BitVec 32 := 256#32
  let v98 : BitVec 32 := Scalar.muli arg1 c256_i32_42
  ![6, v98.toNat]
def k0_off15 (i : grid0.Coords) : Fin 2 → Nat :=
  let c7_i32 : BitVec 32 := 7#32
  let arg1 : BitVec 32 := BitVec.ofNat 32 (i 1).val
  let c256_i32_45 : BitVec 32 := 256#32
  let v105 : BitVec 32 := Scalar.muli arg1 c256_i32_45
  let c4_i32_46 : BitVec 32 := 4#32
  let v106 : BitVec 32 := Scalar.muli v105 c4_i32_46
  ![7, v106.toNat]
def k0_off16 (i : grid0.Coords) : Fin 2 → Nat :=
  let c7_i32_49 : BitVec 32 := 7#32
  let arg1 : BitVec 32 := BitVec.ofNat 32 (i 1).val
  let c256_i32_48 : BitVec 32 := 256#32
  let v113 : BitVec 32 := Scalar.muli arg1 c256_i32_48
  ![7, v113.toNat]
def k0_off17 (i : grid0.Coords) : Fin 2 → Nat :=
  let c8_i32 : BitVec 32 := 8#32
  let arg1 : BitVec 32 := BitVec.ofNat 32 (i 1).val
  let c256_i32_51 : BitVec 32 := 256#32
  let v120 : BitVec 32 := Scalar.muli arg1 c256_i32_51
  let c4_i32_52 : BitVec 32 := 4#32
  let v121 : BitVec 32 := Scalar.muli v120 c4_i32_52
  ![8, v121.toNat]
def k0_off18 (i : grid0.Coords) : Fin 2 → Nat :=
  let c8_i32_55 : BitVec 32 := 8#32
  let arg1 : BitVec 32 := BitVec.ofNat 32 (i 1).val
  let c256_i32_54 : BitVec 32 := 256#32
  let v128 : BitVec 32 := Scalar.muli arg1 c256_i32_54
  ![8, v128.toNat]
def k0_off19 (i : grid0.Coords) : Fin 2 → Nat :=
  let c9_i32 : BitVec 32 := 9#32
  let arg1 : BitVec 32 := BitVec.ofNat 32 (i 1).val
  let c256_i32_58 : BitVec 32 := 256#32
  let v135 : BitVec 32 := Scalar.muli arg1 c256_i32_58
  let c4_i32_59 : BitVec 32 := 4#32
  let v136 : BitVec 32 := Scalar.muli v135 c4_i32_59
  ![9, v136.toNat]
def k0_off20 (i : grid0.Coords) : Fin 2 → Nat :=
  let c9_i32_62 : BitVec 32 := 9#32
  let arg1 : BitVec 32 := BitVec.ofNat 32 (i 1).val
  let c256_i32_61 : BitVec 32 := 256#32
  let v143 : BitVec 32 := Scalar.muli arg1 c256_i32_61
  ![9, v143.toNat]
def k0_off21 (i : grid0.Coords) : Fin 2 → Nat :=
  let c10_i32 : BitVec 32 := 10#32
  let arg1 : BitVec 32 := BitVec.ofNat 32 (i 1).val
  let c256_i32_64 : BitVec 32 := 256#32
  let v150 : BitVec 32 := Scalar.muli arg1 c256_i32_64
  let c4_i32_65 : BitVec 32 := 4#32
  let v151 : BitVec 32 := Scalar.muli v150 c4_i32_65
  ![10, v151.toNat]
def k0_off22 (i : grid0.Coords) : Fin 2 → Nat :=
  let c10_i32_68 : BitVec 32 := 10#32
  let arg1 : BitVec 32 := BitVec.ofNat 32 (i 1).val
  let c256_i32_67 : BitVec 32 := 256#32
  let v158 : BitVec 32 := Scalar.muli arg1 c256_i32_67
  ![10, v158.toNat]
def k0_off23 (i : grid0.Coords) : Fin 2 → Nat :=
  let c11_i32 : BitVec 32 := 11#32
  let arg1 : BitVec 32 := BitVec.ofNat 32 (i 1).val
  let c256_i32_70 : BitVec 32 := 256#32
  let v165 : BitVec 32 := Scalar.muli arg1 c256_i32_70
  let c4_i32_71 : BitVec 32 := 4#32
  let v166 : BitVec 32 := Scalar.muli v165 c4_i32_71
  ![11, v166.toNat]
def k0_off24 (i : grid0.Coords) : Fin 2 → Nat :=
  let c11_i32_74 : BitVec 32 := 11#32
  let arg1 : BitVec 32 := BitVec.ofNat 32 (i 1).val
  let c256_i32_73 : BitVec 32 := 256#32
  let v173 : BitVec 32 := Scalar.muli arg1 c256_i32_73
  ![11, v173.toNat]

def k0_chk1 (v328 : IVec S16 32) : Prop :=
  (∀ a x, ((![v328] : Fin 1 → IVec S16 32) a x).toNat < S12288.size a)
theorem k0_idx1_inb : ∀ (v328 : IVec S16 32) (k0_hw1 : k0_chk1 v328), ∀ a x, ((![v328] : Fin 1 → IVec S16 32) a x).toNat < S12288.size a := fun v328 k0_hw1 => k0_hw1

def k0_chk2 (v329 : IVec S16 32) : Prop :=
  (∀ a x, ((![v329] : Fin 1 → IVec S16 32) a x).toNat < S4096.size a)
theorem k0_idx2_inb : ∀ (v329 : IVec S16 32) (k0_hw2 : k0_chk2 v329), ∀ a x, ((![v329] : Fin 1 → IVec S16 32) a x).toNat < S4096.size a := fun v329 k0_hw2 => k0_hw2

def k0_chk3 (v332 : IVec S16 32) : Prop :=
  (∀ a x, ((![v332] : Fin 1 → IVec S16 32) a x).toNat < S12288.size a)
theorem k0_idx3_inb : ∀ (v332 : IVec S16 32) (k0_hw3 : k0_chk3 v332), ∀ a x, ((![v332] : Fin 1 → IVec S16 32) a x).toNat < S12288.size a := fun v332 k0_hw3 => k0_hw3

def k0_chk4 (v333 : IVec S16 32) : Prop :=
  (∀ a x, ((![v333] : Fin 1 → IVec S16 32) a x).toNat < S4096.size a)
theorem k0_idx4_inb : ∀ (v333 : IVec S16 32) (k0_hw4 : k0_chk4 v333), ∀ a x, ((![v333] : Fin 1 → IVec S16 32) a x).toNat < S4096.size a := fun v333 k0_hw4 => k0_hw4

def k0_chk5 (v337 : IVec S16 32) : Prop :=
  (∀ a x, ((![v337] : Fin 1 → IVec S16 32) a x).toNat < S12288.size a)
theorem k0_idx5_inb : ∀ (v337 : IVec S16 32) (k0_hw5 : k0_chk5 v337), ∀ a x, ((![v337] : Fin 1 → IVec S16 32) a x).toNat < S12288.size a := fun v337 k0_hw5 => k0_hw5

def k0_chk6 (v338 : IVec S16 32) : Prop :=
  (∀ a x, ((![v338] : Fin 1 → IVec S16 32) a x).toNat < S4096.size a)
theorem k0_idx6_inb : ∀ (v338 : IVec S16 32) (k0_hw6 : k0_chk6 v338), ∀ a x, ((![v338] : Fin 1 → IVec S16 32) a x).toNat < S4096.size a := fun v338 k0_hw6 => k0_hw6

def k0_chk7 (v342 : IVec S16 32) : Prop :=
  (∀ a x, ((![v342] : Fin 1 → IVec S16 32) a x).toNat < S12288.size a)
theorem k0_idx7_inb : ∀ (v342 : IVec S16 32) (k0_hw7 : k0_chk7 v342), ∀ a x, ((![v342] : Fin 1 → IVec S16 32) a x).toNat < S12288.size a := fun v342 k0_hw7 => k0_hw7

def k0_chk8 (v343 : IVec S16 32) : Prop :=
  (∀ a x, ((![v343] : Fin 1 → IVec S16 32) a x).toNat < S4096.size a)
theorem k0_idx8_inb : ∀ (v343 : IVec S16 32) (k0_hw8 : k0_chk8 v343), ∀ a x, ((![v343] : Fin 1 → IVec S16 32) a x).toNat < S4096.size a := fun v343 k0_hw8 => k0_hw8

def k0_chk9 (v346 : IVec S16 32) : Prop :=
  (∀ a x, ((![v346] : Fin 1 → IVec S16 32) a x).toNat < S16.size a)
theorem k0_idx9_inb : ∀ (v346 : IVec S16 32) (k0_hw9 : k0_chk9 v346), ∀ a x, ((![v346] : Fin 1 → IVec S16 32) a x).toNat < S16.size a := fun v346 k0_hw9 => k0_hw9

def k0_chk10 (v355 : IVec S16 32) : Prop :=
  (∀ a x, ((![v355] : Fin 1 → IVec S16 32) a x).toNat < S12288.size a)
theorem k0_idx10_inb : ∀ (v355 : IVec S16 32) (k0_hw10 : k0_chk10 v355), ∀ a x, ((![v355] : Fin 1 → IVec S16 32) a x).toNat < S12288.size a := fun v355 k0_hw10 => k0_hw10

def k0_chk11 (v356 : IVec S16 32) : Prop :=
  (∀ a x, ((![v356] : Fin 1 → IVec S16 32) a x).toNat < S4096.size a)
theorem k0_idx11_inb : ∀ (v356 : IVec S16 32) (k0_hw11 : k0_chk11 v356), ∀ a x, ((![v356] : Fin 1 → IVec S16 32) a x).toNat < S4096.size a := fun v356 k0_hw11 => k0_hw11

def k0_chk12 (v359 : IVec S16 32) : Prop :=
  (∀ a x, ((![v359] : Fin 1 → IVec S16 32) a x).toNat < S12288.size a)
theorem k0_idx12_inb : ∀ (v359 : IVec S16 32) (k0_hw12 : k0_chk12 v359), ∀ a x, ((![v359] : Fin 1 → IVec S16 32) a x).toNat < S12288.size a := fun v359 k0_hw12 => k0_hw12

def k0_chk13 (v360 : IVec S16 32) : Prop :=
  (∀ a x, ((![v360] : Fin 1 → IVec S16 32) a x).toNat < S4096.size a)
theorem k0_idx13_inb : ∀ (v360 : IVec S16 32) (k0_hw13 : k0_chk13 v360), ∀ a x, ((![v360] : Fin 1 → IVec S16 32) a x).toNat < S4096.size a := fun v360 k0_hw13 => k0_hw13

def k0_chk14 (v364 : IVec S16 32) : Prop :=
  (∀ a x, ((![v364] : Fin 1 → IVec S16 32) a x).toNat < S12288.size a)
theorem k0_idx14_inb : ∀ (v364 : IVec S16 32) (k0_hw14 : k0_chk14 v364), ∀ a x, ((![v364] : Fin 1 → IVec S16 32) a x).toNat < S12288.size a := fun v364 k0_hw14 => k0_hw14

def k0_chk15 (v365 : IVec S16 32) : Prop :=
  (∀ a x, ((![v365] : Fin 1 → IVec S16 32) a x).toNat < S4096.size a)
theorem k0_idx15_inb : ∀ (v365 : IVec S16 32) (k0_hw15 : k0_chk15 v365), ∀ a x, ((![v365] : Fin 1 → IVec S16 32) a x).toNat < S4096.size a := fun v365 k0_hw15 => k0_hw15

def k0_chk16 (v369 : IVec S16 32) : Prop :=
  (∀ a x, ((![v369] : Fin 1 → IVec S16 32) a x).toNat < S12288.size a)
theorem k0_idx16_inb : ∀ (v369 : IVec S16 32) (k0_hw16 : k0_chk16 v369), ∀ a x, ((![v369] : Fin 1 → IVec S16 32) a x).toNat < S12288.size a := fun v369 k0_hw16 => k0_hw16

def k0_chk17 (v370 : IVec S16 32) : Prop :=
  (∀ a x, ((![v370] : Fin 1 → IVec S16 32) a x).toNat < S4096.size a)
theorem k0_idx17_inb : ∀ (v370 : IVec S16 32) (k0_hw17 : k0_chk17 v370), ∀ a x, ((![v370] : Fin 1 → IVec S16 32) a x).toNat < S4096.size a := fun v370 k0_hw17 => k0_hw17

def k0_chk18 (v373 : IVec S16 32) : Prop :=
  (∀ a x, ((![v373] : Fin 1 → IVec S16 32) a x).toNat < S16.size a)
theorem k0_idx18_inb : ∀ (v373 : IVec S16 32) (k0_hw18 : k0_chk18 v373), ∀ a x, ((![v373] : Fin 1 → IVec S16 32) a x).toNat < S16.size a := fun v373 k0_hw18 => k0_hw18

def k0_chk19 (v382 : IVec S16 32) : Prop :=
  (∀ a x, ((![v382] : Fin 1 → IVec S16 32) a x).toNat < S12288.size a)
theorem k0_idx19_inb : ∀ (v382 : IVec S16 32) (k0_hw19 : k0_chk19 v382), ∀ a x, ((![v382] : Fin 1 → IVec S16 32) a x).toNat < S12288.size a := fun v382 k0_hw19 => k0_hw19

def k0_chk20 (v383 : IVec S16 32) : Prop :=
  (∀ a x, ((![v383] : Fin 1 → IVec S16 32) a x).toNat < S4096.size a)
theorem k0_idx20_inb : ∀ (v383 : IVec S16 32) (k0_hw20 : k0_chk20 v383), ∀ a x, ((![v383] : Fin 1 → IVec S16 32) a x).toNat < S4096.size a := fun v383 k0_hw20 => k0_hw20

def k0_chk21 (v386 : IVec S16 32) : Prop :=
  (∀ a x, ((![v386] : Fin 1 → IVec S16 32) a x).toNat < S12288.size a)
theorem k0_idx21_inb : ∀ (v386 : IVec S16 32) (k0_hw21 : k0_chk21 v386), ∀ a x, ((![v386] : Fin 1 → IVec S16 32) a x).toNat < S12288.size a := fun v386 k0_hw21 => k0_hw21

def k0_chk22 (v387 : IVec S16 32) : Prop :=
  (∀ a x, ((![v387] : Fin 1 → IVec S16 32) a x).toNat < S4096.size a)
theorem k0_idx22_inb : ∀ (v387 : IVec S16 32) (k0_hw22 : k0_chk22 v387), ∀ a x, ((![v387] : Fin 1 → IVec S16 32) a x).toNat < S4096.size a := fun v387 k0_hw22 => k0_hw22

def k0_chk23 (v391 : IVec S16 32) : Prop :=
  (∀ a x, ((![v391] : Fin 1 → IVec S16 32) a x).toNat < S12288.size a)
theorem k0_idx23_inb : ∀ (v391 : IVec S16 32) (k0_hw23 : k0_chk23 v391), ∀ a x, ((![v391] : Fin 1 → IVec S16 32) a x).toNat < S12288.size a := fun v391 k0_hw23 => k0_hw23

def k0_chk24 (v392 : IVec S16 32) : Prop :=
  (∀ a x, ((![v392] : Fin 1 → IVec S16 32) a x).toNat < S4096.size a)
theorem k0_idx24_inb : ∀ (v392 : IVec S16 32) (k0_hw24 : k0_chk24 v392), ∀ a x, ((![v392] : Fin 1 → IVec S16 32) a x).toNat < S4096.size a := fun v392 k0_hw24 => k0_hw24

def k0_chk25 (v396 : IVec S16 32) : Prop :=
  (∀ a x, ((![v396] : Fin 1 → IVec S16 32) a x).toNat < S12288.size a)
theorem k0_idx25_inb : ∀ (v396 : IVec S16 32) (k0_hw25 : k0_chk25 v396), ∀ a x, ((![v396] : Fin 1 → IVec S16 32) a x).toNat < S12288.size a := fun v396 k0_hw25 => k0_hw25

def k0_chk26 (v397 : IVec S16 32) : Prop :=
  (∀ a x, ((![v397] : Fin 1 → IVec S16 32) a x).toNat < S4096.size a)
theorem k0_idx26_inb : ∀ (v397 : IVec S16 32) (k0_hw26 : k0_chk26 v397), ∀ a x, ((![v397] : Fin 1 → IVec S16 32) a x).toNat < S4096.size a := fun v397 k0_hw26 => k0_hw26

def k0_chk27 (v400 : IVec S16 32) : Prop :=
  (∀ a x, ((![v400] : Fin 1 → IVec S16 32) a x).toNat < S16.size a)
theorem k0_idx27_inb : ∀ (v400 : IVec S16 32) (k0_hw27 : k0_chk27 v400), ∀ a x, ((![v400] : Fin 1 → IVec S16 32) a x).toNat < S16.size a := fun v400 k0_hw27 => k0_hw27

def k0_chk28 (v409 : IVec S16 32) : Prop :=
  (∀ a x, ((![v409] : Fin 1 → IVec S16 32) a x).toNat < S12288.size a)
theorem k0_idx28_inb : ∀ (v409 : IVec S16 32) (k0_hw28 : k0_chk28 v409), ∀ a x, ((![v409] : Fin 1 → IVec S16 32) a x).toNat < S12288.size a := fun v409 k0_hw28 => k0_hw28

def k0_chk29 (v410 : IVec S16 32) : Prop :=
  (∀ a x, ((![v410] : Fin 1 → IVec S16 32) a x).toNat < S4096.size a)
theorem k0_idx29_inb : ∀ (v410 : IVec S16 32) (k0_hw29 : k0_chk29 v410), ∀ a x, ((![v410] : Fin 1 → IVec S16 32) a x).toNat < S4096.size a := fun v410 k0_hw29 => k0_hw29

def k0_chk30 (v413 : IVec S16 32) : Prop :=
  (∀ a x, ((![v413] : Fin 1 → IVec S16 32) a x).toNat < S12288.size a)
theorem k0_idx30_inb : ∀ (v413 : IVec S16 32) (k0_hw30 : k0_chk30 v413), ∀ a x, ((![v413] : Fin 1 → IVec S16 32) a x).toNat < S12288.size a := fun v413 k0_hw30 => k0_hw30

def k0_chk31 (v414 : IVec S16 32) : Prop :=
  (∀ a x, ((![v414] : Fin 1 → IVec S16 32) a x).toNat < S4096.size a)
theorem k0_idx31_inb : ∀ (v414 : IVec S16 32) (k0_hw31 : k0_chk31 v414), ∀ a x, ((![v414] : Fin 1 → IVec S16 32) a x).toNat < S4096.size a := fun v414 k0_hw31 => k0_hw31

def k0_chk32 (v418 : IVec S16 32) : Prop :=
  (∀ a x, ((![v418] : Fin 1 → IVec S16 32) a x).toNat < S12288.size a)
theorem k0_idx32_inb : ∀ (v418 : IVec S16 32) (k0_hw32 : k0_chk32 v418), ∀ a x, ((![v418] : Fin 1 → IVec S16 32) a x).toNat < S12288.size a := fun v418 k0_hw32 => k0_hw32

def k0_chk33 (v419 : IVec S16 32) : Prop :=
  (∀ a x, ((![v419] : Fin 1 → IVec S16 32) a x).toNat < S4096.size a)
theorem k0_idx33_inb : ∀ (v419 : IVec S16 32) (k0_hw33 : k0_chk33 v419), ∀ a x, ((![v419] : Fin 1 → IVec S16 32) a x).toNat < S4096.size a := fun v419 k0_hw33 => k0_hw33

def k0_chk34 (v423 : IVec S16 32) : Prop :=
  (∀ a x, ((![v423] : Fin 1 → IVec S16 32) a x).toNat < S12288.size a)
theorem k0_idx34_inb : ∀ (v423 : IVec S16 32) (k0_hw34 : k0_chk34 v423), ∀ a x, ((![v423] : Fin 1 → IVec S16 32) a x).toNat < S12288.size a := fun v423 k0_hw34 => k0_hw34

def k0_chk35 (v424 : IVec S16 32) : Prop :=
  (∀ a x, ((![v424] : Fin 1 → IVec S16 32) a x).toNat < S4096.size a)
theorem k0_idx35_inb : ∀ (v424 : IVec S16 32) (k0_hw35 : k0_chk35 v424), ∀ a x, ((![v424] : Fin 1 → IVec S16 32) a x).toNat < S4096.size a := fun v424 k0_hw35 => k0_hw35

def k0_chk36 (v427 : IVec S16 32) : Prop :=
  (∀ a x, ((![v427] : Fin 1 → IVec S16 32) a x).toNat < S16.size a)
theorem k0_idx36_inb : ∀ (v427 : IVec S16 32) (k0_hw36 : k0_chk36 v427), ∀ a x, ((![v427] : Fin 1 → IVec S16 32) a x).toNat < S16.size a := fun v427 k0_hw36 => k0_hw36

def k0_chk37 (v436 : IVec S16 32) : Prop :=
  (∀ a x, ((![v436] : Fin 1 → IVec S16 32) a x).toNat < S12288.size a)
theorem k0_idx37_inb : ∀ (v436 : IVec S16 32) (k0_hw37 : k0_chk37 v436), ∀ a x, ((![v436] : Fin 1 → IVec S16 32) a x).toNat < S12288.size a := fun v436 k0_hw37 => k0_hw37

def k0_chk38 (v437 : IVec S16 32) : Prop :=
  (∀ a x, ((![v437] : Fin 1 → IVec S16 32) a x).toNat < S4096.size a)
theorem k0_idx38_inb : ∀ (v437 : IVec S16 32) (k0_hw38 : k0_chk38 v437), ∀ a x, ((![v437] : Fin 1 → IVec S16 32) a x).toNat < S4096.size a := fun v437 k0_hw38 => k0_hw38

def k0_chk39 (v440 : IVec S16 32) : Prop :=
  (∀ a x, ((![v440] : Fin 1 → IVec S16 32) a x).toNat < S12288.size a)
theorem k0_idx39_inb : ∀ (v440 : IVec S16 32) (k0_hw39 : k0_chk39 v440), ∀ a x, ((![v440] : Fin 1 → IVec S16 32) a x).toNat < S12288.size a := fun v440 k0_hw39 => k0_hw39

def k0_chk40 (v441 : IVec S16 32) : Prop :=
  (∀ a x, ((![v441] : Fin 1 → IVec S16 32) a x).toNat < S4096.size a)
theorem k0_idx40_inb : ∀ (v441 : IVec S16 32) (k0_hw40 : k0_chk40 v441), ∀ a x, ((![v441] : Fin 1 → IVec S16 32) a x).toNat < S4096.size a := fun v441 k0_hw40 => k0_hw40

def k0_chk41 (v445 : IVec S16 32) : Prop :=
  (∀ a x, ((![v445] : Fin 1 → IVec S16 32) a x).toNat < S12288.size a)
theorem k0_idx41_inb : ∀ (v445 : IVec S16 32) (k0_hw41 : k0_chk41 v445), ∀ a x, ((![v445] : Fin 1 → IVec S16 32) a x).toNat < S12288.size a := fun v445 k0_hw41 => k0_hw41

def k0_chk42 (v446 : IVec S16 32) : Prop :=
  (∀ a x, ((![v446] : Fin 1 → IVec S16 32) a x).toNat < S4096.size a)
theorem k0_idx42_inb : ∀ (v446 : IVec S16 32) (k0_hw42 : k0_chk42 v446), ∀ a x, ((![v446] : Fin 1 → IVec S16 32) a x).toNat < S4096.size a := fun v446 k0_hw42 => k0_hw42

def k0_chk43 (v450 : IVec S16 32) : Prop :=
  (∀ a x, ((![v450] : Fin 1 → IVec S16 32) a x).toNat < S12288.size a)
theorem k0_idx43_inb : ∀ (v450 : IVec S16 32) (k0_hw43 : k0_chk43 v450), ∀ a x, ((![v450] : Fin 1 → IVec S16 32) a x).toNat < S12288.size a := fun v450 k0_hw43 => k0_hw43

def k0_chk44 (v451 : IVec S16 32) : Prop :=
  (∀ a x, ((![v451] : Fin 1 → IVec S16 32) a x).toNat < S4096.size a)
theorem k0_idx44_inb : ∀ (v451 : IVec S16 32) (k0_hw44 : k0_chk44 v451), ∀ a x, ((![v451] : Fin 1 → IVec S16 32) a x).toNat < S4096.size a := fun v451 k0_hw44 => k0_hw44

def k0_chk45 (v454 : IVec S16 32) : Prop :=
  (∀ a x, ((![v454] : Fin 1 → IVec S16 32) a x).toNat < S16.size a)
theorem k0_idx45_inb : ∀ (v454 : IVec S16 32) (k0_hw45 : k0_chk45 v454), ∀ a x, ((![v454] : Fin 1 → IVec S16 32) a x).toNat < S16.size a := fun v454 k0_hw45 => k0_hw45

def k0_chk46 (v463 : IVec S16 32) : Prop :=
  (∀ a x, ((![v463] : Fin 1 → IVec S16 32) a x).toNat < S12288.size a)
theorem k0_idx46_inb : ∀ (v463 : IVec S16 32) (k0_hw46 : k0_chk46 v463), ∀ a x, ((![v463] : Fin 1 → IVec S16 32) a x).toNat < S12288.size a := fun v463 k0_hw46 => k0_hw46

def k0_chk47 (v464 : IVec S16 32) : Prop :=
  (∀ a x, ((![v464] : Fin 1 → IVec S16 32) a x).toNat < S4096.size a)
theorem k0_idx47_inb : ∀ (v464 : IVec S16 32) (k0_hw47 : k0_chk47 v464), ∀ a x, ((![v464] : Fin 1 → IVec S16 32) a x).toNat < S4096.size a := fun v464 k0_hw47 => k0_hw47

def k0_chk48 (v467 : IVec S16 32) : Prop :=
  (∀ a x, ((![v467] : Fin 1 → IVec S16 32) a x).toNat < S12288.size a)
theorem k0_idx48_inb : ∀ (v467 : IVec S16 32) (k0_hw48 : k0_chk48 v467), ∀ a x, ((![v467] : Fin 1 → IVec S16 32) a x).toNat < S12288.size a := fun v467 k0_hw48 => k0_hw48

def k0_chk49 (v468 : IVec S16 32) : Prop :=
  (∀ a x, ((![v468] : Fin 1 → IVec S16 32) a x).toNat < S4096.size a)
theorem k0_idx49_inb : ∀ (v468 : IVec S16 32) (k0_hw49 : k0_chk49 v468), ∀ a x, ((![v468] : Fin 1 → IVec S16 32) a x).toNat < S4096.size a := fun v468 k0_hw49 => k0_hw49

def k0_chk50 (v472 : IVec S16 32) : Prop :=
  (∀ a x, ((![v472] : Fin 1 → IVec S16 32) a x).toNat < S12288.size a)
theorem k0_idx50_inb : ∀ (v472 : IVec S16 32) (k0_hw50 : k0_chk50 v472), ∀ a x, ((![v472] : Fin 1 → IVec S16 32) a x).toNat < S12288.size a := fun v472 k0_hw50 => k0_hw50

def k0_chk51 (v473 : IVec S16 32) : Prop :=
  (∀ a x, ((![v473] : Fin 1 → IVec S16 32) a x).toNat < S4096.size a)
theorem k0_idx51_inb : ∀ (v473 : IVec S16 32) (k0_hw51 : k0_chk51 v473), ∀ a x, ((![v473] : Fin 1 → IVec S16 32) a x).toNat < S4096.size a := fun v473 k0_hw51 => k0_hw51

def k0_chk52 (v477 : IVec S16 32) : Prop :=
  (∀ a x, ((![v477] : Fin 1 → IVec S16 32) a x).toNat < S12288.size a)
theorem k0_idx52_inb : ∀ (v477 : IVec S16 32) (k0_hw52 : k0_chk52 v477), ∀ a x, ((![v477] : Fin 1 → IVec S16 32) a x).toNat < S12288.size a := fun v477 k0_hw52 => k0_hw52

def k0_chk53 (v478 : IVec S16 32) : Prop :=
  (∀ a x, ((![v478] : Fin 1 → IVec S16 32) a x).toNat < S4096.size a)
theorem k0_idx53_inb : ∀ (v478 : IVec S16 32) (k0_hw53 : k0_chk53 v478), ∀ a x, ((![v478] : Fin 1 → IVec S16 32) a x).toNat < S4096.size a := fun v478 k0_hw53 => k0_hw53

def k0_chk54 (v481 : IVec S16 32) : Prop :=
  (∀ a x, ((![v481] : Fin 1 → IVec S16 32) a x).toNat < S16.size a)
theorem k0_idx54_inb : ∀ (v481 : IVec S16 32) (k0_hw54 : k0_chk54 v481), ∀ a x, ((![v481] : Fin 1 → IVec S16 32) a x).toNat < S16.size a := fun v481 k0_hw54 => k0_hw54

def k0_chk55 (v490 : IVec S16 32) : Prop :=
  (∀ a x, ((![v490] : Fin 1 → IVec S16 32) a x).toNat < S12288.size a)
theorem k0_idx55_inb : ∀ (v490 : IVec S16 32) (k0_hw55 : k0_chk55 v490), ∀ a x, ((![v490] : Fin 1 → IVec S16 32) a x).toNat < S12288.size a := fun v490 k0_hw55 => k0_hw55

def k0_chk56 (v491 : IVec S16 32) : Prop :=
  (∀ a x, ((![v491] : Fin 1 → IVec S16 32) a x).toNat < S4096.size a)
theorem k0_idx56_inb : ∀ (v491 : IVec S16 32) (k0_hw56 : k0_chk56 v491), ∀ a x, ((![v491] : Fin 1 → IVec S16 32) a x).toNat < S4096.size a := fun v491 k0_hw56 => k0_hw56

def k0_chk57 (v494 : IVec S16 32) : Prop :=
  (∀ a x, ((![v494] : Fin 1 → IVec S16 32) a x).toNat < S12288.size a)
theorem k0_idx57_inb : ∀ (v494 : IVec S16 32) (k0_hw57 : k0_chk57 v494), ∀ a x, ((![v494] : Fin 1 → IVec S16 32) a x).toNat < S12288.size a := fun v494 k0_hw57 => k0_hw57

def k0_chk58 (v495 : IVec S16 32) : Prop :=
  (∀ a x, ((![v495] : Fin 1 → IVec S16 32) a x).toNat < S4096.size a)
theorem k0_idx58_inb : ∀ (v495 : IVec S16 32) (k0_hw58 : k0_chk58 v495), ∀ a x, ((![v495] : Fin 1 → IVec S16 32) a x).toNat < S4096.size a := fun v495 k0_hw58 => k0_hw58

def k0_chk59 (v499 : IVec S16 32) : Prop :=
  (∀ a x, ((![v499] : Fin 1 → IVec S16 32) a x).toNat < S12288.size a)
theorem k0_idx59_inb : ∀ (v499 : IVec S16 32) (k0_hw59 : k0_chk59 v499), ∀ a x, ((![v499] : Fin 1 → IVec S16 32) a x).toNat < S12288.size a := fun v499 k0_hw59 => k0_hw59

def k0_chk60 (v500 : IVec S16 32) : Prop :=
  (∀ a x, ((![v500] : Fin 1 → IVec S16 32) a x).toNat < S4096.size a)
theorem k0_idx60_inb : ∀ (v500 : IVec S16 32) (k0_hw60 : k0_chk60 v500), ∀ a x, ((![v500] : Fin 1 → IVec S16 32) a x).toNat < S4096.size a := fun v500 k0_hw60 => k0_hw60

def k0_chk61 (v504 : IVec S16 32) : Prop :=
  (∀ a x, ((![v504] : Fin 1 → IVec S16 32) a x).toNat < S12288.size a)
theorem k0_idx61_inb : ∀ (v504 : IVec S16 32) (k0_hw61 : k0_chk61 v504), ∀ a x, ((![v504] : Fin 1 → IVec S16 32) a x).toNat < S12288.size a := fun v504 k0_hw61 => k0_hw61

def k0_chk62 (v505 : IVec S16 32) : Prop :=
  (∀ a x, ((![v505] : Fin 1 → IVec S16 32) a x).toNat < S4096.size a)
theorem k0_idx62_inb : ∀ (v505 : IVec S16 32) (k0_hw62 : k0_chk62 v505), ∀ a x, ((![v505] : Fin 1 → IVec S16 32) a x).toNat < S4096.size a := fun v505 k0_hw62 => k0_hw62

def k0_chk63 (v508 : IVec S16 32) : Prop :=
  (∀ a x, ((![v508] : Fin 1 → IVec S16 32) a x).toNat < S16.size a)
theorem k0_idx63_inb : ∀ (v508 : IVec S16 32) (k0_hw63 : k0_chk63 v508), ∀ a x, ((![v508] : Fin 1 → IVec S16 32) a x).toNat < S16.size a := fun v508 k0_hw63 => k0_hw63

def k0_chk64 (v517 : IVec S16 32) : Prop :=
  (∀ a x, ((![v517] : Fin 1 → IVec S16 32) a x).toNat < S12288.size a)
theorem k0_idx64_inb : ∀ (v517 : IVec S16 32) (k0_hw64 : k0_chk64 v517), ∀ a x, ((![v517] : Fin 1 → IVec S16 32) a x).toNat < S12288.size a := fun v517 k0_hw64 => k0_hw64

def k0_chk65 (v518 : IVec S16 32) : Prop :=
  (∀ a x, ((![v518] : Fin 1 → IVec S16 32) a x).toNat < S4096.size a)
theorem k0_idx65_inb : ∀ (v518 : IVec S16 32) (k0_hw65 : k0_chk65 v518), ∀ a x, ((![v518] : Fin 1 → IVec S16 32) a x).toNat < S4096.size a := fun v518 k0_hw65 => k0_hw65

def k0_chk66 (v521 : IVec S16 32) : Prop :=
  (∀ a x, ((![v521] : Fin 1 → IVec S16 32) a x).toNat < S12288.size a)
theorem k0_idx66_inb : ∀ (v521 : IVec S16 32) (k0_hw66 : k0_chk66 v521), ∀ a x, ((![v521] : Fin 1 → IVec S16 32) a x).toNat < S12288.size a := fun v521 k0_hw66 => k0_hw66

def k0_chk67 (v522 : IVec S16 32) : Prop :=
  (∀ a x, ((![v522] : Fin 1 → IVec S16 32) a x).toNat < S4096.size a)
theorem k0_idx67_inb : ∀ (v522 : IVec S16 32) (k0_hw67 : k0_chk67 v522), ∀ a x, ((![v522] : Fin 1 → IVec S16 32) a x).toNat < S4096.size a := fun v522 k0_hw67 => k0_hw67

def k0_chk68 (v526 : IVec S16 32) : Prop :=
  (∀ a x, ((![v526] : Fin 1 → IVec S16 32) a x).toNat < S12288.size a)
theorem k0_idx68_inb : ∀ (v526 : IVec S16 32) (k0_hw68 : k0_chk68 v526), ∀ a x, ((![v526] : Fin 1 → IVec S16 32) a x).toNat < S12288.size a := fun v526 k0_hw68 => k0_hw68

def k0_chk69 (v527 : IVec S16 32) : Prop :=
  (∀ a x, ((![v527] : Fin 1 → IVec S16 32) a x).toNat < S4096.size a)
theorem k0_idx69_inb : ∀ (v527 : IVec S16 32) (k0_hw69 : k0_chk69 v527), ∀ a x, ((![v527] : Fin 1 → IVec S16 32) a x).toNat < S4096.size a := fun v527 k0_hw69 => k0_hw69

def k0_chk70 (v531 : IVec S16 32) : Prop :=
  (∀ a x, ((![v531] : Fin 1 → IVec S16 32) a x).toNat < S12288.size a)
theorem k0_idx70_inb : ∀ (v531 : IVec S16 32) (k0_hw70 : k0_chk70 v531), ∀ a x, ((![v531] : Fin 1 → IVec S16 32) a x).toNat < S12288.size a := fun v531 k0_hw70 => k0_hw70

def k0_chk71 (v532 : IVec S16 32) : Prop :=
  (∀ a x, ((![v532] : Fin 1 → IVec S16 32) a x).toNat < S4096.size a)
theorem k0_idx71_inb : ∀ (v532 : IVec S16 32) (k0_hw71 : k0_chk71 v532), ∀ a x, ((![v532] : Fin 1 → IVec S16 32) a x).toNat < S4096.size a := fun v532 k0_hw71 => k0_hw71

def k0_chk72 (v535 : IVec S16 32) : Prop :=
  (∀ a x, ((![v535] : Fin 1 → IVec S16 32) a x).toNat < S16.size a)
theorem k0_idx72_inb : ∀ (v535 : IVec S16 32) (k0_hw72 : k0_chk72 v535), ∀ a x, ((![v535] : Fin 1 → IVec S16 32) a x).toNat < S16.size a := fun v535 k0_hw72 => k0_hw72

def k0_chk73 (v544 : IVec S16 32) : Prop :=
  (∀ a x, ((![v544] : Fin 1 → IVec S16 32) a x).toNat < S12288.size a)
theorem k0_idx73_inb : ∀ (v544 : IVec S16 32) (k0_hw73 : k0_chk73 v544), ∀ a x, ((![v544] : Fin 1 → IVec S16 32) a x).toNat < S12288.size a := fun v544 k0_hw73 => k0_hw73

def k0_chk74 (v545 : IVec S16 32) : Prop :=
  (∀ a x, ((![v545] : Fin 1 → IVec S16 32) a x).toNat < S4096.size a)
theorem k0_idx74_inb : ∀ (v545 : IVec S16 32) (k0_hw74 : k0_chk74 v545), ∀ a x, ((![v545] : Fin 1 → IVec S16 32) a x).toNat < S4096.size a := fun v545 k0_hw74 => k0_hw74

def k0_chk75 (v548 : IVec S16 32) : Prop :=
  (∀ a x, ((![v548] : Fin 1 → IVec S16 32) a x).toNat < S12288.size a)
theorem k0_idx75_inb : ∀ (v548 : IVec S16 32) (k0_hw75 : k0_chk75 v548), ∀ a x, ((![v548] : Fin 1 → IVec S16 32) a x).toNat < S12288.size a := fun v548 k0_hw75 => k0_hw75

def k0_chk76 (v549 : IVec S16 32) : Prop :=
  (∀ a x, ((![v549] : Fin 1 → IVec S16 32) a x).toNat < S4096.size a)
theorem k0_idx76_inb : ∀ (v549 : IVec S16 32) (k0_hw76 : k0_chk76 v549), ∀ a x, ((![v549] : Fin 1 → IVec S16 32) a x).toNat < S4096.size a := fun v549 k0_hw76 => k0_hw76

def k0_chk77 (v553 : IVec S16 32) : Prop :=
  (∀ a x, ((![v553] : Fin 1 → IVec S16 32) a x).toNat < S12288.size a)
theorem k0_idx77_inb : ∀ (v553 : IVec S16 32) (k0_hw77 : k0_chk77 v553), ∀ a x, ((![v553] : Fin 1 → IVec S16 32) a x).toNat < S12288.size a := fun v553 k0_hw77 => k0_hw77

def k0_chk78 (v554 : IVec S16 32) : Prop :=
  (∀ a x, ((![v554] : Fin 1 → IVec S16 32) a x).toNat < S4096.size a)
theorem k0_idx78_inb : ∀ (v554 : IVec S16 32) (k0_hw78 : k0_chk78 v554), ∀ a x, ((![v554] : Fin 1 → IVec S16 32) a x).toNat < S4096.size a := fun v554 k0_hw78 => k0_hw78

def k0_chk79 (v558 : IVec S16 32) : Prop :=
  (∀ a x, ((![v558] : Fin 1 → IVec S16 32) a x).toNat < S12288.size a)
theorem k0_idx79_inb : ∀ (v558 : IVec S16 32) (k0_hw79 : k0_chk79 v558), ∀ a x, ((![v558] : Fin 1 → IVec S16 32) a x).toNat < S12288.size a := fun v558 k0_hw79 => k0_hw79

def k0_chk80 (v559 : IVec S16 32) : Prop :=
  (∀ a x, ((![v559] : Fin 1 → IVec S16 32) a x).toNat < S4096.size a)
theorem k0_idx80_inb : ∀ (v559 : IVec S16 32) (k0_hw80 : k0_chk80 v559), ∀ a x, ((![v559] : Fin 1 → IVec S16 32) a x).toNat < S4096.size a := fun v559 k0_hw80 => k0_hw80

def k0_chk81 (v562 : IVec S16 32) : Prop :=
  (∀ a x, ((![v562] : Fin 1 → IVec S16 32) a x).toNat < S16.size a)
theorem k0_idx81_inb : ∀ (v562 : IVec S16 32) (k0_hw81 : k0_chk81 v562), ∀ a x, ((![v562] : Fin 1 → IVec S16 32) a x).toNat < S16.size a := fun v562 k0_hw81 => k0_hw81

def k0_chk82 (v571 : IVec S16 32) : Prop :=
  (∀ a x, ((![v571] : Fin 1 → IVec S16 32) a x).toNat < S12288.size a)
theorem k0_idx82_inb : ∀ (v571 : IVec S16 32) (k0_hw82 : k0_chk82 v571), ∀ a x, ((![v571] : Fin 1 → IVec S16 32) a x).toNat < S12288.size a := fun v571 k0_hw82 => k0_hw82

def k0_chk83 (v572 : IVec S16 32) : Prop :=
  (∀ a x, ((![v572] : Fin 1 → IVec S16 32) a x).toNat < S4096.size a)
theorem k0_idx83_inb : ∀ (v572 : IVec S16 32) (k0_hw83 : k0_chk83 v572), ∀ a x, ((![v572] : Fin 1 → IVec S16 32) a x).toNat < S4096.size a := fun v572 k0_hw83 => k0_hw83

def k0_chk84 (v575 : IVec S16 32) : Prop :=
  (∀ a x, ((![v575] : Fin 1 → IVec S16 32) a x).toNat < S12288.size a)
theorem k0_idx84_inb : ∀ (v575 : IVec S16 32) (k0_hw84 : k0_chk84 v575), ∀ a x, ((![v575] : Fin 1 → IVec S16 32) a x).toNat < S12288.size a := fun v575 k0_hw84 => k0_hw84

def k0_chk85 (v576 : IVec S16 32) : Prop :=
  (∀ a x, ((![v576] : Fin 1 → IVec S16 32) a x).toNat < S4096.size a)
theorem k0_idx85_inb : ∀ (v576 : IVec S16 32) (k0_hw85 : k0_chk85 v576), ∀ a x, ((![v576] : Fin 1 → IVec S16 32) a x).toNat < S4096.size a := fun v576 k0_hw85 => k0_hw85

def k0_chk86 (v580 : IVec S16 32) : Prop :=
  (∀ a x, ((![v580] : Fin 1 → IVec S16 32) a x).toNat < S12288.size a)
theorem k0_idx86_inb : ∀ (v580 : IVec S16 32) (k0_hw86 : k0_chk86 v580), ∀ a x, ((![v580] : Fin 1 → IVec S16 32) a x).toNat < S12288.size a := fun v580 k0_hw86 => k0_hw86

def k0_chk87 (v581 : IVec S16 32) : Prop :=
  (∀ a x, ((![v581] : Fin 1 → IVec S16 32) a x).toNat < S4096.size a)
theorem k0_idx87_inb : ∀ (v581 : IVec S16 32) (k0_hw87 : k0_chk87 v581), ∀ a x, ((![v581] : Fin 1 → IVec S16 32) a x).toNat < S4096.size a := fun v581 k0_hw87 => k0_hw87

def k0_chk88 (v585 : IVec S16 32) : Prop :=
  (∀ a x, ((![v585] : Fin 1 → IVec S16 32) a x).toNat < S12288.size a)
theorem k0_idx88_inb : ∀ (v585 : IVec S16 32) (k0_hw88 : k0_chk88 v585), ∀ a x, ((![v585] : Fin 1 → IVec S16 32) a x).toNat < S12288.size a := fun v585 k0_hw88 => k0_hw88

def k0_chk89 (v586 : IVec S16 32) : Prop :=
  (∀ a x, ((![v586] : Fin 1 → IVec S16 32) a x).toNat < S4096.size a)
theorem k0_idx89_inb : ∀ (v586 : IVec S16 32) (k0_hw89 : k0_chk89 v586), ∀ a x, ((![v586] : Fin 1 → IVec S16 32) a x).toNat < S4096.size a := fun v586 k0_hw89 => k0_hw89

def k0_chk90 (v589 : IVec S16 32) : Prop :=
  (∀ a x, ((![v589] : Fin 1 → IVec S16 32) a x).toNat < S16.size a)
theorem k0_idx90_inb : ∀ (v589 : IVec S16 32) (k0_hw90 : k0_chk90 v589), ∀ a x, ((![v589] : Fin 1 → IVec S16 32) a x).toNat < S16.size a := fun v589 k0_hw90 => k0_hw90

def k0_chk91 (v598 : IVec S16 32) : Prop :=
  (∀ a x, ((![v598] : Fin 1 → IVec S16 32) a x).toNat < S12288.size a)
theorem k0_idx91_inb : ∀ (v598 : IVec S16 32) (k0_hw91 : k0_chk91 v598), ∀ a x, ((![v598] : Fin 1 → IVec S16 32) a x).toNat < S12288.size a := fun v598 k0_hw91 => k0_hw91

def k0_chk92 (v599 : IVec S16 32) : Prop :=
  (∀ a x, ((![v599] : Fin 1 → IVec S16 32) a x).toNat < S4096.size a)
theorem k0_idx92_inb : ∀ (v599 : IVec S16 32) (k0_hw92 : k0_chk92 v599), ∀ a x, ((![v599] : Fin 1 → IVec S16 32) a x).toNat < S4096.size a := fun v599 k0_hw92 => k0_hw92

def k0_chk93 (v602 : IVec S16 32) : Prop :=
  (∀ a x, ((![v602] : Fin 1 → IVec S16 32) a x).toNat < S12288.size a)
theorem k0_idx93_inb : ∀ (v602 : IVec S16 32) (k0_hw93 : k0_chk93 v602), ∀ a x, ((![v602] : Fin 1 → IVec S16 32) a x).toNat < S12288.size a := fun v602 k0_hw93 => k0_hw93

def k0_chk94 (v603 : IVec S16 32) : Prop :=
  (∀ a x, ((![v603] : Fin 1 → IVec S16 32) a x).toNat < S4096.size a)
theorem k0_idx94_inb : ∀ (v603 : IVec S16 32) (k0_hw94 : k0_chk94 v603), ∀ a x, ((![v603] : Fin 1 → IVec S16 32) a x).toNat < S4096.size a := fun v603 k0_hw94 => k0_hw94

def k0_chk95 (v607 : IVec S16 32) : Prop :=
  (∀ a x, ((![v607] : Fin 1 → IVec S16 32) a x).toNat < S12288.size a)
theorem k0_idx95_inb : ∀ (v607 : IVec S16 32) (k0_hw95 : k0_chk95 v607), ∀ a x, ((![v607] : Fin 1 → IVec S16 32) a x).toNat < S12288.size a := fun v607 k0_hw95 => k0_hw95

def k0_chk96 (v608 : IVec S16 32) : Prop :=
  (∀ a x, ((![v608] : Fin 1 → IVec S16 32) a x).toNat < S4096.size a)
theorem k0_idx96_inb : ∀ (v608 : IVec S16 32) (k0_hw96 : k0_chk96 v608), ∀ a x, ((![v608] : Fin 1 → IVec S16 32) a x).toNat < S4096.size a := fun v608 k0_hw96 => k0_hw96

def k0_chk97 (v612 : IVec S16 32) : Prop :=
  (∀ a x, ((![v612] : Fin 1 → IVec S16 32) a x).toNat < S12288.size a)
theorem k0_idx97_inb : ∀ (v612 : IVec S16 32) (k0_hw97 : k0_chk97 v612), ∀ a x, ((![v612] : Fin 1 → IVec S16 32) a x).toNat < S12288.size a := fun v612 k0_hw97 => k0_hw97

def k0_chk98 (v613 : IVec S16 32) : Prop :=
  (∀ a x, ((![v613] : Fin 1 → IVec S16 32) a x).toNat < S4096.size a)
theorem k0_idx98_inb : ∀ (v613 : IVec S16 32) (k0_hw98 : k0_chk98 v613), ∀ a x, ((![v613] : Fin 1 → IVec S16 32) a x).toNat < S4096.size a := fun v613 k0_hw98 => k0_hw98

def k0_chk99 (v616 : IVec S16 32) : Prop :=
  (∀ a x, ((![v616] : Fin 1 → IVec S16 32) a x).toNat < S16.size a)
theorem k0_idx99_inb : ∀ (v616 : IVec S16 32) (k0_hw99 : k0_chk99 v616), ∀ a x, ((![v616] : Fin 1 → IVec S16 32) a x).toNat < S16.size a := fun v616 k0_hw99 => k0_hw99

def k0_chk100 (v625 : IVec S16 32) : Prop :=
  (∀ a x, ((![v625] : Fin 1 → IVec S16 32) a x).toNat < S12288.size a)
theorem k0_idx100_inb : ∀ (v625 : IVec S16 32) (k0_hw100 : k0_chk100 v625), ∀ a x, ((![v625] : Fin 1 → IVec S16 32) a x).toNat < S12288.size a := fun v625 k0_hw100 => k0_hw100

def k0_chk101 (v626 : IVec S16 32) : Prop :=
  (∀ a x, ((![v626] : Fin 1 → IVec S16 32) a x).toNat < S4096.size a)
theorem k0_idx101_inb : ∀ (v626 : IVec S16 32) (k0_hw101 : k0_chk101 v626), ∀ a x, ((![v626] : Fin 1 → IVec S16 32) a x).toNat < S4096.size a := fun v626 k0_hw101 => k0_hw101

def k0_chk102 (v629 : IVec S16 32) : Prop :=
  (∀ a x, ((![v629] : Fin 1 → IVec S16 32) a x).toNat < S12288.size a)
theorem k0_idx102_inb : ∀ (v629 : IVec S16 32) (k0_hw102 : k0_chk102 v629), ∀ a x, ((![v629] : Fin 1 → IVec S16 32) a x).toNat < S12288.size a := fun v629 k0_hw102 => k0_hw102

def k0_chk103 (v630 : IVec S16 32) : Prop :=
  (∀ a x, ((![v630] : Fin 1 → IVec S16 32) a x).toNat < S4096.size a)
theorem k0_idx103_inb : ∀ (v630 : IVec S16 32) (k0_hw103 : k0_chk103 v630), ∀ a x, ((![v630] : Fin 1 → IVec S16 32) a x).toNat < S4096.size a := fun v630 k0_hw103 => k0_hw103

def k0_chk104 (v634 : IVec S16 32) : Prop :=
  (∀ a x, ((![v634] : Fin 1 → IVec S16 32) a x).toNat < S12288.size a)
theorem k0_idx104_inb : ∀ (v634 : IVec S16 32) (k0_hw104 : k0_chk104 v634), ∀ a x, ((![v634] : Fin 1 → IVec S16 32) a x).toNat < S12288.size a := fun v634 k0_hw104 => k0_hw104

def k0_chk105 (v635 : IVec S16 32) : Prop :=
  (∀ a x, ((![v635] : Fin 1 → IVec S16 32) a x).toNat < S4096.size a)
theorem k0_idx105_inb : ∀ (v635 : IVec S16 32) (k0_hw105 : k0_chk105 v635), ∀ a x, ((![v635] : Fin 1 → IVec S16 32) a x).toNat < S4096.size a := fun v635 k0_hw105 => k0_hw105

def k0_chk106 (v639 : IVec S16 32) : Prop :=
  (∀ a x, ((![v639] : Fin 1 → IVec S16 32) a x).toNat < S12288.size a)
theorem k0_idx106_inb : ∀ (v639 : IVec S16 32) (k0_hw106 : k0_chk106 v639), ∀ a x, ((![v639] : Fin 1 → IVec S16 32) a x).toNat < S12288.size a := fun v639 k0_hw106 => k0_hw106

def k0_chk107 (v640 : IVec S16 32) : Prop :=
  (∀ a x, ((![v640] : Fin 1 → IVec S16 32) a x).toNat < S4096.size a)
theorem k0_idx107_inb : ∀ (v640 : IVec S16 32) (k0_hw107 : k0_chk107 v640), ∀ a x, ((![v640] : Fin 1 → IVec S16 32) a x).toNat < S4096.size a := fun v640 k0_hw107 => k0_hw107

def k0_chk108 (v643 : IVec S16 32) : Prop :=
  (∀ a x, ((![v643] : Fin 1 → IVec S16 32) a x).toNat < S16.size a)
theorem k0_idx108_inb : ∀ (v643 : IVec S16 32) (k0_hw108 : k0_chk108 v643), ∀ a x, ((![v643] : Fin 1 → IVec S16 32) a x).toNat < S16.size a := fun v643 k0_hw108 => k0_hw108

def k0_chk109 (v652 : IVec S16 32) : Prop :=
  (∀ a x, ((![v652] : Fin 1 → IVec S16 32) a x).toNat < S12288.size a)
theorem k0_idx109_inb : ∀ (v652 : IVec S16 32) (k0_hw109 : k0_chk109 v652), ∀ a x, ((![v652] : Fin 1 → IVec S16 32) a x).toNat < S12288.size a := fun v652 k0_hw109 => k0_hw109

def k0_chk110 (v653 : IVec S16 32) : Prop :=
  (∀ a x, ((![v653] : Fin 1 → IVec S16 32) a x).toNat < S4096.size a)
theorem k0_idx110_inb : ∀ (v653 : IVec S16 32) (k0_hw110 : k0_chk110 v653), ∀ a x, ((![v653] : Fin 1 → IVec S16 32) a x).toNat < S4096.size a := fun v653 k0_hw110 => k0_hw110

def k0_chk111 (v656 : IVec S16 32) : Prop :=
  (∀ a x, ((![v656] : Fin 1 → IVec S16 32) a x).toNat < S12288.size a)
theorem k0_idx111_inb : ∀ (v656 : IVec S16 32) (k0_hw111 : k0_chk111 v656), ∀ a x, ((![v656] : Fin 1 → IVec S16 32) a x).toNat < S12288.size a := fun v656 k0_hw111 => k0_hw111

def k0_chk112 (v657 : IVec S16 32) : Prop :=
  (∀ a x, ((![v657] : Fin 1 → IVec S16 32) a x).toNat < S4096.size a)
theorem k0_idx112_inb : ∀ (v657 : IVec S16 32) (k0_hw112 : k0_chk112 v657), ∀ a x, ((![v657] : Fin 1 → IVec S16 32) a x).toNat < S4096.size a := fun v657 k0_hw112 => k0_hw112

def k0_chk113 (v661 : IVec S16 32) : Prop :=
  (∀ a x, ((![v661] : Fin 1 → IVec S16 32) a x).toNat < S12288.size a)
theorem k0_idx113_inb : ∀ (v661 : IVec S16 32) (k0_hw113 : k0_chk113 v661), ∀ a x, ((![v661] : Fin 1 → IVec S16 32) a x).toNat < S12288.size a := fun v661 k0_hw113 => k0_hw113

def k0_chk114 (v662 : IVec S16 32) : Prop :=
  (∀ a x, ((![v662] : Fin 1 → IVec S16 32) a x).toNat < S4096.size a)
theorem k0_idx114_inb : ∀ (v662 : IVec S16 32) (k0_hw114 : k0_chk114 v662), ∀ a x, ((![v662] : Fin 1 → IVec S16 32) a x).toNat < S4096.size a := fun v662 k0_hw114 => k0_hw114

def k0_chk115 (v666 : IVec S16 32) : Prop :=
  (∀ a x, ((![v666] : Fin 1 → IVec S16 32) a x).toNat < S12288.size a)
theorem k0_idx115_inb : ∀ (v666 : IVec S16 32) (k0_hw115 : k0_chk115 v666), ∀ a x, ((![v666] : Fin 1 → IVec S16 32) a x).toNat < S12288.size a := fun v666 k0_hw115 => k0_hw115

def k0_chk116 (v667 : IVec S16 32) : Prop :=
  (∀ a x, ((![v667] : Fin 1 → IVec S16 32) a x).toNat < S4096.size a)
theorem k0_idx116_inb : ∀ (v667 : IVec S16 32) (k0_hw116 : k0_chk116 v667), ∀ a x, ((![v667] : Fin 1 → IVec S16 32) a x).toNat < S4096.size a := fun v667 k0_hw116 => k0_hw116

def k0_chk117 (v670 : IVec S16 32) : Prop :=
  (∀ a x, ((![v670] : Fin 1 → IVec S16 32) a x).toNat < S16.size a)
theorem k0_idx117_inb : ∀ (v670 : IVec S16 32) (k0_hw117 : k0_chk117 v670), ∀ a x, ((![v670] : Fin 1 → IVec S16 32) a x).toNat < S16.size a := fun v670 k0_hw117 => k0_hw117

def k0_chk118 (v679 : IVec S16 32) : Prop :=
  (∀ a x, ((![v679] : Fin 1 → IVec S16 32) a x).toNat < S12288.size a)
theorem k0_idx118_inb : ∀ (v679 : IVec S16 32) (k0_hw118 : k0_chk118 v679), ∀ a x, ((![v679] : Fin 1 → IVec S16 32) a x).toNat < S12288.size a := fun v679 k0_hw118 => k0_hw118

def k0_chk119 (v680 : IVec S16 32) : Prop :=
  (∀ a x, ((![v680] : Fin 1 → IVec S16 32) a x).toNat < S4096.size a)
theorem k0_idx119_inb : ∀ (v680 : IVec S16 32) (k0_hw119 : k0_chk119 v680), ∀ a x, ((![v680] : Fin 1 → IVec S16 32) a x).toNat < S4096.size a := fun v680 k0_hw119 => k0_hw119

def k0_chk120 (v683 : IVec S16 32) : Prop :=
  (∀ a x, ((![v683] : Fin 1 → IVec S16 32) a x).toNat < S12288.size a)
theorem k0_idx120_inb : ∀ (v683 : IVec S16 32) (k0_hw120 : k0_chk120 v683), ∀ a x, ((![v683] : Fin 1 → IVec S16 32) a x).toNat < S12288.size a := fun v683 k0_hw120 => k0_hw120

def k0_chk121 (v684 : IVec S16 32) : Prop :=
  (∀ a x, ((![v684] : Fin 1 → IVec S16 32) a x).toNat < S4096.size a)
theorem k0_idx121_inb : ∀ (v684 : IVec S16 32) (k0_hw121 : k0_chk121 v684), ∀ a x, ((![v684] : Fin 1 → IVec S16 32) a x).toNat < S4096.size a := fun v684 k0_hw121 => k0_hw121

def k0_chk122 (v688 : IVec S16 32) : Prop :=
  (∀ a x, ((![v688] : Fin 1 → IVec S16 32) a x).toNat < S12288.size a)
theorem k0_idx122_inb : ∀ (v688 : IVec S16 32) (k0_hw122 : k0_chk122 v688), ∀ a x, ((![v688] : Fin 1 → IVec S16 32) a x).toNat < S12288.size a := fun v688 k0_hw122 => k0_hw122

def k0_chk123 (v689 : IVec S16 32) : Prop :=
  (∀ a x, ((![v689] : Fin 1 → IVec S16 32) a x).toNat < S4096.size a)
theorem k0_idx123_inb : ∀ (v689 : IVec S16 32) (k0_hw123 : k0_chk123 v689), ∀ a x, ((![v689] : Fin 1 → IVec S16 32) a x).toNat < S4096.size a := fun v689 k0_hw123 => k0_hw123

def k0_chk124 (v693 : IVec S16 32) : Prop :=
  (∀ a x, ((![v693] : Fin 1 → IVec S16 32) a x).toNat < S12288.size a)
theorem k0_idx124_inb : ∀ (v693 : IVec S16 32) (k0_hw124 : k0_chk124 v693), ∀ a x, ((![v693] : Fin 1 → IVec S16 32) a x).toNat < S12288.size a := fun v693 k0_hw124 => k0_hw124

def k0_chk125 (v694 : IVec S16 32) : Prop :=
  (∀ a x, ((![v694] : Fin 1 → IVec S16 32) a x).toNat < S4096.size a)
theorem k0_idx125_inb : ∀ (v694 : IVec S16 32) (k0_hw125 : k0_chk125 v694), ∀ a x, ((![v694] : Fin 1 → IVec S16 32) a x).toNat < S4096.size a := fun v694 k0_hw125 => k0_hw125

def k0_chk126 (v697 : IVec S16 32) : Prop :=
  (∀ a x, ((![v697] : Fin 1 → IVec S16 32) a x).toNat < S16.size a)
theorem k0_idx126_inb : ∀ (v697 : IVec S16 32) (k0_hw126 : k0_chk126 v697), ∀ a x, ((![v697] : Fin 1 → IVec S16 32) a x).toNat < S16.size a := fun v697 k0_hw126 => k0_hw126

def k0_chk127 (v706 : IVec S16 32) : Prop :=
  (∀ a x, ((![v706] : Fin 1 → IVec S16 32) a x).toNat < S12288.size a)
theorem k0_idx127_inb : ∀ (v706 : IVec S16 32) (k0_hw127 : k0_chk127 v706), ∀ a x, ((![v706] : Fin 1 → IVec S16 32) a x).toNat < S12288.size a := fun v706 k0_hw127 => k0_hw127

def k0_chk128 (v707 : IVec S16 32) : Prop :=
  (∀ a x, ((![v707] : Fin 1 → IVec S16 32) a x).toNat < S4096.size a)
theorem k0_idx128_inb : ∀ (v707 : IVec S16 32) (k0_hw128 : k0_chk128 v707), ∀ a x, ((![v707] : Fin 1 → IVec S16 32) a x).toNat < S4096.size a := fun v707 k0_hw128 => k0_hw128

def k0_chk129 (v710 : IVec S16 32) : Prop :=
  (∀ a x, ((![v710] : Fin 1 → IVec S16 32) a x).toNat < S12288.size a)
theorem k0_idx129_inb : ∀ (v710 : IVec S16 32) (k0_hw129 : k0_chk129 v710), ∀ a x, ((![v710] : Fin 1 → IVec S16 32) a x).toNat < S12288.size a := fun v710 k0_hw129 => k0_hw129

def k0_chk130 (v711 : IVec S16 32) : Prop :=
  (∀ a x, ((![v711] : Fin 1 → IVec S16 32) a x).toNat < S4096.size a)
theorem k0_idx130_inb : ∀ (v711 : IVec S16 32) (k0_hw130 : k0_chk130 v711), ∀ a x, ((![v711] : Fin 1 → IVec S16 32) a x).toNat < S4096.size a := fun v711 k0_hw130 => k0_hw130

def k0_chk131 (v715 : IVec S16 32) : Prop :=
  (∀ a x, ((![v715] : Fin 1 → IVec S16 32) a x).toNat < S12288.size a)
theorem k0_idx131_inb : ∀ (v715 : IVec S16 32) (k0_hw131 : k0_chk131 v715), ∀ a x, ((![v715] : Fin 1 → IVec S16 32) a x).toNat < S12288.size a := fun v715 k0_hw131 => k0_hw131

def k0_chk132 (v716 : IVec S16 32) : Prop :=
  (∀ a x, ((![v716] : Fin 1 → IVec S16 32) a x).toNat < S4096.size a)
theorem k0_idx132_inb : ∀ (v716 : IVec S16 32) (k0_hw132 : k0_chk132 v716), ∀ a x, ((![v716] : Fin 1 → IVec S16 32) a x).toNat < S4096.size a := fun v716 k0_hw132 => k0_hw132

def k0_chk133 (v720 : IVec S16 32) : Prop :=
  (∀ a x, ((![v720] : Fin 1 → IVec S16 32) a x).toNat < S12288.size a)
theorem k0_idx133_inb : ∀ (v720 : IVec S16 32) (k0_hw133 : k0_chk133 v720), ∀ a x, ((![v720] : Fin 1 → IVec S16 32) a x).toNat < S12288.size a := fun v720 k0_hw133 => k0_hw133

def k0_chk134 (v721 : IVec S16 32) : Prop :=
  (∀ a x, ((![v721] : Fin 1 → IVec S16 32) a x).toNat < S4096.size a)
theorem k0_idx134_inb : ∀ (v721 : IVec S16 32) (k0_hw134 : k0_chk134 v721), ∀ a x, ((![v721] : Fin 1 → IVec S16 32) a x).toNat < S4096.size a := fun v721 k0_hw134 => k0_hw134

def k0_chk135 (v724 : IVec S16 32) : Prop :=
  (∀ a x, ((![v724] : Fin 1 → IVec S16 32) a x).toNat < S16.size a)
theorem k0_idx135_inb : ∀ (v724 : IVec S16 32) (k0_hw135 : k0_chk135 v724), ∀ a x, ((![v724] : Fin 1 → IVec S16 32) a x).toNat < S16.size a := fun v724 k0_hw135 => k0_hw135

def k0_chk136 (v733 : IVec S16 32) : Prop :=
  (∀ a x, ((![v733] : Fin 1 → IVec S16 32) a x).toNat < S12288.size a)
theorem k0_idx136_inb : ∀ (v733 : IVec S16 32) (k0_hw136 : k0_chk136 v733), ∀ a x, ((![v733] : Fin 1 → IVec S16 32) a x).toNat < S12288.size a := fun v733 k0_hw136 => k0_hw136

def k0_chk137 (v734 : IVec S16 32) : Prop :=
  (∀ a x, ((![v734] : Fin 1 → IVec S16 32) a x).toNat < S4096.size a)
theorem k0_idx137_inb : ∀ (v734 : IVec S16 32) (k0_hw137 : k0_chk137 v734), ∀ a x, ((![v734] : Fin 1 → IVec S16 32) a x).toNat < S4096.size a := fun v734 k0_hw137 => k0_hw137

def k0_chk138 (v737 : IVec S16 32) : Prop :=
  (∀ a x, ((![v737] : Fin 1 → IVec S16 32) a x).toNat < S12288.size a)
theorem k0_idx138_inb : ∀ (v737 : IVec S16 32) (k0_hw138 : k0_chk138 v737), ∀ a x, ((![v737] : Fin 1 → IVec S16 32) a x).toNat < S12288.size a := fun v737 k0_hw138 => k0_hw138

def k0_chk139 (v738 : IVec S16 32) : Prop :=
  (∀ a x, ((![v738] : Fin 1 → IVec S16 32) a x).toNat < S4096.size a)
theorem k0_idx139_inb : ∀ (v738 : IVec S16 32) (k0_hw139 : k0_chk139 v738), ∀ a x, ((![v738] : Fin 1 → IVec S16 32) a x).toNat < S4096.size a := fun v738 k0_hw139 => k0_hw139

def k0_chk140 (v742 : IVec S16 32) : Prop :=
  (∀ a x, ((![v742] : Fin 1 → IVec S16 32) a x).toNat < S12288.size a)
theorem k0_idx140_inb : ∀ (v742 : IVec S16 32) (k0_hw140 : k0_chk140 v742), ∀ a x, ((![v742] : Fin 1 → IVec S16 32) a x).toNat < S12288.size a := fun v742 k0_hw140 => k0_hw140

def k0_chk141 (v743 : IVec S16 32) : Prop :=
  (∀ a x, ((![v743] : Fin 1 → IVec S16 32) a x).toNat < S4096.size a)
theorem k0_idx141_inb : ∀ (v743 : IVec S16 32) (k0_hw141 : k0_chk141 v743), ∀ a x, ((![v743] : Fin 1 → IVec S16 32) a x).toNat < S4096.size a := fun v743 k0_hw141 => k0_hw141

def k0_chk142 (v747 : IVec S16 32) : Prop :=
  (∀ a x, ((![v747] : Fin 1 → IVec S16 32) a x).toNat < S12288.size a)
theorem k0_idx142_inb : ∀ (v747 : IVec S16 32) (k0_hw142 : k0_chk142 v747), ∀ a x, ((![v747] : Fin 1 → IVec S16 32) a x).toNat < S12288.size a := fun v747 k0_hw142 => k0_hw142

def k0_chk143 (v748 : IVec S16 32) : Prop :=
  (∀ a x, ((![v748] : Fin 1 → IVec S16 32) a x).toNat < S4096.size a)
theorem k0_idx143_inb : ∀ (v748 : IVec S16 32) (k0_hw143 : k0_chk143 v748), ∀ a x, ((![v748] : Fin 1 → IVec S16 32) a x).toNat < S4096.size a := fun v748 k0_hw143 => k0_hw143

def k0_chk144 (v751 : IVec S16 32) : Prop :=
  (∀ a x, ((![v751] : Fin 1 → IVec S16 32) a x).toNat < S16.size a)
theorem k0_idx144_inb : ∀ (v751 : IVec S16 32) (k0_hw144 : k0_chk144 v751), ∀ a x, ((![v751] : Fin 1 → IVec S16 32) a x).toNat < S16.size a := fun v751 k0_hw144 => k0_hw144
def k0_off25 (i : grid0.Coords) : Fin 2 → Nat :=
  let c0_i32_221 : BitVec 32 := 0#32
  let arg1 : BitVec 32 := BitVec.ofNat 32 (i 1).val
  let c256_i32_220 : BitVec 32 := 256#32
  let v759 : BitVec 32 := Scalar.muli arg1 c256_i32_220
  ![0, v759.toNat]
def k0_off26 (i : grid0.Coords) : Fin 2 → Nat :=
  let c0_i32_224 : BitVec 32 := 0#32
  let arg1 : BitVec 32 := BitVec.ofNat 32 (i 1).val
  let c256_i32_222 : BitVec 32 := 256#32
  let v760 : BitVec 32 := Scalar.muli arg1 c256_i32_222
  ![0, v760.toNat]

def k0_chk145 (v770 : IVec S16 32) : Prop :=
  (∀ a x, ((![v770] : Fin 1 → IVec S16 32) a x).toNat < S12288.size a)
theorem k0_idx145_inb : ∀ (v770 : IVec S16 32) (k0_hw145 : k0_chk145 v770), ∀ a x, ((![v770] : Fin 1 → IVec S16 32) a x).toNat < S12288.size a := fun v770 k0_hw145 => k0_hw145

def k0_chk146 (v771 : IVec S16 32) : Prop :=
  (∀ a x, ((![v771] : Fin 1 → IVec S16 32) a x).toNat < S4096.size a)
theorem k0_idx146_inb : ∀ (v771 : IVec S16 32) (k0_hw146 : k0_chk146 v771), ∀ a x, ((![v771] : Fin 1 → IVec S16 32) a x).toNat < S4096.size a := fun v771 k0_hw146 => k0_hw146

def k0_chk147 (v774 : IVec S16 32) : Prop :=
  (∀ a x, ((![v774] : Fin 1 → IVec S16 32) a x).toNat < S12288.size a)
theorem k0_idx147_inb : ∀ (v774 : IVec S16 32) (k0_hw147 : k0_chk147 v774), ∀ a x, ((![v774] : Fin 1 → IVec S16 32) a x).toNat < S12288.size a := fun v774 k0_hw147 => k0_hw147

def k0_chk148 (v775 : IVec S16 32) : Prop :=
  (∀ a x, ((![v775] : Fin 1 → IVec S16 32) a x).toNat < S4096.size a)
theorem k0_idx148_inb : ∀ (v775 : IVec S16 32) (k0_hw148 : k0_chk148 v775), ∀ a x, ((![v775] : Fin 1 → IVec S16 32) a x).toNat < S4096.size a := fun v775 k0_hw148 => k0_hw148

def k0_chk149 (v779 : IVec S16 32) : Prop :=
  (∀ a x, ((![v779] : Fin 1 → IVec S16 32) a x).toNat < S12288.size a)
theorem k0_idx149_inb : ∀ (v779 : IVec S16 32) (k0_hw149 : k0_chk149 v779), ∀ a x, ((![v779] : Fin 1 → IVec S16 32) a x).toNat < S12288.size a := fun v779 k0_hw149 => k0_hw149

def k0_chk150 (v780 : IVec S16 32) : Prop :=
  (∀ a x, ((![v780] : Fin 1 → IVec S16 32) a x).toNat < S4096.size a)
theorem k0_idx150_inb : ∀ (v780 : IVec S16 32) (k0_hw150 : k0_chk150 v780), ∀ a x, ((![v780] : Fin 1 → IVec S16 32) a x).toNat < S4096.size a := fun v780 k0_hw150 => k0_hw150

def k0_chk151 (v784 : IVec S16 32) : Prop :=
  (∀ a x, ((![v784] : Fin 1 → IVec S16 32) a x).toNat < S12288.size a)
theorem k0_idx151_inb : ∀ (v784 : IVec S16 32) (k0_hw151 : k0_chk151 v784), ∀ a x, ((![v784] : Fin 1 → IVec S16 32) a x).toNat < S12288.size a := fun v784 k0_hw151 => k0_hw151

def k0_chk152 (v785 : IVec S16 32) : Prop :=
  (∀ a x, ((![v785] : Fin 1 → IVec S16 32) a x).toNat < S4096.size a)
theorem k0_idx152_inb : ∀ (v785 : IVec S16 32) (k0_hw152 : k0_chk152 v785), ∀ a x, ((![v785] : Fin 1 → IVec S16 32) a x).toNat < S4096.size a := fun v785 k0_hw152 => k0_hw152

def k0_chk153 (v788 : IVec S16 32) : Prop :=
  (∀ a x, ((![v788] : Fin 1 → IVec S16 32) a x).toNat < S16.size a)
theorem k0_idx153_inb : ∀ (v788 : IVec S16 32) (k0_hw153 : k0_chk153 v788), ∀ a x, ((![v788] : Fin 1 → IVec S16 32) a x).toNat < S16.size a := fun v788 k0_hw153 => k0_hw153

def k0_chk154 (v797 : IVec S16 32) : Prop :=
  (∀ a x, ((![v797] : Fin 1 → IVec S16 32) a x).toNat < S12288.size a)
theorem k0_idx154_inb : ∀ (v797 : IVec S16 32) (k0_hw154 : k0_chk154 v797), ∀ a x, ((![v797] : Fin 1 → IVec S16 32) a x).toNat < S12288.size a := fun v797 k0_hw154 => k0_hw154

def k0_chk155 (v798 : IVec S16 32) : Prop :=
  (∀ a x, ((![v798] : Fin 1 → IVec S16 32) a x).toNat < S4096.size a)
theorem k0_idx155_inb : ∀ (v798 : IVec S16 32) (k0_hw155 : k0_chk155 v798), ∀ a x, ((![v798] : Fin 1 → IVec S16 32) a x).toNat < S4096.size a := fun v798 k0_hw155 => k0_hw155

def k0_chk156 (v801 : IVec S16 32) : Prop :=
  (∀ a x, ((![v801] : Fin 1 → IVec S16 32) a x).toNat < S12288.size a)
theorem k0_idx156_inb : ∀ (v801 : IVec S16 32) (k0_hw156 : k0_chk156 v801), ∀ a x, ((![v801] : Fin 1 → IVec S16 32) a x).toNat < S12288.size a := fun v801 k0_hw156 => k0_hw156

def k0_chk157 (v802 : IVec S16 32) : Prop :=
  (∀ a x, ((![v802] : Fin 1 → IVec S16 32) a x).toNat < S4096.size a)
theorem k0_idx157_inb : ∀ (v802 : IVec S16 32) (k0_hw157 : k0_chk157 v802), ∀ a x, ((![v802] : Fin 1 → IVec S16 32) a x).toNat < S4096.size a := fun v802 k0_hw157 => k0_hw157

def k0_chk158 (v806 : IVec S16 32) : Prop :=
  (∀ a x, ((![v806] : Fin 1 → IVec S16 32) a x).toNat < S12288.size a)
theorem k0_idx158_inb : ∀ (v806 : IVec S16 32) (k0_hw158 : k0_chk158 v806), ∀ a x, ((![v806] : Fin 1 → IVec S16 32) a x).toNat < S12288.size a := fun v806 k0_hw158 => k0_hw158

def k0_chk159 (v807 : IVec S16 32) : Prop :=
  (∀ a x, ((![v807] : Fin 1 → IVec S16 32) a x).toNat < S4096.size a)
theorem k0_idx159_inb : ∀ (v807 : IVec S16 32) (k0_hw159 : k0_chk159 v807), ∀ a x, ((![v807] : Fin 1 → IVec S16 32) a x).toNat < S4096.size a := fun v807 k0_hw159 => k0_hw159

def k0_chk160 (v811 : IVec S16 32) : Prop :=
  (∀ a x, ((![v811] : Fin 1 → IVec S16 32) a x).toNat < S12288.size a)
theorem k0_idx160_inb : ∀ (v811 : IVec S16 32) (k0_hw160 : k0_chk160 v811), ∀ a x, ((![v811] : Fin 1 → IVec S16 32) a x).toNat < S12288.size a := fun v811 k0_hw160 => k0_hw160

def k0_chk161 (v812 : IVec S16 32) : Prop :=
  (∀ a x, ((![v812] : Fin 1 → IVec S16 32) a x).toNat < S4096.size a)
theorem k0_idx161_inb : ∀ (v812 : IVec S16 32) (k0_hw161 : k0_chk161 v812), ∀ a x, ((![v812] : Fin 1 → IVec S16 32) a x).toNat < S4096.size a := fun v812 k0_hw161 => k0_hw161

def k0_chk162 (v815 : IVec S16 32) : Prop :=
  (∀ a x, ((![v815] : Fin 1 → IVec S16 32) a x).toNat < S16.size a)
theorem k0_idx162_inb : ∀ (v815 : IVec S16 32) (k0_hw162 : k0_chk162 v815), ∀ a x, ((![v815] : Fin 1 → IVec S16 32) a x).toNat < S16.size a := fun v815 k0_hw162 => k0_hw162

def k0_chk163 (v824 : IVec S16 32) : Prop :=
  (∀ a x, ((![v824] : Fin 1 → IVec S16 32) a x).toNat < S12288.size a)
theorem k0_idx163_inb : ∀ (v824 : IVec S16 32) (k0_hw163 : k0_chk163 v824), ∀ a x, ((![v824] : Fin 1 → IVec S16 32) a x).toNat < S12288.size a := fun v824 k0_hw163 => k0_hw163

def k0_chk164 (v825 : IVec S16 32) : Prop :=
  (∀ a x, ((![v825] : Fin 1 → IVec S16 32) a x).toNat < S4096.size a)
theorem k0_idx164_inb : ∀ (v825 : IVec S16 32) (k0_hw164 : k0_chk164 v825), ∀ a x, ((![v825] : Fin 1 → IVec S16 32) a x).toNat < S4096.size a := fun v825 k0_hw164 => k0_hw164

def k0_chk165 (v828 : IVec S16 32) : Prop :=
  (∀ a x, ((![v828] : Fin 1 → IVec S16 32) a x).toNat < S12288.size a)
theorem k0_idx165_inb : ∀ (v828 : IVec S16 32) (k0_hw165 : k0_chk165 v828), ∀ a x, ((![v828] : Fin 1 → IVec S16 32) a x).toNat < S12288.size a := fun v828 k0_hw165 => k0_hw165

def k0_chk166 (v829 : IVec S16 32) : Prop :=
  (∀ a x, ((![v829] : Fin 1 → IVec S16 32) a x).toNat < S4096.size a)
theorem k0_idx166_inb : ∀ (v829 : IVec S16 32) (k0_hw166 : k0_chk166 v829), ∀ a x, ((![v829] : Fin 1 → IVec S16 32) a x).toNat < S4096.size a := fun v829 k0_hw166 => k0_hw166

def k0_chk167 (v833 : IVec S16 32) : Prop :=
  (∀ a x, ((![v833] : Fin 1 → IVec S16 32) a x).toNat < S12288.size a)
theorem k0_idx167_inb : ∀ (v833 : IVec S16 32) (k0_hw167 : k0_chk167 v833), ∀ a x, ((![v833] : Fin 1 → IVec S16 32) a x).toNat < S12288.size a := fun v833 k0_hw167 => k0_hw167

def k0_chk168 (v834 : IVec S16 32) : Prop :=
  (∀ a x, ((![v834] : Fin 1 → IVec S16 32) a x).toNat < S4096.size a)
theorem k0_idx168_inb : ∀ (v834 : IVec S16 32) (k0_hw168 : k0_chk168 v834), ∀ a x, ((![v834] : Fin 1 → IVec S16 32) a x).toNat < S4096.size a := fun v834 k0_hw168 => k0_hw168

def k0_chk169 (v838 : IVec S16 32) : Prop :=
  (∀ a x, ((![v838] : Fin 1 → IVec S16 32) a x).toNat < S12288.size a)
theorem k0_idx169_inb : ∀ (v838 : IVec S16 32) (k0_hw169 : k0_chk169 v838), ∀ a x, ((![v838] : Fin 1 → IVec S16 32) a x).toNat < S12288.size a := fun v838 k0_hw169 => k0_hw169

def k0_chk170 (v839 : IVec S16 32) : Prop :=
  (∀ a x, ((![v839] : Fin 1 → IVec S16 32) a x).toNat < S4096.size a)
theorem k0_idx170_inb : ∀ (v839 : IVec S16 32) (k0_hw170 : k0_chk170 v839), ∀ a x, ((![v839] : Fin 1 → IVec S16 32) a x).toNat < S4096.size a := fun v839 k0_hw170 => k0_hw170

def k0_chk171 (v842 : IVec S16 32) : Prop :=
  (∀ a x, ((![v842] : Fin 1 → IVec S16 32) a x).toNat < S16.size a)
theorem k0_idx171_inb : ∀ (v842 : IVec S16 32) (k0_hw171 : k0_chk171 v842), ∀ a x, ((![v842] : Fin 1 → IVec S16 32) a x).toNat < S16.size a := fun v842 k0_hw171 => k0_hw171

def k0_chk172 (v851 : IVec S16 32) : Prop :=
  (∀ a x, ((![v851] : Fin 1 → IVec S16 32) a x).toNat < S12288.size a)
theorem k0_idx172_inb : ∀ (v851 : IVec S16 32) (k0_hw172 : k0_chk172 v851), ∀ a x, ((![v851] : Fin 1 → IVec S16 32) a x).toNat < S12288.size a := fun v851 k0_hw172 => k0_hw172

def k0_chk173 (v852 : IVec S16 32) : Prop :=
  (∀ a x, ((![v852] : Fin 1 → IVec S16 32) a x).toNat < S4096.size a)
theorem k0_idx173_inb : ∀ (v852 : IVec S16 32) (k0_hw173 : k0_chk173 v852), ∀ a x, ((![v852] : Fin 1 → IVec S16 32) a x).toNat < S4096.size a := fun v852 k0_hw173 => k0_hw173

def k0_chk174 (v855 : IVec S16 32) : Prop :=
  (∀ a x, ((![v855] : Fin 1 → IVec S16 32) a x).toNat < S12288.size a)
theorem k0_idx174_inb : ∀ (v855 : IVec S16 32) (k0_hw174 : k0_chk174 v855), ∀ a x, ((![v855] : Fin 1 → IVec S16 32) a x).toNat < S12288.size a := fun v855 k0_hw174 => k0_hw174

def k0_chk175 (v856 : IVec S16 32) : Prop :=
  (∀ a x, ((![v856] : Fin 1 → IVec S16 32) a x).toNat < S4096.size a)
theorem k0_idx175_inb : ∀ (v856 : IVec S16 32) (k0_hw175 : k0_chk175 v856), ∀ a x, ((![v856] : Fin 1 → IVec S16 32) a x).toNat < S4096.size a := fun v856 k0_hw175 => k0_hw175

def k0_chk176 (v860 : IVec S16 32) : Prop :=
  (∀ a x, ((![v860] : Fin 1 → IVec S16 32) a x).toNat < S12288.size a)
theorem k0_idx176_inb : ∀ (v860 : IVec S16 32) (k0_hw176 : k0_chk176 v860), ∀ a x, ((![v860] : Fin 1 → IVec S16 32) a x).toNat < S12288.size a := fun v860 k0_hw176 => k0_hw176

def k0_chk177 (v861 : IVec S16 32) : Prop :=
  (∀ a x, ((![v861] : Fin 1 → IVec S16 32) a x).toNat < S4096.size a)
theorem k0_idx177_inb : ∀ (v861 : IVec S16 32) (k0_hw177 : k0_chk177 v861), ∀ a x, ((![v861] : Fin 1 → IVec S16 32) a x).toNat < S4096.size a := fun v861 k0_hw177 => k0_hw177

def k0_chk178 (v865 : IVec S16 32) : Prop :=
  (∀ a x, ((![v865] : Fin 1 → IVec S16 32) a x).toNat < S12288.size a)
theorem k0_idx178_inb : ∀ (v865 : IVec S16 32) (k0_hw178 : k0_chk178 v865), ∀ a x, ((![v865] : Fin 1 → IVec S16 32) a x).toNat < S12288.size a := fun v865 k0_hw178 => k0_hw178

def k0_chk179 (v866 : IVec S16 32) : Prop :=
  (∀ a x, ((![v866] : Fin 1 → IVec S16 32) a x).toNat < S4096.size a)
theorem k0_idx179_inb : ∀ (v866 : IVec S16 32) (k0_hw179 : k0_chk179 v866), ∀ a x, ((![v866] : Fin 1 → IVec S16 32) a x).toNat < S4096.size a := fun v866 k0_hw179 => k0_hw179

def k0_chk180 (v869 : IVec S16 32) : Prop :=
  (∀ a x, ((![v869] : Fin 1 → IVec S16 32) a x).toNat < S16.size a)
theorem k0_idx180_inb : ∀ (v869 : IVec S16 32) (k0_hw180 : k0_chk180 v869), ∀ a x, ((![v869] : Fin 1 → IVec S16 32) a x).toNat < S16.size a := fun v869 k0_hw180 => k0_hw180

def k0_chk181 (v878 : IVec S16 32) : Prop :=
  (∀ a x, ((![v878] : Fin 1 → IVec S16 32) a x).toNat < S12288.size a)
theorem k0_idx181_inb : ∀ (v878 : IVec S16 32) (k0_hw181 : k0_chk181 v878), ∀ a x, ((![v878] : Fin 1 → IVec S16 32) a x).toNat < S12288.size a := fun v878 k0_hw181 => k0_hw181

def k0_chk182 (v879 : IVec S16 32) : Prop :=
  (∀ a x, ((![v879] : Fin 1 → IVec S16 32) a x).toNat < S4096.size a)
theorem k0_idx182_inb : ∀ (v879 : IVec S16 32) (k0_hw182 : k0_chk182 v879), ∀ a x, ((![v879] : Fin 1 → IVec S16 32) a x).toNat < S4096.size a := fun v879 k0_hw182 => k0_hw182

def k0_chk183 (v882 : IVec S16 32) : Prop :=
  (∀ a x, ((![v882] : Fin 1 → IVec S16 32) a x).toNat < S12288.size a)
theorem k0_idx183_inb : ∀ (v882 : IVec S16 32) (k0_hw183 : k0_chk183 v882), ∀ a x, ((![v882] : Fin 1 → IVec S16 32) a x).toNat < S12288.size a := fun v882 k0_hw183 => k0_hw183

def k0_chk184 (v883 : IVec S16 32) : Prop :=
  (∀ a x, ((![v883] : Fin 1 → IVec S16 32) a x).toNat < S4096.size a)
theorem k0_idx184_inb : ∀ (v883 : IVec S16 32) (k0_hw184 : k0_chk184 v883), ∀ a x, ((![v883] : Fin 1 → IVec S16 32) a x).toNat < S4096.size a := fun v883 k0_hw184 => k0_hw184

def k0_chk185 (v887 : IVec S16 32) : Prop :=
  (∀ a x, ((![v887] : Fin 1 → IVec S16 32) a x).toNat < S12288.size a)
theorem k0_idx185_inb : ∀ (v887 : IVec S16 32) (k0_hw185 : k0_chk185 v887), ∀ a x, ((![v887] : Fin 1 → IVec S16 32) a x).toNat < S12288.size a := fun v887 k0_hw185 => k0_hw185

def k0_chk186 (v888 : IVec S16 32) : Prop :=
  (∀ a x, ((![v888] : Fin 1 → IVec S16 32) a x).toNat < S4096.size a)
theorem k0_idx186_inb : ∀ (v888 : IVec S16 32) (k0_hw186 : k0_chk186 v888), ∀ a x, ((![v888] : Fin 1 → IVec S16 32) a x).toNat < S4096.size a := fun v888 k0_hw186 => k0_hw186

def k0_chk187 (v892 : IVec S16 32) : Prop :=
  (∀ a x, ((![v892] : Fin 1 → IVec S16 32) a x).toNat < S12288.size a)
theorem k0_idx187_inb : ∀ (v892 : IVec S16 32) (k0_hw187 : k0_chk187 v892), ∀ a x, ((![v892] : Fin 1 → IVec S16 32) a x).toNat < S12288.size a := fun v892 k0_hw187 => k0_hw187

def k0_chk188 (v893 : IVec S16 32) : Prop :=
  (∀ a x, ((![v893] : Fin 1 → IVec S16 32) a x).toNat < S4096.size a)
theorem k0_idx188_inb : ∀ (v893 : IVec S16 32) (k0_hw188 : k0_chk188 v893), ∀ a x, ((![v893] : Fin 1 → IVec S16 32) a x).toNat < S4096.size a := fun v893 k0_hw188 => k0_hw188

def k0_chk189 (v896 : IVec S16 32) : Prop :=
  (∀ a x, ((![v896] : Fin 1 → IVec S16 32) a x).toNat < S16.size a)
theorem k0_idx189_inb : ∀ (v896 : IVec S16 32) (k0_hw189 : k0_chk189 v896), ∀ a x, ((![v896] : Fin 1 → IVec S16 32) a x).toNat < S16.size a := fun v896 k0_hw189 => k0_hw189

def k0_chk190 (v905 : IVec S16 32) : Prop :=
  (∀ a x, ((![v905] : Fin 1 → IVec S16 32) a x).toNat < S12288.size a)
theorem k0_idx190_inb : ∀ (v905 : IVec S16 32) (k0_hw190 : k0_chk190 v905), ∀ a x, ((![v905] : Fin 1 → IVec S16 32) a x).toNat < S12288.size a := fun v905 k0_hw190 => k0_hw190

def k0_chk191 (v906 : IVec S16 32) : Prop :=
  (∀ a x, ((![v906] : Fin 1 → IVec S16 32) a x).toNat < S4096.size a)
theorem k0_idx191_inb : ∀ (v906 : IVec S16 32) (k0_hw191 : k0_chk191 v906), ∀ a x, ((![v906] : Fin 1 → IVec S16 32) a x).toNat < S4096.size a := fun v906 k0_hw191 => k0_hw191

def k0_chk192 (v909 : IVec S16 32) : Prop :=
  (∀ a x, ((![v909] : Fin 1 → IVec S16 32) a x).toNat < S12288.size a)
theorem k0_idx192_inb : ∀ (v909 : IVec S16 32) (k0_hw192 : k0_chk192 v909), ∀ a x, ((![v909] : Fin 1 → IVec S16 32) a x).toNat < S12288.size a := fun v909 k0_hw192 => k0_hw192

def k0_chk193 (v910 : IVec S16 32) : Prop :=
  (∀ a x, ((![v910] : Fin 1 → IVec S16 32) a x).toNat < S4096.size a)
theorem k0_idx193_inb : ∀ (v910 : IVec S16 32) (k0_hw193 : k0_chk193 v910), ∀ a x, ((![v910] : Fin 1 → IVec S16 32) a x).toNat < S4096.size a := fun v910 k0_hw193 => k0_hw193

def k0_chk194 (v914 : IVec S16 32) : Prop :=
  (∀ a x, ((![v914] : Fin 1 → IVec S16 32) a x).toNat < S12288.size a)
theorem k0_idx194_inb : ∀ (v914 : IVec S16 32) (k0_hw194 : k0_chk194 v914), ∀ a x, ((![v914] : Fin 1 → IVec S16 32) a x).toNat < S12288.size a := fun v914 k0_hw194 => k0_hw194

def k0_chk195 (v915 : IVec S16 32) : Prop :=
  (∀ a x, ((![v915] : Fin 1 → IVec S16 32) a x).toNat < S4096.size a)
theorem k0_idx195_inb : ∀ (v915 : IVec S16 32) (k0_hw195 : k0_chk195 v915), ∀ a x, ((![v915] : Fin 1 → IVec S16 32) a x).toNat < S4096.size a := fun v915 k0_hw195 => k0_hw195

def k0_chk196 (v919 : IVec S16 32) : Prop :=
  (∀ a x, ((![v919] : Fin 1 → IVec S16 32) a x).toNat < S12288.size a)
theorem k0_idx196_inb : ∀ (v919 : IVec S16 32) (k0_hw196 : k0_chk196 v919), ∀ a x, ((![v919] : Fin 1 → IVec S16 32) a x).toNat < S12288.size a := fun v919 k0_hw196 => k0_hw196

def k0_chk197 (v920 : IVec S16 32) : Prop :=
  (∀ a x, ((![v920] : Fin 1 → IVec S16 32) a x).toNat < S4096.size a)
theorem k0_idx197_inb : ∀ (v920 : IVec S16 32) (k0_hw197 : k0_chk197 v920), ∀ a x, ((![v920] : Fin 1 → IVec S16 32) a x).toNat < S4096.size a := fun v920 k0_hw197 => k0_hw197

def k0_chk198 (v923 : IVec S16 32) : Prop :=
  (∀ a x, ((![v923] : Fin 1 → IVec S16 32) a x).toNat < S16.size a)
theorem k0_idx198_inb : ∀ (v923 : IVec S16 32) (k0_hw198 : k0_chk198 v923), ∀ a x, ((![v923] : Fin 1 → IVec S16 32) a x).toNat < S16.size a := fun v923 k0_hw198 => k0_hw198

def k0_chk199 (v932 : IVec S16 32) : Prop :=
  (∀ a x, ((![v932] : Fin 1 → IVec S16 32) a x).toNat < S12288.size a)
theorem k0_idx199_inb : ∀ (v932 : IVec S16 32) (k0_hw199 : k0_chk199 v932), ∀ a x, ((![v932] : Fin 1 → IVec S16 32) a x).toNat < S12288.size a := fun v932 k0_hw199 => k0_hw199

def k0_chk200 (v933 : IVec S16 32) : Prop :=
  (∀ a x, ((![v933] : Fin 1 → IVec S16 32) a x).toNat < S4096.size a)
theorem k0_idx200_inb : ∀ (v933 : IVec S16 32) (k0_hw200 : k0_chk200 v933), ∀ a x, ((![v933] : Fin 1 → IVec S16 32) a x).toNat < S4096.size a := fun v933 k0_hw200 => k0_hw200

def k0_chk201 (v936 : IVec S16 32) : Prop :=
  (∀ a x, ((![v936] : Fin 1 → IVec S16 32) a x).toNat < S12288.size a)
theorem k0_idx201_inb : ∀ (v936 : IVec S16 32) (k0_hw201 : k0_chk201 v936), ∀ a x, ((![v936] : Fin 1 → IVec S16 32) a x).toNat < S12288.size a := fun v936 k0_hw201 => k0_hw201

def k0_chk202 (v937 : IVec S16 32) : Prop :=
  (∀ a x, ((![v937] : Fin 1 → IVec S16 32) a x).toNat < S4096.size a)
theorem k0_idx202_inb : ∀ (v937 : IVec S16 32) (k0_hw202 : k0_chk202 v937), ∀ a x, ((![v937] : Fin 1 → IVec S16 32) a x).toNat < S4096.size a := fun v937 k0_hw202 => k0_hw202

def k0_chk203 (v941 : IVec S16 32) : Prop :=
  (∀ a x, ((![v941] : Fin 1 → IVec S16 32) a x).toNat < S12288.size a)
theorem k0_idx203_inb : ∀ (v941 : IVec S16 32) (k0_hw203 : k0_chk203 v941), ∀ a x, ((![v941] : Fin 1 → IVec S16 32) a x).toNat < S12288.size a := fun v941 k0_hw203 => k0_hw203

def k0_chk204 (v942 : IVec S16 32) : Prop :=
  (∀ a x, ((![v942] : Fin 1 → IVec S16 32) a x).toNat < S4096.size a)
theorem k0_idx204_inb : ∀ (v942 : IVec S16 32) (k0_hw204 : k0_chk204 v942), ∀ a x, ((![v942] : Fin 1 → IVec S16 32) a x).toNat < S4096.size a := fun v942 k0_hw204 => k0_hw204

def k0_chk205 (v946 : IVec S16 32) : Prop :=
  (∀ a x, ((![v946] : Fin 1 → IVec S16 32) a x).toNat < S12288.size a)
theorem k0_idx205_inb : ∀ (v946 : IVec S16 32) (k0_hw205 : k0_chk205 v946), ∀ a x, ((![v946] : Fin 1 → IVec S16 32) a x).toNat < S12288.size a := fun v946 k0_hw205 => k0_hw205

def k0_chk206 (v947 : IVec S16 32) : Prop :=
  (∀ a x, ((![v947] : Fin 1 → IVec S16 32) a x).toNat < S4096.size a)
theorem k0_idx206_inb : ∀ (v947 : IVec S16 32) (k0_hw206 : k0_chk206 v947), ∀ a x, ((![v947] : Fin 1 → IVec S16 32) a x).toNat < S4096.size a := fun v947 k0_hw206 => k0_hw206

def k0_chk207 (v950 : IVec S16 32) : Prop :=
  (∀ a x, ((![v950] : Fin 1 → IVec S16 32) a x).toNat < S16.size a)
theorem k0_idx207_inb : ∀ (v950 : IVec S16 32) (k0_hw207 : k0_chk207 v950), ∀ a x, ((![v950] : Fin 1 → IVec S16 32) a x).toNat < S16.size a := fun v950 k0_hw207 => k0_hw207

def k0_chk208 (v959 : IVec S16 32) : Prop :=
  (∀ a x, ((![v959] : Fin 1 → IVec S16 32) a x).toNat < S12288.size a)
theorem k0_idx208_inb : ∀ (v959 : IVec S16 32) (k0_hw208 : k0_chk208 v959), ∀ a x, ((![v959] : Fin 1 → IVec S16 32) a x).toNat < S12288.size a := fun v959 k0_hw208 => k0_hw208

def k0_chk209 (v960 : IVec S16 32) : Prop :=
  (∀ a x, ((![v960] : Fin 1 → IVec S16 32) a x).toNat < S4096.size a)
theorem k0_idx209_inb : ∀ (v960 : IVec S16 32) (k0_hw209 : k0_chk209 v960), ∀ a x, ((![v960] : Fin 1 → IVec S16 32) a x).toNat < S4096.size a := fun v960 k0_hw209 => k0_hw209

def k0_chk210 (v963 : IVec S16 32) : Prop :=
  (∀ a x, ((![v963] : Fin 1 → IVec S16 32) a x).toNat < S12288.size a)
theorem k0_idx210_inb : ∀ (v963 : IVec S16 32) (k0_hw210 : k0_chk210 v963), ∀ a x, ((![v963] : Fin 1 → IVec S16 32) a x).toNat < S12288.size a := fun v963 k0_hw210 => k0_hw210

def k0_chk211 (v964 : IVec S16 32) : Prop :=
  (∀ a x, ((![v964] : Fin 1 → IVec S16 32) a x).toNat < S4096.size a)
theorem k0_idx211_inb : ∀ (v964 : IVec S16 32) (k0_hw211 : k0_chk211 v964), ∀ a x, ((![v964] : Fin 1 → IVec S16 32) a x).toNat < S4096.size a := fun v964 k0_hw211 => k0_hw211

def k0_chk212 (v968 : IVec S16 32) : Prop :=
  (∀ a x, ((![v968] : Fin 1 → IVec S16 32) a x).toNat < S12288.size a)
theorem k0_idx212_inb : ∀ (v968 : IVec S16 32) (k0_hw212 : k0_chk212 v968), ∀ a x, ((![v968] : Fin 1 → IVec S16 32) a x).toNat < S12288.size a := fun v968 k0_hw212 => k0_hw212

def k0_chk213 (v969 : IVec S16 32) : Prop :=
  (∀ a x, ((![v969] : Fin 1 → IVec S16 32) a x).toNat < S4096.size a)
theorem k0_idx213_inb : ∀ (v969 : IVec S16 32) (k0_hw213 : k0_chk213 v969), ∀ a x, ((![v969] : Fin 1 → IVec S16 32) a x).toNat < S4096.size a := fun v969 k0_hw213 => k0_hw213

def k0_chk214 (v973 : IVec S16 32) : Prop :=
  (∀ a x, ((![v973] : Fin 1 → IVec S16 32) a x).toNat < S12288.size a)
theorem k0_idx214_inb : ∀ (v973 : IVec S16 32) (k0_hw214 : k0_chk214 v973), ∀ a x, ((![v973] : Fin 1 → IVec S16 32) a x).toNat < S12288.size a := fun v973 k0_hw214 => k0_hw214

def k0_chk215 (v974 : IVec S16 32) : Prop :=
  (∀ a x, ((![v974] : Fin 1 → IVec S16 32) a x).toNat < S4096.size a)
theorem k0_idx215_inb : ∀ (v974 : IVec S16 32) (k0_hw215 : k0_chk215 v974), ∀ a x, ((![v974] : Fin 1 → IVec S16 32) a x).toNat < S4096.size a := fun v974 k0_hw215 => k0_hw215

def k0_chk216 (v977 : IVec S16 32) : Prop :=
  (∀ a x, ((![v977] : Fin 1 → IVec S16 32) a x).toNat < S16.size a)
theorem k0_idx216_inb : ∀ (v977 : IVec S16 32) (k0_hw216 : k0_chk216 v977), ∀ a x, ((![v977] : Fin 1 → IVec S16 32) a x).toNat < S16.size a := fun v977 k0_hw216 => k0_hw216

def k0_chk217 (v986 : IVec S16 32) : Prop :=
  (∀ a x, ((![v986] : Fin 1 → IVec S16 32) a x).toNat < S12288.size a)
theorem k0_idx217_inb : ∀ (v986 : IVec S16 32) (k0_hw217 : k0_chk217 v986), ∀ a x, ((![v986] : Fin 1 → IVec S16 32) a x).toNat < S12288.size a := fun v986 k0_hw217 => k0_hw217

def k0_chk218 (v987 : IVec S16 32) : Prop :=
  (∀ a x, ((![v987] : Fin 1 → IVec S16 32) a x).toNat < S4096.size a)
theorem k0_idx218_inb : ∀ (v987 : IVec S16 32) (k0_hw218 : k0_chk218 v987), ∀ a x, ((![v987] : Fin 1 → IVec S16 32) a x).toNat < S4096.size a := fun v987 k0_hw218 => k0_hw218

def k0_chk219 (v990 : IVec S16 32) : Prop :=
  (∀ a x, ((![v990] : Fin 1 → IVec S16 32) a x).toNat < S12288.size a)
theorem k0_idx219_inb : ∀ (v990 : IVec S16 32) (k0_hw219 : k0_chk219 v990), ∀ a x, ((![v990] : Fin 1 → IVec S16 32) a x).toNat < S12288.size a := fun v990 k0_hw219 => k0_hw219

def k0_chk220 (v991 : IVec S16 32) : Prop :=
  (∀ a x, ((![v991] : Fin 1 → IVec S16 32) a x).toNat < S4096.size a)
theorem k0_idx220_inb : ∀ (v991 : IVec S16 32) (k0_hw220 : k0_chk220 v991), ∀ a x, ((![v991] : Fin 1 → IVec S16 32) a x).toNat < S4096.size a := fun v991 k0_hw220 => k0_hw220

def k0_chk221 (v995 : IVec S16 32) : Prop :=
  (∀ a x, ((![v995] : Fin 1 → IVec S16 32) a x).toNat < S12288.size a)
theorem k0_idx221_inb : ∀ (v995 : IVec S16 32) (k0_hw221 : k0_chk221 v995), ∀ a x, ((![v995] : Fin 1 → IVec S16 32) a x).toNat < S12288.size a := fun v995 k0_hw221 => k0_hw221

def k0_chk222 (v996 : IVec S16 32) : Prop :=
  (∀ a x, ((![v996] : Fin 1 → IVec S16 32) a x).toNat < S4096.size a)
theorem k0_idx222_inb : ∀ (v996 : IVec S16 32) (k0_hw222 : k0_chk222 v996), ∀ a x, ((![v996] : Fin 1 → IVec S16 32) a x).toNat < S4096.size a := fun v996 k0_hw222 => k0_hw222

def k0_chk223 (v1000 : IVec S16 32) : Prop :=
  (∀ a x, ((![v1000] : Fin 1 → IVec S16 32) a x).toNat < S12288.size a)
theorem k0_idx223_inb : ∀ (v1000 : IVec S16 32) (k0_hw223 : k0_chk223 v1000), ∀ a x, ((![v1000] : Fin 1 → IVec S16 32) a x).toNat < S12288.size a := fun v1000 k0_hw223 => k0_hw223

def k0_chk224 (v1001 : IVec S16 32) : Prop :=
  (∀ a x, ((![v1001] : Fin 1 → IVec S16 32) a x).toNat < S4096.size a)
theorem k0_idx224_inb : ∀ (v1001 : IVec S16 32) (k0_hw224 : k0_chk224 v1001), ∀ a x, ((![v1001] : Fin 1 → IVec S16 32) a x).toNat < S4096.size a := fun v1001 k0_hw224 => k0_hw224

def k0_chk225 (v1004 : IVec S16 32) : Prop :=
  (∀ a x, ((![v1004] : Fin 1 → IVec S16 32) a x).toNat < S16.size a)
theorem k0_idx225_inb : ∀ (v1004 : IVec S16 32) (k0_hw225 : k0_chk225 v1004), ∀ a x, ((![v1004] : Fin 1 → IVec S16 32) a x).toNat < S16.size a := fun v1004 k0_hw225 => k0_hw225

def k0_chk226 (v1013 : IVec S16 32) : Prop :=
  (∀ a x, ((![v1013] : Fin 1 → IVec S16 32) a x).toNat < S12288.size a)
theorem k0_idx226_inb : ∀ (v1013 : IVec S16 32) (k0_hw226 : k0_chk226 v1013), ∀ a x, ((![v1013] : Fin 1 → IVec S16 32) a x).toNat < S12288.size a := fun v1013 k0_hw226 => k0_hw226

def k0_chk227 (v1014 : IVec S16 32) : Prop :=
  (∀ a x, ((![v1014] : Fin 1 → IVec S16 32) a x).toNat < S4096.size a)
theorem k0_idx227_inb : ∀ (v1014 : IVec S16 32) (k0_hw227 : k0_chk227 v1014), ∀ a x, ((![v1014] : Fin 1 → IVec S16 32) a x).toNat < S4096.size a := fun v1014 k0_hw227 => k0_hw227

def k0_chk228 (v1017 : IVec S16 32) : Prop :=
  (∀ a x, ((![v1017] : Fin 1 → IVec S16 32) a x).toNat < S12288.size a)
theorem k0_idx228_inb : ∀ (v1017 : IVec S16 32) (k0_hw228 : k0_chk228 v1017), ∀ a x, ((![v1017] : Fin 1 → IVec S16 32) a x).toNat < S12288.size a := fun v1017 k0_hw228 => k0_hw228

def k0_chk229 (v1018 : IVec S16 32) : Prop :=
  (∀ a x, ((![v1018] : Fin 1 → IVec S16 32) a x).toNat < S4096.size a)
theorem k0_idx229_inb : ∀ (v1018 : IVec S16 32) (k0_hw229 : k0_chk229 v1018), ∀ a x, ((![v1018] : Fin 1 → IVec S16 32) a x).toNat < S4096.size a := fun v1018 k0_hw229 => k0_hw229

def k0_chk230 (v1022 : IVec S16 32) : Prop :=
  (∀ a x, ((![v1022] : Fin 1 → IVec S16 32) a x).toNat < S12288.size a)
theorem k0_idx230_inb : ∀ (v1022 : IVec S16 32) (k0_hw230 : k0_chk230 v1022), ∀ a x, ((![v1022] : Fin 1 → IVec S16 32) a x).toNat < S12288.size a := fun v1022 k0_hw230 => k0_hw230

def k0_chk231 (v1023 : IVec S16 32) : Prop :=
  (∀ a x, ((![v1023] : Fin 1 → IVec S16 32) a x).toNat < S4096.size a)
theorem k0_idx231_inb : ∀ (v1023 : IVec S16 32) (k0_hw231 : k0_chk231 v1023), ∀ a x, ((![v1023] : Fin 1 → IVec S16 32) a x).toNat < S4096.size a := fun v1023 k0_hw231 => k0_hw231

def k0_chk232 (v1027 : IVec S16 32) : Prop :=
  (∀ a x, ((![v1027] : Fin 1 → IVec S16 32) a x).toNat < S12288.size a)
theorem k0_idx232_inb : ∀ (v1027 : IVec S16 32) (k0_hw232 : k0_chk232 v1027), ∀ a x, ((![v1027] : Fin 1 → IVec S16 32) a x).toNat < S12288.size a := fun v1027 k0_hw232 => k0_hw232

def k0_chk233 (v1028 : IVec S16 32) : Prop :=
  (∀ a x, ((![v1028] : Fin 1 → IVec S16 32) a x).toNat < S4096.size a)
theorem k0_idx233_inb : ∀ (v1028 : IVec S16 32) (k0_hw233 : k0_chk233 v1028), ∀ a x, ((![v1028] : Fin 1 → IVec S16 32) a x).toNat < S4096.size a := fun v1028 k0_hw233 => k0_hw233

def k0_chk234 (v1031 : IVec S16 32) : Prop :=
  (∀ a x, ((![v1031] : Fin 1 → IVec S16 32) a x).toNat < S16.size a)
theorem k0_idx234_inb : ∀ (v1031 : IVec S16 32) (k0_hw234 : k0_chk234 v1031), ∀ a x, ((![v1031] : Fin 1 → IVec S16 32) a x).toNat < S16.size a := fun v1031 k0_hw234 => k0_hw234

def k0_chk235 (v1040 : IVec S16 32) : Prop :=
  (∀ a x, ((![v1040] : Fin 1 → IVec S16 32) a x).toNat < S12288.size a)
theorem k0_idx235_inb : ∀ (v1040 : IVec S16 32) (k0_hw235 : k0_chk235 v1040), ∀ a x, ((![v1040] : Fin 1 → IVec S16 32) a x).toNat < S12288.size a := fun v1040 k0_hw235 => k0_hw235

def k0_chk236 (v1041 : IVec S16 32) : Prop :=
  (∀ a x, ((![v1041] : Fin 1 → IVec S16 32) a x).toNat < S4096.size a)
theorem k0_idx236_inb : ∀ (v1041 : IVec S16 32) (k0_hw236 : k0_chk236 v1041), ∀ a x, ((![v1041] : Fin 1 → IVec S16 32) a x).toNat < S4096.size a := fun v1041 k0_hw236 => k0_hw236

def k0_chk237 (v1044 : IVec S16 32) : Prop :=
  (∀ a x, ((![v1044] : Fin 1 → IVec S16 32) a x).toNat < S12288.size a)
theorem k0_idx237_inb : ∀ (v1044 : IVec S16 32) (k0_hw237 : k0_chk237 v1044), ∀ a x, ((![v1044] : Fin 1 → IVec S16 32) a x).toNat < S12288.size a := fun v1044 k0_hw237 => k0_hw237

def k0_chk238 (v1045 : IVec S16 32) : Prop :=
  (∀ a x, ((![v1045] : Fin 1 → IVec S16 32) a x).toNat < S4096.size a)
theorem k0_idx238_inb : ∀ (v1045 : IVec S16 32) (k0_hw238 : k0_chk238 v1045), ∀ a x, ((![v1045] : Fin 1 → IVec S16 32) a x).toNat < S4096.size a := fun v1045 k0_hw238 => k0_hw238

def k0_chk239 (v1049 : IVec S16 32) : Prop :=
  (∀ a x, ((![v1049] : Fin 1 → IVec S16 32) a x).toNat < S12288.size a)
theorem k0_idx239_inb : ∀ (v1049 : IVec S16 32) (k0_hw239 : k0_chk239 v1049), ∀ a x, ((![v1049] : Fin 1 → IVec S16 32) a x).toNat < S12288.size a := fun v1049 k0_hw239 => k0_hw239

def k0_chk240 (v1050 : IVec S16 32) : Prop :=
  (∀ a x, ((![v1050] : Fin 1 → IVec S16 32) a x).toNat < S4096.size a)
theorem k0_idx240_inb : ∀ (v1050 : IVec S16 32) (k0_hw240 : k0_chk240 v1050), ∀ a x, ((![v1050] : Fin 1 → IVec S16 32) a x).toNat < S4096.size a := fun v1050 k0_hw240 => k0_hw240

def k0_chk241 (v1054 : IVec S16 32) : Prop :=
  (∀ a x, ((![v1054] : Fin 1 → IVec S16 32) a x).toNat < S12288.size a)
theorem k0_idx241_inb : ∀ (v1054 : IVec S16 32) (k0_hw241 : k0_chk241 v1054), ∀ a x, ((![v1054] : Fin 1 → IVec S16 32) a x).toNat < S12288.size a := fun v1054 k0_hw241 => k0_hw241

def k0_chk242 (v1055 : IVec S16 32) : Prop :=
  (∀ a x, ((![v1055] : Fin 1 → IVec S16 32) a x).toNat < S4096.size a)
theorem k0_idx242_inb : ∀ (v1055 : IVec S16 32) (k0_hw242 : k0_chk242 v1055), ∀ a x, ((![v1055] : Fin 1 → IVec S16 32) a x).toNat < S4096.size a := fun v1055 k0_hw242 => k0_hw242

def k0_chk243 (v1058 : IVec S16 32) : Prop :=
  (∀ a x, ((![v1058] : Fin 1 → IVec S16 32) a x).toNat < S16.size a)
theorem k0_idx243_inb : ∀ (v1058 : IVec S16 32) (k0_hw243 : k0_chk243 v1058), ∀ a x, ((![v1058] : Fin 1 → IVec S16 32) a x).toNat < S16.size a := fun v1058 k0_hw243 => k0_hw243

def k0_chk244 (v1067 : IVec S16 32) : Prop :=
  (∀ a x, ((![v1067] : Fin 1 → IVec S16 32) a x).toNat < S12288.size a)
theorem k0_idx244_inb : ∀ (v1067 : IVec S16 32) (k0_hw244 : k0_chk244 v1067), ∀ a x, ((![v1067] : Fin 1 → IVec S16 32) a x).toNat < S12288.size a := fun v1067 k0_hw244 => k0_hw244

def k0_chk245 (v1068 : IVec S16 32) : Prop :=
  (∀ a x, ((![v1068] : Fin 1 → IVec S16 32) a x).toNat < S4096.size a)
theorem k0_idx245_inb : ∀ (v1068 : IVec S16 32) (k0_hw245 : k0_chk245 v1068), ∀ a x, ((![v1068] : Fin 1 → IVec S16 32) a x).toNat < S4096.size a := fun v1068 k0_hw245 => k0_hw245

def k0_chk246 (v1071 : IVec S16 32) : Prop :=
  (∀ a x, ((![v1071] : Fin 1 → IVec S16 32) a x).toNat < S12288.size a)
theorem k0_idx246_inb : ∀ (v1071 : IVec S16 32) (k0_hw246 : k0_chk246 v1071), ∀ a x, ((![v1071] : Fin 1 → IVec S16 32) a x).toNat < S12288.size a := fun v1071 k0_hw246 => k0_hw246

def k0_chk247 (v1072 : IVec S16 32) : Prop :=
  (∀ a x, ((![v1072] : Fin 1 → IVec S16 32) a x).toNat < S4096.size a)
theorem k0_idx247_inb : ∀ (v1072 : IVec S16 32) (k0_hw247 : k0_chk247 v1072), ∀ a x, ((![v1072] : Fin 1 → IVec S16 32) a x).toNat < S4096.size a := fun v1072 k0_hw247 => k0_hw247

def k0_chk248 (v1076 : IVec S16 32) : Prop :=
  (∀ a x, ((![v1076] : Fin 1 → IVec S16 32) a x).toNat < S12288.size a)
theorem k0_idx248_inb : ∀ (v1076 : IVec S16 32) (k0_hw248 : k0_chk248 v1076), ∀ a x, ((![v1076] : Fin 1 → IVec S16 32) a x).toNat < S12288.size a := fun v1076 k0_hw248 => k0_hw248

def k0_chk249 (v1077 : IVec S16 32) : Prop :=
  (∀ a x, ((![v1077] : Fin 1 → IVec S16 32) a x).toNat < S4096.size a)
theorem k0_idx249_inb : ∀ (v1077 : IVec S16 32) (k0_hw249 : k0_chk249 v1077), ∀ a x, ((![v1077] : Fin 1 → IVec S16 32) a x).toNat < S4096.size a := fun v1077 k0_hw249 => k0_hw249

def k0_chk250 (v1081 : IVec S16 32) : Prop :=
  (∀ a x, ((![v1081] : Fin 1 → IVec S16 32) a x).toNat < S12288.size a)
theorem k0_idx250_inb : ∀ (v1081 : IVec S16 32) (k0_hw250 : k0_chk250 v1081), ∀ a x, ((![v1081] : Fin 1 → IVec S16 32) a x).toNat < S12288.size a := fun v1081 k0_hw250 => k0_hw250

def k0_chk251 (v1082 : IVec S16 32) : Prop :=
  (∀ a x, ((![v1082] : Fin 1 → IVec S16 32) a x).toNat < S4096.size a)
theorem k0_idx251_inb : ∀ (v1082 : IVec S16 32) (k0_hw251 : k0_chk251 v1082), ∀ a x, ((![v1082] : Fin 1 → IVec S16 32) a x).toNat < S4096.size a := fun v1082 k0_hw251 => k0_hw251

def k0_chk252 (v1085 : IVec S16 32) : Prop :=
  (∀ a x, ((![v1085] : Fin 1 → IVec S16 32) a x).toNat < S16.size a)
theorem k0_idx252_inb : ∀ (v1085 : IVec S16 32) (k0_hw252 : k0_chk252 v1085), ∀ a x, ((![v1085] : Fin 1 → IVec S16 32) a x).toNat < S16.size a := fun v1085 k0_hw252 => k0_hw252

def k0_chk253 (v1094 : IVec S16 32) : Prop :=
  (∀ a x, ((![v1094] : Fin 1 → IVec S16 32) a x).toNat < S12288.size a)
theorem k0_idx253_inb : ∀ (v1094 : IVec S16 32) (k0_hw253 : k0_chk253 v1094), ∀ a x, ((![v1094] : Fin 1 → IVec S16 32) a x).toNat < S12288.size a := fun v1094 k0_hw253 => k0_hw253

def k0_chk254 (v1095 : IVec S16 32) : Prop :=
  (∀ a x, ((![v1095] : Fin 1 → IVec S16 32) a x).toNat < S4096.size a)
theorem k0_idx254_inb : ∀ (v1095 : IVec S16 32) (k0_hw254 : k0_chk254 v1095), ∀ a x, ((![v1095] : Fin 1 → IVec S16 32) a x).toNat < S4096.size a := fun v1095 k0_hw254 => k0_hw254

def k0_chk255 (v1098 : IVec S16 32) : Prop :=
  (∀ a x, ((![v1098] : Fin 1 → IVec S16 32) a x).toNat < S12288.size a)
theorem k0_idx255_inb : ∀ (v1098 : IVec S16 32) (k0_hw255 : k0_chk255 v1098), ∀ a x, ((![v1098] : Fin 1 → IVec S16 32) a x).toNat < S12288.size a := fun v1098 k0_hw255 => k0_hw255

def k0_chk256 (v1099 : IVec S16 32) : Prop :=
  (∀ a x, ((![v1099] : Fin 1 → IVec S16 32) a x).toNat < S4096.size a)
theorem k0_idx256_inb : ∀ (v1099 : IVec S16 32) (k0_hw256 : k0_chk256 v1099), ∀ a x, ((![v1099] : Fin 1 → IVec S16 32) a x).toNat < S4096.size a := fun v1099 k0_hw256 => k0_hw256

def k0_chk257 (v1103 : IVec S16 32) : Prop :=
  (∀ a x, ((![v1103] : Fin 1 → IVec S16 32) a x).toNat < S12288.size a)
theorem k0_idx257_inb : ∀ (v1103 : IVec S16 32) (k0_hw257 : k0_chk257 v1103), ∀ a x, ((![v1103] : Fin 1 → IVec S16 32) a x).toNat < S12288.size a := fun v1103 k0_hw257 => k0_hw257

def k0_chk258 (v1104 : IVec S16 32) : Prop :=
  (∀ a x, ((![v1104] : Fin 1 → IVec S16 32) a x).toNat < S4096.size a)
theorem k0_idx258_inb : ∀ (v1104 : IVec S16 32) (k0_hw258 : k0_chk258 v1104), ∀ a x, ((![v1104] : Fin 1 → IVec S16 32) a x).toNat < S4096.size a := fun v1104 k0_hw258 => k0_hw258

def k0_chk259 (v1108 : IVec S16 32) : Prop :=
  (∀ a x, ((![v1108] : Fin 1 → IVec S16 32) a x).toNat < S12288.size a)
theorem k0_idx259_inb : ∀ (v1108 : IVec S16 32) (k0_hw259 : k0_chk259 v1108), ∀ a x, ((![v1108] : Fin 1 → IVec S16 32) a x).toNat < S12288.size a := fun v1108 k0_hw259 => k0_hw259

def k0_chk260 (v1109 : IVec S16 32) : Prop :=
  (∀ a x, ((![v1109] : Fin 1 → IVec S16 32) a x).toNat < S4096.size a)
theorem k0_idx260_inb : ∀ (v1109 : IVec S16 32) (k0_hw260 : k0_chk260 v1109), ∀ a x, ((![v1109] : Fin 1 → IVec S16 32) a x).toNat < S4096.size a := fun v1109 k0_hw260 => k0_hw260

def k0_chk261 (v1112 : IVec S16 32) : Prop :=
  (∀ a x, ((![v1112] : Fin 1 → IVec S16 32) a x).toNat < S16.size a)
theorem k0_idx261_inb : ∀ (v1112 : IVec S16 32) (k0_hw261 : k0_chk261 v1112), ∀ a x, ((![v1112] : Fin 1 → IVec S16 32) a x).toNat < S16.size a := fun v1112 k0_hw261 => k0_hw261

def k0_chk262 (v1121 : IVec S16 32) : Prop :=
  (∀ a x, ((![v1121] : Fin 1 → IVec S16 32) a x).toNat < S12288.size a)
theorem k0_idx262_inb : ∀ (v1121 : IVec S16 32) (k0_hw262 : k0_chk262 v1121), ∀ a x, ((![v1121] : Fin 1 → IVec S16 32) a x).toNat < S12288.size a := fun v1121 k0_hw262 => k0_hw262

def k0_chk263 (v1122 : IVec S16 32) : Prop :=
  (∀ a x, ((![v1122] : Fin 1 → IVec S16 32) a x).toNat < S4096.size a)
theorem k0_idx263_inb : ∀ (v1122 : IVec S16 32) (k0_hw263 : k0_chk263 v1122), ∀ a x, ((![v1122] : Fin 1 → IVec S16 32) a x).toNat < S4096.size a := fun v1122 k0_hw263 => k0_hw263

def k0_chk264 (v1125 : IVec S16 32) : Prop :=
  (∀ a x, ((![v1125] : Fin 1 → IVec S16 32) a x).toNat < S12288.size a)
theorem k0_idx264_inb : ∀ (v1125 : IVec S16 32) (k0_hw264 : k0_chk264 v1125), ∀ a x, ((![v1125] : Fin 1 → IVec S16 32) a x).toNat < S12288.size a := fun v1125 k0_hw264 => k0_hw264

def k0_chk265 (v1126 : IVec S16 32) : Prop :=
  (∀ a x, ((![v1126] : Fin 1 → IVec S16 32) a x).toNat < S4096.size a)
theorem k0_idx265_inb : ∀ (v1126 : IVec S16 32) (k0_hw265 : k0_chk265 v1126), ∀ a x, ((![v1126] : Fin 1 → IVec S16 32) a x).toNat < S4096.size a := fun v1126 k0_hw265 => k0_hw265

def k0_chk266 (v1130 : IVec S16 32) : Prop :=
  (∀ a x, ((![v1130] : Fin 1 → IVec S16 32) a x).toNat < S12288.size a)
theorem k0_idx266_inb : ∀ (v1130 : IVec S16 32) (k0_hw266 : k0_chk266 v1130), ∀ a x, ((![v1130] : Fin 1 → IVec S16 32) a x).toNat < S12288.size a := fun v1130 k0_hw266 => k0_hw266

def k0_chk267 (v1131 : IVec S16 32) : Prop :=
  (∀ a x, ((![v1131] : Fin 1 → IVec S16 32) a x).toNat < S4096.size a)
theorem k0_idx267_inb : ∀ (v1131 : IVec S16 32) (k0_hw267 : k0_chk267 v1131), ∀ a x, ((![v1131] : Fin 1 → IVec S16 32) a x).toNat < S4096.size a := fun v1131 k0_hw267 => k0_hw267

def k0_chk268 (v1135 : IVec S16 32) : Prop :=
  (∀ a x, ((![v1135] : Fin 1 → IVec S16 32) a x).toNat < S12288.size a)
theorem k0_idx268_inb : ∀ (v1135 : IVec S16 32) (k0_hw268 : k0_chk268 v1135), ∀ a x, ((![v1135] : Fin 1 → IVec S16 32) a x).toNat < S12288.size a := fun v1135 k0_hw268 => k0_hw268

def k0_chk269 (v1136 : IVec S16 32) : Prop :=
  (∀ a x, ((![v1136] : Fin 1 → IVec S16 32) a x).toNat < S4096.size a)
theorem k0_idx269_inb : ∀ (v1136 : IVec S16 32) (k0_hw269 : k0_chk269 v1136), ∀ a x, ((![v1136] : Fin 1 → IVec S16 32) a x).toNat < S4096.size a := fun v1136 k0_hw269 => k0_hw269

def k0_chk270 (v1139 : IVec S16 32) : Prop :=
  (∀ a x, ((![v1139] : Fin 1 → IVec S16 32) a x).toNat < S16.size a)
theorem k0_idx270_inb : ∀ (v1139 : IVec S16 32) (k0_hw270 : k0_chk270 v1139), ∀ a x, ((![v1139] : Fin 1 → IVec S16 32) a x).toNat < S16.size a := fun v1139 k0_hw270 => k0_hw270

def k0_chk271 (v1148 : IVec S16 32) : Prop :=
  (∀ a x, ((![v1148] : Fin 1 → IVec S16 32) a x).toNat < S12288.size a)
theorem k0_idx271_inb : ∀ (v1148 : IVec S16 32) (k0_hw271 : k0_chk271 v1148), ∀ a x, ((![v1148] : Fin 1 → IVec S16 32) a x).toNat < S12288.size a := fun v1148 k0_hw271 => k0_hw271

def k0_chk272 (v1149 : IVec S16 32) : Prop :=
  (∀ a x, ((![v1149] : Fin 1 → IVec S16 32) a x).toNat < S4096.size a)
theorem k0_idx272_inb : ∀ (v1149 : IVec S16 32) (k0_hw272 : k0_chk272 v1149), ∀ a x, ((![v1149] : Fin 1 → IVec S16 32) a x).toNat < S4096.size a := fun v1149 k0_hw272 => k0_hw272

def k0_chk273 (v1152 : IVec S16 32) : Prop :=
  (∀ a x, ((![v1152] : Fin 1 → IVec S16 32) a x).toNat < S12288.size a)
theorem k0_idx273_inb : ∀ (v1152 : IVec S16 32) (k0_hw273 : k0_chk273 v1152), ∀ a x, ((![v1152] : Fin 1 → IVec S16 32) a x).toNat < S12288.size a := fun v1152 k0_hw273 => k0_hw273

def k0_chk274 (v1153 : IVec S16 32) : Prop :=
  (∀ a x, ((![v1153] : Fin 1 → IVec S16 32) a x).toNat < S4096.size a)
theorem k0_idx274_inb : ∀ (v1153 : IVec S16 32) (k0_hw274 : k0_chk274 v1153), ∀ a x, ((![v1153] : Fin 1 → IVec S16 32) a x).toNat < S4096.size a := fun v1153 k0_hw274 => k0_hw274

def k0_chk275 (v1157 : IVec S16 32) : Prop :=
  (∀ a x, ((![v1157] : Fin 1 → IVec S16 32) a x).toNat < S12288.size a)
theorem k0_idx275_inb : ∀ (v1157 : IVec S16 32) (k0_hw275 : k0_chk275 v1157), ∀ a x, ((![v1157] : Fin 1 → IVec S16 32) a x).toNat < S12288.size a := fun v1157 k0_hw275 => k0_hw275

def k0_chk276 (v1158 : IVec S16 32) : Prop :=
  (∀ a x, ((![v1158] : Fin 1 → IVec S16 32) a x).toNat < S4096.size a)
theorem k0_idx276_inb : ∀ (v1158 : IVec S16 32) (k0_hw276 : k0_chk276 v1158), ∀ a x, ((![v1158] : Fin 1 → IVec S16 32) a x).toNat < S4096.size a := fun v1158 k0_hw276 => k0_hw276

def k0_chk277 (v1162 : IVec S16 32) : Prop :=
  (∀ a x, ((![v1162] : Fin 1 → IVec S16 32) a x).toNat < S12288.size a)
theorem k0_idx277_inb : ∀ (v1162 : IVec S16 32) (k0_hw277 : k0_chk277 v1162), ∀ a x, ((![v1162] : Fin 1 → IVec S16 32) a x).toNat < S12288.size a := fun v1162 k0_hw277 => k0_hw277

def k0_chk278 (v1163 : IVec S16 32) : Prop :=
  (∀ a x, ((![v1163] : Fin 1 → IVec S16 32) a x).toNat < S4096.size a)
theorem k0_idx278_inb : ∀ (v1163 : IVec S16 32) (k0_hw278 : k0_chk278 v1163), ∀ a x, ((![v1163] : Fin 1 → IVec S16 32) a x).toNat < S4096.size a := fun v1163 k0_hw278 => k0_hw278

def k0_chk279 (v1166 : IVec S16 32) : Prop :=
  (∀ a x, ((![v1166] : Fin 1 → IVec S16 32) a x).toNat < S16.size a)
theorem k0_idx279_inb : ∀ (v1166 : IVec S16 32) (k0_hw279 : k0_chk279 v1166), ∀ a x, ((![v1166] : Fin 1 → IVec S16 32) a x).toNat < S16.size a := fun v1166 k0_hw279 => k0_hw279

def k0_chk280 (v1175 : IVec S16 32) : Prop :=
  (∀ a x, ((![v1175] : Fin 1 → IVec S16 32) a x).toNat < S12288.size a)
theorem k0_idx280_inb : ∀ (v1175 : IVec S16 32) (k0_hw280 : k0_chk280 v1175), ∀ a x, ((![v1175] : Fin 1 → IVec S16 32) a x).toNat < S12288.size a := fun v1175 k0_hw280 => k0_hw280

def k0_chk281 (v1176 : IVec S16 32) : Prop :=
  (∀ a x, ((![v1176] : Fin 1 → IVec S16 32) a x).toNat < S4096.size a)
theorem k0_idx281_inb : ∀ (v1176 : IVec S16 32) (k0_hw281 : k0_chk281 v1176), ∀ a x, ((![v1176] : Fin 1 → IVec S16 32) a x).toNat < S4096.size a := fun v1176 k0_hw281 => k0_hw281

def k0_chk282 (v1179 : IVec S16 32) : Prop :=
  (∀ a x, ((![v1179] : Fin 1 → IVec S16 32) a x).toNat < S12288.size a)
theorem k0_idx282_inb : ∀ (v1179 : IVec S16 32) (k0_hw282 : k0_chk282 v1179), ∀ a x, ((![v1179] : Fin 1 → IVec S16 32) a x).toNat < S12288.size a := fun v1179 k0_hw282 => k0_hw282

def k0_chk283 (v1180 : IVec S16 32) : Prop :=
  (∀ a x, ((![v1180] : Fin 1 → IVec S16 32) a x).toNat < S4096.size a)
theorem k0_idx283_inb : ∀ (v1180 : IVec S16 32) (k0_hw283 : k0_chk283 v1180), ∀ a x, ((![v1180] : Fin 1 → IVec S16 32) a x).toNat < S4096.size a := fun v1180 k0_hw283 => k0_hw283

def k0_chk284 (v1184 : IVec S16 32) : Prop :=
  (∀ a x, ((![v1184] : Fin 1 → IVec S16 32) a x).toNat < S12288.size a)
theorem k0_idx284_inb : ∀ (v1184 : IVec S16 32) (k0_hw284 : k0_chk284 v1184), ∀ a x, ((![v1184] : Fin 1 → IVec S16 32) a x).toNat < S12288.size a := fun v1184 k0_hw284 => k0_hw284

def k0_chk285 (v1185 : IVec S16 32) : Prop :=
  (∀ a x, ((![v1185] : Fin 1 → IVec S16 32) a x).toNat < S4096.size a)
theorem k0_idx285_inb : ∀ (v1185 : IVec S16 32) (k0_hw285 : k0_chk285 v1185), ∀ a x, ((![v1185] : Fin 1 → IVec S16 32) a x).toNat < S4096.size a := fun v1185 k0_hw285 => k0_hw285

def k0_chk286 (v1189 : IVec S16 32) : Prop :=
  (∀ a x, ((![v1189] : Fin 1 → IVec S16 32) a x).toNat < S12288.size a)
theorem k0_idx286_inb : ∀ (v1189 : IVec S16 32) (k0_hw286 : k0_chk286 v1189), ∀ a x, ((![v1189] : Fin 1 → IVec S16 32) a x).toNat < S12288.size a := fun v1189 k0_hw286 => k0_hw286

def k0_chk287 (v1190 : IVec S16 32) : Prop :=
  (∀ a x, ((![v1190] : Fin 1 → IVec S16 32) a x).toNat < S4096.size a)
theorem k0_idx287_inb : ∀ (v1190 : IVec S16 32) (k0_hw287 : k0_chk287 v1190), ∀ a x, ((![v1190] : Fin 1 → IVec S16 32) a x).toNat < S4096.size a := fun v1190 k0_hw287 => k0_hw287

def k0_chk288 (v1193 : IVec S16 32) : Prop :=
  (∀ a x, ((![v1193] : Fin 1 → IVec S16 32) a x).toNat < S16.size a)
theorem k0_idx288_inb : ∀ (v1193 : IVec S16 32) (k0_hw288 : k0_chk288 v1193), ∀ a x, ((![v1193] : Fin 1 → IVec S16 32) a x).toNat < S16.size a := fun v1193 k0_hw288 => k0_hw288
def k0_off27 (i : grid0.Coords) : Fin 2 → Nat :=
  let c1_i32_298 : BitVec 32 := 1#32
  let arg1 : BitVec 32 := BitVec.ofNat 32 (i 1).val
  let c256_i32_297 : BitVec 32 := 256#32
  let v1201 : BitVec 32 := Scalar.muli arg1 c256_i32_297
  ![1, v1201.toNat]
def k0_off28 (i : grid0.Coords) : Fin 2 → Nat :=
  let c1_i32_301 : BitVec 32 := 1#32
  let arg1 : BitVec 32 := BitVec.ofNat 32 (i 1).val
  let c256_i32_299 : BitVec 32 := 256#32
  let v1202 : BitVec 32 := Scalar.muli arg1 c256_i32_299
  ![1, v1202.toNat]

def k0_chk289 (v1212 : IVec S16 32) : Prop :=
  (∀ a x, ((![v1212] : Fin 1 → IVec S16 32) a x).toNat < S12288.size a)
theorem k0_idx289_inb : ∀ (v1212 : IVec S16 32) (k0_hw289 : k0_chk289 v1212), ∀ a x, ((![v1212] : Fin 1 → IVec S16 32) a x).toNat < S12288.size a := fun v1212 k0_hw289 => k0_hw289

def k0_chk290 (v1213 : IVec S16 32) : Prop :=
  (∀ a x, ((![v1213] : Fin 1 → IVec S16 32) a x).toNat < S4096.size a)
theorem k0_idx290_inb : ∀ (v1213 : IVec S16 32) (k0_hw290 : k0_chk290 v1213), ∀ a x, ((![v1213] : Fin 1 → IVec S16 32) a x).toNat < S4096.size a := fun v1213 k0_hw290 => k0_hw290

def k0_chk291 (v1216 : IVec S16 32) : Prop :=
  (∀ a x, ((![v1216] : Fin 1 → IVec S16 32) a x).toNat < S12288.size a)
theorem k0_idx291_inb : ∀ (v1216 : IVec S16 32) (k0_hw291 : k0_chk291 v1216), ∀ a x, ((![v1216] : Fin 1 → IVec S16 32) a x).toNat < S12288.size a := fun v1216 k0_hw291 => k0_hw291

def k0_chk292 (v1217 : IVec S16 32) : Prop :=
  (∀ a x, ((![v1217] : Fin 1 → IVec S16 32) a x).toNat < S4096.size a)
theorem k0_idx292_inb : ∀ (v1217 : IVec S16 32) (k0_hw292 : k0_chk292 v1217), ∀ a x, ((![v1217] : Fin 1 → IVec S16 32) a x).toNat < S4096.size a := fun v1217 k0_hw292 => k0_hw292

def k0_chk293 (v1221 : IVec S16 32) : Prop :=
  (∀ a x, ((![v1221] : Fin 1 → IVec S16 32) a x).toNat < S12288.size a)
theorem k0_idx293_inb : ∀ (v1221 : IVec S16 32) (k0_hw293 : k0_chk293 v1221), ∀ a x, ((![v1221] : Fin 1 → IVec S16 32) a x).toNat < S12288.size a := fun v1221 k0_hw293 => k0_hw293

def k0_chk294 (v1222 : IVec S16 32) : Prop :=
  (∀ a x, ((![v1222] : Fin 1 → IVec S16 32) a x).toNat < S4096.size a)
theorem k0_idx294_inb : ∀ (v1222 : IVec S16 32) (k0_hw294 : k0_chk294 v1222), ∀ a x, ((![v1222] : Fin 1 → IVec S16 32) a x).toNat < S4096.size a := fun v1222 k0_hw294 => k0_hw294

def k0_chk295 (v1226 : IVec S16 32) : Prop :=
  (∀ a x, ((![v1226] : Fin 1 → IVec S16 32) a x).toNat < S12288.size a)
theorem k0_idx295_inb : ∀ (v1226 : IVec S16 32) (k0_hw295 : k0_chk295 v1226), ∀ a x, ((![v1226] : Fin 1 → IVec S16 32) a x).toNat < S12288.size a := fun v1226 k0_hw295 => k0_hw295

def k0_chk296 (v1227 : IVec S16 32) : Prop :=
  (∀ a x, ((![v1227] : Fin 1 → IVec S16 32) a x).toNat < S4096.size a)
theorem k0_idx296_inb : ∀ (v1227 : IVec S16 32) (k0_hw296 : k0_chk296 v1227), ∀ a x, ((![v1227] : Fin 1 → IVec S16 32) a x).toNat < S4096.size a := fun v1227 k0_hw296 => k0_hw296

def k0_chk297 (v1230 : IVec S16 32) : Prop :=
  (∀ a x, ((![v1230] : Fin 1 → IVec S16 32) a x).toNat < S16.size a)
theorem k0_idx297_inb : ∀ (v1230 : IVec S16 32) (k0_hw297 : k0_chk297 v1230), ∀ a x, ((![v1230] : Fin 1 → IVec S16 32) a x).toNat < S16.size a := fun v1230 k0_hw297 => k0_hw297

def k0_chk298 (v1239 : IVec S16 32) : Prop :=
  (∀ a x, ((![v1239] : Fin 1 → IVec S16 32) a x).toNat < S12288.size a)
theorem k0_idx298_inb : ∀ (v1239 : IVec S16 32) (k0_hw298 : k0_chk298 v1239), ∀ a x, ((![v1239] : Fin 1 → IVec S16 32) a x).toNat < S12288.size a := fun v1239 k0_hw298 => k0_hw298

def k0_chk299 (v1240 : IVec S16 32) : Prop :=
  (∀ a x, ((![v1240] : Fin 1 → IVec S16 32) a x).toNat < S4096.size a)
theorem k0_idx299_inb : ∀ (v1240 : IVec S16 32) (k0_hw299 : k0_chk299 v1240), ∀ a x, ((![v1240] : Fin 1 → IVec S16 32) a x).toNat < S4096.size a := fun v1240 k0_hw299 => k0_hw299

def k0_chk300 (v1243 : IVec S16 32) : Prop :=
  (∀ a x, ((![v1243] : Fin 1 → IVec S16 32) a x).toNat < S12288.size a)
theorem k0_idx300_inb : ∀ (v1243 : IVec S16 32) (k0_hw300 : k0_chk300 v1243), ∀ a x, ((![v1243] : Fin 1 → IVec S16 32) a x).toNat < S12288.size a := fun v1243 k0_hw300 => k0_hw300

def k0_chk301 (v1244 : IVec S16 32) : Prop :=
  (∀ a x, ((![v1244] : Fin 1 → IVec S16 32) a x).toNat < S4096.size a)
theorem k0_idx301_inb : ∀ (v1244 : IVec S16 32) (k0_hw301 : k0_chk301 v1244), ∀ a x, ((![v1244] : Fin 1 → IVec S16 32) a x).toNat < S4096.size a := fun v1244 k0_hw301 => k0_hw301

def k0_chk302 (v1248 : IVec S16 32) : Prop :=
  (∀ a x, ((![v1248] : Fin 1 → IVec S16 32) a x).toNat < S12288.size a)
theorem k0_idx302_inb : ∀ (v1248 : IVec S16 32) (k0_hw302 : k0_chk302 v1248), ∀ a x, ((![v1248] : Fin 1 → IVec S16 32) a x).toNat < S12288.size a := fun v1248 k0_hw302 => k0_hw302

def k0_chk303 (v1249 : IVec S16 32) : Prop :=
  (∀ a x, ((![v1249] : Fin 1 → IVec S16 32) a x).toNat < S4096.size a)
theorem k0_idx303_inb : ∀ (v1249 : IVec S16 32) (k0_hw303 : k0_chk303 v1249), ∀ a x, ((![v1249] : Fin 1 → IVec S16 32) a x).toNat < S4096.size a := fun v1249 k0_hw303 => k0_hw303

def k0_chk304 (v1253 : IVec S16 32) : Prop :=
  (∀ a x, ((![v1253] : Fin 1 → IVec S16 32) a x).toNat < S12288.size a)
theorem k0_idx304_inb : ∀ (v1253 : IVec S16 32) (k0_hw304 : k0_chk304 v1253), ∀ a x, ((![v1253] : Fin 1 → IVec S16 32) a x).toNat < S12288.size a := fun v1253 k0_hw304 => k0_hw304

def k0_chk305 (v1254 : IVec S16 32) : Prop :=
  (∀ a x, ((![v1254] : Fin 1 → IVec S16 32) a x).toNat < S4096.size a)
theorem k0_idx305_inb : ∀ (v1254 : IVec S16 32) (k0_hw305 : k0_chk305 v1254), ∀ a x, ((![v1254] : Fin 1 → IVec S16 32) a x).toNat < S4096.size a := fun v1254 k0_hw305 => k0_hw305

def k0_chk306 (v1257 : IVec S16 32) : Prop :=
  (∀ a x, ((![v1257] : Fin 1 → IVec S16 32) a x).toNat < S16.size a)
theorem k0_idx306_inb : ∀ (v1257 : IVec S16 32) (k0_hw306 : k0_chk306 v1257), ∀ a x, ((![v1257] : Fin 1 → IVec S16 32) a x).toNat < S16.size a := fun v1257 k0_hw306 => k0_hw306

def k0_chk307 (v1266 : IVec S16 32) : Prop :=
  (∀ a x, ((![v1266] : Fin 1 → IVec S16 32) a x).toNat < S12288.size a)
theorem k0_idx307_inb : ∀ (v1266 : IVec S16 32) (k0_hw307 : k0_chk307 v1266), ∀ a x, ((![v1266] : Fin 1 → IVec S16 32) a x).toNat < S12288.size a := fun v1266 k0_hw307 => k0_hw307

def k0_chk308 (v1267 : IVec S16 32) : Prop :=
  (∀ a x, ((![v1267] : Fin 1 → IVec S16 32) a x).toNat < S4096.size a)
theorem k0_idx308_inb : ∀ (v1267 : IVec S16 32) (k0_hw308 : k0_chk308 v1267), ∀ a x, ((![v1267] : Fin 1 → IVec S16 32) a x).toNat < S4096.size a := fun v1267 k0_hw308 => k0_hw308

def k0_chk309 (v1270 : IVec S16 32) : Prop :=
  (∀ a x, ((![v1270] : Fin 1 → IVec S16 32) a x).toNat < S12288.size a)
theorem k0_idx309_inb : ∀ (v1270 : IVec S16 32) (k0_hw309 : k0_chk309 v1270), ∀ a x, ((![v1270] : Fin 1 → IVec S16 32) a x).toNat < S12288.size a := fun v1270 k0_hw309 => k0_hw309

def k0_chk310 (v1271 : IVec S16 32) : Prop :=
  (∀ a x, ((![v1271] : Fin 1 → IVec S16 32) a x).toNat < S4096.size a)
theorem k0_idx310_inb : ∀ (v1271 : IVec S16 32) (k0_hw310 : k0_chk310 v1271), ∀ a x, ((![v1271] : Fin 1 → IVec S16 32) a x).toNat < S4096.size a := fun v1271 k0_hw310 => k0_hw310

def k0_chk311 (v1275 : IVec S16 32) : Prop :=
  (∀ a x, ((![v1275] : Fin 1 → IVec S16 32) a x).toNat < S12288.size a)
theorem k0_idx311_inb : ∀ (v1275 : IVec S16 32) (k0_hw311 : k0_chk311 v1275), ∀ a x, ((![v1275] : Fin 1 → IVec S16 32) a x).toNat < S12288.size a := fun v1275 k0_hw311 => k0_hw311

def k0_chk312 (v1276 : IVec S16 32) : Prop :=
  (∀ a x, ((![v1276] : Fin 1 → IVec S16 32) a x).toNat < S4096.size a)
theorem k0_idx312_inb : ∀ (v1276 : IVec S16 32) (k0_hw312 : k0_chk312 v1276), ∀ a x, ((![v1276] : Fin 1 → IVec S16 32) a x).toNat < S4096.size a := fun v1276 k0_hw312 => k0_hw312

def k0_chk313 (v1280 : IVec S16 32) : Prop :=
  (∀ a x, ((![v1280] : Fin 1 → IVec S16 32) a x).toNat < S12288.size a)
theorem k0_idx313_inb : ∀ (v1280 : IVec S16 32) (k0_hw313 : k0_chk313 v1280), ∀ a x, ((![v1280] : Fin 1 → IVec S16 32) a x).toNat < S12288.size a := fun v1280 k0_hw313 => k0_hw313

def k0_chk314 (v1281 : IVec S16 32) : Prop :=
  (∀ a x, ((![v1281] : Fin 1 → IVec S16 32) a x).toNat < S4096.size a)
theorem k0_idx314_inb : ∀ (v1281 : IVec S16 32) (k0_hw314 : k0_chk314 v1281), ∀ a x, ((![v1281] : Fin 1 → IVec S16 32) a x).toNat < S4096.size a := fun v1281 k0_hw314 => k0_hw314

def k0_chk315 (v1284 : IVec S16 32) : Prop :=
  (∀ a x, ((![v1284] : Fin 1 → IVec S16 32) a x).toNat < S16.size a)
theorem k0_idx315_inb : ∀ (v1284 : IVec S16 32) (k0_hw315 : k0_chk315 v1284), ∀ a x, ((![v1284] : Fin 1 → IVec S16 32) a x).toNat < S16.size a := fun v1284 k0_hw315 => k0_hw315

def k0_chk316 (v1293 : IVec S16 32) : Prop :=
  (∀ a x, ((![v1293] : Fin 1 → IVec S16 32) a x).toNat < S12288.size a)
theorem k0_idx316_inb : ∀ (v1293 : IVec S16 32) (k0_hw316 : k0_chk316 v1293), ∀ a x, ((![v1293] : Fin 1 → IVec S16 32) a x).toNat < S12288.size a := fun v1293 k0_hw316 => k0_hw316

def k0_chk317 (v1294 : IVec S16 32) : Prop :=
  (∀ a x, ((![v1294] : Fin 1 → IVec S16 32) a x).toNat < S4096.size a)
theorem k0_idx317_inb : ∀ (v1294 : IVec S16 32) (k0_hw317 : k0_chk317 v1294), ∀ a x, ((![v1294] : Fin 1 → IVec S16 32) a x).toNat < S4096.size a := fun v1294 k0_hw317 => k0_hw317

def k0_chk318 (v1297 : IVec S16 32) : Prop :=
  (∀ a x, ((![v1297] : Fin 1 → IVec S16 32) a x).toNat < S12288.size a)
theorem k0_idx318_inb : ∀ (v1297 : IVec S16 32) (k0_hw318 : k0_chk318 v1297), ∀ a x, ((![v1297] : Fin 1 → IVec S16 32) a x).toNat < S12288.size a := fun v1297 k0_hw318 => k0_hw318

def k0_chk319 (v1298 : IVec S16 32) : Prop :=
  (∀ a x, ((![v1298] : Fin 1 → IVec S16 32) a x).toNat < S4096.size a)
theorem k0_idx319_inb : ∀ (v1298 : IVec S16 32) (k0_hw319 : k0_chk319 v1298), ∀ a x, ((![v1298] : Fin 1 → IVec S16 32) a x).toNat < S4096.size a := fun v1298 k0_hw319 => k0_hw319

def k0_chk320 (v1302 : IVec S16 32) : Prop :=
  (∀ a x, ((![v1302] : Fin 1 → IVec S16 32) a x).toNat < S12288.size a)
theorem k0_idx320_inb : ∀ (v1302 : IVec S16 32) (k0_hw320 : k0_chk320 v1302), ∀ a x, ((![v1302] : Fin 1 → IVec S16 32) a x).toNat < S12288.size a := fun v1302 k0_hw320 => k0_hw320

def k0_chk321 (v1303 : IVec S16 32) : Prop :=
  (∀ a x, ((![v1303] : Fin 1 → IVec S16 32) a x).toNat < S4096.size a)
theorem k0_idx321_inb : ∀ (v1303 : IVec S16 32) (k0_hw321 : k0_chk321 v1303), ∀ a x, ((![v1303] : Fin 1 → IVec S16 32) a x).toNat < S4096.size a := fun v1303 k0_hw321 => k0_hw321

def k0_chk322 (v1307 : IVec S16 32) : Prop :=
  (∀ a x, ((![v1307] : Fin 1 → IVec S16 32) a x).toNat < S12288.size a)
theorem k0_idx322_inb : ∀ (v1307 : IVec S16 32) (k0_hw322 : k0_chk322 v1307), ∀ a x, ((![v1307] : Fin 1 → IVec S16 32) a x).toNat < S12288.size a := fun v1307 k0_hw322 => k0_hw322

def k0_chk323 (v1308 : IVec S16 32) : Prop :=
  (∀ a x, ((![v1308] : Fin 1 → IVec S16 32) a x).toNat < S4096.size a)
theorem k0_idx323_inb : ∀ (v1308 : IVec S16 32) (k0_hw323 : k0_chk323 v1308), ∀ a x, ((![v1308] : Fin 1 → IVec S16 32) a x).toNat < S4096.size a := fun v1308 k0_hw323 => k0_hw323

def k0_chk324 (v1311 : IVec S16 32) : Prop :=
  (∀ a x, ((![v1311] : Fin 1 → IVec S16 32) a x).toNat < S16.size a)
theorem k0_idx324_inb : ∀ (v1311 : IVec S16 32) (k0_hw324 : k0_chk324 v1311), ∀ a x, ((![v1311] : Fin 1 → IVec S16 32) a x).toNat < S16.size a := fun v1311 k0_hw324 => k0_hw324

def k0_chk325 (v1320 : IVec S16 32) : Prop :=
  (∀ a x, ((![v1320] : Fin 1 → IVec S16 32) a x).toNat < S12288.size a)
theorem k0_idx325_inb : ∀ (v1320 : IVec S16 32) (k0_hw325 : k0_chk325 v1320), ∀ a x, ((![v1320] : Fin 1 → IVec S16 32) a x).toNat < S12288.size a := fun v1320 k0_hw325 => k0_hw325

def k0_chk326 (v1321 : IVec S16 32) : Prop :=
  (∀ a x, ((![v1321] : Fin 1 → IVec S16 32) a x).toNat < S4096.size a)
theorem k0_idx326_inb : ∀ (v1321 : IVec S16 32) (k0_hw326 : k0_chk326 v1321), ∀ a x, ((![v1321] : Fin 1 → IVec S16 32) a x).toNat < S4096.size a := fun v1321 k0_hw326 => k0_hw326

def k0_chk327 (v1324 : IVec S16 32) : Prop :=
  (∀ a x, ((![v1324] : Fin 1 → IVec S16 32) a x).toNat < S12288.size a)
theorem k0_idx327_inb : ∀ (v1324 : IVec S16 32) (k0_hw327 : k0_chk327 v1324), ∀ a x, ((![v1324] : Fin 1 → IVec S16 32) a x).toNat < S12288.size a := fun v1324 k0_hw327 => k0_hw327

def k0_chk328 (v1325 : IVec S16 32) : Prop :=
  (∀ a x, ((![v1325] : Fin 1 → IVec S16 32) a x).toNat < S4096.size a)
theorem k0_idx328_inb : ∀ (v1325 : IVec S16 32) (k0_hw328 : k0_chk328 v1325), ∀ a x, ((![v1325] : Fin 1 → IVec S16 32) a x).toNat < S4096.size a := fun v1325 k0_hw328 => k0_hw328

def k0_chk329 (v1329 : IVec S16 32) : Prop :=
  (∀ a x, ((![v1329] : Fin 1 → IVec S16 32) a x).toNat < S12288.size a)
theorem k0_idx329_inb : ∀ (v1329 : IVec S16 32) (k0_hw329 : k0_chk329 v1329), ∀ a x, ((![v1329] : Fin 1 → IVec S16 32) a x).toNat < S12288.size a := fun v1329 k0_hw329 => k0_hw329

def k0_chk330 (v1330 : IVec S16 32) : Prop :=
  (∀ a x, ((![v1330] : Fin 1 → IVec S16 32) a x).toNat < S4096.size a)
theorem k0_idx330_inb : ∀ (v1330 : IVec S16 32) (k0_hw330 : k0_chk330 v1330), ∀ a x, ((![v1330] : Fin 1 → IVec S16 32) a x).toNat < S4096.size a := fun v1330 k0_hw330 => k0_hw330

def k0_chk331 (v1334 : IVec S16 32) : Prop :=
  (∀ a x, ((![v1334] : Fin 1 → IVec S16 32) a x).toNat < S12288.size a)
theorem k0_idx331_inb : ∀ (v1334 : IVec S16 32) (k0_hw331 : k0_chk331 v1334), ∀ a x, ((![v1334] : Fin 1 → IVec S16 32) a x).toNat < S12288.size a := fun v1334 k0_hw331 => k0_hw331

def k0_chk332 (v1335 : IVec S16 32) : Prop :=
  (∀ a x, ((![v1335] : Fin 1 → IVec S16 32) a x).toNat < S4096.size a)
theorem k0_idx332_inb : ∀ (v1335 : IVec S16 32) (k0_hw332 : k0_chk332 v1335), ∀ a x, ((![v1335] : Fin 1 → IVec S16 32) a x).toNat < S4096.size a := fun v1335 k0_hw332 => k0_hw332

def k0_chk333 (v1338 : IVec S16 32) : Prop :=
  (∀ a x, ((![v1338] : Fin 1 → IVec S16 32) a x).toNat < S16.size a)
theorem k0_idx333_inb : ∀ (v1338 : IVec S16 32) (k0_hw333 : k0_chk333 v1338), ∀ a x, ((![v1338] : Fin 1 → IVec S16 32) a x).toNat < S16.size a := fun v1338 k0_hw333 => k0_hw333

def k0_chk334 (v1347 : IVec S16 32) : Prop :=
  (∀ a x, ((![v1347] : Fin 1 → IVec S16 32) a x).toNat < S12288.size a)
theorem k0_idx334_inb : ∀ (v1347 : IVec S16 32) (k0_hw334 : k0_chk334 v1347), ∀ a x, ((![v1347] : Fin 1 → IVec S16 32) a x).toNat < S12288.size a := fun v1347 k0_hw334 => k0_hw334

def k0_chk335 (v1348 : IVec S16 32) : Prop :=
  (∀ a x, ((![v1348] : Fin 1 → IVec S16 32) a x).toNat < S4096.size a)
theorem k0_idx335_inb : ∀ (v1348 : IVec S16 32) (k0_hw335 : k0_chk335 v1348), ∀ a x, ((![v1348] : Fin 1 → IVec S16 32) a x).toNat < S4096.size a := fun v1348 k0_hw335 => k0_hw335

def k0_chk336 (v1351 : IVec S16 32) : Prop :=
  (∀ a x, ((![v1351] : Fin 1 → IVec S16 32) a x).toNat < S12288.size a)
theorem k0_idx336_inb : ∀ (v1351 : IVec S16 32) (k0_hw336 : k0_chk336 v1351), ∀ a x, ((![v1351] : Fin 1 → IVec S16 32) a x).toNat < S12288.size a := fun v1351 k0_hw336 => k0_hw336

def k0_chk337 (v1352 : IVec S16 32) : Prop :=
  (∀ a x, ((![v1352] : Fin 1 → IVec S16 32) a x).toNat < S4096.size a)
theorem k0_idx337_inb : ∀ (v1352 : IVec S16 32) (k0_hw337 : k0_chk337 v1352), ∀ a x, ((![v1352] : Fin 1 → IVec S16 32) a x).toNat < S4096.size a := fun v1352 k0_hw337 => k0_hw337

def k0_chk338 (v1356 : IVec S16 32) : Prop :=
  (∀ a x, ((![v1356] : Fin 1 → IVec S16 32) a x).toNat < S12288.size a)
theorem k0_idx338_inb : ∀ (v1356 : IVec S16 32) (k0_hw338 : k0_chk338 v1356), ∀ a x, ((![v1356] : Fin 1 → IVec S16 32) a x).toNat < S12288.size a := fun v1356 k0_hw338 => k0_hw338

def k0_chk339 (v1357 : IVec S16 32) : Prop :=
  (∀ a x, ((![v1357] : Fin 1 → IVec S16 32) a x).toNat < S4096.size a)
theorem k0_idx339_inb : ∀ (v1357 : IVec S16 32) (k0_hw339 : k0_chk339 v1357), ∀ a x, ((![v1357] : Fin 1 → IVec S16 32) a x).toNat < S4096.size a := fun v1357 k0_hw339 => k0_hw339

def k0_chk340 (v1361 : IVec S16 32) : Prop :=
  (∀ a x, ((![v1361] : Fin 1 → IVec S16 32) a x).toNat < S12288.size a)
theorem k0_idx340_inb : ∀ (v1361 : IVec S16 32) (k0_hw340 : k0_chk340 v1361), ∀ a x, ((![v1361] : Fin 1 → IVec S16 32) a x).toNat < S12288.size a := fun v1361 k0_hw340 => k0_hw340

def k0_chk341 (v1362 : IVec S16 32) : Prop :=
  (∀ a x, ((![v1362] : Fin 1 → IVec S16 32) a x).toNat < S4096.size a)
theorem k0_idx341_inb : ∀ (v1362 : IVec S16 32) (k0_hw341 : k0_chk341 v1362), ∀ a x, ((![v1362] : Fin 1 → IVec S16 32) a x).toNat < S4096.size a := fun v1362 k0_hw341 => k0_hw341

def k0_chk342 (v1365 : IVec S16 32) : Prop :=
  (∀ a x, ((![v1365] : Fin 1 → IVec S16 32) a x).toNat < S16.size a)
theorem k0_idx342_inb : ∀ (v1365 : IVec S16 32) (k0_hw342 : k0_chk342 v1365), ∀ a x, ((![v1365] : Fin 1 → IVec S16 32) a x).toNat < S16.size a := fun v1365 k0_hw342 => k0_hw342

def k0_chk343 (v1374 : IVec S16 32) : Prop :=
  (∀ a x, ((![v1374] : Fin 1 → IVec S16 32) a x).toNat < S12288.size a)
theorem k0_idx343_inb : ∀ (v1374 : IVec S16 32) (k0_hw343 : k0_chk343 v1374), ∀ a x, ((![v1374] : Fin 1 → IVec S16 32) a x).toNat < S12288.size a := fun v1374 k0_hw343 => k0_hw343

def k0_chk344 (v1375 : IVec S16 32) : Prop :=
  (∀ a x, ((![v1375] : Fin 1 → IVec S16 32) a x).toNat < S4096.size a)
theorem k0_idx344_inb : ∀ (v1375 : IVec S16 32) (k0_hw344 : k0_chk344 v1375), ∀ a x, ((![v1375] : Fin 1 → IVec S16 32) a x).toNat < S4096.size a := fun v1375 k0_hw344 => k0_hw344

def k0_chk345 (v1378 : IVec S16 32) : Prop :=
  (∀ a x, ((![v1378] : Fin 1 → IVec S16 32) a x).toNat < S12288.size a)
theorem k0_idx345_inb : ∀ (v1378 : IVec S16 32) (k0_hw345 : k0_chk345 v1378), ∀ a x, ((![v1378] : Fin 1 → IVec S16 32) a x).toNat < S12288.size a := fun v1378 k0_hw345 => k0_hw345

def k0_chk346 (v1379 : IVec S16 32) : Prop :=
  (∀ a x, ((![v1379] : Fin 1 → IVec S16 32) a x).toNat < S4096.size a)
theorem k0_idx346_inb : ∀ (v1379 : IVec S16 32) (k0_hw346 : k0_chk346 v1379), ∀ a x, ((![v1379] : Fin 1 → IVec S16 32) a x).toNat < S4096.size a := fun v1379 k0_hw346 => k0_hw346

def k0_chk347 (v1383 : IVec S16 32) : Prop :=
  (∀ a x, ((![v1383] : Fin 1 → IVec S16 32) a x).toNat < S12288.size a)
theorem k0_idx347_inb : ∀ (v1383 : IVec S16 32) (k0_hw347 : k0_chk347 v1383), ∀ a x, ((![v1383] : Fin 1 → IVec S16 32) a x).toNat < S12288.size a := fun v1383 k0_hw347 => k0_hw347

def k0_chk348 (v1384 : IVec S16 32) : Prop :=
  (∀ a x, ((![v1384] : Fin 1 → IVec S16 32) a x).toNat < S4096.size a)
theorem k0_idx348_inb : ∀ (v1384 : IVec S16 32) (k0_hw348 : k0_chk348 v1384), ∀ a x, ((![v1384] : Fin 1 → IVec S16 32) a x).toNat < S4096.size a := fun v1384 k0_hw348 => k0_hw348

def k0_chk349 (v1388 : IVec S16 32) : Prop :=
  (∀ a x, ((![v1388] : Fin 1 → IVec S16 32) a x).toNat < S12288.size a)
theorem k0_idx349_inb : ∀ (v1388 : IVec S16 32) (k0_hw349 : k0_chk349 v1388), ∀ a x, ((![v1388] : Fin 1 → IVec S16 32) a x).toNat < S12288.size a := fun v1388 k0_hw349 => k0_hw349

def k0_chk350 (v1389 : IVec S16 32) : Prop :=
  (∀ a x, ((![v1389] : Fin 1 → IVec S16 32) a x).toNat < S4096.size a)
theorem k0_idx350_inb : ∀ (v1389 : IVec S16 32) (k0_hw350 : k0_chk350 v1389), ∀ a x, ((![v1389] : Fin 1 → IVec S16 32) a x).toNat < S4096.size a := fun v1389 k0_hw350 => k0_hw350

def k0_chk351 (v1392 : IVec S16 32) : Prop :=
  (∀ a x, ((![v1392] : Fin 1 → IVec S16 32) a x).toNat < S16.size a)
theorem k0_idx351_inb : ∀ (v1392 : IVec S16 32) (k0_hw351 : k0_chk351 v1392), ∀ a x, ((![v1392] : Fin 1 → IVec S16 32) a x).toNat < S16.size a := fun v1392 k0_hw351 => k0_hw351

def k0_chk352 (v1401 : IVec S16 32) : Prop :=
  (∀ a x, ((![v1401] : Fin 1 → IVec S16 32) a x).toNat < S12288.size a)
theorem k0_idx352_inb : ∀ (v1401 : IVec S16 32) (k0_hw352 : k0_chk352 v1401), ∀ a x, ((![v1401] : Fin 1 → IVec S16 32) a x).toNat < S12288.size a := fun v1401 k0_hw352 => k0_hw352

def k0_chk353 (v1402 : IVec S16 32) : Prop :=
  (∀ a x, ((![v1402] : Fin 1 → IVec S16 32) a x).toNat < S4096.size a)
theorem k0_idx353_inb : ∀ (v1402 : IVec S16 32) (k0_hw353 : k0_chk353 v1402), ∀ a x, ((![v1402] : Fin 1 → IVec S16 32) a x).toNat < S4096.size a := fun v1402 k0_hw353 => k0_hw353

def k0_chk354 (v1405 : IVec S16 32) : Prop :=
  (∀ a x, ((![v1405] : Fin 1 → IVec S16 32) a x).toNat < S12288.size a)
theorem k0_idx354_inb : ∀ (v1405 : IVec S16 32) (k0_hw354 : k0_chk354 v1405), ∀ a x, ((![v1405] : Fin 1 → IVec S16 32) a x).toNat < S12288.size a := fun v1405 k0_hw354 => k0_hw354

def k0_chk355 (v1406 : IVec S16 32) : Prop :=
  (∀ a x, ((![v1406] : Fin 1 → IVec S16 32) a x).toNat < S4096.size a)
theorem k0_idx355_inb : ∀ (v1406 : IVec S16 32) (k0_hw355 : k0_chk355 v1406), ∀ a x, ((![v1406] : Fin 1 → IVec S16 32) a x).toNat < S4096.size a := fun v1406 k0_hw355 => k0_hw355

def k0_chk356 (v1410 : IVec S16 32) : Prop :=
  (∀ a x, ((![v1410] : Fin 1 → IVec S16 32) a x).toNat < S12288.size a)
theorem k0_idx356_inb : ∀ (v1410 : IVec S16 32) (k0_hw356 : k0_chk356 v1410), ∀ a x, ((![v1410] : Fin 1 → IVec S16 32) a x).toNat < S12288.size a := fun v1410 k0_hw356 => k0_hw356

def k0_chk357 (v1411 : IVec S16 32) : Prop :=
  (∀ a x, ((![v1411] : Fin 1 → IVec S16 32) a x).toNat < S4096.size a)
theorem k0_idx357_inb : ∀ (v1411 : IVec S16 32) (k0_hw357 : k0_chk357 v1411), ∀ a x, ((![v1411] : Fin 1 → IVec S16 32) a x).toNat < S4096.size a := fun v1411 k0_hw357 => k0_hw357

def k0_chk358 (v1415 : IVec S16 32) : Prop :=
  (∀ a x, ((![v1415] : Fin 1 → IVec S16 32) a x).toNat < S12288.size a)
theorem k0_idx358_inb : ∀ (v1415 : IVec S16 32) (k0_hw358 : k0_chk358 v1415), ∀ a x, ((![v1415] : Fin 1 → IVec S16 32) a x).toNat < S12288.size a := fun v1415 k0_hw358 => k0_hw358

def k0_chk359 (v1416 : IVec S16 32) : Prop :=
  (∀ a x, ((![v1416] : Fin 1 → IVec S16 32) a x).toNat < S4096.size a)
theorem k0_idx359_inb : ∀ (v1416 : IVec S16 32) (k0_hw359 : k0_chk359 v1416), ∀ a x, ((![v1416] : Fin 1 → IVec S16 32) a x).toNat < S4096.size a := fun v1416 k0_hw359 => k0_hw359

def k0_chk360 (v1419 : IVec S16 32) : Prop :=
  (∀ a x, ((![v1419] : Fin 1 → IVec S16 32) a x).toNat < S16.size a)
theorem k0_idx360_inb : ∀ (v1419 : IVec S16 32) (k0_hw360 : k0_chk360 v1419), ∀ a x, ((![v1419] : Fin 1 → IVec S16 32) a x).toNat < S16.size a := fun v1419 k0_hw360 => k0_hw360

def k0_chk361 (v1428 : IVec S16 32) : Prop :=
  (∀ a x, ((![v1428] : Fin 1 → IVec S16 32) a x).toNat < S12288.size a)
theorem k0_idx361_inb : ∀ (v1428 : IVec S16 32) (k0_hw361 : k0_chk361 v1428), ∀ a x, ((![v1428] : Fin 1 → IVec S16 32) a x).toNat < S12288.size a := fun v1428 k0_hw361 => k0_hw361

def k0_chk362 (v1429 : IVec S16 32) : Prop :=
  (∀ a x, ((![v1429] : Fin 1 → IVec S16 32) a x).toNat < S4096.size a)
theorem k0_idx362_inb : ∀ (v1429 : IVec S16 32) (k0_hw362 : k0_chk362 v1429), ∀ a x, ((![v1429] : Fin 1 → IVec S16 32) a x).toNat < S4096.size a := fun v1429 k0_hw362 => k0_hw362

def k0_chk363 (v1432 : IVec S16 32) : Prop :=
  (∀ a x, ((![v1432] : Fin 1 → IVec S16 32) a x).toNat < S12288.size a)
theorem k0_idx363_inb : ∀ (v1432 : IVec S16 32) (k0_hw363 : k0_chk363 v1432), ∀ a x, ((![v1432] : Fin 1 → IVec S16 32) a x).toNat < S12288.size a := fun v1432 k0_hw363 => k0_hw363

def k0_chk364 (v1433 : IVec S16 32) : Prop :=
  (∀ a x, ((![v1433] : Fin 1 → IVec S16 32) a x).toNat < S4096.size a)
theorem k0_idx364_inb : ∀ (v1433 : IVec S16 32) (k0_hw364 : k0_chk364 v1433), ∀ a x, ((![v1433] : Fin 1 → IVec S16 32) a x).toNat < S4096.size a := fun v1433 k0_hw364 => k0_hw364

def k0_chk365 (v1437 : IVec S16 32) : Prop :=
  (∀ a x, ((![v1437] : Fin 1 → IVec S16 32) a x).toNat < S12288.size a)
theorem k0_idx365_inb : ∀ (v1437 : IVec S16 32) (k0_hw365 : k0_chk365 v1437), ∀ a x, ((![v1437] : Fin 1 → IVec S16 32) a x).toNat < S12288.size a := fun v1437 k0_hw365 => k0_hw365

def k0_chk366 (v1438 : IVec S16 32) : Prop :=
  (∀ a x, ((![v1438] : Fin 1 → IVec S16 32) a x).toNat < S4096.size a)
theorem k0_idx366_inb : ∀ (v1438 : IVec S16 32) (k0_hw366 : k0_chk366 v1438), ∀ a x, ((![v1438] : Fin 1 → IVec S16 32) a x).toNat < S4096.size a := fun v1438 k0_hw366 => k0_hw366

def k0_chk367 (v1442 : IVec S16 32) : Prop :=
  (∀ a x, ((![v1442] : Fin 1 → IVec S16 32) a x).toNat < S12288.size a)
theorem k0_idx367_inb : ∀ (v1442 : IVec S16 32) (k0_hw367 : k0_chk367 v1442), ∀ a x, ((![v1442] : Fin 1 → IVec S16 32) a x).toNat < S12288.size a := fun v1442 k0_hw367 => k0_hw367

def k0_chk368 (v1443 : IVec S16 32) : Prop :=
  (∀ a x, ((![v1443] : Fin 1 → IVec S16 32) a x).toNat < S4096.size a)
theorem k0_idx368_inb : ∀ (v1443 : IVec S16 32) (k0_hw368 : k0_chk368 v1443), ∀ a x, ((![v1443] : Fin 1 → IVec S16 32) a x).toNat < S4096.size a := fun v1443 k0_hw368 => k0_hw368

def k0_chk369 (v1446 : IVec S16 32) : Prop :=
  (∀ a x, ((![v1446] : Fin 1 → IVec S16 32) a x).toNat < S16.size a)
theorem k0_idx369_inb : ∀ (v1446 : IVec S16 32) (k0_hw369 : k0_chk369 v1446), ∀ a x, ((![v1446] : Fin 1 → IVec S16 32) a x).toNat < S16.size a := fun v1446 k0_hw369 => k0_hw369

def k0_chk370 (v1455 : IVec S16 32) : Prop :=
  (∀ a x, ((![v1455] : Fin 1 → IVec S16 32) a x).toNat < S12288.size a)
theorem k0_idx370_inb : ∀ (v1455 : IVec S16 32) (k0_hw370 : k0_chk370 v1455), ∀ a x, ((![v1455] : Fin 1 → IVec S16 32) a x).toNat < S12288.size a := fun v1455 k0_hw370 => k0_hw370

def k0_chk371 (v1456 : IVec S16 32) : Prop :=
  (∀ a x, ((![v1456] : Fin 1 → IVec S16 32) a x).toNat < S4096.size a)
theorem k0_idx371_inb : ∀ (v1456 : IVec S16 32) (k0_hw371 : k0_chk371 v1456), ∀ a x, ((![v1456] : Fin 1 → IVec S16 32) a x).toNat < S4096.size a := fun v1456 k0_hw371 => k0_hw371

def k0_chk372 (v1459 : IVec S16 32) : Prop :=
  (∀ a x, ((![v1459] : Fin 1 → IVec S16 32) a x).toNat < S12288.size a)
theorem k0_idx372_inb : ∀ (v1459 : IVec S16 32) (k0_hw372 : k0_chk372 v1459), ∀ a x, ((![v1459] : Fin 1 → IVec S16 32) a x).toNat < S12288.size a := fun v1459 k0_hw372 => k0_hw372

def k0_chk373 (v1460 : IVec S16 32) : Prop :=
  (∀ a x, ((![v1460] : Fin 1 → IVec S16 32) a x).toNat < S4096.size a)
theorem k0_idx373_inb : ∀ (v1460 : IVec S16 32) (k0_hw373 : k0_chk373 v1460), ∀ a x, ((![v1460] : Fin 1 → IVec S16 32) a x).toNat < S4096.size a := fun v1460 k0_hw373 => k0_hw373

def k0_chk374 (v1464 : IVec S16 32) : Prop :=
  (∀ a x, ((![v1464] : Fin 1 → IVec S16 32) a x).toNat < S12288.size a)
theorem k0_idx374_inb : ∀ (v1464 : IVec S16 32) (k0_hw374 : k0_chk374 v1464), ∀ a x, ((![v1464] : Fin 1 → IVec S16 32) a x).toNat < S12288.size a := fun v1464 k0_hw374 => k0_hw374

def k0_chk375 (v1465 : IVec S16 32) : Prop :=
  (∀ a x, ((![v1465] : Fin 1 → IVec S16 32) a x).toNat < S4096.size a)
theorem k0_idx375_inb : ∀ (v1465 : IVec S16 32) (k0_hw375 : k0_chk375 v1465), ∀ a x, ((![v1465] : Fin 1 → IVec S16 32) a x).toNat < S4096.size a := fun v1465 k0_hw375 => k0_hw375

def k0_chk376 (v1469 : IVec S16 32) : Prop :=
  (∀ a x, ((![v1469] : Fin 1 → IVec S16 32) a x).toNat < S12288.size a)
theorem k0_idx376_inb : ∀ (v1469 : IVec S16 32) (k0_hw376 : k0_chk376 v1469), ∀ a x, ((![v1469] : Fin 1 → IVec S16 32) a x).toNat < S12288.size a := fun v1469 k0_hw376 => k0_hw376

def k0_chk377 (v1470 : IVec S16 32) : Prop :=
  (∀ a x, ((![v1470] : Fin 1 → IVec S16 32) a x).toNat < S4096.size a)
theorem k0_idx377_inb : ∀ (v1470 : IVec S16 32) (k0_hw377 : k0_chk377 v1470), ∀ a x, ((![v1470] : Fin 1 → IVec S16 32) a x).toNat < S4096.size a := fun v1470 k0_hw377 => k0_hw377

def k0_chk378 (v1473 : IVec S16 32) : Prop :=
  (∀ a x, ((![v1473] : Fin 1 → IVec S16 32) a x).toNat < S16.size a)
theorem k0_idx378_inb : ∀ (v1473 : IVec S16 32) (k0_hw378 : k0_chk378 v1473), ∀ a x, ((![v1473] : Fin 1 → IVec S16 32) a x).toNat < S16.size a := fun v1473 k0_hw378 => k0_hw378

def k0_chk379 (v1482 : IVec S16 32) : Prop :=
  (∀ a x, ((![v1482] : Fin 1 → IVec S16 32) a x).toNat < S12288.size a)
theorem k0_idx379_inb : ∀ (v1482 : IVec S16 32) (k0_hw379 : k0_chk379 v1482), ∀ a x, ((![v1482] : Fin 1 → IVec S16 32) a x).toNat < S12288.size a := fun v1482 k0_hw379 => k0_hw379

def k0_chk380 (v1483 : IVec S16 32) : Prop :=
  (∀ a x, ((![v1483] : Fin 1 → IVec S16 32) a x).toNat < S4096.size a)
theorem k0_idx380_inb : ∀ (v1483 : IVec S16 32) (k0_hw380 : k0_chk380 v1483), ∀ a x, ((![v1483] : Fin 1 → IVec S16 32) a x).toNat < S4096.size a := fun v1483 k0_hw380 => k0_hw380

def k0_chk381 (v1486 : IVec S16 32) : Prop :=
  (∀ a x, ((![v1486] : Fin 1 → IVec S16 32) a x).toNat < S12288.size a)
theorem k0_idx381_inb : ∀ (v1486 : IVec S16 32) (k0_hw381 : k0_chk381 v1486), ∀ a x, ((![v1486] : Fin 1 → IVec S16 32) a x).toNat < S12288.size a := fun v1486 k0_hw381 => k0_hw381

def k0_chk382 (v1487 : IVec S16 32) : Prop :=
  (∀ a x, ((![v1487] : Fin 1 → IVec S16 32) a x).toNat < S4096.size a)
theorem k0_idx382_inb : ∀ (v1487 : IVec S16 32) (k0_hw382 : k0_chk382 v1487), ∀ a x, ((![v1487] : Fin 1 → IVec S16 32) a x).toNat < S4096.size a := fun v1487 k0_hw382 => k0_hw382

def k0_chk383 (v1491 : IVec S16 32) : Prop :=
  (∀ a x, ((![v1491] : Fin 1 → IVec S16 32) a x).toNat < S12288.size a)
theorem k0_idx383_inb : ∀ (v1491 : IVec S16 32) (k0_hw383 : k0_chk383 v1491), ∀ a x, ((![v1491] : Fin 1 → IVec S16 32) a x).toNat < S12288.size a := fun v1491 k0_hw383 => k0_hw383

def k0_chk384 (v1492 : IVec S16 32) : Prop :=
  (∀ a x, ((![v1492] : Fin 1 → IVec S16 32) a x).toNat < S4096.size a)
theorem k0_idx384_inb : ∀ (v1492 : IVec S16 32) (k0_hw384 : k0_chk384 v1492), ∀ a x, ((![v1492] : Fin 1 → IVec S16 32) a x).toNat < S4096.size a := fun v1492 k0_hw384 => k0_hw384

def k0_chk385 (v1496 : IVec S16 32) : Prop :=
  (∀ a x, ((![v1496] : Fin 1 → IVec S16 32) a x).toNat < S12288.size a)
theorem k0_idx385_inb : ∀ (v1496 : IVec S16 32) (k0_hw385 : k0_chk385 v1496), ∀ a x, ((![v1496] : Fin 1 → IVec S16 32) a x).toNat < S12288.size a := fun v1496 k0_hw385 => k0_hw385

def k0_chk386 (v1497 : IVec S16 32) : Prop :=
  (∀ a x, ((![v1497] : Fin 1 → IVec S16 32) a x).toNat < S4096.size a)
theorem k0_idx386_inb : ∀ (v1497 : IVec S16 32) (k0_hw386 : k0_chk386 v1497), ∀ a x, ((![v1497] : Fin 1 → IVec S16 32) a x).toNat < S4096.size a := fun v1497 k0_hw386 => k0_hw386

def k0_chk387 (v1500 : IVec S16 32) : Prop :=
  (∀ a x, ((![v1500] : Fin 1 → IVec S16 32) a x).toNat < S16.size a)
theorem k0_idx387_inb : ∀ (v1500 : IVec S16 32) (k0_hw387 : k0_chk387 v1500), ∀ a x, ((![v1500] : Fin 1 → IVec S16 32) a x).toNat < S16.size a := fun v1500 k0_hw387 => k0_hw387

def k0_chk388 (v1509 : IVec S16 32) : Prop :=
  (∀ a x, ((![v1509] : Fin 1 → IVec S16 32) a x).toNat < S12288.size a)
theorem k0_idx388_inb : ∀ (v1509 : IVec S16 32) (k0_hw388 : k0_chk388 v1509), ∀ a x, ((![v1509] : Fin 1 → IVec S16 32) a x).toNat < S12288.size a := fun v1509 k0_hw388 => k0_hw388

def k0_chk389 (v1510 : IVec S16 32) : Prop :=
  (∀ a x, ((![v1510] : Fin 1 → IVec S16 32) a x).toNat < S4096.size a)
theorem k0_idx389_inb : ∀ (v1510 : IVec S16 32) (k0_hw389 : k0_chk389 v1510), ∀ a x, ((![v1510] : Fin 1 → IVec S16 32) a x).toNat < S4096.size a := fun v1510 k0_hw389 => k0_hw389

def k0_chk390 (v1513 : IVec S16 32) : Prop :=
  (∀ a x, ((![v1513] : Fin 1 → IVec S16 32) a x).toNat < S12288.size a)
theorem k0_idx390_inb : ∀ (v1513 : IVec S16 32) (k0_hw390 : k0_chk390 v1513), ∀ a x, ((![v1513] : Fin 1 → IVec S16 32) a x).toNat < S12288.size a := fun v1513 k0_hw390 => k0_hw390

def k0_chk391 (v1514 : IVec S16 32) : Prop :=
  (∀ a x, ((![v1514] : Fin 1 → IVec S16 32) a x).toNat < S4096.size a)
theorem k0_idx391_inb : ∀ (v1514 : IVec S16 32) (k0_hw391 : k0_chk391 v1514), ∀ a x, ((![v1514] : Fin 1 → IVec S16 32) a x).toNat < S4096.size a := fun v1514 k0_hw391 => k0_hw391

def k0_chk392 (v1518 : IVec S16 32) : Prop :=
  (∀ a x, ((![v1518] : Fin 1 → IVec S16 32) a x).toNat < S12288.size a)
theorem k0_idx392_inb : ∀ (v1518 : IVec S16 32) (k0_hw392 : k0_chk392 v1518), ∀ a x, ((![v1518] : Fin 1 → IVec S16 32) a x).toNat < S12288.size a := fun v1518 k0_hw392 => k0_hw392

def k0_chk393 (v1519 : IVec S16 32) : Prop :=
  (∀ a x, ((![v1519] : Fin 1 → IVec S16 32) a x).toNat < S4096.size a)
theorem k0_idx393_inb : ∀ (v1519 : IVec S16 32) (k0_hw393 : k0_chk393 v1519), ∀ a x, ((![v1519] : Fin 1 → IVec S16 32) a x).toNat < S4096.size a := fun v1519 k0_hw393 => k0_hw393

def k0_chk394 (v1523 : IVec S16 32) : Prop :=
  (∀ a x, ((![v1523] : Fin 1 → IVec S16 32) a x).toNat < S12288.size a)
theorem k0_idx394_inb : ∀ (v1523 : IVec S16 32) (k0_hw394 : k0_chk394 v1523), ∀ a x, ((![v1523] : Fin 1 → IVec S16 32) a x).toNat < S12288.size a := fun v1523 k0_hw394 => k0_hw394

def k0_chk395 (v1524 : IVec S16 32) : Prop :=
  (∀ a x, ((![v1524] : Fin 1 → IVec S16 32) a x).toNat < S4096.size a)
theorem k0_idx395_inb : ∀ (v1524 : IVec S16 32) (k0_hw395 : k0_chk395 v1524), ∀ a x, ((![v1524] : Fin 1 → IVec S16 32) a x).toNat < S4096.size a := fun v1524 k0_hw395 => k0_hw395

def k0_chk396 (v1527 : IVec S16 32) : Prop :=
  (∀ a x, ((![v1527] : Fin 1 → IVec S16 32) a x).toNat < S16.size a)
theorem k0_idx396_inb : ∀ (v1527 : IVec S16 32) (k0_hw396 : k0_chk396 v1527), ∀ a x, ((![v1527] : Fin 1 → IVec S16 32) a x).toNat < S16.size a := fun v1527 k0_hw396 => k0_hw396

def k0_chk397 (v1536 : IVec S16 32) : Prop :=
  (∀ a x, ((![v1536] : Fin 1 → IVec S16 32) a x).toNat < S12288.size a)
theorem k0_idx397_inb : ∀ (v1536 : IVec S16 32) (k0_hw397 : k0_chk397 v1536), ∀ a x, ((![v1536] : Fin 1 → IVec S16 32) a x).toNat < S12288.size a := fun v1536 k0_hw397 => k0_hw397

def k0_chk398 (v1537 : IVec S16 32) : Prop :=
  (∀ a x, ((![v1537] : Fin 1 → IVec S16 32) a x).toNat < S4096.size a)
theorem k0_idx398_inb : ∀ (v1537 : IVec S16 32) (k0_hw398 : k0_chk398 v1537), ∀ a x, ((![v1537] : Fin 1 → IVec S16 32) a x).toNat < S4096.size a := fun v1537 k0_hw398 => k0_hw398

def k0_chk399 (v1540 : IVec S16 32) : Prop :=
  (∀ a x, ((![v1540] : Fin 1 → IVec S16 32) a x).toNat < S12288.size a)
theorem k0_idx399_inb : ∀ (v1540 : IVec S16 32) (k0_hw399 : k0_chk399 v1540), ∀ a x, ((![v1540] : Fin 1 → IVec S16 32) a x).toNat < S12288.size a := fun v1540 k0_hw399 => k0_hw399

def k0_chk400 (v1541 : IVec S16 32) : Prop :=
  (∀ a x, ((![v1541] : Fin 1 → IVec S16 32) a x).toNat < S4096.size a)
theorem k0_idx400_inb : ∀ (v1541 : IVec S16 32) (k0_hw400 : k0_chk400 v1541), ∀ a x, ((![v1541] : Fin 1 → IVec S16 32) a x).toNat < S4096.size a := fun v1541 k0_hw400 => k0_hw400

def k0_chk401 (v1545 : IVec S16 32) : Prop :=
  (∀ a x, ((![v1545] : Fin 1 → IVec S16 32) a x).toNat < S12288.size a)
theorem k0_idx401_inb : ∀ (v1545 : IVec S16 32) (k0_hw401 : k0_chk401 v1545), ∀ a x, ((![v1545] : Fin 1 → IVec S16 32) a x).toNat < S12288.size a := fun v1545 k0_hw401 => k0_hw401

def k0_chk402 (v1546 : IVec S16 32) : Prop :=
  (∀ a x, ((![v1546] : Fin 1 → IVec S16 32) a x).toNat < S4096.size a)
theorem k0_idx402_inb : ∀ (v1546 : IVec S16 32) (k0_hw402 : k0_chk402 v1546), ∀ a x, ((![v1546] : Fin 1 → IVec S16 32) a x).toNat < S4096.size a := fun v1546 k0_hw402 => k0_hw402

def k0_chk403 (v1550 : IVec S16 32) : Prop :=
  (∀ a x, ((![v1550] : Fin 1 → IVec S16 32) a x).toNat < S12288.size a)
theorem k0_idx403_inb : ∀ (v1550 : IVec S16 32) (k0_hw403 : k0_chk403 v1550), ∀ a x, ((![v1550] : Fin 1 → IVec S16 32) a x).toNat < S12288.size a := fun v1550 k0_hw403 => k0_hw403

def k0_chk404 (v1551 : IVec S16 32) : Prop :=
  (∀ a x, ((![v1551] : Fin 1 → IVec S16 32) a x).toNat < S4096.size a)
theorem k0_idx404_inb : ∀ (v1551 : IVec S16 32) (k0_hw404 : k0_chk404 v1551), ∀ a x, ((![v1551] : Fin 1 → IVec S16 32) a x).toNat < S4096.size a := fun v1551 k0_hw404 => k0_hw404

def k0_chk405 (v1554 : IVec S16 32) : Prop :=
  (∀ a x, ((![v1554] : Fin 1 → IVec S16 32) a x).toNat < S16.size a)
theorem k0_idx405_inb : ∀ (v1554 : IVec S16 32) (k0_hw405 : k0_chk405 v1554), ∀ a x, ((![v1554] : Fin 1 → IVec S16 32) a x).toNat < S16.size a := fun v1554 k0_hw405 => k0_hw405

def k0_chk406 (v1563 : IVec S16 32) : Prop :=
  (∀ a x, ((![v1563] : Fin 1 → IVec S16 32) a x).toNat < S12288.size a)
theorem k0_idx406_inb : ∀ (v1563 : IVec S16 32) (k0_hw406 : k0_chk406 v1563), ∀ a x, ((![v1563] : Fin 1 → IVec S16 32) a x).toNat < S12288.size a := fun v1563 k0_hw406 => k0_hw406

def k0_chk407 (v1564 : IVec S16 32) : Prop :=
  (∀ a x, ((![v1564] : Fin 1 → IVec S16 32) a x).toNat < S4096.size a)
theorem k0_idx407_inb : ∀ (v1564 : IVec S16 32) (k0_hw407 : k0_chk407 v1564), ∀ a x, ((![v1564] : Fin 1 → IVec S16 32) a x).toNat < S4096.size a := fun v1564 k0_hw407 => k0_hw407

def k0_chk408 (v1567 : IVec S16 32) : Prop :=
  (∀ a x, ((![v1567] : Fin 1 → IVec S16 32) a x).toNat < S12288.size a)
theorem k0_idx408_inb : ∀ (v1567 : IVec S16 32) (k0_hw408 : k0_chk408 v1567), ∀ a x, ((![v1567] : Fin 1 → IVec S16 32) a x).toNat < S12288.size a := fun v1567 k0_hw408 => k0_hw408

def k0_chk409 (v1568 : IVec S16 32) : Prop :=
  (∀ a x, ((![v1568] : Fin 1 → IVec S16 32) a x).toNat < S4096.size a)
theorem k0_idx409_inb : ∀ (v1568 : IVec S16 32) (k0_hw409 : k0_chk409 v1568), ∀ a x, ((![v1568] : Fin 1 → IVec S16 32) a x).toNat < S4096.size a := fun v1568 k0_hw409 => k0_hw409

def k0_chk410 (v1572 : IVec S16 32) : Prop :=
  (∀ a x, ((![v1572] : Fin 1 → IVec S16 32) a x).toNat < S12288.size a)
theorem k0_idx410_inb : ∀ (v1572 : IVec S16 32) (k0_hw410 : k0_chk410 v1572), ∀ a x, ((![v1572] : Fin 1 → IVec S16 32) a x).toNat < S12288.size a := fun v1572 k0_hw410 => k0_hw410

def k0_chk411 (v1573 : IVec S16 32) : Prop :=
  (∀ a x, ((![v1573] : Fin 1 → IVec S16 32) a x).toNat < S4096.size a)
theorem k0_idx411_inb : ∀ (v1573 : IVec S16 32) (k0_hw411 : k0_chk411 v1573), ∀ a x, ((![v1573] : Fin 1 → IVec S16 32) a x).toNat < S4096.size a := fun v1573 k0_hw411 => k0_hw411

def k0_chk412 (v1577 : IVec S16 32) : Prop :=
  (∀ a x, ((![v1577] : Fin 1 → IVec S16 32) a x).toNat < S12288.size a)
theorem k0_idx412_inb : ∀ (v1577 : IVec S16 32) (k0_hw412 : k0_chk412 v1577), ∀ a x, ((![v1577] : Fin 1 → IVec S16 32) a x).toNat < S12288.size a := fun v1577 k0_hw412 => k0_hw412

def k0_chk413 (v1578 : IVec S16 32) : Prop :=
  (∀ a x, ((![v1578] : Fin 1 → IVec S16 32) a x).toNat < S4096.size a)
theorem k0_idx413_inb : ∀ (v1578 : IVec S16 32) (k0_hw413 : k0_chk413 v1578), ∀ a x, ((![v1578] : Fin 1 → IVec S16 32) a x).toNat < S4096.size a := fun v1578 k0_hw413 => k0_hw413

def k0_chk414 (v1581 : IVec S16 32) : Prop :=
  (∀ a x, ((![v1581] : Fin 1 → IVec S16 32) a x).toNat < S16.size a)
theorem k0_idx414_inb : ∀ (v1581 : IVec S16 32) (k0_hw414 : k0_chk414 v1581), ∀ a x, ((![v1581] : Fin 1 → IVec S16 32) a x).toNat < S16.size a := fun v1581 k0_hw414 => k0_hw414

def k0_chk415 (v1590 : IVec S16 32) : Prop :=
  (∀ a x, ((![v1590] : Fin 1 → IVec S16 32) a x).toNat < S12288.size a)
theorem k0_idx415_inb : ∀ (v1590 : IVec S16 32) (k0_hw415 : k0_chk415 v1590), ∀ a x, ((![v1590] : Fin 1 → IVec S16 32) a x).toNat < S12288.size a := fun v1590 k0_hw415 => k0_hw415

def k0_chk416 (v1591 : IVec S16 32) : Prop :=
  (∀ a x, ((![v1591] : Fin 1 → IVec S16 32) a x).toNat < S4096.size a)
theorem k0_idx416_inb : ∀ (v1591 : IVec S16 32) (k0_hw416 : k0_chk416 v1591), ∀ a x, ((![v1591] : Fin 1 → IVec S16 32) a x).toNat < S4096.size a := fun v1591 k0_hw416 => k0_hw416

def k0_chk417 (v1594 : IVec S16 32) : Prop :=
  (∀ a x, ((![v1594] : Fin 1 → IVec S16 32) a x).toNat < S12288.size a)
theorem k0_idx417_inb : ∀ (v1594 : IVec S16 32) (k0_hw417 : k0_chk417 v1594), ∀ a x, ((![v1594] : Fin 1 → IVec S16 32) a x).toNat < S12288.size a := fun v1594 k0_hw417 => k0_hw417

def k0_chk418 (v1595 : IVec S16 32) : Prop :=
  (∀ a x, ((![v1595] : Fin 1 → IVec S16 32) a x).toNat < S4096.size a)
theorem k0_idx418_inb : ∀ (v1595 : IVec S16 32) (k0_hw418 : k0_chk418 v1595), ∀ a x, ((![v1595] : Fin 1 → IVec S16 32) a x).toNat < S4096.size a := fun v1595 k0_hw418 => k0_hw418

def k0_chk419 (v1599 : IVec S16 32) : Prop :=
  (∀ a x, ((![v1599] : Fin 1 → IVec S16 32) a x).toNat < S12288.size a)
theorem k0_idx419_inb : ∀ (v1599 : IVec S16 32) (k0_hw419 : k0_chk419 v1599), ∀ a x, ((![v1599] : Fin 1 → IVec S16 32) a x).toNat < S12288.size a := fun v1599 k0_hw419 => k0_hw419

def k0_chk420 (v1600 : IVec S16 32) : Prop :=
  (∀ a x, ((![v1600] : Fin 1 → IVec S16 32) a x).toNat < S4096.size a)
theorem k0_idx420_inb : ∀ (v1600 : IVec S16 32) (k0_hw420 : k0_chk420 v1600), ∀ a x, ((![v1600] : Fin 1 → IVec S16 32) a x).toNat < S4096.size a := fun v1600 k0_hw420 => k0_hw420

def k0_chk421 (v1604 : IVec S16 32) : Prop :=
  (∀ a x, ((![v1604] : Fin 1 → IVec S16 32) a x).toNat < S12288.size a)
theorem k0_idx421_inb : ∀ (v1604 : IVec S16 32) (k0_hw421 : k0_chk421 v1604), ∀ a x, ((![v1604] : Fin 1 → IVec S16 32) a x).toNat < S12288.size a := fun v1604 k0_hw421 => k0_hw421

def k0_chk422 (v1605 : IVec S16 32) : Prop :=
  (∀ a x, ((![v1605] : Fin 1 → IVec S16 32) a x).toNat < S4096.size a)
theorem k0_idx422_inb : ∀ (v1605 : IVec S16 32) (k0_hw422 : k0_chk422 v1605), ∀ a x, ((![v1605] : Fin 1 → IVec S16 32) a x).toNat < S4096.size a := fun v1605 k0_hw422 => k0_hw422

def k0_chk423 (v1608 : IVec S16 32) : Prop :=
  (∀ a x, ((![v1608] : Fin 1 → IVec S16 32) a x).toNat < S16.size a)
theorem k0_idx423_inb : ∀ (v1608 : IVec S16 32) (k0_hw423 : k0_chk423 v1608), ∀ a x, ((![v1608] : Fin 1 → IVec S16 32) a x).toNat < S16.size a := fun v1608 k0_hw423 => k0_hw423

def k0_chk424 (v1617 : IVec S16 32) : Prop :=
  (∀ a x, ((![v1617] : Fin 1 → IVec S16 32) a x).toNat < S12288.size a)
theorem k0_idx424_inb : ∀ (v1617 : IVec S16 32) (k0_hw424 : k0_chk424 v1617), ∀ a x, ((![v1617] : Fin 1 → IVec S16 32) a x).toNat < S12288.size a := fun v1617 k0_hw424 => k0_hw424

def k0_chk425 (v1618 : IVec S16 32) : Prop :=
  (∀ a x, ((![v1618] : Fin 1 → IVec S16 32) a x).toNat < S4096.size a)
theorem k0_idx425_inb : ∀ (v1618 : IVec S16 32) (k0_hw425 : k0_chk425 v1618), ∀ a x, ((![v1618] : Fin 1 → IVec S16 32) a x).toNat < S4096.size a := fun v1618 k0_hw425 => k0_hw425

def k0_chk426 (v1621 : IVec S16 32) : Prop :=
  (∀ a x, ((![v1621] : Fin 1 → IVec S16 32) a x).toNat < S12288.size a)
theorem k0_idx426_inb : ∀ (v1621 : IVec S16 32) (k0_hw426 : k0_chk426 v1621), ∀ a x, ((![v1621] : Fin 1 → IVec S16 32) a x).toNat < S12288.size a := fun v1621 k0_hw426 => k0_hw426

def k0_chk427 (v1622 : IVec S16 32) : Prop :=
  (∀ a x, ((![v1622] : Fin 1 → IVec S16 32) a x).toNat < S4096.size a)
theorem k0_idx427_inb : ∀ (v1622 : IVec S16 32) (k0_hw427 : k0_chk427 v1622), ∀ a x, ((![v1622] : Fin 1 → IVec S16 32) a x).toNat < S4096.size a := fun v1622 k0_hw427 => k0_hw427

def k0_chk428 (v1626 : IVec S16 32) : Prop :=
  (∀ a x, ((![v1626] : Fin 1 → IVec S16 32) a x).toNat < S12288.size a)
theorem k0_idx428_inb : ∀ (v1626 : IVec S16 32) (k0_hw428 : k0_chk428 v1626), ∀ a x, ((![v1626] : Fin 1 → IVec S16 32) a x).toNat < S12288.size a := fun v1626 k0_hw428 => k0_hw428

def k0_chk429 (v1627 : IVec S16 32) : Prop :=
  (∀ a x, ((![v1627] : Fin 1 → IVec S16 32) a x).toNat < S4096.size a)
theorem k0_idx429_inb : ∀ (v1627 : IVec S16 32) (k0_hw429 : k0_chk429 v1627), ∀ a x, ((![v1627] : Fin 1 → IVec S16 32) a x).toNat < S4096.size a := fun v1627 k0_hw429 => k0_hw429

def k0_chk430 (v1631 : IVec S16 32) : Prop :=
  (∀ a x, ((![v1631] : Fin 1 → IVec S16 32) a x).toNat < S12288.size a)
theorem k0_idx430_inb : ∀ (v1631 : IVec S16 32) (k0_hw430 : k0_chk430 v1631), ∀ a x, ((![v1631] : Fin 1 → IVec S16 32) a x).toNat < S12288.size a := fun v1631 k0_hw430 => k0_hw430

def k0_chk431 (v1632 : IVec S16 32) : Prop :=
  (∀ a x, ((![v1632] : Fin 1 → IVec S16 32) a x).toNat < S4096.size a)
theorem k0_idx431_inb : ∀ (v1632 : IVec S16 32) (k0_hw431 : k0_chk431 v1632), ∀ a x, ((![v1632] : Fin 1 → IVec S16 32) a x).toNat < S4096.size a := fun v1632 k0_hw431 => k0_hw431

def k0_chk432 (v1635 : IVec S16 32) : Prop :=
  (∀ a x, ((![v1635] : Fin 1 → IVec S16 32) a x).toNat < S16.size a)
theorem k0_idx432_inb : ∀ (v1635 : IVec S16 32) (k0_hw432 : k0_chk432 v1635), ∀ a x, ((![v1635] : Fin 1 → IVec S16 32) a x).toNat < S16.size a := fun v1635 k0_hw432 => k0_hw432
def k0_off29 (i : grid0.Coords) : Fin 2 → Nat :=
  let c0_i32_375 : BitVec 32 := 0#32
  let arg1 : BitVec 32 := BitVec.ofNat 32 (i 1).val
  let c256_i32_374 : BitVec 32 := 256#32
  let v1643 : BitVec 32 := Scalar.muli arg1 c256_i32_374
  ![0, v1643.toNat]
def k0_off30 (i : grid0.Coords) : Fin 2 → Nat :=
  let c2_i32_378 : BitVec 32 := 2#32
  let arg1 : BitVec 32 := BitVec.ofNat 32 (i 1).val
  let c256_i32_376 : BitVec 32 := 256#32
  let v1644 : BitVec 32 := Scalar.muli arg1 c256_i32_376
  ![2, v1644.toNat]

def k0_chk433 (v1654 : IVec S16 32) : Prop :=
  (∀ a x, ((![v1654] : Fin 1 → IVec S16 32) a x).toNat < S12288.size a)
theorem k0_idx433_inb : ∀ (v1654 : IVec S16 32) (k0_hw433 : k0_chk433 v1654), ∀ a x, ((![v1654] : Fin 1 → IVec S16 32) a x).toNat < S12288.size a := fun v1654 k0_hw433 => k0_hw433

def k0_chk434 (v1655 : IVec S16 32) : Prop :=
  (∀ a x, ((![v1655] : Fin 1 → IVec S16 32) a x).toNat < S4096.size a)
theorem k0_idx434_inb : ∀ (v1655 : IVec S16 32) (k0_hw434 : k0_chk434 v1655), ∀ a x, ((![v1655] : Fin 1 → IVec S16 32) a x).toNat < S4096.size a := fun v1655 k0_hw434 => k0_hw434

def k0_chk435 (v1658 : IVec S16 32) : Prop :=
  (∀ a x, ((![v1658] : Fin 1 → IVec S16 32) a x).toNat < S12288.size a)
theorem k0_idx435_inb : ∀ (v1658 : IVec S16 32) (k0_hw435 : k0_chk435 v1658), ∀ a x, ((![v1658] : Fin 1 → IVec S16 32) a x).toNat < S12288.size a := fun v1658 k0_hw435 => k0_hw435

def k0_chk436 (v1659 : IVec S16 32) : Prop :=
  (∀ a x, ((![v1659] : Fin 1 → IVec S16 32) a x).toNat < S4096.size a)
theorem k0_idx436_inb : ∀ (v1659 : IVec S16 32) (k0_hw436 : k0_chk436 v1659), ∀ a x, ((![v1659] : Fin 1 → IVec S16 32) a x).toNat < S4096.size a := fun v1659 k0_hw436 => k0_hw436

def k0_chk437 (v1663 : IVec S16 32) : Prop :=
  (∀ a x, ((![v1663] : Fin 1 → IVec S16 32) a x).toNat < S12288.size a)
theorem k0_idx437_inb : ∀ (v1663 : IVec S16 32) (k0_hw437 : k0_chk437 v1663), ∀ a x, ((![v1663] : Fin 1 → IVec S16 32) a x).toNat < S12288.size a := fun v1663 k0_hw437 => k0_hw437

def k0_chk438 (v1664 : IVec S16 32) : Prop :=
  (∀ a x, ((![v1664] : Fin 1 → IVec S16 32) a x).toNat < S4096.size a)
theorem k0_idx438_inb : ∀ (v1664 : IVec S16 32) (k0_hw438 : k0_chk438 v1664), ∀ a x, ((![v1664] : Fin 1 → IVec S16 32) a x).toNat < S4096.size a := fun v1664 k0_hw438 => k0_hw438

def k0_chk439 (v1668 : IVec S16 32) : Prop :=
  (∀ a x, ((![v1668] : Fin 1 → IVec S16 32) a x).toNat < S12288.size a)
theorem k0_idx439_inb : ∀ (v1668 : IVec S16 32) (k0_hw439 : k0_chk439 v1668), ∀ a x, ((![v1668] : Fin 1 → IVec S16 32) a x).toNat < S12288.size a := fun v1668 k0_hw439 => k0_hw439

def k0_chk440 (v1669 : IVec S16 32) : Prop :=
  (∀ a x, ((![v1669] : Fin 1 → IVec S16 32) a x).toNat < S4096.size a)
theorem k0_idx440_inb : ∀ (v1669 : IVec S16 32) (k0_hw440 : k0_chk440 v1669), ∀ a x, ((![v1669] : Fin 1 → IVec S16 32) a x).toNat < S4096.size a := fun v1669 k0_hw440 => k0_hw440

def k0_chk441 (v1672 : IVec S16 32) : Prop :=
  (∀ a x, ((![v1672] : Fin 1 → IVec S16 32) a x).toNat < S16.size a)
theorem k0_idx441_inb : ∀ (v1672 : IVec S16 32) (k0_hw441 : k0_chk441 v1672), ∀ a x, ((![v1672] : Fin 1 → IVec S16 32) a x).toNat < S16.size a := fun v1672 k0_hw441 => k0_hw441

def k0_chk442 (v1681 : IVec S16 32) : Prop :=
  (∀ a x, ((![v1681] : Fin 1 → IVec S16 32) a x).toNat < S12288.size a)
theorem k0_idx442_inb : ∀ (v1681 : IVec S16 32) (k0_hw442 : k0_chk442 v1681), ∀ a x, ((![v1681] : Fin 1 → IVec S16 32) a x).toNat < S12288.size a := fun v1681 k0_hw442 => k0_hw442

def k0_chk443 (v1682 : IVec S16 32) : Prop :=
  (∀ a x, ((![v1682] : Fin 1 → IVec S16 32) a x).toNat < S4096.size a)
theorem k0_idx443_inb : ∀ (v1682 : IVec S16 32) (k0_hw443 : k0_chk443 v1682), ∀ a x, ((![v1682] : Fin 1 → IVec S16 32) a x).toNat < S4096.size a := fun v1682 k0_hw443 => k0_hw443

def k0_chk444 (v1685 : IVec S16 32) : Prop :=
  (∀ a x, ((![v1685] : Fin 1 → IVec S16 32) a x).toNat < S12288.size a)
theorem k0_idx444_inb : ∀ (v1685 : IVec S16 32) (k0_hw444 : k0_chk444 v1685), ∀ a x, ((![v1685] : Fin 1 → IVec S16 32) a x).toNat < S12288.size a := fun v1685 k0_hw444 => k0_hw444

def k0_chk445 (v1686 : IVec S16 32) : Prop :=
  (∀ a x, ((![v1686] : Fin 1 → IVec S16 32) a x).toNat < S4096.size a)
theorem k0_idx445_inb : ∀ (v1686 : IVec S16 32) (k0_hw445 : k0_chk445 v1686), ∀ a x, ((![v1686] : Fin 1 → IVec S16 32) a x).toNat < S4096.size a := fun v1686 k0_hw445 => k0_hw445

def k0_chk446 (v1690 : IVec S16 32) : Prop :=
  (∀ a x, ((![v1690] : Fin 1 → IVec S16 32) a x).toNat < S12288.size a)
theorem k0_idx446_inb : ∀ (v1690 : IVec S16 32) (k0_hw446 : k0_chk446 v1690), ∀ a x, ((![v1690] : Fin 1 → IVec S16 32) a x).toNat < S12288.size a := fun v1690 k0_hw446 => k0_hw446

def k0_chk447 (v1691 : IVec S16 32) : Prop :=
  (∀ a x, ((![v1691] : Fin 1 → IVec S16 32) a x).toNat < S4096.size a)
theorem k0_idx447_inb : ∀ (v1691 : IVec S16 32) (k0_hw447 : k0_chk447 v1691), ∀ a x, ((![v1691] : Fin 1 → IVec S16 32) a x).toNat < S4096.size a := fun v1691 k0_hw447 => k0_hw447

def k0_chk448 (v1695 : IVec S16 32) : Prop :=
  (∀ a x, ((![v1695] : Fin 1 → IVec S16 32) a x).toNat < S12288.size a)
theorem k0_idx448_inb : ∀ (v1695 : IVec S16 32) (k0_hw448 : k0_chk448 v1695), ∀ a x, ((![v1695] : Fin 1 → IVec S16 32) a x).toNat < S12288.size a := fun v1695 k0_hw448 => k0_hw448

def k0_chk449 (v1696 : IVec S16 32) : Prop :=
  (∀ a x, ((![v1696] : Fin 1 → IVec S16 32) a x).toNat < S4096.size a)
theorem k0_idx449_inb : ∀ (v1696 : IVec S16 32) (k0_hw449 : k0_chk449 v1696), ∀ a x, ((![v1696] : Fin 1 → IVec S16 32) a x).toNat < S4096.size a := fun v1696 k0_hw449 => k0_hw449

def k0_chk450 (v1699 : IVec S16 32) : Prop :=
  (∀ a x, ((![v1699] : Fin 1 → IVec S16 32) a x).toNat < S16.size a)
theorem k0_idx450_inb : ∀ (v1699 : IVec S16 32) (k0_hw450 : k0_chk450 v1699), ∀ a x, ((![v1699] : Fin 1 → IVec S16 32) a x).toNat < S16.size a := fun v1699 k0_hw450 => k0_hw450

def k0_chk451 (v1708 : IVec S16 32) : Prop :=
  (∀ a x, ((![v1708] : Fin 1 → IVec S16 32) a x).toNat < S12288.size a)
theorem k0_idx451_inb : ∀ (v1708 : IVec S16 32) (k0_hw451 : k0_chk451 v1708), ∀ a x, ((![v1708] : Fin 1 → IVec S16 32) a x).toNat < S12288.size a := fun v1708 k0_hw451 => k0_hw451

def k0_chk452 (v1709 : IVec S16 32) : Prop :=
  (∀ a x, ((![v1709] : Fin 1 → IVec S16 32) a x).toNat < S4096.size a)
theorem k0_idx452_inb : ∀ (v1709 : IVec S16 32) (k0_hw452 : k0_chk452 v1709), ∀ a x, ((![v1709] : Fin 1 → IVec S16 32) a x).toNat < S4096.size a := fun v1709 k0_hw452 => k0_hw452

def k0_chk453 (v1712 : IVec S16 32) : Prop :=
  (∀ a x, ((![v1712] : Fin 1 → IVec S16 32) a x).toNat < S12288.size a)
theorem k0_idx453_inb : ∀ (v1712 : IVec S16 32) (k0_hw453 : k0_chk453 v1712), ∀ a x, ((![v1712] : Fin 1 → IVec S16 32) a x).toNat < S12288.size a := fun v1712 k0_hw453 => k0_hw453

def k0_chk454 (v1713 : IVec S16 32) : Prop :=
  (∀ a x, ((![v1713] : Fin 1 → IVec S16 32) a x).toNat < S4096.size a)
theorem k0_idx454_inb : ∀ (v1713 : IVec S16 32) (k0_hw454 : k0_chk454 v1713), ∀ a x, ((![v1713] : Fin 1 → IVec S16 32) a x).toNat < S4096.size a := fun v1713 k0_hw454 => k0_hw454

def k0_chk455 (v1717 : IVec S16 32) : Prop :=
  (∀ a x, ((![v1717] : Fin 1 → IVec S16 32) a x).toNat < S12288.size a)
theorem k0_idx455_inb : ∀ (v1717 : IVec S16 32) (k0_hw455 : k0_chk455 v1717), ∀ a x, ((![v1717] : Fin 1 → IVec S16 32) a x).toNat < S12288.size a := fun v1717 k0_hw455 => k0_hw455

def k0_chk456 (v1718 : IVec S16 32) : Prop :=
  (∀ a x, ((![v1718] : Fin 1 → IVec S16 32) a x).toNat < S4096.size a)
theorem k0_idx456_inb : ∀ (v1718 : IVec S16 32) (k0_hw456 : k0_chk456 v1718), ∀ a x, ((![v1718] : Fin 1 → IVec S16 32) a x).toNat < S4096.size a := fun v1718 k0_hw456 => k0_hw456

def k0_chk457 (v1722 : IVec S16 32) : Prop :=
  (∀ a x, ((![v1722] : Fin 1 → IVec S16 32) a x).toNat < S12288.size a)
theorem k0_idx457_inb : ∀ (v1722 : IVec S16 32) (k0_hw457 : k0_chk457 v1722), ∀ a x, ((![v1722] : Fin 1 → IVec S16 32) a x).toNat < S12288.size a := fun v1722 k0_hw457 => k0_hw457

def k0_chk458 (v1723 : IVec S16 32) : Prop :=
  (∀ a x, ((![v1723] : Fin 1 → IVec S16 32) a x).toNat < S4096.size a)
theorem k0_idx458_inb : ∀ (v1723 : IVec S16 32) (k0_hw458 : k0_chk458 v1723), ∀ a x, ((![v1723] : Fin 1 → IVec S16 32) a x).toNat < S4096.size a := fun v1723 k0_hw458 => k0_hw458

def k0_chk459 (v1726 : IVec S16 32) : Prop :=
  (∀ a x, ((![v1726] : Fin 1 → IVec S16 32) a x).toNat < S16.size a)
theorem k0_idx459_inb : ∀ (v1726 : IVec S16 32) (k0_hw459 : k0_chk459 v1726), ∀ a x, ((![v1726] : Fin 1 → IVec S16 32) a x).toNat < S16.size a := fun v1726 k0_hw459 => k0_hw459

def k0_chk460 (v1735 : IVec S16 32) : Prop :=
  (∀ a x, ((![v1735] : Fin 1 → IVec S16 32) a x).toNat < S12288.size a)
theorem k0_idx460_inb : ∀ (v1735 : IVec S16 32) (k0_hw460 : k0_chk460 v1735), ∀ a x, ((![v1735] : Fin 1 → IVec S16 32) a x).toNat < S12288.size a := fun v1735 k0_hw460 => k0_hw460

def k0_chk461 (v1736 : IVec S16 32) : Prop :=
  (∀ a x, ((![v1736] : Fin 1 → IVec S16 32) a x).toNat < S4096.size a)
theorem k0_idx461_inb : ∀ (v1736 : IVec S16 32) (k0_hw461 : k0_chk461 v1736), ∀ a x, ((![v1736] : Fin 1 → IVec S16 32) a x).toNat < S4096.size a := fun v1736 k0_hw461 => k0_hw461

def k0_chk462 (v1739 : IVec S16 32) : Prop :=
  (∀ a x, ((![v1739] : Fin 1 → IVec S16 32) a x).toNat < S12288.size a)
theorem k0_idx462_inb : ∀ (v1739 : IVec S16 32) (k0_hw462 : k0_chk462 v1739), ∀ a x, ((![v1739] : Fin 1 → IVec S16 32) a x).toNat < S12288.size a := fun v1739 k0_hw462 => k0_hw462

def k0_chk463 (v1740 : IVec S16 32) : Prop :=
  (∀ a x, ((![v1740] : Fin 1 → IVec S16 32) a x).toNat < S4096.size a)
theorem k0_idx463_inb : ∀ (v1740 : IVec S16 32) (k0_hw463 : k0_chk463 v1740), ∀ a x, ((![v1740] : Fin 1 → IVec S16 32) a x).toNat < S4096.size a := fun v1740 k0_hw463 => k0_hw463

def k0_chk464 (v1744 : IVec S16 32) : Prop :=
  (∀ a x, ((![v1744] : Fin 1 → IVec S16 32) a x).toNat < S12288.size a)
theorem k0_idx464_inb : ∀ (v1744 : IVec S16 32) (k0_hw464 : k0_chk464 v1744), ∀ a x, ((![v1744] : Fin 1 → IVec S16 32) a x).toNat < S12288.size a := fun v1744 k0_hw464 => k0_hw464

def k0_chk465 (v1745 : IVec S16 32) : Prop :=
  (∀ a x, ((![v1745] : Fin 1 → IVec S16 32) a x).toNat < S4096.size a)
theorem k0_idx465_inb : ∀ (v1745 : IVec S16 32) (k0_hw465 : k0_chk465 v1745), ∀ a x, ((![v1745] : Fin 1 → IVec S16 32) a x).toNat < S4096.size a := fun v1745 k0_hw465 => k0_hw465

def k0_chk466 (v1749 : IVec S16 32) : Prop :=
  (∀ a x, ((![v1749] : Fin 1 → IVec S16 32) a x).toNat < S12288.size a)
theorem k0_idx466_inb : ∀ (v1749 : IVec S16 32) (k0_hw466 : k0_chk466 v1749), ∀ a x, ((![v1749] : Fin 1 → IVec S16 32) a x).toNat < S12288.size a := fun v1749 k0_hw466 => k0_hw466

def k0_chk467 (v1750 : IVec S16 32) : Prop :=
  (∀ a x, ((![v1750] : Fin 1 → IVec S16 32) a x).toNat < S4096.size a)
theorem k0_idx467_inb : ∀ (v1750 : IVec S16 32) (k0_hw467 : k0_chk467 v1750), ∀ a x, ((![v1750] : Fin 1 → IVec S16 32) a x).toNat < S4096.size a := fun v1750 k0_hw467 => k0_hw467

def k0_chk468 (v1753 : IVec S16 32) : Prop :=
  (∀ a x, ((![v1753] : Fin 1 → IVec S16 32) a x).toNat < S16.size a)
theorem k0_idx468_inb : ∀ (v1753 : IVec S16 32) (k0_hw468 : k0_chk468 v1753), ∀ a x, ((![v1753] : Fin 1 → IVec S16 32) a x).toNat < S16.size a := fun v1753 k0_hw468 => k0_hw468

def k0_chk469 (v1762 : IVec S16 32) : Prop :=
  (∀ a x, ((![v1762] : Fin 1 → IVec S16 32) a x).toNat < S12288.size a)
theorem k0_idx469_inb : ∀ (v1762 : IVec S16 32) (k0_hw469 : k0_chk469 v1762), ∀ a x, ((![v1762] : Fin 1 → IVec S16 32) a x).toNat < S12288.size a := fun v1762 k0_hw469 => k0_hw469

def k0_chk470 (v1763 : IVec S16 32) : Prop :=
  (∀ a x, ((![v1763] : Fin 1 → IVec S16 32) a x).toNat < S4096.size a)
theorem k0_idx470_inb : ∀ (v1763 : IVec S16 32) (k0_hw470 : k0_chk470 v1763), ∀ a x, ((![v1763] : Fin 1 → IVec S16 32) a x).toNat < S4096.size a := fun v1763 k0_hw470 => k0_hw470

def k0_chk471 (v1766 : IVec S16 32) : Prop :=
  (∀ a x, ((![v1766] : Fin 1 → IVec S16 32) a x).toNat < S12288.size a)
theorem k0_idx471_inb : ∀ (v1766 : IVec S16 32) (k0_hw471 : k0_chk471 v1766), ∀ a x, ((![v1766] : Fin 1 → IVec S16 32) a x).toNat < S12288.size a := fun v1766 k0_hw471 => k0_hw471

def k0_chk472 (v1767 : IVec S16 32) : Prop :=
  (∀ a x, ((![v1767] : Fin 1 → IVec S16 32) a x).toNat < S4096.size a)
theorem k0_idx472_inb : ∀ (v1767 : IVec S16 32) (k0_hw472 : k0_chk472 v1767), ∀ a x, ((![v1767] : Fin 1 → IVec S16 32) a x).toNat < S4096.size a := fun v1767 k0_hw472 => k0_hw472

def k0_chk473 (v1771 : IVec S16 32) : Prop :=
  (∀ a x, ((![v1771] : Fin 1 → IVec S16 32) a x).toNat < S12288.size a)
theorem k0_idx473_inb : ∀ (v1771 : IVec S16 32) (k0_hw473 : k0_chk473 v1771), ∀ a x, ((![v1771] : Fin 1 → IVec S16 32) a x).toNat < S12288.size a := fun v1771 k0_hw473 => k0_hw473

def k0_chk474 (v1772 : IVec S16 32) : Prop :=
  (∀ a x, ((![v1772] : Fin 1 → IVec S16 32) a x).toNat < S4096.size a)
theorem k0_idx474_inb : ∀ (v1772 : IVec S16 32) (k0_hw474 : k0_chk474 v1772), ∀ a x, ((![v1772] : Fin 1 → IVec S16 32) a x).toNat < S4096.size a := fun v1772 k0_hw474 => k0_hw474

def k0_chk475 (v1776 : IVec S16 32) : Prop :=
  (∀ a x, ((![v1776] : Fin 1 → IVec S16 32) a x).toNat < S12288.size a)
theorem k0_idx475_inb : ∀ (v1776 : IVec S16 32) (k0_hw475 : k0_chk475 v1776), ∀ a x, ((![v1776] : Fin 1 → IVec S16 32) a x).toNat < S12288.size a := fun v1776 k0_hw475 => k0_hw475

def k0_chk476 (v1777 : IVec S16 32) : Prop :=
  (∀ a x, ((![v1777] : Fin 1 → IVec S16 32) a x).toNat < S4096.size a)
theorem k0_idx476_inb : ∀ (v1777 : IVec S16 32) (k0_hw476 : k0_chk476 v1777), ∀ a x, ((![v1777] : Fin 1 → IVec S16 32) a x).toNat < S4096.size a := fun v1777 k0_hw476 => k0_hw476

def k0_chk477 (v1780 : IVec S16 32) : Prop :=
  (∀ a x, ((![v1780] : Fin 1 → IVec S16 32) a x).toNat < S16.size a)
theorem k0_idx477_inb : ∀ (v1780 : IVec S16 32) (k0_hw477 : k0_chk477 v1780), ∀ a x, ((![v1780] : Fin 1 → IVec S16 32) a x).toNat < S16.size a := fun v1780 k0_hw477 => k0_hw477

def k0_chk478 (v1789 : IVec S16 32) : Prop :=
  (∀ a x, ((![v1789] : Fin 1 → IVec S16 32) a x).toNat < S12288.size a)
theorem k0_idx478_inb : ∀ (v1789 : IVec S16 32) (k0_hw478 : k0_chk478 v1789), ∀ a x, ((![v1789] : Fin 1 → IVec S16 32) a x).toNat < S12288.size a := fun v1789 k0_hw478 => k0_hw478

def k0_chk479 (v1790 : IVec S16 32) : Prop :=
  (∀ a x, ((![v1790] : Fin 1 → IVec S16 32) a x).toNat < S4096.size a)
theorem k0_idx479_inb : ∀ (v1790 : IVec S16 32) (k0_hw479 : k0_chk479 v1790), ∀ a x, ((![v1790] : Fin 1 → IVec S16 32) a x).toNat < S4096.size a := fun v1790 k0_hw479 => k0_hw479

def k0_chk480 (v1793 : IVec S16 32) : Prop :=
  (∀ a x, ((![v1793] : Fin 1 → IVec S16 32) a x).toNat < S12288.size a)
theorem k0_idx480_inb : ∀ (v1793 : IVec S16 32) (k0_hw480 : k0_chk480 v1793), ∀ a x, ((![v1793] : Fin 1 → IVec S16 32) a x).toNat < S12288.size a := fun v1793 k0_hw480 => k0_hw480

def k0_chk481 (v1794 : IVec S16 32) : Prop :=
  (∀ a x, ((![v1794] : Fin 1 → IVec S16 32) a x).toNat < S4096.size a)
theorem k0_idx481_inb : ∀ (v1794 : IVec S16 32) (k0_hw481 : k0_chk481 v1794), ∀ a x, ((![v1794] : Fin 1 → IVec S16 32) a x).toNat < S4096.size a := fun v1794 k0_hw481 => k0_hw481

def k0_chk482 (v1798 : IVec S16 32) : Prop :=
  (∀ a x, ((![v1798] : Fin 1 → IVec S16 32) a x).toNat < S12288.size a)
theorem k0_idx482_inb : ∀ (v1798 : IVec S16 32) (k0_hw482 : k0_chk482 v1798), ∀ a x, ((![v1798] : Fin 1 → IVec S16 32) a x).toNat < S12288.size a := fun v1798 k0_hw482 => k0_hw482

def k0_chk483 (v1799 : IVec S16 32) : Prop :=
  (∀ a x, ((![v1799] : Fin 1 → IVec S16 32) a x).toNat < S4096.size a)
theorem k0_idx483_inb : ∀ (v1799 : IVec S16 32) (k0_hw483 : k0_chk483 v1799), ∀ a x, ((![v1799] : Fin 1 → IVec S16 32) a x).toNat < S4096.size a := fun v1799 k0_hw483 => k0_hw483

def k0_chk484 (v1803 : IVec S16 32) : Prop :=
  (∀ a x, ((![v1803] : Fin 1 → IVec S16 32) a x).toNat < S12288.size a)
theorem k0_idx484_inb : ∀ (v1803 : IVec S16 32) (k0_hw484 : k0_chk484 v1803), ∀ a x, ((![v1803] : Fin 1 → IVec S16 32) a x).toNat < S12288.size a := fun v1803 k0_hw484 => k0_hw484

def k0_chk485 (v1804 : IVec S16 32) : Prop :=
  (∀ a x, ((![v1804] : Fin 1 → IVec S16 32) a x).toNat < S4096.size a)
theorem k0_idx485_inb : ∀ (v1804 : IVec S16 32) (k0_hw485 : k0_chk485 v1804), ∀ a x, ((![v1804] : Fin 1 → IVec S16 32) a x).toNat < S4096.size a := fun v1804 k0_hw485 => k0_hw485

def k0_chk486 (v1807 : IVec S16 32) : Prop :=
  (∀ a x, ((![v1807] : Fin 1 → IVec S16 32) a x).toNat < S16.size a)
theorem k0_idx486_inb : ∀ (v1807 : IVec S16 32) (k0_hw486 : k0_chk486 v1807), ∀ a x, ((![v1807] : Fin 1 → IVec S16 32) a x).toNat < S16.size a := fun v1807 k0_hw486 => k0_hw486

def k0_chk487 (v1816 : IVec S16 32) : Prop :=
  (∀ a x, ((![v1816] : Fin 1 → IVec S16 32) a x).toNat < S12288.size a)
theorem k0_idx487_inb : ∀ (v1816 : IVec S16 32) (k0_hw487 : k0_chk487 v1816), ∀ a x, ((![v1816] : Fin 1 → IVec S16 32) a x).toNat < S12288.size a := fun v1816 k0_hw487 => k0_hw487

def k0_chk488 (v1817 : IVec S16 32) : Prop :=
  (∀ a x, ((![v1817] : Fin 1 → IVec S16 32) a x).toNat < S4096.size a)
theorem k0_idx488_inb : ∀ (v1817 : IVec S16 32) (k0_hw488 : k0_chk488 v1817), ∀ a x, ((![v1817] : Fin 1 → IVec S16 32) a x).toNat < S4096.size a := fun v1817 k0_hw488 => k0_hw488

def k0_chk489 (v1820 : IVec S16 32) : Prop :=
  (∀ a x, ((![v1820] : Fin 1 → IVec S16 32) a x).toNat < S12288.size a)
theorem k0_idx489_inb : ∀ (v1820 : IVec S16 32) (k0_hw489 : k0_chk489 v1820), ∀ a x, ((![v1820] : Fin 1 → IVec S16 32) a x).toNat < S12288.size a := fun v1820 k0_hw489 => k0_hw489

def k0_chk490 (v1821 : IVec S16 32) : Prop :=
  (∀ a x, ((![v1821] : Fin 1 → IVec S16 32) a x).toNat < S4096.size a)
theorem k0_idx490_inb : ∀ (v1821 : IVec S16 32) (k0_hw490 : k0_chk490 v1821), ∀ a x, ((![v1821] : Fin 1 → IVec S16 32) a x).toNat < S4096.size a := fun v1821 k0_hw490 => k0_hw490

def k0_chk491 (v1825 : IVec S16 32) : Prop :=
  (∀ a x, ((![v1825] : Fin 1 → IVec S16 32) a x).toNat < S12288.size a)
theorem k0_idx491_inb : ∀ (v1825 : IVec S16 32) (k0_hw491 : k0_chk491 v1825), ∀ a x, ((![v1825] : Fin 1 → IVec S16 32) a x).toNat < S12288.size a := fun v1825 k0_hw491 => k0_hw491

def k0_chk492 (v1826 : IVec S16 32) : Prop :=
  (∀ a x, ((![v1826] : Fin 1 → IVec S16 32) a x).toNat < S4096.size a)
theorem k0_idx492_inb : ∀ (v1826 : IVec S16 32) (k0_hw492 : k0_chk492 v1826), ∀ a x, ((![v1826] : Fin 1 → IVec S16 32) a x).toNat < S4096.size a := fun v1826 k0_hw492 => k0_hw492

def k0_chk493 (v1830 : IVec S16 32) : Prop :=
  (∀ a x, ((![v1830] : Fin 1 → IVec S16 32) a x).toNat < S12288.size a)
theorem k0_idx493_inb : ∀ (v1830 : IVec S16 32) (k0_hw493 : k0_chk493 v1830), ∀ a x, ((![v1830] : Fin 1 → IVec S16 32) a x).toNat < S12288.size a := fun v1830 k0_hw493 => k0_hw493

def k0_chk494 (v1831 : IVec S16 32) : Prop :=
  (∀ a x, ((![v1831] : Fin 1 → IVec S16 32) a x).toNat < S4096.size a)
theorem k0_idx494_inb : ∀ (v1831 : IVec S16 32) (k0_hw494 : k0_chk494 v1831), ∀ a x, ((![v1831] : Fin 1 → IVec S16 32) a x).toNat < S4096.size a := fun v1831 k0_hw494 => k0_hw494

def k0_chk495 (v1834 : IVec S16 32) : Prop :=
  (∀ a x, ((![v1834] : Fin 1 → IVec S16 32) a x).toNat < S16.size a)
theorem k0_idx495_inb : ∀ (v1834 : IVec S16 32) (k0_hw495 : k0_chk495 v1834), ∀ a x, ((![v1834] : Fin 1 → IVec S16 32) a x).toNat < S16.size a := fun v1834 k0_hw495 => k0_hw495

def k0_chk496 (v1843 : IVec S16 32) : Prop :=
  (∀ a x, ((![v1843] : Fin 1 → IVec S16 32) a x).toNat < S12288.size a)
theorem k0_idx496_inb : ∀ (v1843 : IVec S16 32) (k0_hw496 : k0_chk496 v1843), ∀ a x, ((![v1843] : Fin 1 → IVec S16 32) a x).toNat < S12288.size a := fun v1843 k0_hw496 => k0_hw496

def k0_chk497 (v1844 : IVec S16 32) : Prop :=
  (∀ a x, ((![v1844] : Fin 1 → IVec S16 32) a x).toNat < S4096.size a)
theorem k0_idx497_inb : ∀ (v1844 : IVec S16 32) (k0_hw497 : k0_chk497 v1844), ∀ a x, ((![v1844] : Fin 1 → IVec S16 32) a x).toNat < S4096.size a := fun v1844 k0_hw497 => k0_hw497

def k0_chk498 (v1847 : IVec S16 32) : Prop :=
  (∀ a x, ((![v1847] : Fin 1 → IVec S16 32) a x).toNat < S12288.size a)
theorem k0_idx498_inb : ∀ (v1847 : IVec S16 32) (k0_hw498 : k0_chk498 v1847), ∀ a x, ((![v1847] : Fin 1 → IVec S16 32) a x).toNat < S12288.size a := fun v1847 k0_hw498 => k0_hw498

def k0_chk499 (v1848 : IVec S16 32) : Prop :=
  (∀ a x, ((![v1848] : Fin 1 → IVec S16 32) a x).toNat < S4096.size a)
theorem k0_idx499_inb : ∀ (v1848 : IVec S16 32) (k0_hw499 : k0_chk499 v1848), ∀ a x, ((![v1848] : Fin 1 → IVec S16 32) a x).toNat < S4096.size a := fun v1848 k0_hw499 => k0_hw499

def k0_chk500 (v1852 : IVec S16 32) : Prop :=
  (∀ a x, ((![v1852] : Fin 1 → IVec S16 32) a x).toNat < S12288.size a)
theorem k0_idx500_inb : ∀ (v1852 : IVec S16 32) (k0_hw500 : k0_chk500 v1852), ∀ a x, ((![v1852] : Fin 1 → IVec S16 32) a x).toNat < S12288.size a := fun v1852 k0_hw500 => k0_hw500

def k0_chk501 (v1853 : IVec S16 32) : Prop :=
  (∀ a x, ((![v1853] : Fin 1 → IVec S16 32) a x).toNat < S4096.size a)
theorem k0_idx501_inb : ∀ (v1853 : IVec S16 32) (k0_hw501 : k0_chk501 v1853), ∀ a x, ((![v1853] : Fin 1 → IVec S16 32) a x).toNat < S4096.size a := fun v1853 k0_hw501 => k0_hw501

def k0_chk502 (v1857 : IVec S16 32) : Prop :=
  (∀ a x, ((![v1857] : Fin 1 → IVec S16 32) a x).toNat < S12288.size a)
theorem k0_idx502_inb : ∀ (v1857 : IVec S16 32) (k0_hw502 : k0_chk502 v1857), ∀ a x, ((![v1857] : Fin 1 → IVec S16 32) a x).toNat < S12288.size a := fun v1857 k0_hw502 => k0_hw502

def k0_chk503 (v1858 : IVec S16 32) : Prop :=
  (∀ a x, ((![v1858] : Fin 1 → IVec S16 32) a x).toNat < S4096.size a)
theorem k0_idx503_inb : ∀ (v1858 : IVec S16 32) (k0_hw503 : k0_chk503 v1858), ∀ a x, ((![v1858] : Fin 1 → IVec S16 32) a x).toNat < S4096.size a := fun v1858 k0_hw503 => k0_hw503

def k0_chk504 (v1861 : IVec S16 32) : Prop :=
  (∀ a x, ((![v1861] : Fin 1 → IVec S16 32) a x).toNat < S16.size a)
theorem k0_idx504_inb : ∀ (v1861 : IVec S16 32) (k0_hw504 : k0_chk504 v1861), ∀ a x, ((![v1861] : Fin 1 → IVec S16 32) a x).toNat < S16.size a := fun v1861 k0_hw504 => k0_hw504

def k0_chk505 (v1870 : IVec S16 32) : Prop :=
  (∀ a x, ((![v1870] : Fin 1 → IVec S16 32) a x).toNat < S12288.size a)
theorem k0_idx505_inb : ∀ (v1870 : IVec S16 32) (k0_hw505 : k0_chk505 v1870), ∀ a x, ((![v1870] : Fin 1 → IVec S16 32) a x).toNat < S12288.size a := fun v1870 k0_hw505 => k0_hw505

def k0_chk506 (v1871 : IVec S16 32) : Prop :=
  (∀ a x, ((![v1871] : Fin 1 → IVec S16 32) a x).toNat < S4096.size a)
theorem k0_idx506_inb : ∀ (v1871 : IVec S16 32) (k0_hw506 : k0_chk506 v1871), ∀ a x, ((![v1871] : Fin 1 → IVec S16 32) a x).toNat < S4096.size a := fun v1871 k0_hw506 => k0_hw506

def k0_chk507 (v1874 : IVec S16 32) : Prop :=
  (∀ a x, ((![v1874] : Fin 1 → IVec S16 32) a x).toNat < S12288.size a)
theorem k0_idx507_inb : ∀ (v1874 : IVec S16 32) (k0_hw507 : k0_chk507 v1874), ∀ a x, ((![v1874] : Fin 1 → IVec S16 32) a x).toNat < S12288.size a := fun v1874 k0_hw507 => k0_hw507

def k0_chk508 (v1875 : IVec S16 32) : Prop :=
  (∀ a x, ((![v1875] : Fin 1 → IVec S16 32) a x).toNat < S4096.size a)
theorem k0_idx508_inb : ∀ (v1875 : IVec S16 32) (k0_hw508 : k0_chk508 v1875), ∀ a x, ((![v1875] : Fin 1 → IVec S16 32) a x).toNat < S4096.size a := fun v1875 k0_hw508 => k0_hw508

def k0_chk509 (v1879 : IVec S16 32) : Prop :=
  (∀ a x, ((![v1879] : Fin 1 → IVec S16 32) a x).toNat < S12288.size a)
theorem k0_idx509_inb : ∀ (v1879 : IVec S16 32) (k0_hw509 : k0_chk509 v1879), ∀ a x, ((![v1879] : Fin 1 → IVec S16 32) a x).toNat < S12288.size a := fun v1879 k0_hw509 => k0_hw509

def k0_chk510 (v1880 : IVec S16 32) : Prop :=
  (∀ a x, ((![v1880] : Fin 1 → IVec S16 32) a x).toNat < S4096.size a)
theorem k0_idx510_inb : ∀ (v1880 : IVec S16 32) (k0_hw510 : k0_chk510 v1880), ∀ a x, ((![v1880] : Fin 1 → IVec S16 32) a x).toNat < S4096.size a := fun v1880 k0_hw510 => k0_hw510

def k0_chk511 (v1884 : IVec S16 32) : Prop :=
  (∀ a x, ((![v1884] : Fin 1 → IVec S16 32) a x).toNat < S12288.size a)
theorem k0_idx511_inb : ∀ (v1884 : IVec S16 32) (k0_hw511 : k0_chk511 v1884), ∀ a x, ((![v1884] : Fin 1 → IVec S16 32) a x).toNat < S12288.size a := fun v1884 k0_hw511 => k0_hw511

def k0_chk512 (v1885 : IVec S16 32) : Prop :=
  (∀ a x, ((![v1885] : Fin 1 → IVec S16 32) a x).toNat < S4096.size a)
theorem k0_idx512_inb : ∀ (v1885 : IVec S16 32) (k0_hw512 : k0_chk512 v1885), ∀ a x, ((![v1885] : Fin 1 → IVec S16 32) a x).toNat < S4096.size a := fun v1885 k0_hw512 => k0_hw512

def k0_chk513 (v1888 : IVec S16 32) : Prop :=
  (∀ a x, ((![v1888] : Fin 1 → IVec S16 32) a x).toNat < S16.size a)
theorem k0_idx513_inb : ∀ (v1888 : IVec S16 32) (k0_hw513 : k0_chk513 v1888), ∀ a x, ((![v1888] : Fin 1 → IVec S16 32) a x).toNat < S16.size a := fun v1888 k0_hw513 => k0_hw513

def k0_chk514 (v1897 : IVec S16 32) : Prop :=
  (∀ a x, ((![v1897] : Fin 1 → IVec S16 32) a x).toNat < S12288.size a)
theorem k0_idx514_inb : ∀ (v1897 : IVec S16 32) (k0_hw514 : k0_chk514 v1897), ∀ a x, ((![v1897] : Fin 1 → IVec S16 32) a x).toNat < S12288.size a := fun v1897 k0_hw514 => k0_hw514

def k0_chk515 (v1898 : IVec S16 32) : Prop :=
  (∀ a x, ((![v1898] : Fin 1 → IVec S16 32) a x).toNat < S4096.size a)
theorem k0_idx515_inb : ∀ (v1898 : IVec S16 32) (k0_hw515 : k0_chk515 v1898), ∀ a x, ((![v1898] : Fin 1 → IVec S16 32) a x).toNat < S4096.size a := fun v1898 k0_hw515 => k0_hw515

def k0_chk516 (v1901 : IVec S16 32) : Prop :=
  (∀ a x, ((![v1901] : Fin 1 → IVec S16 32) a x).toNat < S12288.size a)
theorem k0_idx516_inb : ∀ (v1901 : IVec S16 32) (k0_hw516 : k0_chk516 v1901), ∀ a x, ((![v1901] : Fin 1 → IVec S16 32) a x).toNat < S12288.size a := fun v1901 k0_hw516 => k0_hw516

def k0_chk517 (v1902 : IVec S16 32) : Prop :=
  (∀ a x, ((![v1902] : Fin 1 → IVec S16 32) a x).toNat < S4096.size a)
theorem k0_idx517_inb : ∀ (v1902 : IVec S16 32) (k0_hw517 : k0_chk517 v1902), ∀ a x, ((![v1902] : Fin 1 → IVec S16 32) a x).toNat < S4096.size a := fun v1902 k0_hw517 => k0_hw517

def k0_chk518 (v1906 : IVec S16 32) : Prop :=
  (∀ a x, ((![v1906] : Fin 1 → IVec S16 32) a x).toNat < S12288.size a)
theorem k0_idx518_inb : ∀ (v1906 : IVec S16 32) (k0_hw518 : k0_chk518 v1906), ∀ a x, ((![v1906] : Fin 1 → IVec S16 32) a x).toNat < S12288.size a := fun v1906 k0_hw518 => k0_hw518

def k0_chk519 (v1907 : IVec S16 32) : Prop :=
  (∀ a x, ((![v1907] : Fin 1 → IVec S16 32) a x).toNat < S4096.size a)
theorem k0_idx519_inb : ∀ (v1907 : IVec S16 32) (k0_hw519 : k0_chk519 v1907), ∀ a x, ((![v1907] : Fin 1 → IVec S16 32) a x).toNat < S4096.size a := fun v1907 k0_hw519 => k0_hw519

def k0_chk520 (v1911 : IVec S16 32) : Prop :=
  (∀ a x, ((![v1911] : Fin 1 → IVec S16 32) a x).toNat < S12288.size a)
theorem k0_idx520_inb : ∀ (v1911 : IVec S16 32) (k0_hw520 : k0_chk520 v1911), ∀ a x, ((![v1911] : Fin 1 → IVec S16 32) a x).toNat < S12288.size a := fun v1911 k0_hw520 => k0_hw520

def k0_chk521 (v1912 : IVec S16 32) : Prop :=
  (∀ a x, ((![v1912] : Fin 1 → IVec S16 32) a x).toNat < S4096.size a)
theorem k0_idx521_inb : ∀ (v1912 : IVec S16 32) (k0_hw521 : k0_chk521 v1912), ∀ a x, ((![v1912] : Fin 1 → IVec S16 32) a x).toNat < S4096.size a := fun v1912 k0_hw521 => k0_hw521

def k0_chk522 (v1915 : IVec S16 32) : Prop :=
  (∀ a x, ((![v1915] : Fin 1 → IVec S16 32) a x).toNat < S16.size a)
theorem k0_idx522_inb : ∀ (v1915 : IVec S16 32) (k0_hw522 : k0_chk522 v1915), ∀ a x, ((![v1915] : Fin 1 → IVec S16 32) a x).toNat < S16.size a := fun v1915 k0_hw522 => k0_hw522

def k0_chk523 (v1924 : IVec S16 32) : Prop :=
  (∀ a x, ((![v1924] : Fin 1 → IVec S16 32) a x).toNat < S12288.size a)
theorem k0_idx523_inb : ∀ (v1924 : IVec S16 32) (k0_hw523 : k0_chk523 v1924), ∀ a x, ((![v1924] : Fin 1 → IVec S16 32) a x).toNat < S12288.size a := fun v1924 k0_hw523 => k0_hw523

def k0_chk524 (v1925 : IVec S16 32) : Prop :=
  (∀ a x, ((![v1925] : Fin 1 → IVec S16 32) a x).toNat < S4096.size a)
theorem k0_idx524_inb : ∀ (v1925 : IVec S16 32) (k0_hw524 : k0_chk524 v1925), ∀ a x, ((![v1925] : Fin 1 → IVec S16 32) a x).toNat < S4096.size a := fun v1925 k0_hw524 => k0_hw524

def k0_chk525 (v1928 : IVec S16 32) : Prop :=
  (∀ a x, ((![v1928] : Fin 1 → IVec S16 32) a x).toNat < S12288.size a)
theorem k0_idx525_inb : ∀ (v1928 : IVec S16 32) (k0_hw525 : k0_chk525 v1928), ∀ a x, ((![v1928] : Fin 1 → IVec S16 32) a x).toNat < S12288.size a := fun v1928 k0_hw525 => k0_hw525

def k0_chk526 (v1929 : IVec S16 32) : Prop :=
  (∀ a x, ((![v1929] : Fin 1 → IVec S16 32) a x).toNat < S4096.size a)
theorem k0_idx526_inb : ∀ (v1929 : IVec S16 32) (k0_hw526 : k0_chk526 v1929), ∀ a x, ((![v1929] : Fin 1 → IVec S16 32) a x).toNat < S4096.size a := fun v1929 k0_hw526 => k0_hw526

def k0_chk527 (v1933 : IVec S16 32) : Prop :=
  (∀ a x, ((![v1933] : Fin 1 → IVec S16 32) a x).toNat < S12288.size a)
theorem k0_idx527_inb : ∀ (v1933 : IVec S16 32) (k0_hw527 : k0_chk527 v1933), ∀ a x, ((![v1933] : Fin 1 → IVec S16 32) a x).toNat < S12288.size a := fun v1933 k0_hw527 => k0_hw527

def k0_chk528 (v1934 : IVec S16 32) : Prop :=
  (∀ a x, ((![v1934] : Fin 1 → IVec S16 32) a x).toNat < S4096.size a)
theorem k0_idx528_inb : ∀ (v1934 : IVec S16 32) (k0_hw528 : k0_chk528 v1934), ∀ a x, ((![v1934] : Fin 1 → IVec S16 32) a x).toNat < S4096.size a := fun v1934 k0_hw528 => k0_hw528

def k0_chk529 (v1938 : IVec S16 32) : Prop :=
  (∀ a x, ((![v1938] : Fin 1 → IVec S16 32) a x).toNat < S12288.size a)
theorem k0_idx529_inb : ∀ (v1938 : IVec S16 32) (k0_hw529 : k0_chk529 v1938), ∀ a x, ((![v1938] : Fin 1 → IVec S16 32) a x).toNat < S12288.size a := fun v1938 k0_hw529 => k0_hw529

def k0_chk530 (v1939 : IVec S16 32) : Prop :=
  (∀ a x, ((![v1939] : Fin 1 → IVec S16 32) a x).toNat < S4096.size a)
theorem k0_idx530_inb : ∀ (v1939 : IVec S16 32) (k0_hw530 : k0_chk530 v1939), ∀ a x, ((![v1939] : Fin 1 → IVec S16 32) a x).toNat < S4096.size a := fun v1939 k0_hw530 => k0_hw530

def k0_chk531 (v1942 : IVec S16 32) : Prop :=
  (∀ a x, ((![v1942] : Fin 1 → IVec S16 32) a x).toNat < S16.size a)
theorem k0_idx531_inb : ∀ (v1942 : IVec S16 32) (k0_hw531 : k0_chk531 v1942), ∀ a x, ((![v1942] : Fin 1 → IVec S16 32) a x).toNat < S16.size a := fun v1942 k0_hw531 => k0_hw531

def k0_chk532 (v1951 : IVec S16 32) : Prop :=
  (∀ a x, ((![v1951] : Fin 1 → IVec S16 32) a x).toNat < S12288.size a)
theorem k0_idx532_inb : ∀ (v1951 : IVec S16 32) (k0_hw532 : k0_chk532 v1951), ∀ a x, ((![v1951] : Fin 1 → IVec S16 32) a x).toNat < S12288.size a := fun v1951 k0_hw532 => k0_hw532

def k0_chk533 (v1952 : IVec S16 32) : Prop :=
  (∀ a x, ((![v1952] : Fin 1 → IVec S16 32) a x).toNat < S4096.size a)
theorem k0_idx533_inb : ∀ (v1952 : IVec S16 32) (k0_hw533 : k0_chk533 v1952), ∀ a x, ((![v1952] : Fin 1 → IVec S16 32) a x).toNat < S4096.size a := fun v1952 k0_hw533 => k0_hw533

def k0_chk534 (v1955 : IVec S16 32) : Prop :=
  (∀ a x, ((![v1955] : Fin 1 → IVec S16 32) a x).toNat < S12288.size a)
theorem k0_idx534_inb : ∀ (v1955 : IVec S16 32) (k0_hw534 : k0_chk534 v1955), ∀ a x, ((![v1955] : Fin 1 → IVec S16 32) a x).toNat < S12288.size a := fun v1955 k0_hw534 => k0_hw534

def k0_chk535 (v1956 : IVec S16 32) : Prop :=
  (∀ a x, ((![v1956] : Fin 1 → IVec S16 32) a x).toNat < S4096.size a)
theorem k0_idx535_inb : ∀ (v1956 : IVec S16 32) (k0_hw535 : k0_chk535 v1956), ∀ a x, ((![v1956] : Fin 1 → IVec S16 32) a x).toNat < S4096.size a := fun v1956 k0_hw535 => k0_hw535

def k0_chk536 (v1960 : IVec S16 32) : Prop :=
  (∀ a x, ((![v1960] : Fin 1 → IVec S16 32) a x).toNat < S12288.size a)
theorem k0_idx536_inb : ∀ (v1960 : IVec S16 32) (k0_hw536 : k0_chk536 v1960), ∀ a x, ((![v1960] : Fin 1 → IVec S16 32) a x).toNat < S12288.size a := fun v1960 k0_hw536 => k0_hw536

def k0_chk537 (v1961 : IVec S16 32) : Prop :=
  (∀ a x, ((![v1961] : Fin 1 → IVec S16 32) a x).toNat < S4096.size a)
theorem k0_idx537_inb : ∀ (v1961 : IVec S16 32) (k0_hw537 : k0_chk537 v1961), ∀ a x, ((![v1961] : Fin 1 → IVec S16 32) a x).toNat < S4096.size a := fun v1961 k0_hw537 => k0_hw537

def k0_chk538 (v1965 : IVec S16 32) : Prop :=
  (∀ a x, ((![v1965] : Fin 1 → IVec S16 32) a x).toNat < S12288.size a)
theorem k0_idx538_inb : ∀ (v1965 : IVec S16 32) (k0_hw538 : k0_chk538 v1965), ∀ a x, ((![v1965] : Fin 1 → IVec S16 32) a x).toNat < S12288.size a := fun v1965 k0_hw538 => k0_hw538

def k0_chk539 (v1966 : IVec S16 32) : Prop :=
  (∀ a x, ((![v1966] : Fin 1 → IVec S16 32) a x).toNat < S4096.size a)
theorem k0_idx539_inb : ∀ (v1966 : IVec S16 32) (k0_hw539 : k0_chk539 v1966), ∀ a x, ((![v1966] : Fin 1 → IVec S16 32) a x).toNat < S4096.size a := fun v1966 k0_hw539 => k0_hw539

def k0_chk540 (v1969 : IVec S16 32) : Prop :=
  (∀ a x, ((![v1969] : Fin 1 → IVec S16 32) a x).toNat < S16.size a)
theorem k0_idx540_inb : ∀ (v1969 : IVec S16 32) (k0_hw540 : k0_chk540 v1969), ∀ a x, ((![v1969] : Fin 1 → IVec S16 32) a x).toNat < S16.size a := fun v1969 k0_hw540 => k0_hw540

def k0_chk541 (v1978 : IVec S16 32) : Prop :=
  (∀ a x, ((![v1978] : Fin 1 → IVec S16 32) a x).toNat < S12288.size a)
theorem k0_idx541_inb : ∀ (v1978 : IVec S16 32) (k0_hw541 : k0_chk541 v1978), ∀ a x, ((![v1978] : Fin 1 → IVec S16 32) a x).toNat < S12288.size a := fun v1978 k0_hw541 => k0_hw541

def k0_chk542 (v1979 : IVec S16 32) : Prop :=
  (∀ a x, ((![v1979] : Fin 1 → IVec S16 32) a x).toNat < S4096.size a)
theorem k0_idx542_inb : ∀ (v1979 : IVec S16 32) (k0_hw542 : k0_chk542 v1979), ∀ a x, ((![v1979] : Fin 1 → IVec S16 32) a x).toNat < S4096.size a := fun v1979 k0_hw542 => k0_hw542

def k0_chk543 (v1982 : IVec S16 32) : Prop :=
  (∀ a x, ((![v1982] : Fin 1 → IVec S16 32) a x).toNat < S12288.size a)
theorem k0_idx543_inb : ∀ (v1982 : IVec S16 32) (k0_hw543 : k0_chk543 v1982), ∀ a x, ((![v1982] : Fin 1 → IVec S16 32) a x).toNat < S12288.size a := fun v1982 k0_hw543 => k0_hw543

def k0_chk544 (v1983 : IVec S16 32) : Prop :=
  (∀ a x, ((![v1983] : Fin 1 → IVec S16 32) a x).toNat < S4096.size a)
theorem k0_idx544_inb : ∀ (v1983 : IVec S16 32) (k0_hw544 : k0_chk544 v1983), ∀ a x, ((![v1983] : Fin 1 → IVec S16 32) a x).toNat < S4096.size a := fun v1983 k0_hw544 => k0_hw544

def k0_chk545 (v1987 : IVec S16 32) : Prop :=
  (∀ a x, ((![v1987] : Fin 1 → IVec S16 32) a x).toNat < S12288.size a)
theorem k0_idx545_inb : ∀ (v1987 : IVec S16 32) (k0_hw545 : k0_chk545 v1987), ∀ a x, ((![v1987] : Fin 1 → IVec S16 32) a x).toNat < S12288.size a := fun v1987 k0_hw545 => k0_hw545

def k0_chk546 (v1988 : IVec S16 32) : Prop :=
  (∀ a x, ((![v1988] : Fin 1 → IVec S16 32) a x).toNat < S4096.size a)
theorem k0_idx546_inb : ∀ (v1988 : IVec S16 32) (k0_hw546 : k0_chk546 v1988), ∀ a x, ((![v1988] : Fin 1 → IVec S16 32) a x).toNat < S4096.size a := fun v1988 k0_hw546 => k0_hw546

def k0_chk547 (v1992 : IVec S16 32) : Prop :=
  (∀ a x, ((![v1992] : Fin 1 → IVec S16 32) a x).toNat < S12288.size a)
theorem k0_idx547_inb : ∀ (v1992 : IVec S16 32) (k0_hw547 : k0_chk547 v1992), ∀ a x, ((![v1992] : Fin 1 → IVec S16 32) a x).toNat < S12288.size a := fun v1992 k0_hw547 => k0_hw547

def k0_chk548 (v1993 : IVec S16 32) : Prop :=
  (∀ a x, ((![v1993] : Fin 1 → IVec S16 32) a x).toNat < S4096.size a)
theorem k0_idx548_inb : ∀ (v1993 : IVec S16 32) (k0_hw548 : k0_chk548 v1993), ∀ a x, ((![v1993] : Fin 1 → IVec S16 32) a x).toNat < S4096.size a := fun v1993 k0_hw548 => k0_hw548

def k0_chk549 (v1996 : IVec S16 32) : Prop :=
  (∀ a x, ((![v1996] : Fin 1 → IVec S16 32) a x).toNat < S16.size a)
theorem k0_idx549_inb : ∀ (v1996 : IVec S16 32) (k0_hw549 : k0_chk549 v1996), ∀ a x, ((![v1996] : Fin 1 → IVec S16 32) a x).toNat < S16.size a := fun v1996 k0_hw549 => k0_hw549

def k0_chk550 (v2005 : IVec S16 32) : Prop :=
  (∀ a x, ((![v2005] : Fin 1 → IVec S16 32) a x).toNat < S12288.size a)
theorem k0_idx550_inb : ∀ (v2005 : IVec S16 32) (k0_hw550 : k0_chk550 v2005), ∀ a x, ((![v2005] : Fin 1 → IVec S16 32) a x).toNat < S12288.size a := fun v2005 k0_hw550 => k0_hw550

def k0_chk551 (v2006 : IVec S16 32) : Prop :=
  (∀ a x, ((![v2006] : Fin 1 → IVec S16 32) a x).toNat < S4096.size a)
theorem k0_idx551_inb : ∀ (v2006 : IVec S16 32) (k0_hw551 : k0_chk551 v2006), ∀ a x, ((![v2006] : Fin 1 → IVec S16 32) a x).toNat < S4096.size a := fun v2006 k0_hw551 => k0_hw551

def k0_chk552 (v2009 : IVec S16 32) : Prop :=
  (∀ a x, ((![v2009] : Fin 1 → IVec S16 32) a x).toNat < S12288.size a)
theorem k0_idx552_inb : ∀ (v2009 : IVec S16 32) (k0_hw552 : k0_chk552 v2009), ∀ a x, ((![v2009] : Fin 1 → IVec S16 32) a x).toNat < S12288.size a := fun v2009 k0_hw552 => k0_hw552

def k0_chk553 (v2010 : IVec S16 32) : Prop :=
  (∀ a x, ((![v2010] : Fin 1 → IVec S16 32) a x).toNat < S4096.size a)
theorem k0_idx553_inb : ∀ (v2010 : IVec S16 32) (k0_hw553 : k0_chk553 v2010), ∀ a x, ((![v2010] : Fin 1 → IVec S16 32) a x).toNat < S4096.size a := fun v2010 k0_hw553 => k0_hw553

def k0_chk554 (v2014 : IVec S16 32) : Prop :=
  (∀ a x, ((![v2014] : Fin 1 → IVec S16 32) a x).toNat < S12288.size a)
theorem k0_idx554_inb : ∀ (v2014 : IVec S16 32) (k0_hw554 : k0_chk554 v2014), ∀ a x, ((![v2014] : Fin 1 → IVec S16 32) a x).toNat < S12288.size a := fun v2014 k0_hw554 => k0_hw554

def k0_chk555 (v2015 : IVec S16 32) : Prop :=
  (∀ a x, ((![v2015] : Fin 1 → IVec S16 32) a x).toNat < S4096.size a)
theorem k0_idx555_inb : ∀ (v2015 : IVec S16 32) (k0_hw555 : k0_chk555 v2015), ∀ a x, ((![v2015] : Fin 1 → IVec S16 32) a x).toNat < S4096.size a := fun v2015 k0_hw555 => k0_hw555

def k0_chk556 (v2019 : IVec S16 32) : Prop :=
  (∀ a x, ((![v2019] : Fin 1 → IVec S16 32) a x).toNat < S12288.size a)
theorem k0_idx556_inb : ∀ (v2019 : IVec S16 32) (k0_hw556 : k0_chk556 v2019), ∀ a x, ((![v2019] : Fin 1 → IVec S16 32) a x).toNat < S12288.size a := fun v2019 k0_hw556 => k0_hw556

def k0_chk557 (v2020 : IVec S16 32) : Prop :=
  (∀ a x, ((![v2020] : Fin 1 → IVec S16 32) a x).toNat < S4096.size a)
theorem k0_idx557_inb : ∀ (v2020 : IVec S16 32) (k0_hw557 : k0_chk557 v2020), ∀ a x, ((![v2020] : Fin 1 → IVec S16 32) a x).toNat < S4096.size a := fun v2020 k0_hw557 => k0_hw557

def k0_chk558 (v2023 : IVec S16 32) : Prop :=
  (∀ a x, ((![v2023] : Fin 1 → IVec S16 32) a x).toNat < S16.size a)
theorem k0_idx558_inb : ∀ (v2023 : IVec S16 32) (k0_hw558 : k0_chk558 v2023), ∀ a x, ((![v2023] : Fin 1 → IVec S16 32) a x).toNat < S16.size a := fun v2023 k0_hw558 => k0_hw558

def k0_chk559 (v2032 : IVec S16 32) : Prop :=
  (∀ a x, ((![v2032] : Fin 1 → IVec S16 32) a x).toNat < S12288.size a)
theorem k0_idx559_inb : ∀ (v2032 : IVec S16 32) (k0_hw559 : k0_chk559 v2032), ∀ a x, ((![v2032] : Fin 1 → IVec S16 32) a x).toNat < S12288.size a := fun v2032 k0_hw559 => k0_hw559

def k0_chk560 (v2033 : IVec S16 32) : Prop :=
  (∀ a x, ((![v2033] : Fin 1 → IVec S16 32) a x).toNat < S4096.size a)
theorem k0_idx560_inb : ∀ (v2033 : IVec S16 32) (k0_hw560 : k0_chk560 v2033), ∀ a x, ((![v2033] : Fin 1 → IVec S16 32) a x).toNat < S4096.size a := fun v2033 k0_hw560 => k0_hw560

def k0_chk561 (v2036 : IVec S16 32) : Prop :=
  (∀ a x, ((![v2036] : Fin 1 → IVec S16 32) a x).toNat < S12288.size a)
theorem k0_idx561_inb : ∀ (v2036 : IVec S16 32) (k0_hw561 : k0_chk561 v2036), ∀ a x, ((![v2036] : Fin 1 → IVec S16 32) a x).toNat < S12288.size a := fun v2036 k0_hw561 => k0_hw561

def k0_chk562 (v2037 : IVec S16 32) : Prop :=
  (∀ a x, ((![v2037] : Fin 1 → IVec S16 32) a x).toNat < S4096.size a)
theorem k0_idx562_inb : ∀ (v2037 : IVec S16 32) (k0_hw562 : k0_chk562 v2037), ∀ a x, ((![v2037] : Fin 1 → IVec S16 32) a x).toNat < S4096.size a := fun v2037 k0_hw562 => k0_hw562

def k0_chk563 (v2041 : IVec S16 32) : Prop :=
  (∀ a x, ((![v2041] : Fin 1 → IVec S16 32) a x).toNat < S12288.size a)
theorem k0_idx563_inb : ∀ (v2041 : IVec S16 32) (k0_hw563 : k0_chk563 v2041), ∀ a x, ((![v2041] : Fin 1 → IVec S16 32) a x).toNat < S12288.size a := fun v2041 k0_hw563 => k0_hw563

def k0_chk564 (v2042 : IVec S16 32) : Prop :=
  (∀ a x, ((![v2042] : Fin 1 → IVec S16 32) a x).toNat < S4096.size a)
theorem k0_idx564_inb : ∀ (v2042 : IVec S16 32) (k0_hw564 : k0_chk564 v2042), ∀ a x, ((![v2042] : Fin 1 → IVec S16 32) a x).toNat < S4096.size a := fun v2042 k0_hw564 => k0_hw564

def k0_chk565 (v2046 : IVec S16 32) : Prop :=
  (∀ a x, ((![v2046] : Fin 1 → IVec S16 32) a x).toNat < S12288.size a)
theorem k0_idx565_inb : ∀ (v2046 : IVec S16 32) (k0_hw565 : k0_chk565 v2046), ∀ a x, ((![v2046] : Fin 1 → IVec S16 32) a x).toNat < S12288.size a := fun v2046 k0_hw565 => k0_hw565

def k0_chk566 (v2047 : IVec S16 32) : Prop :=
  (∀ a x, ((![v2047] : Fin 1 → IVec S16 32) a x).toNat < S4096.size a)
theorem k0_idx566_inb : ∀ (v2047 : IVec S16 32) (k0_hw566 : k0_chk566 v2047), ∀ a x, ((![v2047] : Fin 1 → IVec S16 32) a x).toNat < S4096.size a := fun v2047 k0_hw566 => k0_hw566

def k0_chk567 (v2050 : IVec S16 32) : Prop :=
  (∀ a x, ((![v2050] : Fin 1 → IVec S16 32) a x).toNat < S16.size a)
theorem k0_idx567_inb : ∀ (v2050 : IVec S16 32) (k0_hw567 : k0_chk567 v2050), ∀ a x, ((![v2050] : Fin 1 → IVec S16 32) a x).toNat < S16.size a := fun v2050 k0_hw567 => k0_hw567

def k0_chk568 (v2059 : IVec S16 32) : Prop :=
  (∀ a x, ((![v2059] : Fin 1 → IVec S16 32) a x).toNat < S12288.size a)
theorem k0_idx568_inb : ∀ (v2059 : IVec S16 32) (k0_hw568 : k0_chk568 v2059), ∀ a x, ((![v2059] : Fin 1 → IVec S16 32) a x).toNat < S12288.size a := fun v2059 k0_hw568 => k0_hw568

def k0_chk569 (v2060 : IVec S16 32) : Prop :=
  (∀ a x, ((![v2060] : Fin 1 → IVec S16 32) a x).toNat < S4096.size a)
theorem k0_idx569_inb : ∀ (v2060 : IVec S16 32) (k0_hw569 : k0_chk569 v2060), ∀ a x, ((![v2060] : Fin 1 → IVec S16 32) a x).toNat < S4096.size a := fun v2060 k0_hw569 => k0_hw569

def k0_chk570 (v2063 : IVec S16 32) : Prop :=
  (∀ a x, ((![v2063] : Fin 1 → IVec S16 32) a x).toNat < S12288.size a)
theorem k0_idx570_inb : ∀ (v2063 : IVec S16 32) (k0_hw570 : k0_chk570 v2063), ∀ a x, ((![v2063] : Fin 1 → IVec S16 32) a x).toNat < S12288.size a := fun v2063 k0_hw570 => k0_hw570

def k0_chk571 (v2064 : IVec S16 32) : Prop :=
  (∀ a x, ((![v2064] : Fin 1 → IVec S16 32) a x).toNat < S4096.size a)
theorem k0_idx571_inb : ∀ (v2064 : IVec S16 32) (k0_hw571 : k0_chk571 v2064), ∀ a x, ((![v2064] : Fin 1 → IVec S16 32) a x).toNat < S4096.size a := fun v2064 k0_hw571 => k0_hw571

def k0_chk572 (v2068 : IVec S16 32) : Prop :=
  (∀ a x, ((![v2068] : Fin 1 → IVec S16 32) a x).toNat < S12288.size a)
theorem k0_idx572_inb : ∀ (v2068 : IVec S16 32) (k0_hw572 : k0_chk572 v2068), ∀ a x, ((![v2068] : Fin 1 → IVec S16 32) a x).toNat < S12288.size a := fun v2068 k0_hw572 => k0_hw572

def k0_chk573 (v2069 : IVec S16 32) : Prop :=
  (∀ a x, ((![v2069] : Fin 1 → IVec S16 32) a x).toNat < S4096.size a)
theorem k0_idx573_inb : ∀ (v2069 : IVec S16 32) (k0_hw573 : k0_chk573 v2069), ∀ a x, ((![v2069] : Fin 1 → IVec S16 32) a x).toNat < S4096.size a := fun v2069 k0_hw573 => k0_hw573

def k0_chk574 (v2073 : IVec S16 32) : Prop :=
  (∀ a x, ((![v2073] : Fin 1 → IVec S16 32) a x).toNat < S12288.size a)
theorem k0_idx574_inb : ∀ (v2073 : IVec S16 32) (k0_hw574 : k0_chk574 v2073), ∀ a x, ((![v2073] : Fin 1 → IVec S16 32) a x).toNat < S12288.size a := fun v2073 k0_hw574 => k0_hw574

def k0_chk575 (v2074 : IVec S16 32) : Prop :=
  (∀ a x, ((![v2074] : Fin 1 → IVec S16 32) a x).toNat < S4096.size a)
theorem k0_idx575_inb : ∀ (v2074 : IVec S16 32) (k0_hw575 : k0_chk575 v2074), ∀ a x, ((![v2074] : Fin 1 → IVec S16 32) a x).toNat < S4096.size a := fun v2074 k0_hw575 => k0_hw575

def k0_chk576 (v2077 : IVec S16 32) : Prop :=
  (∀ a x, ((![v2077] : Fin 1 → IVec S16 32) a x).toNat < S16.size a)
theorem k0_idx576_inb : ∀ (v2077 : IVec S16 32) (k0_hw576 : k0_chk576 v2077), ∀ a x, ((![v2077] : Fin 1 → IVec S16 32) a x).toNat < S16.size a := fun v2077 k0_hw576 => k0_hw576
def k0_off31 (i : grid0.Coords) : Fin 2 → Nat :=
  let c1_i32_449 : BitVec 32 := 1#32
  let arg1 : BitVec 32 := BitVec.ofNat 32 (i 1).val
  let c256_i32_448 : BitVec 32 := 256#32
  let v2085 : BitVec 32 := Scalar.muli arg1 c256_i32_448
  ![1, v2085.toNat]
def k0_off32 (i : grid0.Coords) : Fin 2 → Nat :=
  let c3_i32_452 : BitVec 32 := 3#32
  let arg1 : BitVec 32 := BitVec.ofNat 32 (i 1).val
  let c256_i32_450 : BitVec 32 := 256#32
  let v2086 : BitVec 32 := Scalar.muli arg1 c256_i32_450
  ![3, v2086.toNat]

def k0_chk577 (v2096 : IVec S16 32) : Prop :=
  (∀ a x, ((![v2096] : Fin 1 → IVec S16 32) a x).toNat < S12288.size a)
theorem k0_idx577_inb : ∀ (v2096 : IVec S16 32) (k0_hw577 : k0_chk577 v2096), ∀ a x, ((![v2096] : Fin 1 → IVec S16 32) a x).toNat < S12288.size a := fun v2096 k0_hw577 => k0_hw577

def k0_chk578 (v2097 : IVec S16 32) : Prop :=
  (∀ a x, ((![v2097] : Fin 1 → IVec S16 32) a x).toNat < S4096.size a)
theorem k0_idx578_inb : ∀ (v2097 : IVec S16 32) (k0_hw578 : k0_chk578 v2097), ∀ a x, ((![v2097] : Fin 1 → IVec S16 32) a x).toNat < S4096.size a := fun v2097 k0_hw578 => k0_hw578

def k0_chk579 (v2100 : IVec S16 32) : Prop :=
  (∀ a x, ((![v2100] : Fin 1 → IVec S16 32) a x).toNat < S12288.size a)
theorem k0_idx579_inb : ∀ (v2100 : IVec S16 32) (k0_hw579 : k0_chk579 v2100), ∀ a x, ((![v2100] : Fin 1 → IVec S16 32) a x).toNat < S12288.size a := fun v2100 k0_hw579 => k0_hw579

def k0_chk580 (v2101 : IVec S16 32) : Prop :=
  (∀ a x, ((![v2101] : Fin 1 → IVec S16 32) a x).toNat < S4096.size a)
theorem k0_idx580_inb : ∀ (v2101 : IVec S16 32) (k0_hw580 : k0_chk580 v2101), ∀ a x, ((![v2101] : Fin 1 → IVec S16 32) a x).toNat < S4096.size a := fun v2101 k0_hw580 => k0_hw580

def k0_chk581 (v2105 : IVec S16 32) : Prop :=
  (∀ a x, ((![v2105] : Fin 1 → IVec S16 32) a x).toNat < S12288.size a)
theorem k0_idx581_inb : ∀ (v2105 : IVec S16 32) (k0_hw581 : k0_chk581 v2105), ∀ a x, ((![v2105] : Fin 1 → IVec S16 32) a x).toNat < S12288.size a := fun v2105 k0_hw581 => k0_hw581

def k0_chk582 (v2106 : IVec S16 32) : Prop :=
  (∀ a x, ((![v2106] : Fin 1 → IVec S16 32) a x).toNat < S4096.size a)
theorem k0_idx582_inb : ∀ (v2106 : IVec S16 32) (k0_hw582 : k0_chk582 v2106), ∀ a x, ((![v2106] : Fin 1 → IVec S16 32) a x).toNat < S4096.size a := fun v2106 k0_hw582 => k0_hw582

def k0_chk583 (v2110 : IVec S16 32) : Prop :=
  (∀ a x, ((![v2110] : Fin 1 → IVec S16 32) a x).toNat < S12288.size a)
theorem k0_idx583_inb : ∀ (v2110 : IVec S16 32) (k0_hw583 : k0_chk583 v2110), ∀ a x, ((![v2110] : Fin 1 → IVec S16 32) a x).toNat < S12288.size a := fun v2110 k0_hw583 => k0_hw583

def k0_chk584 (v2111 : IVec S16 32) : Prop :=
  (∀ a x, ((![v2111] : Fin 1 → IVec S16 32) a x).toNat < S4096.size a)
theorem k0_idx584_inb : ∀ (v2111 : IVec S16 32) (k0_hw584 : k0_chk584 v2111), ∀ a x, ((![v2111] : Fin 1 → IVec S16 32) a x).toNat < S4096.size a := fun v2111 k0_hw584 => k0_hw584

def k0_chk585 (v2114 : IVec S16 32) : Prop :=
  (∀ a x, ((![v2114] : Fin 1 → IVec S16 32) a x).toNat < S16.size a)
theorem k0_idx585_inb : ∀ (v2114 : IVec S16 32) (k0_hw585 : k0_chk585 v2114), ∀ a x, ((![v2114] : Fin 1 → IVec S16 32) a x).toNat < S16.size a := fun v2114 k0_hw585 => k0_hw585

def k0_chk586 (v2123 : IVec S16 32) : Prop :=
  (∀ a x, ((![v2123] : Fin 1 → IVec S16 32) a x).toNat < S12288.size a)
theorem k0_idx586_inb : ∀ (v2123 : IVec S16 32) (k0_hw586 : k0_chk586 v2123), ∀ a x, ((![v2123] : Fin 1 → IVec S16 32) a x).toNat < S12288.size a := fun v2123 k0_hw586 => k0_hw586

def k0_chk587 (v2124 : IVec S16 32) : Prop :=
  (∀ a x, ((![v2124] : Fin 1 → IVec S16 32) a x).toNat < S4096.size a)
theorem k0_idx587_inb : ∀ (v2124 : IVec S16 32) (k0_hw587 : k0_chk587 v2124), ∀ a x, ((![v2124] : Fin 1 → IVec S16 32) a x).toNat < S4096.size a := fun v2124 k0_hw587 => k0_hw587

def k0_chk588 (v2127 : IVec S16 32) : Prop :=
  (∀ a x, ((![v2127] : Fin 1 → IVec S16 32) a x).toNat < S12288.size a)
theorem k0_idx588_inb : ∀ (v2127 : IVec S16 32) (k0_hw588 : k0_chk588 v2127), ∀ a x, ((![v2127] : Fin 1 → IVec S16 32) a x).toNat < S12288.size a := fun v2127 k0_hw588 => k0_hw588

def k0_chk589 (v2128 : IVec S16 32) : Prop :=
  (∀ a x, ((![v2128] : Fin 1 → IVec S16 32) a x).toNat < S4096.size a)
theorem k0_idx589_inb : ∀ (v2128 : IVec S16 32) (k0_hw589 : k0_chk589 v2128), ∀ a x, ((![v2128] : Fin 1 → IVec S16 32) a x).toNat < S4096.size a := fun v2128 k0_hw589 => k0_hw589

def k0_chk590 (v2132 : IVec S16 32) : Prop :=
  (∀ a x, ((![v2132] : Fin 1 → IVec S16 32) a x).toNat < S12288.size a)
theorem k0_idx590_inb : ∀ (v2132 : IVec S16 32) (k0_hw590 : k0_chk590 v2132), ∀ a x, ((![v2132] : Fin 1 → IVec S16 32) a x).toNat < S12288.size a := fun v2132 k0_hw590 => k0_hw590

def k0_chk591 (v2133 : IVec S16 32) : Prop :=
  (∀ a x, ((![v2133] : Fin 1 → IVec S16 32) a x).toNat < S4096.size a)
theorem k0_idx591_inb : ∀ (v2133 : IVec S16 32) (k0_hw591 : k0_chk591 v2133), ∀ a x, ((![v2133] : Fin 1 → IVec S16 32) a x).toNat < S4096.size a := fun v2133 k0_hw591 => k0_hw591

def k0_chk592 (v2137 : IVec S16 32) : Prop :=
  (∀ a x, ((![v2137] : Fin 1 → IVec S16 32) a x).toNat < S12288.size a)
theorem k0_idx592_inb : ∀ (v2137 : IVec S16 32) (k0_hw592 : k0_chk592 v2137), ∀ a x, ((![v2137] : Fin 1 → IVec S16 32) a x).toNat < S12288.size a := fun v2137 k0_hw592 => k0_hw592

def k0_chk593 (v2138 : IVec S16 32) : Prop :=
  (∀ a x, ((![v2138] : Fin 1 → IVec S16 32) a x).toNat < S4096.size a)
theorem k0_idx593_inb : ∀ (v2138 : IVec S16 32) (k0_hw593 : k0_chk593 v2138), ∀ a x, ((![v2138] : Fin 1 → IVec S16 32) a x).toNat < S4096.size a := fun v2138 k0_hw593 => k0_hw593

def k0_chk594 (v2141 : IVec S16 32) : Prop :=
  (∀ a x, ((![v2141] : Fin 1 → IVec S16 32) a x).toNat < S16.size a)
theorem k0_idx594_inb : ∀ (v2141 : IVec S16 32) (k0_hw594 : k0_chk594 v2141), ∀ a x, ((![v2141] : Fin 1 → IVec S16 32) a x).toNat < S16.size a := fun v2141 k0_hw594 => k0_hw594

def k0_chk595 (v2150 : IVec S16 32) : Prop :=
  (∀ a x, ((![v2150] : Fin 1 → IVec S16 32) a x).toNat < S12288.size a)
theorem k0_idx595_inb : ∀ (v2150 : IVec S16 32) (k0_hw595 : k0_chk595 v2150), ∀ a x, ((![v2150] : Fin 1 → IVec S16 32) a x).toNat < S12288.size a := fun v2150 k0_hw595 => k0_hw595

def k0_chk596 (v2151 : IVec S16 32) : Prop :=
  (∀ a x, ((![v2151] : Fin 1 → IVec S16 32) a x).toNat < S4096.size a)
theorem k0_idx596_inb : ∀ (v2151 : IVec S16 32) (k0_hw596 : k0_chk596 v2151), ∀ a x, ((![v2151] : Fin 1 → IVec S16 32) a x).toNat < S4096.size a := fun v2151 k0_hw596 => k0_hw596

def k0_chk597 (v2154 : IVec S16 32) : Prop :=
  (∀ a x, ((![v2154] : Fin 1 → IVec S16 32) a x).toNat < S12288.size a)
theorem k0_idx597_inb : ∀ (v2154 : IVec S16 32) (k0_hw597 : k0_chk597 v2154), ∀ a x, ((![v2154] : Fin 1 → IVec S16 32) a x).toNat < S12288.size a := fun v2154 k0_hw597 => k0_hw597

def k0_chk598 (v2155 : IVec S16 32) : Prop :=
  (∀ a x, ((![v2155] : Fin 1 → IVec S16 32) a x).toNat < S4096.size a)
theorem k0_idx598_inb : ∀ (v2155 : IVec S16 32) (k0_hw598 : k0_chk598 v2155), ∀ a x, ((![v2155] : Fin 1 → IVec S16 32) a x).toNat < S4096.size a := fun v2155 k0_hw598 => k0_hw598

def k0_chk599 (v2159 : IVec S16 32) : Prop :=
  (∀ a x, ((![v2159] : Fin 1 → IVec S16 32) a x).toNat < S12288.size a)
theorem k0_idx599_inb : ∀ (v2159 : IVec S16 32) (k0_hw599 : k0_chk599 v2159), ∀ a x, ((![v2159] : Fin 1 → IVec S16 32) a x).toNat < S12288.size a := fun v2159 k0_hw599 => k0_hw599

def k0_chk600 (v2160 : IVec S16 32) : Prop :=
  (∀ a x, ((![v2160] : Fin 1 → IVec S16 32) a x).toNat < S4096.size a)
theorem k0_idx600_inb : ∀ (v2160 : IVec S16 32) (k0_hw600 : k0_chk600 v2160), ∀ a x, ((![v2160] : Fin 1 → IVec S16 32) a x).toNat < S4096.size a := fun v2160 k0_hw600 => k0_hw600

def k0_chk601 (v2164 : IVec S16 32) : Prop :=
  (∀ a x, ((![v2164] : Fin 1 → IVec S16 32) a x).toNat < S12288.size a)
theorem k0_idx601_inb : ∀ (v2164 : IVec S16 32) (k0_hw601 : k0_chk601 v2164), ∀ a x, ((![v2164] : Fin 1 → IVec S16 32) a x).toNat < S12288.size a := fun v2164 k0_hw601 => k0_hw601

def k0_chk602 (v2165 : IVec S16 32) : Prop :=
  (∀ a x, ((![v2165] : Fin 1 → IVec S16 32) a x).toNat < S4096.size a)
theorem k0_idx602_inb : ∀ (v2165 : IVec S16 32) (k0_hw602 : k0_chk602 v2165), ∀ a x, ((![v2165] : Fin 1 → IVec S16 32) a x).toNat < S4096.size a := fun v2165 k0_hw602 => k0_hw602

def k0_chk603 (v2168 : IVec S16 32) : Prop :=
  (∀ a x, ((![v2168] : Fin 1 → IVec S16 32) a x).toNat < S16.size a)
theorem k0_idx603_inb : ∀ (v2168 : IVec S16 32) (k0_hw603 : k0_chk603 v2168), ∀ a x, ((![v2168] : Fin 1 → IVec S16 32) a x).toNat < S16.size a := fun v2168 k0_hw603 => k0_hw603

def k0_chk604 (v2177 : IVec S16 32) : Prop :=
  (∀ a x, ((![v2177] : Fin 1 → IVec S16 32) a x).toNat < S12288.size a)
theorem k0_idx604_inb : ∀ (v2177 : IVec S16 32) (k0_hw604 : k0_chk604 v2177), ∀ a x, ((![v2177] : Fin 1 → IVec S16 32) a x).toNat < S12288.size a := fun v2177 k0_hw604 => k0_hw604

def k0_chk605 (v2178 : IVec S16 32) : Prop :=
  (∀ a x, ((![v2178] : Fin 1 → IVec S16 32) a x).toNat < S4096.size a)
theorem k0_idx605_inb : ∀ (v2178 : IVec S16 32) (k0_hw605 : k0_chk605 v2178), ∀ a x, ((![v2178] : Fin 1 → IVec S16 32) a x).toNat < S4096.size a := fun v2178 k0_hw605 => k0_hw605

def k0_chk606 (v2181 : IVec S16 32) : Prop :=
  (∀ a x, ((![v2181] : Fin 1 → IVec S16 32) a x).toNat < S12288.size a)
theorem k0_idx606_inb : ∀ (v2181 : IVec S16 32) (k0_hw606 : k0_chk606 v2181), ∀ a x, ((![v2181] : Fin 1 → IVec S16 32) a x).toNat < S12288.size a := fun v2181 k0_hw606 => k0_hw606

def k0_chk607 (v2182 : IVec S16 32) : Prop :=
  (∀ a x, ((![v2182] : Fin 1 → IVec S16 32) a x).toNat < S4096.size a)
theorem k0_idx607_inb : ∀ (v2182 : IVec S16 32) (k0_hw607 : k0_chk607 v2182), ∀ a x, ((![v2182] : Fin 1 → IVec S16 32) a x).toNat < S4096.size a := fun v2182 k0_hw607 => k0_hw607

def k0_chk608 (v2186 : IVec S16 32) : Prop :=
  (∀ a x, ((![v2186] : Fin 1 → IVec S16 32) a x).toNat < S12288.size a)
theorem k0_idx608_inb : ∀ (v2186 : IVec S16 32) (k0_hw608 : k0_chk608 v2186), ∀ a x, ((![v2186] : Fin 1 → IVec S16 32) a x).toNat < S12288.size a := fun v2186 k0_hw608 => k0_hw608

def k0_chk609 (v2187 : IVec S16 32) : Prop :=
  (∀ a x, ((![v2187] : Fin 1 → IVec S16 32) a x).toNat < S4096.size a)
theorem k0_idx609_inb : ∀ (v2187 : IVec S16 32) (k0_hw609 : k0_chk609 v2187), ∀ a x, ((![v2187] : Fin 1 → IVec S16 32) a x).toNat < S4096.size a := fun v2187 k0_hw609 => k0_hw609

def k0_chk610 (v2191 : IVec S16 32) : Prop :=
  (∀ a x, ((![v2191] : Fin 1 → IVec S16 32) a x).toNat < S12288.size a)
theorem k0_idx610_inb : ∀ (v2191 : IVec S16 32) (k0_hw610 : k0_chk610 v2191), ∀ a x, ((![v2191] : Fin 1 → IVec S16 32) a x).toNat < S12288.size a := fun v2191 k0_hw610 => k0_hw610

def k0_chk611 (v2192 : IVec S16 32) : Prop :=
  (∀ a x, ((![v2192] : Fin 1 → IVec S16 32) a x).toNat < S4096.size a)
theorem k0_idx611_inb : ∀ (v2192 : IVec S16 32) (k0_hw611 : k0_chk611 v2192), ∀ a x, ((![v2192] : Fin 1 → IVec S16 32) a x).toNat < S4096.size a := fun v2192 k0_hw611 => k0_hw611

def k0_chk612 (v2195 : IVec S16 32) : Prop :=
  (∀ a x, ((![v2195] : Fin 1 → IVec S16 32) a x).toNat < S16.size a)
theorem k0_idx612_inb : ∀ (v2195 : IVec S16 32) (k0_hw612 : k0_chk612 v2195), ∀ a x, ((![v2195] : Fin 1 → IVec S16 32) a x).toNat < S16.size a := fun v2195 k0_hw612 => k0_hw612

def k0_chk613 (v2204 : IVec S16 32) : Prop :=
  (∀ a x, ((![v2204] : Fin 1 → IVec S16 32) a x).toNat < S12288.size a)
theorem k0_idx613_inb : ∀ (v2204 : IVec S16 32) (k0_hw613 : k0_chk613 v2204), ∀ a x, ((![v2204] : Fin 1 → IVec S16 32) a x).toNat < S12288.size a := fun v2204 k0_hw613 => k0_hw613

def k0_chk614 (v2205 : IVec S16 32) : Prop :=
  (∀ a x, ((![v2205] : Fin 1 → IVec S16 32) a x).toNat < S4096.size a)
theorem k0_idx614_inb : ∀ (v2205 : IVec S16 32) (k0_hw614 : k0_chk614 v2205), ∀ a x, ((![v2205] : Fin 1 → IVec S16 32) a x).toNat < S4096.size a := fun v2205 k0_hw614 => k0_hw614

def k0_chk615 (v2208 : IVec S16 32) : Prop :=
  (∀ a x, ((![v2208] : Fin 1 → IVec S16 32) a x).toNat < S12288.size a)
theorem k0_idx615_inb : ∀ (v2208 : IVec S16 32) (k0_hw615 : k0_chk615 v2208), ∀ a x, ((![v2208] : Fin 1 → IVec S16 32) a x).toNat < S12288.size a := fun v2208 k0_hw615 => k0_hw615

def k0_chk616 (v2209 : IVec S16 32) : Prop :=
  (∀ a x, ((![v2209] : Fin 1 → IVec S16 32) a x).toNat < S4096.size a)
theorem k0_idx616_inb : ∀ (v2209 : IVec S16 32) (k0_hw616 : k0_chk616 v2209), ∀ a x, ((![v2209] : Fin 1 → IVec S16 32) a x).toNat < S4096.size a := fun v2209 k0_hw616 => k0_hw616

def k0_chk617 (v2213 : IVec S16 32) : Prop :=
  (∀ a x, ((![v2213] : Fin 1 → IVec S16 32) a x).toNat < S12288.size a)
theorem k0_idx617_inb : ∀ (v2213 : IVec S16 32) (k0_hw617 : k0_chk617 v2213), ∀ a x, ((![v2213] : Fin 1 → IVec S16 32) a x).toNat < S12288.size a := fun v2213 k0_hw617 => k0_hw617

def k0_chk618 (v2214 : IVec S16 32) : Prop :=
  (∀ a x, ((![v2214] : Fin 1 → IVec S16 32) a x).toNat < S4096.size a)
theorem k0_idx618_inb : ∀ (v2214 : IVec S16 32) (k0_hw618 : k0_chk618 v2214), ∀ a x, ((![v2214] : Fin 1 → IVec S16 32) a x).toNat < S4096.size a := fun v2214 k0_hw618 => k0_hw618

def k0_chk619 (v2218 : IVec S16 32) : Prop :=
  (∀ a x, ((![v2218] : Fin 1 → IVec S16 32) a x).toNat < S12288.size a)
theorem k0_idx619_inb : ∀ (v2218 : IVec S16 32) (k0_hw619 : k0_chk619 v2218), ∀ a x, ((![v2218] : Fin 1 → IVec S16 32) a x).toNat < S12288.size a := fun v2218 k0_hw619 => k0_hw619

def k0_chk620 (v2219 : IVec S16 32) : Prop :=
  (∀ a x, ((![v2219] : Fin 1 → IVec S16 32) a x).toNat < S4096.size a)
theorem k0_idx620_inb : ∀ (v2219 : IVec S16 32) (k0_hw620 : k0_chk620 v2219), ∀ a x, ((![v2219] : Fin 1 → IVec S16 32) a x).toNat < S4096.size a := fun v2219 k0_hw620 => k0_hw620

def k0_chk621 (v2222 : IVec S16 32) : Prop :=
  (∀ a x, ((![v2222] : Fin 1 → IVec S16 32) a x).toNat < S16.size a)
theorem k0_idx621_inb : ∀ (v2222 : IVec S16 32) (k0_hw621 : k0_chk621 v2222), ∀ a x, ((![v2222] : Fin 1 → IVec S16 32) a x).toNat < S16.size a := fun v2222 k0_hw621 => k0_hw621

def k0_chk622 (v2231 : IVec S16 32) : Prop :=
  (∀ a x, ((![v2231] : Fin 1 → IVec S16 32) a x).toNat < S12288.size a)
theorem k0_idx622_inb : ∀ (v2231 : IVec S16 32) (k0_hw622 : k0_chk622 v2231), ∀ a x, ((![v2231] : Fin 1 → IVec S16 32) a x).toNat < S12288.size a := fun v2231 k0_hw622 => k0_hw622

def k0_chk623 (v2232 : IVec S16 32) : Prop :=
  (∀ a x, ((![v2232] : Fin 1 → IVec S16 32) a x).toNat < S4096.size a)
theorem k0_idx623_inb : ∀ (v2232 : IVec S16 32) (k0_hw623 : k0_chk623 v2232), ∀ a x, ((![v2232] : Fin 1 → IVec S16 32) a x).toNat < S4096.size a := fun v2232 k0_hw623 => k0_hw623

def k0_chk624 (v2235 : IVec S16 32) : Prop :=
  (∀ a x, ((![v2235] : Fin 1 → IVec S16 32) a x).toNat < S12288.size a)
theorem k0_idx624_inb : ∀ (v2235 : IVec S16 32) (k0_hw624 : k0_chk624 v2235), ∀ a x, ((![v2235] : Fin 1 → IVec S16 32) a x).toNat < S12288.size a := fun v2235 k0_hw624 => k0_hw624

def k0_chk625 (v2236 : IVec S16 32) : Prop :=
  (∀ a x, ((![v2236] : Fin 1 → IVec S16 32) a x).toNat < S4096.size a)
theorem k0_idx625_inb : ∀ (v2236 : IVec S16 32) (k0_hw625 : k0_chk625 v2236), ∀ a x, ((![v2236] : Fin 1 → IVec S16 32) a x).toNat < S4096.size a := fun v2236 k0_hw625 => k0_hw625

def k0_chk626 (v2240 : IVec S16 32) : Prop :=
  (∀ a x, ((![v2240] : Fin 1 → IVec S16 32) a x).toNat < S12288.size a)
theorem k0_idx626_inb : ∀ (v2240 : IVec S16 32) (k0_hw626 : k0_chk626 v2240), ∀ a x, ((![v2240] : Fin 1 → IVec S16 32) a x).toNat < S12288.size a := fun v2240 k0_hw626 => k0_hw626

def k0_chk627 (v2241 : IVec S16 32) : Prop :=
  (∀ a x, ((![v2241] : Fin 1 → IVec S16 32) a x).toNat < S4096.size a)
theorem k0_idx627_inb : ∀ (v2241 : IVec S16 32) (k0_hw627 : k0_chk627 v2241), ∀ a x, ((![v2241] : Fin 1 → IVec S16 32) a x).toNat < S4096.size a := fun v2241 k0_hw627 => k0_hw627

def k0_chk628 (v2245 : IVec S16 32) : Prop :=
  (∀ a x, ((![v2245] : Fin 1 → IVec S16 32) a x).toNat < S12288.size a)
theorem k0_idx628_inb : ∀ (v2245 : IVec S16 32) (k0_hw628 : k0_chk628 v2245), ∀ a x, ((![v2245] : Fin 1 → IVec S16 32) a x).toNat < S12288.size a := fun v2245 k0_hw628 => k0_hw628

def k0_chk629 (v2246 : IVec S16 32) : Prop :=
  (∀ a x, ((![v2246] : Fin 1 → IVec S16 32) a x).toNat < S4096.size a)
theorem k0_idx629_inb : ∀ (v2246 : IVec S16 32) (k0_hw629 : k0_chk629 v2246), ∀ a x, ((![v2246] : Fin 1 → IVec S16 32) a x).toNat < S4096.size a := fun v2246 k0_hw629 => k0_hw629

def k0_chk630 (v2249 : IVec S16 32) : Prop :=
  (∀ a x, ((![v2249] : Fin 1 → IVec S16 32) a x).toNat < S16.size a)
theorem k0_idx630_inb : ∀ (v2249 : IVec S16 32) (k0_hw630 : k0_chk630 v2249), ∀ a x, ((![v2249] : Fin 1 → IVec S16 32) a x).toNat < S16.size a := fun v2249 k0_hw630 => k0_hw630

def k0_chk631 (v2258 : IVec S16 32) : Prop :=
  (∀ a x, ((![v2258] : Fin 1 → IVec S16 32) a x).toNat < S12288.size a)
theorem k0_idx631_inb : ∀ (v2258 : IVec S16 32) (k0_hw631 : k0_chk631 v2258), ∀ a x, ((![v2258] : Fin 1 → IVec S16 32) a x).toNat < S12288.size a := fun v2258 k0_hw631 => k0_hw631

def k0_chk632 (v2259 : IVec S16 32) : Prop :=
  (∀ a x, ((![v2259] : Fin 1 → IVec S16 32) a x).toNat < S4096.size a)
theorem k0_idx632_inb : ∀ (v2259 : IVec S16 32) (k0_hw632 : k0_chk632 v2259), ∀ a x, ((![v2259] : Fin 1 → IVec S16 32) a x).toNat < S4096.size a := fun v2259 k0_hw632 => k0_hw632

def k0_chk633 (v2262 : IVec S16 32) : Prop :=
  (∀ a x, ((![v2262] : Fin 1 → IVec S16 32) a x).toNat < S12288.size a)
theorem k0_idx633_inb : ∀ (v2262 : IVec S16 32) (k0_hw633 : k0_chk633 v2262), ∀ a x, ((![v2262] : Fin 1 → IVec S16 32) a x).toNat < S12288.size a := fun v2262 k0_hw633 => k0_hw633

def k0_chk634 (v2263 : IVec S16 32) : Prop :=
  (∀ a x, ((![v2263] : Fin 1 → IVec S16 32) a x).toNat < S4096.size a)
theorem k0_idx634_inb : ∀ (v2263 : IVec S16 32) (k0_hw634 : k0_chk634 v2263), ∀ a x, ((![v2263] : Fin 1 → IVec S16 32) a x).toNat < S4096.size a := fun v2263 k0_hw634 => k0_hw634

def k0_chk635 (v2267 : IVec S16 32) : Prop :=
  (∀ a x, ((![v2267] : Fin 1 → IVec S16 32) a x).toNat < S12288.size a)
theorem k0_idx635_inb : ∀ (v2267 : IVec S16 32) (k0_hw635 : k0_chk635 v2267), ∀ a x, ((![v2267] : Fin 1 → IVec S16 32) a x).toNat < S12288.size a := fun v2267 k0_hw635 => k0_hw635

def k0_chk636 (v2268 : IVec S16 32) : Prop :=
  (∀ a x, ((![v2268] : Fin 1 → IVec S16 32) a x).toNat < S4096.size a)
theorem k0_idx636_inb : ∀ (v2268 : IVec S16 32) (k0_hw636 : k0_chk636 v2268), ∀ a x, ((![v2268] : Fin 1 → IVec S16 32) a x).toNat < S4096.size a := fun v2268 k0_hw636 => k0_hw636

def k0_chk637 (v2272 : IVec S16 32) : Prop :=
  (∀ a x, ((![v2272] : Fin 1 → IVec S16 32) a x).toNat < S12288.size a)
theorem k0_idx637_inb : ∀ (v2272 : IVec S16 32) (k0_hw637 : k0_chk637 v2272), ∀ a x, ((![v2272] : Fin 1 → IVec S16 32) a x).toNat < S12288.size a := fun v2272 k0_hw637 => k0_hw637

def k0_chk638 (v2273 : IVec S16 32) : Prop :=
  (∀ a x, ((![v2273] : Fin 1 → IVec S16 32) a x).toNat < S4096.size a)
theorem k0_idx638_inb : ∀ (v2273 : IVec S16 32) (k0_hw638 : k0_chk638 v2273), ∀ a x, ((![v2273] : Fin 1 → IVec S16 32) a x).toNat < S4096.size a := fun v2273 k0_hw638 => k0_hw638

def k0_chk639 (v2276 : IVec S16 32) : Prop :=
  (∀ a x, ((![v2276] : Fin 1 → IVec S16 32) a x).toNat < S16.size a)
theorem k0_idx639_inb : ∀ (v2276 : IVec S16 32) (k0_hw639 : k0_chk639 v2276), ∀ a x, ((![v2276] : Fin 1 → IVec S16 32) a x).toNat < S16.size a := fun v2276 k0_hw639 => k0_hw639

def k0_chk640 (v2285 : IVec S16 32) : Prop :=
  (∀ a x, ((![v2285] : Fin 1 → IVec S16 32) a x).toNat < S12288.size a)
theorem k0_idx640_inb : ∀ (v2285 : IVec S16 32) (k0_hw640 : k0_chk640 v2285), ∀ a x, ((![v2285] : Fin 1 → IVec S16 32) a x).toNat < S12288.size a := fun v2285 k0_hw640 => k0_hw640

def k0_chk641 (v2286 : IVec S16 32) : Prop :=
  (∀ a x, ((![v2286] : Fin 1 → IVec S16 32) a x).toNat < S4096.size a)
theorem k0_idx641_inb : ∀ (v2286 : IVec S16 32) (k0_hw641 : k0_chk641 v2286), ∀ a x, ((![v2286] : Fin 1 → IVec S16 32) a x).toNat < S4096.size a := fun v2286 k0_hw641 => k0_hw641

def k0_chk642 (v2289 : IVec S16 32) : Prop :=
  (∀ a x, ((![v2289] : Fin 1 → IVec S16 32) a x).toNat < S12288.size a)
theorem k0_idx642_inb : ∀ (v2289 : IVec S16 32) (k0_hw642 : k0_chk642 v2289), ∀ a x, ((![v2289] : Fin 1 → IVec S16 32) a x).toNat < S12288.size a := fun v2289 k0_hw642 => k0_hw642

def k0_chk643 (v2290 : IVec S16 32) : Prop :=
  (∀ a x, ((![v2290] : Fin 1 → IVec S16 32) a x).toNat < S4096.size a)
theorem k0_idx643_inb : ∀ (v2290 : IVec S16 32) (k0_hw643 : k0_chk643 v2290), ∀ a x, ((![v2290] : Fin 1 → IVec S16 32) a x).toNat < S4096.size a := fun v2290 k0_hw643 => k0_hw643

def k0_chk644 (v2294 : IVec S16 32) : Prop :=
  (∀ a x, ((![v2294] : Fin 1 → IVec S16 32) a x).toNat < S12288.size a)
theorem k0_idx644_inb : ∀ (v2294 : IVec S16 32) (k0_hw644 : k0_chk644 v2294), ∀ a x, ((![v2294] : Fin 1 → IVec S16 32) a x).toNat < S12288.size a := fun v2294 k0_hw644 => k0_hw644

def k0_chk645 (v2295 : IVec S16 32) : Prop :=
  (∀ a x, ((![v2295] : Fin 1 → IVec S16 32) a x).toNat < S4096.size a)
theorem k0_idx645_inb : ∀ (v2295 : IVec S16 32) (k0_hw645 : k0_chk645 v2295), ∀ a x, ((![v2295] : Fin 1 → IVec S16 32) a x).toNat < S4096.size a := fun v2295 k0_hw645 => k0_hw645

def k0_chk646 (v2299 : IVec S16 32) : Prop :=
  (∀ a x, ((![v2299] : Fin 1 → IVec S16 32) a x).toNat < S12288.size a)
theorem k0_idx646_inb : ∀ (v2299 : IVec S16 32) (k0_hw646 : k0_chk646 v2299), ∀ a x, ((![v2299] : Fin 1 → IVec S16 32) a x).toNat < S12288.size a := fun v2299 k0_hw646 => k0_hw646

def k0_chk647 (v2300 : IVec S16 32) : Prop :=
  (∀ a x, ((![v2300] : Fin 1 → IVec S16 32) a x).toNat < S4096.size a)
theorem k0_idx647_inb : ∀ (v2300 : IVec S16 32) (k0_hw647 : k0_chk647 v2300), ∀ a x, ((![v2300] : Fin 1 → IVec S16 32) a x).toNat < S4096.size a := fun v2300 k0_hw647 => k0_hw647

def k0_chk648 (v2303 : IVec S16 32) : Prop :=
  (∀ a x, ((![v2303] : Fin 1 → IVec S16 32) a x).toNat < S16.size a)
theorem k0_idx648_inb : ∀ (v2303 : IVec S16 32) (k0_hw648 : k0_chk648 v2303), ∀ a x, ((![v2303] : Fin 1 → IVec S16 32) a x).toNat < S16.size a := fun v2303 k0_hw648 => k0_hw648

def k0_chk649 (v2312 : IVec S16 32) : Prop :=
  (∀ a x, ((![v2312] : Fin 1 → IVec S16 32) a x).toNat < S12288.size a)
theorem k0_idx649_inb : ∀ (v2312 : IVec S16 32) (k0_hw649 : k0_chk649 v2312), ∀ a x, ((![v2312] : Fin 1 → IVec S16 32) a x).toNat < S12288.size a := fun v2312 k0_hw649 => k0_hw649

def k0_chk650 (v2313 : IVec S16 32) : Prop :=
  (∀ a x, ((![v2313] : Fin 1 → IVec S16 32) a x).toNat < S4096.size a)
theorem k0_idx650_inb : ∀ (v2313 : IVec S16 32) (k0_hw650 : k0_chk650 v2313), ∀ a x, ((![v2313] : Fin 1 → IVec S16 32) a x).toNat < S4096.size a := fun v2313 k0_hw650 => k0_hw650

def k0_chk651 (v2316 : IVec S16 32) : Prop :=
  (∀ a x, ((![v2316] : Fin 1 → IVec S16 32) a x).toNat < S12288.size a)
theorem k0_idx651_inb : ∀ (v2316 : IVec S16 32) (k0_hw651 : k0_chk651 v2316), ∀ a x, ((![v2316] : Fin 1 → IVec S16 32) a x).toNat < S12288.size a := fun v2316 k0_hw651 => k0_hw651

def k0_chk652 (v2317 : IVec S16 32) : Prop :=
  (∀ a x, ((![v2317] : Fin 1 → IVec S16 32) a x).toNat < S4096.size a)
theorem k0_idx652_inb : ∀ (v2317 : IVec S16 32) (k0_hw652 : k0_chk652 v2317), ∀ a x, ((![v2317] : Fin 1 → IVec S16 32) a x).toNat < S4096.size a := fun v2317 k0_hw652 => k0_hw652

def k0_chk653 (v2321 : IVec S16 32) : Prop :=
  (∀ a x, ((![v2321] : Fin 1 → IVec S16 32) a x).toNat < S12288.size a)
theorem k0_idx653_inb : ∀ (v2321 : IVec S16 32) (k0_hw653 : k0_chk653 v2321), ∀ a x, ((![v2321] : Fin 1 → IVec S16 32) a x).toNat < S12288.size a := fun v2321 k0_hw653 => k0_hw653

def k0_chk654 (v2322 : IVec S16 32) : Prop :=
  (∀ a x, ((![v2322] : Fin 1 → IVec S16 32) a x).toNat < S4096.size a)
theorem k0_idx654_inb : ∀ (v2322 : IVec S16 32) (k0_hw654 : k0_chk654 v2322), ∀ a x, ((![v2322] : Fin 1 → IVec S16 32) a x).toNat < S4096.size a := fun v2322 k0_hw654 => k0_hw654

def k0_chk655 (v2326 : IVec S16 32) : Prop :=
  (∀ a x, ((![v2326] : Fin 1 → IVec S16 32) a x).toNat < S12288.size a)
theorem k0_idx655_inb : ∀ (v2326 : IVec S16 32) (k0_hw655 : k0_chk655 v2326), ∀ a x, ((![v2326] : Fin 1 → IVec S16 32) a x).toNat < S12288.size a := fun v2326 k0_hw655 => k0_hw655

def k0_chk656 (v2327 : IVec S16 32) : Prop :=
  (∀ a x, ((![v2327] : Fin 1 → IVec S16 32) a x).toNat < S4096.size a)
theorem k0_idx656_inb : ∀ (v2327 : IVec S16 32) (k0_hw656 : k0_chk656 v2327), ∀ a x, ((![v2327] : Fin 1 → IVec S16 32) a x).toNat < S4096.size a := fun v2327 k0_hw656 => k0_hw656

def k0_chk657 (v2330 : IVec S16 32) : Prop :=
  (∀ a x, ((![v2330] : Fin 1 → IVec S16 32) a x).toNat < S16.size a)
theorem k0_idx657_inb : ∀ (v2330 : IVec S16 32) (k0_hw657 : k0_chk657 v2330), ∀ a x, ((![v2330] : Fin 1 → IVec S16 32) a x).toNat < S16.size a := fun v2330 k0_hw657 => k0_hw657

def k0_chk658 (v2339 : IVec S16 32) : Prop :=
  (∀ a x, ((![v2339] : Fin 1 → IVec S16 32) a x).toNat < S12288.size a)
theorem k0_idx658_inb : ∀ (v2339 : IVec S16 32) (k0_hw658 : k0_chk658 v2339), ∀ a x, ((![v2339] : Fin 1 → IVec S16 32) a x).toNat < S12288.size a := fun v2339 k0_hw658 => k0_hw658

def k0_chk659 (v2340 : IVec S16 32) : Prop :=
  (∀ a x, ((![v2340] : Fin 1 → IVec S16 32) a x).toNat < S4096.size a)
theorem k0_idx659_inb : ∀ (v2340 : IVec S16 32) (k0_hw659 : k0_chk659 v2340), ∀ a x, ((![v2340] : Fin 1 → IVec S16 32) a x).toNat < S4096.size a := fun v2340 k0_hw659 => k0_hw659

def k0_chk660 (v2343 : IVec S16 32) : Prop :=
  (∀ a x, ((![v2343] : Fin 1 → IVec S16 32) a x).toNat < S12288.size a)
theorem k0_idx660_inb : ∀ (v2343 : IVec S16 32) (k0_hw660 : k0_chk660 v2343), ∀ a x, ((![v2343] : Fin 1 → IVec S16 32) a x).toNat < S12288.size a := fun v2343 k0_hw660 => k0_hw660

def k0_chk661 (v2344 : IVec S16 32) : Prop :=
  (∀ a x, ((![v2344] : Fin 1 → IVec S16 32) a x).toNat < S4096.size a)
theorem k0_idx661_inb : ∀ (v2344 : IVec S16 32) (k0_hw661 : k0_chk661 v2344), ∀ a x, ((![v2344] : Fin 1 → IVec S16 32) a x).toNat < S4096.size a := fun v2344 k0_hw661 => k0_hw661

def k0_chk662 (v2348 : IVec S16 32) : Prop :=
  (∀ a x, ((![v2348] : Fin 1 → IVec S16 32) a x).toNat < S12288.size a)
theorem k0_idx662_inb : ∀ (v2348 : IVec S16 32) (k0_hw662 : k0_chk662 v2348), ∀ a x, ((![v2348] : Fin 1 → IVec S16 32) a x).toNat < S12288.size a := fun v2348 k0_hw662 => k0_hw662

def k0_chk663 (v2349 : IVec S16 32) : Prop :=
  (∀ a x, ((![v2349] : Fin 1 → IVec S16 32) a x).toNat < S4096.size a)
theorem k0_idx663_inb : ∀ (v2349 : IVec S16 32) (k0_hw663 : k0_chk663 v2349), ∀ a x, ((![v2349] : Fin 1 → IVec S16 32) a x).toNat < S4096.size a := fun v2349 k0_hw663 => k0_hw663

def k0_chk664 (v2353 : IVec S16 32) : Prop :=
  (∀ a x, ((![v2353] : Fin 1 → IVec S16 32) a x).toNat < S12288.size a)
theorem k0_idx664_inb : ∀ (v2353 : IVec S16 32) (k0_hw664 : k0_chk664 v2353), ∀ a x, ((![v2353] : Fin 1 → IVec S16 32) a x).toNat < S12288.size a := fun v2353 k0_hw664 => k0_hw664

def k0_chk665 (v2354 : IVec S16 32) : Prop :=
  (∀ a x, ((![v2354] : Fin 1 → IVec S16 32) a x).toNat < S4096.size a)
theorem k0_idx665_inb : ∀ (v2354 : IVec S16 32) (k0_hw665 : k0_chk665 v2354), ∀ a x, ((![v2354] : Fin 1 → IVec S16 32) a x).toNat < S4096.size a := fun v2354 k0_hw665 => k0_hw665

def k0_chk666 (v2357 : IVec S16 32) : Prop :=
  (∀ a x, ((![v2357] : Fin 1 → IVec S16 32) a x).toNat < S16.size a)
theorem k0_idx666_inb : ∀ (v2357 : IVec S16 32) (k0_hw666 : k0_chk666 v2357), ∀ a x, ((![v2357] : Fin 1 → IVec S16 32) a x).toNat < S16.size a := fun v2357 k0_hw666 => k0_hw666

def k0_chk667 (v2366 : IVec S16 32) : Prop :=
  (∀ a x, ((![v2366] : Fin 1 → IVec S16 32) a x).toNat < S12288.size a)
theorem k0_idx667_inb : ∀ (v2366 : IVec S16 32) (k0_hw667 : k0_chk667 v2366), ∀ a x, ((![v2366] : Fin 1 → IVec S16 32) a x).toNat < S12288.size a := fun v2366 k0_hw667 => k0_hw667

def k0_chk668 (v2367 : IVec S16 32) : Prop :=
  (∀ a x, ((![v2367] : Fin 1 → IVec S16 32) a x).toNat < S4096.size a)
theorem k0_idx668_inb : ∀ (v2367 : IVec S16 32) (k0_hw668 : k0_chk668 v2367), ∀ a x, ((![v2367] : Fin 1 → IVec S16 32) a x).toNat < S4096.size a := fun v2367 k0_hw668 => k0_hw668

def k0_chk669 (v2370 : IVec S16 32) : Prop :=
  (∀ a x, ((![v2370] : Fin 1 → IVec S16 32) a x).toNat < S12288.size a)
theorem k0_idx669_inb : ∀ (v2370 : IVec S16 32) (k0_hw669 : k0_chk669 v2370), ∀ a x, ((![v2370] : Fin 1 → IVec S16 32) a x).toNat < S12288.size a := fun v2370 k0_hw669 => k0_hw669

def k0_chk670 (v2371 : IVec S16 32) : Prop :=
  (∀ a x, ((![v2371] : Fin 1 → IVec S16 32) a x).toNat < S4096.size a)
theorem k0_idx670_inb : ∀ (v2371 : IVec S16 32) (k0_hw670 : k0_chk670 v2371), ∀ a x, ((![v2371] : Fin 1 → IVec S16 32) a x).toNat < S4096.size a := fun v2371 k0_hw670 => k0_hw670

def k0_chk671 (v2375 : IVec S16 32) : Prop :=
  (∀ a x, ((![v2375] : Fin 1 → IVec S16 32) a x).toNat < S12288.size a)
theorem k0_idx671_inb : ∀ (v2375 : IVec S16 32) (k0_hw671 : k0_chk671 v2375), ∀ a x, ((![v2375] : Fin 1 → IVec S16 32) a x).toNat < S12288.size a := fun v2375 k0_hw671 => k0_hw671

def k0_chk672 (v2376 : IVec S16 32) : Prop :=
  (∀ a x, ((![v2376] : Fin 1 → IVec S16 32) a x).toNat < S4096.size a)
theorem k0_idx672_inb : ∀ (v2376 : IVec S16 32) (k0_hw672 : k0_chk672 v2376), ∀ a x, ((![v2376] : Fin 1 → IVec S16 32) a x).toNat < S4096.size a := fun v2376 k0_hw672 => k0_hw672

def k0_chk673 (v2380 : IVec S16 32) : Prop :=
  (∀ a x, ((![v2380] : Fin 1 → IVec S16 32) a x).toNat < S12288.size a)
theorem k0_idx673_inb : ∀ (v2380 : IVec S16 32) (k0_hw673 : k0_chk673 v2380), ∀ a x, ((![v2380] : Fin 1 → IVec S16 32) a x).toNat < S12288.size a := fun v2380 k0_hw673 => k0_hw673

def k0_chk674 (v2381 : IVec S16 32) : Prop :=
  (∀ a x, ((![v2381] : Fin 1 → IVec S16 32) a x).toNat < S4096.size a)
theorem k0_idx674_inb : ∀ (v2381 : IVec S16 32) (k0_hw674 : k0_chk674 v2381), ∀ a x, ((![v2381] : Fin 1 → IVec S16 32) a x).toNat < S4096.size a := fun v2381 k0_hw674 => k0_hw674

def k0_chk675 (v2384 : IVec S16 32) : Prop :=
  (∀ a x, ((![v2384] : Fin 1 → IVec S16 32) a x).toNat < S16.size a)
theorem k0_idx675_inb : ∀ (v2384 : IVec S16 32) (k0_hw675 : k0_chk675 v2384), ∀ a x, ((![v2384] : Fin 1 → IVec S16 32) a x).toNat < S16.size a := fun v2384 k0_hw675 => k0_hw675

def k0_chk676 (v2393 : IVec S16 32) : Prop :=
  (∀ a x, ((![v2393] : Fin 1 → IVec S16 32) a x).toNat < S12288.size a)
theorem k0_idx676_inb : ∀ (v2393 : IVec S16 32) (k0_hw676 : k0_chk676 v2393), ∀ a x, ((![v2393] : Fin 1 → IVec S16 32) a x).toNat < S12288.size a := fun v2393 k0_hw676 => k0_hw676

def k0_chk677 (v2394 : IVec S16 32) : Prop :=
  (∀ a x, ((![v2394] : Fin 1 → IVec S16 32) a x).toNat < S4096.size a)
theorem k0_idx677_inb : ∀ (v2394 : IVec S16 32) (k0_hw677 : k0_chk677 v2394), ∀ a x, ((![v2394] : Fin 1 → IVec S16 32) a x).toNat < S4096.size a := fun v2394 k0_hw677 => k0_hw677

def k0_chk678 (v2397 : IVec S16 32) : Prop :=
  (∀ a x, ((![v2397] : Fin 1 → IVec S16 32) a x).toNat < S12288.size a)
theorem k0_idx678_inb : ∀ (v2397 : IVec S16 32) (k0_hw678 : k0_chk678 v2397), ∀ a x, ((![v2397] : Fin 1 → IVec S16 32) a x).toNat < S12288.size a := fun v2397 k0_hw678 => k0_hw678

def k0_chk679 (v2398 : IVec S16 32) : Prop :=
  (∀ a x, ((![v2398] : Fin 1 → IVec S16 32) a x).toNat < S4096.size a)
theorem k0_idx679_inb : ∀ (v2398 : IVec S16 32) (k0_hw679 : k0_chk679 v2398), ∀ a x, ((![v2398] : Fin 1 → IVec S16 32) a x).toNat < S4096.size a := fun v2398 k0_hw679 => k0_hw679

def k0_chk680 (v2402 : IVec S16 32) : Prop :=
  (∀ a x, ((![v2402] : Fin 1 → IVec S16 32) a x).toNat < S12288.size a)
theorem k0_idx680_inb : ∀ (v2402 : IVec S16 32) (k0_hw680 : k0_chk680 v2402), ∀ a x, ((![v2402] : Fin 1 → IVec S16 32) a x).toNat < S12288.size a := fun v2402 k0_hw680 => k0_hw680

def k0_chk681 (v2403 : IVec S16 32) : Prop :=
  (∀ a x, ((![v2403] : Fin 1 → IVec S16 32) a x).toNat < S4096.size a)
theorem k0_idx681_inb : ∀ (v2403 : IVec S16 32) (k0_hw681 : k0_chk681 v2403), ∀ a x, ((![v2403] : Fin 1 → IVec S16 32) a x).toNat < S4096.size a := fun v2403 k0_hw681 => k0_hw681

def k0_chk682 (v2407 : IVec S16 32) : Prop :=
  (∀ a x, ((![v2407] : Fin 1 → IVec S16 32) a x).toNat < S12288.size a)
theorem k0_idx682_inb : ∀ (v2407 : IVec S16 32) (k0_hw682 : k0_chk682 v2407), ∀ a x, ((![v2407] : Fin 1 → IVec S16 32) a x).toNat < S12288.size a := fun v2407 k0_hw682 => k0_hw682

def k0_chk683 (v2408 : IVec S16 32) : Prop :=
  (∀ a x, ((![v2408] : Fin 1 → IVec S16 32) a x).toNat < S4096.size a)
theorem k0_idx683_inb : ∀ (v2408 : IVec S16 32) (k0_hw683 : k0_chk683 v2408), ∀ a x, ((![v2408] : Fin 1 → IVec S16 32) a x).toNat < S4096.size a := fun v2408 k0_hw683 => k0_hw683

def k0_chk684 (v2411 : IVec S16 32) : Prop :=
  (∀ a x, ((![v2411] : Fin 1 → IVec S16 32) a x).toNat < S16.size a)
theorem k0_idx684_inb : ∀ (v2411 : IVec S16 32) (k0_hw684 : k0_chk684 v2411), ∀ a x, ((![v2411] : Fin 1 → IVec S16 32) a x).toNat < S16.size a := fun v2411 k0_hw684 => k0_hw684

def k0_chk685 (v2420 : IVec S16 32) : Prop :=
  (∀ a x, ((![v2420] : Fin 1 → IVec S16 32) a x).toNat < S12288.size a)
theorem k0_idx685_inb : ∀ (v2420 : IVec S16 32) (k0_hw685 : k0_chk685 v2420), ∀ a x, ((![v2420] : Fin 1 → IVec S16 32) a x).toNat < S12288.size a := fun v2420 k0_hw685 => k0_hw685

def k0_chk686 (v2421 : IVec S16 32) : Prop :=
  (∀ a x, ((![v2421] : Fin 1 → IVec S16 32) a x).toNat < S4096.size a)
theorem k0_idx686_inb : ∀ (v2421 : IVec S16 32) (k0_hw686 : k0_chk686 v2421), ∀ a x, ((![v2421] : Fin 1 → IVec S16 32) a x).toNat < S4096.size a := fun v2421 k0_hw686 => k0_hw686

def k0_chk687 (v2424 : IVec S16 32) : Prop :=
  (∀ a x, ((![v2424] : Fin 1 → IVec S16 32) a x).toNat < S12288.size a)
theorem k0_idx687_inb : ∀ (v2424 : IVec S16 32) (k0_hw687 : k0_chk687 v2424), ∀ a x, ((![v2424] : Fin 1 → IVec S16 32) a x).toNat < S12288.size a := fun v2424 k0_hw687 => k0_hw687

def k0_chk688 (v2425 : IVec S16 32) : Prop :=
  (∀ a x, ((![v2425] : Fin 1 → IVec S16 32) a x).toNat < S4096.size a)
theorem k0_idx688_inb : ∀ (v2425 : IVec S16 32) (k0_hw688 : k0_chk688 v2425), ∀ a x, ((![v2425] : Fin 1 → IVec S16 32) a x).toNat < S4096.size a := fun v2425 k0_hw688 => k0_hw688

def k0_chk689 (v2429 : IVec S16 32) : Prop :=
  (∀ a x, ((![v2429] : Fin 1 → IVec S16 32) a x).toNat < S12288.size a)
theorem k0_idx689_inb : ∀ (v2429 : IVec S16 32) (k0_hw689 : k0_chk689 v2429), ∀ a x, ((![v2429] : Fin 1 → IVec S16 32) a x).toNat < S12288.size a := fun v2429 k0_hw689 => k0_hw689

def k0_chk690 (v2430 : IVec S16 32) : Prop :=
  (∀ a x, ((![v2430] : Fin 1 → IVec S16 32) a x).toNat < S4096.size a)
theorem k0_idx690_inb : ∀ (v2430 : IVec S16 32) (k0_hw690 : k0_chk690 v2430), ∀ a x, ((![v2430] : Fin 1 → IVec S16 32) a x).toNat < S4096.size a := fun v2430 k0_hw690 => k0_hw690

def k0_chk691 (v2434 : IVec S16 32) : Prop :=
  (∀ a x, ((![v2434] : Fin 1 → IVec S16 32) a x).toNat < S12288.size a)
theorem k0_idx691_inb : ∀ (v2434 : IVec S16 32) (k0_hw691 : k0_chk691 v2434), ∀ a x, ((![v2434] : Fin 1 → IVec S16 32) a x).toNat < S12288.size a := fun v2434 k0_hw691 => k0_hw691

def k0_chk692 (v2435 : IVec S16 32) : Prop :=
  (∀ a x, ((![v2435] : Fin 1 → IVec S16 32) a x).toNat < S4096.size a)
theorem k0_idx692_inb : ∀ (v2435 : IVec S16 32) (k0_hw692 : k0_chk692 v2435), ∀ a x, ((![v2435] : Fin 1 → IVec S16 32) a x).toNat < S4096.size a := fun v2435 k0_hw692 => k0_hw692

def k0_chk693 (v2438 : IVec S16 32) : Prop :=
  (∀ a x, ((![v2438] : Fin 1 → IVec S16 32) a x).toNat < S16.size a)
theorem k0_idx693_inb : ∀ (v2438 : IVec S16 32) (k0_hw693 : k0_chk693 v2438), ∀ a x, ((![v2438] : Fin 1 → IVec S16 32) a x).toNat < S16.size a := fun v2438 k0_hw693 => k0_hw693

def k0_chk694 (v2447 : IVec S16 32) : Prop :=
  (∀ a x, ((![v2447] : Fin 1 → IVec S16 32) a x).toNat < S12288.size a)
theorem k0_idx694_inb : ∀ (v2447 : IVec S16 32) (k0_hw694 : k0_chk694 v2447), ∀ a x, ((![v2447] : Fin 1 → IVec S16 32) a x).toNat < S12288.size a := fun v2447 k0_hw694 => k0_hw694

def k0_chk695 (v2448 : IVec S16 32) : Prop :=
  (∀ a x, ((![v2448] : Fin 1 → IVec S16 32) a x).toNat < S4096.size a)
theorem k0_idx695_inb : ∀ (v2448 : IVec S16 32) (k0_hw695 : k0_chk695 v2448), ∀ a x, ((![v2448] : Fin 1 → IVec S16 32) a x).toNat < S4096.size a := fun v2448 k0_hw695 => k0_hw695

def k0_chk696 (v2451 : IVec S16 32) : Prop :=
  (∀ a x, ((![v2451] : Fin 1 → IVec S16 32) a x).toNat < S12288.size a)
theorem k0_idx696_inb : ∀ (v2451 : IVec S16 32) (k0_hw696 : k0_chk696 v2451), ∀ a x, ((![v2451] : Fin 1 → IVec S16 32) a x).toNat < S12288.size a := fun v2451 k0_hw696 => k0_hw696

def k0_chk697 (v2452 : IVec S16 32) : Prop :=
  (∀ a x, ((![v2452] : Fin 1 → IVec S16 32) a x).toNat < S4096.size a)
theorem k0_idx697_inb : ∀ (v2452 : IVec S16 32) (k0_hw697 : k0_chk697 v2452), ∀ a x, ((![v2452] : Fin 1 → IVec S16 32) a x).toNat < S4096.size a := fun v2452 k0_hw697 => k0_hw697

def k0_chk698 (v2456 : IVec S16 32) : Prop :=
  (∀ a x, ((![v2456] : Fin 1 → IVec S16 32) a x).toNat < S12288.size a)
theorem k0_idx698_inb : ∀ (v2456 : IVec S16 32) (k0_hw698 : k0_chk698 v2456), ∀ a x, ((![v2456] : Fin 1 → IVec S16 32) a x).toNat < S12288.size a := fun v2456 k0_hw698 => k0_hw698

def k0_chk699 (v2457 : IVec S16 32) : Prop :=
  (∀ a x, ((![v2457] : Fin 1 → IVec S16 32) a x).toNat < S4096.size a)
theorem k0_idx699_inb : ∀ (v2457 : IVec S16 32) (k0_hw699 : k0_chk699 v2457), ∀ a x, ((![v2457] : Fin 1 → IVec S16 32) a x).toNat < S4096.size a := fun v2457 k0_hw699 => k0_hw699

def k0_chk700 (v2461 : IVec S16 32) : Prop :=
  (∀ a x, ((![v2461] : Fin 1 → IVec S16 32) a x).toNat < S12288.size a)
theorem k0_idx700_inb : ∀ (v2461 : IVec S16 32) (k0_hw700 : k0_chk700 v2461), ∀ a x, ((![v2461] : Fin 1 → IVec S16 32) a x).toNat < S12288.size a := fun v2461 k0_hw700 => k0_hw700

def k0_chk701 (v2462 : IVec S16 32) : Prop :=
  (∀ a x, ((![v2462] : Fin 1 → IVec S16 32) a x).toNat < S4096.size a)
theorem k0_idx701_inb : ∀ (v2462 : IVec S16 32) (k0_hw701 : k0_chk701 v2462), ∀ a x, ((![v2462] : Fin 1 → IVec S16 32) a x).toNat < S4096.size a := fun v2462 k0_hw701 => k0_hw701

def k0_chk702 (v2465 : IVec S16 32) : Prop :=
  (∀ a x, ((![v2465] : Fin 1 → IVec S16 32) a x).toNat < S16.size a)
theorem k0_idx702_inb : ∀ (v2465 : IVec S16 32) (k0_hw702 : k0_chk702 v2465), ∀ a x, ((![v2465] : Fin 1 → IVec S16 32) a x).toNat < S16.size a := fun v2465 k0_hw702 => k0_hw702

def k0_chk703 (v2474 : IVec S16 32) : Prop :=
  (∀ a x, ((![v2474] : Fin 1 → IVec S16 32) a x).toNat < S12288.size a)
theorem k0_idx703_inb : ∀ (v2474 : IVec S16 32) (k0_hw703 : k0_chk703 v2474), ∀ a x, ((![v2474] : Fin 1 → IVec S16 32) a x).toNat < S12288.size a := fun v2474 k0_hw703 => k0_hw703

def k0_chk704 (v2475 : IVec S16 32) : Prop :=
  (∀ a x, ((![v2475] : Fin 1 → IVec S16 32) a x).toNat < S4096.size a)
theorem k0_idx704_inb : ∀ (v2475 : IVec S16 32) (k0_hw704 : k0_chk704 v2475), ∀ a x, ((![v2475] : Fin 1 → IVec S16 32) a x).toNat < S4096.size a := fun v2475 k0_hw704 => k0_hw704

def k0_chk705 (v2478 : IVec S16 32) : Prop :=
  (∀ a x, ((![v2478] : Fin 1 → IVec S16 32) a x).toNat < S12288.size a)
theorem k0_idx705_inb : ∀ (v2478 : IVec S16 32) (k0_hw705 : k0_chk705 v2478), ∀ a x, ((![v2478] : Fin 1 → IVec S16 32) a x).toNat < S12288.size a := fun v2478 k0_hw705 => k0_hw705

def k0_chk706 (v2479 : IVec S16 32) : Prop :=
  (∀ a x, ((![v2479] : Fin 1 → IVec S16 32) a x).toNat < S4096.size a)
theorem k0_idx706_inb : ∀ (v2479 : IVec S16 32) (k0_hw706 : k0_chk706 v2479), ∀ a x, ((![v2479] : Fin 1 → IVec S16 32) a x).toNat < S4096.size a := fun v2479 k0_hw706 => k0_hw706

def k0_chk707 (v2483 : IVec S16 32) : Prop :=
  (∀ a x, ((![v2483] : Fin 1 → IVec S16 32) a x).toNat < S12288.size a)
theorem k0_idx707_inb : ∀ (v2483 : IVec S16 32) (k0_hw707 : k0_chk707 v2483), ∀ a x, ((![v2483] : Fin 1 → IVec S16 32) a x).toNat < S12288.size a := fun v2483 k0_hw707 => k0_hw707

def k0_chk708 (v2484 : IVec S16 32) : Prop :=
  (∀ a x, ((![v2484] : Fin 1 → IVec S16 32) a x).toNat < S4096.size a)
theorem k0_idx708_inb : ∀ (v2484 : IVec S16 32) (k0_hw708 : k0_chk708 v2484), ∀ a x, ((![v2484] : Fin 1 → IVec S16 32) a x).toNat < S4096.size a := fun v2484 k0_hw708 => k0_hw708

def k0_chk709 (v2488 : IVec S16 32) : Prop :=
  (∀ a x, ((![v2488] : Fin 1 → IVec S16 32) a x).toNat < S12288.size a)
theorem k0_idx709_inb : ∀ (v2488 : IVec S16 32) (k0_hw709 : k0_chk709 v2488), ∀ a x, ((![v2488] : Fin 1 → IVec S16 32) a x).toNat < S12288.size a := fun v2488 k0_hw709 => k0_hw709

def k0_chk710 (v2489 : IVec S16 32) : Prop :=
  (∀ a x, ((![v2489] : Fin 1 → IVec S16 32) a x).toNat < S4096.size a)
theorem k0_idx710_inb : ∀ (v2489 : IVec S16 32) (k0_hw710 : k0_chk710 v2489), ∀ a x, ((![v2489] : Fin 1 → IVec S16 32) a x).toNat < S4096.size a := fun v2489 k0_hw710 => k0_hw710

def k0_chk711 (v2492 : IVec S16 32) : Prop :=
  (∀ a x, ((![v2492] : Fin 1 → IVec S16 32) a x).toNat < S16.size a)
theorem k0_idx711_inb : ∀ (v2492 : IVec S16 32) (k0_hw711 : k0_chk711 v2492), ∀ a x, ((![v2492] : Fin 1 → IVec S16 32) a x).toNat < S16.size a := fun v2492 k0_hw711 => k0_hw711

def k0_chk712 (v2501 : IVec S16 32) : Prop :=
  (∀ a x, ((![v2501] : Fin 1 → IVec S16 32) a x).toNat < S12288.size a)
theorem k0_idx712_inb : ∀ (v2501 : IVec S16 32) (k0_hw712 : k0_chk712 v2501), ∀ a x, ((![v2501] : Fin 1 → IVec S16 32) a x).toNat < S12288.size a := fun v2501 k0_hw712 => k0_hw712

def k0_chk713 (v2502 : IVec S16 32) : Prop :=
  (∀ a x, ((![v2502] : Fin 1 → IVec S16 32) a x).toNat < S4096.size a)
theorem k0_idx713_inb : ∀ (v2502 : IVec S16 32) (k0_hw713 : k0_chk713 v2502), ∀ a x, ((![v2502] : Fin 1 → IVec S16 32) a x).toNat < S4096.size a := fun v2502 k0_hw713 => k0_hw713

def k0_chk714 (v2505 : IVec S16 32) : Prop :=
  (∀ a x, ((![v2505] : Fin 1 → IVec S16 32) a x).toNat < S12288.size a)
theorem k0_idx714_inb : ∀ (v2505 : IVec S16 32) (k0_hw714 : k0_chk714 v2505), ∀ a x, ((![v2505] : Fin 1 → IVec S16 32) a x).toNat < S12288.size a := fun v2505 k0_hw714 => k0_hw714

def k0_chk715 (v2506 : IVec S16 32) : Prop :=
  (∀ a x, ((![v2506] : Fin 1 → IVec S16 32) a x).toNat < S4096.size a)
theorem k0_idx715_inb : ∀ (v2506 : IVec S16 32) (k0_hw715 : k0_chk715 v2506), ∀ a x, ((![v2506] : Fin 1 → IVec S16 32) a x).toNat < S4096.size a := fun v2506 k0_hw715 => k0_hw715

def k0_chk716 (v2510 : IVec S16 32) : Prop :=
  (∀ a x, ((![v2510] : Fin 1 → IVec S16 32) a x).toNat < S12288.size a)
theorem k0_idx716_inb : ∀ (v2510 : IVec S16 32) (k0_hw716 : k0_chk716 v2510), ∀ a x, ((![v2510] : Fin 1 → IVec S16 32) a x).toNat < S12288.size a := fun v2510 k0_hw716 => k0_hw716

def k0_chk717 (v2511 : IVec S16 32) : Prop :=
  (∀ a x, ((![v2511] : Fin 1 → IVec S16 32) a x).toNat < S4096.size a)
theorem k0_idx717_inb : ∀ (v2511 : IVec S16 32) (k0_hw717 : k0_chk717 v2511), ∀ a x, ((![v2511] : Fin 1 → IVec S16 32) a x).toNat < S4096.size a := fun v2511 k0_hw717 => k0_hw717

def k0_chk718 (v2515 : IVec S16 32) : Prop :=
  (∀ a x, ((![v2515] : Fin 1 → IVec S16 32) a x).toNat < S12288.size a)
theorem k0_idx718_inb : ∀ (v2515 : IVec S16 32) (k0_hw718 : k0_chk718 v2515), ∀ a x, ((![v2515] : Fin 1 → IVec S16 32) a x).toNat < S12288.size a := fun v2515 k0_hw718 => k0_hw718

def k0_chk719 (v2516 : IVec S16 32) : Prop :=
  (∀ a x, ((![v2516] : Fin 1 → IVec S16 32) a x).toNat < S4096.size a)
theorem k0_idx719_inb : ∀ (v2516 : IVec S16 32) (k0_hw719 : k0_chk719 v2516), ∀ a x, ((![v2516] : Fin 1 → IVec S16 32) a x).toNat < S4096.size a := fun v2516 k0_hw719 => k0_hw719

def k0_chk720 (v2519 : IVec S16 32) : Prop :=
  (∀ a x, ((![v2519] : Fin 1 → IVec S16 32) a x).toNat < S16.size a)
theorem k0_idx720_inb : ∀ (v2519 : IVec S16 32) (k0_hw720 : k0_chk720 v2519), ∀ a x, ((![v2519] : Fin 1 → IVec S16 32) a x).toNat < S16.size a := fun v2519 k0_hw720 => k0_hw720
def k0_off33 (i : grid0.Coords) : Fin 2 → Nat :=
  let c0_i32_523 : BitVec 32 := 0#32
  let arg1 : BitVec 32 := BitVec.ofNat 32 (i 1).val
  let c256_i32_522 : BitVec 32 := 256#32
  let v2527 : BitVec 32 := Scalar.muli arg1 c256_i32_522
  ![0, v2527.toNat]
def k0_off34 (i : grid0.Coords) : Fin 2 → Nat :=
  let c4_i32_526 : BitVec 32 := 4#32
  let arg1 : BitVec 32 := BitVec.ofNat 32 (i 1).val
  let c256_i32_524 : BitVec 32 := 256#32
  let v2528 : BitVec 32 := Scalar.muli arg1 c256_i32_524
  ![4, v2528.toNat]

def k0_chk721 (v2538 : IVec S16 32) : Prop :=
  (∀ a x, ((![v2538] : Fin 1 → IVec S16 32) a x).toNat < S12288.size a)
theorem k0_idx721_inb : ∀ (v2538 : IVec S16 32) (k0_hw721 : k0_chk721 v2538), ∀ a x, ((![v2538] : Fin 1 → IVec S16 32) a x).toNat < S12288.size a := fun v2538 k0_hw721 => k0_hw721

def k0_chk722 (v2539 : IVec S16 32) : Prop :=
  (∀ a x, ((![v2539] : Fin 1 → IVec S16 32) a x).toNat < S4096.size a)
theorem k0_idx722_inb : ∀ (v2539 : IVec S16 32) (k0_hw722 : k0_chk722 v2539), ∀ a x, ((![v2539] : Fin 1 → IVec S16 32) a x).toNat < S4096.size a := fun v2539 k0_hw722 => k0_hw722

def k0_chk723 (v2542 : IVec S16 32) : Prop :=
  (∀ a x, ((![v2542] : Fin 1 → IVec S16 32) a x).toNat < S12288.size a)
theorem k0_idx723_inb : ∀ (v2542 : IVec S16 32) (k0_hw723 : k0_chk723 v2542), ∀ a x, ((![v2542] : Fin 1 → IVec S16 32) a x).toNat < S12288.size a := fun v2542 k0_hw723 => k0_hw723

def k0_chk724 (v2543 : IVec S16 32) : Prop :=
  (∀ a x, ((![v2543] : Fin 1 → IVec S16 32) a x).toNat < S4096.size a)
theorem k0_idx724_inb : ∀ (v2543 : IVec S16 32) (k0_hw724 : k0_chk724 v2543), ∀ a x, ((![v2543] : Fin 1 → IVec S16 32) a x).toNat < S4096.size a := fun v2543 k0_hw724 => k0_hw724

def k0_chk725 (v2547 : IVec S16 32) : Prop :=
  (∀ a x, ((![v2547] : Fin 1 → IVec S16 32) a x).toNat < S12288.size a)
theorem k0_idx725_inb : ∀ (v2547 : IVec S16 32) (k0_hw725 : k0_chk725 v2547), ∀ a x, ((![v2547] : Fin 1 → IVec S16 32) a x).toNat < S12288.size a := fun v2547 k0_hw725 => k0_hw725

def k0_chk726 (v2548 : IVec S16 32) : Prop :=
  (∀ a x, ((![v2548] : Fin 1 → IVec S16 32) a x).toNat < S4096.size a)
theorem k0_idx726_inb : ∀ (v2548 : IVec S16 32) (k0_hw726 : k0_chk726 v2548), ∀ a x, ((![v2548] : Fin 1 → IVec S16 32) a x).toNat < S4096.size a := fun v2548 k0_hw726 => k0_hw726

def k0_chk727 (v2552 : IVec S16 32) : Prop :=
  (∀ a x, ((![v2552] : Fin 1 → IVec S16 32) a x).toNat < S12288.size a)
theorem k0_idx727_inb : ∀ (v2552 : IVec S16 32) (k0_hw727 : k0_chk727 v2552), ∀ a x, ((![v2552] : Fin 1 → IVec S16 32) a x).toNat < S12288.size a := fun v2552 k0_hw727 => k0_hw727

def k0_chk728 (v2553 : IVec S16 32) : Prop :=
  (∀ a x, ((![v2553] : Fin 1 → IVec S16 32) a x).toNat < S4096.size a)
theorem k0_idx728_inb : ∀ (v2553 : IVec S16 32) (k0_hw728 : k0_chk728 v2553), ∀ a x, ((![v2553] : Fin 1 → IVec S16 32) a x).toNat < S4096.size a := fun v2553 k0_hw728 => k0_hw728

def k0_chk729 (v2556 : IVec S16 32) : Prop :=
  (∀ a x, ((![v2556] : Fin 1 → IVec S16 32) a x).toNat < S16.size a)
theorem k0_idx729_inb : ∀ (v2556 : IVec S16 32) (k0_hw729 : k0_chk729 v2556), ∀ a x, ((![v2556] : Fin 1 → IVec S16 32) a x).toNat < S16.size a := fun v2556 k0_hw729 => k0_hw729

def k0_chk730 (v2565 : IVec S16 32) : Prop :=
  (∀ a x, ((![v2565] : Fin 1 → IVec S16 32) a x).toNat < S12288.size a)
theorem k0_idx730_inb : ∀ (v2565 : IVec S16 32) (k0_hw730 : k0_chk730 v2565), ∀ a x, ((![v2565] : Fin 1 → IVec S16 32) a x).toNat < S12288.size a := fun v2565 k0_hw730 => k0_hw730

def k0_chk731 (v2566 : IVec S16 32) : Prop :=
  (∀ a x, ((![v2566] : Fin 1 → IVec S16 32) a x).toNat < S4096.size a)
theorem k0_idx731_inb : ∀ (v2566 : IVec S16 32) (k0_hw731 : k0_chk731 v2566), ∀ a x, ((![v2566] : Fin 1 → IVec S16 32) a x).toNat < S4096.size a := fun v2566 k0_hw731 => k0_hw731

def k0_chk732 (v2569 : IVec S16 32) : Prop :=
  (∀ a x, ((![v2569] : Fin 1 → IVec S16 32) a x).toNat < S12288.size a)
theorem k0_idx732_inb : ∀ (v2569 : IVec S16 32) (k0_hw732 : k0_chk732 v2569), ∀ a x, ((![v2569] : Fin 1 → IVec S16 32) a x).toNat < S12288.size a := fun v2569 k0_hw732 => k0_hw732

def k0_chk733 (v2570 : IVec S16 32) : Prop :=
  (∀ a x, ((![v2570] : Fin 1 → IVec S16 32) a x).toNat < S4096.size a)
theorem k0_idx733_inb : ∀ (v2570 : IVec S16 32) (k0_hw733 : k0_chk733 v2570), ∀ a x, ((![v2570] : Fin 1 → IVec S16 32) a x).toNat < S4096.size a := fun v2570 k0_hw733 => k0_hw733

def k0_chk734 (v2574 : IVec S16 32) : Prop :=
  (∀ a x, ((![v2574] : Fin 1 → IVec S16 32) a x).toNat < S12288.size a)
theorem k0_idx734_inb : ∀ (v2574 : IVec S16 32) (k0_hw734 : k0_chk734 v2574), ∀ a x, ((![v2574] : Fin 1 → IVec S16 32) a x).toNat < S12288.size a := fun v2574 k0_hw734 => k0_hw734

def k0_chk735 (v2575 : IVec S16 32) : Prop :=
  (∀ a x, ((![v2575] : Fin 1 → IVec S16 32) a x).toNat < S4096.size a)
theorem k0_idx735_inb : ∀ (v2575 : IVec S16 32) (k0_hw735 : k0_chk735 v2575), ∀ a x, ((![v2575] : Fin 1 → IVec S16 32) a x).toNat < S4096.size a := fun v2575 k0_hw735 => k0_hw735

def k0_chk736 (v2579 : IVec S16 32) : Prop :=
  (∀ a x, ((![v2579] : Fin 1 → IVec S16 32) a x).toNat < S12288.size a)
theorem k0_idx736_inb : ∀ (v2579 : IVec S16 32) (k0_hw736 : k0_chk736 v2579), ∀ a x, ((![v2579] : Fin 1 → IVec S16 32) a x).toNat < S12288.size a := fun v2579 k0_hw736 => k0_hw736

def k0_chk737 (v2580 : IVec S16 32) : Prop :=
  (∀ a x, ((![v2580] : Fin 1 → IVec S16 32) a x).toNat < S4096.size a)
theorem k0_idx737_inb : ∀ (v2580 : IVec S16 32) (k0_hw737 : k0_chk737 v2580), ∀ a x, ((![v2580] : Fin 1 → IVec S16 32) a x).toNat < S4096.size a := fun v2580 k0_hw737 => k0_hw737

def k0_chk738 (v2583 : IVec S16 32) : Prop :=
  (∀ a x, ((![v2583] : Fin 1 → IVec S16 32) a x).toNat < S16.size a)
theorem k0_idx738_inb : ∀ (v2583 : IVec S16 32) (k0_hw738 : k0_chk738 v2583), ∀ a x, ((![v2583] : Fin 1 → IVec S16 32) a x).toNat < S16.size a := fun v2583 k0_hw738 => k0_hw738

def k0_chk739 (v2592 : IVec S16 32) : Prop :=
  (∀ a x, ((![v2592] : Fin 1 → IVec S16 32) a x).toNat < S12288.size a)
theorem k0_idx739_inb : ∀ (v2592 : IVec S16 32) (k0_hw739 : k0_chk739 v2592), ∀ a x, ((![v2592] : Fin 1 → IVec S16 32) a x).toNat < S12288.size a := fun v2592 k0_hw739 => k0_hw739

def k0_chk740 (v2593 : IVec S16 32) : Prop :=
  (∀ a x, ((![v2593] : Fin 1 → IVec S16 32) a x).toNat < S4096.size a)
theorem k0_idx740_inb : ∀ (v2593 : IVec S16 32) (k0_hw740 : k0_chk740 v2593), ∀ a x, ((![v2593] : Fin 1 → IVec S16 32) a x).toNat < S4096.size a := fun v2593 k0_hw740 => k0_hw740

def k0_chk741 (v2596 : IVec S16 32) : Prop :=
  (∀ a x, ((![v2596] : Fin 1 → IVec S16 32) a x).toNat < S12288.size a)
theorem k0_idx741_inb : ∀ (v2596 : IVec S16 32) (k0_hw741 : k0_chk741 v2596), ∀ a x, ((![v2596] : Fin 1 → IVec S16 32) a x).toNat < S12288.size a := fun v2596 k0_hw741 => k0_hw741

def k0_chk742 (v2597 : IVec S16 32) : Prop :=
  (∀ a x, ((![v2597] : Fin 1 → IVec S16 32) a x).toNat < S4096.size a)
theorem k0_idx742_inb : ∀ (v2597 : IVec S16 32) (k0_hw742 : k0_chk742 v2597), ∀ a x, ((![v2597] : Fin 1 → IVec S16 32) a x).toNat < S4096.size a := fun v2597 k0_hw742 => k0_hw742

def k0_chk743 (v2601 : IVec S16 32) : Prop :=
  (∀ a x, ((![v2601] : Fin 1 → IVec S16 32) a x).toNat < S12288.size a)
theorem k0_idx743_inb : ∀ (v2601 : IVec S16 32) (k0_hw743 : k0_chk743 v2601), ∀ a x, ((![v2601] : Fin 1 → IVec S16 32) a x).toNat < S12288.size a := fun v2601 k0_hw743 => k0_hw743

def k0_chk744 (v2602 : IVec S16 32) : Prop :=
  (∀ a x, ((![v2602] : Fin 1 → IVec S16 32) a x).toNat < S4096.size a)
theorem k0_idx744_inb : ∀ (v2602 : IVec S16 32) (k0_hw744 : k0_chk744 v2602), ∀ a x, ((![v2602] : Fin 1 → IVec S16 32) a x).toNat < S4096.size a := fun v2602 k0_hw744 => k0_hw744

def k0_chk745 (v2606 : IVec S16 32) : Prop :=
  (∀ a x, ((![v2606] : Fin 1 → IVec S16 32) a x).toNat < S12288.size a)
theorem k0_idx745_inb : ∀ (v2606 : IVec S16 32) (k0_hw745 : k0_chk745 v2606), ∀ a x, ((![v2606] : Fin 1 → IVec S16 32) a x).toNat < S12288.size a := fun v2606 k0_hw745 => k0_hw745

def k0_chk746 (v2607 : IVec S16 32) : Prop :=
  (∀ a x, ((![v2607] : Fin 1 → IVec S16 32) a x).toNat < S4096.size a)
theorem k0_idx746_inb : ∀ (v2607 : IVec S16 32) (k0_hw746 : k0_chk746 v2607), ∀ a x, ((![v2607] : Fin 1 → IVec S16 32) a x).toNat < S4096.size a := fun v2607 k0_hw746 => k0_hw746

def k0_chk747 (v2610 : IVec S16 32) : Prop :=
  (∀ a x, ((![v2610] : Fin 1 → IVec S16 32) a x).toNat < S16.size a)
theorem k0_idx747_inb : ∀ (v2610 : IVec S16 32) (k0_hw747 : k0_chk747 v2610), ∀ a x, ((![v2610] : Fin 1 → IVec S16 32) a x).toNat < S16.size a := fun v2610 k0_hw747 => k0_hw747

def k0_chk748 (v2619 : IVec S16 32) : Prop :=
  (∀ a x, ((![v2619] : Fin 1 → IVec S16 32) a x).toNat < S12288.size a)
theorem k0_idx748_inb : ∀ (v2619 : IVec S16 32) (k0_hw748 : k0_chk748 v2619), ∀ a x, ((![v2619] : Fin 1 → IVec S16 32) a x).toNat < S12288.size a := fun v2619 k0_hw748 => k0_hw748

def k0_chk749 (v2620 : IVec S16 32) : Prop :=
  (∀ a x, ((![v2620] : Fin 1 → IVec S16 32) a x).toNat < S4096.size a)
theorem k0_idx749_inb : ∀ (v2620 : IVec S16 32) (k0_hw749 : k0_chk749 v2620), ∀ a x, ((![v2620] : Fin 1 → IVec S16 32) a x).toNat < S4096.size a := fun v2620 k0_hw749 => k0_hw749

def k0_chk750 (v2623 : IVec S16 32) : Prop :=
  (∀ a x, ((![v2623] : Fin 1 → IVec S16 32) a x).toNat < S12288.size a)
theorem k0_idx750_inb : ∀ (v2623 : IVec S16 32) (k0_hw750 : k0_chk750 v2623), ∀ a x, ((![v2623] : Fin 1 → IVec S16 32) a x).toNat < S12288.size a := fun v2623 k0_hw750 => k0_hw750

def k0_chk751 (v2624 : IVec S16 32) : Prop :=
  (∀ a x, ((![v2624] : Fin 1 → IVec S16 32) a x).toNat < S4096.size a)
theorem k0_idx751_inb : ∀ (v2624 : IVec S16 32) (k0_hw751 : k0_chk751 v2624), ∀ a x, ((![v2624] : Fin 1 → IVec S16 32) a x).toNat < S4096.size a := fun v2624 k0_hw751 => k0_hw751

def k0_chk752 (v2628 : IVec S16 32) : Prop :=
  (∀ a x, ((![v2628] : Fin 1 → IVec S16 32) a x).toNat < S12288.size a)
theorem k0_idx752_inb : ∀ (v2628 : IVec S16 32) (k0_hw752 : k0_chk752 v2628), ∀ a x, ((![v2628] : Fin 1 → IVec S16 32) a x).toNat < S12288.size a := fun v2628 k0_hw752 => k0_hw752

def k0_chk753 (v2629 : IVec S16 32) : Prop :=
  (∀ a x, ((![v2629] : Fin 1 → IVec S16 32) a x).toNat < S4096.size a)
theorem k0_idx753_inb : ∀ (v2629 : IVec S16 32) (k0_hw753 : k0_chk753 v2629), ∀ a x, ((![v2629] : Fin 1 → IVec S16 32) a x).toNat < S4096.size a := fun v2629 k0_hw753 => k0_hw753

def k0_chk754 (v2633 : IVec S16 32) : Prop :=
  (∀ a x, ((![v2633] : Fin 1 → IVec S16 32) a x).toNat < S12288.size a)
theorem k0_idx754_inb : ∀ (v2633 : IVec S16 32) (k0_hw754 : k0_chk754 v2633), ∀ a x, ((![v2633] : Fin 1 → IVec S16 32) a x).toNat < S12288.size a := fun v2633 k0_hw754 => k0_hw754

def k0_chk755 (v2634 : IVec S16 32) : Prop :=
  (∀ a x, ((![v2634] : Fin 1 → IVec S16 32) a x).toNat < S4096.size a)
theorem k0_idx755_inb : ∀ (v2634 : IVec S16 32) (k0_hw755 : k0_chk755 v2634), ∀ a x, ((![v2634] : Fin 1 → IVec S16 32) a x).toNat < S4096.size a := fun v2634 k0_hw755 => k0_hw755

def k0_chk756 (v2637 : IVec S16 32) : Prop :=
  (∀ a x, ((![v2637] : Fin 1 → IVec S16 32) a x).toNat < S16.size a)
theorem k0_idx756_inb : ∀ (v2637 : IVec S16 32) (k0_hw756 : k0_chk756 v2637), ∀ a x, ((![v2637] : Fin 1 → IVec S16 32) a x).toNat < S16.size a := fun v2637 k0_hw756 => k0_hw756

def k0_chk757 (v2646 : IVec S16 32) : Prop :=
  (∀ a x, ((![v2646] : Fin 1 → IVec S16 32) a x).toNat < S12288.size a)
theorem k0_idx757_inb : ∀ (v2646 : IVec S16 32) (k0_hw757 : k0_chk757 v2646), ∀ a x, ((![v2646] : Fin 1 → IVec S16 32) a x).toNat < S12288.size a := fun v2646 k0_hw757 => k0_hw757

def k0_chk758 (v2647 : IVec S16 32) : Prop :=
  (∀ a x, ((![v2647] : Fin 1 → IVec S16 32) a x).toNat < S4096.size a)
theorem k0_idx758_inb : ∀ (v2647 : IVec S16 32) (k0_hw758 : k0_chk758 v2647), ∀ a x, ((![v2647] : Fin 1 → IVec S16 32) a x).toNat < S4096.size a := fun v2647 k0_hw758 => k0_hw758

def k0_chk759 (v2650 : IVec S16 32) : Prop :=
  (∀ a x, ((![v2650] : Fin 1 → IVec S16 32) a x).toNat < S12288.size a)
theorem k0_idx759_inb : ∀ (v2650 : IVec S16 32) (k0_hw759 : k0_chk759 v2650), ∀ a x, ((![v2650] : Fin 1 → IVec S16 32) a x).toNat < S12288.size a := fun v2650 k0_hw759 => k0_hw759

def k0_chk760 (v2651 : IVec S16 32) : Prop :=
  (∀ a x, ((![v2651] : Fin 1 → IVec S16 32) a x).toNat < S4096.size a)
theorem k0_idx760_inb : ∀ (v2651 : IVec S16 32) (k0_hw760 : k0_chk760 v2651), ∀ a x, ((![v2651] : Fin 1 → IVec S16 32) a x).toNat < S4096.size a := fun v2651 k0_hw760 => k0_hw760

def k0_chk761 (v2655 : IVec S16 32) : Prop :=
  (∀ a x, ((![v2655] : Fin 1 → IVec S16 32) a x).toNat < S12288.size a)
theorem k0_idx761_inb : ∀ (v2655 : IVec S16 32) (k0_hw761 : k0_chk761 v2655), ∀ a x, ((![v2655] : Fin 1 → IVec S16 32) a x).toNat < S12288.size a := fun v2655 k0_hw761 => k0_hw761

def k0_chk762 (v2656 : IVec S16 32) : Prop :=
  (∀ a x, ((![v2656] : Fin 1 → IVec S16 32) a x).toNat < S4096.size a)
theorem k0_idx762_inb : ∀ (v2656 : IVec S16 32) (k0_hw762 : k0_chk762 v2656), ∀ a x, ((![v2656] : Fin 1 → IVec S16 32) a x).toNat < S4096.size a := fun v2656 k0_hw762 => k0_hw762

def k0_chk763 (v2660 : IVec S16 32) : Prop :=
  (∀ a x, ((![v2660] : Fin 1 → IVec S16 32) a x).toNat < S12288.size a)
theorem k0_idx763_inb : ∀ (v2660 : IVec S16 32) (k0_hw763 : k0_chk763 v2660), ∀ a x, ((![v2660] : Fin 1 → IVec S16 32) a x).toNat < S12288.size a := fun v2660 k0_hw763 => k0_hw763

def k0_chk764 (v2661 : IVec S16 32) : Prop :=
  (∀ a x, ((![v2661] : Fin 1 → IVec S16 32) a x).toNat < S4096.size a)
theorem k0_idx764_inb : ∀ (v2661 : IVec S16 32) (k0_hw764 : k0_chk764 v2661), ∀ a x, ((![v2661] : Fin 1 → IVec S16 32) a x).toNat < S4096.size a := fun v2661 k0_hw764 => k0_hw764

def k0_chk765 (v2664 : IVec S16 32) : Prop :=
  (∀ a x, ((![v2664] : Fin 1 → IVec S16 32) a x).toNat < S16.size a)
theorem k0_idx765_inb : ∀ (v2664 : IVec S16 32) (k0_hw765 : k0_chk765 v2664), ∀ a x, ((![v2664] : Fin 1 → IVec S16 32) a x).toNat < S16.size a := fun v2664 k0_hw765 => k0_hw765

def k0_chk766 (v2673 : IVec S16 32) : Prop :=
  (∀ a x, ((![v2673] : Fin 1 → IVec S16 32) a x).toNat < S12288.size a)
theorem k0_idx766_inb : ∀ (v2673 : IVec S16 32) (k0_hw766 : k0_chk766 v2673), ∀ a x, ((![v2673] : Fin 1 → IVec S16 32) a x).toNat < S12288.size a := fun v2673 k0_hw766 => k0_hw766

def k0_chk767 (v2674 : IVec S16 32) : Prop :=
  (∀ a x, ((![v2674] : Fin 1 → IVec S16 32) a x).toNat < S4096.size a)
theorem k0_idx767_inb : ∀ (v2674 : IVec S16 32) (k0_hw767 : k0_chk767 v2674), ∀ a x, ((![v2674] : Fin 1 → IVec S16 32) a x).toNat < S4096.size a := fun v2674 k0_hw767 => k0_hw767

def k0_chk768 (v2677 : IVec S16 32) : Prop :=
  (∀ a x, ((![v2677] : Fin 1 → IVec S16 32) a x).toNat < S12288.size a)
theorem k0_idx768_inb : ∀ (v2677 : IVec S16 32) (k0_hw768 : k0_chk768 v2677), ∀ a x, ((![v2677] : Fin 1 → IVec S16 32) a x).toNat < S12288.size a := fun v2677 k0_hw768 => k0_hw768

def k0_chk769 (v2678 : IVec S16 32) : Prop :=
  (∀ a x, ((![v2678] : Fin 1 → IVec S16 32) a x).toNat < S4096.size a)
theorem k0_idx769_inb : ∀ (v2678 : IVec S16 32) (k0_hw769 : k0_chk769 v2678), ∀ a x, ((![v2678] : Fin 1 → IVec S16 32) a x).toNat < S4096.size a := fun v2678 k0_hw769 => k0_hw769

def k0_chk770 (v2682 : IVec S16 32) : Prop :=
  (∀ a x, ((![v2682] : Fin 1 → IVec S16 32) a x).toNat < S12288.size a)
theorem k0_idx770_inb : ∀ (v2682 : IVec S16 32) (k0_hw770 : k0_chk770 v2682), ∀ a x, ((![v2682] : Fin 1 → IVec S16 32) a x).toNat < S12288.size a := fun v2682 k0_hw770 => k0_hw770

def k0_chk771 (v2683 : IVec S16 32) : Prop :=
  (∀ a x, ((![v2683] : Fin 1 → IVec S16 32) a x).toNat < S4096.size a)
theorem k0_idx771_inb : ∀ (v2683 : IVec S16 32) (k0_hw771 : k0_chk771 v2683), ∀ a x, ((![v2683] : Fin 1 → IVec S16 32) a x).toNat < S4096.size a := fun v2683 k0_hw771 => k0_hw771

def k0_chk772 (v2687 : IVec S16 32) : Prop :=
  (∀ a x, ((![v2687] : Fin 1 → IVec S16 32) a x).toNat < S12288.size a)
theorem k0_idx772_inb : ∀ (v2687 : IVec S16 32) (k0_hw772 : k0_chk772 v2687), ∀ a x, ((![v2687] : Fin 1 → IVec S16 32) a x).toNat < S12288.size a := fun v2687 k0_hw772 => k0_hw772

def k0_chk773 (v2688 : IVec S16 32) : Prop :=
  (∀ a x, ((![v2688] : Fin 1 → IVec S16 32) a x).toNat < S4096.size a)
theorem k0_idx773_inb : ∀ (v2688 : IVec S16 32) (k0_hw773 : k0_chk773 v2688), ∀ a x, ((![v2688] : Fin 1 → IVec S16 32) a x).toNat < S4096.size a := fun v2688 k0_hw773 => k0_hw773

def k0_chk774 (v2691 : IVec S16 32) : Prop :=
  (∀ a x, ((![v2691] : Fin 1 → IVec S16 32) a x).toNat < S16.size a)
theorem k0_idx774_inb : ∀ (v2691 : IVec S16 32) (k0_hw774 : k0_chk774 v2691), ∀ a x, ((![v2691] : Fin 1 → IVec S16 32) a x).toNat < S16.size a := fun v2691 k0_hw774 => k0_hw774

def k0_chk775 (v2700 : IVec S16 32) : Prop :=
  (∀ a x, ((![v2700] : Fin 1 → IVec S16 32) a x).toNat < S12288.size a)
theorem k0_idx775_inb : ∀ (v2700 : IVec S16 32) (k0_hw775 : k0_chk775 v2700), ∀ a x, ((![v2700] : Fin 1 → IVec S16 32) a x).toNat < S12288.size a := fun v2700 k0_hw775 => k0_hw775

def k0_chk776 (v2701 : IVec S16 32) : Prop :=
  (∀ a x, ((![v2701] : Fin 1 → IVec S16 32) a x).toNat < S4096.size a)
theorem k0_idx776_inb : ∀ (v2701 : IVec S16 32) (k0_hw776 : k0_chk776 v2701), ∀ a x, ((![v2701] : Fin 1 → IVec S16 32) a x).toNat < S4096.size a := fun v2701 k0_hw776 => k0_hw776

def k0_chk777 (v2704 : IVec S16 32) : Prop :=
  (∀ a x, ((![v2704] : Fin 1 → IVec S16 32) a x).toNat < S12288.size a)
theorem k0_idx777_inb : ∀ (v2704 : IVec S16 32) (k0_hw777 : k0_chk777 v2704), ∀ a x, ((![v2704] : Fin 1 → IVec S16 32) a x).toNat < S12288.size a := fun v2704 k0_hw777 => k0_hw777

def k0_chk778 (v2705 : IVec S16 32) : Prop :=
  (∀ a x, ((![v2705] : Fin 1 → IVec S16 32) a x).toNat < S4096.size a)
theorem k0_idx778_inb : ∀ (v2705 : IVec S16 32) (k0_hw778 : k0_chk778 v2705), ∀ a x, ((![v2705] : Fin 1 → IVec S16 32) a x).toNat < S4096.size a := fun v2705 k0_hw778 => k0_hw778

def k0_chk779 (v2709 : IVec S16 32) : Prop :=
  (∀ a x, ((![v2709] : Fin 1 → IVec S16 32) a x).toNat < S12288.size a)
theorem k0_idx779_inb : ∀ (v2709 : IVec S16 32) (k0_hw779 : k0_chk779 v2709), ∀ a x, ((![v2709] : Fin 1 → IVec S16 32) a x).toNat < S12288.size a := fun v2709 k0_hw779 => k0_hw779

def k0_chk780 (v2710 : IVec S16 32) : Prop :=
  (∀ a x, ((![v2710] : Fin 1 → IVec S16 32) a x).toNat < S4096.size a)
theorem k0_idx780_inb : ∀ (v2710 : IVec S16 32) (k0_hw780 : k0_chk780 v2710), ∀ a x, ((![v2710] : Fin 1 → IVec S16 32) a x).toNat < S4096.size a := fun v2710 k0_hw780 => k0_hw780

def k0_chk781 (v2714 : IVec S16 32) : Prop :=
  (∀ a x, ((![v2714] : Fin 1 → IVec S16 32) a x).toNat < S12288.size a)
theorem k0_idx781_inb : ∀ (v2714 : IVec S16 32) (k0_hw781 : k0_chk781 v2714), ∀ a x, ((![v2714] : Fin 1 → IVec S16 32) a x).toNat < S12288.size a := fun v2714 k0_hw781 => k0_hw781

def k0_chk782 (v2715 : IVec S16 32) : Prop :=
  (∀ a x, ((![v2715] : Fin 1 → IVec S16 32) a x).toNat < S4096.size a)
theorem k0_idx782_inb : ∀ (v2715 : IVec S16 32) (k0_hw782 : k0_chk782 v2715), ∀ a x, ((![v2715] : Fin 1 → IVec S16 32) a x).toNat < S4096.size a := fun v2715 k0_hw782 => k0_hw782

def k0_chk783 (v2718 : IVec S16 32) : Prop :=
  (∀ a x, ((![v2718] : Fin 1 → IVec S16 32) a x).toNat < S16.size a)
theorem k0_idx783_inb : ∀ (v2718 : IVec S16 32) (k0_hw783 : k0_chk783 v2718), ∀ a x, ((![v2718] : Fin 1 → IVec S16 32) a x).toNat < S16.size a := fun v2718 k0_hw783 => k0_hw783

def k0_chk784 (v2727 : IVec S16 32) : Prop :=
  (∀ a x, ((![v2727] : Fin 1 → IVec S16 32) a x).toNat < S12288.size a)
theorem k0_idx784_inb : ∀ (v2727 : IVec S16 32) (k0_hw784 : k0_chk784 v2727), ∀ a x, ((![v2727] : Fin 1 → IVec S16 32) a x).toNat < S12288.size a := fun v2727 k0_hw784 => k0_hw784

def k0_chk785 (v2728 : IVec S16 32) : Prop :=
  (∀ a x, ((![v2728] : Fin 1 → IVec S16 32) a x).toNat < S4096.size a)
theorem k0_idx785_inb : ∀ (v2728 : IVec S16 32) (k0_hw785 : k0_chk785 v2728), ∀ a x, ((![v2728] : Fin 1 → IVec S16 32) a x).toNat < S4096.size a := fun v2728 k0_hw785 => k0_hw785

def k0_chk786 (v2731 : IVec S16 32) : Prop :=
  (∀ a x, ((![v2731] : Fin 1 → IVec S16 32) a x).toNat < S12288.size a)
theorem k0_idx786_inb : ∀ (v2731 : IVec S16 32) (k0_hw786 : k0_chk786 v2731), ∀ a x, ((![v2731] : Fin 1 → IVec S16 32) a x).toNat < S12288.size a := fun v2731 k0_hw786 => k0_hw786

def k0_chk787 (v2732 : IVec S16 32) : Prop :=
  (∀ a x, ((![v2732] : Fin 1 → IVec S16 32) a x).toNat < S4096.size a)
theorem k0_idx787_inb : ∀ (v2732 : IVec S16 32) (k0_hw787 : k0_chk787 v2732), ∀ a x, ((![v2732] : Fin 1 → IVec S16 32) a x).toNat < S4096.size a := fun v2732 k0_hw787 => k0_hw787

def k0_chk788 (v2736 : IVec S16 32) : Prop :=
  (∀ a x, ((![v2736] : Fin 1 → IVec S16 32) a x).toNat < S12288.size a)
theorem k0_idx788_inb : ∀ (v2736 : IVec S16 32) (k0_hw788 : k0_chk788 v2736), ∀ a x, ((![v2736] : Fin 1 → IVec S16 32) a x).toNat < S12288.size a := fun v2736 k0_hw788 => k0_hw788

def k0_chk789 (v2737 : IVec S16 32) : Prop :=
  (∀ a x, ((![v2737] : Fin 1 → IVec S16 32) a x).toNat < S4096.size a)
theorem k0_idx789_inb : ∀ (v2737 : IVec S16 32) (k0_hw789 : k0_chk789 v2737), ∀ a x, ((![v2737] : Fin 1 → IVec S16 32) a x).toNat < S4096.size a := fun v2737 k0_hw789 => k0_hw789

def k0_chk790 (v2741 : IVec S16 32) : Prop :=
  (∀ a x, ((![v2741] : Fin 1 → IVec S16 32) a x).toNat < S12288.size a)
theorem k0_idx790_inb : ∀ (v2741 : IVec S16 32) (k0_hw790 : k0_chk790 v2741), ∀ a x, ((![v2741] : Fin 1 → IVec S16 32) a x).toNat < S12288.size a := fun v2741 k0_hw790 => k0_hw790

def k0_chk791 (v2742 : IVec S16 32) : Prop :=
  (∀ a x, ((![v2742] : Fin 1 → IVec S16 32) a x).toNat < S4096.size a)
theorem k0_idx791_inb : ∀ (v2742 : IVec S16 32) (k0_hw791 : k0_chk791 v2742), ∀ a x, ((![v2742] : Fin 1 → IVec S16 32) a x).toNat < S4096.size a := fun v2742 k0_hw791 => k0_hw791

def k0_chk792 (v2745 : IVec S16 32) : Prop :=
  (∀ a x, ((![v2745] : Fin 1 → IVec S16 32) a x).toNat < S16.size a)
theorem k0_idx792_inb : ∀ (v2745 : IVec S16 32) (k0_hw792 : k0_chk792 v2745), ∀ a x, ((![v2745] : Fin 1 → IVec S16 32) a x).toNat < S16.size a := fun v2745 k0_hw792 => k0_hw792

def k0_chk793 (v2754 : IVec S16 32) : Prop :=
  (∀ a x, ((![v2754] : Fin 1 → IVec S16 32) a x).toNat < S12288.size a)
theorem k0_idx793_inb : ∀ (v2754 : IVec S16 32) (k0_hw793 : k0_chk793 v2754), ∀ a x, ((![v2754] : Fin 1 → IVec S16 32) a x).toNat < S12288.size a := fun v2754 k0_hw793 => k0_hw793

def k0_chk794 (v2755 : IVec S16 32) : Prop :=
  (∀ a x, ((![v2755] : Fin 1 → IVec S16 32) a x).toNat < S4096.size a)
theorem k0_idx794_inb : ∀ (v2755 : IVec S16 32) (k0_hw794 : k0_chk794 v2755), ∀ a x, ((![v2755] : Fin 1 → IVec S16 32) a x).toNat < S4096.size a := fun v2755 k0_hw794 => k0_hw794

def k0_chk795 (v2758 : IVec S16 32) : Prop :=
  (∀ a x, ((![v2758] : Fin 1 → IVec S16 32) a x).toNat < S12288.size a)
theorem k0_idx795_inb : ∀ (v2758 : IVec S16 32) (k0_hw795 : k0_chk795 v2758), ∀ a x, ((![v2758] : Fin 1 → IVec S16 32) a x).toNat < S12288.size a := fun v2758 k0_hw795 => k0_hw795

def k0_chk796 (v2759 : IVec S16 32) : Prop :=
  (∀ a x, ((![v2759] : Fin 1 → IVec S16 32) a x).toNat < S4096.size a)
theorem k0_idx796_inb : ∀ (v2759 : IVec S16 32) (k0_hw796 : k0_chk796 v2759), ∀ a x, ((![v2759] : Fin 1 → IVec S16 32) a x).toNat < S4096.size a := fun v2759 k0_hw796 => k0_hw796

def k0_chk797 (v2763 : IVec S16 32) : Prop :=
  (∀ a x, ((![v2763] : Fin 1 → IVec S16 32) a x).toNat < S12288.size a)
theorem k0_idx797_inb : ∀ (v2763 : IVec S16 32) (k0_hw797 : k0_chk797 v2763), ∀ a x, ((![v2763] : Fin 1 → IVec S16 32) a x).toNat < S12288.size a := fun v2763 k0_hw797 => k0_hw797

def k0_chk798 (v2764 : IVec S16 32) : Prop :=
  (∀ a x, ((![v2764] : Fin 1 → IVec S16 32) a x).toNat < S4096.size a)
theorem k0_idx798_inb : ∀ (v2764 : IVec S16 32) (k0_hw798 : k0_chk798 v2764), ∀ a x, ((![v2764] : Fin 1 → IVec S16 32) a x).toNat < S4096.size a := fun v2764 k0_hw798 => k0_hw798

def k0_chk799 (v2768 : IVec S16 32) : Prop :=
  (∀ a x, ((![v2768] : Fin 1 → IVec S16 32) a x).toNat < S12288.size a)
theorem k0_idx799_inb : ∀ (v2768 : IVec S16 32) (k0_hw799 : k0_chk799 v2768), ∀ a x, ((![v2768] : Fin 1 → IVec S16 32) a x).toNat < S12288.size a := fun v2768 k0_hw799 => k0_hw799

def k0_chk800 (v2769 : IVec S16 32) : Prop :=
  (∀ a x, ((![v2769] : Fin 1 → IVec S16 32) a x).toNat < S4096.size a)
theorem k0_idx800_inb : ∀ (v2769 : IVec S16 32) (k0_hw800 : k0_chk800 v2769), ∀ a x, ((![v2769] : Fin 1 → IVec S16 32) a x).toNat < S4096.size a := fun v2769 k0_hw800 => k0_hw800

def k0_chk801 (v2772 : IVec S16 32) : Prop :=
  (∀ a x, ((![v2772] : Fin 1 → IVec S16 32) a x).toNat < S16.size a)
theorem k0_idx801_inb : ∀ (v2772 : IVec S16 32) (k0_hw801 : k0_chk801 v2772), ∀ a x, ((![v2772] : Fin 1 → IVec S16 32) a x).toNat < S16.size a := fun v2772 k0_hw801 => k0_hw801

def k0_chk802 (v2781 : IVec S16 32) : Prop :=
  (∀ a x, ((![v2781] : Fin 1 → IVec S16 32) a x).toNat < S12288.size a)
theorem k0_idx802_inb : ∀ (v2781 : IVec S16 32) (k0_hw802 : k0_chk802 v2781), ∀ a x, ((![v2781] : Fin 1 → IVec S16 32) a x).toNat < S12288.size a := fun v2781 k0_hw802 => k0_hw802

def k0_chk803 (v2782 : IVec S16 32) : Prop :=
  (∀ a x, ((![v2782] : Fin 1 → IVec S16 32) a x).toNat < S4096.size a)
theorem k0_idx803_inb : ∀ (v2782 : IVec S16 32) (k0_hw803 : k0_chk803 v2782), ∀ a x, ((![v2782] : Fin 1 → IVec S16 32) a x).toNat < S4096.size a := fun v2782 k0_hw803 => k0_hw803

def k0_chk804 (v2785 : IVec S16 32) : Prop :=
  (∀ a x, ((![v2785] : Fin 1 → IVec S16 32) a x).toNat < S12288.size a)
theorem k0_idx804_inb : ∀ (v2785 : IVec S16 32) (k0_hw804 : k0_chk804 v2785), ∀ a x, ((![v2785] : Fin 1 → IVec S16 32) a x).toNat < S12288.size a := fun v2785 k0_hw804 => k0_hw804

def k0_chk805 (v2786 : IVec S16 32) : Prop :=
  (∀ a x, ((![v2786] : Fin 1 → IVec S16 32) a x).toNat < S4096.size a)
theorem k0_idx805_inb : ∀ (v2786 : IVec S16 32) (k0_hw805 : k0_chk805 v2786), ∀ a x, ((![v2786] : Fin 1 → IVec S16 32) a x).toNat < S4096.size a := fun v2786 k0_hw805 => k0_hw805

def k0_chk806 (v2790 : IVec S16 32) : Prop :=
  (∀ a x, ((![v2790] : Fin 1 → IVec S16 32) a x).toNat < S12288.size a)
theorem k0_idx806_inb : ∀ (v2790 : IVec S16 32) (k0_hw806 : k0_chk806 v2790), ∀ a x, ((![v2790] : Fin 1 → IVec S16 32) a x).toNat < S12288.size a := fun v2790 k0_hw806 => k0_hw806

def k0_chk807 (v2791 : IVec S16 32) : Prop :=
  (∀ a x, ((![v2791] : Fin 1 → IVec S16 32) a x).toNat < S4096.size a)
theorem k0_idx807_inb : ∀ (v2791 : IVec S16 32) (k0_hw807 : k0_chk807 v2791), ∀ a x, ((![v2791] : Fin 1 → IVec S16 32) a x).toNat < S4096.size a := fun v2791 k0_hw807 => k0_hw807

def k0_chk808 (v2795 : IVec S16 32) : Prop :=
  (∀ a x, ((![v2795] : Fin 1 → IVec S16 32) a x).toNat < S12288.size a)
theorem k0_idx808_inb : ∀ (v2795 : IVec S16 32) (k0_hw808 : k0_chk808 v2795), ∀ a x, ((![v2795] : Fin 1 → IVec S16 32) a x).toNat < S12288.size a := fun v2795 k0_hw808 => k0_hw808

def k0_chk809 (v2796 : IVec S16 32) : Prop :=
  (∀ a x, ((![v2796] : Fin 1 → IVec S16 32) a x).toNat < S4096.size a)
theorem k0_idx809_inb : ∀ (v2796 : IVec S16 32) (k0_hw809 : k0_chk809 v2796), ∀ a x, ((![v2796] : Fin 1 → IVec S16 32) a x).toNat < S4096.size a := fun v2796 k0_hw809 => k0_hw809

def k0_chk810 (v2799 : IVec S16 32) : Prop :=
  (∀ a x, ((![v2799] : Fin 1 → IVec S16 32) a x).toNat < S16.size a)
theorem k0_idx810_inb : ∀ (v2799 : IVec S16 32) (k0_hw810 : k0_chk810 v2799), ∀ a x, ((![v2799] : Fin 1 → IVec S16 32) a x).toNat < S16.size a := fun v2799 k0_hw810 => k0_hw810

def k0_chk811 (v2808 : IVec S16 32) : Prop :=
  (∀ a x, ((![v2808] : Fin 1 → IVec S16 32) a x).toNat < S12288.size a)
theorem k0_idx811_inb : ∀ (v2808 : IVec S16 32) (k0_hw811 : k0_chk811 v2808), ∀ a x, ((![v2808] : Fin 1 → IVec S16 32) a x).toNat < S12288.size a := fun v2808 k0_hw811 => k0_hw811

def k0_chk812 (v2809 : IVec S16 32) : Prop :=
  (∀ a x, ((![v2809] : Fin 1 → IVec S16 32) a x).toNat < S4096.size a)
theorem k0_idx812_inb : ∀ (v2809 : IVec S16 32) (k0_hw812 : k0_chk812 v2809), ∀ a x, ((![v2809] : Fin 1 → IVec S16 32) a x).toNat < S4096.size a := fun v2809 k0_hw812 => k0_hw812

def k0_chk813 (v2812 : IVec S16 32) : Prop :=
  (∀ a x, ((![v2812] : Fin 1 → IVec S16 32) a x).toNat < S12288.size a)
theorem k0_idx813_inb : ∀ (v2812 : IVec S16 32) (k0_hw813 : k0_chk813 v2812), ∀ a x, ((![v2812] : Fin 1 → IVec S16 32) a x).toNat < S12288.size a := fun v2812 k0_hw813 => k0_hw813

def k0_chk814 (v2813 : IVec S16 32) : Prop :=
  (∀ a x, ((![v2813] : Fin 1 → IVec S16 32) a x).toNat < S4096.size a)
theorem k0_idx814_inb : ∀ (v2813 : IVec S16 32) (k0_hw814 : k0_chk814 v2813), ∀ a x, ((![v2813] : Fin 1 → IVec S16 32) a x).toNat < S4096.size a := fun v2813 k0_hw814 => k0_hw814

def k0_chk815 (v2817 : IVec S16 32) : Prop :=
  (∀ a x, ((![v2817] : Fin 1 → IVec S16 32) a x).toNat < S12288.size a)
theorem k0_idx815_inb : ∀ (v2817 : IVec S16 32) (k0_hw815 : k0_chk815 v2817), ∀ a x, ((![v2817] : Fin 1 → IVec S16 32) a x).toNat < S12288.size a := fun v2817 k0_hw815 => k0_hw815

def k0_chk816 (v2818 : IVec S16 32) : Prop :=
  (∀ a x, ((![v2818] : Fin 1 → IVec S16 32) a x).toNat < S4096.size a)
theorem k0_idx816_inb : ∀ (v2818 : IVec S16 32) (k0_hw816 : k0_chk816 v2818), ∀ a x, ((![v2818] : Fin 1 → IVec S16 32) a x).toNat < S4096.size a := fun v2818 k0_hw816 => k0_hw816

def k0_chk817 (v2822 : IVec S16 32) : Prop :=
  (∀ a x, ((![v2822] : Fin 1 → IVec S16 32) a x).toNat < S12288.size a)
theorem k0_idx817_inb : ∀ (v2822 : IVec S16 32) (k0_hw817 : k0_chk817 v2822), ∀ a x, ((![v2822] : Fin 1 → IVec S16 32) a x).toNat < S12288.size a := fun v2822 k0_hw817 => k0_hw817

def k0_chk818 (v2823 : IVec S16 32) : Prop :=
  (∀ a x, ((![v2823] : Fin 1 → IVec S16 32) a x).toNat < S4096.size a)
theorem k0_idx818_inb : ∀ (v2823 : IVec S16 32) (k0_hw818 : k0_chk818 v2823), ∀ a x, ((![v2823] : Fin 1 → IVec S16 32) a x).toNat < S4096.size a := fun v2823 k0_hw818 => k0_hw818

def k0_chk819 (v2826 : IVec S16 32) : Prop :=
  (∀ a x, ((![v2826] : Fin 1 → IVec S16 32) a x).toNat < S16.size a)
theorem k0_idx819_inb : ∀ (v2826 : IVec S16 32) (k0_hw819 : k0_chk819 v2826), ∀ a x, ((![v2826] : Fin 1 → IVec S16 32) a x).toNat < S16.size a := fun v2826 k0_hw819 => k0_hw819

def k0_chk820 (v2835 : IVec S16 32) : Prop :=
  (∀ a x, ((![v2835] : Fin 1 → IVec S16 32) a x).toNat < S12288.size a)
theorem k0_idx820_inb : ∀ (v2835 : IVec S16 32) (k0_hw820 : k0_chk820 v2835), ∀ a x, ((![v2835] : Fin 1 → IVec S16 32) a x).toNat < S12288.size a := fun v2835 k0_hw820 => k0_hw820

def k0_chk821 (v2836 : IVec S16 32) : Prop :=
  (∀ a x, ((![v2836] : Fin 1 → IVec S16 32) a x).toNat < S4096.size a)
theorem k0_idx821_inb : ∀ (v2836 : IVec S16 32) (k0_hw821 : k0_chk821 v2836), ∀ a x, ((![v2836] : Fin 1 → IVec S16 32) a x).toNat < S4096.size a := fun v2836 k0_hw821 => k0_hw821

def k0_chk822 (v2839 : IVec S16 32) : Prop :=
  (∀ a x, ((![v2839] : Fin 1 → IVec S16 32) a x).toNat < S12288.size a)
theorem k0_idx822_inb : ∀ (v2839 : IVec S16 32) (k0_hw822 : k0_chk822 v2839), ∀ a x, ((![v2839] : Fin 1 → IVec S16 32) a x).toNat < S12288.size a := fun v2839 k0_hw822 => k0_hw822

def k0_chk823 (v2840 : IVec S16 32) : Prop :=
  (∀ a x, ((![v2840] : Fin 1 → IVec S16 32) a x).toNat < S4096.size a)
theorem k0_idx823_inb : ∀ (v2840 : IVec S16 32) (k0_hw823 : k0_chk823 v2840), ∀ a x, ((![v2840] : Fin 1 → IVec S16 32) a x).toNat < S4096.size a := fun v2840 k0_hw823 => k0_hw823

def k0_chk824 (v2844 : IVec S16 32) : Prop :=
  (∀ a x, ((![v2844] : Fin 1 → IVec S16 32) a x).toNat < S12288.size a)
theorem k0_idx824_inb : ∀ (v2844 : IVec S16 32) (k0_hw824 : k0_chk824 v2844), ∀ a x, ((![v2844] : Fin 1 → IVec S16 32) a x).toNat < S12288.size a := fun v2844 k0_hw824 => k0_hw824

def k0_chk825 (v2845 : IVec S16 32) : Prop :=
  (∀ a x, ((![v2845] : Fin 1 → IVec S16 32) a x).toNat < S4096.size a)
theorem k0_idx825_inb : ∀ (v2845 : IVec S16 32) (k0_hw825 : k0_chk825 v2845), ∀ a x, ((![v2845] : Fin 1 → IVec S16 32) a x).toNat < S4096.size a := fun v2845 k0_hw825 => k0_hw825

def k0_chk826 (v2849 : IVec S16 32) : Prop :=
  (∀ a x, ((![v2849] : Fin 1 → IVec S16 32) a x).toNat < S12288.size a)
theorem k0_idx826_inb : ∀ (v2849 : IVec S16 32) (k0_hw826 : k0_chk826 v2849), ∀ a x, ((![v2849] : Fin 1 → IVec S16 32) a x).toNat < S12288.size a := fun v2849 k0_hw826 => k0_hw826

def k0_chk827 (v2850 : IVec S16 32) : Prop :=
  (∀ a x, ((![v2850] : Fin 1 → IVec S16 32) a x).toNat < S4096.size a)
theorem k0_idx827_inb : ∀ (v2850 : IVec S16 32) (k0_hw827 : k0_chk827 v2850), ∀ a x, ((![v2850] : Fin 1 → IVec S16 32) a x).toNat < S4096.size a := fun v2850 k0_hw827 => k0_hw827

def k0_chk828 (v2853 : IVec S16 32) : Prop :=
  (∀ a x, ((![v2853] : Fin 1 → IVec S16 32) a x).toNat < S16.size a)
theorem k0_idx828_inb : ∀ (v2853 : IVec S16 32) (k0_hw828 : k0_chk828 v2853), ∀ a x, ((![v2853] : Fin 1 → IVec S16 32) a x).toNat < S16.size a := fun v2853 k0_hw828 => k0_hw828

def k0_chk829 (v2862 : IVec S16 32) : Prop :=
  (∀ a x, ((![v2862] : Fin 1 → IVec S16 32) a x).toNat < S12288.size a)
theorem k0_idx829_inb : ∀ (v2862 : IVec S16 32) (k0_hw829 : k0_chk829 v2862), ∀ a x, ((![v2862] : Fin 1 → IVec S16 32) a x).toNat < S12288.size a := fun v2862 k0_hw829 => k0_hw829

def k0_chk830 (v2863 : IVec S16 32) : Prop :=
  (∀ a x, ((![v2863] : Fin 1 → IVec S16 32) a x).toNat < S4096.size a)
theorem k0_idx830_inb : ∀ (v2863 : IVec S16 32) (k0_hw830 : k0_chk830 v2863), ∀ a x, ((![v2863] : Fin 1 → IVec S16 32) a x).toNat < S4096.size a := fun v2863 k0_hw830 => k0_hw830

def k0_chk831 (v2866 : IVec S16 32) : Prop :=
  (∀ a x, ((![v2866] : Fin 1 → IVec S16 32) a x).toNat < S12288.size a)
theorem k0_idx831_inb : ∀ (v2866 : IVec S16 32) (k0_hw831 : k0_chk831 v2866), ∀ a x, ((![v2866] : Fin 1 → IVec S16 32) a x).toNat < S12288.size a := fun v2866 k0_hw831 => k0_hw831

def k0_chk832 (v2867 : IVec S16 32) : Prop :=
  (∀ a x, ((![v2867] : Fin 1 → IVec S16 32) a x).toNat < S4096.size a)
theorem k0_idx832_inb : ∀ (v2867 : IVec S16 32) (k0_hw832 : k0_chk832 v2867), ∀ a x, ((![v2867] : Fin 1 → IVec S16 32) a x).toNat < S4096.size a := fun v2867 k0_hw832 => k0_hw832

def k0_chk833 (v2871 : IVec S16 32) : Prop :=
  (∀ a x, ((![v2871] : Fin 1 → IVec S16 32) a x).toNat < S12288.size a)
theorem k0_idx833_inb : ∀ (v2871 : IVec S16 32) (k0_hw833 : k0_chk833 v2871), ∀ a x, ((![v2871] : Fin 1 → IVec S16 32) a x).toNat < S12288.size a := fun v2871 k0_hw833 => k0_hw833

def k0_chk834 (v2872 : IVec S16 32) : Prop :=
  (∀ a x, ((![v2872] : Fin 1 → IVec S16 32) a x).toNat < S4096.size a)
theorem k0_idx834_inb : ∀ (v2872 : IVec S16 32) (k0_hw834 : k0_chk834 v2872), ∀ a x, ((![v2872] : Fin 1 → IVec S16 32) a x).toNat < S4096.size a := fun v2872 k0_hw834 => k0_hw834

def k0_chk835 (v2876 : IVec S16 32) : Prop :=
  (∀ a x, ((![v2876] : Fin 1 → IVec S16 32) a x).toNat < S12288.size a)
theorem k0_idx835_inb : ∀ (v2876 : IVec S16 32) (k0_hw835 : k0_chk835 v2876), ∀ a x, ((![v2876] : Fin 1 → IVec S16 32) a x).toNat < S12288.size a := fun v2876 k0_hw835 => k0_hw835

def k0_chk836 (v2877 : IVec S16 32) : Prop :=
  (∀ a x, ((![v2877] : Fin 1 → IVec S16 32) a x).toNat < S4096.size a)
theorem k0_idx836_inb : ∀ (v2877 : IVec S16 32) (k0_hw836 : k0_chk836 v2877), ∀ a x, ((![v2877] : Fin 1 → IVec S16 32) a x).toNat < S4096.size a := fun v2877 k0_hw836 => k0_hw836

def k0_chk837 (v2880 : IVec S16 32) : Prop :=
  (∀ a x, ((![v2880] : Fin 1 → IVec S16 32) a x).toNat < S16.size a)
theorem k0_idx837_inb : ∀ (v2880 : IVec S16 32) (k0_hw837 : k0_chk837 v2880), ∀ a x, ((![v2880] : Fin 1 → IVec S16 32) a x).toNat < S16.size a := fun v2880 k0_hw837 => k0_hw837

def k0_chk838 (v2889 : IVec S16 32) : Prop :=
  (∀ a x, ((![v2889] : Fin 1 → IVec S16 32) a x).toNat < S12288.size a)
theorem k0_idx838_inb : ∀ (v2889 : IVec S16 32) (k0_hw838 : k0_chk838 v2889), ∀ a x, ((![v2889] : Fin 1 → IVec S16 32) a x).toNat < S12288.size a := fun v2889 k0_hw838 => k0_hw838

def k0_chk839 (v2890 : IVec S16 32) : Prop :=
  (∀ a x, ((![v2890] : Fin 1 → IVec S16 32) a x).toNat < S4096.size a)
theorem k0_idx839_inb : ∀ (v2890 : IVec S16 32) (k0_hw839 : k0_chk839 v2890), ∀ a x, ((![v2890] : Fin 1 → IVec S16 32) a x).toNat < S4096.size a := fun v2890 k0_hw839 => k0_hw839

def k0_chk840 (v2893 : IVec S16 32) : Prop :=
  (∀ a x, ((![v2893] : Fin 1 → IVec S16 32) a x).toNat < S12288.size a)
theorem k0_idx840_inb : ∀ (v2893 : IVec S16 32) (k0_hw840 : k0_chk840 v2893), ∀ a x, ((![v2893] : Fin 1 → IVec S16 32) a x).toNat < S12288.size a := fun v2893 k0_hw840 => k0_hw840

def k0_chk841 (v2894 : IVec S16 32) : Prop :=
  (∀ a x, ((![v2894] : Fin 1 → IVec S16 32) a x).toNat < S4096.size a)
theorem k0_idx841_inb : ∀ (v2894 : IVec S16 32) (k0_hw841 : k0_chk841 v2894), ∀ a x, ((![v2894] : Fin 1 → IVec S16 32) a x).toNat < S4096.size a := fun v2894 k0_hw841 => k0_hw841

def k0_chk842 (v2898 : IVec S16 32) : Prop :=
  (∀ a x, ((![v2898] : Fin 1 → IVec S16 32) a x).toNat < S12288.size a)
theorem k0_idx842_inb : ∀ (v2898 : IVec S16 32) (k0_hw842 : k0_chk842 v2898), ∀ a x, ((![v2898] : Fin 1 → IVec S16 32) a x).toNat < S12288.size a := fun v2898 k0_hw842 => k0_hw842

def k0_chk843 (v2899 : IVec S16 32) : Prop :=
  (∀ a x, ((![v2899] : Fin 1 → IVec S16 32) a x).toNat < S4096.size a)
theorem k0_idx843_inb : ∀ (v2899 : IVec S16 32) (k0_hw843 : k0_chk843 v2899), ∀ a x, ((![v2899] : Fin 1 → IVec S16 32) a x).toNat < S4096.size a := fun v2899 k0_hw843 => k0_hw843

def k0_chk844 (v2903 : IVec S16 32) : Prop :=
  (∀ a x, ((![v2903] : Fin 1 → IVec S16 32) a x).toNat < S12288.size a)
theorem k0_idx844_inb : ∀ (v2903 : IVec S16 32) (k0_hw844 : k0_chk844 v2903), ∀ a x, ((![v2903] : Fin 1 → IVec S16 32) a x).toNat < S12288.size a := fun v2903 k0_hw844 => k0_hw844

def k0_chk845 (v2904 : IVec S16 32) : Prop :=
  (∀ a x, ((![v2904] : Fin 1 → IVec S16 32) a x).toNat < S4096.size a)
theorem k0_idx845_inb : ∀ (v2904 : IVec S16 32) (k0_hw845 : k0_chk845 v2904), ∀ a x, ((![v2904] : Fin 1 → IVec S16 32) a x).toNat < S4096.size a := fun v2904 k0_hw845 => k0_hw845

def k0_chk846 (v2907 : IVec S16 32) : Prop :=
  (∀ a x, ((![v2907] : Fin 1 → IVec S16 32) a x).toNat < S16.size a)
theorem k0_idx846_inb : ∀ (v2907 : IVec S16 32) (k0_hw846 : k0_chk846 v2907), ∀ a x, ((![v2907] : Fin 1 → IVec S16 32) a x).toNat < S16.size a := fun v2907 k0_hw846 => k0_hw846

def k0_chk847 (v2916 : IVec S16 32) : Prop :=
  (∀ a x, ((![v2916] : Fin 1 → IVec S16 32) a x).toNat < S12288.size a)
theorem k0_idx847_inb : ∀ (v2916 : IVec S16 32) (k0_hw847 : k0_chk847 v2916), ∀ a x, ((![v2916] : Fin 1 → IVec S16 32) a x).toNat < S12288.size a := fun v2916 k0_hw847 => k0_hw847

def k0_chk848 (v2917 : IVec S16 32) : Prop :=
  (∀ a x, ((![v2917] : Fin 1 → IVec S16 32) a x).toNat < S4096.size a)
theorem k0_idx848_inb : ∀ (v2917 : IVec S16 32) (k0_hw848 : k0_chk848 v2917), ∀ a x, ((![v2917] : Fin 1 → IVec S16 32) a x).toNat < S4096.size a := fun v2917 k0_hw848 => k0_hw848

def k0_chk849 (v2920 : IVec S16 32) : Prop :=
  (∀ a x, ((![v2920] : Fin 1 → IVec S16 32) a x).toNat < S12288.size a)
theorem k0_idx849_inb : ∀ (v2920 : IVec S16 32) (k0_hw849 : k0_chk849 v2920), ∀ a x, ((![v2920] : Fin 1 → IVec S16 32) a x).toNat < S12288.size a := fun v2920 k0_hw849 => k0_hw849

def k0_chk850 (v2921 : IVec S16 32) : Prop :=
  (∀ a x, ((![v2921] : Fin 1 → IVec S16 32) a x).toNat < S4096.size a)
theorem k0_idx850_inb : ∀ (v2921 : IVec S16 32) (k0_hw850 : k0_chk850 v2921), ∀ a x, ((![v2921] : Fin 1 → IVec S16 32) a x).toNat < S4096.size a := fun v2921 k0_hw850 => k0_hw850

def k0_chk851 (v2925 : IVec S16 32) : Prop :=
  (∀ a x, ((![v2925] : Fin 1 → IVec S16 32) a x).toNat < S12288.size a)
theorem k0_idx851_inb : ∀ (v2925 : IVec S16 32) (k0_hw851 : k0_chk851 v2925), ∀ a x, ((![v2925] : Fin 1 → IVec S16 32) a x).toNat < S12288.size a := fun v2925 k0_hw851 => k0_hw851

def k0_chk852 (v2926 : IVec S16 32) : Prop :=
  (∀ a x, ((![v2926] : Fin 1 → IVec S16 32) a x).toNat < S4096.size a)
theorem k0_idx852_inb : ∀ (v2926 : IVec S16 32) (k0_hw852 : k0_chk852 v2926), ∀ a x, ((![v2926] : Fin 1 → IVec S16 32) a x).toNat < S4096.size a := fun v2926 k0_hw852 => k0_hw852

def k0_chk853 (v2930 : IVec S16 32) : Prop :=
  (∀ a x, ((![v2930] : Fin 1 → IVec S16 32) a x).toNat < S12288.size a)
theorem k0_idx853_inb : ∀ (v2930 : IVec S16 32) (k0_hw853 : k0_chk853 v2930), ∀ a x, ((![v2930] : Fin 1 → IVec S16 32) a x).toNat < S12288.size a := fun v2930 k0_hw853 => k0_hw853

def k0_chk854 (v2931 : IVec S16 32) : Prop :=
  (∀ a x, ((![v2931] : Fin 1 → IVec S16 32) a x).toNat < S4096.size a)
theorem k0_idx854_inb : ∀ (v2931 : IVec S16 32) (k0_hw854 : k0_chk854 v2931), ∀ a x, ((![v2931] : Fin 1 → IVec S16 32) a x).toNat < S4096.size a := fun v2931 k0_hw854 => k0_hw854

def k0_chk855 (v2934 : IVec S16 32) : Prop :=
  (∀ a x, ((![v2934] : Fin 1 → IVec S16 32) a x).toNat < S16.size a)
theorem k0_idx855_inb : ∀ (v2934 : IVec S16 32) (k0_hw855 : k0_chk855 v2934), ∀ a x, ((![v2934] : Fin 1 → IVec S16 32) a x).toNat < S16.size a := fun v2934 k0_hw855 => k0_hw855

def k0_chk856 (v2943 : IVec S16 32) : Prop :=
  (∀ a x, ((![v2943] : Fin 1 → IVec S16 32) a x).toNat < S12288.size a)
theorem k0_idx856_inb : ∀ (v2943 : IVec S16 32) (k0_hw856 : k0_chk856 v2943), ∀ a x, ((![v2943] : Fin 1 → IVec S16 32) a x).toNat < S12288.size a := fun v2943 k0_hw856 => k0_hw856

def k0_chk857 (v2944 : IVec S16 32) : Prop :=
  (∀ a x, ((![v2944] : Fin 1 → IVec S16 32) a x).toNat < S4096.size a)
theorem k0_idx857_inb : ∀ (v2944 : IVec S16 32) (k0_hw857 : k0_chk857 v2944), ∀ a x, ((![v2944] : Fin 1 → IVec S16 32) a x).toNat < S4096.size a := fun v2944 k0_hw857 => k0_hw857

def k0_chk858 (v2947 : IVec S16 32) : Prop :=
  (∀ a x, ((![v2947] : Fin 1 → IVec S16 32) a x).toNat < S12288.size a)
theorem k0_idx858_inb : ∀ (v2947 : IVec S16 32) (k0_hw858 : k0_chk858 v2947), ∀ a x, ((![v2947] : Fin 1 → IVec S16 32) a x).toNat < S12288.size a := fun v2947 k0_hw858 => k0_hw858

def k0_chk859 (v2948 : IVec S16 32) : Prop :=
  (∀ a x, ((![v2948] : Fin 1 → IVec S16 32) a x).toNat < S4096.size a)
theorem k0_idx859_inb : ∀ (v2948 : IVec S16 32) (k0_hw859 : k0_chk859 v2948), ∀ a x, ((![v2948] : Fin 1 → IVec S16 32) a x).toNat < S4096.size a := fun v2948 k0_hw859 => k0_hw859

def k0_chk860 (v2952 : IVec S16 32) : Prop :=
  (∀ a x, ((![v2952] : Fin 1 → IVec S16 32) a x).toNat < S12288.size a)
theorem k0_idx860_inb : ∀ (v2952 : IVec S16 32) (k0_hw860 : k0_chk860 v2952), ∀ a x, ((![v2952] : Fin 1 → IVec S16 32) a x).toNat < S12288.size a := fun v2952 k0_hw860 => k0_hw860

def k0_chk861 (v2953 : IVec S16 32) : Prop :=
  (∀ a x, ((![v2953] : Fin 1 → IVec S16 32) a x).toNat < S4096.size a)
theorem k0_idx861_inb : ∀ (v2953 : IVec S16 32) (k0_hw861 : k0_chk861 v2953), ∀ a x, ((![v2953] : Fin 1 → IVec S16 32) a x).toNat < S4096.size a := fun v2953 k0_hw861 => k0_hw861

def k0_chk862 (v2957 : IVec S16 32) : Prop :=
  (∀ a x, ((![v2957] : Fin 1 → IVec S16 32) a x).toNat < S12288.size a)
theorem k0_idx862_inb : ∀ (v2957 : IVec S16 32) (k0_hw862 : k0_chk862 v2957), ∀ a x, ((![v2957] : Fin 1 → IVec S16 32) a x).toNat < S12288.size a := fun v2957 k0_hw862 => k0_hw862

def k0_chk863 (v2958 : IVec S16 32) : Prop :=
  (∀ a x, ((![v2958] : Fin 1 → IVec S16 32) a x).toNat < S4096.size a)
theorem k0_idx863_inb : ∀ (v2958 : IVec S16 32) (k0_hw863 : k0_chk863 v2958), ∀ a x, ((![v2958] : Fin 1 → IVec S16 32) a x).toNat < S4096.size a := fun v2958 k0_hw863 => k0_hw863

def k0_chk864 (v2961 : IVec S16 32) : Prop :=
  (∀ a x, ((![v2961] : Fin 1 → IVec S16 32) a x).toNat < S16.size a)
theorem k0_idx864_inb : ∀ (v2961 : IVec S16 32) (k0_hw864 : k0_chk864 v2961), ∀ a x, ((![v2961] : Fin 1 → IVec S16 32) a x).toNat < S16.size a := fun v2961 k0_hw864 => k0_hw864
def k0_off35 (i : grid0.Coords) : Fin 2 → Nat :=
  let c1_i32_597 : BitVec 32 := 1#32
  let arg1 : BitVec 32 := BitVec.ofNat 32 (i 1).val
  let c256_i32_596 : BitVec 32 := 256#32
  let v2969 : BitVec 32 := Scalar.muli arg1 c256_i32_596
  ![1, v2969.toNat]
def k0_off36 (i : grid0.Coords) : Fin 2 → Nat :=
  let c5_i32_600 : BitVec 32 := 5#32
  let arg1 : BitVec 32 := BitVec.ofNat 32 (i 1).val
  let c256_i32_598 : BitVec 32 := 256#32
  let v2970 : BitVec 32 := Scalar.muli arg1 c256_i32_598
  ![5, v2970.toNat]

def k0_chk865 (v2980 : IVec S16 32) : Prop :=
  (∀ a x, ((![v2980] : Fin 1 → IVec S16 32) a x).toNat < S12288.size a)
theorem k0_idx865_inb : ∀ (v2980 : IVec S16 32) (k0_hw865 : k0_chk865 v2980), ∀ a x, ((![v2980] : Fin 1 → IVec S16 32) a x).toNat < S12288.size a := fun v2980 k0_hw865 => k0_hw865

def k0_chk866 (v2981 : IVec S16 32) : Prop :=
  (∀ a x, ((![v2981] : Fin 1 → IVec S16 32) a x).toNat < S4096.size a)
theorem k0_idx866_inb : ∀ (v2981 : IVec S16 32) (k0_hw866 : k0_chk866 v2981), ∀ a x, ((![v2981] : Fin 1 → IVec S16 32) a x).toNat < S4096.size a := fun v2981 k0_hw866 => k0_hw866

def k0_chk867 (v2984 : IVec S16 32) : Prop :=
  (∀ a x, ((![v2984] : Fin 1 → IVec S16 32) a x).toNat < S12288.size a)
theorem k0_idx867_inb : ∀ (v2984 : IVec S16 32) (k0_hw867 : k0_chk867 v2984), ∀ a x, ((![v2984] : Fin 1 → IVec S16 32) a x).toNat < S12288.size a := fun v2984 k0_hw867 => k0_hw867

def k0_chk868 (v2985 : IVec S16 32) : Prop :=
  (∀ a x, ((![v2985] : Fin 1 → IVec S16 32) a x).toNat < S4096.size a)
theorem k0_idx868_inb : ∀ (v2985 : IVec S16 32) (k0_hw868 : k0_chk868 v2985), ∀ a x, ((![v2985] : Fin 1 → IVec S16 32) a x).toNat < S4096.size a := fun v2985 k0_hw868 => k0_hw868

def k0_chk869 (v2989 : IVec S16 32) : Prop :=
  (∀ a x, ((![v2989] : Fin 1 → IVec S16 32) a x).toNat < S12288.size a)
theorem k0_idx869_inb : ∀ (v2989 : IVec S16 32) (k0_hw869 : k0_chk869 v2989), ∀ a x, ((![v2989] : Fin 1 → IVec S16 32) a x).toNat < S12288.size a := fun v2989 k0_hw869 => k0_hw869

def k0_chk870 (v2990 : IVec S16 32) : Prop :=
  (∀ a x, ((![v2990] : Fin 1 → IVec S16 32) a x).toNat < S4096.size a)
theorem k0_idx870_inb : ∀ (v2990 : IVec S16 32) (k0_hw870 : k0_chk870 v2990), ∀ a x, ((![v2990] : Fin 1 → IVec S16 32) a x).toNat < S4096.size a := fun v2990 k0_hw870 => k0_hw870

def k0_chk871 (v2994 : IVec S16 32) : Prop :=
  (∀ a x, ((![v2994] : Fin 1 → IVec S16 32) a x).toNat < S12288.size a)
theorem k0_idx871_inb : ∀ (v2994 : IVec S16 32) (k0_hw871 : k0_chk871 v2994), ∀ a x, ((![v2994] : Fin 1 → IVec S16 32) a x).toNat < S12288.size a := fun v2994 k0_hw871 => k0_hw871

def k0_chk872 (v2995 : IVec S16 32) : Prop :=
  (∀ a x, ((![v2995] : Fin 1 → IVec S16 32) a x).toNat < S4096.size a)
theorem k0_idx872_inb : ∀ (v2995 : IVec S16 32) (k0_hw872 : k0_chk872 v2995), ∀ a x, ((![v2995] : Fin 1 → IVec S16 32) a x).toNat < S4096.size a := fun v2995 k0_hw872 => k0_hw872

def k0_chk873 (v2998 : IVec S16 32) : Prop :=
  (∀ a x, ((![v2998] : Fin 1 → IVec S16 32) a x).toNat < S16.size a)
theorem k0_idx873_inb : ∀ (v2998 : IVec S16 32) (k0_hw873 : k0_chk873 v2998), ∀ a x, ((![v2998] : Fin 1 → IVec S16 32) a x).toNat < S16.size a := fun v2998 k0_hw873 => k0_hw873

def k0_chk874 (v3007 : IVec S16 32) : Prop :=
  (∀ a x, ((![v3007] : Fin 1 → IVec S16 32) a x).toNat < S12288.size a)
theorem k0_idx874_inb : ∀ (v3007 : IVec S16 32) (k0_hw874 : k0_chk874 v3007), ∀ a x, ((![v3007] : Fin 1 → IVec S16 32) a x).toNat < S12288.size a := fun v3007 k0_hw874 => k0_hw874

def k0_chk875 (v3008 : IVec S16 32) : Prop :=
  (∀ a x, ((![v3008] : Fin 1 → IVec S16 32) a x).toNat < S4096.size a)
theorem k0_idx875_inb : ∀ (v3008 : IVec S16 32) (k0_hw875 : k0_chk875 v3008), ∀ a x, ((![v3008] : Fin 1 → IVec S16 32) a x).toNat < S4096.size a := fun v3008 k0_hw875 => k0_hw875

def k0_chk876 (v3011 : IVec S16 32) : Prop :=
  (∀ a x, ((![v3011] : Fin 1 → IVec S16 32) a x).toNat < S12288.size a)
theorem k0_idx876_inb : ∀ (v3011 : IVec S16 32) (k0_hw876 : k0_chk876 v3011), ∀ a x, ((![v3011] : Fin 1 → IVec S16 32) a x).toNat < S12288.size a := fun v3011 k0_hw876 => k0_hw876

def k0_chk877 (v3012 : IVec S16 32) : Prop :=
  (∀ a x, ((![v3012] : Fin 1 → IVec S16 32) a x).toNat < S4096.size a)
theorem k0_idx877_inb : ∀ (v3012 : IVec S16 32) (k0_hw877 : k0_chk877 v3012), ∀ a x, ((![v3012] : Fin 1 → IVec S16 32) a x).toNat < S4096.size a := fun v3012 k0_hw877 => k0_hw877

def k0_chk878 (v3016 : IVec S16 32) : Prop :=
  (∀ a x, ((![v3016] : Fin 1 → IVec S16 32) a x).toNat < S12288.size a)
theorem k0_idx878_inb : ∀ (v3016 : IVec S16 32) (k0_hw878 : k0_chk878 v3016), ∀ a x, ((![v3016] : Fin 1 → IVec S16 32) a x).toNat < S12288.size a := fun v3016 k0_hw878 => k0_hw878

def k0_chk879 (v3017 : IVec S16 32) : Prop :=
  (∀ a x, ((![v3017] : Fin 1 → IVec S16 32) a x).toNat < S4096.size a)
theorem k0_idx879_inb : ∀ (v3017 : IVec S16 32) (k0_hw879 : k0_chk879 v3017), ∀ a x, ((![v3017] : Fin 1 → IVec S16 32) a x).toNat < S4096.size a := fun v3017 k0_hw879 => k0_hw879

def k0_chk880 (v3021 : IVec S16 32) : Prop :=
  (∀ a x, ((![v3021] : Fin 1 → IVec S16 32) a x).toNat < S12288.size a)
theorem k0_idx880_inb : ∀ (v3021 : IVec S16 32) (k0_hw880 : k0_chk880 v3021), ∀ a x, ((![v3021] : Fin 1 → IVec S16 32) a x).toNat < S12288.size a := fun v3021 k0_hw880 => k0_hw880

def k0_chk881 (v3022 : IVec S16 32) : Prop :=
  (∀ a x, ((![v3022] : Fin 1 → IVec S16 32) a x).toNat < S4096.size a)
theorem k0_idx881_inb : ∀ (v3022 : IVec S16 32) (k0_hw881 : k0_chk881 v3022), ∀ a x, ((![v3022] : Fin 1 → IVec S16 32) a x).toNat < S4096.size a := fun v3022 k0_hw881 => k0_hw881

def k0_chk882 (v3025 : IVec S16 32) : Prop :=
  (∀ a x, ((![v3025] : Fin 1 → IVec S16 32) a x).toNat < S16.size a)
theorem k0_idx882_inb : ∀ (v3025 : IVec S16 32) (k0_hw882 : k0_chk882 v3025), ∀ a x, ((![v3025] : Fin 1 → IVec S16 32) a x).toNat < S16.size a := fun v3025 k0_hw882 => k0_hw882

def k0_chk883 (v3034 : IVec S16 32) : Prop :=
  (∀ a x, ((![v3034] : Fin 1 → IVec S16 32) a x).toNat < S12288.size a)
theorem k0_idx883_inb : ∀ (v3034 : IVec S16 32) (k0_hw883 : k0_chk883 v3034), ∀ a x, ((![v3034] : Fin 1 → IVec S16 32) a x).toNat < S12288.size a := fun v3034 k0_hw883 => k0_hw883

def k0_chk884 (v3035 : IVec S16 32) : Prop :=
  (∀ a x, ((![v3035] : Fin 1 → IVec S16 32) a x).toNat < S4096.size a)
theorem k0_idx884_inb : ∀ (v3035 : IVec S16 32) (k0_hw884 : k0_chk884 v3035), ∀ a x, ((![v3035] : Fin 1 → IVec S16 32) a x).toNat < S4096.size a := fun v3035 k0_hw884 => k0_hw884

def k0_chk885 (v3038 : IVec S16 32) : Prop :=
  (∀ a x, ((![v3038] : Fin 1 → IVec S16 32) a x).toNat < S12288.size a)
theorem k0_idx885_inb : ∀ (v3038 : IVec S16 32) (k0_hw885 : k0_chk885 v3038), ∀ a x, ((![v3038] : Fin 1 → IVec S16 32) a x).toNat < S12288.size a := fun v3038 k0_hw885 => k0_hw885

def k0_chk886 (v3039 : IVec S16 32) : Prop :=
  (∀ a x, ((![v3039] : Fin 1 → IVec S16 32) a x).toNat < S4096.size a)
theorem k0_idx886_inb : ∀ (v3039 : IVec S16 32) (k0_hw886 : k0_chk886 v3039), ∀ a x, ((![v3039] : Fin 1 → IVec S16 32) a x).toNat < S4096.size a := fun v3039 k0_hw886 => k0_hw886

def k0_chk887 (v3043 : IVec S16 32) : Prop :=
  (∀ a x, ((![v3043] : Fin 1 → IVec S16 32) a x).toNat < S12288.size a)
theorem k0_idx887_inb : ∀ (v3043 : IVec S16 32) (k0_hw887 : k0_chk887 v3043), ∀ a x, ((![v3043] : Fin 1 → IVec S16 32) a x).toNat < S12288.size a := fun v3043 k0_hw887 => k0_hw887

def k0_chk888 (v3044 : IVec S16 32) : Prop :=
  (∀ a x, ((![v3044] : Fin 1 → IVec S16 32) a x).toNat < S4096.size a)
theorem k0_idx888_inb : ∀ (v3044 : IVec S16 32) (k0_hw888 : k0_chk888 v3044), ∀ a x, ((![v3044] : Fin 1 → IVec S16 32) a x).toNat < S4096.size a := fun v3044 k0_hw888 => k0_hw888

def k0_chk889 (v3048 : IVec S16 32) : Prop :=
  (∀ a x, ((![v3048] : Fin 1 → IVec S16 32) a x).toNat < S12288.size a)
theorem k0_idx889_inb : ∀ (v3048 : IVec S16 32) (k0_hw889 : k0_chk889 v3048), ∀ a x, ((![v3048] : Fin 1 → IVec S16 32) a x).toNat < S12288.size a := fun v3048 k0_hw889 => k0_hw889

def k0_chk890 (v3049 : IVec S16 32) : Prop :=
  (∀ a x, ((![v3049] : Fin 1 → IVec S16 32) a x).toNat < S4096.size a)
theorem k0_idx890_inb : ∀ (v3049 : IVec S16 32) (k0_hw890 : k0_chk890 v3049), ∀ a x, ((![v3049] : Fin 1 → IVec S16 32) a x).toNat < S4096.size a := fun v3049 k0_hw890 => k0_hw890

def k0_chk891 (v3052 : IVec S16 32) : Prop :=
  (∀ a x, ((![v3052] : Fin 1 → IVec S16 32) a x).toNat < S16.size a)
theorem k0_idx891_inb : ∀ (v3052 : IVec S16 32) (k0_hw891 : k0_chk891 v3052), ∀ a x, ((![v3052] : Fin 1 → IVec S16 32) a x).toNat < S16.size a := fun v3052 k0_hw891 => k0_hw891

def k0_chk892 (v3061 : IVec S16 32) : Prop :=
  (∀ a x, ((![v3061] : Fin 1 → IVec S16 32) a x).toNat < S12288.size a)
theorem k0_idx892_inb : ∀ (v3061 : IVec S16 32) (k0_hw892 : k0_chk892 v3061), ∀ a x, ((![v3061] : Fin 1 → IVec S16 32) a x).toNat < S12288.size a := fun v3061 k0_hw892 => k0_hw892

def k0_chk893 (v3062 : IVec S16 32) : Prop :=
  (∀ a x, ((![v3062] : Fin 1 → IVec S16 32) a x).toNat < S4096.size a)
theorem k0_idx893_inb : ∀ (v3062 : IVec S16 32) (k0_hw893 : k0_chk893 v3062), ∀ a x, ((![v3062] : Fin 1 → IVec S16 32) a x).toNat < S4096.size a := fun v3062 k0_hw893 => k0_hw893

def k0_chk894 (v3065 : IVec S16 32) : Prop :=
  (∀ a x, ((![v3065] : Fin 1 → IVec S16 32) a x).toNat < S12288.size a)
theorem k0_idx894_inb : ∀ (v3065 : IVec S16 32) (k0_hw894 : k0_chk894 v3065), ∀ a x, ((![v3065] : Fin 1 → IVec S16 32) a x).toNat < S12288.size a := fun v3065 k0_hw894 => k0_hw894

def k0_chk895 (v3066 : IVec S16 32) : Prop :=
  (∀ a x, ((![v3066] : Fin 1 → IVec S16 32) a x).toNat < S4096.size a)
theorem k0_idx895_inb : ∀ (v3066 : IVec S16 32) (k0_hw895 : k0_chk895 v3066), ∀ a x, ((![v3066] : Fin 1 → IVec S16 32) a x).toNat < S4096.size a := fun v3066 k0_hw895 => k0_hw895

def k0_chk896 (v3070 : IVec S16 32) : Prop :=
  (∀ a x, ((![v3070] : Fin 1 → IVec S16 32) a x).toNat < S12288.size a)
theorem k0_idx896_inb : ∀ (v3070 : IVec S16 32) (k0_hw896 : k0_chk896 v3070), ∀ a x, ((![v3070] : Fin 1 → IVec S16 32) a x).toNat < S12288.size a := fun v3070 k0_hw896 => k0_hw896

def k0_chk897 (v3071 : IVec S16 32) : Prop :=
  (∀ a x, ((![v3071] : Fin 1 → IVec S16 32) a x).toNat < S4096.size a)
theorem k0_idx897_inb : ∀ (v3071 : IVec S16 32) (k0_hw897 : k0_chk897 v3071), ∀ a x, ((![v3071] : Fin 1 → IVec S16 32) a x).toNat < S4096.size a := fun v3071 k0_hw897 => k0_hw897

def k0_chk898 (v3075 : IVec S16 32) : Prop :=
  (∀ a x, ((![v3075] : Fin 1 → IVec S16 32) a x).toNat < S12288.size a)
theorem k0_idx898_inb : ∀ (v3075 : IVec S16 32) (k0_hw898 : k0_chk898 v3075), ∀ a x, ((![v3075] : Fin 1 → IVec S16 32) a x).toNat < S12288.size a := fun v3075 k0_hw898 => k0_hw898

def k0_chk899 (v3076 : IVec S16 32) : Prop :=
  (∀ a x, ((![v3076] : Fin 1 → IVec S16 32) a x).toNat < S4096.size a)
theorem k0_idx899_inb : ∀ (v3076 : IVec S16 32) (k0_hw899 : k0_chk899 v3076), ∀ a x, ((![v3076] : Fin 1 → IVec S16 32) a x).toNat < S4096.size a := fun v3076 k0_hw899 => k0_hw899

def k0_chk900 (v3079 : IVec S16 32) : Prop :=
  (∀ a x, ((![v3079] : Fin 1 → IVec S16 32) a x).toNat < S16.size a)
theorem k0_idx900_inb : ∀ (v3079 : IVec S16 32) (k0_hw900 : k0_chk900 v3079), ∀ a x, ((![v3079] : Fin 1 → IVec S16 32) a x).toNat < S16.size a := fun v3079 k0_hw900 => k0_hw900

def k0_chk901 (v3088 : IVec S16 32) : Prop :=
  (∀ a x, ((![v3088] : Fin 1 → IVec S16 32) a x).toNat < S12288.size a)
theorem k0_idx901_inb : ∀ (v3088 : IVec S16 32) (k0_hw901 : k0_chk901 v3088), ∀ a x, ((![v3088] : Fin 1 → IVec S16 32) a x).toNat < S12288.size a := fun v3088 k0_hw901 => k0_hw901

def k0_chk902 (v3089 : IVec S16 32) : Prop :=
  (∀ a x, ((![v3089] : Fin 1 → IVec S16 32) a x).toNat < S4096.size a)
theorem k0_idx902_inb : ∀ (v3089 : IVec S16 32) (k0_hw902 : k0_chk902 v3089), ∀ a x, ((![v3089] : Fin 1 → IVec S16 32) a x).toNat < S4096.size a := fun v3089 k0_hw902 => k0_hw902

def k0_chk903 (v3092 : IVec S16 32) : Prop :=
  (∀ a x, ((![v3092] : Fin 1 → IVec S16 32) a x).toNat < S12288.size a)
theorem k0_idx903_inb : ∀ (v3092 : IVec S16 32) (k0_hw903 : k0_chk903 v3092), ∀ a x, ((![v3092] : Fin 1 → IVec S16 32) a x).toNat < S12288.size a := fun v3092 k0_hw903 => k0_hw903

def k0_chk904 (v3093 : IVec S16 32) : Prop :=
  (∀ a x, ((![v3093] : Fin 1 → IVec S16 32) a x).toNat < S4096.size a)
theorem k0_idx904_inb : ∀ (v3093 : IVec S16 32) (k0_hw904 : k0_chk904 v3093), ∀ a x, ((![v3093] : Fin 1 → IVec S16 32) a x).toNat < S4096.size a := fun v3093 k0_hw904 => k0_hw904

def k0_chk905 (v3097 : IVec S16 32) : Prop :=
  (∀ a x, ((![v3097] : Fin 1 → IVec S16 32) a x).toNat < S12288.size a)
theorem k0_idx905_inb : ∀ (v3097 : IVec S16 32) (k0_hw905 : k0_chk905 v3097), ∀ a x, ((![v3097] : Fin 1 → IVec S16 32) a x).toNat < S12288.size a := fun v3097 k0_hw905 => k0_hw905

def k0_chk906 (v3098 : IVec S16 32) : Prop :=
  (∀ a x, ((![v3098] : Fin 1 → IVec S16 32) a x).toNat < S4096.size a)
theorem k0_idx906_inb : ∀ (v3098 : IVec S16 32) (k0_hw906 : k0_chk906 v3098), ∀ a x, ((![v3098] : Fin 1 → IVec S16 32) a x).toNat < S4096.size a := fun v3098 k0_hw906 => k0_hw906

def k0_chk907 (v3102 : IVec S16 32) : Prop :=
  (∀ a x, ((![v3102] : Fin 1 → IVec S16 32) a x).toNat < S12288.size a)
theorem k0_idx907_inb : ∀ (v3102 : IVec S16 32) (k0_hw907 : k0_chk907 v3102), ∀ a x, ((![v3102] : Fin 1 → IVec S16 32) a x).toNat < S12288.size a := fun v3102 k0_hw907 => k0_hw907

def k0_chk908 (v3103 : IVec S16 32) : Prop :=
  (∀ a x, ((![v3103] : Fin 1 → IVec S16 32) a x).toNat < S4096.size a)
theorem k0_idx908_inb : ∀ (v3103 : IVec S16 32) (k0_hw908 : k0_chk908 v3103), ∀ a x, ((![v3103] : Fin 1 → IVec S16 32) a x).toNat < S4096.size a := fun v3103 k0_hw908 => k0_hw908

def k0_chk909 (v3106 : IVec S16 32) : Prop :=
  (∀ a x, ((![v3106] : Fin 1 → IVec S16 32) a x).toNat < S16.size a)
theorem k0_idx909_inb : ∀ (v3106 : IVec S16 32) (k0_hw909 : k0_chk909 v3106), ∀ a x, ((![v3106] : Fin 1 → IVec S16 32) a x).toNat < S16.size a := fun v3106 k0_hw909 => k0_hw909

def k0_chk910 (v3115 : IVec S16 32) : Prop :=
  (∀ a x, ((![v3115] : Fin 1 → IVec S16 32) a x).toNat < S12288.size a)
theorem k0_idx910_inb : ∀ (v3115 : IVec S16 32) (k0_hw910 : k0_chk910 v3115), ∀ a x, ((![v3115] : Fin 1 → IVec S16 32) a x).toNat < S12288.size a := fun v3115 k0_hw910 => k0_hw910

def k0_chk911 (v3116 : IVec S16 32) : Prop :=
  (∀ a x, ((![v3116] : Fin 1 → IVec S16 32) a x).toNat < S4096.size a)
theorem k0_idx911_inb : ∀ (v3116 : IVec S16 32) (k0_hw911 : k0_chk911 v3116), ∀ a x, ((![v3116] : Fin 1 → IVec S16 32) a x).toNat < S4096.size a := fun v3116 k0_hw911 => k0_hw911

def k0_chk912 (v3119 : IVec S16 32) : Prop :=
  (∀ a x, ((![v3119] : Fin 1 → IVec S16 32) a x).toNat < S12288.size a)
theorem k0_idx912_inb : ∀ (v3119 : IVec S16 32) (k0_hw912 : k0_chk912 v3119), ∀ a x, ((![v3119] : Fin 1 → IVec S16 32) a x).toNat < S12288.size a := fun v3119 k0_hw912 => k0_hw912

def k0_chk913 (v3120 : IVec S16 32) : Prop :=
  (∀ a x, ((![v3120] : Fin 1 → IVec S16 32) a x).toNat < S4096.size a)
theorem k0_idx913_inb : ∀ (v3120 : IVec S16 32) (k0_hw913 : k0_chk913 v3120), ∀ a x, ((![v3120] : Fin 1 → IVec S16 32) a x).toNat < S4096.size a := fun v3120 k0_hw913 => k0_hw913

def k0_chk914 (v3124 : IVec S16 32) : Prop :=
  (∀ a x, ((![v3124] : Fin 1 → IVec S16 32) a x).toNat < S12288.size a)
theorem k0_idx914_inb : ∀ (v3124 : IVec S16 32) (k0_hw914 : k0_chk914 v3124), ∀ a x, ((![v3124] : Fin 1 → IVec S16 32) a x).toNat < S12288.size a := fun v3124 k0_hw914 => k0_hw914

def k0_chk915 (v3125 : IVec S16 32) : Prop :=
  (∀ a x, ((![v3125] : Fin 1 → IVec S16 32) a x).toNat < S4096.size a)
theorem k0_idx915_inb : ∀ (v3125 : IVec S16 32) (k0_hw915 : k0_chk915 v3125), ∀ a x, ((![v3125] : Fin 1 → IVec S16 32) a x).toNat < S4096.size a := fun v3125 k0_hw915 => k0_hw915

def k0_chk916 (v3129 : IVec S16 32) : Prop :=
  (∀ a x, ((![v3129] : Fin 1 → IVec S16 32) a x).toNat < S12288.size a)
theorem k0_idx916_inb : ∀ (v3129 : IVec S16 32) (k0_hw916 : k0_chk916 v3129), ∀ a x, ((![v3129] : Fin 1 → IVec S16 32) a x).toNat < S12288.size a := fun v3129 k0_hw916 => k0_hw916

def k0_chk917 (v3130 : IVec S16 32) : Prop :=
  (∀ a x, ((![v3130] : Fin 1 → IVec S16 32) a x).toNat < S4096.size a)
theorem k0_idx917_inb : ∀ (v3130 : IVec S16 32) (k0_hw917 : k0_chk917 v3130), ∀ a x, ((![v3130] : Fin 1 → IVec S16 32) a x).toNat < S4096.size a := fun v3130 k0_hw917 => k0_hw917

def k0_chk918 (v3133 : IVec S16 32) : Prop :=
  (∀ a x, ((![v3133] : Fin 1 → IVec S16 32) a x).toNat < S16.size a)
theorem k0_idx918_inb : ∀ (v3133 : IVec S16 32) (k0_hw918 : k0_chk918 v3133), ∀ a x, ((![v3133] : Fin 1 → IVec S16 32) a x).toNat < S16.size a := fun v3133 k0_hw918 => k0_hw918

def k0_chk919 (v3142 : IVec S16 32) : Prop :=
  (∀ a x, ((![v3142] : Fin 1 → IVec S16 32) a x).toNat < S12288.size a)
theorem k0_idx919_inb : ∀ (v3142 : IVec S16 32) (k0_hw919 : k0_chk919 v3142), ∀ a x, ((![v3142] : Fin 1 → IVec S16 32) a x).toNat < S12288.size a := fun v3142 k0_hw919 => k0_hw919

def k0_chk920 (v3143 : IVec S16 32) : Prop :=
  (∀ a x, ((![v3143] : Fin 1 → IVec S16 32) a x).toNat < S4096.size a)
theorem k0_idx920_inb : ∀ (v3143 : IVec S16 32) (k0_hw920 : k0_chk920 v3143), ∀ a x, ((![v3143] : Fin 1 → IVec S16 32) a x).toNat < S4096.size a := fun v3143 k0_hw920 => k0_hw920

def k0_chk921 (v3146 : IVec S16 32) : Prop :=
  (∀ a x, ((![v3146] : Fin 1 → IVec S16 32) a x).toNat < S12288.size a)
theorem k0_idx921_inb : ∀ (v3146 : IVec S16 32) (k0_hw921 : k0_chk921 v3146), ∀ a x, ((![v3146] : Fin 1 → IVec S16 32) a x).toNat < S12288.size a := fun v3146 k0_hw921 => k0_hw921

def k0_chk922 (v3147 : IVec S16 32) : Prop :=
  (∀ a x, ((![v3147] : Fin 1 → IVec S16 32) a x).toNat < S4096.size a)
theorem k0_idx922_inb : ∀ (v3147 : IVec S16 32) (k0_hw922 : k0_chk922 v3147), ∀ a x, ((![v3147] : Fin 1 → IVec S16 32) a x).toNat < S4096.size a := fun v3147 k0_hw922 => k0_hw922

def k0_chk923 (v3151 : IVec S16 32) : Prop :=
  (∀ a x, ((![v3151] : Fin 1 → IVec S16 32) a x).toNat < S12288.size a)
theorem k0_idx923_inb : ∀ (v3151 : IVec S16 32) (k0_hw923 : k0_chk923 v3151), ∀ a x, ((![v3151] : Fin 1 → IVec S16 32) a x).toNat < S12288.size a := fun v3151 k0_hw923 => k0_hw923

def k0_chk924 (v3152 : IVec S16 32) : Prop :=
  (∀ a x, ((![v3152] : Fin 1 → IVec S16 32) a x).toNat < S4096.size a)
theorem k0_idx924_inb : ∀ (v3152 : IVec S16 32) (k0_hw924 : k0_chk924 v3152), ∀ a x, ((![v3152] : Fin 1 → IVec S16 32) a x).toNat < S4096.size a := fun v3152 k0_hw924 => k0_hw924

def k0_chk925 (v3156 : IVec S16 32) : Prop :=
  (∀ a x, ((![v3156] : Fin 1 → IVec S16 32) a x).toNat < S12288.size a)
theorem k0_idx925_inb : ∀ (v3156 : IVec S16 32) (k0_hw925 : k0_chk925 v3156), ∀ a x, ((![v3156] : Fin 1 → IVec S16 32) a x).toNat < S12288.size a := fun v3156 k0_hw925 => k0_hw925

def k0_chk926 (v3157 : IVec S16 32) : Prop :=
  (∀ a x, ((![v3157] : Fin 1 → IVec S16 32) a x).toNat < S4096.size a)
theorem k0_idx926_inb : ∀ (v3157 : IVec S16 32) (k0_hw926 : k0_chk926 v3157), ∀ a x, ((![v3157] : Fin 1 → IVec S16 32) a x).toNat < S4096.size a := fun v3157 k0_hw926 => k0_hw926

def k0_chk927 (v3160 : IVec S16 32) : Prop :=
  (∀ a x, ((![v3160] : Fin 1 → IVec S16 32) a x).toNat < S16.size a)
theorem k0_idx927_inb : ∀ (v3160 : IVec S16 32) (k0_hw927 : k0_chk927 v3160), ∀ a x, ((![v3160] : Fin 1 → IVec S16 32) a x).toNat < S16.size a := fun v3160 k0_hw927 => k0_hw927

def k0_chk928 (v3169 : IVec S16 32) : Prop :=
  (∀ a x, ((![v3169] : Fin 1 → IVec S16 32) a x).toNat < S12288.size a)
theorem k0_idx928_inb : ∀ (v3169 : IVec S16 32) (k0_hw928 : k0_chk928 v3169), ∀ a x, ((![v3169] : Fin 1 → IVec S16 32) a x).toNat < S12288.size a := fun v3169 k0_hw928 => k0_hw928

def k0_chk929 (v3170 : IVec S16 32) : Prop :=
  (∀ a x, ((![v3170] : Fin 1 → IVec S16 32) a x).toNat < S4096.size a)
theorem k0_idx929_inb : ∀ (v3170 : IVec S16 32) (k0_hw929 : k0_chk929 v3170), ∀ a x, ((![v3170] : Fin 1 → IVec S16 32) a x).toNat < S4096.size a := fun v3170 k0_hw929 => k0_hw929

def k0_chk930 (v3173 : IVec S16 32) : Prop :=
  (∀ a x, ((![v3173] : Fin 1 → IVec S16 32) a x).toNat < S12288.size a)
theorem k0_idx930_inb : ∀ (v3173 : IVec S16 32) (k0_hw930 : k0_chk930 v3173), ∀ a x, ((![v3173] : Fin 1 → IVec S16 32) a x).toNat < S12288.size a := fun v3173 k0_hw930 => k0_hw930

def k0_chk931 (v3174 : IVec S16 32) : Prop :=
  (∀ a x, ((![v3174] : Fin 1 → IVec S16 32) a x).toNat < S4096.size a)
theorem k0_idx931_inb : ∀ (v3174 : IVec S16 32) (k0_hw931 : k0_chk931 v3174), ∀ a x, ((![v3174] : Fin 1 → IVec S16 32) a x).toNat < S4096.size a := fun v3174 k0_hw931 => k0_hw931

def k0_chk932 (v3178 : IVec S16 32) : Prop :=
  (∀ a x, ((![v3178] : Fin 1 → IVec S16 32) a x).toNat < S12288.size a)
theorem k0_idx932_inb : ∀ (v3178 : IVec S16 32) (k0_hw932 : k0_chk932 v3178), ∀ a x, ((![v3178] : Fin 1 → IVec S16 32) a x).toNat < S12288.size a := fun v3178 k0_hw932 => k0_hw932

def k0_chk933 (v3179 : IVec S16 32) : Prop :=
  (∀ a x, ((![v3179] : Fin 1 → IVec S16 32) a x).toNat < S4096.size a)
theorem k0_idx933_inb : ∀ (v3179 : IVec S16 32) (k0_hw933 : k0_chk933 v3179), ∀ a x, ((![v3179] : Fin 1 → IVec S16 32) a x).toNat < S4096.size a := fun v3179 k0_hw933 => k0_hw933

def k0_chk934 (v3183 : IVec S16 32) : Prop :=
  (∀ a x, ((![v3183] : Fin 1 → IVec S16 32) a x).toNat < S12288.size a)
theorem k0_idx934_inb : ∀ (v3183 : IVec S16 32) (k0_hw934 : k0_chk934 v3183), ∀ a x, ((![v3183] : Fin 1 → IVec S16 32) a x).toNat < S12288.size a := fun v3183 k0_hw934 => k0_hw934

def k0_chk935 (v3184 : IVec S16 32) : Prop :=
  (∀ a x, ((![v3184] : Fin 1 → IVec S16 32) a x).toNat < S4096.size a)
theorem k0_idx935_inb : ∀ (v3184 : IVec S16 32) (k0_hw935 : k0_chk935 v3184), ∀ a x, ((![v3184] : Fin 1 → IVec S16 32) a x).toNat < S4096.size a := fun v3184 k0_hw935 => k0_hw935

def k0_chk936 (v3187 : IVec S16 32) : Prop :=
  (∀ a x, ((![v3187] : Fin 1 → IVec S16 32) a x).toNat < S16.size a)
theorem k0_idx936_inb : ∀ (v3187 : IVec S16 32) (k0_hw936 : k0_chk936 v3187), ∀ a x, ((![v3187] : Fin 1 → IVec S16 32) a x).toNat < S16.size a := fun v3187 k0_hw936 => k0_hw936

def k0_chk937 (v3196 : IVec S16 32) : Prop :=
  (∀ a x, ((![v3196] : Fin 1 → IVec S16 32) a x).toNat < S12288.size a)
theorem k0_idx937_inb : ∀ (v3196 : IVec S16 32) (k0_hw937 : k0_chk937 v3196), ∀ a x, ((![v3196] : Fin 1 → IVec S16 32) a x).toNat < S12288.size a := fun v3196 k0_hw937 => k0_hw937

def k0_chk938 (v3197 : IVec S16 32) : Prop :=
  (∀ a x, ((![v3197] : Fin 1 → IVec S16 32) a x).toNat < S4096.size a)
theorem k0_idx938_inb : ∀ (v3197 : IVec S16 32) (k0_hw938 : k0_chk938 v3197), ∀ a x, ((![v3197] : Fin 1 → IVec S16 32) a x).toNat < S4096.size a := fun v3197 k0_hw938 => k0_hw938

def k0_chk939 (v3200 : IVec S16 32) : Prop :=
  (∀ a x, ((![v3200] : Fin 1 → IVec S16 32) a x).toNat < S12288.size a)
theorem k0_idx939_inb : ∀ (v3200 : IVec S16 32) (k0_hw939 : k0_chk939 v3200), ∀ a x, ((![v3200] : Fin 1 → IVec S16 32) a x).toNat < S12288.size a := fun v3200 k0_hw939 => k0_hw939

def k0_chk940 (v3201 : IVec S16 32) : Prop :=
  (∀ a x, ((![v3201] : Fin 1 → IVec S16 32) a x).toNat < S4096.size a)
theorem k0_idx940_inb : ∀ (v3201 : IVec S16 32) (k0_hw940 : k0_chk940 v3201), ∀ a x, ((![v3201] : Fin 1 → IVec S16 32) a x).toNat < S4096.size a := fun v3201 k0_hw940 => k0_hw940

def k0_chk941 (v3205 : IVec S16 32) : Prop :=
  (∀ a x, ((![v3205] : Fin 1 → IVec S16 32) a x).toNat < S12288.size a)
theorem k0_idx941_inb : ∀ (v3205 : IVec S16 32) (k0_hw941 : k0_chk941 v3205), ∀ a x, ((![v3205] : Fin 1 → IVec S16 32) a x).toNat < S12288.size a := fun v3205 k0_hw941 => k0_hw941

def k0_chk942 (v3206 : IVec S16 32) : Prop :=
  (∀ a x, ((![v3206] : Fin 1 → IVec S16 32) a x).toNat < S4096.size a)
theorem k0_idx942_inb : ∀ (v3206 : IVec S16 32) (k0_hw942 : k0_chk942 v3206), ∀ a x, ((![v3206] : Fin 1 → IVec S16 32) a x).toNat < S4096.size a := fun v3206 k0_hw942 => k0_hw942

def k0_chk943 (v3210 : IVec S16 32) : Prop :=
  (∀ a x, ((![v3210] : Fin 1 → IVec S16 32) a x).toNat < S12288.size a)
theorem k0_idx943_inb : ∀ (v3210 : IVec S16 32) (k0_hw943 : k0_chk943 v3210), ∀ a x, ((![v3210] : Fin 1 → IVec S16 32) a x).toNat < S12288.size a := fun v3210 k0_hw943 => k0_hw943

def k0_chk944 (v3211 : IVec S16 32) : Prop :=
  (∀ a x, ((![v3211] : Fin 1 → IVec S16 32) a x).toNat < S4096.size a)
theorem k0_idx944_inb : ∀ (v3211 : IVec S16 32) (k0_hw944 : k0_chk944 v3211), ∀ a x, ((![v3211] : Fin 1 → IVec S16 32) a x).toNat < S4096.size a := fun v3211 k0_hw944 => k0_hw944

def k0_chk945 (v3214 : IVec S16 32) : Prop :=
  (∀ a x, ((![v3214] : Fin 1 → IVec S16 32) a x).toNat < S16.size a)
theorem k0_idx945_inb : ∀ (v3214 : IVec S16 32) (k0_hw945 : k0_chk945 v3214), ∀ a x, ((![v3214] : Fin 1 → IVec S16 32) a x).toNat < S16.size a := fun v3214 k0_hw945 => k0_hw945

def k0_chk946 (v3223 : IVec S16 32) : Prop :=
  (∀ a x, ((![v3223] : Fin 1 → IVec S16 32) a x).toNat < S12288.size a)
theorem k0_idx946_inb : ∀ (v3223 : IVec S16 32) (k0_hw946 : k0_chk946 v3223), ∀ a x, ((![v3223] : Fin 1 → IVec S16 32) a x).toNat < S12288.size a := fun v3223 k0_hw946 => k0_hw946

def k0_chk947 (v3224 : IVec S16 32) : Prop :=
  (∀ a x, ((![v3224] : Fin 1 → IVec S16 32) a x).toNat < S4096.size a)
theorem k0_idx947_inb : ∀ (v3224 : IVec S16 32) (k0_hw947 : k0_chk947 v3224), ∀ a x, ((![v3224] : Fin 1 → IVec S16 32) a x).toNat < S4096.size a := fun v3224 k0_hw947 => k0_hw947

def k0_chk948 (v3227 : IVec S16 32) : Prop :=
  (∀ a x, ((![v3227] : Fin 1 → IVec S16 32) a x).toNat < S12288.size a)
theorem k0_idx948_inb : ∀ (v3227 : IVec S16 32) (k0_hw948 : k0_chk948 v3227), ∀ a x, ((![v3227] : Fin 1 → IVec S16 32) a x).toNat < S12288.size a := fun v3227 k0_hw948 => k0_hw948

def k0_chk949 (v3228 : IVec S16 32) : Prop :=
  (∀ a x, ((![v3228] : Fin 1 → IVec S16 32) a x).toNat < S4096.size a)
theorem k0_idx949_inb : ∀ (v3228 : IVec S16 32) (k0_hw949 : k0_chk949 v3228), ∀ a x, ((![v3228] : Fin 1 → IVec S16 32) a x).toNat < S4096.size a := fun v3228 k0_hw949 => k0_hw949

def k0_chk950 (v3232 : IVec S16 32) : Prop :=
  (∀ a x, ((![v3232] : Fin 1 → IVec S16 32) a x).toNat < S12288.size a)
theorem k0_idx950_inb : ∀ (v3232 : IVec S16 32) (k0_hw950 : k0_chk950 v3232), ∀ a x, ((![v3232] : Fin 1 → IVec S16 32) a x).toNat < S12288.size a := fun v3232 k0_hw950 => k0_hw950

def k0_chk951 (v3233 : IVec S16 32) : Prop :=
  (∀ a x, ((![v3233] : Fin 1 → IVec S16 32) a x).toNat < S4096.size a)
theorem k0_idx951_inb : ∀ (v3233 : IVec S16 32) (k0_hw951 : k0_chk951 v3233), ∀ a x, ((![v3233] : Fin 1 → IVec S16 32) a x).toNat < S4096.size a := fun v3233 k0_hw951 => k0_hw951

def k0_chk952 (v3237 : IVec S16 32) : Prop :=
  (∀ a x, ((![v3237] : Fin 1 → IVec S16 32) a x).toNat < S12288.size a)
theorem k0_idx952_inb : ∀ (v3237 : IVec S16 32) (k0_hw952 : k0_chk952 v3237), ∀ a x, ((![v3237] : Fin 1 → IVec S16 32) a x).toNat < S12288.size a := fun v3237 k0_hw952 => k0_hw952

def k0_chk953 (v3238 : IVec S16 32) : Prop :=
  (∀ a x, ((![v3238] : Fin 1 → IVec S16 32) a x).toNat < S4096.size a)
theorem k0_idx953_inb : ∀ (v3238 : IVec S16 32) (k0_hw953 : k0_chk953 v3238), ∀ a x, ((![v3238] : Fin 1 → IVec S16 32) a x).toNat < S4096.size a := fun v3238 k0_hw953 => k0_hw953

def k0_chk954 (v3241 : IVec S16 32) : Prop :=
  (∀ a x, ((![v3241] : Fin 1 → IVec S16 32) a x).toNat < S16.size a)
theorem k0_idx954_inb : ∀ (v3241 : IVec S16 32) (k0_hw954 : k0_chk954 v3241), ∀ a x, ((![v3241] : Fin 1 → IVec S16 32) a x).toNat < S16.size a := fun v3241 k0_hw954 => k0_hw954

def k0_chk955 (v3250 : IVec S16 32) : Prop :=
  (∀ a x, ((![v3250] : Fin 1 → IVec S16 32) a x).toNat < S12288.size a)
theorem k0_idx955_inb : ∀ (v3250 : IVec S16 32) (k0_hw955 : k0_chk955 v3250), ∀ a x, ((![v3250] : Fin 1 → IVec S16 32) a x).toNat < S12288.size a := fun v3250 k0_hw955 => k0_hw955

def k0_chk956 (v3251 : IVec S16 32) : Prop :=
  (∀ a x, ((![v3251] : Fin 1 → IVec S16 32) a x).toNat < S4096.size a)
theorem k0_idx956_inb : ∀ (v3251 : IVec S16 32) (k0_hw956 : k0_chk956 v3251), ∀ a x, ((![v3251] : Fin 1 → IVec S16 32) a x).toNat < S4096.size a := fun v3251 k0_hw956 => k0_hw956

def k0_chk957 (v3254 : IVec S16 32) : Prop :=
  (∀ a x, ((![v3254] : Fin 1 → IVec S16 32) a x).toNat < S12288.size a)
theorem k0_idx957_inb : ∀ (v3254 : IVec S16 32) (k0_hw957 : k0_chk957 v3254), ∀ a x, ((![v3254] : Fin 1 → IVec S16 32) a x).toNat < S12288.size a := fun v3254 k0_hw957 => k0_hw957

def k0_chk958 (v3255 : IVec S16 32) : Prop :=
  (∀ a x, ((![v3255] : Fin 1 → IVec S16 32) a x).toNat < S4096.size a)
theorem k0_idx958_inb : ∀ (v3255 : IVec S16 32) (k0_hw958 : k0_chk958 v3255), ∀ a x, ((![v3255] : Fin 1 → IVec S16 32) a x).toNat < S4096.size a := fun v3255 k0_hw958 => k0_hw958

def k0_chk959 (v3259 : IVec S16 32) : Prop :=
  (∀ a x, ((![v3259] : Fin 1 → IVec S16 32) a x).toNat < S12288.size a)
theorem k0_idx959_inb : ∀ (v3259 : IVec S16 32) (k0_hw959 : k0_chk959 v3259), ∀ a x, ((![v3259] : Fin 1 → IVec S16 32) a x).toNat < S12288.size a := fun v3259 k0_hw959 => k0_hw959

def k0_chk960 (v3260 : IVec S16 32) : Prop :=
  (∀ a x, ((![v3260] : Fin 1 → IVec S16 32) a x).toNat < S4096.size a)
theorem k0_idx960_inb : ∀ (v3260 : IVec S16 32) (k0_hw960 : k0_chk960 v3260), ∀ a x, ((![v3260] : Fin 1 → IVec S16 32) a x).toNat < S4096.size a := fun v3260 k0_hw960 => k0_hw960

def k0_chk961 (v3264 : IVec S16 32) : Prop :=
  (∀ a x, ((![v3264] : Fin 1 → IVec S16 32) a x).toNat < S12288.size a)
theorem k0_idx961_inb : ∀ (v3264 : IVec S16 32) (k0_hw961 : k0_chk961 v3264), ∀ a x, ((![v3264] : Fin 1 → IVec S16 32) a x).toNat < S12288.size a := fun v3264 k0_hw961 => k0_hw961

def k0_chk962 (v3265 : IVec S16 32) : Prop :=
  (∀ a x, ((![v3265] : Fin 1 → IVec S16 32) a x).toNat < S4096.size a)
theorem k0_idx962_inb : ∀ (v3265 : IVec S16 32) (k0_hw962 : k0_chk962 v3265), ∀ a x, ((![v3265] : Fin 1 → IVec S16 32) a x).toNat < S4096.size a := fun v3265 k0_hw962 => k0_hw962

def k0_chk963 (v3268 : IVec S16 32) : Prop :=
  (∀ a x, ((![v3268] : Fin 1 → IVec S16 32) a x).toNat < S16.size a)
theorem k0_idx963_inb : ∀ (v3268 : IVec S16 32) (k0_hw963 : k0_chk963 v3268), ∀ a x, ((![v3268] : Fin 1 → IVec S16 32) a x).toNat < S16.size a := fun v3268 k0_hw963 => k0_hw963

def k0_chk964 (v3277 : IVec S16 32) : Prop :=
  (∀ a x, ((![v3277] : Fin 1 → IVec S16 32) a x).toNat < S12288.size a)
theorem k0_idx964_inb : ∀ (v3277 : IVec S16 32) (k0_hw964 : k0_chk964 v3277), ∀ a x, ((![v3277] : Fin 1 → IVec S16 32) a x).toNat < S12288.size a := fun v3277 k0_hw964 => k0_hw964

def k0_chk965 (v3278 : IVec S16 32) : Prop :=
  (∀ a x, ((![v3278] : Fin 1 → IVec S16 32) a x).toNat < S4096.size a)
theorem k0_idx965_inb : ∀ (v3278 : IVec S16 32) (k0_hw965 : k0_chk965 v3278), ∀ a x, ((![v3278] : Fin 1 → IVec S16 32) a x).toNat < S4096.size a := fun v3278 k0_hw965 => k0_hw965

def k0_chk966 (v3281 : IVec S16 32) : Prop :=
  (∀ a x, ((![v3281] : Fin 1 → IVec S16 32) a x).toNat < S12288.size a)
theorem k0_idx966_inb : ∀ (v3281 : IVec S16 32) (k0_hw966 : k0_chk966 v3281), ∀ a x, ((![v3281] : Fin 1 → IVec S16 32) a x).toNat < S12288.size a := fun v3281 k0_hw966 => k0_hw966

def k0_chk967 (v3282 : IVec S16 32) : Prop :=
  (∀ a x, ((![v3282] : Fin 1 → IVec S16 32) a x).toNat < S4096.size a)
theorem k0_idx967_inb : ∀ (v3282 : IVec S16 32) (k0_hw967 : k0_chk967 v3282), ∀ a x, ((![v3282] : Fin 1 → IVec S16 32) a x).toNat < S4096.size a := fun v3282 k0_hw967 => k0_hw967

def k0_chk968 (v3286 : IVec S16 32) : Prop :=
  (∀ a x, ((![v3286] : Fin 1 → IVec S16 32) a x).toNat < S12288.size a)
theorem k0_idx968_inb : ∀ (v3286 : IVec S16 32) (k0_hw968 : k0_chk968 v3286), ∀ a x, ((![v3286] : Fin 1 → IVec S16 32) a x).toNat < S12288.size a := fun v3286 k0_hw968 => k0_hw968

def k0_chk969 (v3287 : IVec S16 32) : Prop :=
  (∀ a x, ((![v3287] : Fin 1 → IVec S16 32) a x).toNat < S4096.size a)
theorem k0_idx969_inb : ∀ (v3287 : IVec S16 32) (k0_hw969 : k0_chk969 v3287), ∀ a x, ((![v3287] : Fin 1 → IVec S16 32) a x).toNat < S4096.size a := fun v3287 k0_hw969 => k0_hw969

def k0_chk970 (v3291 : IVec S16 32) : Prop :=
  (∀ a x, ((![v3291] : Fin 1 → IVec S16 32) a x).toNat < S12288.size a)
theorem k0_idx970_inb : ∀ (v3291 : IVec S16 32) (k0_hw970 : k0_chk970 v3291), ∀ a x, ((![v3291] : Fin 1 → IVec S16 32) a x).toNat < S12288.size a := fun v3291 k0_hw970 => k0_hw970

def k0_chk971 (v3292 : IVec S16 32) : Prop :=
  (∀ a x, ((![v3292] : Fin 1 → IVec S16 32) a x).toNat < S4096.size a)
theorem k0_idx971_inb : ∀ (v3292 : IVec S16 32) (k0_hw971 : k0_chk971 v3292), ∀ a x, ((![v3292] : Fin 1 → IVec S16 32) a x).toNat < S4096.size a := fun v3292 k0_hw971 => k0_hw971

def k0_chk972 (v3295 : IVec S16 32) : Prop :=
  (∀ a x, ((![v3295] : Fin 1 → IVec S16 32) a x).toNat < S16.size a)
theorem k0_idx972_inb : ∀ (v3295 : IVec S16 32) (k0_hw972 : k0_chk972 v3295), ∀ a x, ((![v3295] : Fin 1 → IVec S16 32) a x).toNat < S16.size a := fun v3295 k0_hw972 => k0_hw972

def k0_chk973 (v3304 : IVec S16 32) : Prop :=
  (∀ a x, ((![v3304] : Fin 1 → IVec S16 32) a x).toNat < S12288.size a)
theorem k0_idx973_inb : ∀ (v3304 : IVec S16 32) (k0_hw973 : k0_chk973 v3304), ∀ a x, ((![v3304] : Fin 1 → IVec S16 32) a x).toNat < S12288.size a := fun v3304 k0_hw973 => k0_hw973

def k0_chk974 (v3305 : IVec S16 32) : Prop :=
  (∀ a x, ((![v3305] : Fin 1 → IVec S16 32) a x).toNat < S4096.size a)
theorem k0_idx974_inb : ∀ (v3305 : IVec S16 32) (k0_hw974 : k0_chk974 v3305), ∀ a x, ((![v3305] : Fin 1 → IVec S16 32) a x).toNat < S4096.size a := fun v3305 k0_hw974 => k0_hw974

def k0_chk975 (v3308 : IVec S16 32) : Prop :=
  (∀ a x, ((![v3308] : Fin 1 → IVec S16 32) a x).toNat < S12288.size a)
theorem k0_idx975_inb : ∀ (v3308 : IVec S16 32) (k0_hw975 : k0_chk975 v3308), ∀ a x, ((![v3308] : Fin 1 → IVec S16 32) a x).toNat < S12288.size a := fun v3308 k0_hw975 => k0_hw975

def k0_chk976 (v3309 : IVec S16 32) : Prop :=
  (∀ a x, ((![v3309] : Fin 1 → IVec S16 32) a x).toNat < S4096.size a)
theorem k0_idx976_inb : ∀ (v3309 : IVec S16 32) (k0_hw976 : k0_chk976 v3309), ∀ a x, ((![v3309] : Fin 1 → IVec S16 32) a x).toNat < S4096.size a := fun v3309 k0_hw976 => k0_hw976

def k0_chk977 (v3313 : IVec S16 32) : Prop :=
  (∀ a x, ((![v3313] : Fin 1 → IVec S16 32) a x).toNat < S12288.size a)
theorem k0_idx977_inb : ∀ (v3313 : IVec S16 32) (k0_hw977 : k0_chk977 v3313), ∀ a x, ((![v3313] : Fin 1 → IVec S16 32) a x).toNat < S12288.size a := fun v3313 k0_hw977 => k0_hw977

def k0_chk978 (v3314 : IVec S16 32) : Prop :=
  (∀ a x, ((![v3314] : Fin 1 → IVec S16 32) a x).toNat < S4096.size a)
theorem k0_idx978_inb : ∀ (v3314 : IVec S16 32) (k0_hw978 : k0_chk978 v3314), ∀ a x, ((![v3314] : Fin 1 → IVec S16 32) a x).toNat < S4096.size a := fun v3314 k0_hw978 => k0_hw978

def k0_chk979 (v3318 : IVec S16 32) : Prop :=
  (∀ a x, ((![v3318] : Fin 1 → IVec S16 32) a x).toNat < S12288.size a)
theorem k0_idx979_inb : ∀ (v3318 : IVec S16 32) (k0_hw979 : k0_chk979 v3318), ∀ a x, ((![v3318] : Fin 1 → IVec S16 32) a x).toNat < S12288.size a := fun v3318 k0_hw979 => k0_hw979

def k0_chk980 (v3319 : IVec S16 32) : Prop :=
  (∀ a x, ((![v3319] : Fin 1 → IVec S16 32) a x).toNat < S4096.size a)
theorem k0_idx980_inb : ∀ (v3319 : IVec S16 32) (k0_hw980 : k0_chk980 v3319), ∀ a x, ((![v3319] : Fin 1 → IVec S16 32) a x).toNat < S4096.size a := fun v3319 k0_hw980 => k0_hw980

def k0_chk981 (v3322 : IVec S16 32) : Prop :=
  (∀ a x, ((![v3322] : Fin 1 → IVec S16 32) a x).toNat < S16.size a)
theorem k0_idx981_inb : ∀ (v3322 : IVec S16 32) (k0_hw981 : k0_chk981 v3322), ∀ a x, ((![v3322] : Fin 1 → IVec S16 32) a x).toNat < S16.size a := fun v3322 k0_hw981 => k0_hw981

def k0_chk982 (v3331 : IVec S16 32) : Prop :=
  (∀ a x, ((![v3331] : Fin 1 → IVec S16 32) a x).toNat < S12288.size a)
theorem k0_idx982_inb : ∀ (v3331 : IVec S16 32) (k0_hw982 : k0_chk982 v3331), ∀ a x, ((![v3331] : Fin 1 → IVec S16 32) a x).toNat < S12288.size a := fun v3331 k0_hw982 => k0_hw982

def k0_chk983 (v3332 : IVec S16 32) : Prop :=
  (∀ a x, ((![v3332] : Fin 1 → IVec S16 32) a x).toNat < S4096.size a)
theorem k0_idx983_inb : ∀ (v3332 : IVec S16 32) (k0_hw983 : k0_chk983 v3332), ∀ a x, ((![v3332] : Fin 1 → IVec S16 32) a x).toNat < S4096.size a := fun v3332 k0_hw983 => k0_hw983

def k0_chk984 (v3335 : IVec S16 32) : Prop :=
  (∀ a x, ((![v3335] : Fin 1 → IVec S16 32) a x).toNat < S12288.size a)
theorem k0_idx984_inb : ∀ (v3335 : IVec S16 32) (k0_hw984 : k0_chk984 v3335), ∀ a x, ((![v3335] : Fin 1 → IVec S16 32) a x).toNat < S12288.size a := fun v3335 k0_hw984 => k0_hw984

def k0_chk985 (v3336 : IVec S16 32) : Prop :=
  (∀ a x, ((![v3336] : Fin 1 → IVec S16 32) a x).toNat < S4096.size a)
theorem k0_idx985_inb : ∀ (v3336 : IVec S16 32) (k0_hw985 : k0_chk985 v3336), ∀ a x, ((![v3336] : Fin 1 → IVec S16 32) a x).toNat < S4096.size a := fun v3336 k0_hw985 => k0_hw985

def k0_chk986 (v3340 : IVec S16 32) : Prop :=
  (∀ a x, ((![v3340] : Fin 1 → IVec S16 32) a x).toNat < S12288.size a)
theorem k0_idx986_inb : ∀ (v3340 : IVec S16 32) (k0_hw986 : k0_chk986 v3340), ∀ a x, ((![v3340] : Fin 1 → IVec S16 32) a x).toNat < S12288.size a := fun v3340 k0_hw986 => k0_hw986

def k0_chk987 (v3341 : IVec S16 32) : Prop :=
  (∀ a x, ((![v3341] : Fin 1 → IVec S16 32) a x).toNat < S4096.size a)
theorem k0_idx987_inb : ∀ (v3341 : IVec S16 32) (k0_hw987 : k0_chk987 v3341), ∀ a x, ((![v3341] : Fin 1 → IVec S16 32) a x).toNat < S4096.size a := fun v3341 k0_hw987 => k0_hw987

def k0_chk988 (v3345 : IVec S16 32) : Prop :=
  (∀ a x, ((![v3345] : Fin 1 → IVec S16 32) a x).toNat < S12288.size a)
theorem k0_idx988_inb : ∀ (v3345 : IVec S16 32) (k0_hw988 : k0_chk988 v3345), ∀ a x, ((![v3345] : Fin 1 → IVec S16 32) a x).toNat < S12288.size a := fun v3345 k0_hw988 => k0_hw988

def k0_chk989 (v3346 : IVec S16 32) : Prop :=
  (∀ a x, ((![v3346] : Fin 1 → IVec S16 32) a x).toNat < S4096.size a)
theorem k0_idx989_inb : ∀ (v3346 : IVec S16 32) (k0_hw989 : k0_chk989 v3346), ∀ a x, ((![v3346] : Fin 1 → IVec S16 32) a x).toNat < S4096.size a := fun v3346 k0_hw989 => k0_hw989

def k0_chk990 (v3349 : IVec S16 32) : Prop :=
  (∀ a x, ((![v3349] : Fin 1 → IVec S16 32) a x).toNat < S16.size a)
theorem k0_idx990_inb : ∀ (v3349 : IVec S16 32) (k0_hw990 : k0_chk990 v3349), ∀ a x, ((![v3349] : Fin 1 → IVec S16 32) a x).toNat < S16.size a := fun v3349 k0_hw990 => k0_hw990

def k0_chk991 (v3358 : IVec S16 32) : Prop :=
  (∀ a x, ((![v3358] : Fin 1 → IVec S16 32) a x).toNat < S12288.size a)
theorem k0_idx991_inb : ∀ (v3358 : IVec S16 32) (k0_hw991 : k0_chk991 v3358), ∀ a x, ((![v3358] : Fin 1 → IVec S16 32) a x).toNat < S12288.size a := fun v3358 k0_hw991 => k0_hw991

def k0_chk992 (v3359 : IVec S16 32) : Prop :=
  (∀ a x, ((![v3359] : Fin 1 → IVec S16 32) a x).toNat < S4096.size a)
theorem k0_idx992_inb : ∀ (v3359 : IVec S16 32) (k0_hw992 : k0_chk992 v3359), ∀ a x, ((![v3359] : Fin 1 → IVec S16 32) a x).toNat < S4096.size a := fun v3359 k0_hw992 => k0_hw992

def k0_chk993 (v3362 : IVec S16 32) : Prop :=
  (∀ a x, ((![v3362] : Fin 1 → IVec S16 32) a x).toNat < S12288.size a)
theorem k0_idx993_inb : ∀ (v3362 : IVec S16 32) (k0_hw993 : k0_chk993 v3362), ∀ a x, ((![v3362] : Fin 1 → IVec S16 32) a x).toNat < S12288.size a := fun v3362 k0_hw993 => k0_hw993

def k0_chk994 (v3363 : IVec S16 32) : Prop :=
  (∀ a x, ((![v3363] : Fin 1 → IVec S16 32) a x).toNat < S4096.size a)
theorem k0_idx994_inb : ∀ (v3363 : IVec S16 32) (k0_hw994 : k0_chk994 v3363), ∀ a x, ((![v3363] : Fin 1 → IVec S16 32) a x).toNat < S4096.size a := fun v3363 k0_hw994 => k0_hw994

def k0_chk995 (v3367 : IVec S16 32) : Prop :=
  (∀ a x, ((![v3367] : Fin 1 → IVec S16 32) a x).toNat < S12288.size a)
theorem k0_idx995_inb : ∀ (v3367 : IVec S16 32) (k0_hw995 : k0_chk995 v3367), ∀ a x, ((![v3367] : Fin 1 → IVec S16 32) a x).toNat < S12288.size a := fun v3367 k0_hw995 => k0_hw995

def k0_chk996 (v3368 : IVec S16 32) : Prop :=
  (∀ a x, ((![v3368] : Fin 1 → IVec S16 32) a x).toNat < S4096.size a)
theorem k0_idx996_inb : ∀ (v3368 : IVec S16 32) (k0_hw996 : k0_chk996 v3368), ∀ a x, ((![v3368] : Fin 1 → IVec S16 32) a x).toNat < S4096.size a := fun v3368 k0_hw996 => k0_hw996

def k0_chk997 (v3372 : IVec S16 32) : Prop :=
  (∀ a x, ((![v3372] : Fin 1 → IVec S16 32) a x).toNat < S12288.size a)
theorem k0_idx997_inb : ∀ (v3372 : IVec S16 32) (k0_hw997 : k0_chk997 v3372), ∀ a x, ((![v3372] : Fin 1 → IVec S16 32) a x).toNat < S12288.size a := fun v3372 k0_hw997 => k0_hw997

def k0_chk998 (v3373 : IVec S16 32) : Prop :=
  (∀ a x, ((![v3373] : Fin 1 → IVec S16 32) a x).toNat < S4096.size a)
theorem k0_idx998_inb : ∀ (v3373 : IVec S16 32) (k0_hw998 : k0_chk998 v3373), ∀ a x, ((![v3373] : Fin 1 → IVec S16 32) a x).toNat < S4096.size a := fun v3373 k0_hw998 => k0_hw998

def k0_chk999 (v3376 : IVec S16 32) : Prop :=
  (∀ a x, ((![v3376] : Fin 1 → IVec S16 32) a x).toNat < S16.size a)
theorem k0_idx999_inb : ∀ (v3376 : IVec S16 32) (k0_hw999 : k0_chk999 v3376), ∀ a x, ((![v3376] : Fin 1 → IVec S16 32) a x).toNat < S16.size a := fun v3376 k0_hw999 => k0_hw999

def k0_chk1000 (v3385 : IVec S16 32) : Prop :=
  (∀ a x, ((![v3385] : Fin 1 → IVec S16 32) a x).toNat < S12288.size a)
theorem k0_idx1000_inb : ∀ (v3385 : IVec S16 32) (k0_hw1000 : k0_chk1000 v3385), ∀ a x, ((![v3385] : Fin 1 → IVec S16 32) a x).toNat < S12288.size a := fun v3385 k0_hw1000 => k0_hw1000

def k0_chk1001 (v3386 : IVec S16 32) : Prop :=
  (∀ a x, ((![v3386] : Fin 1 → IVec S16 32) a x).toNat < S4096.size a)
theorem k0_idx1001_inb : ∀ (v3386 : IVec S16 32) (k0_hw1001 : k0_chk1001 v3386), ∀ a x, ((![v3386] : Fin 1 → IVec S16 32) a x).toNat < S4096.size a := fun v3386 k0_hw1001 => k0_hw1001

def k0_chk1002 (v3389 : IVec S16 32) : Prop :=
  (∀ a x, ((![v3389] : Fin 1 → IVec S16 32) a x).toNat < S12288.size a)
theorem k0_idx1002_inb : ∀ (v3389 : IVec S16 32) (k0_hw1002 : k0_chk1002 v3389), ∀ a x, ((![v3389] : Fin 1 → IVec S16 32) a x).toNat < S12288.size a := fun v3389 k0_hw1002 => k0_hw1002

def k0_chk1003 (v3390 : IVec S16 32) : Prop :=
  (∀ a x, ((![v3390] : Fin 1 → IVec S16 32) a x).toNat < S4096.size a)
theorem k0_idx1003_inb : ∀ (v3390 : IVec S16 32) (k0_hw1003 : k0_chk1003 v3390), ∀ a x, ((![v3390] : Fin 1 → IVec S16 32) a x).toNat < S4096.size a := fun v3390 k0_hw1003 => k0_hw1003

def k0_chk1004 (v3394 : IVec S16 32) : Prop :=
  (∀ a x, ((![v3394] : Fin 1 → IVec S16 32) a x).toNat < S12288.size a)
theorem k0_idx1004_inb : ∀ (v3394 : IVec S16 32) (k0_hw1004 : k0_chk1004 v3394), ∀ a x, ((![v3394] : Fin 1 → IVec S16 32) a x).toNat < S12288.size a := fun v3394 k0_hw1004 => k0_hw1004

def k0_chk1005 (v3395 : IVec S16 32) : Prop :=
  (∀ a x, ((![v3395] : Fin 1 → IVec S16 32) a x).toNat < S4096.size a)
theorem k0_idx1005_inb : ∀ (v3395 : IVec S16 32) (k0_hw1005 : k0_chk1005 v3395), ∀ a x, ((![v3395] : Fin 1 → IVec S16 32) a x).toNat < S4096.size a := fun v3395 k0_hw1005 => k0_hw1005

def k0_chk1006 (v3399 : IVec S16 32) : Prop :=
  (∀ a x, ((![v3399] : Fin 1 → IVec S16 32) a x).toNat < S12288.size a)
theorem k0_idx1006_inb : ∀ (v3399 : IVec S16 32) (k0_hw1006 : k0_chk1006 v3399), ∀ a x, ((![v3399] : Fin 1 → IVec S16 32) a x).toNat < S12288.size a := fun v3399 k0_hw1006 => k0_hw1006

def k0_chk1007 (v3400 : IVec S16 32) : Prop :=
  (∀ a x, ((![v3400] : Fin 1 → IVec S16 32) a x).toNat < S4096.size a)
theorem k0_idx1007_inb : ∀ (v3400 : IVec S16 32) (k0_hw1007 : k0_chk1007 v3400), ∀ a x, ((![v3400] : Fin 1 → IVec S16 32) a x).toNat < S4096.size a := fun v3400 k0_hw1007 => k0_hw1007

def k0_chk1008 (v3403 : IVec S16 32) : Prop :=
  (∀ a x, ((![v3403] : Fin 1 → IVec S16 32) a x).toNat < S16.size a)
theorem k0_idx1008_inb : ∀ (v3403 : IVec S16 32) (k0_hw1008 : k0_chk1008 v3403), ∀ a x, ((![v3403] : Fin 1 → IVec S16 32) a x).toNat < S16.size a := fun v3403 k0_hw1008 => k0_hw1008
def k0_off37 (i : grid0.Coords) : Fin 2 → Nat :=
  let c0_i32_671 : BitVec 32 := 0#32
  let arg1 : BitVec 32 := BitVec.ofNat 32 (i 1).val
  let c256_i32_670 : BitVec 32 := 256#32
  let v3411 : BitVec 32 := Scalar.muli arg1 c256_i32_670
  ![0, v3411.toNat]
def k0_off38 (i : grid0.Coords) : Fin 2 → Nat :=
  let c6_i32_674 : BitVec 32 := 6#32
  let arg1 : BitVec 32 := BitVec.ofNat 32 (i 1).val
  let c256_i32_672 : BitVec 32 := 256#32
  let v3412 : BitVec 32 := Scalar.muli arg1 c256_i32_672
  ![6, v3412.toNat]

def k0_chk1009 (v3422 : IVec S16 32) : Prop :=
  (∀ a x, ((![v3422] : Fin 1 → IVec S16 32) a x).toNat < S12288.size a)
theorem k0_idx1009_inb : ∀ (v3422 : IVec S16 32) (k0_hw1009 : k0_chk1009 v3422), ∀ a x, ((![v3422] : Fin 1 → IVec S16 32) a x).toNat < S12288.size a := fun v3422 k0_hw1009 => k0_hw1009

def k0_chk1010 (v3423 : IVec S16 32) : Prop :=
  (∀ a x, ((![v3423] : Fin 1 → IVec S16 32) a x).toNat < S4096.size a)
theorem k0_idx1010_inb : ∀ (v3423 : IVec S16 32) (k0_hw1010 : k0_chk1010 v3423), ∀ a x, ((![v3423] : Fin 1 → IVec S16 32) a x).toNat < S4096.size a := fun v3423 k0_hw1010 => k0_hw1010

def k0_chk1011 (v3426 : IVec S16 32) : Prop :=
  (∀ a x, ((![v3426] : Fin 1 → IVec S16 32) a x).toNat < S12288.size a)
theorem k0_idx1011_inb : ∀ (v3426 : IVec S16 32) (k0_hw1011 : k0_chk1011 v3426), ∀ a x, ((![v3426] : Fin 1 → IVec S16 32) a x).toNat < S12288.size a := fun v3426 k0_hw1011 => k0_hw1011

def k0_chk1012 (v3427 : IVec S16 32) : Prop :=
  (∀ a x, ((![v3427] : Fin 1 → IVec S16 32) a x).toNat < S4096.size a)
theorem k0_idx1012_inb : ∀ (v3427 : IVec S16 32) (k0_hw1012 : k0_chk1012 v3427), ∀ a x, ((![v3427] : Fin 1 → IVec S16 32) a x).toNat < S4096.size a := fun v3427 k0_hw1012 => k0_hw1012

def k0_chk1013 (v3431 : IVec S16 32) : Prop :=
  (∀ a x, ((![v3431] : Fin 1 → IVec S16 32) a x).toNat < S12288.size a)
theorem k0_idx1013_inb : ∀ (v3431 : IVec S16 32) (k0_hw1013 : k0_chk1013 v3431), ∀ a x, ((![v3431] : Fin 1 → IVec S16 32) a x).toNat < S12288.size a := fun v3431 k0_hw1013 => k0_hw1013

def k0_chk1014 (v3432 : IVec S16 32) : Prop :=
  (∀ a x, ((![v3432] : Fin 1 → IVec S16 32) a x).toNat < S4096.size a)
theorem k0_idx1014_inb : ∀ (v3432 : IVec S16 32) (k0_hw1014 : k0_chk1014 v3432), ∀ a x, ((![v3432] : Fin 1 → IVec S16 32) a x).toNat < S4096.size a := fun v3432 k0_hw1014 => k0_hw1014

def k0_chk1015 (v3436 : IVec S16 32) : Prop :=
  (∀ a x, ((![v3436] : Fin 1 → IVec S16 32) a x).toNat < S12288.size a)
theorem k0_idx1015_inb : ∀ (v3436 : IVec S16 32) (k0_hw1015 : k0_chk1015 v3436), ∀ a x, ((![v3436] : Fin 1 → IVec S16 32) a x).toNat < S12288.size a := fun v3436 k0_hw1015 => k0_hw1015

def k0_chk1016 (v3437 : IVec S16 32) : Prop :=
  (∀ a x, ((![v3437] : Fin 1 → IVec S16 32) a x).toNat < S4096.size a)
theorem k0_idx1016_inb : ∀ (v3437 : IVec S16 32) (k0_hw1016 : k0_chk1016 v3437), ∀ a x, ((![v3437] : Fin 1 → IVec S16 32) a x).toNat < S4096.size a := fun v3437 k0_hw1016 => k0_hw1016

def k0_chk1017 (v3440 : IVec S16 32) : Prop :=
  (∀ a x, ((![v3440] : Fin 1 → IVec S16 32) a x).toNat < S16.size a)
theorem k0_idx1017_inb : ∀ (v3440 : IVec S16 32) (k0_hw1017 : k0_chk1017 v3440), ∀ a x, ((![v3440] : Fin 1 → IVec S16 32) a x).toNat < S16.size a := fun v3440 k0_hw1017 => k0_hw1017

def k0_chk1018 (v3449 : IVec S16 32) : Prop :=
  (∀ a x, ((![v3449] : Fin 1 → IVec S16 32) a x).toNat < S12288.size a)
theorem k0_idx1018_inb : ∀ (v3449 : IVec S16 32) (k0_hw1018 : k0_chk1018 v3449), ∀ a x, ((![v3449] : Fin 1 → IVec S16 32) a x).toNat < S12288.size a := fun v3449 k0_hw1018 => k0_hw1018

def k0_chk1019 (v3450 : IVec S16 32) : Prop :=
  (∀ a x, ((![v3450] : Fin 1 → IVec S16 32) a x).toNat < S4096.size a)
theorem k0_idx1019_inb : ∀ (v3450 : IVec S16 32) (k0_hw1019 : k0_chk1019 v3450), ∀ a x, ((![v3450] : Fin 1 → IVec S16 32) a x).toNat < S4096.size a := fun v3450 k0_hw1019 => k0_hw1019

def k0_chk1020 (v3453 : IVec S16 32) : Prop :=
  (∀ a x, ((![v3453] : Fin 1 → IVec S16 32) a x).toNat < S12288.size a)
theorem k0_idx1020_inb : ∀ (v3453 : IVec S16 32) (k0_hw1020 : k0_chk1020 v3453), ∀ a x, ((![v3453] : Fin 1 → IVec S16 32) a x).toNat < S12288.size a := fun v3453 k0_hw1020 => k0_hw1020

def k0_chk1021 (v3454 : IVec S16 32) : Prop :=
  (∀ a x, ((![v3454] : Fin 1 → IVec S16 32) a x).toNat < S4096.size a)
theorem k0_idx1021_inb : ∀ (v3454 : IVec S16 32) (k0_hw1021 : k0_chk1021 v3454), ∀ a x, ((![v3454] : Fin 1 → IVec S16 32) a x).toNat < S4096.size a := fun v3454 k0_hw1021 => k0_hw1021

def k0_chk1022 (v3458 : IVec S16 32) : Prop :=
  (∀ a x, ((![v3458] : Fin 1 → IVec S16 32) a x).toNat < S12288.size a)
theorem k0_idx1022_inb : ∀ (v3458 : IVec S16 32) (k0_hw1022 : k0_chk1022 v3458), ∀ a x, ((![v3458] : Fin 1 → IVec S16 32) a x).toNat < S12288.size a := fun v3458 k0_hw1022 => k0_hw1022

def k0_chk1023 (v3459 : IVec S16 32) : Prop :=
  (∀ a x, ((![v3459] : Fin 1 → IVec S16 32) a x).toNat < S4096.size a)
theorem k0_idx1023_inb : ∀ (v3459 : IVec S16 32) (k0_hw1023 : k0_chk1023 v3459), ∀ a x, ((![v3459] : Fin 1 → IVec S16 32) a x).toNat < S4096.size a := fun v3459 k0_hw1023 => k0_hw1023

def k0_chk1024 (v3463 : IVec S16 32) : Prop :=
  (∀ a x, ((![v3463] : Fin 1 → IVec S16 32) a x).toNat < S12288.size a)
theorem k0_idx1024_inb : ∀ (v3463 : IVec S16 32) (k0_hw1024 : k0_chk1024 v3463), ∀ a x, ((![v3463] : Fin 1 → IVec S16 32) a x).toNat < S12288.size a := fun v3463 k0_hw1024 => k0_hw1024

def k0_chk1025 (v3464 : IVec S16 32) : Prop :=
  (∀ a x, ((![v3464] : Fin 1 → IVec S16 32) a x).toNat < S4096.size a)
theorem k0_idx1025_inb : ∀ (v3464 : IVec S16 32) (k0_hw1025 : k0_chk1025 v3464), ∀ a x, ((![v3464] : Fin 1 → IVec S16 32) a x).toNat < S4096.size a := fun v3464 k0_hw1025 => k0_hw1025

def k0_chk1026 (v3467 : IVec S16 32) : Prop :=
  (∀ a x, ((![v3467] : Fin 1 → IVec S16 32) a x).toNat < S16.size a)
theorem k0_idx1026_inb : ∀ (v3467 : IVec S16 32) (k0_hw1026 : k0_chk1026 v3467), ∀ a x, ((![v3467] : Fin 1 → IVec S16 32) a x).toNat < S16.size a := fun v3467 k0_hw1026 => k0_hw1026

def k0_chk1027 (v3476 : IVec S16 32) : Prop :=
  (∀ a x, ((![v3476] : Fin 1 → IVec S16 32) a x).toNat < S12288.size a)
theorem k0_idx1027_inb : ∀ (v3476 : IVec S16 32) (k0_hw1027 : k0_chk1027 v3476), ∀ a x, ((![v3476] : Fin 1 → IVec S16 32) a x).toNat < S12288.size a := fun v3476 k0_hw1027 => k0_hw1027

def k0_chk1028 (v3477 : IVec S16 32) : Prop :=
  (∀ a x, ((![v3477] : Fin 1 → IVec S16 32) a x).toNat < S4096.size a)
theorem k0_idx1028_inb : ∀ (v3477 : IVec S16 32) (k0_hw1028 : k0_chk1028 v3477), ∀ a x, ((![v3477] : Fin 1 → IVec S16 32) a x).toNat < S4096.size a := fun v3477 k0_hw1028 => k0_hw1028

def k0_chk1029 (v3480 : IVec S16 32) : Prop :=
  (∀ a x, ((![v3480] : Fin 1 → IVec S16 32) a x).toNat < S12288.size a)
theorem k0_idx1029_inb : ∀ (v3480 : IVec S16 32) (k0_hw1029 : k0_chk1029 v3480), ∀ a x, ((![v3480] : Fin 1 → IVec S16 32) a x).toNat < S12288.size a := fun v3480 k0_hw1029 => k0_hw1029

def k0_chk1030 (v3481 : IVec S16 32) : Prop :=
  (∀ a x, ((![v3481] : Fin 1 → IVec S16 32) a x).toNat < S4096.size a)
theorem k0_idx1030_inb : ∀ (v3481 : IVec S16 32) (k0_hw1030 : k0_chk1030 v3481), ∀ a x, ((![v3481] : Fin 1 → IVec S16 32) a x).toNat < S4096.size a := fun v3481 k0_hw1030 => k0_hw1030

def k0_chk1031 (v3485 : IVec S16 32) : Prop :=
  (∀ a x, ((![v3485] : Fin 1 → IVec S16 32) a x).toNat < S12288.size a)
theorem k0_idx1031_inb : ∀ (v3485 : IVec S16 32) (k0_hw1031 : k0_chk1031 v3485), ∀ a x, ((![v3485] : Fin 1 → IVec S16 32) a x).toNat < S12288.size a := fun v3485 k0_hw1031 => k0_hw1031

def k0_chk1032 (v3486 : IVec S16 32) : Prop :=
  (∀ a x, ((![v3486] : Fin 1 → IVec S16 32) a x).toNat < S4096.size a)
theorem k0_idx1032_inb : ∀ (v3486 : IVec S16 32) (k0_hw1032 : k0_chk1032 v3486), ∀ a x, ((![v3486] : Fin 1 → IVec S16 32) a x).toNat < S4096.size a := fun v3486 k0_hw1032 => k0_hw1032

def k0_chk1033 (v3490 : IVec S16 32) : Prop :=
  (∀ a x, ((![v3490] : Fin 1 → IVec S16 32) a x).toNat < S12288.size a)
theorem k0_idx1033_inb : ∀ (v3490 : IVec S16 32) (k0_hw1033 : k0_chk1033 v3490), ∀ a x, ((![v3490] : Fin 1 → IVec S16 32) a x).toNat < S12288.size a := fun v3490 k0_hw1033 => k0_hw1033

def k0_chk1034 (v3491 : IVec S16 32) : Prop :=
  (∀ a x, ((![v3491] : Fin 1 → IVec S16 32) a x).toNat < S4096.size a)
theorem k0_idx1034_inb : ∀ (v3491 : IVec S16 32) (k0_hw1034 : k0_chk1034 v3491), ∀ a x, ((![v3491] : Fin 1 → IVec S16 32) a x).toNat < S4096.size a := fun v3491 k0_hw1034 => k0_hw1034

def k0_chk1035 (v3494 : IVec S16 32) : Prop :=
  (∀ a x, ((![v3494] : Fin 1 → IVec S16 32) a x).toNat < S16.size a)
theorem k0_idx1035_inb : ∀ (v3494 : IVec S16 32) (k0_hw1035 : k0_chk1035 v3494), ∀ a x, ((![v3494] : Fin 1 → IVec S16 32) a x).toNat < S16.size a := fun v3494 k0_hw1035 => k0_hw1035

def k0_chk1036 (v3503 : IVec S16 32) : Prop :=
  (∀ a x, ((![v3503] : Fin 1 → IVec S16 32) a x).toNat < S12288.size a)
theorem k0_idx1036_inb : ∀ (v3503 : IVec S16 32) (k0_hw1036 : k0_chk1036 v3503), ∀ a x, ((![v3503] : Fin 1 → IVec S16 32) a x).toNat < S12288.size a := fun v3503 k0_hw1036 => k0_hw1036

def k0_chk1037 (v3504 : IVec S16 32) : Prop :=
  (∀ a x, ((![v3504] : Fin 1 → IVec S16 32) a x).toNat < S4096.size a)
theorem k0_idx1037_inb : ∀ (v3504 : IVec S16 32) (k0_hw1037 : k0_chk1037 v3504), ∀ a x, ((![v3504] : Fin 1 → IVec S16 32) a x).toNat < S4096.size a := fun v3504 k0_hw1037 => k0_hw1037

def k0_chk1038 (v3507 : IVec S16 32) : Prop :=
  (∀ a x, ((![v3507] : Fin 1 → IVec S16 32) a x).toNat < S12288.size a)
theorem k0_idx1038_inb : ∀ (v3507 : IVec S16 32) (k0_hw1038 : k0_chk1038 v3507), ∀ a x, ((![v3507] : Fin 1 → IVec S16 32) a x).toNat < S12288.size a := fun v3507 k0_hw1038 => k0_hw1038

def k0_chk1039 (v3508 : IVec S16 32) : Prop :=
  (∀ a x, ((![v3508] : Fin 1 → IVec S16 32) a x).toNat < S4096.size a)
theorem k0_idx1039_inb : ∀ (v3508 : IVec S16 32) (k0_hw1039 : k0_chk1039 v3508), ∀ a x, ((![v3508] : Fin 1 → IVec S16 32) a x).toNat < S4096.size a := fun v3508 k0_hw1039 => k0_hw1039

def k0_chk1040 (v3512 : IVec S16 32) : Prop :=
  (∀ a x, ((![v3512] : Fin 1 → IVec S16 32) a x).toNat < S12288.size a)
theorem k0_idx1040_inb : ∀ (v3512 : IVec S16 32) (k0_hw1040 : k0_chk1040 v3512), ∀ a x, ((![v3512] : Fin 1 → IVec S16 32) a x).toNat < S12288.size a := fun v3512 k0_hw1040 => k0_hw1040

def k0_chk1041 (v3513 : IVec S16 32) : Prop :=
  (∀ a x, ((![v3513] : Fin 1 → IVec S16 32) a x).toNat < S4096.size a)
theorem k0_idx1041_inb : ∀ (v3513 : IVec S16 32) (k0_hw1041 : k0_chk1041 v3513), ∀ a x, ((![v3513] : Fin 1 → IVec S16 32) a x).toNat < S4096.size a := fun v3513 k0_hw1041 => k0_hw1041

def k0_chk1042 (v3517 : IVec S16 32) : Prop :=
  (∀ a x, ((![v3517] : Fin 1 → IVec S16 32) a x).toNat < S12288.size a)
theorem k0_idx1042_inb : ∀ (v3517 : IVec S16 32) (k0_hw1042 : k0_chk1042 v3517), ∀ a x, ((![v3517] : Fin 1 → IVec S16 32) a x).toNat < S12288.size a := fun v3517 k0_hw1042 => k0_hw1042

def k0_chk1043 (v3518 : IVec S16 32) : Prop :=
  (∀ a x, ((![v3518] : Fin 1 → IVec S16 32) a x).toNat < S4096.size a)
theorem k0_idx1043_inb : ∀ (v3518 : IVec S16 32) (k0_hw1043 : k0_chk1043 v3518), ∀ a x, ((![v3518] : Fin 1 → IVec S16 32) a x).toNat < S4096.size a := fun v3518 k0_hw1043 => k0_hw1043

def k0_chk1044 (v3521 : IVec S16 32) : Prop :=
  (∀ a x, ((![v3521] : Fin 1 → IVec S16 32) a x).toNat < S16.size a)
theorem k0_idx1044_inb : ∀ (v3521 : IVec S16 32) (k0_hw1044 : k0_chk1044 v3521), ∀ a x, ((![v3521] : Fin 1 → IVec S16 32) a x).toNat < S16.size a := fun v3521 k0_hw1044 => k0_hw1044

def k0_chk1045 (v3530 : IVec S16 32) : Prop :=
  (∀ a x, ((![v3530] : Fin 1 → IVec S16 32) a x).toNat < S12288.size a)
theorem k0_idx1045_inb : ∀ (v3530 : IVec S16 32) (k0_hw1045 : k0_chk1045 v3530), ∀ a x, ((![v3530] : Fin 1 → IVec S16 32) a x).toNat < S12288.size a := fun v3530 k0_hw1045 => k0_hw1045

def k0_chk1046 (v3531 : IVec S16 32) : Prop :=
  (∀ a x, ((![v3531] : Fin 1 → IVec S16 32) a x).toNat < S4096.size a)
theorem k0_idx1046_inb : ∀ (v3531 : IVec S16 32) (k0_hw1046 : k0_chk1046 v3531), ∀ a x, ((![v3531] : Fin 1 → IVec S16 32) a x).toNat < S4096.size a := fun v3531 k0_hw1046 => k0_hw1046

def k0_chk1047 (v3534 : IVec S16 32) : Prop :=
  (∀ a x, ((![v3534] : Fin 1 → IVec S16 32) a x).toNat < S12288.size a)
theorem k0_idx1047_inb : ∀ (v3534 : IVec S16 32) (k0_hw1047 : k0_chk1047 v3534), ∀ a x, ((![v3534] : Fin 1 → IVec S16 32) a x).toNat < S12288.size a := fun v3534 k0_hw1047 => k0_hw1047

def k0_chk1048 (v3535 : IVec S16 32) : Prop :=
  (∀ a x, ((![v3535] : Fin 1 → IVec S16 32) a x).toNat < S4096.size a)
theorem k0_idx1048_inb : ∀ (v3535 : IVec S16 32) (k0_hw1048 : k0_chk1048 v3535), ∀ a x, ((![v3535] : Fin 1 → IVec S16 32) a x).toNat < S4096.size a := fun v3535 k0_hw1048 => k0_hw1048

def k0_chk1049 (v3539 : IVec S16 32) : Prop :=
  (∀ a x, ((![v3539] : Fin 1 → IVec S16 32) a x).toNat < S12288.size a)
theorem k0_idx1049_inb : ∀ (v3539 : IVec S16 32) (k0_hw1049 : k0_chk1049 v3539), ∀ a x, ((![v3539] : Fin 1 → IVec S16 32) a x).toNat < S12288.size a := fun v3539 k0_hw1049 => k0_hw1049

def k0_chk1050 (v3540 : IVec S16 32) : Prop :=
  (∀ a x, ((![v3540] : Fin 1 → IVec S16 32) a x).toNat < S4096.size a)
theorem k0_idx1050_inb : ∀ (v3540 : IVec S16 32) (k0_hw1050 : k0_chk1050 v3540), ∀ a x, ((![v3540] : Fin 1 → IVec S16 32) a x).toNat < S4096.size a := fun v3540 k0_hw1050 => k0_hw1050

def k0_chk1051 (v3544 : IVec S16 32) : Prop :=
  (∀ a x, ((![v3544] : Fin 1 → IVec S16 32) a x).toNat < S12288.size a)
theorem k0_idx1051_inb : ∀ (v3544 : IVec S16 32) (k0_hw1051 : k0_chk1051 v3544), ∀ a x, ((![v3544] : Fin 1 → IVec S16 32) a x).toNat < S12288.size a := fun v3544 k0_hw1051 => k0_hw1051

def k0_chk1052 (v3545 : IVec S16 32) : Prop :=
  (∀ a x, ((![v3545] : Fin 1 → IVec S16 32) a x).toNat < S4096.size a)
theorem k0_idx1052_inb : ∀ (v3545 : IVec S16 32) (k0_hw1052 : k0_chk1052 v3545), ∀ a x, ((![v3545] : Fin 1 → IVec S16 32) a x).toNat < S4096.size a := fun v3545 k0_hw1052 => k0_hw1052

def k0_chk1053 (v3548 : IVec S16 32) : Prop :=
  (∀ a x, ((![v3548] : Fin 1 → IVec S16 32) a x).toNat < S16.size a)
theorem k0_idx1053_inb : ∀ (v3548 : IVec S16 32) (k0_hw1053 : k0_chk1053 v3548), ∀ a x, ((![v3548] : Fin 1 → IVec S16 32) a x).toNat < S16.size a := fun v3548 k0_hw1053 => k0_hw1053

def k0_chk1054 (v3557 : IVec S16 32) : Prop :=
  (∀ a x, ((![v3557] : Fin 1 → IVec S16 32) a x).toNat < S12288.size a)
theorem k0_idx1054_inb : ∀ (v3557 : IVec S16 32) (k0_hw1054 : k0_chk1054 v3557), ∀ a x, ((![v3557] : Fin 1 → IVec S16 32) a x).toNat < S12288.size a := fun v3557 k0_hw1054 => k0_hw1054

def k0_chk1055 (v3558 : IVec S16 32) : Prop :=
  (∀ a x, ((![v3558] : Fin 1 → IVec S16 32) a x).toNat < S4096.size a)
theorem k0_idx1055_inb : ∀ (v3558 : IVec S16 32) (k0_hw1055 : k0_chk1055 v3558), ∀ a x, ((![v3558] : Fin 1 → IVec S16 32) a x).toNat < S4096.size a := fun v3558 k0_hw1055 => k0_hw1055

def k0_chk1056 (v3561 : IVec S16 32) : Prop :=
  (∀ a x, ((![v3561] : Fin 1 → IVec S16 32) a x).toNat < S12288.size a)
theorem k0_idx1056_inb : ∀ (v3561 : IVec S16 32) (k0_hw1056 : k0_chk1056 v3561), ∀ a x, ((![v3561] : Fin 1 → IVec S16 32) a x).toNat < S12288.size a := fun v3561 k0_hw1056 => k0_hw1056

def k0_chk1057 (v3562 : IVec S16 32) : Prop :=
  (∀ a x, ((![v3562] : Fin 1 → IVec S16 32) a x).toNat < S4096.size a)
theorem k0_idx1057_inb : ∀ (v3562 : IVec S16 32) (k0_hw1057 : k0_chk1057 v3562), ∀ a x, ((![v3562] : Fin 1 → IVec S16 32) a x).toNat < S4096.size a := fun v3562 k0_hw1057 => k0_hw1057

def k0_chk1058 (v3566 : IVec S16 32) : Prop :=
  (∀ a x, ((![v3566] : Fin 1 → IVec S16 32) a x).toNat < S12288.size a)
theorem k0_idx1058_inb : ∀ (v3566 : IVec S16 32) (k0_hw1058 : k0_chk1058 v3566), ∀ a x, ((![v3566] : Fin 1 → IVec S16 32) a x).toNat < S12288.size a := fun v3566 k0_hw1058 => k0_hw1058

def k0_chk1059 (v3567 : IVec S16 32) : Prop :=
  (∀ a x, ((![v3567] : Fin 1 → IVec S16 32) a x).toNat < S4096.size a)
theorem k0_idx1059_inb : ∀ (v3567 : IVec S16 32) (k0_hw1059 : k0_chk1059 v3567), ∀ a x, ((![v3567] : Fin 1 → IVec S16 32) a x).toNat < S4096.size a := fun v3567 k0_hw1059 => k0_hw1059

def k0_chk1060 (v3571 : IVec S16 32) : Prop :=
  (∀ a x, ((![v3571] : Fin 1 → IVec S16 32) a x).toNat < S12288.size a)
theorem k0_idx1060_inb : ∀ (v3571 : IVec S16 32) (k0_hw1060 : k0_chk1060 v3571), ∀ a x, ((![v3571] : Fin 1 → IVec S16 32) a x).toNat < S12288.size a := fun v3571 k0_hw1060 => k0_hw1060

def k0_chk1061 (v3572 : IVec S16 32) : Prop :=
  (∀ a x, ((![v3572] : Fin 1 → IVec S16 32) a x).toNat < S4096.size a)
theorem k0_idx1061_inb : ∀ (v3572 : IVec S16 32) (k0_hw1061 : k0_chk1061 v3572), ∀ a x, ((![v3572] : Fin 1 → IVec S16 32) a x).toNat < S4096.size a := fun v3572 k0_hw1061 => k0_hw1061

def k0_chk1062 (v3575 : IVec S16 32) : Prop :=
  (∀ a x, ((![v3575] : Fin 1 → IVec S16 32) a x).toNat < S16.size a)
theorem k0_idx1062_inb : ∀ (v3575 : IVec S16 32) (k0_hw1062 : k0_chk1062 v3575), ∀ a x, ((![v3575] : Fin 1 → IVec S16 32) a x).toNat < S16.size a := fun v3575 k0_hw1062 => k0_hw1062

def k0_chk1063 (v3584 : IVec S16 32) : Prop :=
  (∀ a x, ((![v3584] : Fin 1 → IVec S16 32) a x).toNat < S12288.size a)
theorem k0_idx1063_inb : ∀ (v3584 : IVec S16 32) (k0_hw1063 : k0_chk1063 v3584), ∀ a x, ((![v3584] : Fin 1 → IVec S16 32) a x).toNat < S12288.size a := fun v3584 k0_hw1063 => k0_hw1063

def k0_chk1064 (v3585 : IVec S16 32) : Prop :=
  (∀ a x, ((![v3585] : Fin 1 → IVec S16 32) a x).toNat < S4096.size a)
theorem k0_idx1064_inb : ∀ (v3585 : IVec S16 32) (k0_hw1064 : k0_chk1064 v3585), ∀ a x, ((![v3585] : Fin 1 → IVec S16 32) a x).toNat < S4096.size a := fun v3585 k0_hw1064 => k0_hw1064

def k0_chk1065 (v3588 : IVec S16 32) : Prop :=
  (∀ a x, ((![v3588] : Fin 1 → IVec S16 32) a x).toNat < S12288.size a)
theorem k0_idx1065_inb : ∀ (v3588 : IVec S16 32) (k0_hw1065 : k0_chk1065 v3588), ∀ a x, ((![v3588] : Fin 1 → IVec S16 32) a x).toNat < S12288.size a := fun v3588 k0_hw1065 => k0_hw1065

def k0_chk1066 (v3589 : IVec S16 32) : Prop :=
  (∀ a x, ((![v3589] : Fin 1 → IVec S16 32) a x).toNat < S4096.size a)
theorem k0_idx1066_inb : ∀ (v3589 : IVec S16 32) (k0_hw1066 : k0_chk1066 v3589), ∀ a x, ((![v3589] : Fin 1 → IVec S16 32) a x).toNat < S4096.size a := fun v3589 k0_hw1066 => k0_hw1066

def k0_chk1067 (v3593 : IVec S16 32) : Prop :=
  (∀ a x, ((![v3593] : Fin 1 → IVec S16 32) a x).toNat < S12288.size a)
theorem k0_idx1067_inb : ∀ (v3593 : IVec S16 32) (k0_hw1067 : k0_chk1067 v3593), ∀ a x, ((![v3593] : Fin 1 → IVec S16 32) a x).toNat < S12288.size a := fun v3593 k0_hw1067 => k0_hw1067

def k0_chk1068 (v3594 : IVec S16 32) : Prop :=
  (∀ a x, ((![v3594] : Fin 1 → IVec S16 32) a x).toNat < S4096.size a)
theorem k0_idx1068_inb : ∀ (v3594 : IVec S16 32) (k0_hw1068 : k0_chk1068 v3594), ∀ a x, ((![v3594] : Fin 1 → IVec S16 32) a x).toNat < S4096.size a := fun v3594 k0_hw1068 => k0_hw1068

def k0_chk1069 (v3598 : IVec S16 32) : Prop :=
  (∀ a x, ((![v3598] : Fin 1 → IVec S16 32) a x).toNat < S12288.size a)
theorem k0_idx1069_inb : ∀ (v3598 : IVec S16 32) (k0_hw1069 : k0_chk1069 v3598), ∀ a x, ((![v3598] : Fin 1 → IVec S16 32) a x).toNat < S12288.size a := fun v3598 k0_hw1069 => k0_hw1069

def k0_chk1070 (v3599 : IVec S16 32) : Prop :=
  (∀ a x, ((![v3599] : Fin 1 → IVec S16 32) a x).toNat < S4096.size a)
theorem k0_idx1070_inb : ∀ (v3599 : IVec S16 32) (k0_hw1070 : k0_chk1070 v3599), ∀ a x, ((![v3599] : Fin 1 → IVec S16 32) a x).toNat < S4096.size a := fun v3599 k0_hw1070 => k0_hw1070

def k0_chk1071 (v3602 : IVec S16 32) : Prop :=
  (∀ a x, ((![v3602] : Fin 1 → IVec S16 32) a x).toNat < S16.size a)
theorem k0_idx1071_inb : ∀ (v3602 : IVec S16 32) (k0_hw1071 : k0_chk1071 v3602), ∀ a x, ((![v3602] : Fin 1 → IVec S16 32) a x).toNat < S16.size a := fun v3602 k0_hw1071 => k0_hw1071

def k0_chk1072 (v3611 : IVec S16 32) : Prop :=
  (∀ a x, ((![v3611] : Fin 1 → IVec S16 32) a x).toNat < S12288.size a)
theorem k0_idx1072_inb : ∀ (v3611 : IVec S16 32) (k0_hw1072 : k0_chk1072 v3611), ∀ a x, ((![v3611] : Fin 1 → IVec S16 32) a x).toNat < S12288.size a := fun v3611 k0_hw1072 => k0_hw1072

def k0_chk1073 (v3612 : IVec S16 32) : Prop :=
  (∀ a x, ((![v3612] : Fin 1 → IVec S16 32) a x).toNat < S4096.size a)
theorem k0_idx1073_inb : ∀ (v3612 : IVec S16 32) (k0_hw1073 : k0_chk1073 v3612), ∀ a x, ((![v3612] : Fin 1 → IVec S16 32) a x).toNat < S4096.size a := fun v3612 k0_hw1073 => k0_hw1073

def k0_chk1074 (v3615 : IVec S16 32) : Prop :=
  (∀ a x, ((![v3615] : Fin 1 → IVec S16 32) a x).toNat < S12288.size a)
theorem k0_idx1074_inb : ∀ (v3615 : IVec S16 32) (k0_hw1074 : k0_chk1074 v3615), ∀ a x, ((![v3615] : Fin 1 → IVec S16 32) a x).toNat < S12288.size a := fun v3615 k0_hw1074 => k0_hw1074

def k0_chk1075 (v3616 : IVec S16 32) : Prop :=
  (∀ a x, ((![v3616] : Fin 1 → IVec S16 32) a x).toNat < S4096.size a)
theorem k0_idx1075_inb : ∀ (v3616 : IVec S16 32) (k0_hw1075 : k0_chk1075 v3616), ∀ a x, ((![v3616] : Fin 1 → IVec S16 32) a x).toNat < S4096.size a := fun v3616 k0_hw1075 => k0_hw1075

def k0_chk1076 (v3620 : IVec S16 32) : Prop :=
  (∀ a x, ((![v3620] : Fin 1 → IVec S16 32) a x).toNat < S12288.size a)
theorem k0_idx1076_inb : ∀ (v3620 : IVec S16 32) (k0_hw1076 : k0_chk1076 v3620), ∀ a x, ((![v3620] : Fin 1 → IVec S16 32) a x).toNat < S12288.size a := fun v3620 k0_hw1076 => k0_hw1076

def k0_chk1077 (v3621 : IVec S16 32) : Prop :=
  (∀ a x, ((![v3621] : Fin 1 → IVec S16 32) a x).toNat < S4096.size a)
theorem k0_idx1077_inb : ∀ (v3621 : IVec S16 32) (k0_hw1077 : k0_chk1077 v3621), ∀ a x, ((![v3621] : Fin 1 → IVec S16 32) a x).toNat < S4096.size a := fun v3621 k0_hw1077 => k0_hw1077

def k0_chk1078 (v3625 : IVec S16 32) : Prop :=
  (∀ a x, ((![v3625] : Fin 1 → IVec S16 32) a x).toNat < S12288.size a)
theorem k0_idx1078_inb : ∀ (v3625 : IVec S16 32) (k0_hw1078 : k0_chk1078 v3625), ∀ a x, ((![v3625] : Fin 1 → IVec S16 32) a x).toNat < S12288.size a := fun v3625 k0_hw1078 => k0_hw1078

def k0_chk1079 (v3626 : IVec S16 32) : Prop :=
  (∀ a x, ((![v3626] : Fin 1 → IVec S16 32) a x).toNat < S4096.size a)
theorem k0_idx1079_inb : ∀ (v3626 : IVec S16 32) (k0_hw1079 : k0_chk1079 v3626), ∀ a x, ((![v3626] : Fin 1 → IVec S16 32) a x).toNat < S4096.size a := fun v3626 k0_hw1079 => k0_hw1079

def k0_chk1080 (v3629 : IVec S16 32) : Prop :=
  (∀ a x, ((![v3629] : Fin 1 → IVec S16 32) a x).toNat < S16.size a)
theorem k0_idx1080_inb : ∀ (v3629 : IVec S16 32) (k0_hw1080 : k0_chk1080 v3629), ∀ a x, ((![v3629] : Fin 1 → IVec S16 32) a x).toNat < S16.size a := fun v3629 k0_hw1080 => k0_hw1080

def k0_chk1081 (v3638 : IVec S16 32) : Prop :=
  (∀ a x, ((![v3638] : Fin 1 → IVec S16 32) a x).toNat < S12288.size a)
theorem k0_idx1081_inb : ∀ (v3638 : IVec S16 32) (k0_hw1081 : k0_chk1081 v3638), ∀ a x, ((![v3638] : Fin 1 → IVec S16 32) a x).toNat < S12288.size a := fun v3638 k0_hw1081 => k0_hw1081

def k0_chk1082 (v3639 : IVec S16 32) : Prop :=
  (∀ a x, ((![v3639] : Fin 1 → IVec S16 32) a x).toNat < S4096.size a)
theorem k0_idx1082_inb : ∀ (v3639 : IVec S16 32) (k0_hw1082 : k0_chk1082 v3639), ∀ a x, ((![v3639] : Fin 1 → IVec S16 32) a x).toNat < S4096.size a := fun v3639 k0_hw1082 => k0_hw1082

def k0_chk1083 (v3642 : IVec S16 32) : Prop :=
  (∀ a x, ((![v3642] : Fin 1 → IVec S16 32) a x).toNat < S12288.size a)
theorem k0_idx1083_inb : ∀ (v3642 : IVec S16 32) (k0_hw1083 : k0_chk1083 v3642), ∀ a x, ((![v3642] : Fin 1 → IVec S16 32) a x).toNat < S12288.size a := fun v3642 k0_hw1083 => k0_hw1083

def k0_chk1084 (v3643 : IVec S16 32) : Prop :=
  (∀ a x, ((![v3643] : Fin 1 → IVec S16 32) a x).toNat < S4096.size a)
theorem k0_idx1084_inb : ∀ (v3643 : IVec S16 32) (k0_hw1084 : k0_chk1084 v3643), ∀ a x, ((![v3643] : Fin 1 → IVec S16 32) a x).toNat < S4096.size a := fun v3643 k0_hw1084 => k0_hw1084

def k0_chk1085 (v3647 : IVec S16 32) : Prop :=
  (∀ a x, ((![v3647] : Fin 1 → IVec S16 32) a x).toNat < S12288.size a)
theorem k0_idx1085_inb : ∀ (v3647 : IVec S16 32) (k0_hw1085 : k0_chk1085 v3647), ∀ a x, ((![v3647] : Fin 1 → IVec S16 32) a x).toNat < S12288.size a := fun v3647 k0_hw1085 => k0_hw1085

def k0_chk1086 (v3648 : IVec S16 32) : Prop :=
  (∀ a x, ((![v3648] : Fin 1 → IVec S16 32) a x).toNat < S4096.size a)
theorem k0_idx1086_inb : ∀ (v3648 : IVec S16 32) (k0_hw1086 : k0_chk1086 v3648), ∀ a x, ((![v3648] : Fin 1 → IVec S16 32) a x).toNat < S4096.size a := fun v3648 k0_hw1086 => k0_hw1086

def k0_chk1087 (v3652 : IVec S16 32) : Prop :=
  (∀ a x, ((![v3652] : Fin 1 → IVec S16 32) a x).toNat < S12288.size a)
theorem k0_idx1087_inb : ∀ (v3652 : IVec S16 32) (k0_hw1087 : k0_chk1087 v3652), ∀ a x, ((![v3652] : Fin 1 → IVec S16 32) a x).toNat < S12288.size a := fun v3652 k0_hw1087 => k0_hw1087

def k0_chk1088 (v3653 : IVec S16 32) : Prop :=
  (∀ a x, ((![v3653] : Fin 1 → IVec S16 32) a x).toNat < S4096.size a)
theorem k0_idx1088_inb : ∀ (v3653 : IVec S16 32) (k0_hw1088 : k0_chk1088 v3653), ∀ a x, ((![v3653] : Fin 1 → IVec S16 32) a x).toNat < S4096.size a := fun v3653 k0_hw1088 => k0_hw1088

def k0_chk1089 (v3656 : IVec S16 32) : Prop :=
  (∀ a x, ((![v3656] : Fin 1 → IVec S16 32) a x).toNat < S16.size a)
theorem k0_idx1089_inb : ∀ (v3656 : IVec S16 32) (k0_hw1089 : k0_chk1089 v3656), ∀ a x, ((![v3656] : Fin 1 → IVec S16 32) a x).toNat < S16.size a := fun v3656 k0_hw1089 => k0_hw1089

def k0_chk1090 (v3665 : IVec S16 32) : Prop :=
  (∀ a x, ((![v3665] : Fin 1 → IVec S16 32) a x).toNat < S12288.size a)
theorem k0_idx1090_inb : ∀ (v3665 : IVec S16 32) (k0_hw1090 : k0_chk1090 v3665), ∀ a x, ((![v3665] : Fin 1 → IVec S16 32) a x).toNat < S12288.size a := fun v3665 k0_hw1090 => k0_hw1090

def k0_chk1091 (v3666 : IVec S16 32) : Prop :=
  (∀ a x, ((![v3666] : Fin 1 → IVec S16 32) a x).toNat < S4096.size a)
theorem k0_idx1091_inb : ∀ (v3666 : IVec S16 32) (k0_hw1091 : k0_chk1091 v3666), ∀ a x, ((![v3666] : Fin 1 → IVec S16 32) a x).toNat < S4096.size a := fun v3666 k0_hw1091 => k0_hw1091

def k0_chk1092 (v3669 : IVec S16 32) : Prop :=
  (∀ a x, ((![v3669] : Fin 1 → IVec S16 32) a x).toNat < S12288.size a)
theorem k0_idx1092_inb : ∀ (v3669 : IVec S16 32) (k0_hw1092 : k0_chk1092 v3669), ∀ a x, ((![v3669] : Fin 1 → IVec S16 32) a x).toNat < S12288.size a := fun v3669 k0_hw1092 => k0_hw1092

def k0_chk1093 (v3670 : IVec S16 32) : Prop :=
  (∀ a x, ((![v3670] : Fin 1 → IVec S16 32) a x).toNat < S4096.size a)
theorem k0_idx1093_inb : ∀ (v3670 : IVec S16 32) (k0_hw1093 : k0_chk1093 v3670), ∀ a x, ((![v3670] : Fin 1 → IVec S16 32) a x).toNat < S4096.size a := fun v3670 k0_hw1093 => k0_hw1093

def k0_chk1094 (v3674 : IVec S16 32) : Prop :=
  (∀ a x, ((![v3674] : Fin 1 → IVec S16 32) a x).toNat < S12288.size a)
theorem k0_idx1094_inb : ∀ (v3674 : IVec S16 32) (k0_hw1094 : k0_chk1094 v3674), ∀ a x, ((![v3674] : Fin 1 → IVec S16 32) a x).toNat < S12288.size a := fun v3674 k0_hw1094 => k0_hw1094

def k0_chk1095 (v3675 : IVec S16 32) : Prop :=
  (∀ a x, ((![v3675] : Fin 1 → IVec S16 32) a x).toNat < S4096.size a)
theorem k0_idx1095_inb : ∀ (v3675 : IVec S16 32) (k0_hw1095 : k0_chk1095 v3675), ∀ a x, ((![v3675] : Fin 1 → IVec S16 32) a x).toNat < S4096.size a := fun v3675 k0_hw1095 => k0_hw1095

def k0_chk1096 (v3679 : IVec S16 32) : Prop :=
  (∀ a x, ((![v3679] : Fin 1 → IVec S16 32) a x).toNat < S12288.size a)
theorem k0_idx1096_inb : ∀ (v3679 : IVec S16 32) (k0_hw1096 : k0_chk1096 v3679), ∀ a x, ((![v3679] : Fin 1 → IVec S16 32) a x).toNat < S12288.size a := fun v3679 k0_hw1096 => k0_hw1096

def k0_chk1097 (v3680 : IVec S16 32) : Prop :=
  (∀ a x, ((![v3680] : Fin 1 → IVec S16 32) a x).toNat < S4096.size a)
theorem k0_idx1097_inb : ∀ (v3680 : IVec S16 32) (k0_hw1097 : k0_chk1097 v3680), ∀ a x, ((![v3680] : Fin 1 → IVec S16 32) a x).toNat < S4096.size a := fun v3680 k0_hw1097 => k0_hw1097

def k0_chk1098 (v3683 : IVec S16 32) : Prop :=
  (∀ a x, ((![v3683] : Fin 1 → IVec S16 32) a x).toNat < S16.size a)
theorem k0_idx1098_inb : ∀ (v3683 : IVec S16 32) (k0_hw1098 : k0_chk1098 v3683), ∀ a x, ((![v3683] : Fin 1 → IVec S16 32) a x).toNat < S16.size a := fun v3683 k0_hw1098 => k0_hw1098

def k0_chk1099 (v3692 : IVec S16 32) : Prop :=
  (∀ a x, ((![v3692] : Fin 1 → IVec S16 32) a x).toNat < S12288.size a)
theorem k0_idx1099_inb : ∀ (v3692 : IVec S16 32) (k0_hw1099 : k0_chk1099 v3692), ∀ a x, ((![v3692] : Fin 1 → IVec S16 32) a x).toNat < S12288.size a := fun v3692 k0_hw1099 => k0_hw1099

def k0_chk1100 (v3693 : IVec S16 32) : Prop :=
  (∀ a x, ((![v3693] : Fin 1 → IVec S16 32) a x).toNat < S4096.size a)
theorem k0_idx1100_inb : ∀ (v3693 : IVec S16 32) (k0_hw1100 : k0_chk1100 v3693), ∀ a x, ((![v3693] : Fin 1 → IVec S16 32) a x).toNat < S4096.size a := fun v3693 k0_hw1100 => k0_hw1100

def k0_chk1101 (v3696 : IVec S16 32) : Prop :=
  (∀ a x, ((![v3696] : Fin 1 → IVec S16 32) a x).toNat < S12288.size a)
theorem k0_idx1101_inb : ∀ (v3696 : IVec S16 32) (k0_hw1101 : k0_chk1101 v3696), ∀ a x, ((![v3696] : Fin 1 → IVec S16 32) a x).toNat < S12288.size a := fun v3696 k0_hw1101 => k0_hw1101

def k0_chk1102 (v3697 : IVec S16 32) : Prop :=
  (∀ a x, ((![v3697] : Fin 1 → IVec S16 32) a x).toNat < S4096.size a)
theorem k0_idx1102_inb : ∀ (v3697 : IVec S16 32) (k0_hw1102 : k0_chk1102 v3697), ∀ a x, ((![v3697] : Fin 1 → IVec S16 32) a x).toNat < S4096.size a := fun v3697 k0_hw1102 => k0_hw1102

def k0_chk1103 (v3701 : IVec S16 32) : Prop :=
  (∀ a x, ((![v3701] : Fin 1 → IVec S16 32) a x).toNat < S12288.size a)
theorem k0_idx1103_inb : ∀ (v3701 : IVec S16 32) (k0_hw1103 : k0_chk1103 v3701), ∀ a x, ((![v3701] : Fin 1 → IVec S16 32) a x).toNat < S12288.size a := fun v3701 k0_hw1103 => k0_hw1103

def k0_chk1104 (v3702 : IVec S16 32) : Prop :=
  (∀ a x, ((![v3702] : Fin 1 → IVec S16 32) a x).toNat < S4096.size a)
theorem k0_idx1104_inb : ∀ (v3702 : IVec S16 32) (k0_hw1104 : k0_chk1104 v3702), ∀ a x, ((![v3702] : Fin 1 → IVec S16 32) a x).toNat < S4096.size a := fun v3702 k0_hw1104 => k0_hw1104

def k0_chk1105 (v3706 : IVec S16 32) : Prop :=
  (∀ a x, ((![v3706] : Fin 1 → IVec S16 32) a x).toNat < S12288.size a)
theorem k0_idx1105_inb : ∀ (v3706 : IVec S16 32) (k0_hw1105 : k0_chk1105 v3706), ∀ a x, ((![v3706] : Fin 1 → IVec S16 32) a x).toNat < S12288.size a := fun v3706 k0_hw1105 => k0_hw1105

def k0_chk1106 (v3707 : IVec S16 32) : Prop :=
  (∀ a x, ((![v3707] : Fin 1 → IVec S16 32) a x).toNat < S4096.size a)
theorem k0_idx1106_inb : ∀ (v3707 : IVec S16 32) (k0_hw1106 : k0_chk1106 v3707), ∀ a x, ((![v3707] : Fin 1 → IVec S16 32) a x).toNat < S4096.size a := fun v3707 k0_hw1106 => k0_hw1106

def k0_chk1107 (v3710 : IVec S16 32) : Prop :=
  (∀ a x, ((![v3710] : Fin 1 → IVec S16 32) a x).toNat < S16.size a)
theorem k0_idx1107_inb : ∀ (v3710 : IVec S16 32) (k0_hw1107 : k0_chk1107 v3710), ∀ a x, ((![v3710] : Fin 1 → IVec S16 32) a x).toNat < S16.size a := fun v3710 k0_hw1107 => k0_hw1107

def k0_chk1108 (v3719 : IVec S16 32) : Prop :=
  (∀ a x, ((![v3719] : Fin 1 → IVec S16 32) a x).toNat < S12288.size a)
theorem k0_idx1108_inb : ∀ (v3719 : IVec S16 32) (k0_hw1108 : k0_chk1108 v3719), ∀ a x, ((![v3719] : Fin 1 → IVec S16 32) a x).toNat < S12288.size a := fun v3719 k0_hw1108 => k0_hw1108

def k0_chk1109 (v3720 : IVec S16 32) : Prop :=
  (∀ a x, ((![v3720] : Fin 1 → IVec S16 32) a x).toNat < S4096.size a)
theorem k0_idx1109_inb : ∀ (v3720 : IVec S16 32) (k0_hw1109 : k0_chk1109 v3720), ∀ a x, ((![v3720] : Fin 1 → IVec S16 32) a x).toNat < S4096.size a := fun v3720 k0_hw1109 => k0_hw1109

def k0_chk1110 (v3723 : IVec S16 32) : Prop :=
  (∀ a x, ((![v3723] : Fin 1 → IVec S16 32) a x).toNat < S12288.size a)
theorem k0_idx1110_inb : ∀ (v3723 : IVec S16 32) (k0_hw1110 : k0_chk1110 v3723), ∀ a x, ((![v3723] : Fin 1 → IVec S16 32) a x).toNat < S12288.size a := fun v3723 k0_hw1110 => k0_hw1110

def k0_chk1111 (v3724 : IVec S16 32) : Prop :=
  (∀ a x, ((![v3724] : Fin 1 → IVec S16 32) a x).toNat < S4096.size a)
theorem k0_idx1111_inb : ∀ (v3724 : IVec S16 32) (k0_hw1111 : k0_chk1111 v3724), ∀ a x, ((![v3724] : Fin 1 → IVec S16 32) a x).toNat < S4096.size a := fun v3724 k0_hw1111 => k0_hw1111

def k0_chk1112 (v3728 : IVec S16 32) : Prop :=
  (∀ a x, ((![v3728] : Fin 1 → IVec S16 32) a x).toNat < S12288.size a)
theorem k0_idx1112_inb : ∀ (v3728 : IVec S16 32) (k0_hw1112 : k0_chk1112 v3728), ∀ a x, ((![v3728] : Fin 1 → IVec S16 32) a x).toNat < S12288.size a := fun v3728 k0_hw1112 => k0_hw1112

def k0_chk1113 (v3729 : IVec S16 32) : Prop :=
  (∀ a x, ((![v3729] : Fin 1 → IVec S16 32) a x).toNat < S4096.size a)
theorem k0_idx1113_inb : ∀ (v3729 : IVec S16 32) (k0_hw1113 : k0_chk1113 v3729), ∀ a x, ((![v3729] : Fin 1 → IVec S16 32) a x).toNat < S4096.size a := fun v3729 k0_hw1113 => k0_hw1113

def k0_chk1114 (v3733 : IVec S16 32) : Prop :=
  (∀ a x, ((![v3733] : Fin 1 → IVec S16 32) a x).toNat < S12288.size a)
theorem k0_idx1114_inb : ∀ (v3733 : IVec S16 32) (k0_hw1114 : k0_chk1114 v3733), ∀ a x, ((![v3733] : Fin 1 → IVec S16 32) a x).toNat < S12288.size a := fun v3733 k0_hw1114 => k0_hw1114

def k0_chk1115 (v3734 : IVec S16 32) : Prop :=
  (∀ a x, ((![v3734] : Fin 1 → IVec S16 32) a x).toNat < S4096.size a)
theorem k0_idx1115_inb : ∀ (v3734 : IVec S16 32) (k0_hw1115 : k0_chk1115 v3734), ∀ a x, ((![v3734] : Fin 1 → IVec S16 32) a x).toNat < S4096.size a := fun v3734 k0_hw1115 => k0_hw1115

def k0_chk1116 (v3737 : IVec S16 32) : Prop :=
  (∀ a x, ((![v3737] : Fin 1 → IVec S16 32) a x).toNat < S16.size a)
theorem k0_idx1116_inb : ∀ (v3737 : IVec S16 32) (k0_hw1116 : k0_chk1116 v3737), ∀ a x, ((![v3737] : Fin 1 → IVec S16 32) a x).toNat < S16.size a := fun v3737 k0_hw1116 => k0_hw1116

def k0_chk1117 (v3746 : IVec S16 32) : Prop :=
  (∀ a x, ((![v3746] : Fin 1 → IVec S16 32) a x).toNat < S12288.size a)
theorem k0_idx1117_inb : ∀ (v3746 : IVec S16 32) (k0_hw1117 : k0_chk1117 v3746), ∀ a x, ((![v3746] : Fin 1 → IVec S16 32) a x).toNat < S12288.size a := fun v3746 k0_hw1117 => k0_hw1117

def k0_chk1118 (v3747 : IVec S16 32) : Prop :=
  (∀ a x, ((![v3747] : Fin 1 → IVec S16 32) a x).toNat < S4096.size a)
theorem k0_idx1118_inb : ∀ (v3747 : IVec S16 32) (k0_hw1118 : k0_chk1118 v3747), ∀ a x, ((![v3747] : Fin 1 → IVec S16 32) a x).toNat < S4096.size a := fun v3747 k0_hw1118 => k0_hw1118

def k0_chk1119 (v3750 : IVec S16 32) : Prop :=
  (∀ a x, ((![v3750] : Fin 1 → IVec S16 32) a x).toNat < S12288.size a)
theorem k0_idx1119_inb : ∀ (v3750 : IVec S16 32) (k0_hw1119 : k0_chk1119 v3750), ∀ a x, ((![v3750] : Fin 1 → IVec S16 32) a x).toNat < S12288.size a := fun v3750 k0_hw1119 => k0_hw1119

def k0_chk1120 (v3751 : IVec S16 32) : Prop :=
  (∀ a x, ((![v3751] : Fin 1 → IVec S16 32) a x).toNat < S4096.size a)
theorem k0_idx1120_inb : ∀ (v3751 : IVec S16 32) (k0_hw1120 : k0_chk1120 v3751), ∀ a x, ((![v3751] : Fin 1 → IVec S16 32) a x).toNat < S4096.size a := fun v3751 k0_hw1120 => k0_hw1120

def k0_chk1121 (v3755 : IVec S16 32) : Prop :=
  (∀ a x, ((![v3755] : Fin 1 → IVec S16 32) a x).toNat < S12288.size a)
theorem k0_idx1121_inb : ∀ (v3755 : IVec S16 32) (k0_hw1121 : k0_chk1121 v3755), ∀ a x, ((![v3755] : Fin 1 → IVec S16 32) a x).toNat < S12288.size a := fun v3755 k0_hw1121 => k0_hw1121

def k0_chk1122 (v3756 : IVec S16 32) : Prop :=
  (∀ a x, ((![v3756] : Fin 1 → IVec S16 32) a x).toNat < S4096.size a)
theorem k0_idx1122_inb : ∀ (v3756 : IVec S16 32) (k0_hw1122 : k0_chk1122 v3756), ∀ a x, ((![v3756] : Fin 1 → IVec S16 32) a x).toNat < S4096.size a := fun v3756 k0_hw1122 => k0_hw1122

def k0_chk1123 (v3760 : IVec S16 32) : Prop :=
  (∀ a x, ((![v3760] : Fin 1 → IVec S16 32) a x).toNat < S12288.size a)
theorem k0_idx1123_inb : ∀ (v3760 : IVec S16 32) (k0_hw1123 : k0_chk1123 v3760), ∀ a x, ((![v3760] : Fin 1 → IVec S16 32) a x).toNat < S12288.size a := fun v3760 k0_hw1123 => k0_hw1123

def k0_chk1124 (v3761 : IVec S16 32) : Prop :=
  (∀ a x, ((![v3761] : Fin 1 → IVec S16 32) a x).toNat < S4096.size a)
theorem k0_idx1124_inb : ∀ (v3761 : IVec S16 32) (k0_hw1124 : k0_chk1124 v3761), ∀ a x, ((![v3761] : Fin 1 → IVec S16 32) a x).toNat < S4096.size a := fun v3761 k0_hw1124 => k0_hw1124

def k0_chk1125 (v3764 : IVec S16 32) : Prop :=
  (∀ a x, ((![v3764] : Fin 1 → IVec S16 32) a x).toNat < S16.size a)
theorem k0_idx1125_inb : ∀ (v3764 : IVec S16 32) (k0_hw1125 : k0_chk1125 v3764), ∀ a x, ((![v3764] : Fin 1 → IVec S16 32) a x).toNat < S16.size a := fun v3764 k0_hw1125 => k0_hw1125

def k0_chk1126 (v3773 : IVec S16 32) : Prop :=
  (∀ a x, ((![v3773] : Fin 1 → IVec S16 32) a x).toNat < S12288.size a)
theorem k0_idx1126_inb : ∀ (v3773 : IVec S16 32) (k0_hw1126 : k0_chk1126 v3773), ∀ a x, ((![v3773] : Fin 1 → IVec S16 32) a x).toNat < S12288.size a := fun v3773 k0_hw1126 => k0_hw1126

def k0_chk1127 (v3774 : IVec S16 32) : Prop :=
  (∀ a x, ((![v3774] : Fin 1 → IVec S16 32) a x).toNat < S4096.size a)
theorem k0_idx1127_inb : ∀ (v3774 : IVec S16 32) (k0_hw1127 : k0_chk1127 v3774), ∀ a x, ((![v3774] : Fin 1 → IVec S16 32) a x).toNat < S4096.size a := fun v3774 k0_hw1127 => k0_hw1127

def k0_chk1128 (v3777 : IVec S16 32) : Prop :=
  (∀ a x, ((![v3777] : Fin 1 → IVec S16 32) a x).toNat < S12288.size a)
theorem k0_idx1128_inb : ∀ (v3777 : IVec S16 32) (k0_hw1128 : k0_chk1128 v3777), ∀ a x, ((![v3777] : Fin 1 → IVec S16 32) a x).toNat < S12288.size a := fun v3777 k0_hw1128 => k0_hw1128

def k0_chk1129 (v3778 : IVec S16 32) : Prop :=
  (∀ a x, ((![v3778] : Fin 1 → IVec S16 32) a x).toNat < S4096.size a)
theorem k0_idx1129_inb : ∀ (v3778 : IVec S16 32) (k0_hw1129 : k0_chk1129 v3778), ∀ a x, ((![v3778] : Fin 1 → IVec S16 32) a x).toNat < S4096.size a := fun v3778 k0_hw1129 => k0_hw1129

def k0_chk1130 (v3782 : IVec S16 32) : Prop :=
  (∀ a x, ((![v3782] : Fin 1 → IVec S16 32) a x).toNat < S12288.size a)
theorem k0_idx1130_inb : ∀ (v3782 : IVec S16 32) (k0_hw1130 : k0_chk1130 v3782), ∀ a x, ((![v3782] : Fin 1 → IVec S16 32) a x).toNat < S12288.size a := fun v3782 k0_hw1130 => k0_hw1130

def k0_chk1131 (v3783 : IVec S16 32) : Prop :=
  (∀ a x, ((![v3783] : Fin 1 → IVec S16 32) a x).toNat < S4096.size a)
theorem k0_idx1131_inb : ∀ (v3783 : IVec S16 32) (k0_hw1131 : k0_chk1131 v3783), ∀ a x, ((![v3783] : Fin 1 → IVec S16 32) a x).toNat < S4096.size a := fun v3783 k0_hw1131 => k0_hw1131

def k0_chk1132 (v3787 : IVec S16 32) : Prop :=
  (∀ a x, ((![v3787] : Fin 1 → IVec S16 32) a x).toNat < S12288.size a)
theorem k0_idx1132_inb : ∀ (v3787 : IVec S16 32) (k0_hw1132 : k0_chk1132 v3787), ∀ a x, ((![v3787] : Fin 1 → IVec S16 32) a x).toNat < S12288.size a := fun v3787 k0_hw1132 => k0_hw1132

def k0_chk1133 (v3788 : IVec S16 32) : Prop :=
  (∀ a x, ((![v3788] : Fin 1 → IVec S16 32) a x).toNat < S4096.size a)
theorem k0_idx1133_inb : ∀ (v3788 : IVec S16 32) (k0_hw1133 : k0_chk1133 v3788), ∀ a x, ((![v3788] : Fin 1 → IVec S16 32) a x).toNat < S4096.size a := fun v3788 k0_hw1133 => k0_hw1133

def k0_chk1134 (v3791 : IVec S16 32) : Prop :=
  (∀ a x, ((![v3791] : Fin 1 → IVec S16 32) a x).toNat < S16.size a)
theorem k0_idx1134_inb : ∀ (v3791 : IVec S16 32) (k0_hw1134 : k0_chk1134 v3791), ∀ a x, ((![v3791] : Fin 1 → IVec S16 32) a x).toNat < S16.size a := fun v3791 k0_hw1134 => k0_hw1134

def k0_chk1135 (v3800 : IVec S16 32) : Prop :=
  (∀ a x, ((![v3800] : Fin 1 → IVec S16 32) a x).toNat < S12288.size a)
theorem k0_idx1135_inb : ∀ (v3800 : IVec S16 32) (k0_hw1135 : k0_chk1135 v3800), ∀ a x, ((![v3800] : Fin 1 → IVec S16 32) a x).toNat < S12288.size a := fun v3800 k0_hw1135 => k0_hw1135

def k0_chk1136 (v3801 : IVec S16 32) : Prop :=
  (∀ a x, ((![v3801] : Fin 1 → IVec S16 32) a x).toNat < S4096.size a)
theorem k0_idx1136_inb : ∀ (v3801 : IVec S16 32) (k0_hw1136 : k0_chk1136 v3801), ∀ a x, ((![v3801] : Fin 1 → IVec S16 32) a x).toNat < S4096.size a := fun v3801 k0_hw1136 => k0_hw1136

def k0_chk1137 (v3804 : IVec S16 32) : Prop :=
  (∀ a x, ((![v3804] : Fin 1 → IVec S16 32) a x).toNat < S12288.size a)
theorem k0_idx1137_inb : ∀ (v3804 : IVec S16 32) (k0_hw1137 : k0_chk1137 v3804), ∀ a x, ((![v3804] : Fin 1 → IVec S16 32) a x).toNat < S12288.size a := fun v3804 k0_hw1137 => k0_hw1137

def k0_chk1138 (v3805 : IVec S16 32) : Prop :=
  (∀ a x, ((![v3805] : Fin 1 → IVec S16 32) a x).toNat < S4096.size a)
theorem k0_idx1138_inb : ∀ (v3805 : IVec S16 32) (k0_hw1138 : k0_chk1138 v3805), ∀ a x, ((![v3805] : Fin 1 → IVec S16 32) a x).toNat < S4096.size a := fun v3805 k0_hw1138 => k0_hw1138

def k0_chk1139 (v3809 : IVec S16 32) : Prop :=
  (∀ a x, ((![v3809] : Fin 1 → IVec S16 32) a x).toNat < S12288.size a)
theorem k0_idx1139_inb : ∀ (v3809 : IVec S16 32) (k0_hw1139 : k0_chk1139 v3809), ∀ a x, ((![v3809] : Fin 1 → IVec S16 32) a x).toNat < S12288.size a := fun v3809 k0_hw1139 => k0_hw1139

def k0_chk1140 (v3810 : IVec S16 32) : Prop :=
  (∀ a x, ((![v3810] : Fin 1 → IVec S16 32) a x).toNat < S4096.size a)
theorem k0_idx1140_inb : ∀ (v3810 : IVec S16 32) (k0_hw1140 : k0_chk1140 v3810), ∀ a x, ((![v3810] : Fin 1 → IVec S16 32) a x).toNat < S4096.size a := fun v3810 k0_hw1140 => k0_hw1140

def k0_chk1141 (v3814 : IVec S16 32) : Prop :=
  (∀ a x, ((![v3814] : Fin 1 → IVec S16 32) a x).toNat < S12288.size a)
theorem k0_idx1141_inb : ∀ (v3814 : IVec S16 32) (k0_hw1141 : k0_chk1141 v3814), ∀ a x, ((![v3814] : Fin 1 → IVec S16 32) a x).toNat < S12288.size a := fun v3814 k0_hw1141 => k0_hw1141

def k0_chk1142 (v3815 : IVec S16 32) : Prop :=
  (∀ a x, ((![v3815] : Fin 1 → IVec S16 32) a x).toNat < S4096.size a)
theorem k0_idx1142_inb : ∀ (v3815 : IVec S16 32) (k0_hw1142 : k0_chk1142 v3815), ∀ a x, ((![v3815] : Fin 1 → IVec S16 32) a x).toNat < S4096.size a := fun v3815 k0_hw1142 => k0_hw1142

def k0_chk1143 (v3818 : IVec S16 32) : Prop :=
  (∀ a x, ((![v3818] : Fin 1 → IVec S16 32) a x).toNat < S16.size a)
theorem k0_idx1143_inb : ∀ (v3818 : IVec S16 32) (k0_hw1143 : k0_chk1143 v3818), ∀ a x, ((![v3818] : Fin 1 → IVec S16 32) a x).toNat < S16.size a := fun v3818 k0_hw1143 => k0_hw1143

def k0_chk1144 (v3827 : IVec S16 32) : Prop :=
  (∀ a x, ((![v3827] : Fin 1 → IVec S16 32) a x).toNat < S12288.size a)
theorem k0_idx1144_inb : ∀ (v3827 : IVec S16 32) (k0_hw1144 : k0_chk1144 v3827), ∀ a x, ((![v3827] : Fin 1 → IVec S16 32) a x).toNat < S12288.size a := fun v3827 k0_hw1144 => k0_hw1144

def k0_chk1145 (v3828 : IVec S16 32) : Prop :=
  (∀ a x, ((![v3828] : Fin 1 → IVec S16 32) a x).toNat < S4096.size a)
theorem k0_idx1145_inb : ∀ (v3828 : IVec S16 32) (k0_hw1145 : k0_chk1145 v3828), ∀ a x, ((![v3828] : Fin 1 → IVec S16 32) a x).toNat < S4096.size a := fun v3828 k0_hw1145 => k0_hw1145

def k0_chk1146 (v3831 : IVec S16 32) : Prop :=
  (∀ a x, ((![v3831] : Fin 1 → IVec S16 32) a x).toNat < S12288.size a)
theorem k0_idx1146_inb : ∀ (v3831 : IVec S16 32) (k0_hw1146 : k0_chk1146 v3831), ∀ a x, ((![v3831] : Fin 1 → IVec S16 32) a x).toNat < S12288.size a := fun v3831 k0_hw1146 => k0_hw1146

def k0_chk1147 (v3832 : IVec S16 32) : Prop :=
  (∀ a x, ((![v3832] : Fin 1 → IVec S16 32) a x).toNat < S4096.size a)
theorem k0_idx1147_inb : ∀ (v3832 : IVec S16 32) (k0_hw1147 : k0_chk1147 v3832), ∀ a x, ((![v3832] : Fin 1 → IVec S16 32) a x).toNat < S4096.size a := fun v3832 k0_hw1147 => k0_hw1147

def k0_chk1148 (v3836 : IVec S16 32) : Prop :=
  (∀ a x, ((![v3836] : Fin 1 → IVec S16 32) a x).toNat < S12288.size a)
theorem k0_idx1148_inb : ∀ (v3836 : IVec S16 32) (k0_hw1148 : k0_chk1148 v3836), ∀ a x, ((![v3836] : Fin 1 → IVec S16 32) a x).toNat < S12288.size a := fun v3836 k0_hw1148 => k0_hw1148

def k0_chk1149 (v3837 : IVec S16 32) : Prop :=
  (∀ a x, ((![v3837] : Fin 1 → IVec S16 32) a x).toNat < S4096.size a)
theorem k0_idx1149_inb : ∀ (v3837 : IVec S16 32) (k0_hw1149 : k0_chk1149 v3837), ∀ a x, ((![v3837] : Fin 1 → IVec S16 32) a x).toNat < S4096.size a := fun v3837 k0_hw1149 => k0_hw1149

def k0_chk1150 (v3841 : IVec S16 32) : Prop :=
  (∀ a x, ((![v3841] : Fin 1 → IVec S16 32) a x).toNat < S12288.size a)
theorem k0_idx1150_inb : ∀ (v3841 : IVec S16 32) (k0_hw1150 : k0_chk1150 v3841), ∀ a x, ((![v3841] : Fin 1 → IVec S16 32) a x).toNat < S12288.size a := fun v3841 k0_hw1150 => k0_hw1150

def k0_chk1151 (v3842 : IVec S16 32) : Prop :=
  (∀ a x, ((![v3842] : Fin 1 → IVec S16 32) a x).toNat < S4096.size a)
theorem k0_idx1151_inb : ∀ (v3842 : IVec S16 32) (k0_hw1151 : k0_chk1151 v3842), ∀ a x, ((![v3842] : Fin 1 → IVec S16 32) a x).toNat < S4096.size a := fun v3842 k0_hw1151 => k0_hw1151

def k0_chk1152 (v3845 : IVec S16 32) : Prop :=
  (∀ a x, ((![v3845] : Fin 1 → IVec S16 32) a x).toNat < S16.size a)
theorem k0_idx1152_inb : ∀ (v3845 : IVec S16 32) (k0_hw1152 : k0_chk1152 v3845), ∀ a x, ((![v3845] : Fin 1 → IVec S16 32) a x).toNat < S16.size a := fun v3845 k0_hw1152 => k0_hw1152
def k0_off39 (i : grid0.Coords) : Fin 2 → Nat :=
  let c1_i32_745 : BitVec 32 := 1#32
  let arg1 : BitVec 32 := BitVec.ofNat 32 (i 1).val
  let c256_i32_744 : BitVec 32 := 256#32
  let v3853 : BitVec 32 := Scalar.muli arg1 c256_i32_744
  ![1, v3853.toNat]
def k0_off40 (i : grid0.Coords) : Fin 2 → Nat :=
  let c7_i32_748 : BitVec 32 := 7#32
  let arg1 : BitVec 32 := BitVec.ofNat 32 (i 1).val
  let c256_i32_746 : BitVec 32 := 256#32
  let v3854 : BitVec 32 := Scalar.muli arg1 c256_i32_746
  ![7, v3854.toNat]

def k0_chk1153 (v3864 : IVec S16 32) : Prop :=
  (∀ a x, ((![v3864] : Fin 1 → IVec S16 32) a x).toNat < S12288.size a)
theorem k0_idx1153_inb : ∀ (v3864 : IVec S16 32) (k0_hw1153 : k0_chk1153 v3864), ∀ a x, ((![v3864] : Fin 1 → IVec S16 32) a x).toNat < S12288.size a := fun v3864 k0_hw1153 => k0_hw1153

def k0_chk1154 (v3865 : IVec S16 32) : Prop :=
  (∀ a x, ((![v3865] : Fin 1 → IVec S16 32) a x).toNat < S4096.size a)
theorem k0_idx1154_inb : ∀ (v3865 : IVec S16 32) (k0_hw1154 : k0_chk1154 v3865), ∀ a x, ((![v3865] : Fin 1 → IVec S16 32) a x).toNat < S4096.size a := fun v3865 k0_hw1154 => k0_hw1154

def k0_chk1155 (v3868 : IVec S16 32) : Prop :=
  (∀ a x, ((![v3868] : Fin 1 → IVec S16 32) a x).toNat < S12288.size a)
theorem k0_idx1155_inb : ∀ (v3868 : IVec S16 32) (k0_hw1155 : k0_chk1155 v3868), ∀ a x, ((![v3868] : Fin 1 → IVec S16 32) a x).toNat < S12288.size a := fun v3868 k0_hw1155 => k0_hw1155

def k0_chk1156 (v3869 : IVec S16 32) : Prop :=
  (∀ a x, ((![v3869] : Fin 1 → IVec S16 32) a x).toNat < S4096.size a)
theorem k0_idx1156_inb : ∀ (v3869 : IVec S16 32) (k0_hw1156 : k0_chk1156 v3869), ∀ a x, ((![v3869] : Fin 1 → IVec S16 32) a x).toNat < S4096.size a := fun v3869 k0_hw1156 => k0_hw1156

def k0_chk1157 (v3873 : IVec S16 32) : Prop :=
  (∀ a x, ((![v3873] : Fin 1 → IVec S16 32) a x).toNat < S12288.size a)
theorem k0_idx1157_inb : ∀ (v3873 : IVec S16 32) (k0_hw1157 : k0_chk1157 v3873), ∀ a x, ((![v3873] : Fin 1 → IVec S16 32) a x).toNat < S12288.size a := fun v3873 k0_hw1157 => k0_hw1157

def k0_chk1158 (v3874 : IVec S16 32) : Prop :=
  (∀ a x, ((![v3874] : Fin 1 → IVec S16 32) a x).toNat < S4096.size a)
theorem k0_idx1158_inb : ∀ (v3874 : IVec S16 32) (k0_hw1158 : k0_chk1158 v3874), ∀ a x, ((![v3874] : Fin 1 → IVec S16 32) a x).toNat < S4096.size a := fun v3874 k0_hw1158 => k0_hw1158

def k0_chk1159 (v3878 : IVec S16 32) : Prop :=
  (∀ a x, ((![v3878] : Fin 1 → IVec S16 32) a x).toNat < S12288.size a)
theorem k0_idx1159_inb : ∀ (v3878 : IVec S16 32) (k0_hw1159 : k0_chk1159 v3878), ∀ a x, ((![v3878] : Fin 1 → IVec S16 32) a x).toNat < S12288.size a := fun v3878 k0_hw1159 => k0_hw1159

def k0_chk1160 (v3879 : IVec S16 32) : Prop :=
  (∀ a x, ((![v3879] : Fin 1 → IVec S16 32) a x).toNat < S4096.size a)
theorem k0_idx1160_inb : ∀ (v3879 : IVec S16 32) (k0_hw1160 : k0_chk1160 v3879), ∀ a x, ((![v3879] : Fin 1 → IVec S16 32) a x).toNat < S4096.size a := fun v3879 k0_hw1160 => k0_hw1160

def k0_chk1161 (v3882 : IVec S16 32) : Prop :=
  (∀ a x, ((![v3882] : Fin 1 → IVec S16 32) a x).toNat < S16.size a)
theorem k0_idx1161_inb : ∀ (v3882 : IVec S16 32) (k0_hw1161 : k0_chk1161 v3882), ∀ a x, ((![v3882] : Fin 1 → IVec S16 32) a x).toNat < S16.size a := fun v3882 k0_hw1161 => k0_hw1161

def k0_chk1162 (v3891 : IVec S16 32) : Prop :=
  (∀ a x, ((![v3891] : Fin 1 → IVec S16 32) a x).toNat < S12288.size a)
theorem k0_idx1162_inb : ∀ (v3891 : IVec S16 32) (k0_hw1162 : k0_chk1162 v3891), ∀ a x, ((![v3891] : Fin 1 → IVec S16 32) a x).toNat < S12288.size a := fun v3891 k0_hw1162 => k0_hw1162

def k0_chk1163 (v3892 : IVec S16 32) : Prop :=
  (∀ a x, ((![v3892] : Fin 1 → IVec S16 32) a x).toNat < S4096.size a)
theorem k0_idx1163_inb : ∀ (v3892 : IVec S16 32) (k0_hw1163 : k0_chk1163 v3892), ∀ a x, ((![v3892] : Fin 1 → IVec S16 32) a x).toNat < S4096.size a := fun v3892 k0_hw1163 => k0_hw1163

def k0_chk1164 (v3895 : IVec S16 32) : Prop :=
  (∀ a x, ((![v3895] : Fin 1 → IVec S16 32) a x).toNat < S12288.size a)
theorem k0_idx1164_inb : ∀ (v3895 : IVec S16 32) (k0_hw1164 : k0_chk1164 v3895), ∀ a x, ((![v3895] : Fin 1 → IVec S16 32) a x).toNat < S12288.size a := fun v3895 k0_hw1164 => k0_hw1164

def k0_chk1165 (v3896 : IVec S16 32) : Prop :=
  (∀ a x, ((![v3896] : Fin 1 → IVec S16 32) a x).toNat < S4096.size a)
theorem k0_idx1165_inb : ∀ (v3896 : IVec S16 32) (k0_hw1165 : k0_chk1165 v3896), ∀ a x, ((![v3896] : Fin 1 → IVec S16 32) a x).toNat < S4096.size a := fun v3896 k0_hw1165 => k0_hw1165

def k0_chk1166 (v3900 : IVec S16 32) : Prop :=
  (∀ a x, ((![v3900] : Fin 1 → IVec S16 32) a x).toNat < S12288.size a)
theorem k0_idx1166_inb : ∀ (v3900 : IVec S16 32) (k0_hw1166 : k0_chk1166 v3900), ∀ a x, ((![v3900] : Fin 1 → IVec S16 32) a x).toNat < S12288.size a := fun v3900 k0_hw1166 => k0_hw1166

def k0_chk1167 (v3901 : IVec S16 32) : Prop :=
  (∀ a x, ((![v3901] : Fin 1 → IVec S16 32) a x).toNat < S4096.size a)
theorem k0_idx1167_inb : ∀ (v3901 : IVec S16 32) (k0_hw1167 : k0_chk1167 v3901), ∀ a x, ((![v3901] : Fin 1 → IVec S16 32) a x).toNat < S4096.size a := fun v3901 k0_hw1167 => k0_hw1167

def k0_chk1168 (v3905 : IVec S16 32) : Prop :=
  (∀ a x, ((![v3905] : Fin 1 → IVec S16 32) a x).toNat < S12288.size a)
theorem k0_idx1168_inb : ∀ (v3905 : IVec S16 32) (k0_hw1168 : k0_chk1168 v3905), ∀ a x, ((![v3905] : Fin 1 → IVec S16 32) a x).toNat < S12288.size a := fun v3905 k0_hw1168 => k0_hw1168

def k0_chk1169 (v3906 : IVec S16 32) : Prop :=
  (∀ a x, ((![v3906] : Fin 1 → IVec S16 32) a x).toNat < S4096.size a)
theorem k0_idx1169_inb : ∀ (v3906 : IVec S16 32) (k0_hw1169 : k0_chk1169 v3906), ∀ a x, ((![v3906] : Fin 1 → IVec S16 32) a x).toNat < S4096.size a := fun v3906 k0_hw1169 => k0_hw1169

def k0_chk1170 (v3909 : IVec S16 32) : Prop :=
  (∀ a x, ((![v3909] : Fin 1 → IVec S16 32) a x).toNat < S16.size a)
theorem k0_idx1170_inb : ∀ (v3909 : IVec S16 32) (k0_hw1170 : k0_chk1170 v3909), ∀ a x, ((![v3909] : Fin 1 → IVec S16 32) a x).toNat < S16.size a := fun v3909 k0_hw1170 => k0_hw1170

def k0_chk1171 (v3918 : IVec S16 32) : Prop :=
  (∀ a x, ((![v3918] : Fin 1 → IVec S16 32) a x).toNat < S12288.size a)
theorem k0_idx1171_inb : ∀ (v3918 : IVec S16 32) (k0_hw1171 : k0_chk1171 v3918), ∀ a x, ((![v3918] : Fin 1 → IVec S16 32) a x).toNat < S12288.size a := fun v3918 k0_hw1171 => k0_hw1171

def k0_chk1172 (v3919 : IVec S16 32) : Prop :=
  (∀ a x, ((![v3919] : Fin 1 → IVec S16 32) a x).toNat < S4096.size a)
theorem k0_idx1172_inb : ∀ (v3919 : IVec S16 32) (k0_hw1172 : k0_chk1172 v3919), ∀ a x, ((![v3919] : Fin 1 → IVec S16 32) a x).toNat < S4096.size a := fun v3919 k0_hw1172 => k0_hw1172

def k0_chk1173 (v3922 : IVec S16 32) : Prop :=
  (∀ a x, ((![v3922] : Fin 1 → IVec S16 32) a x).toNat < S12288.size a)
theorem k0_idx1173_inb : ∀ (v3922 : IVec S16 32) (k0_hw1173 : k0_chk1173 v3922), ∀ a x, ((![v3922] : Fin 1 → IVec S16 32) a x).toNat < S12288.size a := fun v3922 k0_hw1173 => k0_hw1173

def k0_chk1174 (v3923 : IVec S16 32) : Prop :=
  (∀ a x, ((![v3923] : Fin 1 → IVec S16 32) a x).toNat < S4096.size a)
theorem k0_idx1174_inb : ∀ (v3923 : IVec S16 32) (k0_hw1174 : k0_chk1174 v3923), ∀ a x, ((![v3923] : Fin 1 → IVec S16 32) a x).toNat < S4096.size a := fun v3923 k0_hw1174 => k0_hw1174

def k0_chk1175 (v3927 : IVec S16 32) : Prop :=
  (∀ a x, ((![v3927] : Fin 1 → IVec S16 32) a x).toNat < S12288.size a)
theorem k0_idx1175_inb : ∀ (v3927 : IVec S16 32) (k0_hw1175 : k0_chk1175 v3927), ∀ a x, ((![v3927] : Fin 1 → IVec S16 32) a x).toNat < S12288.size a := fun v3927 k0_hw1175 => k0_hw1175

def k0_chk1176 (v3928 : IVec S16 32) : Prop :=
  (∀ a x, ((![v3928] : Fin 1 → IVec S16 32) a x).toNat < S4096.size a)
theorem k0_idx1176_inb : ∀ (v3928 : IVec S16 32) (k0_hw1176 : k0_chk1176 v3928), ∀ a x, ((![v3928] : Fin 1 → IVec S16 32) a x).toNat < S4096.size a := fun v3928 k0_hw1176 => k0_hw1176

def k0_chk1177 (v3932 : IVec S16 32) : Prop :=
  (∀ a x, ((![v3932] : Fin 1 → IVec S16 32) a x).toNat < S12288.size a)
theorem k0_idx1177_inb : ∀ (v3932 : IVec S16 32) (k0_hw1177 : k0_chk1177 v3932), ∀ a x, ((![v3932] : Fin 1 → IVec S16 32) a x).toNat < S12288.size a := fun v3932 k0_hw1177 => k0_hw1177

def k0_chk1178 (v3933 : IVec S16 32) : Prop :=
  (∀ a x, ((![v3933] : Fin 1 → IVec S16 32) a x).toNat < S4096.size a)
theorem k0_idx1178_inb : ∀ (v3933 : IVec S16 32) (k0_hw1178 : k0_chk1178 v3933), ∀ a x, ((![v3933] : Fin 1 → IVec S16 32) a x).toNat < S4096.size a := fun v3933 k0_hw1178 => k0_hw1178

def k0_chk1179 (v3936 : IVec S16 32) : Prop :=
  (∀ a x, ((![v3936] : Fin 1 → IVec S16 32) a x).toNat < S16.size a)
theorem k0_idx1179_inb : ∀ (v3936 : IVec S16 32) (k0_hw1179 : k0_chk1179 v3936), ∀ a x, ((![v3936] : Fin 1 → IVec S16 32) a x).toNat < S16.size a := fun v3936 k0_hw1179 => k0_hw1179

def k0_chk1180 (v3945 : IVec S16 32) : Prop :=
  (∀ a x, ((![v3945] : Fin 1 → IVec S16 32) a x).toNat < S12288.size a)
theorem k0_idx1180_inb : ∀ (v3945 : IVec S16 32) (k0_hw1180 : k0_chk1180 v3945), ∀ a x, ((![v3945] : Fin 1 → IVec S16 32) a x).toNat < S12288.size a := fun v3945 k0_hw1180 => k0_hw1180

def k0_chk1181 (v3946 : IVec S16 32) : Prop :=
  (∀ a x, ((![v3946] : Fin 1 → IVec S16 32) a x).toNat < S4096.size a)
theorem k0_idx1181_inb : ∀ (v3946 : IVec S16 32) (k0_hw1181 : k0_chk1181 v3946), ∀ a x, ((![v3946] : Fin 1 → IVec S16 32) a x).toNat < S4096.size a := fun v3946 k0_hw1181 => k0_hw1181

def k0_chk1182 (v3949 : IVec S16 32) : Prop :=
  (∀ a x, ((![v3949] : Fin 1 → IVec S16 32) a x).toNat < S12288.size a)
theorem k0_idx1182_inb : ∀ (v3949 : IVec S16 32) (k0_hw1182 : k0_chk1182 v3949), ∀ a x, ((![v3949] : Fin 1 → IVec S16 32) a x).toNat < S12288.size a := fun v3949 k0_hw1182 => k0_hw1182

def k0_chk1183 (v3950 : IVec S16 32) : Prop :=
  (∀ a x, ((![v3950] : Fin 1 → IVec S16 32) a x).toNat < S4096.size a)
theorem k0_idx1183_inb : ∀ (v3950 : IVec S16 32) (k0_hw1183 : k0_chk1183 v3950), ∀ a x, ((![v3950] : Fin 1 → IVec S16 32) a x).toNat < S4096.size a := fun v3950 k0_hw1183 => k0_hw1183

def k0_chk1184 (v3954 : IVec S16 32) : Prop :=
  (∀ a x, ((![v3954] : Fin 1 → IVec S16 32) a x).toNat < S12288.size a)
theorem k0_idx1184_inb : ∀ (v3954 : IVec S16 32) (k0_hw1184 : k0_chk1184 v3954), ∀ a x, ((![v3954] : Fin 1 → IVec S16 32) a x).toNat < S12288.size a := fun v3954 k0_hw1184 => k0_hw1184

def k0_chk1185 (v3955 : IVec S16 32) : Prop :=
  (∀ a x, ((![v3955] : Fin 1 → IVec S16 32) a x).toNat < S4096.size a)
theorem k0_idx1185_inb : ∀ (v3955 : IVec S16 32) (k0_hw1185 : k0_chk1185 v3955), ∀ a x, ((![v3955] : Fin 1 → IVec S16 32) a x).toNat < S4096.size a := fun v3955 k0_hw1185 => k0_hw1185

def k0_chk1186 (v3959 : IVec S16 32) : Prop :=
  (∀ a x, ((![v3959] : Fin 1 → IVec S16 32) a x).toNat < S12288.size a)
theorem k0_idx1186_inb : ∀ (v3959 : IVec S16 32) (k0_hw1186 : k0_chk1186 v3959), ∀ a x, ((![v3959] : Fin 1 → IVec S16 32) a x).toNat < S12288.size a := fun v3959 k0_hw1186 => k0_hw1186

def k0_chk1187 (v3960 : IVec S16 32) : Prop :=
  (∀ a x, ((![v3960] : Fin 1 → IVec S16 32) a x).toNat < S4096.size a)
theorem k0_idx1187_inb : ∀ (v3960 : IVec S16 32) (k0_hw1187 : k0_chk1187 v3960), ∀ a x, ((![v3960] : Fin 1 → IVec S16 32) a x).toNat < S4096.size a := fun v3960 k0_hw1187 => k0_hw1187

def k0_chk1188 (v3963 : IVec S16 32) : Prop :=
  (∀ a x, ((![v3963] : Fin 1 → IVec S16 32) a x).toNat < S16.size a)
theorem k0_idx1188_inb : ∀ (v3963 : IVec S16 32) (k0_hw1188 : k0_chk1188 v3963), ∀ a x, ((![v3963] : Fin 1 → IVec S16 32) a x).toNat < S16.size a := fun v3963 k0_hw1188 => k0_hw1188

def k0_chk1189 (v3972 : IVec S16 32) : Prop :=
  (∀ a x, ((![v3972] : Fin 1 → IVec S16 32) a x).toNat < S12288.size a)
theorem k0_idx1189_inb : ∀ (v3972 : IVec S16 32) (k0_hw1189 : k0_chk1189 v3972), ∀ a x, ((![v3972] : Fin 1 → IVec S16 32) a x).toNat < S12288.size a := fun v3972 k0_hw1189 => k0_hw1189

def k0_chk1190 (v3973 : IVec S16 32) : Prop :=
  (∀ a x, ((![v3973] : Fin 1 → IVec S16 32) a x).toNat < S4096.size a)
theorem k0_idx1190_inb : ∀ (v3973 : IVec S16 32) (k0_hw1190 : k0_chk1190 v3973), ∀ a x, ((![v3973] : Fin 1 → IVec S16 32) a x).toNat < S4096.size a := fun v3973 k0_hw1190 => k0_hw1190

def k0_chk1191 (v3976 : IVec S16 32) : Prop :=
  (∀ a x, ((![v3976] : Fin 1 → IVec S16 32) a x).toNat < S12288.size a)
theorem k0_idx1191_inb : ∀ (v3976 : IVec S16 32) (k0_hw1191 : k0_chk1191 v3976), ∀ a x, ((![v3976] : Fin 1 → IVec S16 32) a x).toNat < S12288.size a := fun v3976 k0_hw1191 => k0_hw1191

def k0_chk1192 (v3977 : IVec S16 32) : Prop :=
  (∀ a x, ((![v3977] : Fin 1 → IVec S16 32) a x).toNat < S4096.size a)
theorem k0_idx1192_inb : ∀ (v3977 : IVec S16 32) (k0_hw1192 : k0_chk1192 v3977), ∀ a x, ((![v3977] : Fin 1 → IVec S16 32) a x).toNat < S4096.size a := fun v3977 k0_hw1192 => k0_hw1192

def k0_chk1193 (v3981 : IVec S16 32) : Prop :=
  (∀ a x, ((![v3981] : Fin 1 → IVec S16 32) a x).toNat < S12288.size a)
theorem k0_idx1193_inb : ∀ (v3981 : IVec S16 32) (k0_hw1193 : k0_chk1193 v3981), ∀ a x, ((![v3981] : Fin 1 → IVec S16 32) a x).toNat < S12288.size a := fun v3981 k0_hw1193 => k0_hw1193

def k0_chk1194 (v3982 : IVec S16 32) : Prop :=
  (∀ a x, ((![v3982] : Fin 1 → IVec S16 32) a x).toNat < S4096.size a)
theorem k0_idx1194_inb : ∀ (v3982 : IVec S16 32) (k0_hw1194 : k0_chk1194 v3982), ∀ a x, ((![v3982] : Fin 1 → IVec S16 32) a x).toNat < S4096.size a := fun v3982 k0_hw1194 => k0_hw1194

def k0_chk1195 (v3986 : IVec S16 32) : Prop :=
  (∀ a x, ((![v3986] : Fin 1 → IVec S16 32) a x).toNat < S12288.size a)
theorem k0_idx1195_inb : ∀ (v3986 : IVec S16 32) (k0_hw1195 : k0_chk1195 v3986), ∀ a x, ((![v3986] : Fin 1 → IVec S16 32) a x).toNat < S12288.size a := fun v3986 k0_hw1195 => k0_hw1195

def k0_chk1196 (v3987 : IVec S16 32) : Prop :=
  (∀ a x, ((![v3987] : Fin 1 → IVec S16 32) a x).toNat < S4096.size a)
theorem k0_idx1196_inb : ∀ (v3987 : IVec S16 32) (k0_hw1196 : k0_chk1196 v3987), ∀ a x, ((![v3987] : Fin 1 → IVec S16 32) a x).toNat < S4096.size a := fun v3987 k0_hw1196 => k0_hw1196

def k0_chk1197 (v3990 : IVec S16 32) : Prop :=
  (∀ a x, ((![v3990] : Fin 1 → IVec S16 32) a x).toNat < S16.size a)
theorem k0_idx1197_inb : ∀ (v3990 : IVec S16 32) (k0_hw1197 : k0_chk1197 v3990), ∀ a x, ((![v3990] : Fin 1 → IVec S16 32) a x).toNat < S16.size a := fun v3990 k0_hw1197 => k0_hw1197

def k0_chk1198 (v3999 : IVec S16 32) : Prop :=
  (∀ a x, ((![v3999] : Fin 1 → IVec S16 32) a x).toNat < S12288.size a)
theorem k0_idx1198_inb : ∀ (v3999 : IVec S16 32) (k0_hw1198 : k0_chk1198 v3999), ∀ a x, ((![v3999] : Fin 1 → IVec S16 32) a x).toNat < S12288.size a := fun v3999 k0_hw1198 => k0_hw1198

def k0_chk1199 (v4000 : IVec S16 32) : Prop :=
  (∀ a x, ((![v4000] : Fin 1 → IVec S16 32) a x).toNat < S4096.size a)
theorem k0_idx1199_inb : ∀ (v4000 : IVec S16 32) (k0_hw1199 : k0_chk1199 v4000), ∀ a x, ((![v4000] : Fin 1 → IVec S16 32) a x).toNat < S4096.size a := fun v4000 k0_hw1199 => k0_hw1199

def k0_chk1200 (v4003 : IVec S16 32) : Prop :=
  (∀ a x, ((![v4003] : Fin 1 → IVec S16 32) a x).toNat < S12288.size a)
theorem k0_idx1200_inb : ∀ (v4003 : IVec S16 32) (k0_hw1200 : k0_chk1200 v4003), ∀ a x, ((![v4003] : Fin 1 → IVec S16 32) a x).toNat < S12288.size a := fun v4003 k0_hw1200 => k0_hw1200

def k0_chk1201 (v4004 : IVec S16 32) : Prop :=
  (∀ a x, ((![v4004] : Fin 1 → IVec S16 32) a x).toNat < S4096.size a)
theorem k0_idx1201_inb : ∀ (v4004 : IVec S16 32) (k0_hw1201 : k0_chk1201 v4004), ∀ a x, ((![v4004] : Fin 1 → IVec S16 32) a x).toNat < S4096.size a := fun v4004 k0_hw1201 => k0_hw1201

def k0_chk1202 (v4008 : IVec S16 32) : Prop :=
  (∀ a x, ((![v4008] : Fin 1 → IVec S16 32) a x).toNat < S12288.size a)
theorem k0_idx1202_inb : ∀ (v4008 : IVec S16 32) (k0_hw1202 : k0_chk1202 v4008), ∀ a x, ((![v4008] : Fin 1 → IVec S16 32) a x).toNat < S12288.size a := fun v4008 k0_hw1202 => k0_hw1202

def k0_chk1203 (v4009 : IVec S16 32) : Prop :=
  (∀ a x, ((![v4009] : Fin 1 → IVec S16 32) a x).toNat < S4096.size a)
theorem k0_idx1203_inb : ∀ (v4009 : IVec S16 32) (k0_hw1203 : k0_chk1203 v4009), ∀ a x, ((![v4009] : Fin 1 → IVec S16 32) a x).toNat < S4096.size a := fun v4009 k0_hw1203 => k0_hw1203

def k0_chk1204 (v4013 : IVec S16 32) : Prop :=
  (∀ a x, ((![v4013] : Fin 1 → IVec S16 32) a x).toNat < S12288.size a)
theorem k0_idx1204_inb : ∀ (v4013 : IVec S16 32) (k0_hw1204 : k0_chk1204 v4013), ∀ a x, ((![v4013] : Fin 1 → IVec S16 32) a x).toNat < S12288.size a := fun v4013 k0_hw1204 => k0_hw1204

def k0_chk1205 (v4014 : IVec S16 32) : Prop :=
  (∀ a x, ((![v4014] : Fin 1 → IVec S16 32) a x).toNat < S4096.size a)
theorem k0_idx1205_inb : ∀ (v4014 : IVec S16 32) (k0_hw1205 : k0_chk1205 v4014), ∀ a x, ((![v4014] : Fin 1 → IVec S16 32) a x).toNat < S4096.size a := fun v4014 k0_hw1205 => k0_hw1205

def k0_chk1206 (v4017 : IVec S16 32) : Prop :=
  (∀ a x, ((![v4017] : Fin 1 → IVec S16 32) a x).toNat < S16.size a)
theorem k0_idx1206_inb : ∀ (v4017 : IVec S16 32) (k0_hw1206 : k0_chk1206 v4017), ∀ a x, ((![v4017] : Fin 1 → IVec S16 32) a x).toNat < S16.size a := fun v4017 k0_hw1206 => k0_hw1206

def k0_chk1207 (v4026 : IVec S16 32) : Prop :=
  (∀ a x, ((![v4026] : Fin 1 → IVec S16 32) a x).toNat < S12288.size a)
theorem k0_idx1207_inb : ∀ (v4026 : IVec S16 32) (k0_hw1207 : k0_chk1207 v4026), ∀ a x, ((![v4026] : Fin 1 → IVec S16 32) a x).toNat < S12288.size a := fun v4026 k0_hw1207 => k0_hw1207

def k0_chk1208 (v4027 : IVec S16 32) : Prop :=
  (∀ a x, ((![v4027] : Fin 1 → IVec S16 32) a x).toNat < S4096.size a)
theorem k0_idx1208_inb : ∀ (v4027 : IVec S16 32) (k0_hw1208 : k0_chk1208 v4027), ∀ a x, ((![v4027] : Fin 1 → IVec S16 32) a x).toNat < S4096.size a := fun v4027 k0_hw1208 => k0_hw1208

def k0_chk1209 (v4030 : IVec S16 32) : Prop :=
  (∀ a x, ((![v4030] : Fin 1 → IVec S16 32) a x).toNat < S12288.size a)
theorem k0_idx1209_inb : ∀ (v4030 : IVec S16 32) (k0_hw1209 : k0_chk1209 v4030), ∀ a x, ((![v4030] : Fin 1 → IVec S16 32) a x).toNat < S12288.size a := fun v4030 k0_hw1209 => k0_hw1209

def k0_chk1210 (v4031 : IVec S16 32) : Prop :=
  (∀ a x, ((![v4031] : Fin 1 → IVec S16 32) a x).toNat < S4096.size a)
theorem k0_idx1210_inb : ∀ (v4031 : IVec S16 32) (k0_hw1210 : k0_chk1210 v4031), ∀ a x, ((![v4031] : Fin 1 → IVec S16 32) a x).toNat < S4096.size a := fun v4031 k0_hw1210 => k0_hw1210

def k0_chk1211 (v4035 : IVec S16 32) : Prop :=
  (∀ a x, ((![v4035] : Fin 1 → IVec S16 32) a x).toNat < S12288.size a)
theorem k0_idx1211_inb : ∀ (v4035 : IVec S16 32) (k0_hw1211 : k0_chk1211 v4035), ∀ a x, ((![v4035] : Fin 1 → IVec S16 32) a x).toNat < S12288.size a := fun v4035 k0_hw1211 => k0_hw1211

def k0_chk1212 (v4036 : IVec S16 32) : Prop :=
  (∀ a x, ((![v4036] : Fin 1 → IVec S16 32) a x).toNat < S4096.size a)
theorem k0_idx1212_inb : ∀ (v4036 : IVec S16 32) (k0_hw1212 : k0_chk1212 v4036), ∀ a x, ((![v4036] : Fin 1 → IVec S16 32) a x).toNat < S4096.size a := fun v4036 k0_hw1212 => k0_hw1212

def k0_chk1213 (v4040 : IVec S16 32) : Prop :=
  (∀ a x, ((![v4040] : Fin 1 → IVec S16 32) a x).toNat < S12288.size a)
theorem k0_idx1213_inb : ∀ (v4040 : IVec S16 32) (k0_hw1213 : k0_chk1213 v4040), ∀ a x, ((![v4040] : Fin 1 → IVec S16 32) a x).toNat < S12288.size a := fun v4040 k0_hw1213 => k0_hw1213

def k0_chk1214 (v4041 : IVec S16 32) : Prop :=
  (∀ a x, ((![v4041] : Fin 1 → IVec S16 32) a x).toNat < S4096.size a)
theorem k0_idx1214_inb : ∀ (v4041 : IVec S16 32) (k0_hw1214 : k0_chk1214 v4041), ∀ a x, ((![v4041] : Fin 1 → IVec S16 32) a x).toNat < S4096.size a := fun v4041 k0_hw1214 => k0_hw1214

def k0_chk1215 (v4044 : IVec S16 32) : Prop :=
  (∀ a x, ((![v4044] : Fin 1 → IVec S16 32) a x).toNat < S16.size a)
theorem k0_idx1215_inb : ∀ (v4044 : IVec S16 32) (k0_hw1215 : k0_chk1215 v4044), ∀ a x, ((![v4044] : Fin 1 → IVec S16 32) a x).toNat < S16.size a := fun v4044 k0_hw1215 => k0_hw1215

def k0_chk1216 (v4053 : IVec S16 32) : Prop :=
  (∀ a x, ((![v4053] : Fin 1 → IVec S16 32) a x).toNat < S12288.size a)
theorem k0_idx1216_inb : ∀ (v4053 : IVec S16 32) (k0_hw1216 : k0_chk1216 v4053), ∀ a x, ((![v4053] : Fin 1 → IVec S16 32) a x).toNat < S12288.size a := fun v4053 k0_hw1216 => k0_hw1216

def k0_chk1217 (v4054 : IVec S16 32) : Prop :=
  (∀ a x, ((![v4054] : Fin 1 → IVec S16 32) a x).toNat < S4096.size a)
theorem k0_idx1217_inb : ∀ (v4054 : IVec S16 32) (k0_hw1217 : k0_chk1217 v4054), ∀ a x, ((![v4054] : Fin 1 → IVec S16 32) a x).toNat < S4096.size a := fun v4054 k0_hw1217 => k0_hw1217

def k0_chk1218 (v4057 : IVec S16 32) : Prop :=
  (∀ a x, ((![v4057] : Fin 1 → IVec S16 32) a x).toNat < S12288.size a)
theorem k0_idx1218_inb : ∀ (v4057 : IVec S16 32) (k0_hw1218 : k0_chk1218 v4057), ∀ a x, ((![v4057] : Fin 1 → IVec S16 32) a x).toNat < S12288.size a := fun v4057 k0_hw1218 => k0_hw1218

def k0_chk1219 (v4058 : IVec S16 32) : Prop :=
  (∀ a x, ((![v4058] : Fin 1 → IVec S16 32) a x).toNat < S4096.size a)
theorem k0_idx1219_inb : ∀ (v4058 : IVec S16 32) (k0_hw1219 : k0_chk1219 v4058), ∀ a x, ((![v4058] : Fin 1 → IVec S16 32) a x).toNat < S4096.size a := fun v4058 k0_hw1219 => k0_hw1219

def k0_chk1220 (v4062 : IVec S16 32) : Prop :=
  (∀ a x, ((![v4062] : Fin 1 → IVec S16 32) a x).toNat < S12288.size a)
theorem k0_idx1220_inb : ∀ (v4062 : IVec S16 32) (k0_hw1220 : k0_chk1220 v4062), ∀ a x, ((![v4062] : Fin 1 → IVec S16 32) a x).toNat < S12288.size a := fun v4062 k0_hw1220 => k0_hw1220

def k0_chk1221 (v4063 : IVec S16 32) : Prop :=
  (∀ a x, ((![v4063] : Fin 1 → IVec S16 32) a x).toNat < S4096.size a)
theorem k0_idx1221_inb : ∀ (v4063 : IVec S16 32) (k0_hw1221 : k0_chk1221 v4063), ∀ a x, ((![v4063] : Fin 1 → IVec S16 32) a x).toNat < S4096.size a := fun v4063 k0_hw1221 => k0_hw1221

def k0_chk1222 (v4067 : IVec S16 32) : Prop :=
  (∀ a x, ((![v4067] : Fin 1 → IVec S16 32) a x).toNat < S12288.size a)
theorem k0_idx1222_inb : ∀ (v4067 : IVec S16 32) (k0_hw1222 : k0_chk1222 v4067), ∀ a x, ((![v4067] : Fin 1 → IVec S16 32) a x).toNat < S12288.size a := fun v4067 k0_hw1222 => k0_hw1222

def k0_chk1223 (v4068 : IVec S16 32) : Prop :=
  (∀ a x, ((![v4068] : Fin 1 → IVec S16 32) a x).toNat < S4096.size a)
theorem k0_idx1223_inb : ∀ (v4068 : IVec S16 32) (k0_hw1223 : k0_chk1223 v4068), ∀ a x, ((![v4068] : Fin 1 → IVec S16 32) a x).toNat < S4096.size a := fun v4068 k0_hw1223 => k0_hw1223

def k0_chk1224 (v4071 : IVec S16 32) : Prop :=
  (∀ a x, ((![v4071] : Fin 1 → IVec S16 32) a x).toNat < S16.size a)
theorem k0_idx1224_inb : ∀ (v4071 : IVec S16 32) (k0_hw1224 : k0_chk1224 v4071), ∀ a x, ((![v4071] : Fin 1 → IVec S16 32) a x).toNat < S16.size a := fun v4071 k0_hw1224 => k0_hw1224

def k0_chk1225 (v4080 : IVec S16 32) : Prop :=
  (∀ a x, ((![v4080] : Fin 1 → IVec S16 32) a x).toNat < S12288.size a)
theorem k0_idx1225_inb : ∀ (v4080 : IVec S16 32) (k0_hw1225 : k0_chk1225 v4080), ∀ a x, ((![v4080] : Fin 1 → IVec S16 32) a x).toNat < S12288.size a := fun v4080 k0_hw1225 => k0_hw1225

def k0_chk1226 (v4081 : IVec S16 32) : Prop :=
  (∀ a x, ((![v4081] : Fin 1 → IVec S16 32) a x).toNat < S4096.size a)
theorem k0_idx1226_inb : ∀ (v4081 : IVec S16 32) (k0_hw1226 : k0_chk1226 v4081), ∀ a x, ((![v4081] : Fin 1 → IVec S16 32) a x).toNat < S4096.size a := fun v4081 k0_hw1226 => k0_hw1226

def k0_chk1227 (v4084 : IVec S16 32) : Prop :=
  (∀ a x, ((![v4084] : Fin 1 → IVec S16 32) a x).toNat < S12288.size a)
theorem k0_idx1227_inb : ∀ (v4084 : IVec S16 32) (k0_hw1227 : k0_chk1227 v4084), ∀ a x, ((![v4084] : Fin 1 → IVec S16 32) a x).toNat < S12288.size a := fun v4084 k0_hw1227 => k0_hw1227

def k0_chk1228 (v4085 : IVec S16 32) : Prop :=
  (∀ a x, ((![v4085] : Fin 1 → IVec S16 32) a x).toNat < S4096.size a)
theorem k0_idx1228_inb : ∀ (v4085 : IVec S16 32) (k0_hw1228 : k0_chk1228 v4085), ∀ a x, ((![v4085] : Fin 1 → IVec S16 32) a x).toNat < S4096.size a := fun v4085 k0_hw1228 => k0_hw1228

def k0_chk1229 (v4089 : IVec S16 32) : Prop :=
  (∀ a x, ((![v4089] : Fin 1 → IVec S16 32) a x).toNat < S12288.size a)
theorem k0_idx1229_inb : ∀ (v4089 : IVec S16 32) (k0_hw1229 : k0_chk1229 v4089), ∀ a x, ((![v4089] : Fin 1 → IVec S16 32) a x).toNat < S12288.size a := fun v4089 k0_hw1229 => k0_hw1229

def k0_chk1230 (v4090 : IVec S16 32) : Prop :=
  (∀ a x, ((![v4090] : Fin 1 → IVec S16 32) a x).toNat < S4096.size a)
theorem k0_idx1230_inb : ∀ (v4090 : IVec S16 32) (k0_hw1230 : k0_chk1230 v4090), ∀ a x, ((![v4090] : Fin 1 → IVec S16 32) a x).toNat < S4096.size a := fun v4090 k0_hw1230 => k0_hw1230

def k0_chk1231 (v4094 : IVec S16 32) : Prop :=
  (∀ a x, ((![v4094] : Fin 1 → IVec S16 32) a x).toNat < S12288.size a)
theorem k0_idx1231_inb : ∀ (v4094 : IVec S16 32) (k0_hw1231 : k0_chk1231 v4094), ∀ a x, ((![v4094] : Fin 1 → IVec S16 32) a x).toNat < S12288.size a := fun v4094 k0_hw1231 => k0_hw1231

def k0_chk1232 (v4095 : IVec S16 32) : Prop :=
  (∀ a x, ((![v4095] : Fin 1 → IVec S16 32) a x).toNat < S4096.size a)
theorem k0_idx1232_inb : ∀ (v4095 : IVec S16 32) (k0_hw1232 : k0_chk1232 v4095), ∀ a x, ((![v4095] : Fin 1 → IVec S16 32) a x).toNat < S4096.size a := fun v4095 k0_hw1232 => k0_hw1232

def k0_chk1233 (v4098 : IVec S16 32) : Prop :=
  (∀ a x, ((![v4098] : Fin 1 → IVec S16 32) a x).toNat < S16.size a)
theorem k0_idx1233_inb : ∀ (v4098 : IVec S16 32) (k0_hw1233 : k0_chk1233 v4098), ∀ a x, ((![v4098] : Fin 1 → IVec S16 32) a x).toNat < S16.size a := fun v4098 k0_hw1233 => k0_hw1233

def k0_chk1234 (v4107 : IVec S16 32) : Prop :=
  (∀ a x, ((![v4107] : Fin 1 → IVec S16 32) a x).toNat < S12288.size a)
theorem k0_idx1234_inb : ∀ (v4107 : IVec S16 32) (k0_hw1234 : k0_chk1234 v4107), ∀ a x, ((![v4107] : Fin 1 → IVec S16 32) a x).toNat < S12288.size a := fun v4107 k0_hw1234 => k0_hw1234

def k0_chk1235 (v4108 : IVec S16 32) : Prop :=
  (∀ a x, ((![v4108] : Fin 1 → IVec S16 32) a x).toNat < S4096.size a)
theorem k0_idx1235_inb : ∀ (v4108 : IVec S16 32) (k0_hw1235 : k0_chk1235 v4108), ∀ a x, ((![v4108] : Fin 1 → IVec S16 32) a x).toNat < S4096.size a := fun v4108 k0_hw1235 => k0_hw1235

def k0_chk1236 (v4111 : IVec S16 32) : Prop :=
  (∀ a x, ((![v4111] : Fin 1 → IVec S16 32) a x).toNat < S12288.size a)
theorem k0_idx1236_inb : ∀ (v4111 : IVec S16 32) (k0_hw1236 : k0_chk1236 v4111), ∀ a x, ((![v4111] : Fin 1 → IVec S16 32) a x).toNat < S12288.size a := fun v4111 k0_hw1236 => k0_hw1236

def k0_chk1237 (v4112 : IVec S16 32) : Prop :=
  (∀ a x, ((![v4112] : Fin 1 → IVec S16 32) a x).toNat < S4096.size a)
theorem k0_idx1237_inb : ∀ (v4112 : IVec S16 32) (k0_hw1237 : k0_chk1237 v4112), ∀ a x, ((![v4112] : Fin 1 → IVec S16 32) a x).toNat < S4096.size a := fun v4112 k0_hw1237 => k0_hw1237

def k0_chk1238 (v4116 : IVec S16 32) : Prop :=
  (∀ a x, ((![v4116] : Fin 1 → IVec S16 32) a x).toNat < S12288.size a)
theorem k0_idx1238_inb : ∀ (v4116 : IVec S16 32) (k0_hw1238 : k0_chk1238 v4116), ∀ a x, ((![v4116] : Fin 1 → IVec S16 32) a x).toNat < S12288.size a := fun v4116 k0_hw1238 => k0_hw1238

def k0_chk1239 (v4117 : IVec S16 32) : Prop :=
  (∀ a x, ((![v4117] : Fin 1 → IVec S16 32) a x).toNat < S4096.size a)
theorem k0_idx1239_inb : ∀ (v4117 : IVec S16 32) (k0_hw1239 : k0_chk1239 v4117), ∀ a x, ((![v4117] : Fin 1 → IVec S16 32) a x).toNat < S4096.size a := fun v4117 k0_hw1239 => k0_hw1239

def k0_chk1240 (v4121 : IVec S16 32) : Prop :=
  (∀ a x, ((![v4121] : Fin 1 → IVec S16 32) a x).toNat < S12288.size a)
theorem k0_idx1240_inb : ∀ (v4121 : IVec S16 32) (k0_hw1240 : k0_chk1240 v4121), ∀ a x, ((![v4121] : Fin 1 → IVec S16 32) a x).toNat < S12288.size a := fun v4121 k0_hw1240 => k0_hw1240

def k0_chk1241 (v4122 : IVec S16 32) : Prop :=
  (∀ a x, ((![v4122] : Fin 1 → IVec S16 32) a x).toNat < S4096.size a)
theorem k0_idx1241_inb : ∀ (v4122 : IVec S16 32) (k0_hw1241 : k0_chk1241 v4122), ∀ a x, ((![v4122] : Fin 1 → IVec S16 32) a x).toNat < S4096.size a := fun v4122 k0_hw1241 => k0_hw1241

def k0_chk1242 (v4125 : IVec S16 32) : Prop :=
  (∀ a x, ((![v4125] : Fin 1 → IVec S16 32) a x).toNat < S16.size a)
theorem k0_idx1242_inb : ∀ (v4125 : IVec S16 32) (k0_hw1242 : k0_chk1242 v4125), ∀ a x, ((![v4125] : Fin 1 → IVec S16 32) a x).toNat < S16.size a := fun v4125 k0_hw1242 => k0_hw1242

def k0_chk1243 (v4134 : IVec S16 32) : Prop :=
  (∀ a x, ((![v4134] : Fin 1 → IVec S16 32) a x).toNat < S12288.size a)
theorem k0_idx1243_inb : ∀ (v4134 : IVec S16 32) (k0_hw1243 : k0_chk1243 v4134), ∀ a x, ((![v4134] : Fin 1 → IVec S16 32) a x).toNat < S12288.size a := fun v4134 k0_hw1243 => k0_hw1243

def k0_chk1244 (v4135 : IVec S16 32) : Prop :=
  (∀ a x, ((![v4135] : Fin 1 → IVec S16 32) a x).toNat < S4096.size a)
theorem k0_idx1244_inb : ∀ (v4135 : IVec S16 32) (k0_hw1244 : k0_chk1244 v4135), ∀ a x, ((![v4135] : Fin 1 → IVec S16 32) a x).toNat < S4096.size a := fun v4135 k0_hw1244 => k0_hw1244

def k0_chk1245 (v4138 : IVec S16 32) : Prop :=
  (∀ a x, ((![v4138] : Fin 1 → IVec S16 32) a x).toNat < S12288.size a)
theorem k0_idx1245_inb : ∀ (v4138 : IVec S16 32) (k0_hw1245 : k0_chk1245 v4138), ∀ a x, ((![v4138] : Fin 1 → IVec S16 32) a x).toNat < S12288.size a := fun v4138 k0_hw1245 => k0_hw1245

def k0_chk1246 (v4139 : IVec S16 32) : Prop :=
  (∀ a x, ((![v4139] : Fin 1 → IVec S16 32) a x).toNat < S4096.size a)
theorem k0_idx1246_inb : ∀ (v4139 : IVec S16 32) (k0_hw1246 : k0_chk1246 v4139), ∀ a x, ((![v4139] : Fin 1 → IVec S16 32) a x).toNat < S4096.size a := fun v4139 k0_hw1246 => k0_hw1246

def k0_chk1247 (v4143 : IVec S16 32) : Prop :=
  (∀ a x, ((![v4143] : Fin 1 → IVec S16 32) a x).toNat < S12288.size a)
theorem k0_idx1247_inb : ∀ (v4143 : IVec S16 32) (k0_hw1247 : k0_chk1247 v4143), ∀ a x, ((![v4143] : Fin 1 → IVec S16 32) a x).toNat < S12288.size a := fun v4143 k0_hw1247 => k0_hw1247

def k0_chk1248 (v4144 : IVec S16 32) : Prop :=
  (∀ a x, ((![v4144] : Fin 1 → IVec S16 32) a x).toNat < S4096.size a)
theorem k0_idx1248_inb : ∀ (v4144 : IVec S16 32) (k0_hw1248 : k0_chk1248 v4144), ∀ a x, ((![v4144] : Fin 1 → IVec S16 32) a x).toNat < S4096.size a := fun v4144 k0_hw1248 => k0_hw1248

def k0_chk1249 (v4148 : IVec S16 32) : Prop :=
  (∀ a x, ((![v4148] : Fin 1 → IVec S16 32) a x).toNat < S12288.size a)
theorem k0_idx1249_inb : ∀ (v4148 : IVec S16 32) (k0_hw1249 : k0_chk1249 v4148), ∀ a x, ((![v4148] : Fin 1 → IVec S16 32) a x).toNat < S12288.size a := fun v4148 k0_hw1249 => k0_hw1249

def k0_chk1250 (v4149 : IVec S16 32) : Prop :=
  (∀ a x, ((![v4149] : Fin 1 → IVec S16 32) a x).toNat < S4096.size a)
theorem k0_idx1250_inb : ∀ (v4149 : IVec S16 32) (k0_hw1250 : k0_chk1250 v4149), ∀ a x, ((![v4149] : Fin 1 → IVec S16 32) a x).toNat < S4096.size a := fun v4149 k0_hw1250 => k0_hw1250

def k0_chk1251 (v4152 : IVec S16 32) : Prop :=
  (∀ a x, ((![v4152] : Fin 1 → IVec S16 32) a x).toNat < S16.size a)
theorem k0_idx1251_inb : ∀ (v4152 : IVec S16 32) (k0_hw1251 : k0_chk1251 v4152), ∀ a x, ((![v4152] : Fin 1 → IVec S16 32) a x).toNat < S16.size a := fun v4152 k0_hw1251 => k0_hw1251

def k0_chk1252 (v4161 : IVec S16 32) : Prop :=
  (∀ a x, ((![v4161] : Fin 1 → IVec S16 32) a x).toNat < S12288.size a)
theorem k0_idx1252_inb : ∀ (v4161 : IVec S16 32) (k0_hw1252 : k0_chk1252 v4161), ∀ a x, ((![v4161] : Fin 1 → IVec S16 32) a x).toNat < S12288.size a := fun v4161 k0_hw1252 => k0_hw1252

def k0_chk1253 (v4162 : IVec S16 32) : Prop :=
  (∀ a x, ((![v4162] : Fin 1 → IVec S16 32) a x).toNat < S4096.size a)
theorem k0_idx1253_inb : ∀ (v4162 : IVec S16 32) (k0_hw1253 : k0_chk1253 v4162), ∀ a x, ((![v4162] : Fin 1 → IVec S16 32) a x).toNat < S4096.size a := fun v4162 k0_hw1253 => k0_hw1253

def k0_chk1254 (v4165 : IVec S16 32) : Prop :=
  (∀ a x, ((![v4165] : Fin 1 → IVec S16 32) a x).toNat < S12288.size a)
theorem k0_idx1254_inb : ∀ (v4165 : IVec S16 32) (k0_hw1254 : k0_chk1254 v4165), ∀ a x, ((![v4165] : Fin 1 → IVec S16 32) a x).toNat < S12288.size a := fun v4165 k0_hw1254 => k0_hw1254

def k0_chk1255 (v4166 : IVec S16 32) : Prop :=
  (∀ a x, ((![v4166] : Fin 1 → IVec S16 32) a x).toNat < S4096.size a)
theorem k0_idx1255_inb : ∀ (v4166 : IVec S16 32) (k0_hw1255 : k0_chk1255 v4166), ∀ a x, ((![v4166] : Fin 1 → IVec S16 32) a x).toNat < S4096.size a := fun v4166 k0_hw1255 => k0_hw1255

def k0_chk1256 (v4170 : IVec S16 32) : Prop :=
  (∀ a x, ((![v4170] : Fin 1 → IVec S16 32) a x).toNat < S12288.size a)
theorem k0_idx1256_inb : ∀ (v4170 : IVec S16 32) (k0_hw1256 : k0_chk1256 v4170), ∀ a x, ((![v4170] : Fin 1 → IVec S16 32) a x).toNat < S12288.size a := fun v4170 k0_hw1256 => k0_hw1256

def k0_chk1257 (v4171 : IVec S16 32) : Prop :=
  (∀ a x, ((![v4171] : Fin 1 → IVec S16 32) a x).toNat < S4096.size a)
theorem k0_idx1257_inb : ∀ (v4171 : IVec S16 32) (k0_hw1257 : k0_chk1257 v4171), ∀ a x, ((![v4171] : Fin 1 → IVec S16 32) a x).toNat < S4096.size a := fun v4171 k0_hw1257 => k0_hw1257

def k0_chk1258 (v4175 : IVec S16 32) : Prop :=
  (∀ a x, ((![v4175] : Fin 1 → IVec S16 32) a x).toNat < S12288.size a)
theorem k0_idx1258_inb : ∀ (v4175 : IVec S16 32) (k0_hw1258 : k0_chk1258 v4175), ∀ a x, ((![v4175] : Fin 1 → IVec S16 32) a x).toNat < S12288.size a := fun v4175 k0_hw1258 => k0_hw1258

def k0_chk1259 (v4176 : IVec S16 32) : Prop :=
  (∀ a x, ((![v4176] : Fin 1 → IVec S16 32) a x).toNat < S4096.size a)
theorem k0_idx1259_inb : ∀ (v4176 : IVec S16 32) (k0_hw1259 : k0_chk1259 v4176), ∀ a x, ((![v4176] : Fin 1 → IVec S16 32) a x).toNat < S4096.size a := fun v4176 k0_hw1259 => k0_hw1259

def k0_chk1260 (v4179 : IVec S16 32) : Prop :=
  (∀ a x, ((![v4179] : Fin 1 → IVec S16 32) a x).toNat < S16.size a)
theorem k0_idx1260_inb : ∀ (v4179 : IVec S16 32) (k0_hw1260 : k0_chk1260 v4179), ∀ a x, ((![v4179] : Fin 1 → IVec S16 32) a x).toNat < S16.size a := fun v4179 k0_hw1260 => k0_hw1260

def k0_chk1261 (v4188 : IVec S16 32) : Prop :=
  (∀ a x, ((![v4188] : Fin 1 → IVec S16 32) a x).toNat < S12288.size a)
theorem k0_idx1261_inb : ∀ (v4188 : IVec S16 32) (k0_hw1261 : k0_chk1261 v4188), ∀ a x, ((![v4188] : Fin 1 → IVec S16 32) a x).toNat < S12288.size a := fun v4188 k0_hw1261 => k0_hw1261

def k0_chk1262 (v4189 : IVec S16 32) : Prop :=
  (∀ a x, ((![v4189] : Fin 1 → IVec S16 32) a x).toNat < S4096.size a)
theorem k0_idx1262_inb : ∀ (v4189 : IVec S16 32) (k0_hw1262 : k0_chk1262 v4189), ∀ a x, ((![v4189] : Fin 1 → IVec S16 32) a x).toNat < S4096.size a := fun v4189 k0_hw1262 => k0_hw1262

def k0_chk1263 (v4192 : IVec S16 32) : Prop :=
  (∀ a x, ((![v4192] : Fin 1 → IVec S16 32) a x).toNat < S12288.size a)
theorem k0_idx1263_inb : ∀ (v4192 : IVec S16 32) (k0_hw1263 : k0_chk1263 v4192), ∀ a x, ((![v4192] : Fin 1 → IVec S16 32) a x).toNat < S12288.size a := fun v4192 k0_hw1263 => k0_hw1263

def k0_chk1264 (v4193 : IVec S16 32) : Prop :=
  (∀ a x, ((![v4193] : Fin 1 → IVec S16 32) a x).toNat < S4096.size a)
theorem k0_idx1264_inb : ∀ (v4193 : IVec S16 32) (k0_hw1264 : k0_chk1264 v4193), ∀ a x, ((![v4193] : Fin 1 → IVec S16 32) a x).toNat < S4096.size a := fun v4193 k0_hw1264 => k0_hw1264

def k0_chk1265 (v4197 : IVec S16 32) : Prop :=
  (∀ a x, ((![v4197] : Fin 1 → IVec S16 32) a x).toNat < S12288.size a)
theorem k0_idx1265_inb : ∀ (v4197 : IVec S16 32) (k0_hw1265 : k0_chk1265 v4197), ∀ a x, ((![v4197] : Fin 1 → IVec S16 32) a x).toNat < S12288.size a := fun v4197 k0_hw1265 => k0_hw1265

def k0_chk1266 (v4198 : IVec S16 32) : Prop :=
  (∀ a x, ((![v4198] : Fin 1 → IVec S16 32) a x).toNat < S4096.size a)
theorem k0_idx1266_inb : ∀ (v4198 : IVec S16 32) (k0_hw1266 : k0_chk1266 v4198), ∀ a x, ((![v4198] : Fin 1 → IVec S16 32) a x).toNat < S4096.size a := fun v4198 k0_hw1266 => k0_hw1266

def k0_chk1267 (v4202 : IVec S16 32) : Prop :=
  (∀ a x, ((![v4202] : Fin 1 → IVec S16 32) a x).toNat < S12288.size a)
theorem k0_idx1267_inb : ∀ (v4202 : IVec S16 32) (k0_hw1267 : k0_chk1267 v4202), ∀ a x, ((![v4202] : Fin 1 → IVec S16 32) a x).toNat < S12288.size a := fun v4202 k0_hw1267 => k0_hw1267

def k0_chk1268 (v4203 : IVec S16 32) : Prop :=
  (∀ a x, ((![v4203] : Fin 1 → IVec S16 32) a x).toNat < S4096.size a)
theorem k0_idx1268_inb : ∀ (v4203 : IVec S16 32) (k0_hw1268 : k0_chk1268 v4203), ∀ a x, ((![v4203] : Fin 1 → IVec S16 32) a x).toNat < S4096.size a := fun v4203 k0_hw1268 => k0_hw1268

def k0_chk1269 (v4206 : IVec S16 32) : Prop :=
  (∀ a x, ((![v4206] : Fin 1 → IVec S16 32) a x).toNat < S16.size a)
theorem k0_idx1269_inb : ∀ (v4206 : IVec S16 32) (k0_hw1269 : k0_chk1269 v4206), ∀ a x, ((![v4206] : Fin 1 → IVec S16 32) a x).toNat < S16.size a := fun v4206 k0_hw1269 => k0_hw1269

def k0_chk1270 (v4215 : IVec S16 32) : Prop :=
  (∀ a x, ((![v4215] : Fin 1 → IVec S16 32) a x).toNat < S12288.size a)
theorem k0_idx1270_inb : ∀ (v4215 : IVec S16 32) (k0_hw1270 : k0_chk1270 v4215), ∀ a x, ((![v4215] : Fin 1 → IVec S16 32) a x).toNat < S12288.size a := fun v4215 k0_hw1270 => k0_hw1270

def k0_chk1271 (v4216 : IVec S16 32) : Prop :=
  (∀ a x, ((![v4216] : Fin 1 → IVec S16 32) a x).toNat < S4096.size a)
theorem k0_idx1271_inb : ∀ (v4216 : IVec S16 32) (k0_hw1271 : k0_chk1271 v4216), ∀ a x, ((![v4216] : Fin 1 → IVec S16 32) a x).toNat < S4096.size a := fun v4216 k0_hw1271 => k0_hw1271

def k0_chk1272 (v4219 : IVec S16 32) : Prop :=
  (∀ a x, ((![v4219] : Fin 1 → IVec S16 32) a x).toNat < S12288.size a)
theorem k0_idx1272_inb : ∀ (v4219 : IVec S16 32) (k0_hw1272 : k0_chk1272 v4219), ∀ a x, ((![v4219] : Fin 1 → IVec S16 32) a x).toNat < S12288.size a := fun v4219 k0_hw1272 => k0_hw1272

def k0_chk1273 (v4220 : IVec S16 32) : Prop :=
  (∀ a x, ((![v4220] : Fin 1 → IVec S16 32) a x).toNat < S4096.size a)
theorem k0_idx1273_inb : ∀ (v4220 : IVec S16 32) (k0_hw1273 : k0_chk1273 v4220), ∀ a x, ((![v4220] : Fin 1 → IVec S16 32) a x).toNat < S4096.size a := fun v4220 k0_hw1273 => k0_hw1273

def k0_chk1274 (v4224 : IVec S16 32) : Prop :=
  (∀ a x, ((![v4224] : Fin 1 → IVec S16 32) a x).toNat < S12288.size a)
theorem k0_idx1274_inb : ∀ (v4224 : IVec S16 32) (k0_hw1274 : k0_chk1274 v4224), ∀ a x, ((![v4224] : Fin 1 → IVec S16 32) a x).toNat < S12288.size a := fun v4224 k0_hw1274 => k0_hw1274

def k0_chk1275 (v4225 : IVec S16 32) : Prop :=
  (∀ a x, ((![v4225] : Fin 1 → IVec S16 32) a x).toNat < S4096.size a)
theorem k0_idx1275_inb : ∀ (v4225 : IVec S16 32) (k0_hw1275 : k0_chk1275 v4225), ∀ a x, ((![v4225] : Fin 1 → IVec S16 32) a x).toNat < S4096.size a := fun v4225 k0_hw1275 => k0_hw1275

def k0_chk1276 (v4229 : IVec S16 32) : Prop :=
  (∀ a x, ((![v4229] : Fin 1 → IVec S16 32) a x).toNat < S12288.size a)
theorem k0_idx1276_inb : ∀ (v4229 : IVec S16 32) (k0_hw1276 : k0_chk1276 v4229), ∀ a x, ((![v4229] : Fin 1 → IVec S16 32) a x).toNat < S12288.size a := fun v4229 k0_hw1276 => k0_hw1276

def k0_chk1277 (v4230 : IVec S16 32) : Prop :=
  (∀ a x, ((![v4230] : Fin 1 → IVec S16 32) a x).toNat < S4096.size a)
theorem k0_idx1277_inb : ∀ (v4230 : IVec S16 32) (k0_hw1277 : k0_chk1277 v4230), ∀ a x, ((![v4230] : Fin 1 → IVec S16 32) a x).toNat < S4096.size a := fun v4230 k0_hw1277 => k0_hw1277

def k0_chk1278 (v4233 : IVec S16 32) : Prop :=
  (∀ a x, ((![v4233] : Fin 1 → IVec S16 32) a x).toNat < S16.size a)
theorem k0_idx1278_inb : ∀ (v4233 : IVec S16 32) (k0_hw1278 : k0_chk1278 v4233), ∀ a x, ((![v4233] : Fin 1 → IVec S16 32) a x).toNat < S16.size a := fun v4233 k0_hw1278 => k0_hw1278

def k0_chk1279 (v4242 : IVec S16 32) : Prop :=
  (∀ a x, ((![v4242] : Fin 1 → IVec S16 32) a x).toNat < S12288.size a)
theorem k0_idx1279_inb : ∀ (v4242 : IVec S16 32) (k0_hw1279 : k0_chk1279 v4242), ∀ a x, ((![v4242] : Fin 1 → IVec S16 32) a x).toNat < S12288.size a := fun v4242 k0_hw1279 => k0_hw1279

def k0_chk1280 (v4243 : IVec S16 32) : Prop :=
  (∀ a x, ((![v4243] : Fin 1 → IVec S16 32) a x).toNat < S4096.size a)
theorem k0_idx1280_inb : ∀ (v4243 : IVec S16 32) (k0_hw1280 : k0_chk1280 v4243), ∀ a x, ((![v4243] : Fin 1 → IVec S16 32) a x).toNat < S4096.size a := fun v4243 k0_hw1280 => k0_hw1280

def k0_chk1281 (v4246 : IVec S16 32) : Prop :=
  (∀ a x, ((![v4246] : Fin 1 → IVec S16 32) a x).toNat < S12288.size a)
theorem k0_idx1281_inb : ∀ (v4246 : IVec S16 32) (k0_hw1281 : k0_chk1281 v4246), ∀ a x, ((![v4246] : Fin 1 → IVec S16 32) a x).toNat < S12288.size a := fun v4246 k0_hw1281 => k0_hw1281

def k0_chk1282 (v4247 : IVec S16 32) : Prop :=
  (∀ a x, ((![v4247] : Fin 1 → IVec S16 32) a x).toNat < S4096.size a)
theorem k0_idx1282_inb : ∀ (v4247 : IVec S16 32) (k0_hw1282 : k0_chk1282 v4247), ∀ a x, ((![v4247] : Fin 1 → IVec S16 32) a x).toNat < S4096.size a := fun v4247 k0_hw1282 => k0_hw1282

def k0_chk1283 (v4251 : IVec S16 32) : Prop :=
  (∀ a x, ((![v4251] : Fin 1 → IVec S16 32) a x).toNat < S12288.size a)
theorem k0_idx1283_inb : ∀ (v4251 : IVec S16 32) (k0_hw1283 : k0_chk1283 v4251), ∀ a x, ((![v4251] : Fin 1 → IVec S16 32) a x).toNat < S12288.size a := fun v4251 k0_hw1283 => k0_hw1283

def k0_chk1284 (v4252 : IVec S16 32) : Prop :=
  (∀ a x, ((![v4252] : Fin 1 → IVec S16 32) a x).toNat < S4096.size a)
theorem k0_idx1284_inb : ∀ (v4252 : IVec S16 32) (k0_hw1284 : k0_chk1284 v4252), ∀ a x, ((![v4252] : Fin 1 → IVec S16 32) a x).toNat < S4096.size a := fun v4252 k0_hw1284 => k0_hw1284

def k0_chk1285 (v4256 : IVec S16 32) : Prop :=
  (∀ a x, ((![v4256] : Fin 1 → IVec S16 32) a x).toNat < S12288.size a)
theorem k0_idx1285_inb : ∀ (v4256 : IVec S16 32) (k0_hw1285 : k0_chk1285 v4256), ∀ a x, ((![v4256] : Fin 1 → IVec S16 32) a x).toNat < S12288.size a := fun v4256 k0_hw1285 => k0_hw1285

def k0_chk1286 (v4257 : IVec S16 32) : Prop :=
  (∀ a x, ((![v4257] : Fin 1 → IVec S16 32) a x).toNat < S4096.size a)
theorem k0_idx1286_inb : ∀ (v4257 : IVec S16 32) (k0_hw1286 : k0_chk1286 v4257), ∀ a x, ((![v4257] : Fin 1 → IVec S16 32) a x).toNat < S4096.size a := fun v4257 k0_hw1286 => k0_hw1286

def k0_chk1287 (v4260 : IVec S16 32) : Prop :=
  (∀ a x, ((![v4260] : Fin 1 → IVec S16 32) a x).toNat < S16.size a)
theorem k0_idx1287_inb : ∀ (v4260 : IVec S16 32) (k0_hw1287 : k0_chk1287 v4260), ∀ a x, ((![v4260] : Fin 1 → IVec S16 32) a x).toNat < S16.size a := fun v4260 k0_hw1287 => k0_hw1287

def k0_chk1288 (v4269 : IVec S16 32) : Prop :=
  (∀ a x, ((![v4269] : Fin 1 → IVec S16 32) a x).toNat < S12288.size a)
theorem k0_idx1288_inb : ∀ (v4269 : IVec S16 32) (k0_hw1288 : k0_chk1288 v4269), ∀ a x, ((![v4269] : Fin 1 → IVec S16 32) a x).toNat < S12288.size a := fun v4269 k0_hw1288 => k0_hw1288

def k0_chk1289 (v4270 : IVec S16 32) : Prop :=
  (∀ a x, ((![v4270] : Fin 1 → IVec S16 32) a x).toNat < S4096.size a)
theorem k0_idx1289_inb : ∀ (v4270 : IVec S16 32) (k0_hw1289 : k0_chk1289 v4270), ∀ a x, ((![v4270] : Fin 1 → IVec S16 32) a x).toNat < S4096.size a := fun v4270 k0_hw1289 => k0_hw1289

def k0_chk1290 (v4273 : IVec S16 32) : Prop :=
  (∀ a x, ((![v4273] : Fin 1 → IVec S16 32) a x).toNat < S12288.size a)
theorem k0_idx1290_inb : ∀ (v4273 : IVec S16 32) (k0_hw1290 : k0_chk1290 v4273), ∀ a x, ((![v4273] : Fin 1 → IVec S16 32) a x).toNat < S12288.size a := fun v4273 k0_hw1290 => k0_hw1290

def k0_chk1291 (v4274 : IVec S16 32) : Prop :=
  (∀ a x, ((![v4274] : Fin 1 → IVec S16 32) a x).toNat < S4096.size a)
theorem k0_idx1291_inb : ∀ (v4274 : IVec S16 32) (k0_hw1291 : k0_chk1291 v4274), ∀ a x, ((![v4274] : Fin 1 → IVec S16 32) a x).toNat < S4096.size a := fun v4274 k0_hw1291 => k0_hw1291

def k0_chk1292 (v4278 : IVec S16 32) : Prop :=
  (∀ a x, ((![v4278] : Fin 1 → IVec S16 32) a x).toNat < S12288.size a)
theorem k0_idx1292_inb : ∀ (v4278 : IVec S16 32) (k0_hw1292 : k0_chk1292 v4278), ∀ a x, ((![v4278] : Fin 1 → IVec S16 32) a x).toNat < S12288.size a := fun v4278 k0_hw1292 => k0_hw1292

def k0_chk1293 (v4279 : IVec S16 32) : Prop :=
  (∀ a x, ((![v4279] : Fin 1 → IVec S16 32) a x).toNat < S4096.size a)
theorem k0_idx1293_inb : ∀ (v4279 : IVec S16 32) (k0_hw1293 : k0_chk1293 v4279), ∀ a x, ((![v4279] : Fin 1 → IVec S16 32) a x).toNat < S4096.size a := fun v4279 k0_hw1293 => k0_hw1293

def k0_chk1294 (v4283 : IVec S16 32) : Prop :=
  (∀ a x, ((![v4283] : Fin 1 → IVec S16 32) a x).toNat < S12288.size a)
theorem k0_idx1294_inb : ∀ (v4283 : IVec S16 32) (k0_hw1294 : k0_chk1294 v4283), ∀ a x, ((![v4283] : Fin 1 → IVec S16 32) a x).toNat < S12288.size a := fun v4283 k0_hw1294 => k0_hw1294

def k0_chk1295 (v4284 : IVec S16 32) : Prop :=
  (∀ a x, ((![v4284] : Fin 1 → IVec S16 32) a x).toNat < S4096.size a)
theorem k0_idx1295_inb : ∀ (v4284 : IVec S16 32) (k0_hw1295 : k0_chk1295 v4284), ∀ a x, ((![v4284] : Fin 1 → IVec S16 32) a x).toNat < S4096.size a := fun v4284 k0_hw1295 => k0_hw1295

def k0_chk1296 (v4287 : IVec S16 32) : Prop :=
  (∀ a x, ((![v4287] : Fin 1 → IVec S16 32) a x).toNat < S16.size a)
theorem k0_idx1296_inb : ∀ (v4287 : IVec S16 32) (k0_hw1296 : k0_chk1296 v4287), ∀ a x, ((![v4287] : Fin 1 → IVec S16 32) a x).toNat < S16.size a := fun v4287 k0_hw1296 => k0_hw1296
def k0_off41 (i : grid0.Coords) : Fin 2 → Nat :=
  let c0_i32_819 : BitVec 32 := 0#32
  let arg1 : BitVec 32 := BitVec.ofNat 32 (i 1).val
  let c256_i32_818 : BitVec 32 := 256#32
  let v4295 : BitVec 32 := Scalar.muli arg1 c256_i32_818
  ![0, v4295.toNat]
def k0_off42 (i : grid0.Coords) : Fin 2 → Nat :=
  let c8_i32_822 : BitVec 32 := 8#32
  let arg1 : BitVec 32 := BitVec.ofNat 32 (i 1).val
  let c256_i32_820 : BitVec 32 := 256#32
  let v4296 : BitVec 32 := Scalar.muli arg1 c256_i32_820
  ![8, v4296.toNat]

def k0_chk1297 (v4306 : IVec S16 32) : Prop :=
  (∀ a x, ((![v4306] : Fin 1 → IVec S16 32) a x).toNat < S12288.size a)
theorem k0_idx1297_inb : ∀ (v4306 : IVec S16 32) (k0_hw1297 : k0_chk1297 v4306), ∀ a x, ((![v4306] : Fin 1 → IVec S16 32) a x).toNat < S12288.size a := fun v4306 k0_hw1297 => k0_hw1297

def k0_chk1298 (v4307 : IVec S16 32) : Prop :=
  (∀ a x, ((![v4307] : Fin 1 → IVec S16 32) a x).toNat < S4096.size a)
theorem k0_idx1298_inb : ∀ (v4307 : IVec S16 32) (k0_hw1298 : k0_chk1298 v4307), ∀ a x, ((![v4307] : Fin 1 → IVec S16 32) a x).toNat < S4096.size a := fun v4307 k0_hw1298 => k0_hw1298

def k0_chk1299 (v4310 : IVec S16 32) : Prop :=
  (∀ a x, ((![v4310] : Fin 1 → IVec S16 32) a x).toNat < S12288.size a)
theorem k0_idx1299_inb : ∀ (v4310 : IVec S16 32) (k0_hw1299 : k0_chk1299 v4310), ∀ a x, ((![v4310] : Fin 1 → IVec S16 32) a x).toNat < S12288.size a := fun v4310 k0_hw1299 => k0_hw1299

def k0_chk1300 (v4311 : IVec S16 32) : Prop :=
  (∀ a x, ((![v4311] : Fin 1 → IVec S16 32) a x).toNat < S4096.size a)
theorem k0_idx1300_inb : ∀ (v4311 : IVec S16 32) (k0_hw1300 : k0_chk1300 v4311), ∀ a x, ((![v4311] : Fin 1 → IVec S16 32) a x).toNat < S4096.size a := fun v4311 k0_hw1300 => k0_hw1300

def k0_chk1301 (v4315 : IVec S16 32) : Prop :=
  (∀ a x, ((![v4315] : Fin 1 → IVec S16 32) a x).toNat < S12288.size a)
theorem k0_idx1301_inb : ∀ (v4315 : IVec S16 32) (k0_hw1301 : k0_chk1301 v4315), ∀ a x, ((![v4315] : Fin 1 → IVec S16 32) a x).toNat < S12288.size a := fun v4315 k0_hw1301 => k0_hw1301

def k0_chk1302 (v4316 : IVec S16 32) : Prop :=
  (∀ a x, ((![v4316] : Fin 1 → IVec S16 32) a x).toNat < S4096.size a)
theorem k0_idx1302_inb : ∀ (v4316 : IVec S16 32) (k0_hw1302 : k0_chk1302 v4316), ∀ a x, ((![v4316] : Fin 1 → IVec S16 32) a x).toNat < S4096.size a := fun v4316 k0_hw1302 => k0_hw1302

def k0_chk1303 (v4320 : IVec S16 32) : Prop :=
  (∀ a x, ((![v4320] : Fin 1 → IVec S16 32) a x).toNat < S12288.size a)
theorem k0_idx1303_inb : ∀ (v4320 : IVec S16 32) (k0_hw1303 : k0_chk1303 v4320), ∀ a x, ((![v4320] : Fin 1 → IVec S16 32) a x).toNat < S12288.size a := fun v4320 k0_hw1303 => k0_hw1303

def k0_chk1304 (v4321 : IVec S16 32) : Prop :=
  (∀ a x, ((![v4321] : Fin 1 → IVec S16 32) a x).toNat < S4096.size a)
theorem k0_idx1304_inb : ∀ (v4321 : IVec S16 32) (k0_hw1304 : k0_chk1304 v4321), ∀ a x, ((![v4321] : Fin 1 → IVec S16 32) a x).toNat < S4096.size a := fun v4321 k0_hw1304 => k0_hw1304

def k0_chk1305 (v4324 : IVec S16 32) : Prop :=
  (∀ a x, ((![v4324] : Fin 1 → IVec S16 32) a x).toNat < S16.size a)
theorem k0_idx1305_inb : ∀ (v4324 : IVec S16 32) (k0_hw1305 : k0_chk1305 v4324), ∀ a x, ((![v4324] : Fin 1 → IVec S16 32) a x).toNat < S16.size a := fun v4324 k0_hw1305 => k0_hw1305

def k0_chk1306 (v4333 : IVec S16 32) : Prop :=
  (∀ a x, ((![v4333] : Fin 1 → IVec S16 32) a x).toNat < S12288.size a)
theorem k0_idx1306_inb : ∀ (v4333 : IVec S16 32) (k0_hw1306 : k0_chk1306 v4333), ∀ a x, ((![v4333] : Fin 1 → IVec S16 32) a x).toNat < S12288.size a := fun v4333 k0_hw1306 => k0_hw1306

def k0_chk1307 (v4334 : IVec S16 32) : Prop :=
  (∀ a x, ((![v4334] : Fin 1 → IVec S16 32) a x).toNat < S4096.size a)
theorem k0_idx1307_inb : ∀ (v4334 : IVec S16 32) (k0_hw1307 : k0_chk1307 v4334), ∀ a x, ((![v4334] : Fin 1 → IVec S16 32) a x).toNat < S4096.size a := fun v4334 k0_hw1307 => k0_hw1307

def k0_chk1308 (v4337 : IVec S16 32) : Prop :=
  (∀ a x, ((![v4337] : Fin 1 → IVec S16 32) a x).toNat < S12288.size a)
theorem k0_idx1308_inb : ∀ (v4337 : IVec S16 32) (k0_hw1308 : k0_chk1308 v4337), ∀ a x, ((![v4337] : Fin 1 → IVec S16 32) a x).toNat < S12288.size a := fun v4337 k0_hw1308 => k0_hw1308

def k0_chk1309 (v4338 : IVec S16 32) : Prop :=
  (∀ a x, ((![v4338] : Fin 1 → IVec S16 32) a x).toNat < S4096.size a)
theorem k0_idx1309_inb : ∀ (v4338 : IVec S16 32) (k0_hw1309 : k0_chk1309 v4338), ∀ a x, ((![v4338] : Fin 1 → IVec S16 32) a x).toNat < S4096.size a := fun v4338 k0_hw1309 => k0_hw1309

def k0_chk1310 (v4342 : IVec S16 32) : Prop :=
  (∀ a x, ((![v4342] : Fin 1 → IVec S16 32) a x).toNat < S12288.size a)
theorem k0_idx1310_inb : ∀ (v4342 : IVec S16 32) (k0_hw1310 : k0_chk1310 v4342), ∀ a x, ((![v4342] : Fin 1 → IVec S16 32) a x).toNat < S12288.size a := fun v4342 k0_hw1310 => k0_hw1310

def k0_chk1311 (v4343 : IVec S16 32) : Prop :=
  (∀ a x, ((![v4343] : Fin 1 → IVec S16 32) a x).toNat < S4096.size a)
theorem k0_idx1311_inb : ∀ (v4343 : IVec S16 32) (k0_hw1311 : k0_chk1311 v4343), ∀ a x, ((![v4343] : Fin 1 → IVec S16 32) a x).toNat < S4096.size a := fun v4343 k0_hw1311 => k0_hw1311

def k0_chk1312 (v4347 : IVec S16 32) : Prop :=
  (∀ a x, ((![v4347] : Fin 1 → IVec S16 32) a x).toNat < S12288.size a)
theorem k0_idx1312_inb : ∀ (v4347 : IVec S16 32) (k0_hw1312 : k0_chk1312 v4347), ∀ a x, ((![v4347] : Fin 1 → IVec S16 32) a x).toNat < S12288.size a := fun v4347 k0_hw1312 => k0_hw1312

def k0_chk1313 (v4348 : IVec S16 32) : Prop :=
  (∀ a x, ((![v4348] : Fin 1 → IVec S16 32) a x).toNat < S4096.size a)
theorem k0_idx1313_inb : ∀ (v4348 : IVec S16 32) (k0_hw1313 : k0_chk1313 v4348), ∀ a x, ((![v4348] : Fin 1 → IVec S16 32) a x).toNat < S4096.size a := fun v4348 k0_hw1313 => k0_hw1313

def k0_chk1314 (v4351 : IVec S16 32) : Prop :=
  (∀ a x, ((![v4351] : Fin 1 → IVec S16 32) a x).toNat < S16.size a)
theorem k0_idx1314_inb : ∀ (v4351 : IVec S16 32) (k0_hw1314 : k0_chk1314 v4351), ∀ a x, ((![v4351] : Fin 1 → IVec S16 32) a x).toNat < S16.size a := fun v4351 k0_hw1314 => k0_hw1314

def k0_chk1315 (v4360 : IVec S16 32) : Prop :=
  (∀ a x, ((![v4360] : Fin 1 → IVec S16 32) a x).toNat < S12288.size a)
theorem k0_idx1315_inb : ∀ (v4360 : IVec S16 32) (k0_hw1315 : k0_chk1315 v4360), ∀ a x, ((![v4360] : Fin 1 → IVec S16 32) a x).toNat < S12288.size a := fun v4360 k0_hw1315 => k0_hw1315

def k0_chk1316 (v4361 : IVec S16 32) : Prop :=
  (∀ a x, ((![v4361] : Fin 1 → IVec S16 32) a x).toNat < S4096.size a)
theorem k0_idx1316_inb : ∀ (v4361 : IVec S16 32) (k0_hw1316 : k0_chk1316 v4361), ∀ a x, ((![v4361] : Fin 1 → IVec S16 32) a x).toNat < S4096.size a := fun v4361 k0_hw1316 => k0_hw1316

def k0_chk1317 (v4364 : IVec S16 32) : Prop :=
  (∀ a x, ((![v4364] : Fin 1 → IVec S16 32) a x).toNat < S12288.size a)
theorem k0_idx1317_inb : ∀ (v4364 : IVec S16 32) (k0_hw1317 : k0_chk1317 v4364), ∀ a x, ((![v4364] : Fin 1 → IVec S16 32) a x).toNat < S12288.size a := fun v4364 k0_hw1317 => k0_hw1317

def k0_chk1318 (v4365 : IVec S16 32) : Prop :=
  (∀ a x, ((![v4365] : Fin 1 → IVec S16 32) a x).toNat < S4096.size a)
theorem k0_idx1318_inb : ∀ (v4365 : IVec S16 32) (k0_hw1318 : k0_chk1318 v4365), ∀ a x, ((![v4365] : Fin 1 → IVec S16 32) a x).toNat < S4096.size a := fun v4365 k0_hw1318 => k0_hw1318

def k0_chk1319 (v4369 : IVec S16 32) : Prop :=
  (∀ a x, ((![v4369] : Fin 1 → IVec S16 32) a x).toNat < S12288.size a)
theorem k0_idx1319_inb : ∀ (v4369 : IVec S16 32) (k0_hw1319 : k0_chk1319 v4369), ∀ a x, ((![v4369] : Fin 1 → IVec S16 32) a x).toNat < S12288.size a := fun v4369 k0_hw1319 => k0_hw1319

def k0_chk1320 (v4370 : IVec S16 32) : Prop :=
  (∀ a x, ((![v4370] : Fin 1 → IVec S16 32) a x).toNat < S4096.size a)
theorem k0_idx1320_inb : ∀ (v4370 : IVec S16 32) (k0_hw1320 : k0_chk1320 v4370), ∀ a x, ((![v4370] : Fin 1 → IVec S16 32) a x).toNat < S4096.size a := fun v4370 k0_hw1320 => k0_hw1320

def k0_chk1321 (v4374 : IVec S16 32) : Prop :=
  (∀ a x, ((![v4374] : Fin 1 → IVec S16 32) a x).toNat < S12288.size a)
theorem k0_idx1321_inb : ∀ (v4374 : IVec S16 32) (k0_hw1321 : k0_chk1321 v4374), ∀ a x, ((![v4374] : Fin 1 → IVec S16 32) a x).toNat < S12288.size a := fun v4374 k0_hw1321 => k0_hw1321

def k0_chk1322 (v4375 : IVec S16 32) : Prop :=
  (∀ a x, ((![v4375] : Fin 1 → IVec S16 32) a x).toNat < S4096.size a)
theorem k0_idx1322_inb : ∀ (v4375 : IVec S16 32) (k0_hw1322 : k0_chk1322 v4375), ∀ a x, ((![v4375] : Fin 1 → IVec S16 32) a x).toNat < S4096.size a := fun v4375 k0_hw1322 => k0_hw1322

def k0_chk1323 (v4378 : IVec S16 32) : Prop :=
  (∀ a x, ((![v4378] : Fin 1 → IVec S16 32) a x).toNat < S16.size a)
theorem k0_idx1323_inb : ∀ (v4378 : IVec S16 32) (k0_hw1323 : k0_chk1323 v4378), ∀ a x, ((![v4378] : Fin 1 → IVec S16 32) a x).toNat < S16.size a := fun v4378 k0_hw1323 => k0_hw1323

def k0_chk1324 (v4387 : IVec S16 32) : Prop :=
  (∀ a x, ((![v4387] : Fin 1 → IVec S16 32) a x).toNat < S12288.size a)
theorem k0_idx1324_inb : ∀ (v4387 : IVec S16 32) (k0_hw1324 : k0_chk1324 v4387), ∀ a x, ((![v4387] : Fin 1 → IVec S16 32) a x).toNat < S12288.size a := fun v4387 k0_hw1324 => k0_hw1324

def k0_chk1325 (v4388 : IVec S16 32) : Prop :=
  (∀ a x, ((![v4388] : Fin 1 → IVec S16 32) a x).toNat < S4096.size a)
theorem k0_idx1325_inb : ∀ (v4388 : IVec S16 32) (k0_hw1325 : k0_chk1325 v4388), ∀ a x, ((![v4388] : Fin 1 → IVec S16 32) a x).toNat < S4096.size a := fun v4388 k0_hw1325 => k0_hw1325

def k0_chk1326 (v4391 : IVec S16 32) : Prop :=
  (∀ a x, ((![v4391] : Fin 1 → IVec S16 32) a x).toNat < S12288.size a)
theorem k0_idx1326_inb : ∀ (v4391 : IVec S16 32) (k0_hw1326 : k0_chk1326 v4391), ∀ a x, ((![v4391] : Fin 1 → IVec S16 32) a x).toNat < S12288.size a := fun v4391 k0_hw1326 => k0_hw1326

def k0_chk1327 (v4392 : IVec S16 32) : Prop :=
  (∀ a x, ((![v4392] : Fin 1 → IVec S16 32) a x).toNat < S4096.size a)
theorem k0_idx1327_inb : ∀ (v4392 : IVec S16 32) (k0_hw1327 : k0_chk1327 v4392), ∀ a x, ((![v4392] : Fin 1 → IVec S16 32) a x).toNat < S4096.size a := fun v4392 k0_hw1327 => k0_hw1327

def k0_chk1328 (v4396 : IVec S16 32) : Prop :=
  (∀ a x, ((![v4396] : Fin 1 → IVec S16 32) a x).toNat < S12288.size a)
theorem k0_idx1328_inb : ∀ (v4396 : IVec S16 32) (k0_hw1328 : k0_chk1328 v4396), ∀ a x, ((![v4396] : Fin 1 → IVec S16 32) a x).toNat < S12288.size a := fun v4396 k0_hw1328 => k0_hw1328

def k0_chk1329 (v4397 : IVec S16 32) : Prop :=
  (∀ a x, ((![v4397] : Fin 1 → IVec S16 32) a x).toNat < S4096.size a)
theorem k0_idx1329_inb : ∀ (v4397 : IVec S16 32) (k0_hw1329 : k0_chk1329 v4397), ∀ a x, ((![v4397] : Fin 1 → IVec S16 32) a x).toNat < S4096.size a := fun v4397 k0_hw1329 => k0_hw1329

def k0_chk1330 (v4401 : IVec S16 32) : Prop :=
  (∀ a x, ((![v4401] : Fin 1 → IVec S16 32) a x).toNat < S12288.size a)
theorem k0_idx1330_inb : ∀ (v4401 : IVec S16 32) (k0_hw1330 : k0_chk1330 v4401), ∀ a x, ((![v4401] : Fin 1 → IVec S16 32) a x).toNat < S12288.size a := fun v4401 k0_hw1330 => k0_hw1330

def k0_chk1331 (v4402 : IVec S16 32) : Prop :=
  (∀ a x, ((![v4402] : Fin 1 → IVec S16 32) a x).toNat < S4096.size a)
theorem k0_idx1331_inb : ∀ (v4402 : IVec S16 32) (k0_hw1331 : k0_chk1331 v4402), ∀ a x, ((![v4402] : Fin 1 → IVec S16 32) a x).toNat < S4096.size a := fun v4402 k0_hw1331 => k0_hw1331

def k0_chk1332 (v4405 : IVec S16 32) : Prop :=
  (∀ a x, ((![v4405] : Fin 1 → IVec S16 32) a x).toNat < S16.size a)
theorem k0_idx1332_inb : ∀ (v4405 : IVec S16 32) (k0_hw1332 : k0_chk1332 v4405), ∀ a x, ((![v4405] : Fin 1 → IVec S16 32) a x).toNat < S16.size a := fun v4405 k0_hw1332 => k0_hw1332

def k0_chk1333 (v4414 : IVec S16 32) : Prop :=
  (∀ a x, ((![v4414] : Fin 1 → IVec S16 32) a x).toNat < S12288.size a)
theorem k0_idx1333_inb : ∀ (v4414 : IVec S16 32) (k0_hw1333 : k0_chk1333 v4414), ∀ a x, ((![v4414] : Fin 1 → IVec S16 32) a x).toNat < S12288.size a := fun v4414 k0_hw1333 => k0_hw1333

def k0_chk1334 (v4415 : IVec S16 32) : Prop :=
  (∀ a x, ((![v4415] : Fin 1 → IVec S16 32) a x).toNat < S4096.size a)
theorem k0_idx1334_inb : ∀ (v4415 : IVec S16 32) (k0_hw1334 : k0_chk1334 v4415), ∀ a x, ((![v4415] : Fin 1 → IVec S16 32) a x).toNat < S4096.size a := fun v4415 k0_hw1334 => k0_hw1334

def k0_chk1335 (v4418 : IVec S16 32) : Prop :=
  (∀ a x, ((![v4418] : Fin 1 → IVec S16 32) a x).toNat < S12288.size a)
theorem k0_idx1335_inb : ∀ (v4418 : IVec S16 32) (k0_hw1335 : k0_chk1335 v4418), ∀ a x, ((![v4418] : Fin 1 → IVec S16 32) a x).toNat < S12288.size a := fun v4418 k0_hw1335 => k0_hw1335

def k0_chk1336 (v4419 : IVec S16 32) : Prop :=
  (∀ a x, ((![v4419] : Fin 1 → IVec S16 32) a x).toNat < S4096.size a)
theorem k0_idx1336_inb : ∀ (v4419 : IVec S16 32) (k0_hw1336 : k0_chk1336 v4419), ∀ a x, ((![v4419] : Fin 1 → IVec S16 32) a x).toNat < S4096.size a := fun v4419 k0_hw1336 => k0_hw1336

def k0_chk1337 (v4423 : IVec S16 32) : Prop :=
  (∀ a x, ((![v4423] : Fin 1 → IVec S16 32) a x).toNat < S12288.size a)
theorem k0_idx1337_inb : ∀ (v4423 : IVec S16 32) (k0_hw1337 : k0_chk1337 v4423), ∀ a x, ((![v4423] : Fin 1 → IVec S16 32) a x).toNat < S12288.size a := fun v4423 k0_hw1337 => k0_hw1337

def k0_chk1338 (v4424 : IVec S16 32) : Prop :=
  (∀ a x, ((![v4424] : Fin 1 → IVec S16 32) a x).toNat < S4096.size a)
theorem k0_idx1338_inb : ∀ (v4424 : IVec S16 32) (k0_hw1338 : k0_chk1338 v4424), ∀ a x, ((![v4424] : Fin 1 → IVec S16 32) a x).toNat < S4096.size a := fun v4424 k0_hw1338 => k0_hw1338

def k0_chk1339 (v4428 : IVec S16 32) : Prop :=
  (∀ a x, ((![v4428] : Fin 1 → IVec S16 32) a x).toNat < S12288.size a)
theorem k0_idx1339_inb : ∀ (v4428 : IVec S16 32) (k0_hw1339 : k0_chk1339 v4428), ∀ a x, ((![v4428] : Fin 1 → IVec S16 32) a x).toNat < S12288.size a := fun v4428 k0_hw1339 => k0_hw1339

def k0_chk1340 (v4429 : IVec S16 32) : Prop :=
  (∀ a x, ((![v4429] : Fin 1 → IVec S16 32) a x).toNat < S4096.size a)
theorem k0_idx1340_inb : ∀ (v4429 : IVec S16 32) (k0_hw1340 : k0_chk1340 v4429), ∀ a x, ((![v4429] : Fin 1 → IVec S16 32) a x).toNat < S4096.size a := fun v4429 k0_hw1340 => k0_hw1340

def k0_chk1341 (v4432 : IVec S16 32) : Prop :=
  (∀ a x, ((![v4432] : Fin 1 → IVec S16 32) a x).toNat < S16.size a)
theorem k0_idx1341_inb : ∀ (v4432 : IVec S16 32) (k0_hw1341 : k0_chk1341 v4432), ∀ a x, ((![v4432] : Fin 1 → IVec S16 32) a x).toNat < S16.size a := fun v4432 k0_hw1341 => k0_hw1341

def k0_chk1342 (v4441 : IVec S16 32) : Prop :=
  (∀ a x, ((![v4441] : Fin 1 → IVec S16 32) a x).toNat < S12288.size a)
theorem k0_idx1342_inb : ∀ (v4441 : IVec S16 32) (k0_hw1342 : k0_chk1342 v4441), ∀ a x, ((![v4441] : Fin 1 → IVec S16 32) a x).toNat < S12288.size a := fun v4441 k0_hw1342 => k0_hw1342

def k0_chk1343 (v4442 : IVec S16 32) : Prop :=
  (∀ a x, ((![v4442] : Fin 1 → IVec S16 32) a x).toNat < S4096.size a)
theorem k0_idx1343_inb : ∀ (v4442 : IVec S16 32) (k0_hw1343 : k0_chk1343 v4442), ∀ a x, ((![v4442] : Fin 1 → IVec S16 32) a x).toNat < S4096.size a := fun v4442 k0_hw1343 => k0_hw1343

def k0_chk1344 (v4445 : IVec S16 32) : Prop :=
  (∀ a x, ((![v4445] : Fin 1 → IVec S16 32) a x).toNat < S12288.size a)
theorem k0_idx1344_inb : ∀ (v4445 : IVec S16 32) (k0_hw1344 : k0_chk1344 v4445), ∀ a x, ((![v4445] : Fin 1 → IVec S16 32) a x).toNat < S12288.size a := fun v4445 k0_hw1344 => k0_hw1344

def k0_chk1345 (v4446 : IVec S16 32) : Prop :=
  (∀ a x, ((![v4446] : Fin 1 → IVec S16 32) a x).toNat < S4096.size a)
theorem k0_idx1345_inb : ∀ (v4446 : IVec S16 32) (k0_hw1345 : k0_chk1345 v4446), ∀ a x, ((![v4446] : Fin 1 → IVec S16 32) a x).toNat < S4096.size a := fun v4446 k0_hw1345 => k0_hw1345

def k0_chk1346 (v4450 : IVec S16 32) : Prop :=
  (∀ a x, ((![v4450] : Fin 1 → IVec S16 32) a x).toNat < S12288.size a)
theorem k0_idx1346_inb : ∀ (v4450 : IVec S16 32) (k0_hw1346 : k0_chk1346 v4450), ∀ a x, ((![v4450] : Fin 1 → IVec S16 32) a x).toNat < S12288.size a := fun v4450 k0_hw1346 => k0_hw1346

def k0_chk1347 (v4451 : IVec S16 32) : Prop :=
  (∀ a x, ((![v4451] : Fin 1 → IVec S16 32) a x).toNat < S4096.size a)
theorem k0_idx1347_inb : ∀ (v4451 : IVec S16 32) (k0_hw1347 : k0_chk1347 v4451), ∀ a x, ((![v4451] : Fin 1 → IVec S16 32) a x).toNat < S4096.size a := fun v4451 k0_hw1347 => k0_hw1347

def k0_chk1348 (v4455 : IVec S16 32) : Prop :=
  (∀ a x, ((![v4455] : Fin 1 → IVec S16 32) a x).toNat < S12288.size a)
theorem k0_idx1348_inb : ∀ (v4455 : IVec S16 32) (k0_hw1348 : k0_chk1348 v4455), ∀ a x, ((![v4455] : Fin 1 → IVec S16 32) a x).toNat < S12288.size a := fun v4455 k0_hw1348 => k0_hw1348

def k0_chk1349 (v4456 : IVec S16 32) : Prop :=
  (∀ a x, ((![v4456] : Fin 1 → IVec S16 32) a x).toNat < S4096.size a)
theorem k0_idx1349_inb : ∀ (v4456 : IVec S16 32) (k0_hw1349 : k0_chk1349 v4456), ∀ a x, ((![v4456] : Fin 1 → IVec S16 32) a x).toNat < S4096.size a := fun v4456 k0_hw1349 => k0_hw1349

def k0_chk1350 (v4459 : IVec S16 32) : Prop :=
  (∀ a x, ((![v4459] : Fin 1 → IVec S16 32) a x).toNat < S16.size a)
theorem k0_idx1350_inb : ∀ (v4459 : IVec S16 32) (k0_hw1350 : k0_chk1350 v4459), ∀ a x, ((![v4459] : Fin 1 → IVec S16 32) a x).toNat < S16.size a := fun v4459 k0_hw1350 => k0_hw1350

def k0_chk1351 (v4468 : IVec S16 32) : Prop :=
  (∀ a x, ((![v4468] : Fin 1 → IVec S16 32) a x).toNat < S12288.size a)
theorem k0_idx1351_inb : ∀ (v4468 : IVec S16 32) (k0_hw1351 : k0_chk1351 v4468), ∀ a x, ((![v4468] : Fin 1 → IVec S16 32) a x).toNat < S12288.size a := fun v4468 k0_hw1351 => k0_hw1351

def k0_chk1352 (v4469 : IVec S16 32) : Prop :=
  (∀ a x, ((![v4469] : Fin 1 → IVec S16 32) a x).toNat < S4096.size a)
theorem k0_idx1352_inb : ∀ (v4469 : IVec S16 32) (k0_hw1352 : k0_chk1352 v4469), ∀ a x, ((![v4469] : Fin 1 → IVec S16 32) a x).toNat < S4096.size a := fun v4469 k0_hw1352 => k0_hw1352

def k0_chk1353 (v4472 : IVec S16 32) : Prop :=
  (∀ a x, ((![v4472] : Fin 1 → IVec S16 32) a x).toNat < S12288.size a)
theorem k0_idx1353_inb : ∀ (v4472 : IVec S16 32) (k0_hw1353 : k0_chk1353 v4472), ∀ a x, ((![v4472] : Fin 1 → IVec S16 32) a x).toNat < S12288.size a := fun v4472 k0_hw1353 => k0_hw1353

def k0_chk1354 (v4473 : IVec S16 32) : Prop :=
  (∀ a x, ((![v4473] : Fin 1 → IVec S16 32) a x).toNat < S4096.size a)
theorem k0_idx1354_inb : ∀ (v4473 : IVec S16 32) (k0_hw1354 : k0_chk1354 v4473), ∀ a x, ((![v4473] : Fin 1 → IVec S16 32) a x).toNat < S4096.size a := fun v4473 k0_hw1354 => k0_hw1354

def k0_chk1355 (v4477 : IVec S16 32) : Prop :=
  (∀ a x, ((![v4477] : Fin 1 → IVec S16 32) a x).toNat < S12288.size a)
theorem k0_idx1355_inb : ∀ (v4477 : IVec S16 32) (k0_hw1355 : k0_chk1355 v4477), ∀ a x, ((![v4477] : Fin 1 → IVec S16 32) a x).toNat < S12288.size a := fun v4477 k0_hw1355 => k0_hw1355

def k0_chk1356 (v4478 : IVec S16 32) : Prop :=
  (∀ a x, ((![v4478] : Fin 1 → IVec S16 32) a x).toNat < S4096.size a)
theorem k0_idx1356_inb : ∀ (v4478 : IVec S16 32) (k0_hw1356 : k0_chk1356 v4478), ∀ a x, ((![v4478] : Fin 1 → IVec S16 32) a x).toNat < S4096.size a := fun v4478 k0_hw1356 => k0_hw1356

def k0_chk1357 (v4482 : IVec S16 32) : Prop :=
  (∀ a x, ((![v4482] : Fin 1 → IVec S16 32) a x).toNat < S12288.size a)
theorem k0_idx1357_inb : ∀ (v4482 : IVec S16 32) (k0_hw1357 : k0_chk1357 v4482), ∀ a x, ((![v4482] : Fin 1 → IVec S16 32) a x).toNat < S12288.size a := fun v4482 k0_hw1357 => k0_hw1357

def k0_chk1358 (v4483 : IVec S16 32) : Prop :=
  (∀ a x, ((![v4483] : Fin 1 → IVec S16 32) a x).toNat < S4096.size a)
theorem k0_idx1358_inb : ∀ (v4483 : IVec S16 32) (k0_hw1358 : k0_chk1358 v4483), ∀ a x, ((![v4483] : Fin 1 → IVec S16 32) a x).toNat < S4096.size a := fun v4483 k0_hw1358 => k0_hw1358

def k0_chk1359 (v4486 : IVec S16 32) : Prop :=
  (∀ a x, ((![v4486] : Fin 1 → IVec S16 32) a x).toNat < S16.size a)
theorem k0_idx1359_inb : ∀ (v4486 : IVec S16 32) (k0_hw1359 : k0_chk1359 v4486), ∀ a x, ((![v4486] : Fin 1 → IVec S16 32) a x).toNat < S16.size a := fun v4486 k0_hw1359 => k0_hw1359

def k0_chk1360 (v4495 : IVec S16 32) : Prop :=
  (∀ a x, ((![v4495] : Fin 1 → IVec S16 32) a x).toNat < S12288.size a)
theorem k0_idx1360_inb : ∀ (v4495 : IVec S16 32) (k0_hw1360 : k0_chk1360 v4495), ∀ a x, ((![v4495] : Fin 1 → IVec S16 32) a x).toNat < S12288.size a := fun v4495 k0_hw1360 => k0_hw1360

def k0_chk1361 (v4496 : IVec S16 32) : Prop :=
  (∀ a x, ((![v4496] : Fin 1 → IVec S16 32) a x).toNat < S4096.size a)
theorem k0_idx1361_inb : ∀ (v4496 : IVec S16 32) (k0_hw1361 : k0_chk1361 v4496), ∀ a x, ((![v4496] : Fin 1 → IVec S16 32) a x).toNat < S4096.size a := fun v4496 k0_hw1361 => k0_hw1361

def k0_chk1362 (v4499 : IVec S16 32) : Prop :=
  (∀ a x, ((![v4499] : Fin 1 → IVec S16 32) a x).toNat < S12288.size a)
theorem k0_idx1362_inb : ∀ (v4499 : IVec S16 32) (k0_hw1362 : k0_chk1362 v4499), ∀ a x, ((![v4499] : Fin 1 → IVec S16 32) a x).toNat < S12288.size a := fun v4499 k0_hw1362 => k0_hw1362

def k0_chk1363 (v4500 : IVec S16 32) : Prop :=
  (∀ a x, ((![v4500] : Fin 1 → IVec S16 32) a x).toNat < S4096.size a)
theorem k0_idx1363_inb : ∀ (v4500 : IVec S16 32) (k0_hw1363 : k0_chk1363 v4500), ∀ a x, ((![v4500] : Fin 1 → IVec S16 32) a x).toNat < S4096.size a := fun v4500 k0_hw1363 => k0_hw1363

def k0_chk1364 (v4504 : IVec S16 32) : Prop :=
  (∀ a x, ((![v4504] : Fin 1 → IVec S16 32) a x).toNat < S12288.size a)
theorem k0_idx1364_inb : ∀ (v4504 : IVec S16 32) (k0_hw1364 : k0_chk1364 v4504), ∀ a x, ((![v4504] : Fin 1 → IVec S16 32) a x).toNat < S12288.size a := fun v4504 k0_hw1364 => k0_hw1364

def k0_chk1365 (v4505 : IVec S16 32) : Prop :=
  (∀ a x, ((![v4505] : Fin 1 → IVec S16 32) a x).toNat < S4096.size a)
theorem k0_idx1365_inb : ∀ (v4505 : IVec S16 32) (k0_hw1365 : k0_chk1365 v4505), ∀ a x, ((![v4505] : Fin 1 → IVec S16 32) a x).toNat < S4096.size a := fun v4505 k0_hw1365 => k0_hw1365

def k0_chk1366 (v4509 : IVec S16 32) : Prop :=
  (∀ a x, ((![v4509] : Fin 1 → IVec S16 32) a x).toNat < S12288.size a)
theorem k0_idx1366_inb : ∀ (v4509 : IVec S16 32) (k0_hw1366 : k0_chk1366 v4509), ∀ a x, ((![v4509] : Fin 1 → IVec S16 32) a x).toNat < S12288.size a := fun v4509 k0_hw1366 => k0_hw1366

def k0_chk1367 (v4510 : IVec S16 32) : Prop :=
  (∀ a x, ((![v4510] : Fin 1 → IVec S16 32) a x).toNat < S4096.size a)
theorem k0_idx1367_inb : ∀ (v4510 : IVec S16 32) (k0_hw1367 : k0_chk1367 v4510), ∀ a x, ((![v4510] : Fin 1 → IVec S16 32) a x).toNat < S4096.size a := fun v4510 k0_hw1367 => k0_hw1367

def k0_chk1368 (v4513 : IVec S16 32) : Prop :=
  (∀ a x, ((![v4513] : Fin 1 → IVec S16 32) a x).toNat < S16.size a)
theorem k0_idx1368_inb : ∀ (v4513 : IVec S16 32) (k0_hw1368 : k0_chk1368 v4513), ∀ a x, ((![v4513] : Fin 1 → IVec S16 32) a x).toNat < S16.size a := fun v4513 k0_hw1368 => k0_hw1368

def k0_chk1369 (v4522 : IVec S16 32) : Prop :=
  (∀ a x, ((![v4522] : Fin 1 → IVec S16 32) a x).toNat < S12288.size a)
theorem k0_idx1369_inb : ∀ (v4522 : IVec S16 32) (k0_hw1369 : k0_chk1369 v4522), ∀ a x, ((![v4522] : Fin 1 → IVec S16 32) a x).toNat < S12288.size a := fun v4522 k0_hw1369 => k0_hw1369

def k0_chk1370 (v4523 : IVec S16 32) : Prop :=
  (∀ a x, ((![v4523] : Fin 1 → IVec S16 32) a x).toNat < S4096.size a)
theorem k0_idx1370_inb : ∀ (v4523 : IVec S16 32) (k0_hw1370 : k0_chk1370 v4523), ∀ a x, ((![v4523] : Fin 1 → IVec S16 32) a x).toNat < S4096.size a := fun v4523 k0_hw1370 => k0_hw1370

def k0_chk1371 (v4526 : IVec S16 32) : Prop :=
  (∀ a x, ((![v4526] : Fin 1 → IVec S16 32) a x).toNat < S12288.size a)
theorem k0_idx1371_inb : ∀ (v4526 : IVec S16 32) (k0_hw1371 : k0_chk1371 v4526), ∀ a x, ((![v4526] : Fin 1 → IVec S16 32) a x).toNat < S12288.size a := fun v4526 k0_hw1371 => k0_hw1371

def k0_chk1372 (v4527 : IVec S16 32) : Prop :=
  (∀ a x, ((![v4527] : Fin 1 → IVec S16 32) a x).toNat < S4096.size a)
theorem k0_idx1372_inb : ∀ (v4527 : IVec S16 32) (k0_hw1372 : k0_chk1372 v4527), ∀ a x, ((![v4527] : Fin 1 → IVec S16 32) a x).toNat < S4096.size a := fun v4527 k0_hw1372 => k0_hw1372

def k0_chk1373 (v4531 : IVec S16 32) : Prop :=
  (∀ a x, ((![v4531] : Fin 1 → IVec S16 32) a x).toNat < S12288.size a)
theorem k0_idx1373_inb : ∀ (v4531 : IVec S16 32) (k0_hw1373 : k0_chk1373 v4531), ∀ a x, ((![v4531] : Fin 1 → IVec S16 32) a x).toNat < S12288.size a := fun v4531 k0_hw1373 => k0_hw1373

def k0_chk1374 (v4532 : IVec S16 32) : Prop :=
  (∀ a x, ((![v4532] : Fin 1 → IVec S16 32) a x).toNat < S4096.size a)
theorem k0_idx1374_inb : ∀ (v4532 : IVec S16 32) (k0_hw1374 : k0_chk1374 v4532), ∀ a x, ((![v4532] : Fin 1 → IVec S16 32) a x).toNat < S4096.size a := fun v4532 k0_hw1374 => k0_hw1374

def k0_chk1375 (v4536 : IVec S16 32) : Prop :=
  (∀ a x, ((![v4536] : Fin 1 → IVec S16 32) a x).toNat < S12288.size a)
theorem k0_idx1375_inb : ∀ (v4536 : IVec S16 32) (k0_hw1375 : k0_chk1375 v4536), ∀ a x, ((![v4536] : Fin 1 → IVec S16 32) a x).toNat < S12288.size a := fun v4536 k0_hw1375 => k0_hw1375

def k0_chk1376 (v4537 : IVec S16 32) : Prop :=
  (∀ a x, ((![v4537] : Fin 1 → IVec S16 32) a x).toNat < S4096.size a)
theorem k0_idx1376_inb : ∀ (v4537 : IVec S16 32) (k0_hw1376 : k0_chk1376 v4537), ∀ a x, ((![v4537] : Fin 1 → IVec S16 32) a x).toNat < S4096.size a := fun v4537 k0_hw1376 => k0_hw1376

def k0_chk1377 (v4540 : IVec S16 32) : Prop :=
  (∀ a x, ((![v4540] : Fin 1 → IVec S16 32) a x).toNat < S16.size a)
theorem k0_idx1377_inb : ∀ (v4540 : IVec S16 32) (k0_hw1377 : k0_chk1377 v4540), ∀ a x, ((![v4540] : Fin 1 → IVec S16 32) a x).toNat < S16.size a := fun v4540 k0_hw1377 => k0_hw1377

def k0_chk1378 (v4549 : IVec S16 32) : Prop :=
  (∀ a x, ((![v4549] : Fin 1 → IVec S16 32) a x).toNat < S12288.size a)
theorem k0_idx1378_inb : ∀ (v4549 : IVec S16 32) (k0_hw1378 : k0_chk1378 v4549), ∀ a x, ((![v4549] : Fin 1 → IVec S16 32) a x).toNat < S12288.size a := fun v4549 k0_hw1378 => k0_hw1378

def k0_chk1379 (v4550 : IVec S16 32) : Prop :=
  (∀ a x, ((![v4550] : Fin 1 → IVec S16 32) a x).toNat < S4096.size a)
theorem k0_idx1379_inb : ∀ (v4550 : IVec S16 32) (k0_hw1379 : k0_chk1379 v4550), ∀ a x, ((![v4550] : Fin 1 → IVec S16 32) a x).toNat < S4096.size a := fun v4550 k0_hw1379 => k0_hw1379

def k0_chk1380 (v4553 : IVec S16 32) : Prop :=
  (∀ a x, ((![v4553] : Fin 1 → IVec S16 32) a x).toNat < S12288.size a)
theorem k0_idx1380_inb : ∀ (v4553 : IVec S16 32) (k0_hw1380 : k0_chk1380 v4553), ∀ a x, ((![v4553] : Fin 1 → IVec S16 32) a x).toNat < S12288.size a := fun v4553 k0_hw1380 => k0_hw1380

def k0_chk1381 (v4554 : IVec S16 32) : Prop :=
  (∀ a x, ((![v4554] : Fin 1 → IVec S16 32) a x).toNat < S4096.size a)
theorem k0_idx1381_inb : ∀ (v4554 : IVec S16 32) (k0_hw1381 : k0_chk1381 v4554), ∀ a x, ((![v4554] : Fin 1 → IVec S16 32) a x).toNat < S4096.size a := fun v4554 k0_hw1381 => k0_hw1381

def k0_chk1382 (v4558 : IVec S16 32) : Prop :=
  (∀ a x, ((![v4558] : Fin 1 → IVec S16 32) a x).toNat < S12288.size a)
theorem k0_idx1382_inb : ∀ (v4558 : IVec S16 32) (k0_hw1382 : k0_chk1382 v4558), ∀ a x, ((![v4558] : Fin 1 → IVec S16 32) a x).toNat < S12288.size a := fun v4558 k0_hw1382 => k0_hw1382

def k0_chk1383 (v4559 : IVec S16 32) : Prop :=
  (∀ a x, ((![v4559] : Fin 1 → IVec S16 32) a x).toNat < S4096.size a)
theorem k0_idx1383_inb : ∀ (v4559 : IVec S16 32) (k0_hw1383 : k0_chk1383 v4559), ∀ a x, ((![v4559] : Fin 1 → IVec S16 32) a x).toNat < S4096.size a := fun v4559 k0_hw1383 => k0_hw1383

def k0_chk1384 (v4563 : IVec S16 32) : Prop :=
  (∀ a x, ((![v4563] : Fin 1 → IVec S16 32) a x).toNat < S12288.size a)
theorem k0_idx1384_inb : ∀ (v4563 : IVec S16 32) (k0_hw1384 : k0_chk1384 v4563), ∀ a x, ((![v4563] : Fin 1 → IVec S16 32) a x).toNat < S12288.size a := fun v4563 k0_hw1384 => k0_hw1384

def k0_chk1385 (v4564 : IVec S16 32) : Prop :=
  (∀ a x, ((![v4564] : Fin 1 → IVec S16 32) a x).toNat < S4096.size a)
theorem k0_idx1385_inb : ∀ (v4564 : IVec S16 32) (k0_hw1385 : k0_chk1385 v4564), ∀ a x, ((![v4564] : Fin 1 → IVec S16 32) a x).toNat < S4096.size a := fun v4564 k0_hw1385 => k0_hw1385

def k0_chk1386 (v4567 : IVec S16 32) : Prop :=
  (∀ a x, ((![v4567] : Fin 1 → IVec S16 32) a x).toNat < S16.size a)
theorem k0_idx1386_inb : ∀ (v4567 : IVec S16 32) (k0_hw1386 : k0_chk1386 v4567), ∀ a x, ((![v4567] : Fin 1 → IVec S16 32) a x).toNat < S16.size a := fun v4567 k0_hw1386 => k0_hw1386

def k0_chk1387 (v4576 : IVec S16 32) : Prop :=
  (∀ a x, ((![v4576] : Fin 1 → IVec S16 32) a x).toNat < S12288.size a)
theorem k0_idx1387_inb : ∀ (v4576 : IVec S16 32) (k0_hw1387 : k0_chk1387 v4576), ∀ a x, ((![v4576] : Fin 1 → IVec S16 32) a x).toNat < S12288.size a := fun v4576 k0_hw1387 => k0_hw1387

def k0_chk1388 (v4577 : IVec S16 32) : Prop :=
  (∀ a x, ((![v4577] : Fin 1 → IVec S16 32) a x).toNat < S4096.size a)
theorem k0_idx1388_inb : ∀ (v4577 : IVec S16 32) (k0_hw1388 : k0_chk1388 v4577), ∀ a x, ((![v4577] : Fin 1 → IVec S16 32) a x).toNat < S4096.size a := fun v4577 k0_hw1388 => k0_hw1388

def k0_chk1389 (v4580 : IVec S16 32) : Prop :=
  (∀ a x, ((![v4580] : Fin 1 → IVec S16 32) a x).toNat < S12288.size a)
theorem k0_idx1389_inb : ∀ (v4580 : IVec S16 32) (k0_hw1389 : k0_chk1389 v4580), ∀ a x, ((![v4580] : Fin 1 → IVec S16 32) a x).toNat < S12288.size a := fun v4580 k0_hw1389 => k0_hw1389

def k0_chk1390 (v4581 : IVec S16 32) : Prop :=
  (∀ a x, ((![v4581] : Fin 1 → IVec S16 32) a x).toNat < S4096.size a)
theorem k0_idx1390_inb : ∀ (v4581 : IVec S16 32) (k0_hw1390 : k0_chk1390 v4581), ∀ a x, ((![v4581] : Fin 1 → IVec S16 32) a x).toNat < S4096.size a := fun v4581 k0_hw1390 => k0_hw1390

def k0_chk1391 (v4585 : IVec S16 32) : Prop :=
  (∀ a x, ((![v4585] : Fin 1 → IVec S16 32) a x).toNat < S12288.size a)
theorem k0_idx1391_inb : ∀ (v4585 : IVec S16 32) (k0_hw1391 : k0_chk1391 v4585), ∀ a x, ((![v4585] : Fin 1 → IVec S16 32) a x).toNat < S12288.size a := fun v4585 k0_hw1391 => k0_hw1391

def k0_chk1392 (v4586 : IVec S16 32) : Prop :=
  (∀ a x, ((![v4586] : Fin 1 → IVec S16 32) a x).toNat < S4096.size a)
theorem k0_idx1392_inb : ∀ (v4586 : IVec S16 32) (k0_hw1392 : k0_chk1392 v4586), ∀ a x, ((![v4586] : Fin 1 → IVec S16 32) a x).toNat < S4096.size a := fun v4586 k0_hw1392 => k0_hw1392

def k0_chk1393 (v4590 : IVec S16 32) : Prop :=
  (∀ a x, ((![v4590] : Fin 1 → IVec S16 32) a x).toNat < S12288.size a)
theorem k0_idx1393_inb : ∀ (v4590 : IVec S16 32) (k0_hw1393 : k0_chk1393 v4590), ∀ a x, ((![v4590] : Fin 1 → IVec S16 32) a x).toNat < S12288.size a := fun v4590 k0_hw1393 => k0_hw1393

def k0_chk1394 (v4591 : IVec S16 32) : Prop :=
  (∀ a x, ((![v4591] : Fin 1 → IVec S16 32) a x).toNat < S4096.size a)
theorem k0_idx1394_inb : ∀ (v4591 : IVec S16 32) (k0_hw1394 : k0_chk1394 v4591), ∀ a x, ((![v4591] : Fin 1 → IVec S16 32) a x).toNat < S4096.size a := fun v4591 k0_hw1394 => k0_hw1394

def k0_chk1395 (v4594 : IVec S16 32) : Prop :=
  (∀ a x, ((![v4594] : Fin 1 → IVec S16 32) a x).toNat < S16.size a)
theorem k0_idx1395_inb : ∀ (v4594 : IVec S16 32) (k0_hw1395 : k0_chk1395 v4594), ∀ a x, ((![v4594] : Fin 1 → IVec S16 32) a x).toNat < S16.size a := fun v4594 k0_hw1395 => k0_hw1395

def k0_chk1396 (v4603 : IVec S16 32) : Prop :=
  (∀ a x, ((![v4603] : Fin 1 → IVec S16 32) a x).toNat < S12288.size a)
theorem k0_idx1396_inb : ∀ (v4603 : IVec S16 32) (k0_hw1396 : k0_chk1396 v4603), ∀ a x, ((![v4603] : Fin 1 → IVec S16 32) a x).toNat < S12288.size a := fun v4603 k0_hw1396 => k0_hw1396

def k0_chk1397 (v4604 : IVec S16 32) : Prop :=
  (∀ a x, ((![v4604] : Fin 1 → IVec S16 32) a x).toNat < S4096.size a)
theorem k0_idx1397_inb : ∀ (v4604 : IVec S16 32) (k0_hw1397 : k0_chk1397 v4604), ∀ a x, ((![v4604] : Fin 1 → IVec S16 32) a x).toNat < S4096.size a := fun v4604 k0_hw1397 => k0_hw1397

def k0_chk1398 (v4607 : IVec S16 32) : Prop :=
  (∀ a x, ((![v4607] : Fin 1 → IVec S16 32) a x).toNat < S12288.size a)
theorem k0_idx1398_inb : ∀ (v4607 : IVec S16 32) (k0_hw1398 : k0_chk1398 v4607), ∀ a x, ((![v4607] : Fin 1 → IVec S16 32) a x).toNat < S12288.size a := fun v4607 k0_hw1398 => k0_hw1398

def k0_chk1399 (v4608 : IVec S16 32) : Prop :=
  (∀ a x, ((![v4608] : Fin 1 → IVec S16 32) a x).toNat < S4096.size a)
theorem k0_idx1399_inb : ∀ (v4608 : IVec S16 32) (k0_hw1399 : k0_chk1399 v4608), ∀ a x, ((![v4608] : Fin 1 → IVec S16 32) a x).toNat < S4096.size a := fun v4608 k0_hw1399 => k0_hw1399

def k0_chk1400 (v4612 : IVec S16 32) : Prop :=
  (∀ a x, ((![v4612] : Fin 1 → IVec S16 32) a x).toNat < S12288.size a)
theorem k0_idx1400_inb : ∀ (v4612 : IVec S16 32) (k0_hw1400 : k0_chk1400 v4612), ∀ a x, ((![v4612] : Fin 1 → IVec S16 32) a x).toNat < S12288.size a := fun v4612 k0_hw1400 => k0_hw1400

def k0_chk1401 (v4613 : IVec S16 32) : Prop :=
  (∀ a x, ((![v4613] : Fin 1 → IVec S16 32) a x).toNat < S4096.size a)
theorem k0_idx1401_inb : ∀ (v4613 : IVec S16 32) (k0_hw1401 : k0_chk1401 v4613), ∀ a x, ((![v4613] : Fin 1 → IVec S16 32) a x).toNat < S4096.size a := fun v4613 k0_hw1401 => k0_hw1401

def k0_chk1402 (v4617 : IVec S16 32) : Prop :=
  (∀ a x, ((![v4617] : Fin 1 → IVec S16 32) a x).toNat < S12288.size a)
theorem k0_idx1402_inb : ∀ (v4617 : IVec S16 32) (k0_hw1402 : k0_chk1402 v4617), ∀ a x, ((![v4617] : Fin 1 → IVec S16 32) a x).toNat < S12288.size a := fun v4617 k0_hw1402 => k0_hw1402

def k0_chk1403 (v4618 : IVec S16 32) : Prop :=
  (∀ a x, ((![v4618] : Fin 1 → IVec S16 32) a x).toNat < S4096.size a)
theorem k0_idx1403_inb : ∀ (v4618 : IVec S16 32) (k0_hw1403 : k0_chk1403 v4618), ∀ a x, ((![v4618] : Fin 1 → IVec S16 32) a x).toNat < S4096.size a := fun v4618 k0_hw1403 => k0_hw1403

def k0_chk1404 (v4621 : IVec S16 32) : Prop :=
  (∀ a x, ((![v4621] : Fin 1 → IVec S16 32) a x).toNat < S16.size a)
theorem k0_idx1404_inb : ∀ (v4621 : IVec S16 32) (k0_hw1404 : k0_chk1404 v4621), ∀ a x, ((![v4621] : Fin 1 → IVec S16 32) a x).toNat < S16.size a := fun v4621 k0_hw1404 => k0_hw1404

def k0_chk1405 (v4630 : IVec S16 32) : Prop :=
  (∀ a x, ((![v4630] : Fin 1 → IVec S16 32) a x).toNat < S12288.size a)
theorem k0_idx1405_inb : ∀ (v4630 : IVec S16 32) (k0_hw1405 : k0_chk1405 v4630), ∀ a x, ((![v4630] : Fin 1 → IVec S16 32) a x).toNat < S12288.size a := fun v4630 k0_hw1405 => k0_hw1405

def k0_chk1406 (v4631 : IVec S16 32) : Prop :=
  (∀ a x, ((![v4631] : Fin 1 → IVec S16 32) a x).toNat < S4096.size a)
theorem k0_idx1406_inb : ∀ (v4631 : IVec S16 32) (k0_hw1406 : k0_chk1406 v4631), ∀ a x, ((![v4631] : Fin 1 → IVec S16 32) a x).toNat < S4096.size a := fun v4631 k0_hw1406 => k0_hw1406

def k0_chk1407 (v4634 : IVec S16 32) : Prop :=
  (∀ a x, ((![v4634] : Fin 1 → IVec S16 32) a x).toNat < S12288.size a)
theorem k0_idx1407_inb : ∀ (v4634 : IVec S16 32) (k0_hw1407 : k0_chk1407 v4634), ∀ a x, ((![v4634] : Fin 1 → IVec S16 32) a x).toNat < S12288.size a := fun v4634 k0_hw1407 => k0_hw1407

def k0_chk1408 (v4635 : IVec S16 32) : Prop :=
  (∀ a x, ((![v4635] : Fin 1 → IVec S16 32) a x).toNat < S4096.size a)
theorem k0_idx1408_inb : ∀ (v4635 : IVec S16 32) (k0_hw1408 : k0_chk1408 v4635), ∀ a x, ((![v4635] : Fin 1 → IVec S16 32) a x).toNat < S4096.size a := fun v4635 k0_hw1408 => k0_hw1408

def k0_chk1409 (v4639 : IVec S16 32) : Prop :=
  (∀ a x, ((![v4639] : Fin 1 → IVec S16 32) a x).toNat < S12288.size a)
theorem k0_idx1409_inb : ∀ (v4639 : IVec S16 32) (k0_hw1409 : k0_chk1409 v4639), ∀ a x, ((![v4639] : Fin 1 → IVec S16 32) a x).toNat < S12288.size a := fun v4639 k0_hw1409 => k0_hw1409

def k0_chk1410 (v4640 : IVec S16 32) : Prop :=
  (∀ a x, ((![v4640] : Fin 1 → IVec S16 32) a x).toNat < S4096.size a)
theorem k0_idx1410_inb : ∀ (v4640 : IVec S16 32) (k0_hw1410 : k0_chk1410 v4640), ∀ a x, ((![v4640] : Fin 1 → IVec S16 32) a x).toNat < S4096.size a := fun v4640 k0_hw1410 => k0_hw1410

def k0_chk1411 (v4644 : IVec S16 32) : Prop :=
  (∀ a x, ((![v4644] : Fin 1 → IVec S16 32) a x).toNat < S12288.size a)
theorem k0_idx1411_inb : ∀ (v4644 : IVec S16 32) (k0_hw1411 : k0_chk1411 v4644), ∀ a x, ((![v4644] : Fin 1 → IVec S16 32) a x).toNat < S12288.size a := fun v4644 k0_hw1411 => k0_hw1411

def k0_chk1412 (v4645 : IVec S16 32) : Prop :=
  (∀ a x, ((![v4645] : Fin 1 → IVec S16 32) a x).toNat < S4096.size a)
theorem k0_idx1412_inb : ∀ (v4645 : IVec S16 32) (k0_hw1412 : k0_chk1412 v4645), ∀ a x, ((![v4645] : Fin 1 → IVec S16 32) a x).toNat < S4096.size a := fun v4645 k0_hw1412 => k0_hw1412

def k0_chk1413 (v4648 : IVec S16 32) : Prop :=
  (∀ a x, ((![v4648] : Fin 1 → IVec S16 32) a x).toNat < S16.size a)
theorem k0_idx1413_inb : ∀ (v4648 : IVec S16 32) (k0_hw1413 : k0_chk1413 v4648), ∀ a x, ((![v4648] : Fin 1 → IVec S16 32) a x).toNat < S16.size a := fun v4648 k0_hw1413 => k0_hw1413

def k0_chk1414 (v4657 : IVec S16 32) : Prop :=
  (∀ a x, ((![v4657] : Fin 1 → IVec S16 32) a x).toNat < S12288.size a)
theorem k0_idx1414_inb : ∀ (v4657 : IVec S16 32) (k0_hw1414 : k0_chk1414 v4657), ∀ a x, ((![v4657] : Fin 1 → IVec S16 32) a x).toNat < S12288.size a := fun v4657 k0_hw1414 => k0_hw1414

def k0_chk1415 (v4658 : IVec S16 32) : Prop :=
  (∀ a x, ((![v4658] : Fin 1 → IVec S16 32) a x).toNat < S4096.size a)
theorem k0_idx1415_inb : ∀ (v4658 : IVec S16 32) (k0_hw1415 : k0_chk1415 v4658), ∀ a x, ((![v4658] : Fin 1 → IVec S16 32) a x).toNat < S4096.size a := fun v4658 k0_hw1415 => k0_hw1415

def k0_chk1416 (v4661 : IVec S16 32) : Prop :=
  (∀ a x, ((![v4661] : Fin 1 → IVec S16 32) a x).toNat < S12288.size a)
theorem k0_idx1416_inb : ∀ (v4661 : IVec S16 32) (k0_hw1416 : k0_chk1416 v4661), ∀ a x, ((![v4661] : Fin 1 → IVec S16 32) a x).toNat < S12288.size a := fun v4661 k0_hw1416 => k0_hw1416

def k0_chk1417 (v4662 : IVec S16 32) : Prop :=
  (∀ a x, ((![v4662] : Fin 1 → IVec S16 32) a x).toNat < S4096.size a)
theorem k0_idx1417_inb : ∀ (v4662 : IVec S16 32) (k0_hw1417 : k0_chk1417 v4662), ∀ a x, ((![v4662] : Fin 1 → IVec S16 32) a x).toNat < S4096.size a := fun v4662 k0_hw1417 => k0_hw1417

def k0_chk1418 (v4666 : IVec S16 32) : Prop :=
  (∀ a x, ((![v4666] : Fin 1 → IVec S16 32) a x).toNat < S12288.size a)
theorem k0_idx1418_inb : ∀ (v4666 : IVec S16 32) (k0_hw1418 : k0_chk1418 v4666), ∀ a x, ((![v4666] : Fin 1 → IVec S16 32) a x).toNat < S12288.size a := fun v4666 k0_hw1418 => k0_hw1418

def k0_chk1419 (v4667 : IVec S16 32) : Prop :=
  (∀ a x, ((![v4667] : Fin 1 → IVec S16 32) a x).toNat < S4096.size a)
theorem k0_idx1419_inb : ∀ (v4667 : IVec S16 32) (k0_hw1419 : k0_chk1419 v4667), ∀ a x, ((![v4667] : Fin 1 → IVec S16 32) a x).toNat < S4096.size a := fun v4667 k0_hw1419 => k0_hw1419

def k0_chk1420 (v4671 : IVec S16 32) : Prop :=
  (∀ a x, ((![v4671] : Fin 1 → IVec S16 32) a x).toNat < S12288.size a)
theorem k0_idx1420_inb : ∀ (v4671 : IVec S16 32) (k0_hw1420 : k0_chk1420 v4671), ∀ a x, ((![v4671] : Fin 1 → IVec S16 32) a x).toNat < S12288.size a := fun v4671 k0_hw1420 => k0_hw1420

def k0_chk1421 (v4672 : IVec S16 32) : Prop :=
  (∀ a x, ((![v4672] : Fin 1 → IVec S16 32) a x).toNat < S4096.size a)
theorem k0_idx1421_inb : ∀ (v4672 : IVec S16 32) (k0_hw1421 : k0_chk1421 v4672), ∀ a x, ((![v4672] : Fin 1 → IVec S16 32) a x).toNat < S4096.size a := fun v4672 k0_hw1421 => k0_hw1421

def k0_chk1422 (v4675 : IVec S16 32) : Prop :=
  (∀ a x, ((![v4675] : Fin 1 → IVec S16 32) a x).toNat < S16.size a)
theorem k0_idx1422_inb : ∀ (v4675 : IVec S16 32) (k0_hw1422 : k0_chk1422 v4675), ∀ a x, ((![v4675] : Fin 1 → IVec S16 32) a x).toNat < S16.size a := fun v4675 k0_hw1422 => k0_hw1422

def k0_chk1423 (v4684 : IVec S16 32) : Prop :=
  (∀ a x, ((![v4684] : Fin 1 → IVec S16 32) a x).toNat < S12288.size a)
theorem k0_idx1423_inb : ∀ (v4684 : IVec S16 32) (k0_hw1423 : k0_chk1423 v4684), ∀ a x, ((![v4684] : Fin 1 → IVec S16 32) a x).toNat < S12288.size a := fun v4684 k0_hw1423 => k0_hw1423

def k0_chk1424 (v4685 : IVec S16 32) : Prop :=
  (∀ a x, ((![v4685] : Fin 1 → IVec S16 32) a x).toNat < S4096.size a)
theorem k0_idx1424_inb : ∀ (v4685 : IVec S16 32) (k0_hw1424 : k0_chk1424 v4685), ∀ a x, ((![v4685] : Fin 1 → IVec S16 32) a x).toNat < S4096.size a := fun v4685 k0_hw1424 => k0_hw1424

def k0_chk1425 (v4688 : IVec S16 32) : Prop :=
  (∀ a x, ((![v4688] : Fin 1 → IVec S16 32) a x).toNat < S12288.size a)
theorem k0_idx1425_inb : ∀ (v4688 : IVec S16 32) (k0_hw1425 : k0_chk1425 v4688), ∀ a x, ((![v4688] : Fin 1 → IVec S16 32) a x).toNat < S12288.size a := fun v4688 k0_hw1425 => k0_hw1425

def k0_chk1426 (v4689 : IVec S16 32) : Prop :=
  (∀ a x, ((![v4689] : Fin 1 → IVec S16 32) a x).toNat < S4096.size a)
theorem k0_idx1426_inb : ∀ (v4689 : IVec S16 32) (k0_hw1426 : k0_chk1426 v4689), ∀ a x, ((![v4689] : Fin 1 → IVec S16 32) a x).toNat < S4096.size a := fun v4689 k0_hw1426 => k0_hw1426

def k0_chk1427 (v4693 : IVec S16 32) : Prop :=
  (∀ a x, ((![v4693] : Fin 1 → IVec S16 32) a x).toNat < S12288.size a)
theorem k0_idx1427_inb : ∀ (v4693 : IVec S16 32) (k0_hw1427 : k0_chk1427 v4693), ∀ a x, ((![v4693] : Fin 1 → IVec S16 32) a x).toNat < S12288.size a := fun v4693 k0_hw1427 => k0_hw1427

def k0_chk1428 (v4694 : IVec S16 32) : Prop :=
  (∀ a x, ((![v4694] : Fin 1 → IVec S16 32) a x).toNat < S4096.size a)
theorem k0_idx1428_inb : ∀ (v4694 : IVec S16 32) (k0_hw1428 : k0_chk1428 v4694), ∀ a x, ((![v4694] : Fin 1 → IVec S16 32) a x).toNat < S4096.size a := fun v4694 k0_hw1428 => k0_hw1428

def k0_chk1429 (v4698 : IVec S16 32) : Prop :=
  (∀ a x, ((![v4698] : Fin 1 → IVec S16 32) a x).toNat < S12288.size a)
theorem k0_idx1429_inb : ∀ (v4698 : IVec S16 32) (k0_hw1429 : k0_chk1429 v4698), ∀ a x, ((![v4698] : Fin 1 → IVec S16 32) a x).toNat < S12288.size a := fun v4698 k0_hw1429 => k0_hw1429

def k0_chk1430 (v4699 : IVec S16 32) : Prop :=
  (∀ a x, ((![v4699] : Fin 1 → IVec S16 32) a x).toNat < S4096.size a)
theorem k0_idx1430_inb : ∀ (v4699 : IVec S16 32) (k0_hw1430 : k0_chk1430 v4699), ∀ a x, ((![v4699] : Fin 1 → IVec S16 32) a x).toNat < S4096.size a := fun v4699 k0_hw1430 => k0_hw1430

def k0_chk1431 (v4702 : IVec S16 32) : Prop :=
  (∀ a x, ((![v4702] : Fin 1 → IVec S16 32) a x).toNat < S16.size a)
theorem k0_idx1431_inb : ∀ (v4702 : IVec S16 32) (k0_hw1431 : k0_chk1431 v4702), ∀ a x, ((![v4702] : Fin 1 → IVec S16 32) a x).toNat < S16.size a := fun v4702 k0_hw1431 => k0_hw1431

def k0_chk1432 (v4711 : IVec S16 32) : Prop :=
  (∀ a x, ((![v4711] : Fin 1 → IVec S16 32) a x).toNat < S12288.size a)
theorem k0_idx1432_inb : ∀ (v4711 : IVec S16 32) (k0_hw1432 : k0_chk1432 v4711), ∀ a x, ((![v4711] : Fin 1 → IVec S16 32) a x).toNat < S12288.size a := fun v4711 k0_hw1432 => k0_hw1432

def k0_chk1433 (v4712 : IVec S16 32) : Prop :=
  (∀ a x, ((![v4712] : Fin 1 → IVec S16 32) a x).toNat < S4096.size a)
theorem k0_idx1433_inb : ∀ (v4712 : IVec S16 32) (k0_hw1433 : k0_chk1433 v4712), ∀ a x, ((![v4712] : Fin 1 → IVec S16 32) a x).toNat < S4096.size a := fun v4712 k0_hw1433 => k0_hw1433

def k0_chk1434 (v4715 : IVec S16 32) : Prop :=
  (∀ a x, ((![v4715] : Fin 1 → IVec S16 32) a x).toNat < S12288.size a)
theorem k0_idx1434_inb : ∀ (v4715 : IVec S16 32) (k0_hw1434 : k0_chk1434 v4715), ∀ a x, ((![v4715] : Fin 1 → IVec S16 32) a x).toNat < S12288.size a := fun v4715 k0_hw1434 => k0_hw1434

def k0_chk1435 (v4716 : IVec S16 32) : Prop :=
  (∀ a x, ((![v4716] : Fin 1 → IVec S16 32) a x).toNat < S4096.size a)
theorem k0_idx1435_inb : ∀ (v4716 : IVec S16 32) (k0_hw1435 : k0_chk1435 v4716), ∀ a x, ((![v4716] : Fin 1 → IVec S16 32) a x).toNat < S4096.size a := fun v4716 k0_hw1435 => k0_hw1435

def k0_chk1436 (v4720 : IVec S16 32) : Prop :=
  (∀ a x, ((![v4720] : Fin 1 → IVec S16 32) a x).toNat < S12288.size a)
theorem k0_idx1436_inb : ∀ (v4720 : IVec S16 32) (k0_hw1436 : k0_chk1436 v4720), ∀ a x, ((![v4720] : Fin 1 → IVec S16 32) a x).toNat < S12288.size a := fun v4720 k0_hw1436 => k0_hw1436

def k0_chk1437 (v4721 : IVec S16 32) : Prop :=
  (∀ a x, ((![v4721] : Fin 1 → IVec S16 32) a x).toNat < S4096.size a)
theorem k0_idx1437_inb : ∀ (v4721 : IVec S16 32) (k0_hw1437 : k0_chk1437 v4721), ∀ a x, ((![v4721] : Fin 1 → IVec S16 32) a x).toNat < S4096.size a := fun v4721 k0_hw1437 => k0_hw1437

def k0_chk1438 (v4725 : IVec S16 32) : Prop :=
  (∀ a x, ((![v4725] : Fin 1 → IVec S16 32) a x).toNat < S12288.size a)
theorem k0_idx1438_inb : ∀ (v4725 : IVec S16 32) (k0_hw1438 : k0_chk1438 v4725), ∀ a x, ((![v4725] : Fin 1 → IVec S16 32) a x).toNat < S12288.size a := fun v4725 k0_hw1438 => k0_hw1438

def k0_chk1439 (v4726 : IVec S16 32) : Prop :=
  (∀ a x, ((![v4726] : Fin 1 → IVec S16 32) a x).toNat < S4096.size a)
theorem k0_idx1439_inb : ∀ (v4726 : IVec S16 32) (k0_hw1439 : k0_chk1439 v4726), ∀ a x, ((![v4726] : Fin 1 → IVec S16 32) a x).toNat < S4096.size a := fun v4726 k0_hw1439 => k0_hw1439

def k0_chk1440 (v4729 : IVec S16 32) : Prop :=
  (∀ a x, ((![v4729] : Fin 1 → IVec S16 32) a x).toNat < S16.size a)
theorem k0_idx1440_inb : ∀ (v4729 : IVec S16 32) (k0_hw1440 : k0_chk1440 v4729), ∀ a x, ((![v4729] : Fin 1 → IVec S16 32) a x).toNat < S16.size a := fun v4729 k0_hw1440 => k0_hw1440
def k0_off43 (i : grid0.Coords) : Fin 2 → Nat :=
  let c1_i32_893 : BitVec 32 := 1#32
  let arg1 : BitVec 32 := BitVec.ofNat 32 (i 1).val
  let c256_i32_892 : BitVec 32 := 256#32
  let v4737 : BitVec 32 := Scalar.muli arg1 c256_i32_892
  ![1, v4737.toNat]
def k0_off44 (i : grid0.Coords) : Fin 2 → Nat :=
  let c9_i32_896 : BitVec 32 := 9#32
  let arg1 : BitVec 32 := BitVec.ofNat 32 (i 1).val
  let c256_i32_894 : BitVec 32 := 256#32
  let v4738 : BitVec 32 := Scalar.muli arg1 c256_i32_894
  ![9, v4738.toNat]

def k0_chk1441 (v4748 : IVec S16 32) : Prop :=
  (∀ a x, ((![v4748] : Fin 1 → IVec S16 32) a x).toNat < S12288.size a)
theorem k0_idx1441_inb : ∀ (v4748 : IVec S16 32) (k0_hw1441 : k0_chk1441 v4748), ∀ a x, ((![v4748] : Fin 1 → IVec S16 32) a x).toNat < S12288.size a := fun v4748 k0_hw1441 => k0_hw1441

def k0_chk1442 (v4749 : IVec S16 32) : Prop :=
  (∀ a x, ((![v4749] : Fin 1 → IVec S16 32) a x).toNat < S4096.size a)
theorem k0_idx1442_inb : ∀ (v4749 : IVec S16 32) (k0_hw1442 : k0_chk1442 v4749), ∀ a x, ((![v4749] : Fin 1 → IVec S16 32) a x).toNat < S4096.size a := fun v4749 k0_hw1442 => k0_hw1442

def k0_chk1443 (v4752 : IVec S16 32) : Prop :=
  (∀ a x, ((![v4752] : Fin 1 → IVec S16 32) a x).toNat < S12288.size a)
theorem k0_idx1443_inb : ∀ (v4752 : IVec S16 32) (k0_hw1443 : k0_chk1443 v4752), ∀ a x, ((![v4752] : Fin 1 → IVec S16 32) a x).toNat < S12288.size a := fun v4752 k0_hw1443 => k0_hw1443

def k0_chk1444 (v4753 : IVec S16 32) : Prop :=
  (∀ a x, ((![v4753] : Fin 1 → IVec S16 32) a x).toNat < S4096.size a)
theorem k0_idx1444_inb : ∀ (v4753 : IVec S16 32) (k0_hw1444 : k0_chk1444 v4753), ∀ a x, ((![v4753] : Fin 1 → IVec S16 32) a x).toNat < S4096.size a := fun v4753 k0_hw1444 => k0_hw1444

def k0_chk1445 (v4757 : IVec S16 32) : Prop :=
  (∀ a x, ((![v4757] : Fin 1 → IVec S16 32) a x).toNat < S12288.size a)
theorem k0_idx1445_inb : ∀ (v4757 : IVec S16 32) (k0_hw1445 : k0_chk1445 v4757), ∀ a x, ((![v4757] : Fin 1 → IVec S16 32) a x).toNat < S12288.size a := fun v4757 k0_hw1445 => k0_hw1445

def k0_chk1446 (v4758 : IVec S16 32) : Prop :=
  (∀ a x, ((![v4758] : Fin 1 → IVec S16 32) a x).toNat < S4096.size a)
theorem k0_idx1446_inb : ∀ (v4758 : IVec S16 32) (k0_hw1446 : k0_chk1446 v4758), ∀ a x, ((![v4758] : Fin 1 → IVec S16 32) a x).toNat < S4096.size a := fun v4758 k0_hw1446 => k0_hw1446

def k0_chk1447 (v4762 : IVec S16 32) : Prop :=
  (∀ a x, ((![v4762] : Fin 1 → IVec S16 32) a x).toNat < S12288.size a)
theorem k0_idx1447_inb : ∀ (v4762 : IVec S16 32) (k0_hw1447 : k0_chk1447 v4762), ∀ a x, ((![v4762] : Fin 1 → IVec S16 32) a x).toNat < S12288.size a := fun v4762 k0_hw1447 => k0_hw1447

def k0_chk1448 (v4763 : IVec S16 32) : Prop :=
  (∀ a x, ((![v4763] : Fin 1 → IVec S16 32) a x).toNat < S4096.size a)
theorem k0_idx1448_inb : ∀ (v4763 : IVec S16 32) (k0_hw1448 : k0_chk1448 v4763), ∀ a x, ((![v4763] : Fin 1 → IVec S16 32) a x).toNat < S4096.size a := fun v4763 k0_hw1448 => k0_hw1448

def k0_chk1449 (v4766 : IVec S16 32) : Prop :=
  (∀ a x, ((![v4766] : Fin 1 → IVec S16 32) a x).toNat < S16.size a)
theorem k0_idx1449_inb : ∀ (v4766 : IVec S16 32) (k0_hw1449 : k0_chk1449 v4766), ∀ a x, ((![v4766] : Fin 1 → IVec S16 32) a x).toNat < S16.size a := fun v4766 k0_hw1449 => k0_hw1449

def k0_chk1450 (v4775 : IVec S16 32) : Prop :=
  (∀ a x, ((![v4775] : Fin 1 → IVec S16 32) a x).toNat < S12288.size a)
theorem k0_idx1450_inb : ∀ (v4775 : IVec S16 32) (k0_hw1450 : k0_chk1450 v4775), ∀ a x, ((![v4775] : Fin 1 → IVec S16 32) a x).toNat < S12288.size a := fun v4775 k0_hw1450 => k0_hw1450

def k0_chk1451 (v4776 : IVec S16 32) : Prop :=
  (∀ a x, ((![v4776] : Fin 1 → IVec S16 32) a x).toNat < S4096.size a)
theorem k0_idx1451_inb : ∀ (v4776 : IVec S16 32) (k0_hw1451 : k0_chk1451 v4776), ∀ a x, ((![v4776] : Fin 1 → IVec S16 32) a x).toNat < S4096.size a := fun v4776 k0_hw1451 => k0_hw1451

def k0_chk1452 (v4779 : IVec S16 32) : Prop :=
  (∀ a x, ((![v4779] : Fin 1 → IVec S16 32) a x).toNat < S12288.size a)
theorem k0_idx1452_inb : ∀ (v4779 : IVec S16 32) (k0_hw1452 : k0_chk1452 v4779), ∀ a x, ((![v4779] : Fin 1 → IVec S16 32) a x).toNat < S12288.size a := fun v4779 k0_hw1452 => k0_hw1452

def k0_chk1453 (v4780 : IVec S16 32) : Prop :=
  (∀ a x, ((![v4780] : Fin 1 → IVec S16 32) a x).toNat < S4096.size a)
theorem k0_idx1453_inb : ∀ (v4780 : IVec S16 32) (k0_hw1453 : k0_chk1453 v4780), ∀ a x, ((![v4780] : Fin 1 → IVec S16 32) a x).toNat < S4096.size a := fun v4780 k0_hw1453 => k0_hw1453

def k0_chk1454 (v4784 : IVec S16 32) : Prop :=
  (∀ a x, ((![v4784] : Fin 1 → IVec S16 32) a x).toNat < S12288.size a)
theorem k0_idx1454_inb : ∀ (v4784 : IVec S16 32) (k0_hw1454 : k0_chk1454 v4784), ∀ a x, ((![v4784] : Fin 1 → IVec S16 32) a x).toNat < S12288.size a := fun v4784 k0_hw1454 => k0_hw1454

def k0_chk1455 (v4785 : IVec S16 32) : Prop :=
  (∀ a x, ((![v4785] : Fin 1 → IVec S16 32) a x).toNat < S4096.size a)
theorem k0_idx1455_inb : ∀ (v4785 : IVec S16 32) (k0_hw1455 : k0_chk1455 v4785), ∀ a x, ((![v4785] : Fin 1 → IVec S16 32) a x).toNat < S4096.size a := fun v4785 k0_hw1455 => k0_hw1455

def k0_chk1456 (v4789 : IVec S16 32) : Prop :=
  (∀ a x, ((![v4789] : Fin 1 → IVec S16 32) a x).toNat < S12288.size a)
theorem k0_idx1456_inb : ∀ (v4789 : IVec S16 32) (k0_hw1456 : k0_chk1456 v4789), ∀ a x, ((![v4789] : Fin 1 → IVec S16 32) a x).toNat < S12288.size a := fun v4789 k0_hw1456 => k0_hw1456

def k0_chk1457 (v4790 : IVec S16 32) : Prop :=
  (∀ a x, ((![v4790] : Fin 1 → IVec S16 32) a x).toNat < S4096.size a)
theorem k0_idx1457_inb : ∀ (v4790 : IVec S16 32) (k0_hw1457 : k0_chk1457 v4790), ∀ a x, ((![v4790] : Fin 1 → IVec S16 32) a x).toNat < S4096.size a := fun v4790 k0_hw1457 => k0_hw1457

def k0_chk1458 (v4793 : IVec S16 32) : Prop :=
  (∀ a x, ((![v4793] : Fin 1 → IVec S16 32) a x).toNat < S16.size a)
theorem k0_idx1458_inb : ∀ (v4793 : IVec S16 32) (k0_hw1458 : k0_chk1458 v4793), ∀ a x, ((![v4793] : Fin 1 → IVec S16 32) a x).toNat < S16.size a := fun v4793 k0_hw1458 => k0_hw1458

def k0_chk1459 (v4802 : IVec S16 32) : Prop :=
  (∀ a x, ((![v4802] : Fin 1 → IVec S16 32) a x).toNat < S12288.size a)
theorem k0_idx1459_inb : ∀ (v4802 : IVec S16 32) (k0_hw1459 : k0_chk1459 v4802), ∀ a x, ((![v4802] : Fin 1 → IVec S16 32) a x).toNat < S12288.size a := fun v4802 k0_hw1459 => k0_hw1459

def k0_chk1460 (v4803 : IVec S16 32) : Prop :=
  (∀ a x, ((![v4803] : Fin 1 → IVec S16 32) a x).toNat < S4096.size a)
theorem k0_idx1460_inb : ∀ (v4803 : IVec S16 32) (k0_hw1460 : k0_chk1460 v4803), ∀ a x, ((![v4803] : Fin 1 → IVec S16 32) a x).toNat < S4096.size a := fun v4803 k0_hw1460 => k0_hw1460

def k0_chk1461 (v4806 : IVec S16 32) : Prop :=
  (∀ a x, ((![v4806] : Fin 1 → IVec S16 32) a x).toNat < S12288.size a)
theorem k0_idx1461_inb : ∀ (v4806 : IVec S16 32) (k0_hw1461 : k0_chk1461 v4806), ∀ a x, ((![v4806] : Fin 1 → IVec S16 32) a x).toNat < S12288.size a := fun v4806 k0_hw1461 => k0_hw1461

def k0_chk1462 (v4807 : IVec S16 32) : Prop :=
  (∀ a x, ((![v4807] : Fin 1 → IVec S16 32) a x).toNat < S4096.size a)
theorem k0_idx1462_inb : ∀ (v4807 : IVec S16 32) (k0_hw1462 : k0_chk1462 v4807), ∀ a x, ((![v4807] : Fin 1 → IVec S16 32) a x).toNat < S4096.size a := fun v4807 k0_hw1462 => k0_hw1462

def k0_chk1463 (v4811 : IVec S16 32) : Prop :=
  (∀ a x, ((![v4811] : Fin 1 → IVec S16 32) a x).toNat < S12288.size a)
theorem k0_idx1463_inb : ∀ (v4811 : IVec S16 32) (k0_hw1463 : k0_chk1463 v4811), ∀ a x, ((![v4811] : Fin 1 → IVec S16 32) a x).toNat < S12288.size a := fun v4811 k0_hw1463 => k0_hw1463

def k0_chk1464 (v4812 : IVec S16 32) : Prop :=
  (∀ a x, ((![v4812] : Fin 1 → IVec S16 32) a x).toNat < S4096.size a)
theorem k0_idx1464_inb : ∀ (v4812 : IVec S16 32) (k0_hw1464 : k0_chk1464 v4812), ∀ a x, ((![v4812] : Fin 1 → IVec S16 32) a x).toNat < S4096.size a := fun v4812 k0_hw1464 => k0_hw1464

def k0_chk1465 (v4816 : IVec S16 32) : Prop :=
  (∀ a x, ((![v4816] : Fin 1 → IVec S16 32) a x).toNat < S12288.size a)
theorem k0_idx1465_inb : ∀ (v4816 : IVec S16 32) (k0_hw1465 : k0_chk1465 v4816), ∀ a x, ((![v4816] : Fin 1 → IVec S16 32) a x).toNat < S12288.size a := fun v4816 k0_hw1465 => k0_hw1465

def k0_chk1466 (v4817 : IVec S16 32) : Prop :=
  (∀ a x, ((![v4817] : Fin 1 → IVec S16 32) a x).toNat < S4096.size a)
theorem k0_idx1466_inb : ∀ (v4817 : IVec S16 32) (k0_hw1466 : k0_chk1466 v4817), ∀ a x, ((![v4817] : Fin 1 → IVec S16 32) a x).toNat < S4096.size a := fun v4817 k0_hw1466 => k0_hw1466

def k0_chk1467 (v4820 : IVec S16 32) : Prop :=
  (∀ a x, ((![v4820] : Fin 1 → IVec S16 32) a x).toNat < S16.size a)
theorem k0_idx1467_inb : ∀ (v4820 : IVec S16 32) (k0_hw1467 : k0_chk1467 v4820), ∀ a x, ((![v4820] : Fin 1 → IVec S16 32) a x).toNat < S16.size a := fun v4820 k0_hw1467 => k0_hw1467

def k0_chk1468 (v4829 : IVec S16 32) : Prop :=
  (∀ a x, ((![v4829] : Fin 1 → IVec S16 32) a x).toNat < S12288.size a)
theorem k0_idx1468_inb : ∀ (v4829 : IVec S16 32) (k0_hw1468 : k0_chk1468 v4829), ∀ a x, ((![v4829] : Fin 1 → IVec S16 32) a x).toNat < S12288.size a := fun v4829 k0_hw1468 => k0_hw1468

def k0_chk1469 (v4830 : IVec S16 32) : Prop :=
  (∀ a x, ((![v4830] : Fin 1 → IVec S16 32) a x).toNat < S4096.size a)
theorem k0_idx1469_inb : ∀ (v4830 : IVec S16 32) (k0_hw1469 : k0_chk1469 v4830), ∀ a x, ((![v4830] : Fin 1 → IVec S16 32) a x).toNat < S4096.size a := fun v4830 k0_hw1469 => k0_hw1469

def k0_chk1470 (v4833 : IVec S16 32) : Prop :=
  (∀ a x, ((![v4833] : Fin 1 → IVec S16 32) a x).toNat < S12288.size a)
theorem k0_idx1470_inb : ∀ (v4833 : IVec S16 32) (k0_hw1470 : k0_chk1470 v4833), ∀ a x, ((![v4833] : Fin 1 → IVec S16 32) a x).toNat < S12288.size a := fun v4833 k0_hw1470 => k0_hw1470

def k0_chk1471 (v4834 : IVec S16 32) : Prop :=
  (∀ a x, ((![v4834] : Fin 1 → IVec S16 32) a x).toNat < S4096.size a)
theorem k0_idx1471_inb : ∀ (v4834 : IVec S16 32) (k0_hw1471 : k0_chk1471 v4834), ∀ a x, ((![v4834] : Fin 1 → IVec S16 32) a x).toNat < S4096.size a := fun v4834 k0_hw1471 => k0_hw1471

def k0_chk1472 (v4838 : IVec S16 32) : Prop :=
  (∀ a x, ((![v4838] : Fin 1 → IVec S16 32) a x).toNat < S12288.size a)
theorem k0_idx1472_inb : ∀ (v4838 : IVec S16 32) (k0_hw1472 : k0_chk1472 v4838), ∀ a x, ((![v4838] : Fin 1 → IVec S16 32) a x).toNat < S12288.size a := fun v4838 k0_hw1472 => k0_hw1472

def k0_chk1473 (v4839 : IVec S16 32) : Prop :=
  (∀ a x, ((![v4839] : Fin 1 → IVec S16 32) a x).toNat < S4096.size a)
theorem k0_idx1473_inb : ∀ (v4839 : IVec S16 32) (k0_hw1473 : k0_chk1473 v4839), ∀ a x, ((![v4839] : Fin 1 → IVec S16 32) a x).toNat < S4096.size a := fun v4839 k0_hw1473 => k0_hw1473

def k0_chk1474 (v4843 : IVec S16 32) : Prop :=
  (∀ a x, ((![v4843] : Fin 1 → IVec S16 32) a x).toNat < S12288.size a)
theorem k0_idx1474_inb : ∀ (v4843 : IVec S16 32) (k0_hw1474 : k0_chk1474 v4843), ∀ a x, ((![v4843] : Fin 1 → IVec S16 32) a x).toNat < S12288.size a := fun v4843 k0_hw1474 => k0_hw1474

def k0_chk1475 (v4844 : IVec S16 32) : Prop :=
  (∀ a x, ((![v4844] : Fin 1 → IVec S16 32) a x).toNat < S4096.size a)
theorem k0_idx1475_inb : ∀ (v4844 : IVec S16 32) (k0_hw1475 : k0_chk1475 v4844), ∀ a x, ((![v4844] : Fin 1 → IVec S16 32) a x).toNat < S4096.size a := fun v4844 k0_hw1475 => k0_hw1475

def k0_chk1476 (v4847 : IVec S16 32) : Prop :=
  (∀ a x, ((![v4847] : Fin 1 → IVec S16 32) a x).toNat < S16.size a)
theorem k0_idx1476_inb : ∀ (v4847 : IVec S16 32) (k0_hw1476 : k0_chk1476 v4847), ∀ a x, ((![v4847] : Fin 1 → IVec S16 32) a x).toNat < S16.size a := fun v4847 k0_hw1476 => k0_hw1476

def k0_chk1477 (v4856 : IVec S16 32) : Prop :=
  (∀ a x, ((![v4856] : Fin 1 → IVec S16 32) a x).toNat < S12288.size a)
theorem k0_idx1477_inb : ∀ (v4856 : IVec S16 32) (k0_hw1477 : k0_chk1477 v4856), ∀ a x, ((![v4856] : Fin 1 → IVec S16 32) a x).toNat < S12288.size a := fun v4856 k0_hw1477 => k0_hw1477

def k0_chk1478 (v4857 : IVec S16 32) : Prop :=
  (∀ a x, ((![v4857] : Fin 1 → IVec S16 32) a x).toNat < S4096.size a)
theorem k0_idx1478_inb : ∀ (v4857 : IVec S16 32) (k0_hw1478 : k0_chk1478 v4857), ∀ a x, ((![v4857] : Fin 1 → IVec S16 32) a x).toNat < S4096.size a := fun v4857 k0_hw1478 => k0_hw1478

def k0_chk1479 (v4860 : IVec S16 32) : Prop :=
  (∀ a x, ((![v4860] : Fin 1 → IVec S16 32) a x).toNat < S12288.size a)
theorem k0_idx1479_inb : ∀ (v4860 : IVec S16 32) (k0_hw1479 : k0_chk1479 v4860), ∀ a x, ((![v4860] : Fin 1 → IVec S16 32) a x).toNat < S12288.size a := fun v4860 k0_hw1479 => k0_hw1479

def k0_chk1480 (v4861 : IVec S16 32) : Prop :=
  (∀ a x, ((![v4861] : Fin 1 → IVec S16 32) a x).toNat < S4096.size a)
theorem k0_idx1480_inb : ∀ (v4861 : IVec S16 32) (k0_hw1480 : k0_chk1480 v4861), ∀ a x, ((![v4861] : Fin 1 → IVec S16 32) a x).toNat < S4096.size a := fun v4861 k0_hw1480 => k0_hw1480

def k0_chk1481 (v4865 : IVec S16 32) : Prop :=
  (∀ a x, ((![v4865] : Fin 1 → IVec S16 32) a x).toNat < S12288.size a)
theorem k0_idx1481_inb : ∀ (v4865 : IVec S16 32) (k0_hw1481 : k0_chk1481 v4865), ∀ a x, ((![v4865] : Fin 1 → IVec S16 32) a x).toNat < S12288.size a := fun v4865 k0_hw1481 => k0_hw1481

def k0_chk1482 (v4866 : IVec S16 32) : Prop :=
  (∀ a x, ((![v4866] : Fin 1 → IVec S16 32) a x).toNat < S4096.size a)
theorem k0_idx1482_inb : ∀ (v4866 : IVec S16 32) (k0_hw1482 : k0_chk1482 v4866), ∀ a x, ((![v4866] : Fin 1 → IVec S16 32) a x).toNat < S4096.size a := fun v4866 k0_hw1482 => k0_hw1482

def k0_chk1483 (v4870 : IVec S16 32) : Prop :=
  (∀ a x, ((![v4870] : Fin 1 → IVec S16 32) a x).toNat < S12288.size a)
theorem k0_idx1483_inb : ∀ (v4870 : IVec S16 32) (k0_hw1483 : k0_chk1483 v4870), ∀ a x, ((![v4870] : Fin 1 → IVec S16 32) a x).toNat < S12288.size a := fun v4870 k0_hw1483 => k0_hw1483

def k0_chk1484 (v4871 : IVec S16 32) : Prop :=
  (∀ a x, ((![v4871] : Fin 1 → IVec S16 32) a x).toNat < S4096.size a)
theorem k0_idx1484_inb : ∀ (v4871 : IVec S16 32) (k0_hw1484 : k0_chk1484 v4871), ∀ a x, ((![v4871] : Fin 1 → IVec S16 32) a x).toNat < S4096.size a := fun v4871 k0_hw1484 => k0_hw1484

def k0_chk1485 (v4874 : IVec S16 32) : Prop :=
  (∀ a x, ((![v4874] : Fin 1 → IVec S16 32) a x).toNat < S16.size a)
theorem k0_idx1485_inb : ∀ (v4874 : IVec S16 32) (k0_hw1485 : k0_chk1485 v4874), ∀ a x, ((![v4874] : Fin 1 → IVec S16 32) a x).toNat < S16.size a := fun v4874 k0_hw1485 => k0_hw1485

def k0_chk1486 (v4883 : IVec S16 32) : Prop :=
  (∀ a x, ((![v4883] : Fin 1 → IVec S16 32) a x).toNat < S12288.size a)
theorem k0_idx1486_inb : ∀ (v4883 : IVec S16 32) (k0_hw1486 : k0_chk1486 v4883), ∀ a x, ((![v4883] : Fin 1 → IVec S16 32) a x).toNat < S12288.size a := fun v4883 k0_hw1486 => k0_hw1486

def k0_chk1487 (v4884 : IVec S16 32) : Prop :=
  (∀ a x, ((![v4884] : Fin 1 → IVec S16 32) a x).toNat < S4096.size a)
theorem k0_idx1487_inb : ∀ (v4884 : IVec S16 32) (k0_hw1487 : k0_chk1487 v4884), ∀ a x, ((![v4884] : Fin 1 → IVec S16 32) a x).toNat < S4096.size a := fun v4884 k0_hw1487 => k0_hw1487

def k0_chk1488 (v4887 : IVec S16 32) : Prop :=
  (∀ a x, ((![v4887] : Fin 1 → IVec S16 32) a x).toNat < S12288.size a)
theorem k0_idx1488_inb : ∀ (v4887 : IVec S16 32) (k0_hw1488 : k0_chk1488 v4887), ∀ a x, ((![v4887] : Fin 1 → IVec S16 32) a x).toNat < S12288.size a := fun v4887 k0_hw1488 => k0_hw1488

def k0_chk1489 (v4888 : IVec S16 32) : Prop :=
  (∀ a x, ((![v4888] : Fin 1 → IVec S16 32) a x).toNat < S4096.size a)
theorem k0_idx1489_inb : ∀ (v4888 : IVec S16 32) (k0_hw1489 : k0_chk1489 v4888), ∀ a x, ((![v4888] : Fin 1 → IVec S16 32) a x).toNat < S4096.size a := fun v4888 k0_hw1489 => k0_hw1489

def k0_chk1490 (v4892 : IVec S16 32) : Prop :=
  (∀ a x, ((![v4892] : Fin 1 → IVec S16 32) a x).toNat < S12288.size a)
theorem k0_idx1490_inb : ∀ (v4892 : IVec S16 32) (k0_hw1490 : k0_chk1490 v4892), ∀ a x, ((![v4892] : Fin 1 → IVec S16 32) a x).toNat < S12288.size a := fun v4892 k0_hw1490 => k0_hw1490

def k0_chk1491 (v4893 : IVec S16 32) : Prop :=
  (∀ a x, ((![v4893] : Fin 1 → IVec S16 32) a x).toNat < S4096.size a)
theorem k0_idx1491_inb : ∀ (v4893 : IVec S16 32) (k0_hw1491 : k0_chk1491 v4893), ∀ a x, ((![v4893] : Fin 1 → IVec S16 32) a x).toNat < S4096.size a := fun v4893 k0_hw1491 => k0_hw1491

def k0_chk1492 (v4897 : IVec S16 32) : Prop :=
  (∀ a x, ((![v4897] : Fin 1 → IVec S16 32) a x).toNat < S12288.size a)
theorem k0_idx1492_inb : ∀ (v4897 : IVec S16 32) (k0_hw1492 : k0_chk1492 v4897), ∀ a x, ((![v4897] : Fin 1 → IVec S16 32) a x).toNat < S12288.size a := fun v4897 k0_hw1492 => k0_hw1492

def k0_chk1493 (v4898 : IVec S16 32) : Prop :=
  (∀ a x, ((![v4898] : Fin 1 → IVec S16 32) a x).toNat < S4096.size a)
theorem k0_idx1493_inb : ∀ (v4898 : IVec S16 32) (k0_hw1493 : k0_chk1493 v4898), ∀ a x, ((![v4898] : Fin 1 → IVec S16 32) a x).toNat < S4096.size a := fun v4898 k0_hw1493 => k0_hw1493

def k0_chk1494 (v4901 : IVec S16 32) : Prop :=
  (∀ a x, ((![v4901] : Fin 1 → IVec S16 32) a x).toNat < S16.size a)
theorem k0_idx1494_inb : ∀ (v4901 : IVec S16 32) (k0_hw1494 : k0_chk1494 v4901), ∀ a x, ((![v4901] : Fin 1 → IVec S16 32) a x).toNat < S16.size a := fun v4901 k0_hw1494 => k0_hw1494

def k0_chk1495 (v4910 : IVec S16 32) : Prop :=
  (∀ a x, ((![v4910] : Fin 1 → IVec S16 32) a x).toNat < S12288.size a)
theorem k0_idx1495_inb : ∀ (v4910 : IVec S16 32) (k0_hw1495 : k0_chk1495 v4910), ∀ a x, ((![v4910] : Fin 1 → IVec S16 32) a x).toNat < S12288.size a := fun v4910 k0_hw1495 => k0_hw1495

def k0_chk1496 (v4911 : IVec S16 32) : Prop :=
  (∀ a x, ((![v4911] : Fin 1 → IVec S16 32) a x).toNat < S4096.size a)
theorem k0_idx1496_inb : ∀ (v4911 : IVec S16 32) (k0_hw1496 : k0_chk1496 v4911), ∀ a x, ((![v4911] : Fin 1 → IVec S16 32) a x).toNat < S4096.size a := fun v4911 k0_hw1496 => k0_hw1496

def k0_chk1497 (v4914 : IVec S16 32) : Prop :=
  (∀ a x, ((![v4914] : Fin 1 → IVec S16 32) a x).toNat < S12288.size a)
theorem k0_idx1497_inb : ∀ (v4914 : IVec S16 32) (k0_hw1497 : k0_chk1497 v4914), ∀ a x, ((![v4914] : Fin 1 → IVec S16 32) a x).toNat < S12288.size a := fun v4914 k0_hw1497 => k0_hw1497

def k0_chk1498 (v4915 : IVec S16 32) : Prop :=
  (∀ a x, ((![v4915] : Fin 1 → IVec S16 32) a x).toNat < S4096.size a)
theorem k0_idx1498_inb : ∀ (v4915 : IVec S16 32) (k0_hw1498 : k0_chk1498 v4915), ∀ a x, ((![v4915] : Fin 1 → IVec S16 32) a x).toNat < S4096.size a := fun v4915 k0_hw1498 => k0_hw1498

def k0_chk1499 (v4919 : IVec S16 32) : Prop :=
  (∀ a x, ((![v4919] : Fin 1 → IVec S16 32) a x).toNat < S12288.size a)
theorem k0_idx1499_inb : ∀ (v4919 : IVec S16 32) (k0_hw1499 : k0_chk1499 v4919), ∀ a x, ((![v4919] : Fin 1 → IVec S16 32) a x).toNat < S12288.size a := fun v4919 k0_hw1499 => k0_hw1499

def k0_chk1500 (v4920 : IVec S16 32) : Prop :=
  (∀ a x, ((![v4920] : Fin 1 → IVec S16 32) a x).toNat < S4096.size a)
theorem k0_idx1500_inb : ∀ (v4920 : IVec S16 32) (k0_hw1500 : k0_chk1500 v4920), ∀ a x, ((![v4920] : Fin 1 → IVec S16 32) a x).toNat < S4096.size a := fun v4920 k0_hw1500 => k0_hw1500

def k0_chk1501 (v4924 : IVec S16 32) : Prop :=
  (∀ a x, ((![v4924] : Fin 1 → IVec S16 32) a x).toNat < S12288.size a)
theorem k0_idx1501_inb : ∀ (v4924 : IVec S16 32) (k0_hw1501 : k0_chk1501 v4924), ∀ a x, ((![v4924] : Fin 1 → IVec S16 32) a x).toNat < S12288.size a := fun v4924 k0_hw1501 => k0_hw1501

def k0_chk1502 (v4925 : IVec S16 32) : Prop :=
  (∀ a x, ((![v4925] : Fin 1 → IVec S16 32) a x).toNat < S4096.size a)
theorem k0_idx1502_inb : ∀ (v4925 : IVec S16 32) (k0_hw1502 : k0_chk1502 v4925), ∀ a x, ((![v4925] : Fin 1 → IVec S16 32) a x).toNat < S4096.size a := fun v4925 k0_hw1502 => k0_hw1502

def k0_chk1503 (v4928 : IVec S16 32) : Prop :=
  (∀ a x, ((![v4928] : Fin 1 → IVec S16 32) a x).toNat < S16.size a)
theorem k0_idx1503_inb : ∀ (v4928 : IVec S16 32) (k0_hw1503 : k0_chk1503 v4928), ∀ a x, ((![v4928] : Fin 1 → IVec S16 32) a x).toNat < S16.size a := fun v4928 k0_hw1503 => k0_hw1503

def k0_chk1504 (v4937 : IVec S16 32) : Prop :=
  (∀ a x, ((![v4937] : Fin 1 → IVec S16 32) a x).toNat < S12288.size a)
theorem k0_idx1504_inb : ∀ (v4937 : IVec S16 32) (k0_hw1504 : k0_chk1504 v4937), ∀ a x, ((![v4937] : Fin 1 → IVec S16 32) a x).toNat < S12288.size a := fun v4937 k0_hw1504 => k0_hw1504

def k0_chk1505 (v4938 : IVec S16 32) : Prop :=
  (∀ a x, ((![v4938] : Fin 1 → IVec S16 32) a x).toNat < S4096.size a)
theorem k0_idx1505_inb : ∀ (v4938 : IVec S16 32) (k0_hw1505 : k0_chk1505 v4938), ∀ a x, ((![v4938] : Fin 1 → IVec S16 32) a x).toNat < S4096.size a := fun v4938 k0_hw1505 => k0_hw1505

def k0_chk1506 (v4941 : IVec S16 32) : Prop :=
  (∀ a x, ((![v4941] : Fin 1 → IVec S16 32) a x).toNat < S12288.size a)
theorem k0_idx1506_inb : ∀ (v4941 : IVec S16 32) (k0_hw1506 : k0_chk1506 v4941), ∀ a x, ((![v4941] : Fin 1 → IVec S16 32) a x).toNat < S12288.size a := fun v4941 k0_hw1506 => k0_hw1506

def k0_chk1507 (v4942 : IVec S16 32) : Prop :=
  (∀ a x, ((![v4942] : Fin 1 → IVec S16 32) a x).toNat < S4096.size a)
theorem k0_idx1507_inb : ∀ (v4942 : IVec S16 32) (k0_hw1507 : k0_chk1507 v4942), ∀ a x, ((![v4942] : Fin 1 → IVec S16 32) a x).toNat < S4096.size a := fun v4942 k0_hw1507 => k0_hw1507

def k0_chk1508 (v4946 : IVec S16 32) : Prop :=
  (∀ a x, ((![v4946] : Fin 1 → IVec S16 32) a x).toNat < S12288.size a)
theorem k0_idx1508_inb : ∀ (v4946 : IVec S16 32) (k0_hw1508 : k0_chk1508 v4946), ∀ a x, ((![v4946] : Fin 1 → IVec S16 32) a x).toNat < S12288.size a := fun v4946 k0_hw1508 => k0_hw1508

def k0_chk1509 (v4947 : IVec S16 32) : Prop :=
  (∀ a x, ((![v4947] : Fin 1 → IVec S16 32) a x).toNat < S4096.size a)
theorem k0_idx1509_inb : ∀ (v4947 : IVec S16 32) (k0_hw1509 : k0_chk1509 v4947), ∀ a x, ((![v4947] : Fin 1 → IVec S16 32) a x).toNat < S4096.size a := fun v4947 k0_hw1509 => k0_hw1509

def k0_chk1510 (v4951 : IVec S16 32) : Prop :=
  (∀ a x, ((![v4951] : Fin 1 → IVec S16 32) a x).toNat < S12288.size a)
theorem k0_idx1510_inb : ∀ (v4951 : IVec S16 32) (k0_hw1510 : k0_chk1510 v4951), ∀ a x, ((![v4951] : Fin 1 → IVec S16 32) a x).toNat < S12288.size a := fun v4951 k0_hw1510 => k0_hw1510

def k0_chk1511 (v4952 : IVec S16 32) : Prop :=
  (∀ a x, ((![v4952] : Fin 1 → IVec S16 32) a x).toNat < S4096.size a)
theorem k0_idx1511_inb : ∀ (v4952 : IVec S16 32) (k0_hw1511 : k0_chk1511 v4952), ∀ a x, ((![v4952] : Fin 1 → IVec S16 32) a x).toNat < S4096.size a := fun v4952 k0_hw1511 => k0_hw1511

def k0_chk1512 (v4955 : IVec S16 32) : Prop :=
  (∀ a x, ((![v4955] : Fin 1 → IVec S16 32) a x).toNat < S16.size a)
theorem k0_idx1512_inb : ∀ (v4955 : IVec S16 32) (k0_hw1512 : k0_chk1512 v4955), ∀ a x, ((![v4955] : Fin 1 → IVec S16 32) a x).toNat < S16.size a := fun v4955 k0_hw1512 => k0_hw1512

def k0_chk1513 (v4964 : IVec S16 32) : Prop :=
  (∀ a x, ((![v4964] : Fin 1 → IVec S16 32) a x).toNat < S12288.size a)
theorem k0_idx1513_inb : ∀ (v4964 : IVec S16 32) (k0_hw1513 : k0_chk1513 v4964), ∀ a x, ((![v4964] : Fin 1 → IVec S16 32) a x).toNat < S12288.size a := fun v4964 k0_hw1513 => k0_hw1513

def k0_chk1514 (v4965 : IVec S16 32) : Prop :=
  (∀ a x, ((![v4965] : Fin 1 → IVec S16 32) a x).toNat < S4096.size a)
theorem k0_idx1514_inb : ∀ (v4965 : IVec S16 32) (k0_hw1514 : k0_chk1514 v4965), ∀ a x, ((![v4965] : Fin 1 → IVec S16 32) a x).toNat < S4096.size a := fun v4965 k0_hw1514 => k0_hw1514

def k0_chk1515 (v4968 : IVec S16 32) : Prop :=
  (∀ a x, ((![v4968] : Fin 1 → IVec S16 32) a x).toNat < S12288.size a)
theorem k0_idx1515_inb : ∀ (v4968 : IVec S16 32) (k0_hw1515 : k0_chk1515 v4968), ∀ a x, ((![v4968] : Fin 1 → IVec S16 32) a x).toNat < S12288.size a := fun v4968 k0_hw1515 => k0_hw1515

def k0_chk1516 (v4969 : IVec S16 32) : Prop :=
  (∀ a x, ((![v4969] : Fin 1 → IVec S16 32) a x).toNat < S4096.size a)
theorem k0_idx1516_inb : ∀ (v4969 : IVec S16 32) (k0_hw1516 : k0_chk1516 v4969), ∀ a x, ((![v4969] : Fin 1 → IVec S16 32) a x).toNat < S4096.size a := fun v4969 k0_hw1516 => k0_hw1516

def k0_chk1517 (v4973 : IVec S16 32) : Prop :=
  (∀ a x, ((![v4973] : Fin 1 → IVec S16 32) a x).toNat < S12288.size a)
theorem k0_idx1517_inb : ∀ (v4973 : IVec S16 32) (k0_hw1517 : k0_chk1517 v4973), ∀ a x, ((![v4973] : Fin 1 → IVec S16 32) a x).toNat < S12288.size a := fun v4973 k0_hw1517 => k0_hw1517

def k0_chk1518 (v4974 : IVec S16 32) : Prop :=
  (∀ a x, ((![v4974] : Fin 1 → IVec S16 32) a x).toNat < S4096.size a)
theorem k0_idx1518_inb : ∀ (v4974 : IVec S16 32) (k0_hw1518 : k0_chk1518 v4974), ∀ a x, ((![v4974] : Fin 1 → IVec S16 32) a x).toNat < S4096.size a := fun v4974 k0_hw1518 => k0_hw1518

def k0_chk1519 (v4978 : IVec S16 32) : Prop :=
  (∀ a x, ((![v4978] : Fin 1 → IVec S16 32) a x).toNat < S12288.size a)
theorem k0_idx1519_inb : ∀ (v4978 : IVec S16 32) (k0_hw1519 : k0_chk1519 v4978), ∀ a x, ((![v4978] : Fin 1 → IVec S16 32) a x).toNat < S12288.size a := fun v4978 k0_hw1519 => k0_hw1519

def k0_chk1520 (v4979 : IVec S16 32) : Prop :=
  (∀ a x, ((![v4979] : Fin 1 → IVec S16 32) a x).toNat < S4096.size a)
theorem k0_idx1520_inb : ∀ (v4979 : IVec S16 32) (k0_hw1520 : k0_chk1520 v4979), ∀ a x, ((![v4979] : Fin 1 → IVec S16 32) a x).toNat < S4096.size a := fun v4979 k0_hw1520 => k0_hw1520

def k0_chk1521 (v4982 : IVec S16 32) : Prop :=
  (∀ a x, ((![v4982] : Fin 1 → IVec S16 32) a x).toNat < S16.size a)
theorem k0_idx1521_inb : ∀ (v4982 : IVec S16 32) (k0_hw1521 : k0_chk1521 v4982), ∀ a x, ((![v4982] : Fin 1 → IVec S16 32) a x).toNat < S16.size a := fun v4982 k0_hw1521 => k0_hw1521

def k0_chk1522 (v4991 : IVec S16 32) : Prop :=
  (∀ a x, ((![v4991] : Fin 1 → IVec S16 32) a x).toNat < S12288.size a)
theorem k0_idx1522_inb : ∀ (v4991 : IVec S16 32) (k0_hw1522 : k0_chk1522 v4991), ∀ a x, ((![v4991] : Fin 1 → IVec S16 32) a x).toNat < S12288.size a := fun v4991 k0_hw1522 => k0_hw1522

def k0_chk1523 (v4992 : IVec S16 32) : Prop :=
  (∀ a x, ((![v4992] : Fin 1 → IVec S16 32) a x).toNat < S4096.size a)
theorem k0_idx1523_inb : ∀ (v4992 : IVec S16 32) (k0_hw1523 : k0_chk1523 v4992), ∀ a x, ((![v4992] : Fin 1 → IVec S16 32) a x).toNat < S4096.size a := fun v4992 k0_hw1523 => k0_hw1523

def k0_chk1524 (v4995 : IVec S16 32) : Prop :=
  (∀ a x, ((![v4995] : Fin 1 → IVec S16 32) a x).toNat < S12288.size a)
theorem k0_idx1524_inb : ∀ (v4995 : IVec S16 32) (k0_hw1524 : k0_chk1524 v4995), ∀ a x, ((![v4995] : Fin 1 → IVec S16 32) a x).toNat < S12288.size a := fun v4995 k0_hw1524 => k0_hw1524

def k0_chk1525 (v4996 : IVec S16 32) : Prop :=
  (∀ a x, ((![v4996] : Fin 1 → IVec S16 32) a x).toNat < S4096.size a)
theorem k0_idx1525_inb : ∀ (v4996 : IVec S16 32) (k0_hw1525 : k0_chk1525 v4996), ∀ a x, ((![v4996] : Fin 1 → IVec S16 32) a x).toNat < S4096.size a := fun v4996 k0_hw1525 => k0_hw1525

def k0_chk1526 (v5000 : IVec S16 32) : Prop :=
  (∀ a x, ((![v5000] : Fin 1 → IVec S16 32) a x).toNat < S12288.size a)
theorem k0_idx1526_inb : ∀ (v5000 : IVec S16 32) (k0_hw1526 : k0_chk1526 v5000), ∀ a x, ((![v5000] : Fin 1 → IVec S16 32) a x).toNat < S12288.size a := fun v5000 k0_hw1526 => k0_hw1526

def k0_chk1527 (v5001 : IVec S16 32) : Prop :=
  (∀ a x, ((![v5001] : Fin 1 → IVec S16 32) a x).toNat < S4096.size a)
theorem k0_idx1527_inb : ∀ (v5001 : IVec S16 32) (k0_hw1527 : k0_chk1527 v5001), ∀ a x, ((![v5001] : Fin 1 → IVec S16 32) a x).toNat < S4096.size a := fun v5001 k0_hw1527 => k0_hw1527

def k0_chk1528 (v5005 : IVec S16 32) : Prop :=
  (∀ a x, ((![v5005] : Fin 1 → IVec S16 32) a x).toNat < S12288.size a)
theorem k0_idx1528_inb : ∀ (v5005 : IVec S16 32) (k0_hw1528 : k0_chk1528 v5005), ∀ a x, ((![v5005] : Fin 1 → IVec S16 32) a x).toNat < S12288.size a := fun v5005 k0_hw1528 => k0_hw1528

def k0_chk1529 (v5006 : IVec S16 32) : Prop :=
  (∀ a x, ((![v5006] : Fin 1 → IVec S16 32) a x).toNat < S4096.size a)
theorem k0_idx1529_inb : ∀ (v5006 : IVec S16 32) (k0_hw1529 : k0_chk1529 v5006), ∀ a x, ((![v5006] : Fin 1 → IVec S16 32) a x).toNat < S4096.size a := fun v5006 k0_hw1529 => k0_hw1529

def k0_chk1530 (v5009 : IVec S16 32) : Prop :=
  (∀ a x, ((![v5009] : Fin 1 → IVec S16 32) a x).toNat < S16.size a)
theorem k0_idx1530_inb : ∀ (v5009 : IVec S16 32) (k0_hw1530 : k0_chk1530 v5009), ∀ a x, ((![v5009] : Fin 1 → IVec S16 32) a x).toNat < S16.size a := fun v5009 k0_hw1530 => k0_hw1530

def k0_chk1531 (v5018 : IVec S16 32) : Prop :=
  (∀ a x, ((![v5018] : Fin 1 → IVec S16 32) a x).toNat < S12288.size a)
theorem k0_idx1531_inb : ∀ (v5018 : IVec S16 32) (k0_hw1531 : k0_chk1531 v5018), ∀ a x, ((![v5018] : Fin 1 → IVec S16 32) a x).toNat < S12288.size a := fun v5018 k0_hw1531 => k0_hw1531

def k0_chk1532 (v5019 : IVec S16 32) : Prop :=
  (∀ a x, ((![v5019] : Fin 1 → IVec S16 32) a x).toNat < S4096.size a)
theorem k0_idx1532_inb : ∀ (v5019 : IVec S16 32) (k0_hw1532 : k0_chk1532 v5019), ∀ a x, ((![v5019] : Fin 1 → IVec S16 32) a x).toNat < S4096.size a := fun v5019 k0_hw1532 => k0_hw1532

def k0_chk1533 (v5022 : IVec S16 32) : Prop :=
  (∀ a x, ((![v5022] : Fin 1 → IVec S16 32) a x).toNat < S12288.size a)
theorem k0_idx1533_inb : ∀ (v5022 : IVec S16 32) (k0_hw1533 : k0_chk1533 v5022), ∀ a x, ((![v5022] : Fin 1 → IVec S16 32) a x).toNat < S12288.size a := fun v5022 k0_hw1533 => k0_hw1533

def k0_chk1534 (v5023 : IVec S16 32) : Prop :=
  (∀ a x, ((![v5023] : Fin 1 → IVec S16 32) a x).toNat < S4096.size a)
theorem k0_idx1534_inb : ∀ (v5023 : IVec S16 32) (k0_hw1534 : k0_chk1534 v5023), ∀ a x, ((![v5023] : Fin 1 → IVec S16 32) a x).toNat < S4096.size a := fun v5023 k0_hw1534 => k0_hw1534

def k0_chk1535 (v5027 : IVec S16 32) : Prop :=
  (∀ a x, ((![v5027] : Fin 1 → IVec S16 32) a x).toNat < S12288.size a)
theorem k0_idx1535_inb : ∀ (v5027 : IVec S16 32) (k0_hw1535 : k0_chk1535 v5027), ∀ a x, ((![v5027] : Fin 1 → IVec S16 32) a x).toNat < S12288.size a := fun v5027 k0_hw1535 => k0_hw1535

def k0_chk1536 (v5028 : IVec S16 32) : Prop :=
  (∀ a x, ((![v5028] : Fin 1 → IVec S16 32) a x).toNat < S4096.size a)
theorem k0_idx1536_inb : ∀ (v5028 : IVec S16 32) (k0_hw1536 : k0_chk1536 v5028), ∀ a x, ((![v5028] : Fin 1 → IVec S16 32) a x).toNat < S4096.size a := fun v5028 k0_hw1536 => k0_hw1536

def k0_chk1537 (v5032 : IVec S16 32) : Prop :=
  (∀ a x, ((![v5032] : Fin 1 → IVec S16 32) a x).toNat < S12288.size a)
theorem k0_idx1537_inb : ∀ (v5032 : IVec S16 32) (k0_hw1537 : k0_chk1537 v5032), ∀ a x, ((![v5032] : Fin 1 → IVec S16 32) a x).toNat < S12288.size a := fun v5032 k0_hw1537 => k0_hw1537

def k0_chk1538 (v5033 : IVec S16 32) : Prop :=
  (∀ a x, ((![v5033] : Fin 1 → IVec S16 32) a x).toNat < S4096.size a)
theorem k0_idx1538_inb : ∀ (v5033 : IVec S16 32) (k0_hw1538 : k0_chk1538 v5033), ∀ a x, ((![v5033] : Fin 1 → IVec S16 32) a x).toNat < S4096.size a := fun v5033 k0_hw1538 => k0_hw1538

def k0_chk1539 (v5036 : IVec S16 32) : Prop :=
  (∀ a x, ((![v5036] : Fin 1 → IVec S16 32) a x).toNat < S16.size a)
theorem k0_idx1539_inb : ∀ (v5036 : IVec S16 32) (k0_hw1539 : k0_chk1539 v5036), ∀ a x, ((![v5036] : Fin 1 → IVec S16 32) a x).toNat < S16.size a := fun v5036 k0_hw1539 => k0_hw1539

def k0_chk1540 (v5045 : IVec S16 32) : Prop :=
  (∀ a x, ((![v5045] : Fin 1 → IVec S16 32) a x).toNat < S12288.size a)
theorem k0_idx1540_inb : ∀ (v5045 : IVec S16 32) (k0_hw1540 : k0_chk1540 v5045), ∀ a x, ((![v5045] : Fin 1 → IVec S16 32) a x).toNat < S12288.size a := fun v5045 k0_hw1540 => k0_hw1540

def k0_chk1541 (v5046 : IVec S16 32) : Prop :=
  (∀ a x, ((![v5046] : Fin 1 → IVec S16 32) a x).toNat < S4096.size a)
theorem k0_idx1541_inb : ∀ (v5046 : IVec S16 32) (k0_hw1541 : k0_chk1541 v5046), ∀ a x, ((![v5046] : Fin 1 → IVec S16 32) a x).toNat < S4096.size a := fun v5046 k0_hw1541 => k0_hw1541

def k0_chk1542 (v5049 : IVec S16 32) : Prop :=
  (∀ a x, ((![v5049] : Fin 1 → IVec S16 32) a x).toNat < S12288.size a)
theorem k0_idx1542_inb : ∀ (v5049 : IVec S16 32) (k0_hw1542 : k0_chk1542 v5049), ∀ a x, ((![v5049] : Fin 1 → IVec S16 32) a x).toNat < S12288.size a := fun v5049 k0_hw1542 => k0_hw1542

def k0_chk1543 (v5050 : IVec S16 32) : Prop :=
  (∀ a x, ((![v5050] : Fin 1 → IVec S16 32) a x).toNat < S4096.size a)
theorem k0_idx1543_inb : ∀ (v5050 : IVec S16 32) (k0_hw1543 : k0_chk1543 v5050), ∀ a x, ((![v5050] : Fin 1 → IVec S16 32) a x).toNat < S4096.size a := fun v5050 k0_hw1543 => k0_hw1543

def k0_chk1544 (v5054 : IVec S16 32) : Prop :=
  (∀ a x, ((![v5054] : Fin 1 → IVec S16 32) a x).toNat < S12288.size a)
theorem k0_idx1544_inb : ∀ (v5054 : IVec S16 32) (k0_hw1544 : k0_chk1544 v5054), ∀ a x, ((![v5054] : Fin 1 → IVec S16 32) a x).toNat < S12288.size a := fun v5054 k0_hw1544 => k0_hw1544

def k0_chk1545 (v5055 : IVec S16 32) : Prop :=
  (∀ a x, ((![v5055] : Fin 1 → IVec S16 32) a x).toNat < S4096.size a)
theorem k0_idx1545_inb : ∀ (v5055 : IVec S16 32) (k0_hw1545 : k0_chk1545 v5055), ∀ a x, ((![v5055] : Fin 1 → IVec S16 32) a x).toNat < S4096.size a := fun v5055 k0_hw1545 => k0_hw1545

def k0_chk1546 (v5059 : IVec S16 32) : Prop :=
  (∀ a x, ((![v5059] : Fin 1 → IVec S16 32) a x).toNat < S12288.size a)
theorem k0_idx1546_inb : ∀ (v5059 : IVec S16 32) (k0_hw1546 : k0_chk1546 v5059), ∀ a x, ((![v5059] : Fin 1 → IVec S16 32) a x).toNat < S12288.size a := fun v5059 k0_hw1546 => k0_hw1546

def k0_chk1547 (v5060 : IVec S16 32) : Prop :=
  (∀ a x, ((![v5060] : Fin 1 → IVec S16 32) a x).toNat < S4096.size a)
theorem k0_idx1547_inb : ∀ (v5060 : IVec S16 32) (k0_hw1547 : k0_chk1547 v5060), ∀ a x, ((![v5060] : Fin 1 → IVec S16 32) a x).toNat < S4096.size a := fun v5060 k0_hw1547 => k0_hw1547

def k0_chk1548 (v5063 : IVec S16 32) : Prop :=
  (∀ a x, ((![v5063] : Fin 1 → IVec S16 32) a x).toNat < S16.size a)
theorem k0_idx1548_inb : ∀ (v5063 : IVec S16 32) (k0_hw1548 : k0_chk1548 v5063), ∀ a x, ((![v5063] : Fin 1 → IVec S16 32) a x).toNat < S16.size a := fun v5063 k0_hw1548 => k0_hw1548

def k0_chk1549 (v5072 : IVec S16 32) : Prop :=
  (∀ a x, ((![v5072] : Fin 1 → IVec S16 32) a x).toNat < S12288.size a)
theorem k0_idx1549_inb : ∀ (v5072 : IVec S16 32) (k0_hw1549 : k0_chk1549 v5072), ∀ a x, ((![v5072] : Fin 1 → IVec S16 32) a x).toNat < S12288.size a := fun v5072 k0_hw1549 => k0_hw1549

def k0_chk1550 (v5073 : IVec S16 32) : Prop :=
  (∀ a x, ((![v5073] : Fin 1 → IVec S16 32) a x).toNat < S4096.size a)
theorem k0_idx1550_inb : ∀ (v5073 : IVec S16 32) (k0_hw1550 : k0_chk1550 v5073), ∀ a x, ((![v5073] : Fin 1 → IVec S16 32) a x).toNat < S4096.size a := fun v5073 k0_hw1550 => k0_hw1550

def k0_chk1551 (v5076 : IVec S16 32) : Prop :=
  (∀ a x, ((![v5076] : Fin 1 → IVec S16 32) a x).toNat < S12288.size a)
theorem k0_idx1551_inb : ∀ (v5076 : IVec S16 32) (k0_hw1551 : k0_chk1551 v5076), ∀ a x, ((![v5076] : Fin 1 → IVec S16 32) a x).toNat < S12288.size a := fun v5076 k0_hw1551 => k0_hw1551

def k0_chk1552 (v5077 : IVec S16 32) : Prop :=
  (∀ a x, ((![v5077] : Fin 1 → IVec S16 32) a x).toNat < S4096.size a)
theorem k0_idx1552_inb : ∀ (v5077 : IVec S16 32) (k0_hw1552 : k0_chk1552 v5077), ∀ a x, ((![v5077] : Fin 1 → IVec S16 32) a x).toNat < S4096.size a := fun v5077 k0_hw1552 => k0_hw1552

def k0_chk1553 (v5081 : IVec S16 32) : Prop :=
  (∀ a x, ((![v5081] : Fin 1 → IVec S16 32) a x).toNat < S12288.size a)
theorem k0_idx1553_inb : ∀ (v5081 : IVec S16 32) (k0_hw1553 : k0_chk1553 v5081), ∀ a x, ((![v5081] : Fin 1 → IVec S16 32) a x).toNat < S12288.size a := fun v5081 k0_hw1553 => k0_hw1553

def k0_chk1554 (v5082 : IVec S16 32) : Prop :=
  (∀ a x, ((![v5082] : Fin 1 → IVec S16 32) a x).toNat < S4096.size a)
theorem k0_idx1554_inb : ∀ (v5082 : IVec S16 32) (k0_hw1554 : k0_chk1554 v5082), ∀ a x, ((![v5082] : Fin 1 → IVec S16 32) a x).toNat < S4096.size a := fun v5082 k0_hw1554 => k0_hw1554

def k0_chk1555 (v5086 : IVec S16 32) : Prop :=
  (∀ a x, ((![v5086] : Fin 1 → IVec S16 32) a x).toNat < S12288.size a)
theorem k0_idx1555_inb : ∀ (v5086 : IVec S16 32) (k0_hw1555 : k0_chk1555 v5086), ∀ a x, ((![v5086] : Fin 1 → IVec S16 32) a x).toNat < S12288.size a := fun v5086 k0_hw1555 => k0_hw1555

def k0_chk1556 (v5087 : IVec S16 32) : Prop :=
  (∀ a x, ((![v5087] : Fin 1 → IVec S16 32) a x).toNat < S4096.size a)
theorem k0_idx1556_inb : ∀ (v5087 : IVec S16 32) (k0_hw1556 : k0_chk1556 v5087), ∀ a x, ((![v5087] : Fin 1 → IVec S16 32) a x).toNat < S4096.size a := fun v5087 k0_hw1556 => k0_hw1556

def k0_chk1557 (v5090 : IVec S16 32) : Prop :=
  (∀ a x, ((![v5090] : Fin 1 → IVec S16 32) a x).toNat < S16.size a)
theorem k0_idx1557_inb : ∀ (v5090 : IVec S16 32) (k0_hw1557 : k0_chk1557 v5090), ∀ a x, ((![v5090] : Fin 1 → IVec S16 32) a x).toNat < S16.size a := fun v5090 k0_hw1557 => k0_hw1557

def k0_chk1558 (v5099 : IVec S16 32) : Prop :=
  (∀ a x, ((![v5099] : Fin 1 → IVec S16 32) a x).toNat < S12288.size a)
theorem k0_idx1558_inb : ∀ (v5099 : IVec S16 32) (k0_hw1558 : k0_chk1558 v5099), ∀ a x, ((![v5099] : Fin 1 → IVec S16 32) a x).toNat < S12288.size a := fun v5099 k0_hw1558 => k0_hw1558

def k0_chk1559 (v5100 : IVec S16 32) : Prop :=
  (∀ a x, ((![v5100] : Fin 1 → IVec S16 32) a x).toNat < S4096.size a)
theorem k0_idx1559_inb : ∀ (v5100 : IVec S16 32) (k0_hw1559 : k0_chk1559 v5100), ∀ a x, ((![v5100] : Fin 1 → IVec S16 32) a x).toNat < S4096.size a := fun v5100 k0_hw1559 => k0_hw1559

def k0_chk1560 (v5103 : IVec S16 32) : Prop :=
  (∀ a x, ((![v5103] : Fin 1 → IVec S16 32) a x).toNat < S12288.size a)
theorem k0_idx1560_inb : ∀ (v5103 : IVec S16 32) (k0_hw1560 : k0_chk1560 v5103), ∀ a x, ((![v5103] : Fin 1 → IVec S16 32) a x).toNat < S12288.size a := fun v5103 k0_hw1560 => k0_hw1560

def k0_chk1561 (v5104 : IVec S16 32) : Prop :=
  (∀ a x, ((![v5104] : Fin 1 → IVec S16 32) a x).toNat < S4096.size a)
theorem k0_idx1561_inb : ∀ (v5104 : IVec S16 32) (k0_hw1561 : k0_chk1561 v5104), ∀ a x, ((![v5104] : Fin 1 → IVec S16 32) a x).toNat < S4096.size a := fun v5104 k0_hw1561 => k0_hw1561

def k0_chk1562 (v5108 : IVec S16 32) : Prop :=
  (∀ a x, ((![v5108] : Fin 1 → IVec S16 32) a x).toNat < S12288.size a)
theorem k0_idx1562_inb : ∀ (v5108 : IVec S16 32) (k0_hw1562 : k0_chk1562 v5108), ∀ a x, ((![v5108] : Fin 1 → IVec S16 32) a x).toNat < S12288.size a := fun v5108 k0_hw1562 => k0_hw1562

def k0_chk1563 (v5109 : IVec S16 32) : Prop :=
  (∀ a x, ((![v5109] : Fin 1 → IVec S16 32) a x).toNat < S4096.size a)
theorem k0_idx1563_inb : ∀ (v5109 : IVec S16 32) (k0_hw1563 : k0_chk1563 v5109), ∀ a x, ((![v5109] : Fin 1 → IVec S16 32) a x).toNat < S4096.size a := fun v5109 k0_hw1563 => k0_hw1563

def k0_chk1564 (v5113 : IVec S16 32) : Prop :=
  (∀ a x, ((![v5113] : Fin 1 → IVec S16 32) a x).toNat < S12288.size a)
theorem k0_idx1564_inb : ∀ (v5113 : IVec S16 32) (k0_hw1564 : k0_chk1564 v5113), ∀ a x, ((![v5113] : Fin 1 → IVec S16 32) a x).toNat < S12288.size a := fun v5113 k0_hw1564 => k0_hw1564

def k0_chk1565 (v5114 : IVec S16 32) : Prop :=
  (∀ a x, ((![v5114] : Fin 1 → IVec S16 32) a x).toNat < S4096.size a)
theorem k0_idx1565_inb : ∀ (v5114 : IVec S16 32) (k0_hw1565 : k0_chk1565 v5114), ∀ a x, ((![v5114] : Fin 1 → IVec S16 32) a x).toNat < S4096.size a := fun v5114 k0_hw1565 => k0_hw1565

def k0_chk1566 (v5117 : IVec S16 32) : Prop :=
  (∀ a x, ((![v5117] : Fin 1 → IVec S16 32) a x).toNat < S16.size a)
theorem k0_idx1566_inb : ∀ (v5117 : IVec S16 32) (k0_hw1566 : k0_chk1566 v5117), ∀ a x, ((![v5117] : Fin 1 → IVec S16 32) a x).toNat < S16.size a := fun v5117 k0_hw1566 => k0_hw1566

def k0_chk1567 (v5126 : IVec S16 32) : Prop :=
  (∀ a x, ((![v5126] : Fin 1 → IVec S16 32) a x).toNat < S12288.size a)
theorem k0_idx1567_inb : ∀ (v5126 : IVec S16 32) (k0_hw1567 : k0_chk1567 v5126), ∀ a x, ((![v5126] : Fin 1 → IVec S16 32) a x).toNat < S12288.size a := fun v5126 k0_hw1567 => k0_hw1567

def k0_chk1568 (v5127 : IVec S16 32) : Prop :=
  (∀ a x, ((![v5127] : Fin 1 → IVec S16 32) a x).toNat < S4096.size a)
theorem k0_idx1568_inb : ∀ (v5127 : IVec S16 32) (k0_hw1568 : k0_chk1568 v5127), ∀ a x, ((![v5127] : Fin 1 → IVec S16 32) a x).toNat < S4096.size a := fun v5127 k0_hw1568 => k0_hw1568

def k0_chk1569 (v5130 : IVec S16 32) : Prop :=
  (∀ a x, ((![v5130] : Fin 1 → IVec S16 32) a x).toNat < S12288.size a)
theorem k0_idx1569_inb : ∀ (v5130 : IVec S16 32) (k0_hw1569 : k0_chk1569 v5130), ∀ a x, ((![v5130] : Fin 1 → IVec S16 32) a x).toNat < S12288.size a := fun v5130 k0_hw1569 => k0_hw1569

def k0_chk1570 (v5131 : IVec S16 32) : Prop :=
  (∀ a x, ((![v5131] : Fin 1 → IVec S16 32) a x).toNat < S4096.size a)
theorem k0_idx1570_inb : ∀ (v5131 : IVec S16 32) (k0_hw1570 : k0_chk1570 v5131), ∀ a x, ((![v5131] : Fin 1 → IVec S16 32) a x).toNat < S4096.size a := fun v5131 k0_hw1570 => k0_hw1570

def k0_chk1571 (v5135 : IVec S16 32) : Prop :=
  (∀ a x, ((![v5135] : Fin 1 → IVec S16 32) a x).toNat < S12288.size a)
theorem k0_idx1571_inb : ∀ (v5135 : IVec S16 32) (k0_hw1571 : k0_chk1571 v5135), ∀ a x, ((![v5135] : Fin 1 → IVec S16 32) a x).toNat < S12288.size a := fun v5135 k0_hw1571 => k0_hw1571

def k0_chk1572 (v5136 : IVec S16 32) : Prop :=
  (∀ a x, ((![v5136] : Fin 1 → IVec S16 32) a x).toNat < S4096.size a)
theorem k0_idx1572_inb : ∀ (v5136 : IVec S16 32) (k0_hw1572 : k0_chk1572 v5136), ∀ a x, ((![v5136] : Fin 1 → IVec S16 32) a x).toNat < S4096.size a := fun v5136 k0_hw1572 => k0_hw1572

def k0_chk1573 (v5140 : IVec S16 32) : Prop :=
  (∀ a x, ((![v5140] : Fin 1 → IVec S16 32) a x).toNat < S12288.size a)
theorem k0_idx1573_inb : ∀ (v5140 : IVec S16 32) (k0_hw1573 : k0_chk1573 v5140), ∀ a x, ((![v5140] : Fin 1 → IVec S16 32) a x).toNat < S12288.size a := fun v5140 k0_hw1573 => k0_hw1573

def k0_chk1574 (v5141 : IVec S16 32) : Prop :=
  (∀ a x, ((![v5141] : Fin 1 → IVec S16 32) a x).toNat < S4096.size a)
theorem k0_idx1574_inb : ∀ (v5141 : IVec S16 32) (k0_hw1574 : k0_chk1574 v5141), ∀ a x, ((![v5141] : Fin 1 → IVec S16 32) a x).toNat < S4096.size a := fun v5141 k0_hw1574 => k0_hw1574

def k0_chk1575 (v5144 : IVec S16 32) : Prop :=
  (∀ a x, ((![v5144] : Fin 1 → IVec S16 32) a x).toNat < S16.size a)
theorem k0_idx1575_inb : ∀ (v5144 : IVec S16 32) (k0_hw1575 : k0_chk1575 v5144), ∀ a x, ((![v5144] : Fin 1 → IVec S16 32) a x).toNat < S16.size a := fun v5144 k0_hw1575 => k0_hw1575

def k0_chk1576 (v5153 : IVec S16 32) : Prop :=
  (∀ a x, ((![v5153] : Fin 1 → IVec S16 32) a x).toNat < S12288.size a)
theorem k0_idx1576_inb : ∀ (v5153 : IVec S16 32) (k0_hw1576 : k0_chk1576 v5153), ∀ a x, ((![v5153] : Fin 1 → IVec S16 32) a x).toNat < S12288.size a := fun v5153 k0_hw1576 => k0_hw1576

def k0_chk1577 (v5154 : IVec S16 32) : Prop :=
  (∀ a x, ((![v5154] : Fin 1 → IVec S16 32) a x).toNat < S4096.size a)
theorem k0_idx1577_inb : ∀ (v5154 : IVec S16 32) (k0_hw1577 : k0_chk1577 v5154), ∀ a x, ((![v5154] : Fin 1 → IVec S16 32) a x).toNat < S4096.size a := fun v5154 k0_hw1577 => k0_hw1577

def k0_chk1578 (v5157 : IVec S16 32) : Prop :=
  (∀ a x, ((![v5157] : Fin 1 → IVec S16 32) a x).toNat < S12288.size a)
theorem k0_idx1578_inb : ∀ (v5157 : IVec S16 32) (k0_hw1578 : k0_chk1578 v5157), ∀ a x, ((![v5157] : Fin 1 → IVec S16 32) a x).toNat < S12288.size a := fun v5157 k0_hw1578 => k0_hw1578

def k0_chk1579 (v5158 : IVec S16 32) : Prop :=
  (∀ a x, ((![v5158] : Fin 1 → IVec S16 32) a x).toNat < S4096.size a)
theorem k0_idx1579_inb : ∀ (v5158 : IVec S16 32) (k0_hw1579 : k0_chk1579 v5158), ∀ a x, ((![v5158] : Fin 1 → IVec S16 32) a x).toNat < S4096.size a := fun v5158 k0_hw1579 => k0_hw1579

def k0_chk1580 (v5162 : IVec S16 32) : Prop :=
  (∀ a x, ((![v5162] : Fin 1 → IVec S16 32) a x).toNat < S12288.size a)
theorem k0_idx1580_inb : ∀ (v5162 : IVec S16 32) (k0_hw1580 : k0_chk1580 v5162), ∀ a x, ((![v5162] : Fin 1 → IVec S16 32) a x).toNat < S12288.size a := fun v5162 k0_hw1580 => k0_hw1580

def k0_chk1581 (v5163 : IVec S16 32) : Prop :=
  (∀ a x, ((![v5163] : Fin 1 → IVec S16 32) a x).toNat < S4096.size a)
theorem k0_idx1581_inb : ∀ (v5163 : IVec S16 32) (k0_hw1581 : k0_chk1581 v5163), ∀ a x, ((![v5163] : Fin 1 → IVec S16 32) a x).toNat < S4096.size a := fun v5163 k0_hw1581 => k0_hw1581

def k0_chk1582 (v5167 : IVec S16 32) : Prop :=
  (∀ a x, ((![v5167] : Fin 1 → IVec S16 32) a x).toNat < S12288.size a)
theorem k0_idx1582_inb : ∀ (v5167 : IVec S16 32) (k0_hw1582 : k0_chk1582 v5167), ∀ a x, ((![v5167] : Fin 1 → IVec S16 32) a x).toNat < S12288.size a := fun v5167 k0_hw1582 => k0_hw1582

def k0_chk1583 (v5168 : IVec S16 32) : Prop :=
  (∀ a x, ((![v5168] : Fin 1 → IVec S16 32) a x).toNat < S4096.size a)
theorem k0_idx1583_inb : ∀ (v5168 : IVec S16 32) (k0_hw1583 : k0_chk1583 v5168), ∀ a x, ((![v5168] : Fin 1 → IVec S16 32) a x).toNat < S4096.size a := fun v5168 k0_hw1583 => k0_hw1583

def k0_chk1584 (v5171 : IVec S16 32) : Prop :=
  (∀ a x, ((![v5171] : Fin 1 → IVec S16 32) a x).toNat < S16.size a)
theorem k0_idx1584_inb : ∀ (v5171 : IVec S16 32) (k0_hw1584 : k0_chk1584 v5171), ∀ a x, ((![v5171] : Fin 1 → IVec S16 32) a x).toNat < S16.size a := fun v5171 k0_hw1584 => k0_hw1584
def k0_off45 (i : grid0.Coords) : Fin 2 → Nat :=
  let c0_i32_967 : BitVec 32 := 0#32
  let arg1 : BitVec 32 := BitVec.ofNat 32 (i 1).val
  let c256_i32_966 : BitVec 32 := 256#32
  let v5179 : BitVec 32 := Scalar.muli arg1 c256_i32_966
  ![0, v5179.toNat]
def k0_off46 (i : grid0.Coords) : Fin 2 → Nat :=
  let c10_i32_970 : BitVec 32 := 10#32
  let arg1 : BitVec 32 := BitVec.ofNat 32 (i 1).val
  let c256_i32_968 : BitVec 32 := 256#32
  let v5180 : BitVec 32 := Scalar.muli arg1 c256_i32_968
  ![10, v5180.toNat]

def k0_chk1585 (v5190 : IVec S16 32) : Prop :=
  (∀ a x, ((![v5190] : Fin 1 → IVec S16 32) a x).toNat < S12288.size a)
theorem k0_idx1585_inb : ∀ (v5190 : IVec S16 32) (k0_hw1585 : k0_chk1585 v5190), ∀ a x, ((![v5190] : Fin 1 → IVec S16 32) a x).toNat < S12288.size a := fun v5190 k0_hw1585 => k0_hw1585

def k0_chk1586 (v5191 : IVec S16 32) : Prop :=
  (∀ a x, ((![v5191] : Fin 1 → IVec S16 32) a x).toNat < S4096.size a)
theorem k0_idx1586_inb : ∀ (v5191 : IVec S16 32) (k0_hw1586 : k0_chk1586 v5191), ∀ a x, ((![v5191] : Fin 1 → IVec S16 32) a x).toNat < S4096.size a := fun v5191 k0_hw1586 => k0_hw1586

def k0_chk1587 (v5194 : IVec S16 32) : Prop :=
  (∀ a x, ((![v5194] : Fin 1 → IVec S16 32) a x).toNat < S12288.size a)
theorem k0_idx1587_inb : ∀ (v5194 : IVec S16 32) (k0_hw1587 : k0_chk1587 v5194), ∀ a x, ((![v5194] : Fin 1 → IVec S16 32) a x).toNat < S12288.size a := fun v5194 k0_hw1587 => k0_hw1587

def k0_chk1588 (v5195 : IVec S16 32) : Prop :=
  (∀ a x, ((![v5195] : Fin 1 → IVec S16 32) a x).toNat < S4096.size a)
theorem k0_idx1588_inb : ∀ (v5195 : IVec S16 32) (k0_hw1588 : k0_chk1588 v5195), ∀ a x, ((![v5195] : Fin 1 → IVec S16 32) a x).toNat < S4096.size a := fun v5195 k0_hw1588 => k0_hw1588

def k0_chk1589 (v5199 : IVec S16 32) : Prop :=
  (∀ a x, ((![v5199] : Fin 1 → IVec S16 32) a x).toNat < S12288.size a)
theorem k0_idx1589_inb : ∀ (v5199 : IVec S16 32) (k0_hw1589 : k0_chk1589 v5199), ∀ a x, ((![v5199] : Fin 1 → IVec S16 32) a x).toNat < S12288.size a := fun v5199 k0_hw1589 => k0_hw1589

def k0_chk1590 (v5200 : IVec S16 32) : Prop :=
  (∀ a x, ((![v5200] : Fin 1 → IVec S16 32) a x).toNat < S4096.size a)
theorem k0_idx1590_inb : ∀ (v5200 : IVec S16 32) (k0_hw1590 : k0_chk1590 v5200), ∀ a x, ((![v5200] : Fin 1 → IVec S16 32) a x).toNat < S4096.size a := fun v5200 k0_hw1590 => k0_hw1590

def k0_chk1591 (v5204 : IVec S16 32) : Prop :=
  (∀ a x, ((![v5204] : Fin 1 → IVec S16 32) a x).toNat < S12288.size a)
theorem k0_idx1591_inb : ∀ (v5204 : IVec S16 32) (k0_hw1591 : k0_chk1591 v5204), ∀ a x, ((![v5204] : Fin 1 → IVec S16 32) a x).toNat < S12288.size a := fun v5204 k0_hw1591 => k0_hw1591

def k0_chk1592 (v5205 : IVec S16 32) : Prop :=
  (∀ a x, ((![v5205] : Fin 1 → IVec S16 32) a x).toNat < S4096.size a)
theorem k0_idx1592_inb : ∀ (v5205 : IVec S16 32) (k0_hw1592 : k0_chk1592 v5205), ∀ a x, ((![v5205] : Fin 1 → IVec S16 32) a x).toNat < S4096.size a := fun v5205 k0_hw1592 => k0_hw1592

def k0_chk1593 (v5208 : IVec S16 32) : Prop :=
  (∀ a x, ((![v5208] : Fin 1 → IVec S16 32) a x).toNat < S16.size a)
theorem k0_idx1593_inb : ∀ (v5208 : IVec S16 32) (k0_hw1593 : k0_chk1593 v5208), ∀ a x, ((![v5208] : Fin 1 → IVec S16 32) a x).toNat < S16.size a := fun v5208 k0_hw1593 => k0_hw1593

def k0_chk1594 (v5217 : IVec S16 32) : Prop :=
  (∀ a x, ((![v5217] : Fin 1 → IVec S16 32) a x).toNat < S12288.size a)
theorem k0_idx1594_inb : ∀ (v5217 : IVec S16 32) (k0_hw1594 : k0_chk1594 v5217), ∀ a x, ((![v5217] : Fin 1 → IVec S16 32) a x).toNat < S12288.size a := fun v5217 k0_hw1594 => k0_hw1594

def k0_chk1595 (v5218 : IVec S16 32) : Prop :=
  (∀ a x, ((![v5218] : Fin 1 → IVec S16 32) a x).toNat < S4096.size a)
theorem k0_idx1595_inb : ∀ (v5218 : IVec S16 32) (k0_hw1595 : k0_chk1595 v5218), ∀ a x, ((![v5218] : Fin 1 → IVec S16 32) a x).toNat < S4096.size a := fun v5218 k0_hw1595 => k0_hw1595

def k0_chk1596 (v5221 : IVec S16 32) : Prop :=
  (∀ a x, ((![v5221] : Fin 1 → IVec S16 32) a x).toNat < S12288.size a)
theorem k0_idx1596_inb : ∀ (v5221 : IVec S16 32) (k0_hw1596 : k0_chk1596 v5221), ∀ a x, ((![v5221] : Fin 1 → IVec S16 32) a x).toNat < S12288.size a := fun v5221 k0_hw1596 => k0_hw1596

def k0_chk1597 (v5222 : IVec S16 32) : Prop :=
  (∀ a x, ((![v5222] : Fin 1 → IVec S16 32) a x).toNat < S4096.size a)
theorem k0_idx1597_inb : ∀ (v5222 : IVec S16 32) (k0_hw1597 : k0_chk1597 v5222), ∀ a x, ((![v5222] : Fin 1 → IVec S16 32) a x).toNat < S4096.size a := fun v5222 k0_hw1597 => k0_hw1597

def k0_chk1598 (v5226 : IVec S16 32) : Prop :=
  (∀ a x, ((![v5226] : Fin 1 → IVec S16 32) a x).toNat < S12288.size a)
theorem k0_idx1598_inb : ∀ (v5226 : IVec S16 32) (k0_hw1598 : k0_chk1598 v5226), ∀ a x, ((![v5226] : Fin 1 → IVec S16 32) a x).toNat < S12288.size a := fun v5226 k0_hw1598 => k0_hw1598

def k0_chk1599 (v5227 : IVec S16 32) : Prop :=
  (∀ a x, ((![v5227] : Fin 1 → IVec S16 32) a x).toNat < S4096.size a)
theorem k0_idx1599_inb : ∀ (v5227 : IVec S16 32) (k0_hw1599 : k0_chk1599 v5227), ∀ a x, ((![v5227] : Fin 1 → IVec S16 32) a x).toNat < S4096.size a := fun v5227 k0_hw1599 => k0_hw1599

def k0_chk1600 (v5231 : IVec S16 32) : Prop :=
  (∀ a x, ((![v5231] : Fin 1 → IVec S16 32) a x).toNat < S12288.size a)
theorem k0_idx1600_inb : ∀ (v5231 : IVec S16 32) (k0_hw1600 : k0_chk1600 v5231), ∀ a x, ((![v5231] : Fin 1 → IVec S16 32) a x).toNat < S12288.size a := fun v5231 k0_hw1600 => k0_hw1600

def k0_chk1601 (v5232 : IVec S16 32) : Prop :=
  (∀ a x, ((![v5232] : Fin 1 → IVec S16 32) a x).toNat < S4096.size a)
theorem k0_idx1601_inb : ∀ (v5232 : IVec S16 32) (k0_hw1601 : k0_chk1601 v5232), ∀ a x, ((![v5232] : Fin 1 → IVec S16 32) a x).toNat < S4096.size a := fun v5232 k0_hw1601 => k0_hw1601

def k0_chk1602 (v5235 : IVec S16 32) : Prop :=
  (∀ a x, ((![v5235] : Fin 1 → IVec S16 32) a x).toNat < S16.size a)
theorem k0_idx1602_inb : ∀ (v5235 : IVec S16 32) (k0_hw1602 : k0_chk1602 v5235), ∀ a x, ((![v5235] : Fin 1 → IVec S16 32) a x).toNat < S16.size a := fun v5235 k0_hw1602 => k0_hw1602

def k0_chk1603 (v5244 : IVec S16 32) : Prop :=
  (∀ a x, ((![v5244] : Fin 1 → IVec S16 32) a x).toNat < S12288.size a)
theorem k0_idx1603_inb : ∀ (v5244 : IVec S16 32) (k0_hw1603 : k0_chk1603 v5244), ∀ a x, ((![v5244] : Fin 1 → IVec S16 32) a x).toNat < S12288.size a := fun v5244 k0_hw1603 => k0_hw1603

def k0_chk1604 (v5245 : IVec S16 32) : Prop :=
  (∀ a x, ((![v5245] : Fin 1 → IVec S16 32) a x).toNat < S4096.size a)
theorem k0_idx1604_inb : ∀ (v5245 : IVec S16 32) (k0_hw1604 : k0_chk1604 v5245), ∀ a x, ((![v5245] : Fin 1 → IVec S16 32) a x).toNat < S4096.size a := fun v5245 k0_hw1604 => k0_hw1604

def k0_chk1605 (v5248 : IVec S16 32) : Prop :=
  (∀ a x, ((![v5248] : Fin 1 → IVec S16 32) a x).toNat < S12288.size a)
theorem k0_idx1605_inb : ∀ (v5248 : IVec S16 32) (k0_hw1605 : k0_chk1605 v5248), ∀ a x, ((![v5248] : Fin 1 → IVec S16 32) a x).toNat < S12288.size a := fun v5248 k0_hw1605 => k0_hw1605

def k0_chk1606 (v5249 : IVec S16 32) : Prop :=
  (∀ a x, ((![v5249] : Fin 1 → IVec S16 32) a x).toNat < S4096.size a)
theorem k0_idx1606_inb : ∀ (v5249 : IVec S16 32) (k0_hw1606 : k0_chk1606 v5249), ∀ a x, ((![v5249] : Fin 1 → IVec S16 32) a x).toNat < S4096.size a := fun v5249 k0_hw1606 => k0_hw1606

def k0_chk1607 (v5253 : IVec S16 32) : Prop :=
  (∀ a x, ((![v5253] : Fin 1 → IVec S16 32) a x).toNat < S12288.size a)
theorem k0_idx1607_inb : ∀ (v5253 : IVec S16 32) (k0_hw1607 : k0_chk1607 v5253), ∀ a x, ((![v5253] : Fin 1 → IVec S16 32) a x).toNat < S12288.size a := fun v5253 k0_hw1607 => k0_hw1607

def k0_chk1608 (v5254 : IVec S16 32) : Prop :=
  (∀ a x, ((![v5254] : Fin 1 → IVec S16 32) a x).toNat < S4096.size a)
theorem k0_idx1608_inb : ∀ (v5254 : IVec S16 32) (k0_hw1608 : k0_chk1608 v5254), ∀ a x, ((![v5254] : Fin 1 → IVec S16 32) a x).toNat < S4096.size a := fun v5254 k0_hw1608 => k0_hw1608

def k0_chk1609 (v5258 : IVec S16 32) : Prop :=
  (∀ a x, ((![v5258] : Fin 1 → IVec S16 32) a x).toNat < S12288.size a)
theorem k0_idx1609_inb : ∀ (v5258 : IVec S16 32) (k0_hw1609 : k0_chk1609 v5258), ∀ a x, ((![v5258] : Fin 1 → IVec S16 32) a x).toNat < S12288.size a := fun v5258 k0_hw1609 => k0_hw1609

def k0_chk1610 (v5259 : IVec S16 32) : Prop :=
  (∀ a x, ((![v5259] : Fin 1 → IVec S16 32) a x).toNat < S4096.size a)
theorem k0_idx1610_inb : ∀ (v5259 : IVec S16 32) (k0_hw1610 : k0_chk1610 v5259), ∀ a x, ((![v5259] : Fin 1 → IVec S16 32) a x).toNat < S4096.size a := fun v5259 k0_hw1610 => k0_hw1610

def k0_chk1611 (v5262 : IVec S16 32) : Prop :=
  (∀ a x, ((![v5262] : Fin 1 → IVec S16 32) a x).toNat < S16.size a)
theorem k0_idx1611_inb : ∀ (v5262 : IVec S16 32) (k0_hw1611 : k0_chk1611 v5262), ∀ a x, ((![v5262] : Fin 1 → IVec S16 32) a x).toNat < S16.size a := fun v5262 k0_hw1611 => k0_hw1611

def k0_chk1612 (v5271 : IVec S16 32) : Prop :=
  (∀ a x, ((![v5271] : Fin 1 → IVec S16 32) a x).toNat < S12288.size a)
theorem k0_idx1612_inb : ∀ (v5271 : IVec S16 32) (k0_hw1612 : k0_chk1612 v5271), ∀ a x, ((![v5271] : Fin 1 → IVec S16 32) a x).toNat < S12288.size a := fun v5271 k0_hw1612 => k0_hw1612

def k0_chk1613 (v5272 : IVec S16 32) : Prop :=
  (∀ a x, ((![v5272] : Fin 1 → IVec S16 32) a x).toNat < S4096.size a)
theorem k0_idx1613_inb : ∀ (v5272 : IVec S16 32) (k0_hw1613 : k0_chk1613 v5272), ∀ a x, ((![v5272] : Fin 1 → IVec S16 32) a x).toNat < S4096.size a := fun v5272 k0_hw1613 => k0_hw1613

def k0_chk1614 (v5275 : IVec S16 32) : Prop :=
  (∀ a x, ((![v5275] : Fin 1 → IVec S16 32) a x).toNat < S12288.size a)
theorem k0_idx1614_inb : ∀ (v5275 : IVec S16 32) (k0_hw1614 : k0_chk1614 v5275), ∀ a x, ((![v5275] : Fin 1 → IVec S16 32) a x).toNat < S12288.size a := fun v5275 k0_hw1614 => k0_hw1614

def k0_chk1615 (v5276 : IVec S16 32) : Prop :=
  (∀ a x, ((![v5276] : Fin 1 → IVec S16 32) a x).toNat < S4096.size a)
theorem k0_idx1615_inb : ∀ (v5276 : IVec S16 32) (k0_hw1615 : k0_chk1615 v5276), ∀ a x, ((![v5276] : Fin 1 → IVec S16 32) a x).toNat < S4096.size a := fun v5276 k0_hw1615 => k0_hw1615

def k0_chk1616 (v5280 : IVec S16 32) : Prop :=
  (∀ a x, ((![v5280] : Fin 1 → IVec S16 32) a x).toNat < S12288.size a)
theorem k0_idx1616_inb : ∀ (v5280 : IVec S16 32) (k0_hw1616 : k0_chk1616 v5280), ∀ a x, ((![v5280] : Fin 1 → IVec S16 32) a x).toNat < S12288.size a := fun v5280 k0_hw1616 => k0_hw1616

def k0_chk1617 (v5281 : IVec S16 32) : Prop :=
  (∀ a x, ((![v5281] : Fin 1 → IVec S16 32) a x).toNat < S4096.size a)
theorem k0_idx1617_inb : ∀ (v5281 : IVec S16 32) (k0_hw1617 : k0_chk1617 v5281), ∀ a x, ((![v5281] : Fin 1 → IVec S16 32) a x).toNat < S4096.size a := fun v5281 k0_hw1617 => k0_hw1617

def k0_chk1618 (v5285 : IVec S16 32) : Prop :=
  (∀ a x, ((![v5285] : Fin 1 → IVec S16 32) a x).toNat < S12288.size a)
theorem k0_idx1618_inb : ∀ (v5285 : IVec S16 32) (k0_hw1618 : k0_chk1618 v5285), ∀ a x, ((![v5285] : Fin 1 → IVec S16 32) a x).toNat < S12288.size a := fun v5285 k0_hw1618 => k0_hw1618

def k0_chk1619 (v5286 : IVec S16 32) : Prop :=
  (∀ a x, ((![v5286] : Fin 1 → IVec S16 32) a x).toNat < S4096.size a)
theorem k0_idx1619_inb : ∀ (v5286 : IVec S16 32) (k0_hw1619 : k0_chk1619 v5286), ∀ a x, ((![v5286] : Fin 1 → IVec S16 32) a x).toNat < S4096.size a := fun v5286 k0_hw1619 => k0_hw1619

def k0_chk1620 (v5289 : IVec S16 32) : Prop :=
  (∀ a x, ((![v5289] : Fin 1 → IVec S16 32) a x).toNat < S16.size a)
theorem k0_idx1620_inb : ∀ (v5289 : IVec S16 32) (k0_hw1620 : k0_chk1620 v5289), ∀ a x, ((![v5289] : Fin 1 → IVec S16 32) a x).toNat < S16.size a := fun v5289 k0_hw1620 => k0_hw1620

def k0_chk1621 (v5298 : IVec S16 32) : Prop :=
  (∀ a x, ((![v5298] : Fin 1 → IVec S16 32) a x).toNat < S12288.size a)
theorem k0_idx1621_inb : ∀ (v5298 : IVec S16 32) (k0_hw1621 : k0_chk1621 v5298), ∀ a x, ((![v5298] : Fin 1 → IVec S16 32) a x).toNat < S12288.size a := fun v5298 k0_hw1621 => k0_hw1621

def k0_chk1622 (v5299 : IVec S16 32) : Prop :=
  (∀ a x, ((![v5299] : Fin 1 → IVec S16 32) a x).toNat < S4096.size a)
theorem k0_idx1622_inb : ∀ (v5299 : IVec S16 32) (k0_hw1622 : k0_chk1622 v5299), ∀ a x, ((![v5299] : Fin 1 → IVec S16 32) a x).toNat < S4096.size a := fun v5299 k0_hw1622 => k0_hw1622

def k0_chk1623 (v5302 : IVec S16 32) : Prop :=
  (∀ a x, ((![v5302] : Fin 1 → IVec S16 32) a x).toNat < S12288.size a)
theorem k0_idx1623_inb : ∀ (v5302 : IVec S16 32) (k0_hw1623 : k0_chk1623 v5302), ∀ a x, ((![v5302] : Fin 1 → IVec S16 32) a x).toNat < S12288.size a := fun v5302 k0_hw1623 => k0_hw1623

def k0_chk1624 (v5303 : IVec S16 32) : Prop :=
  (∀ a x, ((![v5303] : Fin 1 → IVec S16 32) a x).toNat < S4096.size a)
theorem k0_idx1624_inb : ∀ (v5303 : IVec S16 32) (k0_hw1624 : k0_chk1624 v5303), ∀ a x, ((![v5303] : Fin 1 → IVec S16 32) a x).toNat < S4096.size a := fun v5303 k0_hw1624 => k0_hw1624

def k0_chk1625 (v5307 : IVec S16 32) : Prop :=
  (∀ a x, ((![v5307] : Fin 1 → IVec S16 32) a x).toNat < S12288.size a)
theorem k0_idx1625_inb : ∀ (v5307 : IVec S16 32) (k0_hw1625 : k0_chk1625 v5307), ∀ a x, ((![v5307] : Fin 1 → IVec S16 32) a x).toNat < S12288.size a := fun v5307 k0_hw1625 => k0_hw1625

def k0_chk1626 (v5308 : IVec S16 32) : Prop :=
  (∀ a x, ((![v5308] : Fin 1 → IVec S16 32) a x).toNat < S4096.size a)
theorem k0_idx1626_inb : ∀ (v5308 : IVec S16 32) (k0_hw1626 : k0_chk1626 v5308), ∀ a x, ((![v5308] : Fin 1 → IVec S16 32) a x).toNat < S4096.size a := fun v5308 k0_hw1626 => k0_hw1626

def k0_chk1627 (v5312 : IVec S16 32) : Prop :=
  (∀ a x, ((![v5312] : Fin 1 → IVec S16 32) a x).toNat < S12288.size a)
theorem k0_idx1627_inb : ∀ (v5312 : IVec S16 32) (k0_hw1627 : k0_chk1627 v5312), ∀ a x, ((![v5312] : Fin 1 → IVec S16 32) a x).toNat < S12288.size a := fun v5312 k0_hw1627 => k0_hw1627

def k0_chk1628 (v5313 : IVec S16 32) : Prop :=
  (∀ a x, ((![v5313] : Fin 1 → IVec S16 32) a x).toNat < S4096.size a)
theorem k0_idx1628_inb : ∀ (v5313 : IVec S16 32) (k0_hw1628 : k0_chk1628 v5313), ∀ a x, ((![v5313] : Fin 1 → IVec S16 32) a x).toNat < S4096.size a := fun v5313 k0_hw1628 => k0_hw1628

def k0_chk1629 (v5316 : IVec S16 32) : Prop :=
  (∀ a x, ((![v5316] : Fin 1 → IVec S16 32) a x).toNat < S16.size a)
theorem k0_idx1629_inb : ∀ (v5316 : IVec S16 32) (k0_hw1629 : k0_chk1629 v5316), ∀ a x, ((![v5316] : Fin 1 → IVec S16 32) a x).toNat < S16.size a := fun v5316 k0_hw1629 => k0_hw1629

def k0_chk1630 (v5325 : IVec S16 32) : Prop :=
  (∀ a x, ((![v5325] : Fin 1 → IVec S16 32) a x).toNat < S12288.size a)
theorem k0_idx1630_inb : ∀ (v5325 : IVec S16 32) (k0_hw1630 : k0_chk1630 v5325), ∀ a x, ((![v5325] : Fin 1 → IVec S16 32) a x).toNat < S12288.size a := fun v5325 k0_hw1630 => k0_hw1630

def k0_chk1631 (v5326 : IVec S16 32) : Prop :=
  (∀ a x, ((![v5326] : Fin 1 → IVec S16 32) a x).toNat < S4096.size a)
theorem k0_idx1631_inb : ∀ (v5326 : IVec S16 32) (k0_hw1631 : k0_chk1631 v5326), ∀ a x, ((![v5326] : Fin 1 → IVec S16 32) a x).toNat < S4096.size a := fun v5326 k0_hw1631 => k0_hw1631

def k0_chk1632 (v5329 : IVec S16 32) : Prop :=
  (∀ a x, ((![v5329] : Fin 1 → IVec S16 32) a x).toNat < S12288.size a)
theorem k0_idx1632_inb : ∀ (v5329 : IVec S16 32) (k0_hw1632 : k0_chk1632 v5329), ∀ a x, ((![v5329] : Fin 1 → IVec S16 32) a x).toNat < S12288.size a := fun v5329 k0_hw1632 => k0_hw1632

def k0_chk1633 (v5330 : IVec S16 32) : Prop :=
  (∀ a x, ((![v5330] : Fin 1 → IVec S16 32) a x).toNat < S4096.size a)
theorem k0_idx1633_inb : ∀ (v5330 : IVec S16 32) (k0_hw1633 : k0_chk1633 v5330), ∀ a x, ((![v5330] : Fin 1 → IVec S16 32) a x).toNat < S4096.size a := fun v5330 k0_hw1633 => k0_hw1633

def k0_chk1634 (v5334 : IVec S16 32) : Prop :=
  (∀ a x, ((![v5334] : Fin 1 → IVec S16 32) a x).toNat < S12288.size a)
theorem k0_idx1634_inb : ∀ (v5334 : IVec S16 32) (k0_hw1634 : k0_chk1634 v5334), ∀ a x, ((![v5334] : Fin 1 → IVec S16 32) a x).toNat < S12288.size a := fun v5334 k0_hw1634 => k0_hw1634

def k0_chk1635 (v5335 : IVec S16 32) : Prop :=
  (∀ a x, ((![v5335] : Fin 1 → IVec S16 32) a x).toNat < S4096.size a)
theorem k0_idx1635_inb : ∀ (v5335 : IVec S16 32) (k0_hw1635 : k0_chk1635 v5335), ∀ a x, ((![v5335] : Fin 1 → IVec S16 32) a x).toNat < S4096.size a := fun v5335 k0_hw1635 => k0_hw1635

def k0_chk1636 (v5339 : IVec S16 32) : Prop :=
  (∀ a x, ((![v5339] : Fin 1 → IVec S16 32) a x).toNat < S12288.size a)
theorem k0_idx1636_inb : ∀ (v5339 : IVec S16 32) (k0_hw1636 : k0_chk1636 v5339), ∀ a x, ((![v5339] : Fin 1 → IVec S16 32) a x).toNat < S12288.size a := fun v5339 k0_hw1636 => k0_hw1636

def k0_chk1637 (v5340 : IVec S16 32) : Prop :=
  (∀ a x, ((![v5340] : Fin 1 → IVec S16 32) a x).toNat < S4096.size a)
theorem k0_idx1637_inb : ∀ (v5340 : IVec S16 32) (k0_hw1637 : k0_chk1637 v5340), ∀ a x, ((![v5340] : Fin 1 → IVec S16 32) a x).toNat < S4096.size a := fun v5340 k0_hw1637 => k0_hw1637

def k0_chk1638 (v5343 : IVec S16 32) : Prop :=
  (∀ a x, ((![v5343] : Fin 1 → IVec S16 32) a x).toNat < S16.size a)
theorem k0_idx1638_inb : ∀ (v5343 : IVec S16 32) (k0_hw1638 : k0_chk1638 v5343), ∀ a x, ((![v5343] : Fin 1 → IVec S16 32) a x).toNat < S16.size a := fun v5343 k0_hw1638 => k0_hw1638

def k0_chk1639 (v5352 : IVec S16 32) : Prop :=
  (∀ a x, ((![v5352] : Fin 1 → IVec S16 32) a x).toNat < S12288.size a)
theorem k0_idx1639_inb : ∀ (v5352 : IVec S16 32) (k0_hw1639 : k0_chk1639 v5352), ∀ a x, ((![v5352] : Fin 1 → IVec S16 32) a x).toNat < S12288.size a := fun v5352 k0_hw1639 => k0_hw1639

def k0_chk1640 (v5353 : IVec S16 32) : Prop :=
  (∀ a x, ((![v5353] : Fin 1 → IVec S16 32) a x).toNat < S4096.size a)
theorem k0_idx1640_inb : ∀ (v5353 : IVec S16 32) (k0_hw1640 : k0_chk1640 v5353), ∀ a x, ((![v5353] : Fin 1 → IVec S16 32) a x).toNat < S4096.size a := fun v5353 k0_hw1640 => k0_hw1640

def k0_chk1641 (v5356 : IVec S16 32) : Prop :=
  (∀ a x, ((![v5356] : Fin 1 → IVec S16 32) a x).toNat < S12288.size a)
theorem k0_idx1641_inb : ∀ (v5356 : IVec S16 32) (k0_hw1641 : k0_chk1641 v5356), ∀ a x, ((![v5356] : Fin 1 → IVec S16 32) a x).toNat < S12288.size a := fun v5356 k0_hw1641 => k0_hw1641

def k0_chk1642 (v5357 : IVec S16 32) : Prop :=
  (∀ a x, ((![v5357] : Fin 1 → IVec S16 32) a x).toNat < S4096.size a)
theorem k0_idx1642_inb : ∀ (v5357 : IVec S16 32) (k0_hw1642 : k0_chk1642 v5357), ∀ a x, ((![v5357] : Fin 1 → IVec S16 32) a x).toNat < S4096.size a := fun v5357 k0_hw1642 => k0_hw1642

def k0_chk1643 (v5361 : IVec S16 32) : Prop :=
  (∀ a x, ((![v5361] : Fin 1 → IVec S16 32) a x).toNat < S12288.size a)
theorem k0_idx1643_inb : ∀ (v5361 : IVec S16 32) (k0_hw1643 : k0_chk1643 v5361), ∀ a x, ((![v5361] : Fin 1 → IVec S16 32) a x).toNat < S12288.size a := fun v5361 k0_hw1643 => k0_hw1643

def k0_chk1644 (v5362 : IVec S16 32) : Prop :=
  (∀ a x, ((![v5362] : Fin 1 → IVec S16 32) a x).toNat < S4096.size a)
theorem k0_idx1644_inb : ∀ (v5362 : IVec S16 32) (k0_hw1644 : k0_chk1644 v5362), ∀ a x, ((![v5362] : Fin 1 → IVec S16 32) a x).toNat < S4096.size a := fun v5362 k0_hw1644 => k0_hw1644

def k0_chk1645 (v5366 : IVec S16 32) : Prop :=
  (∀ a x, ((![v5366] : Fin 1 → IVec S16 32) a x).toNat < S12288.size a)
theorem k0_idx1645_inb : ∀ (v5366 : IVec S16 32) (k0_hw1645 : k0_chk1645 v5366), ∀ a x, ((![v5366] : Fin 1 → IVec S16 32) a x).toNat < S12288.size a := fun v5366 k0_hw1645 => k0_hw1645

def k0_chk1646 (v5367 : IVec S16 32) : Prop :=
  (∀ a x, ((![v5367] : Fin 1 → IVec S16 32) a x).toNat < S4096.size a)
theorem k0_idx1646_inb : ∀ (v5367 : IVec S16 32) (k0_hw1646 : k0_chk1646 v5367), ∀ a x, ((![v5367] : Fin 1 → IVec S16 32) a x).toNat < S4096.size a := fun v5367 k0_hw1646 => k0_hw1646

def k0_chk1647 (v5370 : IVec S16 32) : Prop :=
  (∀ a x, ((![v5370] : Fin 1 → IVec S16 32) a x).toNat < S16.size a)
theorem k0_idx1647_inb : ∀ (v5370 : IVec S16 32) (k0_hw1647 : k0_chk1647 v5370), ∀ a x, ((![v5370] : Fin 1 → IVec S16 32) a x).toNat < S16.size a := fun v5370 k0_hw1647 => k0_hw1647

def k0_chk1648 (v5379 : IVec S16 32) : Prop :=
  (∀ a x, ((![v5379] : Fin 1 → IVec S16 32) a x).toNat < S12288.size a)
theorem k0_idx1648_inb : ∀ (v5379 : IVec S16 32) (k0_hw1648 : k0_chk1648 v5379), ∀ a x, ((![v5379] : Fin 1 → IVec S16 32) a x).toNat < S12288.size a := fun v5379 k0_hw1648 => k0_hw1648

def k0_chk1649 (v5380 : IVec S16 32) : Prop :=
  (∀ a x, ((![v5380] : Fin 1 → IVec S16 32) a x).toNat < S4096.size a)
theorem k0_idx1649_inb : ∀ (v5380 : IVec S16 32) (k0_hw1649 : k0_chk1649 v5380), ∀ a x, ((![v5380] : Fin 1 → IVec S16 32) a x).toNat < S4096.size a := fun v5380 k0_hw1649 => k0_hw1649

def k0_chk1650 (v5383 : IVec S16 32) : Prop :=
  (∀ a x, ((![v5383] : Fin 1 → IVec S16 32) a x).toNat < S12288.size a)
theorem k0_idx1650_inb : ∀ (v5383 : IVec S16 32) (k0_hw1650 : k0_chk1650 v5383), ∀ a x, ((![v5383] : Fin 1 → IVec S16 32) a x).toNat < S12288.size a := fun v5383 k0_hw1650 => k0_hw1650

def k0_chk1651 (v5384 : IVec S16 32) : Prop :=
  (∀ a x, ((![v5384] : Fin 1 → IVec S16 32) a x).toNat < S4096.size a)
theorem k0_idx1651_inb : ∀ (v5384 : IVec S16 32) (k0_hw1651 : k0_chk1651 v5384), ∀ a x, ((![v5384] : Fin 1 → IVec S16 32) a x).toNat < S4096.size a := fun v5384 k0_hw1651 => k0_hw1651

def k0_chk1652 (v5388 : IVec S16 32) : Prop :=
  (∀ a x, ((![v5388] : Fin 1 → IVec S16 32) a x).toNat < S12288.size a)
theorem k0_idx1652_inb : ∀ (v5388 : IVec S16 32) (k0_hw1652 : k0_chk1652 v5388), ∀ a x, ((![v5388] : Fin 1 → IVec S16 32) a x).toNat < S12288.size a := fun v5388 k0_hw1652 => k0_hw1652

def k0_chk1653 (v5389 : IVec S16 32) : Prop :=
  (∀ a x, ((![v5389] : Fin 1 → IVec S16 32) a x).toNat < S4096.size a)
theorem k0_idx1653_inb : ∀ (v5389 : IVec S16 32) (k0_hw1653 : k0_chk1653 v5389), ∀ a x, ((![v5389] : Fin 1 → IVec S16 32) a x).toNat < S4096.size a := fun v5389 k0_hw1653 => k0_hw1653

def k0_chk1654 (v5393 : IVec S16 32) : Prop :=
  (∀ a x, ((![v5393] : Fin 1 → IVec S16 32) a x).toNat < S12288.size a)
theorem k0_idx1654_inb : ∀ (v5393 : IVec S16 32) (k0_hw1654 : k0_chk1654 v5393), ∀ a x, ((![v5393] : Fin 1 → IVec S16 32) a x).toNat < S12288.size a := fun v5393 k0_hw1654 => k0_hw1654

def k0_chk1655 (v5394 : IVec S16 32) : Prop :=
  (∀ a x, ((![v5394] : Fin 1 → IVec S16 32) a x).toNat < S4096.size a)
theorem k0_idx1655_inb : ∀ (v5394 : IVec S16 32) (k0_hw1655 : k0_chk1655 v5394), ∀ a x, ((![v5394] : Fin 1 → IVec S16 32) a x).toNat < S4096.size a := fun v5394 k0_hw1655 => k0_hw1655

def k0_chk1656 (v5397 : IVec S16 32) : Prop :=
  (∀ a x, ((![v5397] : Fin 1 → IVec S16 32) a x).toNat < S16.size a)
theorem k0_idx1656_inb : ∀ (v5397 : IVec S16 32) (k0_hw1656 : k0_chk1656 v5397), ∀ a x, ((![v5397] : Fin 1 → IVec S16 32) a x).toNat < S16.size a := fun v5397 k0_hw1656 => k0_hw1656

def k0_chk1657 (v5406 : IVec S16 32) : Prop :=
  (∀ a x, ((![v5406] : Fin 1 → IVec S16 32) a x).toNat < S12288.size a)
theorem k0_idx1657_inb : ∀ (v5406 : IVec S16 32) (k0_hw1657 : k0_chk1657 v5406), ∀ a x, ((![v5406] : Fin 1 → IVec S16 32) a x).toNat < S12288.size a := fun v5406 k0_hw1657 => k0_hw1657

def k0_chk1658 (v5407 : IVec S16 32) : Prop :=
  (∀ a x, ((![v5407] : Fin 1 → IVec S16 32) a x).toNat < S4096.size a)
theorem k0_idx1658_inb : ∀ (v5407 : IVec S16 32) (k0_hw1658 : k0_chk1658 v5407), ∀ a x, ((![v5407] : Fin 1 → IVec S16 32) a x).toNat < S4096.size a := fun v5407 k0_hw1658 => k0_hw1658

def k0_chk1659 (v5410 : IVec S16 32) : Prop :=
  (∀ a x, ((![v5410] : Fin 1 → IVec S16 32) a x).toNat < S12288.size a)
theorem k0_idx1659_inb : ∀ (v5410 : IVec S16 32) (k0_hw1659 : k0_chk1659 v5410), ∀ a x, ((![v5410] : Fin 1 → IVec S16 32) a x).toNat < S12288.size a := fun v5410 k0_hw1659 => k0_hw1659

def k0_chk1660 (v5411 : IVec S16 32) : Prop :=
  (∀ a x, ((![v5411] : Fin 1 → IVec S16 32) a x).toNat < S4096.size a)
theorem k0_idx1660_inb : ∀ (v5411 : IVec S16 32) (k0_hw1660 : k0_chk1660 v5411), ∀ a x, ((![v5411] : Fin 1 → IVec S16 32) a x).toNat < S4096.size a := fun v5411 k0_hw1660 => k0_hw1660

def k0_chk1661 (v5415 : IVec S16 32) : Prop :=
  (∀ a x, ((![v5415] : Fin 1 → IVec S16 32) a x).toNat < S12288.size a)
theorem k0_idx1661_inb : ∀ (v5415 : IVec S16 32) (k0_hw1661 : k0_chk1661 v5415), ∀ a x, ((![v5415] : Fin 1 → IVec S16 32) a x).toNat < S12288.size a := fun v5415 k0_hw1661 => k0_hw1661

def k0_chk1662 (v5416 : IVec S16 32) : Prop :=
  (∀ a x, ((![v5416] : Fin 1 → IVec S16 32) a x).toNat < S4096.size a)
theorem k0_idx1662_inb : ∀ (v5416 : IVec S16 32) (k0_hw1662 : k0_chk1662 v5416), ∀ a x, ((![v5416] : Fin 1 → IVec S16 32) a x).toNat < S4096.size a := fun v5416 k0_hw1662 => k0_hw1662

def k0_chk1663 (v5420 : IVec S16 32) : Prop :=
  (∀ a x, ((![v5420] : Fin 1 → IVec S16 32) a x).toNat < S12288.size a)
theorem k0_idx1663_inb : ∀ (v5420 : IVec S16 32) (k0_hw1663 : k0_chk1663 v5420), ∀ a x, ((![v5420] : Fin 1 → IVec S16 32) a x).toNat < S12288.size a := fun v5420 k0_hw1663 => k0_hw1663

def k0_chk1664 (v5421 : IVec S16 32) : Prop :=
  (∀ a x, ((![v5421] : Fin 1 → IVec S16 32) a x).toNat < S4096.size a)
theorem k0_idx1664_inb : ∀ (v5421 : IVec S16 32) (k0_hw1664 : k0_chk1664 v5421), ∀ a x, ((![v5421] : Fin 1 → IVec S16 32) a x).toNat < S4096.size a := fun v5421 k0_hw1664 => k0_hw1664

def k0_chk1665 (v5424 : IVec S16 32) : Prop :=
  (∀ a x, ((![v5424] : Fin 1 → IVec S16 32) a x).toNat < S16.size a)
theorem k0_idx1665_inb : ∀ (v5424 : IVec S16 32) (k0_hw1665 : k0_chk1665 v5424), ∀ a x, ((![v5424] : Fin 1 → IVec S16 32) a x).toNat < S16.size a := fun v5424 k0_hw1665 => k0_hw1665

def k0_chk1666 (v5433 : IVec S16 32) : Prop :=
  (∀ a x, ((![v5433] : Fin 1 → IVec S16 32) a x).toNat < S12288.size a)
theorem k0_idx1666_inb : ∀ (v5433 : IVec S16 32) (k0_hw1666 : k0_chk1666 v5433), ∀ a x, ((![v5433] : Fin 1 → IVec S16 32) a x).toNat < S12288.size a := fun v5433 k0_hw1666 => k0_hw1666

def k0_chk1667 (v5434 : IVec S16 32) : Prop :=
  (∀ a x, ((![v5434] : Fin 1 → IVec S16 32) a x).toNat < S4096.size a)
theorem k0_idx1667_inb : ∀ (v5434 : IVec S16 32) (k0_hw1667 : k0_chk1667 v5434), ∀ a x, ((![v5434] : Fin 1 → IVec S16 32) a x).toNat < S4096.size a := fun v5434 k0_hw1667 => k0_hw1667

def k0_chk1668 (v5437 : IVec S16 32) : Prop :=
  (∀ a x, ((![v5437] : Fin 1 → IVec S16 32) a x).toNat < S12288.size a)
theorem k0_idx1668_inb : ∀ (v5437 : IVec S16 32) (k0_hw1668 : k0_chk1668 v5437), ∀ a x, ((![v5437] : Fin 1 → IVec S16 32) a x).toNat < S12288.size a := fun v5437 k0_hw1668 => k0_hw1668

def k0_chk1669 (v5438 : IVec S16 32) : Prop :=
  (∀ a x, ((![v5438] : Fin 1 → IVec S16 32) a x).toNat < S4096.size a)
theorem k0_idx1669_inb : ∀ (v5438 : IVec S16 32) (k0_hw1669 : k0_chk1669 v5438), ∀ a x, ((![v5438] : Fin 1 → IVec S16 32) a x).toNat < S4096.size a := fun v5438 k0_hw1669 => k0_hw1669

def k0_chk1670 (v5442 : IVec S16 32) : Prop :=
  (∀ a x, ((![v5442] : Fin 1 → IVec S16 32) a x).toNat < S12288.size a)
theorem k0_idx1670_inb : ∀ (v5442 : IVec S16 32) (k0_hw1670 : k0_chk1670 v5442), ∀ a x, ((![v5442] : Fin 1 → IVec S16 32) a x).toNat < S12288.size a := fun v5442 k0_hw1670 => k0_hw1670

def k0_chk1671 (v5443 : IVec S16 32) : Prop :=
  (∀ a x, ((![v5443] : Fin 1 → IVec S16 32) a x).toNat < S4096.size a)
theorem k0_idx1671_inb : ∀ (v5443 : IVec S16 32) (k0_hw1671 : k0_chk1671 v5443), ∀ a x, ((![v5443] : Fin 1 → IVec S16 32) a x).toNat < S4096.size a := fun v5443 k0_hw1671 => k0_hw1671

def k0_chk1672 (v5447 : IVec S16 32) : Prop :=
  (∀ a x, ((![v5447] : Fin 1 → IVec S16 32) a x).toNat < S12288.size a)
theorem k0_idx1672_inb : ∀ (v5447 : IVec S16 32) (k0_hw1672 : k0_chk1672 v5447), ∀ a x, ((![v5447] : Fin 1 → IVec S16 32) a x).toNat < S12288.size a := fun v5447 k0_hw1672 => k0_hw1672

def k0_chk1673 (v5448 : IVec S16 32) : Prop :=
  (∀ a x, ((![v5448] : Fin 1 → IVec S16 32) a x).toNat < S4096.size a)
theorem k0_idx1673_inb : ∀ (v5448 : IVec S16 32) (k0_hw1673 : k0_chk1673 v5448), ∀ a x, ((![v5448] : Fin 1 → IVec S16 32) a x).toNat < S4096.size a := fun v5448 k0_hw1673 => k0_hw1673

def k0_chk1674 (v5451 : IVec S16 32) : Prop :=
  (∀ a x, ((![v5451] : Fin 1 → IVec S16 32) a x).toNat < S16.size a)
theorem k0_idx1674_inb : ∀ (v5451 : IVec S16 32) (k0_hw1674 : k0_chk1674 v5451), ∀ a x, ((![v5451] : Fin 1 → IVec S16 32) a x).toNat < S16.size a := fun v5451 k0_hw1674 => k0_hw1674

def k0_chk1675 (v5460 : IVec S16 32) : Prop :=
  (∀ a x, ((![v5460] : Fin 1 → IVec S16 32) a x).toNat < S12288.size a)
theorem k0_idx1675_inb : ∀ (v5460 : IVec S16 32) (k0_hw1675 : k0_chk1675 v5460), ∀ a x, ((![v5460] : Fin 1 → IVec S16 32) a x).toNat < S12288.size a := fun v5460 k0_hw1675 => k0_hw1675

def k0_chk1676 (v5461 : IVec S16 32) : Prop :=
  (∀ a x, ((![v5461] : Fin 1 → IVec S16 32) a x).toNat < S4096.size a)
theorem k0_idx1676_inb : ∀ (v5461 : IVec S16 32) (k0_hw1676 : k0_chk1676 v5461), ∀ a x, ((![v5461] : Fin 1 → IVec S16 32) a x).toNat < S4096.size a := fun v5461 k0_hw1676 => k0_hw1676

def k0_chk1677 (v5464 : IVec S16 32) : Prop :=
  (∀ a x, ((![v5464] : Fin 1 → IVec S16 32) a x).toNat < S12288.size a)
theorem k0_idx1677_inb : ∀ (v5464 : IVec S16 32) (k0_hw1677 : k0_chk1677 v5464), ∀ a x, ((![v5464] : Fin 1 → IVec S16 32) a x).toNat < S12288.size a := fun v5464 k0_hw1677 => k0_hw1677

def k0_chk1678 (v5465 : IVec S16 32) : Prop :=
  (∀ a x, ((![v5465] : Fin 1 → IVec S16 32) a x).toNat < S4096.size a)
theorem k0_idx1678_inb : ∀ (v5465 : IVec S16 32) (k0_hw1678 : k0_chk1678 v5465), ∀ a x, ((![v5465] : Fin 1 → IVec S16 32) a x).toNat < S4096.size a := fun v5465 k0_hw1678 => k0_hw1678

def k0_chk1679 (v5469 : IVec S16 32) : Prop :=
  (∀ a x, ((![v5469] : Fin 1 → IVec S16 32) a x).toNat < S12288.size a)
theorem k0_idx1679_inb : ∀ (v5469 : IVec S16 32) (k0_hw1679 : k0_chk1679 v5469), ∀ a x, ((![v5469] : Fin 1 → IVec S16 32) a x).toNat < S12288.size a := fun v5469 k0_hw1679 => k0_hw1679

def k0_chk1680 (v5470 : IVec S16 32) : Prop :=
  (∀ a x, ((![v5470] : Fin 1 → IVec S16 32) a x).toNat < S4096.size a)
theorem k0_idx1680_inb : ∀ (v5470 : IVec S16 32) (k0_hw1680 : k0_chk1680 v5470), ∀ a x, ((![v5470] : Fin 1 → IVec S16 32) a x).toNat < S4096.size a := fun v5470 k0_hw1680 => k0_hw1680

def k0_chk1681 (v5474 : IVec S16 32) : Prop :=
  (∀ a x, ((![v5474] : Fin 1 → IVec S16 32) a x).toNat < S12288.size a)
theorem k0_idx1681_inb : ∀ (v5474 : IVec S16 32) (k0_hw1681 : k0_chk1681 v5474), ∀ a x, ((![v5474] : Fin 1 → IVec S16 32) a x).toNat < S12288.size a := fun v5474 k0_hw1681 => k0_hw1681

def k0_chk1682 (v5475 : IVec S16 32) : Prop :=
  (∀ a x, ((![v5475] : Fin 1 → IVec S16 32) a x).toNat < S4096.size a)
theorem k0_idx1682_inb : ∀ (v5475 : IVec S16 32) (k0_hw1682 : k0_chk1682 v5475), ∀ a x, ((![v5475] : Fin 1 → IVec S16 32) a x).toNat < S4096.size a := fun v5475 k0_hw1682 => k0_hw1682

def k0_chk1683 (v5478 : IVec S16 32) : Prop :=
  (∀ a x, ((![v5478] : Fin 1 → IVec S16 32) a x).toNat < S16.size a)
theorem k0_idx1683_inb : ∀ (v5478 : IVec S16 32) (k0_hw1683 : k0_chk1683 v5478), ∀ a x, ((![v5478] : Fin 1 → IVec S16 32) a x).toNat < S16.size a := fun v5478 k0_hw1683 => k0_hw1683

def k0_chk1684 (v5487 : IVec S16 32) : Prop :=
  (∀ a x, ((![v5487] : Fin 1 → IVec S16 32) a x).toNat < S12288.size a)
theorem k0_idx1684_inb : ∀ (v5487 : IVec S16 32) (k0_hw1684 : k0_chk1684 v5487), ∀ a x, ((![v5487] : Fin 1 → IVec S16 32) a x).toNat < S12288.size a := fun v5487 k0_hw1684 => k0_hw1684

def k0_chk1685 (v5488 : IVec S16 32) : Prop :=
  (∀ a x, ((![v5488] : Fin 1 → IVec S16 32) a x).toNat < S4096.size a)
theorem k0_idx1685_inb : ∀ (v5488 : IVec S16 32) (k0_hw1685 : k0_chk1685 v5488), ∀ a x, ((![v5488] : Fin 1 → IVec S16 32) a x).toNat < S4096.size a := fun v5488 k0_hw1685 => k0_hw1685

def k0_chk1686 (v5491 : IVec S16 32) : Prop :=
  (∀ a x, ((![v5491] : Fin 1 → IVec S16 32) a x).toNat < S12288.size a)
theorem k0_idx1686_inb : ∀ (v5491 : IVec S16 32) (k0_hw1686 : k0_chk1686 v5491), ∀ a x, ((![v5491] : Fin 1 → IVec S16 32) a x).toNat < S12288.size a := fun v5491 k0_hw1686 => k0_hw1686

def k0_chk1687 (v5492 : IVec S16 32) : Prop :=
  (∀ a x, ((![v5492] : Fin 1 → IVec S16 32) a x).toNat < S4096.size a)
theorem k0_idx1687_inb : ∀ (v5492 : IVec S16 32) (k0_hw1687 : k0_chk1687 v5492), ∀ a x, ((![v5492] : Fin 1 → IVec S16 32) a x).toNat < S4096.size a := fun v5492 k0_hw1687 => k0_hw1687

def k0_chk1688 (v5496 : IVec S16 32) : Prop :=
  (∀ a x, ((![v5496] : Fin 1 → IVec S16 32) a x).toNat < S12288.size a)
theorem k0_idx1688_inb : ∀ (v5496 : IVec S16 32) (k0_hw1688 : k0_chk1688 v5496), ∀ a x, ((![v5496] : Fin 1 → IVec S16 32) a x).toNat < S12288.size a := fun v5496 k0_hw1688 => k0_hw1688

def k0_chk1689 (v5497 : IVec S16 32) : Prop :=
  (∀ a x, ((![v5497] : Fin 1 → IVec S16 32) a x).toNat < S4096.size a)
theorem k0_idx1689_inb : ∀ (v5497 : IVec S16 32) (k0_hw1689 : k0_chk1689 v5497), ∀ a x, ((![v5497] : Fin 1 → IVec S16 32) a x).toNat < S4096.size a := fun v5497 k0_hw1689 => k0_hw1689

def k0_chk1690 (v5501 : IVec S16 32) : Prop :=
  (∀ a x, ((![v5501] : Fin 1 → IVec S16 32) a x).toNat < S12288.size a)
theorem k0_idx1690_inb : ∀ (v5501 : IVec S16 32) (k0_hw1690 : k0_chk1690 v5501), ∀ a x, ((![v5501] : Fin 1 → IVec S16 32) a x).toNat < S12288.size a := fun v5501 k0_hw1690 => k0_hw1690

def k0_chk1691 (v5502 : IVec S16 32) : Prop :=
  (∀ a x, ((![v5502] : Fin 1 → IVec S16 32) a x).toNat < S4096.size a)
theorem k0_idx1691_inb : ∀ (v5502 : IVec S16 32) (k0_hw1691 : k0_chk1691 v5502), ∀ a x, ((![v5502] : Fin 1 → IVec S16 32) a x).toNat < S4096.size a := fun v5502 k0_hw1691 => k0_hw1691

def k0_chk1692 (v5505 : IVec S16 32) : Prop :=
  (∀ a x, ((![v5505] : Fin 1 → IVec S16 32) a x).toNat < S16.size a)
theorem k0_idx1692_inb : ∀ (v5505 : IVec S16 32) (k0_hw1692 : k0_chk1692 v5505), ∀ a x, ((![v5505] : Fin 1 → IVec S16 32) a x).toNat < S16.size a := fun v5505 k0_hw1692 => k0_hw1692

def k0_chk1693 (v5514 : IVec S16 32) : Prop :=
  (∀ a x, ((![v5514] : Fin 1 → IVec S16 32) a x).toNat < S12288.size a)
theorem k0_idx1693_inb : ∀ (v5514 : IVec S16 32) (k0_hw1693 : k0_chk1693 v5514), ∀ a x, ((![v5514] : Fin 1 → IVec S16 32) a x).toNat < S12288.size a := fun v5514 k0_hw1693 => k0_hw1693

def k0_chk1694 (v5515 : IVec S16 32) : Prop :=
  (∀ a x, ((![v5515] : Fin 1 → IVec S16 32) a x).toNat < S4096.size a)
theorem k0_idx1694_inb : ∀ (v5515 : IVec S16 32) (k0_hw1694 : k0_chk1694 v5515), ∀ a x, ((![v5515] : Fin 1 → IVec S16 32) a x).toNat < S4096.size a := fun v5515 k0_hw1694 => k0_hw1694

def k0_chk1695 (v5518 : IVec S16 32) : Prop :=
  (∀ a x, ((![v5518] : Fin 1 → IVec S16 32) a x).toNat < S12288.size a)
theorem k0_idx1695_inb : ∀ (v5518 : IVec S16 32) (k0_hw1695 : k0_chk1695 v5518), ∀ a x, ((![v5518] : Fin 1 → IVec S16 32) a x).toNat < S12288.size a := fun v5518 k0_hw1695 => k0_hw1695

def k0_chk1696 (v5519 : IVec S16 32) : Prop :=
  (∀ a x, ((![v5519] : Fin 1 → IVec S16 32) a x).toNat < S4096.size a)
theorem k0_idx1696_inb : ∀ (v5519 : IVec S16 32) (k0_hw1696 : k0_chk1696 v5519), ∀ a x, ((![v5519] : Fin 1 → IVec S16 32) a x).toNat < S4096.size a := fun v5519 k0_hw1696 => k0_hw1696

def k0_chk1697 (v5523 : IVec S16 32) : Prop :=
  (∀ a x, ((![v5523] : Fin 1 → IVec S16 32) a x).toNat < S12288.size a)
theorem k0_idx1697_inb : ∀ (v5523 : IVec S16 32) (k0_hw1697 : k0_chk1697 v5523), ∀ a x, ((![v5523] : Fin 1 → IVec S16 32) a x).toNat < S12288.size a := fun v5523 k0_hw1697 => k0_hw1697

def k0_chk1698 (v5524 : IVec S16 32) : Prop :=
  (∀ a x, ((![v5524] : Fin 1 → IVec S16 32) a x).toNat < S4096.size a)
theorem k0_idx1698_inb : ∀ (v5524 : IVec S16 32) (k0_hw1698 : k0_chk1698 v5524), ∀ a x, ((![v5524] : Fin 1 → IVec S16 32) a x).toNat < S4096.size a := fun v5524 k0_hw1698 => k0_hw1698

def k0_chk1699 (v5528 : IVec S16 32) : Prop :=
  (∀ a x, ((![v5528] : Fin 1 → IVec S16 32) a x).toNat < S12288.size a)
theorem k0_idx1699_inb : ∀ (v5528 : IVec S16 32) (k0_hw1699 : k0_chk1699 v5528), ∀ a x, ((![v5528] : Fin 1 → IVec S16 32) a x).toNat < S12288.size a := fun v5528 k0_hw1699 => k0_hw1699

def k0_chk1700 (v5529 : IVec S16 32) : Prop :=
  (∀ a x, ((![v5529] : Fin 1 → IVec S16 32) a x).toNat < S4096.size a)
theorem k0_idx1700_inb : ∀ (v5529 : IVec S16 32) (k0_hw1700 : k0_chk1700 v5529), ∀ a x, ((![v5529] : Fin 1 → IVec S16 32) a x).toNat < S4096.size a := fun v5529 k0_hw1700 => k0_hw1700

def k0_chk1701 (v5532 : IVec S16 32) : Prop :=
  (∀ a x, ((![v5532] : Fin 1 → IVec S16 32) a x).toNat < S16.size a)
theorem k0_idx1701_inb : ∀ (v5532 : IVec S16 32) (k0_hw1701 : k0_chk1701 v5532), ∀ a x, ((![v5532] : Fin 1 → IVec S16 32) a x).toNat < S16.size a := fun v5532 k0_hw1701 => k0_hw1701

def k0_chk1702 (v5541 : IVec S16 32) : Prop :=
  (∀ a x, ((![v5541] : Fin 1 → IVec S16 32) a x).toNat < S12288.size a)
theorem k0_idx1702_inb : ∀ (v5541 : IVec S16 32) (k0_hw1702 : k0_chk1702 v5541), ∀ a x, ((![v5541] : Fin 1 → IVec S16 32) a x).toNat < S12288.size a := fun v5541 k0_hw1702 => k0_hw1702

def k0_chk1703 (v5542 : IVec S16 32) : Prop :=
  (∀ a x, ((![v5542] : Fin 1 → IVec S16 32) a x).toNat < S4096.size a)
theorem k0_idx1703_inb : ∀ (v5542 : IVec S16 32) (k0_hw1703 : k0_chk1703 v5542), ∀ a x, ((![v5542] : Fin 1 → IVec S16 32) a x).toNat < S4096.size a := fun v5542 k0_hw1703 => k0_hw1703

def k0_chk1704 (v5545 : IVec S16 32) : Prop :=
  (∀ a x, ((![v5545] : Fin 1 → IVec S16 32) a x).toNat < S12288.size a)
theorem k0_idx1704_inb : ∀ (v5545 : IVec S16 32) (k0_hw1704 : k0_chk1704 v5545), ∀ a x, ((![v5545] : Fin 1 → IVec S16 32) a x).toNat < S12288.size a := fun v5545 k0_hw1704 => k0_hw1704

def k0_chk1705 (v5546 : IVec S16 32) : Prop :=
  (∀ a x, ((![v5546] : Fin 1 → IVec S16 32) a x).toNat < S4096.size a)
theorem k0_idx1705_inb : ∀ (v5546 : IVec S16 32) (k0_hw1705 : k0_chk1705 v5546), ∀ a x, ((![v5546] : Fin 1 → IVec S16 32) a x).toNat < S4096.size a := fun v5546 k0_hw1705 => k0_hw1705

def k0_chk1706 (v5550 : IVec S16 32) : Prop :=
  (∀ a x, ((![v5550] : Fin 1 → IVec S16 32) a x).toNat < S12288.size a)
theorem k0_idx1706_inb : ∀ (v5550 : IVec S16 32) (k0_hw1706 : k0_chk1706 v5550), ∀ a x, ((![v5550] : Fin 1 → IVec S16 32) a x).toNat < S12288.size a := fun v5550 k0_hw1706 => k0_hw1706

def k0_chk1707 (v5551 : IVec S16 32) : Prop :=
  (∀ a x, ((![v5551] : Fin 1 → IVec S16 32) a x).toNat < S4096.size a)
theorem k0_idx1707_inb : ∀ (v5551 : IVec S16 32) (k0_hw1707 : k0_chk1707 v5551), ∀ a x, ((![v5551] : Fin 1 → IVec S16 32) a x).toNat < S4096.size a := fun v5551 k0_hw1707 => k0_hw1707

def k0_chk1708 (v5555 : IVec S16 32) : Prop :=
  (∀ a x, ((![v5555] : Fin 1 → IVec S16 32) a x).toNat < S12288.size a)
theorem k0_idx1708_inb : ∀ (v5555 : IVec S16 32) (k0_hw1708 : k0_chk1708 v5555), ∀ a x, ((![v5555] : Fin 1 → IVec S16 32) a x).toNat < S12288.size a := fun v5555 k0_hw1708 => k0_hw1708

def k0_chk1709 (v5556 : IVec S16 32) : Prop :=
  (∀ a x, ((![v5556] : Fin 1 → IVec S16 32) a x).toNat < S4096.size a)
theorem k0_idx1709_inb : ∀ (v5556 : IVec S16 32) (k0_hw1709 : k0_chk1709 v5556), ∀ a x, ((![v5556] : Fin 1 → IVec S16 32) a x).toNat < S4096.size a := fun v5556 k0_hw1709 => k0_hw1709

def k0_chk1710 (v5559 : IVec S16 32) : Prop :=
  (∀ a x, ((![v5559] : Fin 1 → IVec S16 32) a x).toNat < S16.size a)
theorem k0_idx1710_inb : ∀ (v5559 : IVec S16 32) (k0_hw1710 : k0_chk1710 v5559), ∀ a x, ((![v5559] : Fin 1 → IVec S16 32) a x).toNat < S16.size a := fun v5559 k0_hw1710 => k0_hw1710

def k0_chk1711 (v5568 : IVec S16 32) : Prop :=
  (∀ a x, ((![v5568] : Fin 1 → IVec S16 32) a x).toNat < S12288.size a)
theorem k0_idx1711_inb : ∀ (v5568 : IVec S16 32) (k0_hw1711 : k0_chk1711 v5568), ∀ a x, ((![v5568] : Fin 1 → IVec S16 32) a x).toNat < S12288.size a := fun v5568 k0_hw1711 => k0_hw1711

def k0_chk1712 (v5569 : IVec S16 32) : Prop :=
  (∀ a x, ((![v5569] : Fin 1 → IVec S16 32) a x).toNat < S4096.size a)
theorem k0_idx1712_inb : ∀ (v5569 : IVec S16 32) (k0_hw1712 : k0_chk1712 v5569), ∀ a x, ((![v5569] : Fin 1 → IVec S16 32) a x).toNat < S4096.size a := fun v5569 k0_hw1712 => k0_hw1712

def k0_chk1713 (v5572 : IVec S16 32) : Prop :=
  (∀ a x, ((![v5572] : Fin 1 → IVec S16 32) a x).toNat < S12288.size a)
theorem k0_idx1713_inb : ∀ (v5572 : IVec S16 32) (k0_hw1713 : k0_chk1713 v5572), ∀ a x, ((![v5572] : Fin 1 → IVec S16 32) a x).toNat < S12288.size a := fun v5572 k0_hw1713 => k0_hw1713

def k0_chk1714 (v5573 : IVec S16 32) : Prop :=
  (∀ a x, ((![v5573] : Fin 1 → IVec S16 32) a x).toNat < S4096.size a)
theorem k0_idx1714_inb : ∀ (v5573 : IVec S16 32) (k0_hw1714 : k0_chk1714 v5573), ∀ a x, ((![v5573] : Fin 1 → IVec S16 32) a x).toNat < S4096.size a := fun v5573 k0_hw1714 => k0_hw1714

def k0_chk1715 (v5577 : IVec S16 32) : Prop :=
  (∀ a x, ((![v5577] : Fin 1 → IVec S16 32) a x).toNat < S12288.size a)
theorem k0_idx1715_inb : ∀ (v5577 : IVec S16 32) (k0_hw1715 : k0_chk1715 v5577), ∀ a x, ((![v5577] : Fin 1 → IVec S16 32) a x).toNat < S12288.size a := fun v5577 k0_hw1715 => k0_hw1715

def k0_chk1716 (v5578 : IVec S16 32) : Prop :=
  (∀ a x, ((![v5578] : Fin 1 → IVec S16 32) a x).toNat < S4096.size a)
theorem k0_idx1716_inb : ∀ (v5578 : IVec S16 32) (k0_hw1716 : k0_chk1716 v5578), ∀ a x, ((![v5578] : Fin 1 → IVec S16 32) a x).toNat < S4096.size a := fun v5578 k0_hw1716 => k0_hw1716

def k0_chk1717 (v5582 : IVec S16 32) : Prop :=
  (∀ a x, ((![v5582] : Fin 1 → IVec S16 32) a x).toNat < S12288.size a)
theorem k0_idx1717_inb : ∀ (v5582 : IVec S16 32) (k0_hw1717 : k0_chk1717 v5582), ∀ a x, ((![v5582] : Fin 1 → IVec S16 32) a x).toNat < S12288.size a := fun v5582 k0_hw1717 => k0_hw1717

def k0_chk1718 (v5583 : IVec S16 32) : Prop :=
  (∀ a x, ((![v5583] : Fin 1 → IVec S16 32) a x).toNat < S4096.size a)
theorem k0_idx1718_inb : ∀ (v5583 : IVec S16 32) (k0_hw1718 : k0_chk1718 v5583), ∀ a x, ((![v5583] : Fin 1 → IVec S16 32) a x).toNat < S4096.size a := fun v5583 k0_hw1718 => k0_hw1718

def k0_chk1719 (v5586 : IVec S16 32) : Prop :=
  (∀ a x, ((![v5586] : Fin 1 → IVec S16 32) a x).toNat < S16.size a)
theorem k0_idx1719_inb : ∀ (v5586 : IVec S16 32) (k0_hw1719 : k0_chk1719 v5586), ∀ a x, ((![v5586] : Fin 1 → IVec S16 32) a x).toNat < S16.size a := fun v5586 k0_hw1719 => k0_hw1719

def k0_chk1720 (v5595 : IVec S16 32) : Prop :=
  (∀ a x, ((![v5595] : Fin 1 → IVec S16 32) a x).toNat < S12288.size a)
theorem k0_idx1720_inb : ∀ (v5595 : IVec S16 32) (k0_hw1720 : k0_chk1720 v5595), ∀ a x, ((![v5595] : Fin 1 → IVec S16 32) a x).toNat < S12288.size a := fun v5595 k0_hw1720 => k0_hw1720

def k0_chk1721 (v5596 : IVec S16 32) : Prop :=
  (∀ a x, ((![v5596] : Fin 1 → IVec S16 32) a x).toNat < S4096.size a)
theorem k0_idx1721_inb : ∀ (v5596 : IVec S16 32) (k0_hw1721 : k0_chk1721 v5596), ∀ a x, ((![v5596] : Fin 1 → IVec S16 32) a x).toNat < S4096.size a := fun v5596 k0_hw1721 => k0_hw1721

def k0_chk1722 (v5599 : IVec S16 32) : Prop :=
  (∀ a x, ((![v5599] : Fin 1 → IVec S16 32) a x).toNat < S12288.size a)
theorem k0_idx1722_inb : ∀ (v5599 : IVec S16 32) (k0_hw1722 : k0_chk1722 v5599), ∀ a x, ((![v5599] : Fin 1 → IVec S16 32) a x).toNat < S12288.size a := fun v5599 k0_hw1722 => k0_hw1722

def k0_chk1723 (v5600 : IVec S16 32) : Prop :=
  (∀ a x, ((![v5600] : Fin 1 → IVec S16 32) a x).toNat < S4096.size a)
theorem k0_idx1723_inb : ∀ (v5600 : IVec S16 32) (k0_hw1723 : k0_chk1723 v5600), ∀ a x, ((![v5600] : Fin 1 → IVec S16 32) a x).toNat < S4096.size a := fun v5600 k0_hw1723 => k0_hw1723

def k0_chk1724 (v5604 : IVec S16 32) : Prop :=
  (∀ a x, ((![v5604] : Fin 1 → IVec S16 32) a x).toNat < S12288.size a)
theorem k0_idx1724_inb : ∀ (v5604 : IVec S16 32) (k0_hw1724 : k0_chk1724 v5604), ∀ a x, ((![v5604] : Fin 1 → IVec S16 32) a x).toNat < S12288.size a := fun v5604 k0_hw1724 => k0_hw1724

def k0_chk1725 (v5605 : IVec S16 32) : Prop :=
  (∀ a x, ((![v5605] : Fin 1 → IVec S16 32) a x).toNat < S4096.size a)
theorem k0_idx1725_inb : ∀ (v5605 : IVec S16 32) (k0_hw1725 : k0_chk1725 v5605), ∀ a x, ((![v5605] : Fin 1 → IVec S16 32) a x).toNat < S4096.size a := fun v5605 k0_hw1725 => k0_hw1725

def k0_chk1726 (v5609 : IVec S16 32) : Prop :=
  (∀ a x, ((![v5609] : Fin 1 → IVec S16 32) a x).toNat < S12288.size a)
theorem k0_idx1726_inb : ∀ (v5609 : IVec S16 32) (k0_hw1726 : k0_chk1726 v5609), ∀ a x, ((![v5609] : Fin 1 → IVec S16 32) a x).toNat < S12288.size a := fun v5609 k0_hw1726 => k0_hw1726

def k0_chk1727 (v5610 : IVec S16 32) : Prop :=
  (∀ a x, ((![v5610] : Fin 1 → IVec S16 32) a x).toNat < S4096.size a)
theorem k0_idx1727_inb : ∀ (v5610 : IVec S16 32) (k0_hw1727 : k0_chk1727 v5610), ∀ a x, ((![v5610] : Fin 1 → IVec S16 32) a x).toNat < S4096.size a := fun v5610 k0_hw1727 => k0_hw1727

def k0_chk1728 (v5613 : IVec S16 32) : Prop :=
  (∀ a x, ((![v5613] : Fin 1 → IVec S16 32) a x).toNat < S16.size a)
theorem k0_idx1728_inb : ∀ (v5613 : IVec S16 32) (k0_hw1728 : k0_chk1728 v5613), ∀ a x, ((![v5613] : Fin 1 → IVec S16 32) a x).toNat < S16.size a := fun v5613 k0_hw1728 => k0_hw1728
def k0_off47 (i : grid0.Coords) : Fin 2 → Nat :=
  let c1_i32_1041 : BitVec 32 := 1#32
  let arg1 : BitVec 32 := BitVec.ofNat 32 (i 1).val
  let c256_i32_1040 : BitVec 32 := 256#32
  let v5621 : BitVec 32 := Scalar.muli arg1 c256_i32_1040
  ![1, v5621.toNat]
def k0_off48 (i : grid0.Coords) : Fin 2 → Nat :=
  let c11_i32_1044 : BitVec 32 := 11#32
  let arg1 : BitVec 32 := BitVec.ofNat 32 (i 1).val
  let c256_i32_1042 : BitVec 32 := 256#32
  let v5622 : BitVec 32 := Scalar.muli arg1 c256_i32_1042
  ![11, v5622.toNat]
def k0_off49 (i : grid0.Coords) : Fin 2 → Nat :=
  let c10_i32_1054 : BitVec 32 := 10#32
  let arg1 : BitVec 32 := BitVec.ofNat 32 (i 1).val
  let c256_i32_968 : BitVec 32 := 256#32
  let v5180 : BitVec 32 := Scalar.muli arg1 c256_i32_968
  ![10, v5180.toNat]
def k0_off50 (i : grid0.Coords) : Fin 2 → Nat :=
  let c9_i32_1058 : BitVec 32 := 9#32
  let arg1 : BitVec 32 := BitVec.ofNat 32 (i 1).val
  let c256_i32_894 : BitVec 32 := 256#32
  let v4738 : BitVec 32 := Scalar.muli arg1 c256_i32_894
  ![9, v4738.toNat]
def k0_off51 (i : grid0.Coords) : Fin 2 → Nat :=
  let c8_i32_1062 : BitVec 32 := 8#32
  let arg1 : BitVec 32 := BitVec.ofNat 32 (i 1).val
  let c256_i32_820 : BitVec 32 := 256#32
  let v4296 : BitVec 32 := Scalar.muli arg1 c256_i32_820
  ![8, v4296.toNat]
def k0_off52 (i : grid0.Coords) : Fin 2 → Nat :=
  let c7_i32_1066 : BitVec 32 := 7#32
  let arg1 : BitVec 32 := BitVec.ofNat 32 (i 1).val
  let c256_i32_746 : BitVec 32 := 256#32
  let v3854 : BitVec 32 := Scalar.muli arg1 c256_i32_746
  ![7, v3854.toNat]
def k0_off53 (i : grid0.Coords) : Fin 2 → Nat :=
  let c6_i32_1070 : BitVec 32 := 6#32
  let arg1 : BitVec 32 := BitVec.ofNat 32 (i 1).val
  let c256_i32_672 : BitVec 32 := 256#32
  let v3412 : BitVec 32 := Scalar.muli arg1 c256_i32_672
  ![6, v3412.toNat]
def k0_off54 (i : grid0.Coords) : Fin 2 → Nat :=
  let c5_i32_1074 : BitVec 32 := 5#32
  let arg1 : BitVec 32 := BitVec.ofNat 32 (i 1).val
  let c256_i32_598 : BitVec 32 := 256#32
  let v2970 : BitVec 32 := Scalar.muli arg1 c256_i32_598
  ![5, v2970.toNat]
def k0_off55 (i : grid0.Coords) : Fin 2 → Nat :=
  let c4_i32_1078 : BitVec 32 := 4#32
  let arg1 : BitVec 32 := BitVec.ofNat 32 (i 1).val
  let c256_i32_524 : BitVec 32 := 256#32
  let v2528 : BitVec 32 := Scalar.muli arg1 c256_i32_524
  ![4, v2528.toNat]
def k0_off56 (i : grid0.Coords) : Fin 2 → Nat :=
  let c3_i32_1082 : BitVec 32 := 3#32
  let arg1 : BitVec 32 := BitVec.ofNat 32 (i 1).val
  let c256_i32_450 : BitVec 32 := 256#32
  let v2086 : BitVec 32 := Scalar.muli arg1 c256_i32_450
  ![3, v2086.toNat]
def k0_off57 (i : grid0.Coords) : Fin 2 → Nat :=
  let c2_i32_1086 : BitVec 32 := 2#32
  let arg1 : BitVec 32 := BitVec.ofNat 32 (i 1).val
  let c256_i32_376 : BitVec 32 := 256#32
  let v1644 : BitVec 32 := Scalar.muli arg1 c256_i32_376
  ![2, v1644.toNat]
def k0_off58 (i : grid0.Coords) : Fin 2 → Nat :=
  let c1_i32_1090 : BitVec 32 := 1#32
  let arg1 : BitVec 32 := BitVec.ofNat 32 (i 1).val
  let c256_i32_299 : BitVec 32 := 256#32
  let v1202 : BitVec 32 := Scalar.muli arg1 c256_i32_299
  ![1, v1202.toNat]
def k0_off59 (i : grid0.Coords) : Fin 2 → Nat :=
  let c0_i32_1094 : BitVec 32 := 0#32
  let arg1 : BitVec 32 := BitVec.ofNat 32 (i 1).val
  let c256_i32_222 : BitVec 32 := 256#32
  let v760 : BitVec 32 := Scalar.muli arg1 c256_i32_222
  ![0, v760.toNat]
def k0_cond1 (i : grid0.Coords) : BitVec 1 :=
  let arg1 : BitVec 32 := BitVec.ofNat 32 (i 1).val
  let c0_i32_1097 : BitVec 32 := 0#32
  let v5727 : BitVec 1 := Scalar.cmpi .eq arg1 c0_i32_1097
  let v5728 : BitVec 32 := Scalar.extui v5727
  let c0_i32_1098 : BitVec 32 := 0#32
  let v5729 : BitVec 1 := Scalar.cmpi .ne v5728 c0_i32_1098
  v5729

def k0_chk1729 (i : grid0.Coords) (v5733 : IVec S16 32) : Prop :=
  (∀ (k0_h1 : k0_cond1 i = 1#1), ∀ a x, ((![v5733] : Fin 1 → IVec S16 32) a x).toNat < S16.size a)
theorem k0_idx1729_inb : ∀ (i : grid0.Coords) (v5733 : IVec S16 32) (k0_hw1729 : k0_chk1729 i v5733), ∀ (k0_h1 : k0_cond1 i = 1#1), ∀ a x, ((![v5733] : Fin 1 → IVec S16 32) a x).toNat < S16.size a := fun i v5733 k0_hw1729 k0_h1 => k0_hw1729 k0_h1

def k0_chk1730 (i : grid0.Coords) (v5734 : IVec S16 32) : Prop :=
  (∀ (k0_h1 : k0_cond1 i = 1#1), ∀ a x, ((![v5734] : Fin 1 → IVec S16 32) a x).toNat < S4096.size a)
theorem k0_idx1730_inb : ∀ (i : grid0.Coords) (v5734 : IVec S16 32) (k0_hw1730 : k0_chk1730 i v5734), ∀ (k0_h1 : k0_cond1 i = 1#1), ∀ a x, ((![v5734] : Fin 1 → IVec S16 32) a x).toNat < S4096.size a := fun i v5734 k0_hw1730 k0_h1 => k0_hw1730 k0_h1

def k0_chk1731 (i : grid0.Coords) (v5743 : IVec S16 32) : Prop :=
  (∀ (k0_h1 : k0_cond1 i = 1#1), ∀ a x, ((![v5743] : Fin 1 → IVec S16 32) a x).toNat < S16.size a)
theorem k0_idx1731_inb : ∀ (i : grid0.Coords) (v5743 : IVec S16 32) (k0_hw1731 : k0_chk1731 i v5743), ∀ (k0_h1 : k0_cond1 i = 1#1), ∀ a x, ((![v5743] : Fin 1 → IVec S16 32) a x).toNat < S16.size a := fun i v5743 k0_hw1731 k0_h1 => k0_hw1731 k0_h1

def k0_chk1732 (i : grid0.Coords) (v5744 : IVec S16 32) : Prop :=
  (∀ (k0_h1 : k0_cond1 i = 1#1), ∀ a x, ((![v5744] : Fin 1 → IVec S16 32) a x).toNat < S16.size a)
theorem k0_idx1732_inb : ∀ (i : grid0.Coords) (v5744 : IVec S16 32) (k0_hw1732 : k0_chk1732 i v5744), ∀ (k0_h1 : k0_cond1 i = 1#1), ∀ a x, ((![v5744] : Fin 1 → IVec S16 32) a x).toNat < S16.size a := fun i v5744 k0_hw1732 k0_h1 => k0_hw1732 k0_h1
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096 : Shape := ⟨1, ![4096]⟩
abbrev S12x4096x4 : Shape := ⟨3, ![12, 4096, 4]⟩
abbrev S12x4096 : Shape := ⟨2, ![12, 4096]⟩
abbrev S4 : Shape := ⟨1, ![4]⟩
abbrev S_ : Shape := ⟨0, ![]⟩
abbrev S1x4096x4 : Shape := ⟨3, ![1, 4096, 4]⟩
abbrev S4096x4 : Shape := ⟨2, ![4096, 4]⟩
abbrev S1x4096 : Shape := ⟨2, ![1, 4096]⟩
abbrev S4096x4x1 : Shape := ⟨3, ![4096, 4, 1]⟩
abbrev S4x1 : Shape := ⟨2, ![4, 1]⟩
abbrev S1x4 : Shape := ⟨2, ![1, 4]⟩
abbrev S1 : Shape := ⟨1, ![1]⟩
abbrev S49152 : Shape := ⟨1, ![49152]⟩

abbrev nBuf : Space → Nat
  | .hbm => 105
  | .vmem => 0
  | .smem => 0
  | _ => 0

abbrev bufTy : (tb : Table) → Fin (tcTables nBuf tb) → BufTy
  | .hbm, ⟨0, _⟩ => ⟨S4096, .i1⟩
  | .hbm, ⟨1, _⟩ => ⟨S12x4096x4, .i32⟩
  | .hbm, ⟨2, _⟩ => ⟨S12x4096, .i32⟩
  | .hbm, ⟨3, _⟩ => ⟨S4, .i32⟩
  | .hbm, ⟨4, _⟩ => ⟨S_, .i32⟩
  | .hbm, ⟨5, _⟩ => ⟨S_, .i32⟩
  | .hbm, ⟨6, _⟩ => ⟨S12x4096, .i32⟩
  | .hbm, ⟨7, _⟩ => ⟨S_, .i32⟩
  | .hbm, ⟨8, _⟩ => ⟨S12x4096x4, .i32⟩
  | .hbm, ⟨9, _⟩ => ⟨S12x4096, .i32⟩
  | .hbm, ⟨10, _⟩ => ⟨S_, .i32⟩
  | .hbm, ⟨11, _⟩ => ⟨S4096, .i1⟩
  | .hbm, ⟨12, _⟩ => ⟨S12x4096, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S1x4096x4, .i32⟩
  | .hbm, ⟨18, _⟩ => ⟨S4096x4, .i32⟩
  | .hbm, ⟨19, _⟩ => ⟨S_, .i32⟩
  | .hbm, ⟨20, _⟩ => ⟨S1x4096, .i32⟩
  | .hbm, ⟨21, _⟩ => ⟨S4096, .i32⟩
  | .hbm, ⟨22, _⟩ => ⟨S_, .i32⟩
  | .hbm, ⟨23, _⟩ => ⟨S4096x4, .i32⟩
  | .hbm, ⟨24, _⟩ => ⟨S4096x4, .i1⟩
  | .hbm, ⟨25, _⟩ => ⟨S_, .i32⟩
  | .hbm, ⟨26, _⟩ => ⟨S4096x4, .i32⟩
  | .hbm, ⟨27, _⟩ => ⟨S4096x4, .i32⟩
  | .hbm, ⟨28, _⟩ => ⟨S4096x4, .i32⟩
  | .hbm, ⟨29, _⟩ => ⟨S4096x4x1, .i32⟩
  | .hbm, ⟨30, _⟩ => ⟨S4096x4, .i1⟩
  | .hbm, ⟨31, _⟩ => ⟨S_, .i1⟩
  | .hbm, ⟨32, _⟩ => ⟨S4096, .i1⟩
  | .hbm, ⟨33, _⟩ => ⟨S_, .i1⟩
  | .hbm, ⟨34, _⟩ => ⟨S4096, .i1⟩
  | .hbm, ⟨35, _⟩ => ⟨S4096x4, .i32⟩
  | .hbm, ⟨36, _⟩ => ⟨S_, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S4096, .i1⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S4096, .i1⟩
  | .hbm, ⟨56, _⟩ => ⟨S4096, .i1⟩
  | .hbm, ⟨57, _⟩ => ⟨S4096, .i1⟩
  | .hbm, ⟨58, _⟩ => ⟨S4096, .i32⟩
  | .hbm, ⟨59, _⟩ => ⟨S1x4096, .i32⟩
  | .hbm, ⟨60, _⟩ => ⟨S_, .i32⟩
  | .hbm, ⟨61, _⟩ => ⟨S12x4096, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S4, .i32⟩
  | .hbm, ⟨66, _⟩ => ⟨S4, .i1⟩
  | .hbm, ⟨67, _⟩ => ⟨S_, .i32⟩
  | .hbm, ⟨68, _⟩ => ⟨S4, .i32⟩
  | .hbm, ⟨69, _⟩ => ⟨S4, .i32⟩
  | .hbm, ⟨70, _⟩ => ⟨S4, .i32⟩
  | .hbm, ⟨71, _⟩ => ⟨S4x1, .i32⟩
  | .hbm, ⟨72, _⟩ => ⟨S4, .i1⟩
  | .hbm, ⟨73, _⟩ => ⟨S1x4, .i1⟩
  | .hbm, ⟨74, _⟩ => ⟨S1, .i32⟩
  | .hbm, ⟨75, _⟩ => ⟨S_, .i1⟩
  | .hbm, ⟨76, _⟩ => ⟨S1, .i1⟩
  | .hbm, ⟨77, _⟩ => ⟨S_, .i1⟩
  | .hbm, ⟨78, _⟩ => ⟨S1, .i1⟩
  | .hbm, ⟨79, _⟩ => ⟨S1x4, .i32⟩
  | .hbm, ⟨80, _⟩ => ⟨S_, .i32⟩
  | .hbm, ⟨81, _⟩ => ⟨S1, .i32⟩
  | .hbm, ⟨82, _⟩ => ⟨S_, .i32⟩
  | .hbm, ⟨83, _⟩ => ⟨S1, .i32⟩
  | .hbm, ⟨84, _⟩ => ⟨S1, .i32⟩
  | .hbm, ⟨85, _⟩ => ⟨S_, .i32⟩
  | .hbm, ⟨86, _⟩ => ⟨S1, .i32⟩
  | .hbm, ⟨87, _⟩ => ⟨S1, .i1⟩
  | .hbm, ⟨88, _⟩ => ⟨S1, .i1⟩
  | .hbm, ⟨89, _⟩ => ⟨S1, .i1⟩
  | .hbm, ⟨90, _⟩ => ⟨S_, .i32⟩
  | .hbm, ⟨91, _⟩ => ⟨S1, .i32⟩
  | .hbm, ⟨92, _⟩ => ⟨S1, .i1⟩
  | .hbm, ⟨93, _⟩ => ⟨S_, .i32⟩
  | .hbm, ⟨94, _⟩ => ⟨S1, .i32⟩
  | .hbm, ⟨95, _⟩ => ⟨S1, .i1⟩
  | .hbm, ⟨96, _⟩ => ⟨S_, .i32⟩
  | .hbm, ⟨97, _⟩ => ⟨S1, .i32⟩
  | .hbm, ⟨98, _⟩ => ⟨S1, .i1⟩
  | .hbm, ⟨99, _⟩ => ⟨S1, .i1⟩
  | .hbm, ⟨100, _⟩ => ⟨S1, .i1⟩
  | .hbm, ⟨101, _⟩ => ⟨S1, .i1⟩
  | .hbm, ⟨102, _⟩ => ⟨S_, .i1⟩
  | .hbm, ⟨103, _⟩ => ⟨S_, .i32⟩
  | .hbm, ⟨104, _⟩ => ⟨S49152, .i32⟩
  | _, _ => ⟨S4096, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_while0c_c_15 : Ref sig .tc := ⟨.hbm, 13, rfl⟩
abbrev main_while0c_v33 : Ref sig .tc := ⟨.hbm, 14, rfl⟩
abbrev main_while0b_call0_c : Ref sig .tc := ⟨.hbm, 15, rfl⟩
abbrev main_while0b_call0_c_0 : Ref sig .tc := ⟨.hbm, 16, rfl⟩
abbrev main_while0b_call0_v0 : Ref sig .tc := ⟨.hbm, 17, rfl⟩
abbrev main_while0b_v33 : Ref sig .tc := ⟨.hbm, 18, rfl⟩
abbrev main_while0b_call1_c : Ref sig .tc := ⟨.hbm, 19, rfl⟩
abbrev main_while0b_call1_v0 : Ref sig .tc := ⟨.hbm, 20, rfl⟩
abbrev main_while0b_v34 : Ref sig .tc := ⟨.hbm, 21, rfl⟩
abbrev main_while0b_c_15 : Ref sig .tc := ⟨.hbm, 22, rfl⟩
abbrev main_while0b_v35 : Ref sig .tc := ⟨.hbm, 23, rfl⟩
abbrev main_while0b_v36 : Ref sig .tc := ⟨.hbm, 24, rfl⟩
abbrev main_while0b_c_16 : Ref sig .tc := ⟨.hbm, 25, rfl⟩
abbrev main_while0b_v37 : Ref sig .tc := ⟨.hbm, 26, rfl⟩
abbrev main_while0b_v38 : Ref sig .tc := ⟨.hbm, 27, rfl⟩
abbrev main_while0b_v39 : Ref sig .tc := ⟨.hbm, 28, rfl⟩
abbrev main_while0b_v40 : Ref sig .tc := ⟨.hbm, 29, rfl⟩
abbrev main_while0b_v41 : Ref sig .tc := ⟨.hbm, 30, rfl⟩
abbrev main_while0b_c_17 : Ref sig .tc := ⟨.hbm, 31, rfl⟩
abbrev main_while0b_v42 : Ref sig .tc := ⟨.hbm, 32, rfl⟩
abbrev main_while0b_c_18 : Ref sig .tc := ⟨.hbm, 33, rfl⟩
abbrev main_while0b_v43 : Ref sig .tc := ⟨.hbm, 34, rfl⟩
abbrev main_while0b_v44 : Ref sig .tc := ⟨.hbm, 35, rfl⟩
abbrev main_while0b_c_19 : Ref sig .tc := ⟨.hbm, 36, rfl⟩
abbrev main_while0b_v45 : Ref sig .tc := ⟨.hbm, 37, rfl⟩
abbrev main_while0b_c_20 : Ref sig .tc := ⟨.hbm, 38, rfl⟩
abbrev main_while0b_v46 : Ref sig .tc := ⟨.hbm, 39, rfl⟩
abbrev main_while0b_v47 : Ref sig .tc := ⟨.hbm, 40, rfl⟩
abbrev main_while0b_c_21 : Ref sig .tc := ⟨.hbm, 41, rfl⟩
abbrev main_while0b_v48 : Ref sig .tc := ⟨.hbm, 42, rfl⟩
abbrev main_while0b_v49 : Ref sig .tc := ⟨.hbm, 43, rfl⟩
abbrev main_while0b_v50 : Ref sig .tc := ⟨.hbm, 44, rfl⟩
abbrev main_while0b_v51 : Ref sig .tc := ⟨.hbm, 45, rfl⟩
abbrev main_while0b_c_22 : Ref sig .tc := ⟨.hbm, 46, rfl⟩
abbrev main_while0b_v52 : Ref sig .tc := ⟨.hbm, 47, rfl⟩
abbrev main_while0b_v53 : Ref sig .tc := ⟨.hbm, 48, rfl⟩
abbrev main_while0b_c_23 : Ref sig .tc := ⟨.hbm, 49, rfl⟩
abbrev main_while0b_v54 : Ref sig .tc := ⟨.hbm, 50, rfl⟩
abbrev main_while0b_v55 : Ref sig .tc := ⟨.hbm, 51, rfl⟩
abbrev main_while0b_c_24 : Ref sig .tc := ⟨.hbm, 52, rfl⟩
abbrev main_while0b_v56 : Ref sig .tc := ⟨.hbm, 53, rfl⟩
abbrev main_while0b_v57 : Ref sig .tc := ⟨.hbm, 54, rfl⟩
abbrev main_while0b_v58 : Ref sig .tc := ⟨.hbm, 55, rfl⟩
abbrev main_while0b_v59 : Ref sig .tc := ⟨.hbm, 56, rfl⟩
abbrev main_while0b_v60 : Ref sig .tc := ⟨.hbm, 57, rfl⟩
abbrev main_while0b_v61 : Ref sig .tc := ⟨.hbm, 58, rfl⟩
abbrev main_while0b_call2_v0 : Ref sig .tc := ⟨.hbm, 59, rfl⟩
abbrev main_while0b_call2_c : Ref sig .tc := ⟨.hbm, 60, rfl⟩
abbrev main_while0b_v62 : Ref sig .tc := ⟨.hbm, 61, rfl⟩
abbrev main_while0b_c_25 : Ref sig .tc := ⟨.hbm, 62, rfl⟩
abbrev main_while0b_v63 : Ref sig .tc := ⟨.hbm, 63, rfl⟩
abbrev main_c_1 : Ref sig .tc := ⟨.hbm, 64, rfl⟩
abbrev main_v2 : Ref sig .tc := ⟨.hbm, 65, rfl⟩
abbrev main_v3 : Ref sig .tc := ⟨.hbm, 66, rfl⟩
abbrev main_c_2 : Ref sig .tc := ⟨.hbm, 67, rfl⟩
abbrev main_v4 : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_c_3 : Ref sig .tc := ⟨.hbm, 75, rfl⟩
abbrev main_v11 : Ref sig .tc := ⟨.hbm, 76, rfl⟩
abbrev main_c_4 : Ref sig .tc := ⟨.hbm, 77, rfl⟩
abbrev main_v12 : Ref sig .tc := ⟨.hbm, 78, rfl⟩
abbrev main_v13 : Ref sig .tc := ⟨.hbm, 79, rfl⟩
abbrev main_c_5 : Ref sig .tc := ⟨.hbm, 80, rfl⟩
abbrev main_v14 : Ref sig .tc := ⟨.hbm, 81, rfl⟩
abbrev main_c_6 : Ref sig .tc := ⟨.hbm, 82, rfl⟩
abbrev main_v15 : Ref sig .tc := ⟨.hbm, 83, rfl⟩
abbrev main_v16 : Ref sig .tc := ⟨.hbm, 84, rfl⟩
abbrev main_c_7 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_c_8 : Ref sig .tc := ⟨.hbm, 90, rfl⟩
abbrev main_v21 : Ref sig .tc := ⟨.hbm, 91, rfl⟩
abbrev main_v22 : Ref sig .tc := ⟨.hbm, 92, rfl⟩
abbrev main_c_9 : Ref sig .tc := ⟨.hbm, 93, rfl⟩
abbrev main_v23 : Ref sig .tc := ⟨.hbm, 94, rfl⟩
abbrev main_v24 : Ref sig .tc := ⟨.hbm, 95, rfl⟩
abbrev main_c_10 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩

abbrev nD : Nat := 1
abbrev τ : Topo := Topo.v7x

variable {F : FTy → Type} [FloatOps F]

abbrev main_while0_count : Scf.Loop 32 := ⟨0#32, 12#32, 1#32⟩
-- ==== Proof.Circuit.lean ====
/- The kernel's body written with its loops: the copies of the inputs, twelve layers of sixteen groups of
   sixteen gates, each layer's exchange, the waits for the results, and the last gate. The printed body is
   this program unrolled (`Unrolled.lean`); every claim about the body is proved of this form. -/
module

public import proofs.«01_k».proof.Proof.Gen.KernelIdeal

@[expose] public section

noncomputable section

namespace Cert.KernelIdeal.Circuit

open Idealize.ShloMosaic Idealize.SL.Sem
open Cert.KernelIdeal.Gen

variable {F : FTy → Type} [FloatOps F]

/-- The tile at grid point `i`. -/
abbrev tileAt (i : grid0.Coords) : Proc τ := .scVector ((i 0).castLE hcore0) ((i 1).castLE hsub0)

/-- Programs of the tile at `i`. -/
abbrev TP (F : FTy → Type) [FloatOps F] (i : grid0.Coords) : Type 1 :=
  Prog (TpuEff nD τ sig (Elt F) Λ₀ (tileAt i)) PUnit

abbrev valsH : Memref sig .scVector .hbm S4096 .i32 := Memref.whole main_v0_scv
abbrev idxsH : Memref sig .scVector .hbm S12x16384 .i32 := Memref.whole main_v1_scv
abbrev opsH : Memref sig .scVector .hbm S12x4096 .i32 := Memref.whole main_arg2_scv
abbrev auxH : Memref sig .scVector .hbm S16 .i32 := Memref.whole main_v4_scv
abbrev interH : Memref sig .scVector .hbm S12x4096 .i32 := Memref.whole main_v5_0_scv
abbrev outH : Memref sig .scVector .hbm S16 .i32 := Memref.whole main_v5_1_scv
abbrev valsV : Memref sig .scVector .vmem S4096 .i32 := Memref.whole cc0_scratch0
abbrev newV : Memref sig .scVector .vmem S256 .i32 := Memref.whole cc0_scratch1
abbrev idxV : Memref sig .scVector .vmem S12288 .i32 := Memref.whole cc0_scratch2
abbrev opsV : Memref sig .scVector .vmem S3072 .i32 := Memref.whole cc0_scratch3
abbrev interV : Memref sig .scVector .vmem S12x256 .i32 := Memref.whole cc0_scratch4
abbrev auxV : Memref sig .scVector .vmem S16 .i32 := Memref.whole cc0_scratch5
abbrev outV : Memref sig .scVector .vmem S16 .i32 := Memref.whole cc0_scratch6
abbrev shared : Memref sig .scVector .shared S2x4096 .i32 := Memref.whole cc0_scratch7

/-- The scoped semaphore of a layer's copy into the shared memory. -/
abbrev putSem : Fin 12 → DmaSems sig S_ :=
  ![cc0_scoped0, cc0_scoped2, cc0_scoped4, cc0_scoped6, cc0_scoped8, cc0_scoped10, cc0_scoped12, cc0_scoped14,
    cc0_scoped16, cc0_scoped18, cc0_scoped20, cc0_scoped22]

/-- The scoped semaphore of a layer's copy out of the shared memory. -/
abbrev getSem : Fin 12 → DmaSems sig S_ :=
  ![cc0_scoped1, cc0_scoped3, cc0_scoped5, cc0_scoped7, cc0_scoped9, cc0_scoped11, cc0_scoped13, cc0_scoped15,
    cc0_scoped17, cc0_scoped19, cc0_scoped21, cc0_scoped23]

/-- The semaphore of a layer's write-out: the last layer's is its own. -/
abbrev outSem : Fin 12 → DmaSems sig S_ :=
  ![cc0_scratch12, cc0_scratch12, cc0_scratch12, cc0_scratch12, cc0_scratch12, cc0_scratch12, cc0_scratch12,
    cc0_scratch12, cc0_scratch12, cc0_scratch12, cc0_scratch12, cc0_scratch13]

/-- The word the tile's first gate's number is. -/
abbrev gate0 (i : grid0.Coords) : BitVec 32 := Scalar.muli (BitVec.ofNat 32 (i 1).val) 256#32

theorem gate0_toNat (i : grid0.Coords) : (gate0 i).toNat = 256 * (i 1).val := by
  have h : (i 1).val < 16 := (i 1).isLt
  have e : (gate0 i).toNat = ((i 1).val % 2 ^ 32 * 256) % 2 ^ 32 := by
    simp [gate0, Scalar.muli, IntOp.muli, BitVec.toNat_mul, BitVec.toNat_ofNat]
  rw [e]; omega

theorem gate0_mul4_toNat (i : grid0.Coords) : (Scalar.muli (gate0 i) 4#32).toNat = 1024 * (i 1).val := by
  have h : (i 1).val < 16 := (i 1).isLt
  have e : (Scalar.muli (gate0 i) 4#32).toNat = ((gate0 i).toNat * 4) % 2 ^ 32 := by
    simp [Scalar.muli, IntOp.muli, BitVec.toNat_mul]
  rw [e, gate0_toNat]; omega

/-- The tile's part of layer `l` in the wiring, the gates' operations and the layer's results, as offsets. -/
abbrev wireOff (i : grid0.Coords) (l : Fin 12) : Fin 2 → Nat := ![l.val, (Scalar.muli (gate0 i) 4#32).toNat]
abbrev gateOff (i : grid0.Coords) (l : Fin 12) : Fin 2 → Nat := ![l.val, (gate0 i).toNat]
abbrev slotOff (i : grid0.Coords) (l : Fin 12) : Fin 2 → Nat := ![l.val % 2, (gate0 i).toNat]

theorem inb1 {n k o : Nat} (h : o + k ≤ n) :
    ∀ a, (![o] : Fin 1 → Nat) a + (⟨1, ![k]⟩ : Shape).size a ≤ (⟨1, ![n]⟩ : Shape).size a := by
  intro a; fin_cases a; exact h

theorem inb2 {n n' k k' o o' : Nat} (h : o + k ≤ n) (h' : o' + k' ≤ n') :
    ∀ a, (![o, o'] : Fin 2 → Nat) a + (⟨2, ![k, k']⟩ : Shape).size a ≤ (⟨2, ![n, n']⟩ : Shape).size a := by
  intro a; fin_cases a
  · exact h
  · exact h'

theorem wireOff_inb (i : grid0.Coords) (l : Fin 12) :
    ∀ a, wireOff i l a + S1x1024.size a ≤ S12x16384.size a := by
  have h : (i 1).val < 16 := (i 1).isLt
  refine inb2 (by omega) ?_
  rw [gate0_mul4_toNat]; omega

theorem gateOff_inb (i : grid0.Coords) (l : Fin 12) :
    ∀ a, gateOff i l a + S1x256.size a ≤ S12x4096.size a := by
  have h : (i 1).val < 16 := (i 1).isLt
  refine inb2 (by omega) ?_
  rw [gate0_toNat]; omega

theorem slotOff_inb (i : grid0.Coords) (l : Fin 12) :
    ∀ a, slotOff i l a + S1x256.size a ≤ S2x4096.size a := by
  have h : (i 1).val < 16 := (i 1).isLt
  refine inb2 (by omega) ?_
  rw [gate0_toNat]; omega

/-- The tile's wires of layer `l`: where they come from, where they go. -/
abbrev wiresH (i : grid0.Coords) (l : Fin 12) : Memref sig .scVector .hbm S1024 .i32 :=
  (idxsH.slice (Rect.unit (s := S12x16384) (wireOff i l) S1x1024.size (wireOff_inb i l)) (fun _ => rfl)).squeeze S1024
    squeezes_S1x1024_S1024
abbrev wiresV (l : Fin 12) : Memref sig .scVector .vmem S1024 .i32 :=
  idxV.slice (Rect.unit (s := S12288) ![l.val * 1024] S1024.size (inb1 (by omega))) (fun _ => rfl)

/-- The tile's gates' operations of layer `l`. -/
abbrev gatesH (i : grid0.Coords) (l : Fin 12) : Memref sig .scVector .hbm S256 .i32 :=
  (opsH.slice (Rect.unit (s := S12x4096) (gateOff i l) S1x256.size (gateOff_inb i l)) (fun _ => rfl)).squeeze S256
    squeezes_S1x256_S256
abbrev gatesV (l : Fin 12) : Memref sig .scVector .vmem S256 .i32 :=
  opsV.slice (Rect.unit (s := S3072) ![l.val * 256] S256.size (inb1 (by omega))) (fun _ => rfl)

/-- The tile's results of layer `l`: kept, and written out. -/
abbrev keptV (l : Fin 12) : Memref sig .scVector .vmem S256 .i32 :=
  (interV.slice (Rect.unit (s := S12x256) ![l.val, 0] S1x256.size (inb2 (by omega) (by omega))) (fun _ => rfl)).squeeze
    S256 squeezes_S1x256_S256
abbrev keptH (i : grid0.Coords) (l : Fin 12) : Memref sig .scVector .hbm S256 .i32 :=
  (interH.slice (Rect.unit (s := S12x4096) (gateOff i l) S1x256.size (gateOff_inb i l)) (fun _ => rfl)).squeeze S256
    squeezes_S1x256_S256

/-- The tile's part of the shared memory's slot of layer `l`, and the slot. -/
abbrev partS (i : grid0.Coords) (l : Fin 12) : Memref sig .scVector .shared S256 .i32 :=
  (shared.slice (Rect.unit (s := S2x4096) (slotOff i l) S1x256.size (slotOff_inb i l)) (fun _ => rfl)).squeeze S256
    squeezes_S1x256_S256
abbrev slotS (l : Fin 12) : Memref sig .scVector .shared S4096 .i32 :=
  (shared.slice (Rect.unit (s := S2x4096) ![l.val % 2, 0] S1x4096.size (inb2 (by omega) (by omega)))
    (fun _ => rfl)).squeeze S4096 squeezes_S1x4096_S4096

/-- Every lane's index names an element of a buffer of `n` elements. -/
def InBuf (n : Nat) (v : IVec S16 32) : Prop :=
  ∀ a x, ((![v] : Fin 1 → IVec S16 32) a x).toNat < (⟨1, ![n]⟩ : Shape).size a

instance InBuf.dec (n : Nat) (v : IVec S16 32) : Decidable (InBuf n v) :=
  decidable_of_iff' _ (Iff.of_eq (InBuf.eq_1 n v))

/-- Sixteen elements of a tile's buffer at the indices `v`, the indices having been checked. -/
def gather (i : grid0.Coords) (n : Nat) (b : Memref sig .scVector .vmem ⟨1, ![n]⟩ .i32) (hb : b.view.Loads)
    (v : IVec S16 32) (K : IVec S16 32 → TP F i) : TP F i :=
  .op (.assume (InBuf n v) (InBuf.dec n v)) fun h =>
  .op (.load b (.whole _) (View.loadsAt_whole hb)) fun (f : Vec F ⟨1, ![n]⟩ .i32) =>
    K (loadIdx f ![v] h.down)

/-- The wires of sixteen gates: their `a`-th. -/
def wire (i : grid0.Coords) (l : Fin 12) (g : Fin 16) (a : Nat) (lanes4 : IVec S16 32) (K : IVec S16 32 → TP F i) :
    TP F i :=
  gather i 12288 idxV (View.loads_vmem h_S12288)
    (addi lanes4 (broadcast S16 (BitVec.ofNat 32 (l.val * 1024 + g.val * 64 + a)))) fun w =>
  gather i 4096 valsV (View.loads_vmem h_S4096) w K

/-- Sixteen gates' results, from their wires' bits and their operations' tables. -/
abbrev gateBits (b0 b1 b2 b3 t : IVec S16 32) : IVec S16 32 :=
  andi (shrui t (addi (addi (addi b0 b1) b2) b3)) (broadcast S16 1#32)

/-- Sixteen gates' results stored. -/
def keep (i : grid0.Coords) (l : Fin 12) (g : Fin 16) (r : IVec S16 32) (K : PUnit.{1} → TP F i) : TP F i :=
  .op (.load newV (Rect.unit (s := S256) ![g.val * 16] S16.size (inb1 (by omega))).toLoadRect
    (View.loadsAt_vmem h_S16)) fun _ =>
  .op (.store newV (Rect.unit (s := S256) ![g.val * 16] S16.size (inb1 (by omega))) r Finset.univ
    (View.stores_vmem_bits_univ h_S16 rfl) (.inl rfl)) fun _ =>
  .op (.load interV (Rect.unit (s := S12x256) ![l.val, g.val * 16] S1x16.size (inb2 (by omega) (by omega))).toLoadRect
    (View.loadsAt_vmem h_S1x16)) fun _ =>
  .op (.store interV (Rect.unit (s := S12x256) ![l.val, g.val * 16] S1x16.size (inb2 (by omega) (by omega)))
    (shapeCast S1x16 r shapeCasts_S16_S1x16) Finset.univ (View.stores_vmem_bits_univ h_S1x16 rfl) (.inl rfl)) K

/-- Sixteen gates of a layer. -/
def group (i : grid0.Coords) (lanes4 : IVec S16 32) (l : Fin 12) (g : Fin 16) (K : PUnit.{1} → TP F i) : TP F i :=
  wire i l g 0 lanes4 fun b0 =>
  wire i l g 1 lanes4 fun b1 =>
  wire i l g 2 lanes4 fun b2 =>
  wire i l g 3 lanes4 fun b3 =>
  .op (.load opsV (Rect.unit (s := S3072) ![l.val * 256 + g.val * 16] S16.size (inb1 (by omega))).toLoadRect
    (View.loadsAt_vmem h_S16)) fun (o : Vec F S16 .i32) =>
  gather i 16 auxV (View.loads_vmem h_S16) o fun t => keep i l g (gateBits b0 b1 b2 b3 t) K

/-- The groups of a layer from the `16 - n`-th on. -/
def groups (i : grid0.Coords) (lanes4 : IVec S16 32) (l : Fin 12) : (n : Nat) → n ≤ 16 → TP F i → TP F i
  | 0, _, K => K
  | n + 1, h, K => group i lanes4 l ⟨15 - n, by omega⟩ fun _ => groups i lanes4 l n (by omega) K

/-- A layer's part put into the slot, and its results' write-out begun. -/
def put (i : grid0.Coords) (l : Fin 12) (K : PUnit.{1} → TP F i) : TP F i :=
  .op (.enqueueDma newV (.here (partS i l)) (.dma (putSem l).sem) (Memref.isWhole_whole _).wordExact
    ((View.wordExact_bits rfl).reshape _ _) ⟨Or.inl rfl, trivial⟩) fun _ =>
  .op (.waitDma2 (putSem l).sem newV (partS i l) (Memref.isWhole_whole _).wordExact
    ((View.wordExact_bits rfl).reshape _ _)) fun _ =>
  .op (.enqueueDma (keptV l) (.here (keptH i l)) (.dma (outSem l).sem) ((View.wordExact_bits rfl).reshape _ _)
    ((View.wordExact_bits rfl).reshape _ _) ⟨Or.inl rfl, trivial⟩) K

/-- The slot read back whole. -/
def get (i : grid0.Coords) (l : Fin 12) (K : PUnit.{1} → TP F i) : TP F i :=
  .op (.enqueueDma (slotS l) (.here valsV) (.dma (getSem l).sem) ((View.wordExact_bits rfl).reshape _ _)
    (Memref.isWhole_whole _).wordExact ⟨Or.inl rfl, trivial⟩) fun _ =>
  .op (.waitDma2 (getSem l).sem (slotS l) valsV ((View.wordExact_bits rfl).reshape _ _)
    (Memref.isWhole_whole _).wordExact) K

/-- The tiles' barrier. -/
abbrev meet (i : grid0.Coords) : TP F i := SparseCore.subcoreBarrier sc_bar0 (grid0.bound 1) hsub0

/-- The layers from the `12 - n`-th on: the groups, then the exchange. -/
def layers (i : grid0.Coords) (lanes4 : IVec S16 32) : (n : Nat) → n ≤ 12 → TP F i → TP F i
  | 0, _, K => K
  | n + 1, h, K => groups i lanes4 ⟨11 - n, by omega⟩ 16 le_rfl <|
      put i ⟨11 - n, by omega⟩ fun _ => (meet i).bind fun _ => get i ⟨11 - n, by omega⟩ fun _ =>
      layers i lanes4 n (by omega) K

/-- The copies of the tile's wires and operations begun, from layer `12 - n` on. -/
def fetches (i : grid0.Coords) : (n : Nat) → n ≤ 12 → TP F i → TP F i
  | 0, _, K => K
  | n + 1, h, K =>
    .op (.enqueueDma (wiresH i ⟨11 - n, by omega⟩) (.here (wiresV ⟨11 - n, by omega⟩)) (.dma cc0_scratch9.sem)
      ((View.wordExact_bits rfl).reshape _ _) (View.wordExact_bits rfl) ⟨Or.inl rfl, trivial⟩) fun _ =>
    .op (.enqueueDma (gatesH i ⟨11 - n, by omega⟩) (.here (gatesV ⟨11 - n, by omega⟩)) (.dma cc0_scratch10.sem)
      ((View.wordExact_bits rfl).reshape _ _) (View.wordExact_bits rfl) ⟨Or.inl rfl, trivial⟩) fun _ =>
    fetches i n (by omega) K

/-- Their waits, from layer `n - 1` down. -/
def landings (i : grid0.Coords) : (n : Nat) → n ≤ 12 → TP F i → TP F i
  | 0, _, K => K
  | n + 1, h, K =>
    .op (.waitDma2 cc0_scratch10.sem (gatesH i ⟨n, by omega⟩) (gatesV ⟨n, by omega⟩)
      ((View.wordExact_bits rfl).reshape _ _) (View.wordExact_bits rfl)) fun _ =>
    .op (.waitDma2 cc0_scratch9.sem (wiresH i ⟨n, by omega⟩) (wiresV ⟨n, by omega⟩)
      ((View.wordExact_bits rfl).reshape _ _) (View.wordExact_bits rfl)) fun _ =>
    landings i n (by omega) K

/-- The waits for the results' write-outs, from layer `n - 1` down. -/
def writeOuts (i : grid0.Coords) : (n : Nat) → n ≤ 12 → TP F i → TP F i
  | 0, _, K => K
  | n + 1, h, K =>
    .op (.waitDma2 (outSem ⟨n, by omega⟩).sem (keptV ⟨n, by omega⟩) (keptH i ⟨n, by omega⟩)
      ((View.wordExact_bits rfl).reshape _ _) ((View.wordExact_bits rfl).reshape _ _)) fun _ =>
    writeOuts i n (by omega) K

/-- What a check under the last gate's condition checks. -/
def InBufIf (i : grid0.Coords) (n : Nat) (v : IVec S16 32) : Prop :=
  ∀ (_ : k0_cond1 i = 1#1), ∀ a x, ((![v] : Fin 1 → IVec S16 32) a x).toNat < (⟨1, ![n]⟩ : Shape).size a

instance InBufIf.dec (i : grid0.Coords) (n : Nat) (v : IVec S16 32) : Decidable (InBufIf i n v) :=
  decidable_of_iff' _ (Iff.of_eq (InBufIf.eq_1 i n v))

/-- A gather of the last gate's. -/
def gatherIf (i : grid0.Coords) (hi : k0_cond1 i = 1#1) (n : Nat) (b : Memref sig .scVector .vmem ⟨1, ![n]⟩ .i32)
    (hb : b.view.Loads) (v : IVec S16 32) (K : IVec S16 32 → TP F i) : TP F i :=
  .op (.assume (InBufIf i n v) (InBufIf.dec i n v)) fun h =>
  .op (.load b (.whole _) (View.loadsAt_whole hb)) fun (f : Vec F ⟨1, ![n]⟩ .i32) =>
    K (loadIdx f ![v] (h.down hi))

/-- The last gate, the first tile's. -/
def lastGate (i : grid0.Coords) (lanes : IVec S16 32) (hi : k0_cond1 i = 1#1) : TP F i :=
  gatherIf i hi 16 auxV (View.loads_vmem h_S16) (addi (andi lanes (broadcast S16 3#32)) (broadcast S16 4#32)) fun w =>
  gatherIf i hi 4096 valsV (View.loads_vmem h_S4096) w fun b =>
  gatherIf i hi 16 auxV (View.loads_vmem h_S16) (addi (andi lanes (broadcast S16 0#32)) (broadcast S16 8#32)) fun o =>
  gatherIf i hi 16 auxV (View.loads_vmem h_S16) o fun t =>
  .op (.load outV (Rect.unit (s := S16) ![0] S16.size (inb1 (by omega))).toLoadRect (View.loadsAt_vmem h_S16)) fun _ =>
  .op (.store outV (Rect.unit (s := S16) ![0] S16.size (inb1 (by omega)))
    (andi (shrui t (broadcast S16 (Scalar.shrsi (extractAt ![15] (scan .sum b) inpos_S16_p15) 2#32)))
      (broadcast S16 1#32)) Finset.univ (View.stores_vmem_bits_univ h_S16 rfl) (.inl rfl)) fun _ =>
  .op (.enqueueDma outV (.here outH) (.dma cc0_scoped24.sem) (Memref.isWhole_whole _).wordExact
    (Memref.isWhole_whole _).wordExact ⟨Or.inl rfl, trivial⟩) fun _ =>
  .op (.waitDma2 cc0_scoped24.sem outV outH (Memref.isWhole_whole _).wordExact
    (Memref.isWhole_whole _).wordExact) fun _ => .ret ⟨⟩

/-- The lanes' numbers. -/
abbrev lanes : IVec S16 32 := iota .scVector S16 32 [0] iota_S16_d0_w32_scVector

/-- The body from the layers on. -/
def compute (i : grid0.Coords) : TP F i :=
  layers i (muli lanes (broadcast S16 4#32)) 12 le_rfl <| writeOuts i 12 le_rfl <|
  if hi : k0_cond1 i = 1#1 then lastGate i lanes hi else .ret ⟨⟩

/-- The body. -/
def circuit (i : grid0.Coords) : TP F i :=
  .op (.enqueueDma valsH (.here valsV) (.dma cc0_scratch8.sem) (Memref.isWhole_whole _).wordExact
    (Memref.isWhole_whole _).wordExact ⟨Or.inl rfl, trivial⟩) fun _ =>
  .op (.enqueueDma auxH (.here auxV) (.dma cc0_scratch11.sem) (Memref.isWhole_whole _).wordExact
    (Memref.isWhole_whole _).wordExact ⟨Or.inl rfl, trivial⟩) fun _ =>
  fetches i 12 le_rfl <| landings i 12 le_rfl <|
  .op (.waitDma2 cc0_scratch11.sem auxH auxV (Memref.isWhole_whole _).wordExact
    (Memref.isWhole_whole _).wordExact) fun _ =>
  .op (.waitDma2 cc0_scratch8.sem valsH valsV (Memref.isWhole_whole _).wordExact
    (Memref.isWhole_whole _).wordExact) fun _ => compute i

end Cert.KernelIdeal.Circuit

end
-- ==== Proof.Values.lean ====
/- What the tiles' buffers hold, as functions of the circuit: the layers' bits by layer and gate number, and each
   buffer's contents. With them, the places of a row of a buffer under a memory reference and what is read and
   written there. -/
module

public import proofs.«01_k».proof.Proof.Circuit
public import Idealize.ShloMosaic.Lib.Pointwise
public import Idealize.ShloMosaic.Lib.ValueLayout

@[expose] public section

noncomputable section

namespace Cert.KernelIdeal.Circuit

open Idealize.ShloMosaic Idealize.SL.Sem
open Cert.KernelIdeal.Gen

/-! ## The circuit -/

/-- A circuit: the inputs' bits, each gate's four wires, each gate's operation, and the auxiliary words (the
    operations' tables in the first four). -/
structure Net where
  V : ℕ → BitVec 32
  I : ℕ → ℕ → BitVec 32
  O : ℕ → ℕ → BitVec 32
  A : ℕ → BitVec 32

/-- A gate's bit: its table shifted by the number of its wires' bits set, the lowest bit of that. -/
def gateBit (b0 b1 b2 b3 t : BitVec 32) : BitVec 32 :=
  IntOp.andi (IntOp.shrui .vector t (IntOp.addi (IntOp.addi (IntOp.addi b0 b1) b2) b3)) 1#32

/-- The bit of gate `n` of layer `l`, the inputs being layer zero. -/
def lay (X : Net) : ℕ → ℕ → BitVec 32
  | 0, n => X.V n
  | l + 1, n =>
    gateBit (lay X l (X.I l (4 * n + 0)).toNat) (lay X l (X.I l (4 * n + 1)).toNat)
      (lay X l (X.I l (4 * n + 2)).toNat) (lay X l (X.I l (4 * n + 3)).toNat) (X.A (X.O l n).toNat)

/-- Every wire names a gate and every operation has a table. -/
structure Net.Ok (X : Net) : Prop where
  I : ∀ l n, (X.I l n).toNat < 4096
  O : ∀ l n, (X.O l n).toNat < 16
  A4 : ∀ k, k < 4 → (X.A (4 + k)).toNat < 4096
  A8 : (X.A 8).toNat < 16

variable (X : Net) (s : ℕ)

/-- The contents of a tile's buffers and of the arrays, the tile's number being `s`. -/
def valsOf (l : ℕ) : S4096.Idx → BitVec 32 := fun x => lay X l (x 0).val
def newOf (l : ℕ) : S256.Idx → BitVec 32 := fun x => lay X (l + 1) (256 * s + (x 0).val)
def idxOf : S12288.Idx → BitVec 32 := fun x => X.I ((x 0).val / 1024) (1024 * s + (x 0).val % 1024)
def opsOf : S3072.Idx → BitVec 32 := fun x => X.O ((x 0).val / 256) (256 * s + (x 0).val % 256)
def interOf : S12x256.Idx → BitVec 32 := fun x => lay X ((x 0).val + 1) (256 * s + (x 1).val)
def auxOf : S16.Idx → BitVec 32 := fun x => X.A (x 0).val
def wiresOf : S12x16384.Idx → BitVec 32 := fun x => X.I (x 0).val (x 1).val
def gatesOf : S12x4096.Idx → BitVec 32 := fun x => X.O (x 0).val (x 1).val
def resOf : S12x4096.Idx → BitVec 32 := fun x => lay X ((x 0).val + 1) (x 1).val
def slotOf (l : ℕ) : S2x4096.Idx → BitVec 32 := fun x => lay X (l + 1) (x 1).val

/-! ## A group's gates -/

theorem lanes_apply (x : S16.Idx) : (lanes x).toNat = (x 0).val := by
  have h : (x 0).val < 16 := (x 0).isLt
  have e : lanes x = BitVec.ofNat 32 (0 * 16 + (x 0).val) := rfl
  rw [e, BitVec.toNat_ofNat]; omega

theorem wireIx_apply (l : Fin 12) (g : Fin 16) (a : ℕ) (ha : a < 4) (x : S16.Idx) :
    (addi (muli lanes (broadcast S16 4#32)) (broadcast S16 (BitVec.ofNat 32 (l.val * 1024 + g.val * 64 + a))) x).toNat
      = l.val * 1024 + (64 * g.val + 4 * (x 0).val + a) := by
  have h : (x 0).val < 16 := (x 0).isLt
  have e : addi (muli lanes (broadcast S16 4#32)) (broadcast S16 (BitVec.ofNat 32 (l.val * 1024 + g.val * 64 + a))) x
      = lanes x * 4#32 + BitVec.ofNat 32 (l.val * 1024 + g.val * 64 + a) := rfl
  rw [e, BitVec.toNat_add, BitVec.toNat_mul, lanes_apply, BitVec.toNat_ofNat, BitVec.toNat_ofNat]
  omega

theorem inBuf_iff {n : ℕ} {v : IVec S16 32} : InBuf n v ↔ ∀ x, (v x).toNat < n :=
  ⟨fun h x => h 0 x, fun h a x => by fin_cases a; exact h x⟩

/-- A gather's elements. -/
theorem loadIdx_apply {n : ℕ} (f : (⟨1, ![n]⟩ : Shape).Idx → BitVec 32) (v : IVec S16 32) (h : InBuf n v) (x : S16.Idx) :
    loadIdx (F := fun _ => PUnit) (e := .i32) f ![v] h x = f (ix1 ⟨(v x).toNat, h 0 x⟩) :=
  congrArg f (funext fun a => by fin_cases a; rfl)

end Cert.KernelIdeal.Circuit

end
-- ==== Proof.Views.lean ====
/- Rows and segments of buffers: the elements under the body's memory references, what is read and written
   there, and how a buffer held whole is cut into them and put together again. -/
module

public import proofs.«01_k».proof.Proof.Values
public import Idealize.ShloMosaic.Lib.Transfers
public import Idealize.ShloMosaic.Lib.Tactic

@[expose] public section

noncomputable section

namespace Cert.KernelIdeal.Circuit

open Idealize.ShloMosaic
open Idealize.SL Idealize.SL.RA Idealize.SL.BI
open scoped Idealize.SL.BI
open Idealize.SL.BI.BIBase Idealize.SL.BI.Laws Idealize.SL.ProofMode Idealize.SL.Sem
open Cert.KernelIdeal.Gen

/-! ## Regions -/

/-- Row `o`'s `k` elements from `o'` on; the rows' from `o` on. -/
def row2 (n n' o o' k : ℕ) : Finset (⟨2, ![n, n']⟩ : Shape).Idx :=
  Finset.univ.filter fun x => (x 0).val = o ∧ o' ≤ (x 1).val ∧ (x 1).val < o' + k
def from2 (n n' o o' k : ℕ) : Finset (⟨2, ![n, n']⟩ : Shape).Idx :=
  Finset.univ.filter fun x => o ≤ (x 0).val ∧ o' ≤ (x 1).val ∧ (x 1).val < o' + k
/-- `k` elements from `o` on; all from `o` on. -/
def seg1 (n o k : ℕ) : Finset (⟨1, ![n]⟩ : Shape).Idx := Finset.univ.filter fun x => o ≤ (x 0).val ∧ (x 0).val < o + k
def from1 (n o : ℕ) : Finset (⟨1, ![n]⟩ : Shape).Idx := Finset.univ.filter fun x => o ≤ (x 0).val

theorem mem_row2 {n n' o o' k : ℕ} {x : (⟨2, ![n, n']⟩ : Shape).Idx} :
    x ∈ row2 n n' o o' k ↔ (x 0).val = o ∧ o' ≤ (x 1).val ∧ (x 1).val < o' + k := by simp [row2]
theorem mem_from2 {n n' o o' k : ℕ} {x : (⟨2, ![n, n']⟩ : Shape).Idx} :
    x ∈ from2 n n' o o' k ↔ o ≤ (x 0).val ∧ o' ≤ (x 1).val ∧ (x 1).val < o' + k := by simp [from2]
theorem mem_seg1 {n o k : ℕ} {x : (⟨1, ![n]⟩ : Shape).Idx} : x ∈ seg1 n o k ↔ o ≤ (x 0).val ∧ (x 0).val < o + k := by
  simp [seg1]
theorem mem_from1 {n o : ℕ} {x : (⟨1, ![n]⟩ : Shape).Idx} : x ∈ from1 n o ↔ o ≤ (x 0).val := by simp [from1]

theorem row2_subset (n n' o o' k : ℕ) : row2 n n' o o' k ⊆ from2 n n' o o' k := fun x h => by
  rw [mem_row2] at h; rw [mem_from2]; omega
theorem from2_sdiff (n n' o o' k : ℕ) : from2 n n' o o' k \ row2 n n' o o' k = from2 n n' (o + 1) o' k := by
  ext x; rw [Finset.mem_sdiff, mem_from2, mem_row2, mem_from2]; omega
theorem seg1_subset (n o k : ℕ) : seg1 n o k ⊆ from1 n o := fun x h => by rw [mem_seg1] at h; rw [mem_from1]; omega
theorem from1_sdiff (n o k : ℕ) : from1 n o \ seg1 n o k = from1 n (o + k) := by
  ext x; rw [Finset.mem_sdiff, mem_from1, mem_seg1, mem_from1]; omega
theorem from2_zero (n n' : ℕ) : from2 n n' 0 0 n' = Finset.univ := by
  ext x; have : (x 1).val < n' := (x 1).isLt
  rw [mem_from2]; simp only [Finset.mem_univ, iff_true]; omega
theorem from1_zero (n : ℕ) : from1 n 0 = Finset.univ := by
  ext x; rw [mem_from1]; simp
theorem seg1_all (n : ℕ) : seg1 n 0 n = Finset.univ := by
  ext x; have : (x 0).val < n := (x 0).isLt
  rw [mem_seg1]; simp only [Finset.mem_univ, iff_true]; omega

theorem rows_disjoint (n n' o' k : ℕ) : ∀ t ∈ (Finset.univ : Finset (Fin n)), ∀ t' ∈ (Finset.univ : Finset (Fin n)), t ≠ t' →
    Disjoint (row2 n n' t.val o' k) (row2 n n' t'.val o' k) := fun t _ t' _ h => by
  rw [Finset.disjoint_left]; intro x h1 h2
  rw [mem_row2] at h1 h2
  exact h (Fin.ext (h1.1.symm.trans h2.1))
theorem rows_cover (n n' o' k : ℕ) : ((Finset.univ : Finset (Fin n)).biUnion fun t => row2 n n' t.val o' k) = from2 n n' 0 o' k := by
  ext x
  rw [Finset.mem_biUnion, mem_from2]
  constructor
  · rintro ⟨t, -, h⟩; rw [mem_row2] at h; omega
  · rintro h; exact ⟨x 0, Finset.mem_univ _, by rw [mem_row2]; exact ⟨rfl, h.2⟩⟩

theorem segs_disjoint (n m k : ℕ) : ∀ t ∈ (Finset.univ : Finset (Fin m)), ∀ t' ∈ (Finset.univ : Finset (Fin m)), t ≠ t' →
    Disjoint (seg1 n (t.val * k) k) (seg1 n (t'.val * k) k) := fun t _ t' _ h => by
  rw [Finset.disjoint_left]; intro x h1 h2
  rw [mem_seg1] at h1 h2
  refine h (Fin.ext ?_)
  have hk : 0 < k := by omega
  have e1 : (x 0).val / k = t.val := Nat.div_eq_of_lt_le (by omega) (by rw [Nat.succ_mul]; omega)
  have e2 : (x 0).val / k = t'.val := Nat.div_eq_of_lt_le (by omega) (by rw [Nat.succ_mul]; omega)
  omega
theorem segs_cover (n m k : ℕ) (hn : n = m * k) (hk : 0 < k) :
    ((Finset.univ : Finset (Fin m)).biUnion fun t => seg1 n (t.val * k) k) = Finset.univ := by
  ext x
  have hx : (x 0).val < m * k := by rw [← hn]; exact (x 0).isLt
  simp only [Finset.mem_biUnion, Finset.mem_univ, true_and, iff_true]
  refine ⟨⟨(x 0).val / k, (Nat.div_lt_iff_lt_mul hk).mpr hx⟩, ?_⟩
  rw [mem_seg1]
  have := Nat.div_add_mod (x 0).val k
  have := Nat.mod_lt (x 0).val hk
  rw [Nat.mul_comm k] at *
  dsimp only
  omega

theorem parts_disjoint (n n' o m k : ℕ) : ∀ t ∈ (Finset.univ : Finset (Fin m)), ∀ t' ∈ (Finset.univ : Finset (Fin m)), t ≠ t' →
    Disjoint (from2 n n' o (k * t.val) k) (from2 n n' o (k * t'.val) k) := fun t _ t' _ h => by
  rw [Finset.disjoint_left]; intro x h1 h2
  rw [mem_from2] at h1 h2
  refine h (Fin.ext ?_)
  rw [Nat.mul_comm k] at h1 h2
  have e1 : (x 1).val / k = t.val := Nat.div_eq_of_lt_le (by omega) (by rw [Nat.succ_mul]; omega)
  have e2 : (x 1).val / k = t'.val := Nat.div_eq_of_lt_le (by omega) (by rw [Nat.succ_mul]; omega)
  omega
theorem parts_cover (n n' m k : ℕ) (hn : n' = m * k) (hk : 0 < k) :
    ((Finset.univ : Finset (Fin m)).biUnion fun t => from2 n n' 0 (k * t.val) k) = Finset.univ := by
  ext x
  have hx : (x 1).val < m * k := by rw [← hn]; exact (x 1).isLt
  simp only [Finset.mem_biUnion, Finset.mem_univ, true_and, iff_true]
  refine ⟨⟨(x 1).val / k, (Nat.div_lt_iff_lt_mul hk).mpr hx⟩, ?_⟩
  rw [mem_from2]
  have := Nat.div_add_mod (x 1).val k
  have := Nat.mod_lt (x 1).val hk
  dsimp only
  omega
theorem rowParts_disjoint (n n' o m k : ℕ) : ∀ t ∈ (Finset.univ : Finset (Fin m)), ∀ t' ∈ (Finset.univ : Finset (Fin m)), t ≠ t' →
    Disjoint (row2 n n' o (k * t.val) k) (row2 n n' o (k * t'.val) k) := fun t h1 t' h2 h =>
  Disjoint.mono (row2_subset _ _ _ _ _) (row2_subset _ _ _ _ _) (parts_disjoint n n' o m k t h1 t' h2 h)
theorem rowParts_cover (n n' o m k : ℕ) (hn : n' = m * k) (hk : 0 < k) :
    ((Finset.univ : Finset (Fin m)).biUnion fun t => row2 n n' o (k * t.val) k) = row2 n n' o 0 n' := by
  ext x
  have hx : (x 1).val < m * k := by rw [← hn]; exact (x 1).isLt
  have hx' : (x 1).val < n' := (x 1).isLt
  simp only [Finset.mem_biUnion, Finset.mem_univ, true_and, mem_row2]
  constructor
  · rintro ⟨t, h⟩; omega
  · rintro h
    refine ⟨⟨(x 1).val / k, (Nat.div_lt_iff_lt_mul hk).mpr hx⟩, h.1, ?_⟩
    have := Nat.div_add_mod (x 1).val k
    have := Nat.mod_lt (x 1).val hk
    dsimp only
    omega

/-! ## Views -/

section View

variable {sig' : RefSig} {κ : Kind} {sp : Space} {e : EltTy} {Val : EltTy → Type}

/-- Writing through a view what is read through it of `G` leaves `G` there. -/
theorem write_eq {s : Shape} (v : View sig' κ sp s e) (f G : v.ty.Contents Val) (w : s.Idx → Val e)
    (h : ∀ x, w x = v.read Val G x) : ∀ i ∈ v.set, v.write Val f w Finset.univ i = G i := by
  intro i hi
  obtain ⟨x, -, rfl⟩ := Finset.mem_map.mp hi
  rw [View.write_emb_of_mem (v := v) f w (Finset.mem_univ x), h, View.read_apply]
  simp

/-- The place of an element of a row's part, the row counted as a vector. -/
theorem row_emb {n n' o o' k : ℕ} (v : View sig' κ sp ⟨2, ![n, n']⟩ e)
    (h : ∀ a, (![o, o'] : Fin 2 → ℕ) a + (⟨2, ![1, k]⟩ : Shape).size a ≤ (⟨2, ![n, n']⟩ : Shape).size a)
    (hn : (⟨1, ![k]⟩ : Shape).numel = (⟨2, ![1, k]⟩ : Shape).numel) (x : (⟨1, ![k]⟩ : Shape).Idx)
    (y : (⟨2, ![n, n']⟩ : Shape).Idx) (h0 : (y 0).val = o) (h1 : (y 1).val = o' + (x 0).val) :
    ((v.slice (Rect.unit (s := ⟨2, ![n, n']⟩) ![o, o'] (⟨2, ![1, k]⟩ : Shape).size h)).reshape ⟨1, ![k]⟩ hn).emb x = v.emb y := by
  show v.emb ((Rect.unit (s := ⟨2, ![n, n']⟩) ![o, o'] (⟨2, ![1, k]⟩ : Shape).size h).emb (Shape.reshapeEquiv hn x)) = v.emb y
  congr 1
  have e : Shape.reshapeEquiv hn x = Fin.cons ⟨0, Nat.one_pos⟩ x := Shape.reshapeEquiv_cons_one hn x
  rw [e]
  funext a
  apply Fin.ext
  rw [Rect.emb_apply]
  fin_cases a
  · show o + 1 * 0 = (y 0).val
    omega
  · show o' + 1 * (x 0).val = (y 1).val
    omega

theorem row_set {n n' o o' k : ℕ} (v : View sig' κ sp ⟨2, ![n, n']⟩ e)
    (h : ∀ a, (![o, o'] : Fin 2 → ℕ) a + (⟨2, ![1, k]⟩ : Shape).size a ≤ (⟨2, ![n, n']⟩ : Shape).size a)
    (hn : (⟨1, ![k]⟩ : Shape).numel = (⟨2, ![1, k]⟩ : Shape).numel) :
    ((v.slice (Rect.unit (s := ⟨2, ![n, n']⟩) ![o, o'] (⟨2, ![1, k]⟩ : Shape).size h)).reshape ⟨1, ![k]⟩ hn).set
      = (row2 n n' o o' k).map v.emb := by
  have hb0 : o + 1 ≤ n := h 0
  have hb1 : o' + k ≤ n' := h 1
  ext i
  constructor
  · intro hi
    obtain ⟨x, -, rfl⟩ := Finset.mem_map.mp hi
    have hx : (x 0).val < k := (x 0).isLt
    rw [row_emb v h hn x (ix2 ⟨o, by omega⟩ ⟨o' + (x 0).val, by omega⟩) rfl rfl]
    refine Finset.mem_map_of_mem _ (mem_row2.mpr ⟨rfl, ?_⟩)
    show o' ≤ o' + (x 0).val ∧ o' + (x 0).val < o' + k
    omega
  · intro hi
    obtain ⟨y, hy, rfl⟩ := Finset.mem_map.mp hi
    rw [mem_row2] at hy
    rw [← row_emb v h hn (ix1 ⟨(y 1).val - o', by omega⟩) y hy.1 (by show _ = o' + ((y 1).val - o'); omega)]
    exact View.emb_mem_set _ _

/-- The place of an element of a segment. -/
theorem seg_emb {n o k : ℕ} (v : View sig' κ sp ⟨1, ![n]⟩ e)
    (h : ∀ a, (![o] : Fin 1 → ℕ) a + (⟨1, ![k]⟩ : Shape).size a ≤ (⟨1, ![n]⟩ : Shape).size a) (x : (⟨1, ![k]⟩ : Shape).Idx)
    (y : (⟨1, ![n]⟩ : Shape).Idx) (h0 : (y 0).val = o + (x 0).val) :
    (v.slice (Rect.unit (s := ⟨1, ![n]⟩) ![o] (⟨1, ![k]⟩ : Shape).size h)).emb x = v.emb y := by
  show v.emb ((Rect.unit (s := ⟨1, ![n]⟩) ![o] (⟨1, ![k]⟩ : Shape).size h).emb x) = v.emb y
  congr 1
  funext a
  apply Fin.ext
  rw [Rect.emb_apply]
  fin_cases a
  show o + 1 * (x 0).val = (y 0).val
  omega

theorem seg_set {n o k : ℕ} (v : View sig' κ sp ⟨1, ![n]⟩ e)
    (h : ∀ a, (![o] : Fin 1 → ℕ) a + (⟨1, ![k]⟩ : Shape).size a ≤ (⟨1, ![n]⟩ : Shape).size a) :
    (v.slice (Rect.unit (s := ⟨1, ![n]⟩) ![o] (⟨1, ![k]⟩ : Shape).size h)).set = (seg1 n o k).map v.emb := by
  have hb0 : o + k ≤ n := h 0
  ext i
  constructor
  · intro hi
    obtain ⟨x, -, rfl⟩ := Finset.mem_map.mp hi
    have hx : (x 0).val < k := (x 0).isLt
    rw [seg_emb v h x (ix1 ⟨o + (x 0).val, by omega⟩) rfl]
    refine Finset.mem_map_of_mem _ (mem_seg1.mpr ?_)
    show o ≤ o + (x 0).val ∧ o + (x 0).val < o + k
    omega
  · intro hi
    obtain ⟨y, hy, rfl⟩ := Finset.mem_map.mp hi
    rw [mem_seg1] at hy
    rw [← seg_emb v h (ix1 ⟨(y 0).val - o, by omega⟩) y (by show _ = o + ((y 0).val - o); omega)]
    exact View.emb_mem_set _ _

/-- The place of an element of a part of a row kept as a row. -/
theorem part_emb {n n' o o' k : ℕ} (v : View sig' κ sp ⟨2, ![n, n']⟩ e)
    (h : ∀ a, (![o, o'] : Fin 2 → ℕ) a + (⟨2, ![1, k]⟩ : Shape).size a ≤ (⟨2, ![n, n']⟩ : Shape).size a)
    (x : (⟨2, ![1, k]⟩ : Shape).Idx)
    (y : (⟨2, ![n, n']⟩ : Shape).Idx) (h0 : (y 0).val = o) (h1 : (y 1).val = o' + (x 1).val) :
    (v.slice (Rect.unit (s := ⟨2, ![n, n']⟩) ![o, o'] (⟨2, ![1, k]⟩ : Shape).size h)).emb x = v.emb y := by
  show v.emb ((Rect.unit (s := ⟨2, ![n, n']⟩) ![o, o'] (⟨2, ![1, k]⟩ : Shape).size h).emb x) = v.emb y
  congr 1
  funext a
  apply Fin.ext
  rw [Rect.emb_apply]
  fin_cases a
  · have : (x 0).val < 1 := (x 0).isLt
    show o + 1 * (x 0).val = (y 0).val
    omega
  · show o' + 1 * (x 1).val = (y 1).val
    omega

theorem part_set {n n' o o' k : ℕ} (v : View sig' κ sp ⟨2, ![n, n']⟩ e)
    (h : ∀ a, (![o, o'] : Fin 2 → ℕ) a + (⟨2, ![1, k]⟩ : Shape).size a ≤ (⟨2, ![n, n']⟩ : Shape).size a) :
    (v.slice (Rect.unit (s := ⟨2, ![n, n']⟩) ![o, o'] (⟨2, ![1, k]⟩ : Shape).size h)).set = (row2 n n' o o' k).map v.emb := by
  have hb0 : o + 1 ≤ n := h 0
  have hb1 : o' + k ≤ n' := h 1
  ext i
  constructor
  · intro hi
    obtain ⟨x, -, rfl⟩ := Finset.mem_map.mp hi
    have hx : (x 1).val < k := (x 1).isLt
    rw [part_emb v h x (ix2 ⟨o, by omega⟩ ⟨o' + (x 1).val, by omega⟩) rfl rfl]
    refine Finset.mem_map_of_mem _ (mem_row2.mpr ⟨rfl, ?_⟩)
    show o' ≤ o' + (x 1).val ∧ o' + (x 1).val < o' + k
    omega
  · intro hi
    obtain ⟨y, hy, rfl⟩ := Finset.mem_map.mp hi
    rw [mem_row2] at hy
    rw [← part_emb v h (ix2 ⟨0, Nat.one_pos⟩ ⟨(y 1).val - o', by omega⟩) y hy.1 (by show _ = o' + ((y 1).val - o'); omega)]
    exact View.emb_mem_set _ _

end View

/-! ## The body's memory references -/

section Sets

variable (i : grid0.Coords) (l : Fin 12)

/-- The tile's number. -/
abbrev tn (i : grid0.Coords) : ℕ := (i 1).val

theorem tn_lt (i : grid0.Coords) : tn i < 16 := (i 1).isLt

theorem wiresH_set : (wiresH i l).view.set = row2 12 16384 l.val (1024 * tn i) 1024 := by
  rw [← gate0_mul4_toNat i]
  exact (row_set (View.whole main_v1_scv) (wireOff_inb i l) _).trans Finset.map_refl
theorem wiresV_set : (wiresV l).view.set = seg1 12288 (l.val * 1024) 1024 :=
  (seg_set (View.whole cc0_scratch2) _).trans Finset.map_refl
theorem gatesH_set : (gatesH i l).view.set = row2 12 4096 l.val (256 * tn i) 256 := by
  rw [← gate0_toNat i]
  exact (row_set (View.whole main_arg2_scv) (gateOff_inb i l) _).trans Finset.map_refl
theorem gatesV_set : (gatesV l).view.set = seg1 3072 (l.val * 256) 256 :=
  (seg_set (View.whole cc0_scratch3) _).trans Finset.map_refl
theorem keptV_set : (keptV l).view.set = row2 12 256 l.val 0 256 :=
  (row_set (View.whole cc0_scratch4) _ _).trans Finset.map_refl
theorem keptH_set : (keptH i l).view.set = row2 12 4096 l.val (256 * tn i) 256 := by
  rw [← gate0_toNat i]
  exact (row_set (View.whole main_v5_0_scv) (gateOff_inb i l) _).trans Finset.map_refl
theorem partS_set : (partS i l).view.set = row2 2 4096 (l.val % 2) (256 * tn i) 256 := by
  rw [← gate0_toNat i]
  exact (row_set (View.whole cc0_scratch7) (slotOff_inb i l) _).trans Finset.map_refl
theorem slotS_set : (slotS l).view.set = row2 2 4096 (l.val % 2) 0 4096 :=
  (row_set (View.whole cc0_scratch7) _ _).trans Finset.map_refl

variable {F : FTy → Type} [FloatOps F] (X : Net)

/-- What each reads of its buffer's contents. -/
theorem wiresH_read (x : S1024.Idx) : (wiresH i l).view.read (Elt F) (wiresOf X) x = X.I l.val (1024 * tn i + (x 0).val) := by
  have hx : (x 0).val < 1024 := (x 0).isLt
  have ht := tn_lt i
  rw [View.read_apply, row_emb (View.whole main_v1_scv) (wireOff_inb i l) _ x
    (ix2 (⟨l.val, l.isLt⟩ : Fin 12) (⟨1024 * tn i + (x 0).val, by omega⟩ : Fin 16384)) rfl (by rw [gate0_mul4_toNat]; rfl)]
  rfl
theorem wiresV_read (x : S1024.Idx) : (wiresV l).view.read (Elt F) (idxOf X (tn i)) x = X.I l.val (1024 * tn i + (x 0).val) := by
  have hx : (x 0).val < 1024 := (x 0).isLt
  rw [View.read_apply, seg_emb (View.whole cc0_scratch2) _ x (ix1 (⟨l.val * 1024 + (x 0).val, by omega⟩ : Fin 12288)) rfl]
  show X.I ((l.val * 1024 + (x 0).val) / 1024) (1024 * tn i + (l.val * 1024 + (x 0).val) % 1024) = _
  congr 1 <;> omega
theorem gatesH_read (x : S256.Idx) : (gatesH i l).view.read (Elt F) (gatesOf X) x = X.O l.val (256 * tn i + (x 0).val) := by
  have hx : (x 0).val < 256 := (x 0).isLt
  have ht := tn_lt i
  rw [View.read_apply, row_emb (View.whole main_arg2_scv) (gateOff_inb i l) _ x
    (ix2 (⟨l.val, l.isLt⟩ : Fin 12) (⟨256 * tn i + (x 0).val, by omega⟩ : Fin 4096)) rfl (by rw [gate0_toNat]; rfl)]
  rfl
theorem gatesV_read (x : S256.Idx) : (gatesV l).view.read (Elt F) (opsOf X (tn i)) x = X.O l.val (256 * tn i + (x 0).val) := by
  have hx : (x 0).val < 256 := (x 0).isLt
  rw [View.read_apply, seg_emb (View.whole cc0_scratch3) _ x (ix1 (⟨l.val * 256 + (x 0).val, by omega⟩ : Fin 3072)) rfl]
  show X.O ((l.val * 256 + (x 0).val) / 256) (256 * tn i + (l.val * 256 + (x 0).val) % 256) = _
  congr 1 <;> omega
theorem keptV_read (x : S256.Idx) : (keptV l).view.read (Elt F) (interOf X (tn i)) x = lay X (l.val + 1) (256 * tn i + (x 0).val) := by
  have hx : (x 0).val < 256 := (x 0).isLt
  rw [View.read_apply, row_emb (o := l.val) (o' := 0) (k := 256) (View.whole cc0_scratch4) _ _ x
    (ix2 (⟨l.val, l.isLt⟩ : Fin 12) (⟨0 + (x 0).val, by omega⟩ : Fin 256)) rfl rfl]
  show lay X (l.val + 1) (256 * tn i + (0 + (x 0).val)) = _
  rw [Nat.zero_add]
theorem keptH_read (x : S256.Idx) : (keptH i l).view.read (Elt F) (resOf X) x = lay X (l.val + 1) (256 * tn i + (x 0).val) := by
  have hx : (x 0).val < 256 := (x 0).isLt
  have ht := tn_lt i
  rw [View.read_apply, row_emb (View.whole main_v5_0_scv) (gateOff_inb i l) _ x
    (ix2 (⟨l.val, l.isLt⟩ : Fin 12) (⟨256 * tn i + (x 0).val, by omega⟩ : Fin 4096)) rfl (by rw [gate0_toNat]; rfl)]
  rfl
theorem partS_read (x : S256.Idx) : (partS i l).view.read (Elt F) (slotOf X l.val) x = lay X (l.val + 1) (256 * tn i + (x 0).val) := by
  have hx : (x 0).val < 256 := (x 0).isLt
  have ht := tn_lt i
  rw [View.read_apply, row_emb (View.whole cc0_scratch7) (slotOff_inb i l) _ x
    (ix2 (⟨l.val % 2, by omega⟩ : Fin 2) (⟨256 * tn i + (x 0).val, by omega⟩ : Fin 4096)) rfl (by rw [gate0_toNat]; rfl)]
  rfl
theorem slotS_read (x : S4096.Idx) : (slotS l).view.read (Elt F) (slotOf X l.val) x = lay X (l.val + 1) (x 0).val := by
  have hx : (x 0).val < 4096 := (x 0).isLt
  rw [View.read_apply, row_emb (o := l.val % 2) (o' := 0) (k := 4096) (View.whole cc0_scratch7) _ _ x
    (ix2 (⟨l.val % 2, by omega⟩ : Fin 2) (⟨0 + (x 0).val, by omega⟩ : Fin 4096)) rfl rfl]
  show lay X (l.val + 1) (0 + (x 0).val) = _
  rw [Nat.zero_add]

end Sets

end Cert.KernelIdeal.Circuit

end
-- ==== Proof.Meet.lean ====
/-
  A barrier met many times on one counting semaphore per tile. Tile `k` of `n` meets the others `R` times: each time it signals every
  tile's semaphore once and then waits for `n` units on its own. A signal lands some time after it is given, and a tile that is past its wait may signal
  the next round's units while another has yet to consume this round's, so a cell's counter mixes rounds, and what a wait has seen is a matter of counting:

    * the rounds each tile has begun (`b k`), the rounds it has waited (`w k`) and where each single signal stands (`x (k, j, r)`: 0 not yet due, 1 given,
      2 landed) are exclusive counters, their authorities in ONE invariant with every cell's counter;
    * a tile has begun every round that any tile has passed (`Facts.past`);
    * a wait of round `r` that fires at `j` has seen `n * (r + 1)` units on its cell in all: either some tile is past round `r` already, and then every tile has
      begun it; or no tile has begun more than `r + 1` rounds, so none has given the cell more than `r + 1` units, and each has given exactly that many.

  What tile `k` hands tile `j` at round `r` is `P r k j`: laid down in the invariant when `k` begins the round, for every `j` at once, and taken by
  `j` at its wait. The last wait takes the cell's counter out at zero.
-/
module

public import Idealize.ShloMosaic.Lib.SparseCore.Ops
public import Idealize.ShloMosaic.Lib.Batch

@[expose] public section

noncomputable section

namespace Cert.Meet

open Idealize.ShloMosaic Idealize.ShloMosaic.SparseCore
open Idealize.SL Idealize.SL.RA Idealize.SL.ExclCount
open Idealize.SL.BI (sProp Storable bigSep bigSep_insert bigSep_empty bigSep_congr bigSep_mono)
open scoped Idealize.SL.BI
open Idealize.SL.BI.BIBase Idealize.SL.BI.Laws Idealize.SL.Sem Idealize.SL.ProofMode

/-! ## Counting -/

/-- One tile's signal to another at one round. -/
abbrev Sg (n R : ℕ) : Type := Fin n × Fin n × Fin R

/-- The signals of tile `k` that have landed at tile `j`. -/
def landed {n R : ℕ} (x : Sg n R → ℕ) (k j : Fin n) : ℕ := (Finset.univ.filter fun r : Fin R => x (k, j, r) = 2).card

theorem landed_le {n R : ℕ} {x : Sg n R → ℕ} {k j : Fin n} {b : ℕ} (h : ∀ r, x (k, j, r) ≠ 0 → r.val < b) : landed x k j ≤ b := by
  have hs : (Finset.univ.filter fun r : Fin R => x (k, j, r) = 2).image Fin.val ⊆ Finset.range b := by
    intro y hy
    obtain ⟨r, hr, rfl⟩ := Finset.mem_image.mp hy
    exact Finset.mem_range.mpr (h r (by rw [(Finset.mem_filter.mp hr).2]; omega))
  have := Finset.card_le_card hs
  rwa [Finset.card_image_of_injective _ Fin.val_injective, Finset.card_range] at this

theorem landed_top {n R : ℕ} (x : Sg n R → ℕ) (k j : Fin n) : landed x k j ≤ R := landed_le fun r _ => r.isLt

theorem landed_lt {n R : ℕ} {x : Sg n R → ℕ} {k j : Fin n} {r : Fin R} (h : x (k, j, r) ≠ 2) : landed x k j < R := by
  have hs : (Finset.univ.filter fun r : Fin R => x (k, j, r) = 2) ⊂ Finset.univ := by
    rw [Finset.filter_ssubset]; exact ⟨r, Finset.mem_univ r, h⟩
  simpa [landed] using Finset.card_lt_card hs

theorem landed_update {n R : ℕ} {x : Sg n R → ℕ} {k j : Fin n} {r : Fin R} (h : x (k, j, r) = 1) (k' j' : Fin n) :
    landed (Function.update x (k, j, r) 2) k' j' = landed x k' j' + if k' = k ∧ j' = j then 1 else 0 := by
  unfold landed
  by_cases hkj : k' = k ∧ j' = j
  · obtain ⟨rfl, rfl⟩ := hkj
    rw [if_pos ⟨rfl, rfl⟩]
    have : (Finset.univ.filter fun r' : Fin R => Function.update x (k', j', r) 2 (k', j', r') = 2)
        = insert r (Finset.univ.filter fun r' : Fin R => x (k', j', r') = 2) := by
      ext r'
      simp only [Finset.mem_filter, Finset.mem_univ, true_and, Finset.mem_insert]
      by_cases hr : r' = r
      · subst hr; simp
      · rw [Function.update_of_ne (by intro e; exact hr (Prod.mk.inj (Prod.mk.inj e).2).2)]; simp [hr]
    rw [this, Finset.card_insert_of_notMem (by simp [h])]
  · rw [if_neg hkj, Nat.add_zero]
    congr 1
    ext r'
    simp only [Finset.mem_filter, Finset.mem_univ, true_and]
    rw [Function.update_of_ne (by intro e; exact hkj ⟨(Prod.mk.inj e).1, (Prod.mk.inj (Prod.mk.inj e).2).1⟩)]

theorem landed_arm {n R : ℕ} {x : Sg n R → ℕ} {p : Sg n R} (h : x p = 0) (k j : Fin n) : landed (Function.update x p 1) k j = landed x k j := by
  unfold landed
  congr 1
  ext r'
  simp only [Finset.mem_filter, Finset.mem_univ, true_and]
  by_cases hp : ((k, j, r') : Sg n R) = p
  · rw [hp, Function.update_self, h]; omega
  · rw [Function.update_of_ne hp]

/-- The counts agree: each cell's value and what was waited off it are the signals that landed there; no tile has begun more than one round past its waits, nor
    more than `R`; only a begun round's signals are given; and a round passed by any tile has been begun by all. -/
structure Facts {n R : ℕ} (b w v : Fin n → ℕ) (x : Sg n R → ℕ) : Prop where
  sum : ∀ j, v j + n * w j = ∑ k, landed x k j
  hi : ∀ k, b k ≤ w k + 1
  armed : ∀ k j r, x (k, j, r) ≠ 0 → r.val < b k
  past : ∀ j k, w j ≤ b k

theorem Facts.zero (n R : ℕ) : Facts (n := n) (R := R) (fun _ => 0) (fun _ => 0) (fun _ => 0) (fun _ => 0) where
  sum := fun j => by simp [landed]
  hi := fun _ => Nat.zero_le _
  armed := fun _ _ _ h => absurd rfl h
  past := fun _ _ => le_refl _

variable {n R : ℕ} {b w v : Fin n → ℕ} {x : Sg n R → ℕ}

/-- Tile `k` begins its next round. -/
theorem Facts.begin (h : Facts b w v x) (k : Fin n) {r : ℕ} (hb : b k = r) (hw : w k = r) : Facts (Function.update b k (r + 1)) w v x where
  sum := h.sum
  hi := fun k' => by
    by_cases hk : k' = k
    · subst hk; rw [Function.update_self, hw]
    · rw [Function.update_of_ne hk]; exact h.hi k'
  armed := fun k' j r' hx => by
    have := h.armed k' j r' hx
    by_cases hk : k' = k
    · subst hk; rw [Function.update_self]; omega
    · rwa [Function.update_of_ne hk]
  past := fun j k' => by
    have := h.past j k'
    by_cases hk : k' = k
    · subst hk; rw [Function.update_self]; omega
    · rwa [Function.update_of_ne hk]

/-- A begun round's signal is given. -/
theorem Facts.arm (h : Facts b w v x) (k j : Fin n) (r : Fin R) (hb : r.val < b k) (hx : x (k, j, r) = 0) : Facts b w v (Function.update x (k, j, r) 1) where
  sum := fun j' => by rw [h.sum j']; exact Finset.sum_congr rfl fun k' _ => (landed_arm hx k' j').symm
  hi := h.hi
  armed := fun k' j' r' h' => by
    by_cases hp : ((k', j', r') : Sg n R) = (k, j, r)
    · cases hp; exact hb
    · rw [Function.update_of_ne hp] at h'; exact h.armed k' j' r' h'
  past := h.past

/-- It lands. -/
theorem Facts.land (h : Facts b w v x) (k j : Fin n) (r : Fin R) (hx : x (k, j, r) = 1) :
    Facts b w (Function.update v j (v j + 1)) (Function.update x (k, j, r) 2) where
  sum := fun j' => by
    simp only [landed_update hx, Finset.sum_add_distrib]
    rw [← h.sum j']
    by_cases hj : j' = j
    · subst hj; rw [Function.update_self]; simp; omega
    · rw [Function.update_of_ne hj]; simp [hj]
  hi := h.hi
  armed := fun k' j' r' h' => by
    by_cases hp : ((k', j', r') : Sg n R) = (k, j, r)
    · cases hp; exact h.armed k j r (by rw [hx]; omega)
    · rw [Function.update_of_ne hp] at h'; exact h.armed k' j' r' h'
  past := h.past

/-- While a signal to tile `j` has yet to land, tile `j` has not waited `R` times. -/
theorem Facts.live (h : Facts b w v x) {k j : Fin n} {r : Fin R} (hx : x (k, j, r) = 1) : w j < R := by
  by_contra hc
  have h0 := h.sum j
  have hlt : ∑ k', landed x k' j < ∑ _k' : Fin n, R :=
    Finset.sum_lt_sum (fun k' _ => landed_top x k' j) ⟨k, Finset.mem_univ _, landed_lt (r := r) (by rw [hx]; omega)⟩
  rw [Finset.sum_const, Finset.card_univ, Fintype.card_fin, smul_eq_mul] at hlt
  have : n * R ≤ n * w j := Nat.mul_le_mul_left _ (by omega)
  omega

/-- A wait of round `r` that fires at tile `j` finds that every tile has begun round `r`. -/
theorem Facts.begun (h : Facts b w v x) (j : Fin n) {r : ℕ} (hw : w j = r) (hv : n ≤ v j) (k : Fin n) : r < b k := by
  by_cases hp : ∃ k', r + 1 < b k'
  · obtain ⟨k', hk'⟩ := hp
    have h1 := h.hi k'
    have h3 := h.past k' k
    omega
  · have hall : ∀ k', b k' ≤ r + 1 := fun k' => by by_contra hc; exact hp ⟨k', by omega⟩
    by_contra hc
    have hl (k' : Fin n) : landed x k' j ≤ b k' := landed_le fun r' hr' => h.armed k' j r' hr'
    have hlt : ∑ k', landed x k' j < ∑ _k' : Fin n, (r + 1) :=
      Finset.sum_lt_sum (fun k' _ => (hl k').trans (hall k')) ⟨k, Finset.mem_univ _, (hl k).trans_lt (by omega)⟩
    rw [Finset.sum_const, Finset.card_univ, Fintype.card_fin, smul_eq_mul, Nat.mul_succ] at hlt
    have h0 := h.sum j
    rw [hw] at h0
    omega

/-- That wait, counted. -/
theorem Facts.wait (h : Facts b w v x) (j : Fin n) {r : ℕ} (hw : w j = r) (hb : b j = r + 1) (hv : n ≤ v j) :
    Facts b (Function.update w j (r + 1)) (Function.update v j (v j - n)) x where
  sum := fun j' => by
    by_cases hj : j' = j
    · subst hj; rw [Function.update_self, Function.update_self, Nat.mul_succ]; have := h.sum j'; rw [hw] at this; omega
    · rw [Function.update_of_ne hj, Function.update_of_ne hj]; exact h.sum j'
  hi := fun k => by
    by_cases hk : k = j
    · subst hk; rw [Function.update_self, hb]; omega
    · rw [Function.update_of_ne hk]; exact h.hi k
  armed := h.armed
  past := fun j' k => by
    by_cases hj : j' = j
    · subst hj; rw [Function.update_self]; exact h.begun j' hw hv k
    · rw [Function.update_of_ne hj]; exact h.past j' k

/-- The last wait leaves its cell at zero. -/
theorem Facts.last (h : Facts b w v x) (j : Fin n) {r : ℕ} (hw : w j = r) (hr : r + 1 = R) : v j - n = 0 := by
  have h0 := h.sum j
  have hle : ∑ k', landed x k' j ≤ ∑ _k' : Fin n, R := Finset.sum_le_sum fun k' _ => landed_top x k' j
  rw [Finset.sum_const, Finset.card_univ, Fintype.card_fin, smul_eq_mul] at hle
  have : n * R = n * r + n := by rw [← hr, Nat.mul_succ]
  rw [hw] at h0
  omega

/-! ## The invariant -/

variable {nD : Nat} {τ : Topo} {sg : RefSig} {Ix : Type} [DecidableEq Ix] {Val : EltTy → Type} {Name : Type} [DecidableEq Name]
variable {U : Type} [URA U] {Lvl : Type}

local notation "𝕄" => MT nD τ sg Ix Val Name U Lvl

section Sep
variable {I : Type} [DecidableEq I]

theorem bs_erase {s : Finset I} {i : I} (hi : i ∈ s) {Φ : I → sProp 𝕄} : bigSep s Φ = iprop(Φ i ∗ bigSep (s.erase i) Φ) := BI.bigSep_erase hi
theorem bs_split [Fintype I] (i : I) {Φ : I → sProp 𝕄} : bigSep Finset.univ Φ = iprop(Φ i ∗ bigSep (Finset.univ.erase i) Φ) := BI.bigSep_univ_split i
omit [DecidableEq I] in
theorem bs_sep (s : Finset I) (Φ Ψ : I → sProp 𝕄) : (bigSep s fun i => iprop(Φ i ∗ Ψ i)) = iprop(bigSep s Φ ∗ bigSep s Ψ) := BI.bigSep_sep s Φ Ψ
omit [DecidableEq I] in
theorem bs_emp (s : Finset I) : (bigSep s fun _ => (iprop(emp) : sProp 𝕄)) = iprop(emp) := BI.bigSep_emp_const s

end Sep

variable (EC : UEmb Counters (MT nD τ sg Ix Val Name U Lvl))

variable (R) (g : Fin n → GSem nD τ sg) (P : ℕ → Fin n → Fin n → sProp (MT nD τ sg Ix Val Name U Lvl))

/-- What tile `k`, having begun `b` rounds, has laid down for tile `j` and tile `j`, having waited `w` rounds, has not taken. -/
def box (k j : Fin n) (b w : ℕ) : sProp 𝕄 := bigSep (Finset.range R) fun r => if r < b ∧ w ≤ r then P r k j else iprop(emp)

/-- Tile `j`'s cell, until its last wait. -/
def held (j : Fin n) (w v : ℕ) : sProp 𝕄 := if w < R then semVal (g j) v else iprop(emp)

instance box_storable [∀ r k j, Storable (upEmb : UEmb _ 𝕄) (P r k j)] (k j : Fin n) (b w : ℕ) : Storable (upEmb : UEmb _ 𝕄) (box R P k j b w) := by
  have h (r : ℕ) : Storable (upEmb : UEmb _ 𝕄) (if r < b ∧ w ≤ r then P r k j else iprop(emp)) := by split <;> infer_instance
  unfold box; infer_instance

instance held_storable (j : Fin n) (w v : ℕ) : Storable (upEmb : UEmb _ 𝕄) (held R g j w v) := by
  unfold held; split <;> infer_instance

/-- The counters' names: rounds begun, rounds waited, each signal. -/
structure Names (n R : ℕ) where
  b : Fin n → ℕ
  w : Fin n → ℕ
  x : Sg n R → ℕ

variable {R} in
def body (γ : Names n R) : sProp 𝕄 :=
  iprop(∃ (b w v : Fin n → ℕ) (x : Sg n R → ℕ), ⌜Facts b w v x⌝ ∗ bigSep Finset.univ (fun k => countAuth EC (γ.b k) (b k))
    ∗ bigSep Finset.univ (fun k => countAuth EC (γ.w k) (w k)) ∗ bigSep Finset.univ (fun p => countAuth EC (γ.x p) (x p))
    ∗ bigSep Finset.univ (fun j => held R g j (w j) (v j)) ∗ bigSep Finset.univ fun k => bigSep Finset.univ fun j => box R P k j (b k) (w j))

instance body_storable [EC.LandsIn (upEmb : UEmb _ 𝕄)] [∀ r k j, Storable (upEmb : UEmb _ 𝕄) (P r k j)] (γ : Names n R) :
    Storable (upEmb : UEmb _ 𝕄) (body EC g P γ) := by
  unfold body countAuth; infer_instance

variable {R} in
/-- The signals of tile `k` from round `r` on, none given. -/
def due (γ : Names n R) (k : Fin n) (r : ℕ) : sProp 𝕄 :=
  bigSep (Finset.univ.filter fun r' : Fin R => r ≤ r'.val) fun r' => bigSep Finset.univ fun j => count EC (γ.x (k, j, r')) 0

variable {R} in
/-- Where tile `k` stands before round `r`. -/
def st (γ : Names n R) (k : Fin n) (r : ℕ) : sProp 𝕄 := iprop(count EC (γ.b k) r ∗ count EC (γ.w k) r ∗ due EC γ k r)

theorem due_succ (γ : Names n R) (k : Fin n) {r : ℕ} (hr : r < R) :
    (due EC γ k r : sProp 𝕄) = iprop((bigSep Finset.univ fun j => count EC (γ.x (k, j, ⟨r, hr⟩)) 0) ∗ due EC γ k (r + 1)) := by
  unfold due
  have e : (Finset.univ.filter fun r' : Fin R => r ≤ r'.val).erase ⟨r, hr⟩ = Finset.univ.filter fun r' : Fin R => r + 1 ≤ r'.val := by
    ext r'
    simp only [Finset.mem_erase, Finset.mem_filter, Finset.mem_univ, true_and, ne_eq, Fin.ext_iff]
    omega
  rw [bs_erase (i := (⟨r, hr⟩ : Fin R)) (Finset.mem_filter.mpr ⟨Finset.mem_univ _, le_refl r⟩), e]

/-! ### The boxes -/

theorem box_give (k j : Fin n) {r w : ℕ} (hr : r < R) : iprop(box R P k j r w ∗ P r k j) ⊢ (box R P k j (r + 1) w : sProp 𝕄) := by
  unfold box
  rw [bs_erase (Finset.mem_range.mpr hr), bs_erase (i := r) (Finset.mem_range.mpr hr) (Φ := fun r' => if r' < r + 1 ∧ w ≤ r' then P r' k j else iprop(emp)),
    bigSep_congr (s := (Finset.range R).erase r) (Ψ := fun r' => if r' < r ∧ w ≤ r' then P r' k j else iprop(emp))
      (Φ := fun r' => if r' < r + 1 ∧ w ≤ r' then P r' k j else iprop(emp)) fun r' hr' => by
      have hne := Finset.ne_of_mem_erase hr'
      have e : r' < r + 1 ↔ r' < r := by omega
      simp only [e]]
  iintro ⟨⟨-, Hrest⟩, HP⟩
  isplitl [HP]
  · split
    · iexact HP
    · iempintro
  · iexact Hrest

theorem box_take (k j : Fin n) {b r : ℕ} (hr : r < R) (hb : r < b) : (box R P k j b r : sProp 𝕄) ⊢ iprop(P r k j ∗ box R P k j b (r + 1)) := by
  unfold box
  rw [bs_erase (Finset.mem_range.mpr hr), bs_erase (i := r) (Finset.mem_range.mpr hr) (Φ := fun r' => if r' < b ∧ r + 1 ≤ r' then P r' k j else iprop(emp)),
    bigSep_congr (s := (Finset.range R).erase r) (Φ := fun r' => if r' < b ∧ r ≤ r' then P r' k j else iprop(emp))
      (Ψ := fun r' => if r' < b ∧ r + 1 ≤ r' then P r' k j else iprop(emp)) fun r' hr' => by
      have hne := Finset.ne_of_mem_erase hr'
      have e : r ≤ r' ↔ r + 1 ≤ r' := by omega
      simp only [e],
    if_pos ⟨hb, le_refl r⟩, if_neg (fun h => by omega)]
  iintro ⟨HP, Hrest⟩
  isplitl [HP]; · iexact HP
  isplitr; · iempintro
  iexact Hrest

theorem boxes_give (b w : Fin n → ℕ) (k : Fin n) {r : ℕ} (hr : r < R) (hb : b k = r) :
    iprop((bigSep Finset.univ fun k => bigSep Finset.univ fun j => box R P k j (b k) (w j)) ∗ bigSep Finset.univ fun j => P r k j)
      ⊢ (bigSep Finset.univ fun k' => bigSep Finset.univ fun j => box R P k' j (Function.update b k (r + 1) k') (w j) : sProp 𝕄) := by
  rw [bs_split k, bs_split k (Φ := fun k' => bigSep Finset.univ fun j => box R P k' j (Function.update b k (r + 1) k') (w j)), Function.update_self, hb,
    bigSep_congr (s := Finset.univ.erase k) (Φ := fun k' => bigSep Finset.univ fun j => box R P k' j (Function.update b k (r + 1) k') (w j))
      (Ψ := fun k' => bigSep Finset.univ fun j => box R P k' j (b k') (w j)) fun k' hk' => by rw [Function.update_of_ne (Finset.ne_of_mem_erase hk')]]
  iintro ⟨⟨Hk, Hrest⟩, HP⟩
  isplitr [Hrest]
  · iapply (show iprop((bigSep Finset.univ fun j => box R P k j r (w j)) ∗ bigSep Finset.univ fun j => P r k j)
        ⊢ (bigSep Finset.univ fun j => box R P k j (r + 1) (w j) : sProp 𝕄) from
      (Entails.of_eq (bs_sep Finset.univ _ _).symm).trans (bigSep_mono fun j _ => box_give R P k j hr))
    isplitl [Hk] <;> iassumption
  · iexact Hrest

theorem boxes_take (b w : Fin n → ℕ) (j : Fin n) {r : ℕ} (hr : r < R) (hb : ∀ k, r < b k) (hw : w j = r) :
    (bigSep Finset.univ fun k => bigSep Finset.univ fun j => box R P k j (b k) (w j) : sProp 𝕄)
      ⊢ iprop((bigSep Finset.univ fun k => P r k j)
        ∗ bigSep Finset.univ fun k => bigSep Finset.univ fun j' => box R P k j' (b k) (Function.update w j (r + 1) j')) := by
  suffices step : ∀ k : Fin n, (bigSep Finset.univ fun j => box R P k j (b k) (w j) : sProp 𝕄)
      ⊢ iprop(P r k j ∗ bigSep Finset.univ fun j' => box R P k j' (b k) (Function.update w j (r + 1) j')) from
    (bigSep_mono fun k _ => step k).trans (Entails.of_eq (bs_sep Finset.univ (fun k => P r k j) _))
  intro k
  rw [bs_split j, bs_split j (Φ := fun j' => box R P k j' (b k) (Function.update w j (r + 1) j')), Function.update_self, hw,
    bigSep_congr (s := Finset.univ.erase j) (Φ := fun j' => box R P k j' (b k) (Function.update w j (r + 1) j')) (Ψ := fun j' => box R P k j' (b k) (w j'))
      fun j' hj' => by rw [Function.update_of_ne (Finset.ne_of_mem_erase hj')]]
  iintro ⟨Hj, Hrest⟩
  ihave H := (box_take R P k j hr (hb k)) $$ Hj
  icases H with ⟨HP, Hj⟩
  isplitl [HP]; · iexact HP
  isplitl [Hj] <;> iassumption

theorem held_pick (w v : Fin n → ℕ) (j : Fin n) :
    (bigSep Finset.univ fun j => held R g j (w j) (v j) : sProp 𝕄)
      ⊢ iprop(held R g j (w j) (v j) ∗ ∀ w' v', held R g j w' v' -∗ bigSep Finset.univ fun j' => held R g j' (Function.update w j w' j') (Function.update v j v' j')) := by
  rw [bs_split j]
  iintro ⟨Hj, Hrest⟩
  isplitl [Hj]; · iexact Hj
  iintro %w' %v' Hj
  rw [bs_split j (Φ := fun j' => held R g j' (Function.update w j w' j') (Function.update v j v' j')), Function.update_self, Function.update_self,
    bigSep_congr (s := Finset.univ.erase j) (Φ := fun j' => held R g j' (Function.update w j w' j') (Function.update v j v' j')) (Ψ := fun j' => held R g j' (w j') (v j'))
      fun j' hj' => by rw [Function.update_of_ne (Finset.ne_of_mem_erase hj'), Function.update_of_ne (Finset.ne_of_mem_erase hj')]]
  isplitl [Hj] <;> iassumption

/-! ### Launch, begin, signal, wait -/

variable [Preorder Lvl]

/-- The invariant, from every cell's counter at zero. -/
theorem alloc [Infinite Name] [EC.LandsIn (upEmb : UEmb _ 𝕄)] [∀ r k j, Storable (upEmb : UEmb _ 𝕄) (P r k j)] (hR : 0 < R) {E : Set Name} :
    (bigSep Finset.univ fun j => semVal (g j) 0 : sProp 𝕄)
      ⊢ |={E}=> iprop(∃ (γ : Names n R) (κ : Name), inv κ (body EC g P γ) ∗ bigSep Finset.univ fun k => st EC γ k 0) := by
  iintro Hv
  imod (counts_alloc_family EC (Finset.univ : Finset (Fin n))) $$ [] with ⟨%γb, Hab, Hcb⟩; · iempintro
  imod (counts_alloc_family EC (Finset.univ : Finset (Fin n))) $$ [] with ⟨%γw, Haw, Hcw⟩; · iempintro
  imod (counts_alloc_family EC (Finset.univ : Finset (Sg n R))) $$ [] with ⟨%γx, Hax, Hcx⟩; · iempintro
  imod (inv_alloc (P := body EC g P ⟨γb, γw, γx⟩) (E := E)) $$ [Hv Hab Haw Hax] with ⟨%κ, Hinv⟩
  · unfold body
    iexists (fun _ => 0), (fun _ => 0), (fun _ => 0), (fun _ => 0)
    isplitr; · ipureintro; exact Facts.zero n R
    isplitl [Hab]; · iexact Hab
    isplitl [Haw]; · iexact Haw
    isplitl [Hax]; · iexact Hax
    isplitl [Hv]
    · iapply (Entails.of_eq (bigSep_congr (s := Finset.univ) (Φ := fun j => semVal (g j) 0) (Ψ := fun j => held R g j 0 0) fun j _ => by unfold held; rw [if_pos hR])); iexact Hv
    · rw [bigSep_congr (s := Finset.univ) (Ψ := fun _ => iprop(emp)) fun k _ => ?_]
      · rw [bs_emp]; iempintro
      · rw [bigSep_congr (s := Finset.univ) (Ψ := fun _ => iprop(emp)) fun j _ => ?_]
        · exact bs_emp _
        · unfold box
          rw [bigSep_congr (Ψ := fun _ => iprop(emp)) fun r _ => if_neg (fun h => by have h1 := h.1; simp at h1)]
          exact bs_emp _
  imodintro
  iexists ⟨γb, γw, γx⟩, κ
  isplitl [Hinv]; · iexact Hinv
  unfold st
  rw [bs_sep, bs_sep]
  isplitl [Hcb]; · iexact Hcb
  isplitl [Hcw]; · iexact Hcw
  iapply (Entails.of_eq (show (bigSep Finset.univ fun p => count EC (γx p) 0 : sProp 𝕄) = bigSep Finset.univ fun k => due EC ⟨γb, γw, γx⟩ k 0 from by
    rw [BI.bigSep_univ_prod]
    refine bigSep_congr fun k _ => ?_
    rw [BI.bigSep_univ_prod, BI.bigSep_univ_comm]
    unfold due
    rw [Finset.filter_true_of_mem fun _ _ => Nat.zero_le _]))
  iexact Hcx

/-- Tile `k` begins round `r`, laying down what it hands each tile. -/
theorem begin [EC.LandsIn (upEmb : UEmb _ 𝕄)] {γ : Names n R} {κ : Name} (k : Fin n) {r : ℕ} (hr : r < R) :
    iprop(inv κ (body EC g P γ) ∗ count EC (γ.b k) r ∗ count EC (γ.w k) r ∗ bigSep Finset.univ fun j => P r k j)
      ⊢ |={Set.univ}=> (iprop(count EC (γ.b k) (r + 1) ∗ count EC (γ.w k) r) : sProp 𝕄) := by
  iintro ⟨Hi, Hb, Hw, HP⟩
  imod (inv_acc (Set.mem_univ κ)) $$ Hi with ⟨HB, Hclose⟩
  unfold body
  icases HB with ⟨%b, %w, %v, %x, %hf, Hab, Haw, Hax, Hheld, Hbox⟩
  ihave H := (auths_pick EC (γ := γ.b) b k) $$ Hab
  icases H with ⟨Hak, Hab⟩
  icombine Hak Hb gives %hb
  ihave H := (auths_pick EC (γ := γ.w) w k) $$ Haw
  icases H with ⟨Hwk, Haw⟩
  icombine Hwk Hw gives %hw
  have hb' : b k = r := hb.symm
  have hw' : w k = r := hw.symm
  rw [← hb']
  imod (countAuth_count_update EC (γ := γ.b k) (n := b k) (b k + 1)) $$ [Hak Hb] with ⟨Hak, Hb⟩
  · isplitl [Hak] <;> iassumption
  ihave Hab := Hab $$ %(b k + 1) Hak
  ihave Haw := Haw $$ %(w k) Hwk
  ihave Hc := Hclose $$ [Hab Haw Hax Hheld Hbox HP]
  · iexists (Function.update b k (b k + 1)), w, v, x
    isplitr; · ipureintro; rw [hb']; exact hf.begin k hb' hw'
    isplitl [Hab]; · iexact Hab
    isplitl [Haw]
    · rw [Function.update_eq_self]; iexact Haw
    isplitl [Hax]; · iexact Hax
    isplitl [Hheld]; · iexact Hheld
    rw [hb']
    iapply (boxes_give R P b w k hr hb')
    isplitl [Hbox] <;> iassumption
  imod Hc
  imodintro
  isplitl [Hb] <;> iassumption

/-- A signal of the round begun is given, -/
theorem arm [EC.LandsIn (upEmb : UEmb _ 𝕄)] {γ : Names n R} {κ : Name} (k j : Fin n) {r : ℕ} (hr : r < R) :
    iprop(inv κ (body EC g P γ) ∗ count EC (γ.b k) (r + 1) ∗ count EC (γ.x (k, j, ⟨r, hr⟩)) 0)
      ⊢ |={Set.univ}=> (iprop(count EC (γ.b k) (r + 1) ∗ count EC (γ.x (k, j, ⟨r, hr⟩)) 1) : sProp 𝕄) := by
  iintro ⟨Hi, Hb, Hx⟩
  imod (inv_acc (Set.mem_univ κ)) $$ Hi with ⟨HB, Hclose⟩
  unfold body
  icases HB with ⟨%b, %w, %v, %x, %hf, Hab, Haw, Hax, Hheld, Hbox⟩
  ihave H := (auths_pick EC (γ := γ.b) b k) $$ Hab
  icases H with ⟨Hak, Hab⟩
  icombine Hak Hb gives %hb
  ihave H := (auths_pick EC (γ := γ.x) x (k, j, ⟨r, hr⟩)) $$ Hax
  icases H with ⟨Hxk, Hax⟩
  icombine Hxk Hx gives %hx
  rw [hx]
  imod (countAuth_count_update EC (γ := γ.x (k, j, ⟨r, hr⟩)) (n := x (k, j, ⟨r, hr⟩)) 1) $$ [Hxk Hx] with ⟨Hxk, Hx⟩
  · isplitl [Hxk] <;> iassumption
  ihave Hab := Hab $$ %(b k) Hak
  ihave Hax := Hax $$ %1 Hxk
  ihave Hc := Hclose $$ [Hab Haw Hax Hheld Hbox]
  · iexists b, w, v, (Function.update x (k, j, ⟨r, hr⟩) 1)
    isplitr; · ipureintro; exact hf.arm k j ⟨r, hr⟩ (by show r < b k; omega) hx.symm
    isplitl [Hab]
    · rw [Function.update_eq_self]; iexact Hab
    isplitl [Haw]; · iexact Haw
    isplitl [Hax]; · iexact Hax
    isplitl [Hheld] <;> iassumption
  imod Hc
  imodintro
  isplitl [Hb] <;> iassumption

/-- and lands. -/
theorem land [EC.LandsIn (upEmb : UEmb _ 𝕄)] {γ : Names n R} {κ : Name} (k j : Fin n) (r : Fin R) :
    iprop(inv κ (body EC g P γ) ∗ count EC (γ.x (k, j, r)) 1) ⊢ (landingUpdate (g j) 1 iprop(emp) : sProp 𝕄) := by
  rw [landingUpdate_def]
  iintro ⟨Hi, Hx⟩ -
  imod (inv_acc (Set.mem_univ κ)) $$ Hi with ⟨HB, Hclose⟩
  unfold body
  icases HB with ⟨%b, %w, %v, %x, %hf, Hab, Haw, Hax, Hheld, Hbox⟩
  imodintro
  rw [raiseSpec_apply]
  ihave H := (auths_pick EC (γ := γ.x) x (k, j, r)) $$ Hax
  icases H with ⟨Hxk, Hax⟩
  icombine Hxk Hx gives %hx
  have hlive := hf.live hx.symm
  ihave H := (held_pick R g w v j) $$ Hheld
  icases H with ⟨Hv, Hheld⟩
  ihave Hv := (Entails.of_eq (show held R g j (w j) (v j) = semVal (g j) (v j) by unfold held; rw [if_pos hlive])) $$ Hv
  iexists (v j)
  isplitl [Hv]; · iexact Hv
  iintro Hv
  ihave Hx := (Entails.of_eq (show count EC (γ.x (k, j, r)) 1 = count EC (γ.x (k, j, r)) (x (k, j, r)) by rw [← hx])) $$ Hx
  imod (countAuth_count_update EC (γ := γ.x (k, j, r)) (n := x (k, j, r)) 2) $$ [Hxk Hx] with ⟨Hxk, Hx⟩
  · isplitl [Hxk] <;> iassumption
  ihave Hax := Hax $$ %2 Hxk
  ihave Hheld := Hheld $$ %(w j) %(v j + 1) [Hv]
  · iapply (Entails.of_eq (show semVal (g j) (v j + 1) = held R g j (w j) (v j + 1) by unfold held; rw [if_pos hlive])); iexact Hv
  ihave Hc := Hclose $$ [Hab Haw Hax Hheld Hbox]
  · iexists b, w, (Function.update v j (v j + 1)), (Function.update x (k, j, r) 2)
    isplitr; · ipureintro; exact hf.land k j r hx.symm
    isplitl [Hab]; · iexact Hab
    isplitl [Haw]; · iexact Haw
    isplitl [Hax]; · iexact Hax
    isplitl [Hheld]
    · rw [Function.update_eq_self]; iexact Hheld
    iexact Hbox
  imod Hc
  imodintro
  iempintro

/-- Tile `j`'s wait of round `r`: what every tile laid down for it, and at the last round its own cell at zero. -/
theorem wait [EC.LandsIn (upEmb : UEmb _ 𝕄)] {γ : Names n R} {κ : Name} (j : Fin n) {r : ℕ} (hr : r < R) {K : PUnit → sProp 𝕄} :
    iprop(inv κ (body EC g P γ) ∗ count EC (γ.b j) (r + 1) ∗ count EC (γ.w j) r
        ∗ (iprop(count EC (γ.b j) (r + 1) ∗ count EC (γ.w j) (r + 1) ∗ (bigSep Finset.univ fun k => P r k j)
            ∗ (if r + 1 = R then semVal (g j) 0 else iprop(emp))) -∗ K ⟨⟩))
      ⊢ atomically frame Set.univ (lowerSpec (g j) n) K := by
  iintro ⟨Hi, Hb, Hw, HK⟩
  imod (inv_acc (Set.mem_univ κ)) $$ Hi with ⟨HB, Hclose⟩
  unfold body
  icases HB with ⟨%b, %w, %v, %x, %hf, Hab, Haw, Hax, Hheld, Hbox⟩
  imodintro
  ihave H := (auths_pick EC (γ := γ.b) b j) $$ Hab
  icases H with ⟨Hak, Hab⟩
  icombine Hak Hb gives %hb
  ihave H := (auths_pick EC (γ := γ.w) w j) $$ Haw
  icases H with ⟨Hwk, Haw⟩
  icombine Hwk Hw gives %hw
  have hb' : b j = r + 1 := hb.symm
  have hw' : w j = r := hw.symm
  ihave H := (held_pick R g w v j) $$ Hheld
  icases H with ⟨Hv, Hheld⟩
  ihave Hv := (Entails.of_eq (show held R g j (w j) (v j) = semVal (g j) (v j) by unfold held; rw [if_pos (by omega)])) $$ Hv
  iapply lowerSpec_intro $$ Hv
  iintro %hle Hv
  rw [← hw']
  imod (countAuth_count_update EC (γ := γ.w j) (n := w j) (w j + 1)) $$ [Hwk Hw] with ⟨Hwk, Hw⟩
  · isplitl [Hwk] <;> iassumption
  ihave Hab := Hab $$ %(b j) Hak
  ihave Haw := Haw $$ %(w j + 1) Hwk
  ihave H := (boxes_take R P b w j hr (hf.begun j hw' hle) hw') $$ Hbox
  icases H with ⟨HP, Hbox⟩
  ihave H := (show semVal (g j) (v j - n) ⊢ (iprop(held R g j (w j + 1) (v j - n) ∗ if w j + 1 = R then semVal (g j) 0 else iprop(emp)) : sProp 𝕄) from by
    unfold held
    by_cases hl : r + 1 = R
    · rw [if_neg (by omega), if_pos (by omega), hf.last j hw' hl]
      iintro H; isplitr; · iempintro
      iexact H
    · rw [if_pos (by omega), if_neg (by omega)]
      iintro H; isplitl [H]; · iexact H
      iempintro) $$ Hv
  icases H with ⟨Hv, Hout⟩
  ihave Hheld := Hheld $$ %(w j + 1) %(v j - n) Hv
  ihave Hc := Hclose $$ [Hab Haw Hax Hheld Hbox]
  · iexists b, (Function.update w j (w j + 1)), (Function.update v j (v j - n)), x
    isplitr; · ipureintro; rw [hw']; exact hf.wait j hw' hb' hle
    isplitl [Hab]
    · rw [Function.update_eq_self]; iexact Hab
    isplitl [Haw]; · iexact Haw
    isplitl [Hax]; · iexact Hax
    isplitl [Hheld]; · iexact Hheld
    rw [hw']; iexact Hbox
  imod Hc
  imodintro
  iapply HK
  isplitl [Hb]; · iexact Hb
  isplitl [Hw]; · iexact Hw
  rw [hw']
  isplitl [HP] <;> iassumption

/-! ## One meeting -/

section Meeting

variable {F : FTy → Type} [FloatOps F] {Λ : Labels}

local notation "𝕎" => MT nD τ sg Ix (Elt F) Name U Lvl

/-- Tile `i` meets the others for the `r`-th time: it lays down what it hands each of them and pays the units it owes each; it leaves with what each of them handed it,
    and at the last meeting with its own cell at zero. -/
theorem wp_meet (EC : UEmb Counters 𝕎) [EC.LandsIn (upEmb : UEmb _ 𝕎)] {defs : Defs nD τ sg (Elt F) Λ} (𝒱 : Variants) (bd : Option 𝒱.V)
    (P : ℕ → Fin n → Fin n → sProp 𝕎) (dv : Dev nD) {sc : Fin τ.nSC} {i : Fin τ.nSub} (bar : Sem sg) (hn : n ≤ τ.nSub) (i' : Fin n) (hi : i'.castLE hn = i)
    (hg : g = fun j : Fin n => (V dv sc (j.castLE hn), .reg bar)) {γ : Names n R} {κ : Name} {r : ℕ} (hr : r < R)
    (ι : Ix) (O : CellTallies nD τ sg Ix) (W : Waits sg Ix) {α : Type} {Q : α → sProp 𝕎} {k : PUnit → Prog (TpuEff nD τ sg (Elt F) Λ (.scVector sc i)) α} :
    iprop(inv κ (body EC g P γ) ∗ owes (V dv sc i) (O + ∑ j : Fin n, tallyAt (V dv sc (j.castLE hn), .reg bar) ι 1) W
        ∗ st EC γ i' r ∗ (bigSep Finset.univ fun j => P r i' j)
        ∗ cred (tallyAt (V dv sc i, .reg bar) ι n) ∗ MayWait (V dv sc i) (.reg bar) ι O)
      ⊢ iprop((iprop(owes (V dv sc i) O (insert (SemLoc.reg bar, ι) W) ∗ st EC γ i' (r + 1)
            ∗ (bigSep Finset.univ fun j => P r j i') ∗ (if r + 1 = R then semVal (V dv sc i, .reg bar) 0 else iprop(emp)))
          -∗ wp frame (wpE defs 𝒱 (V dv sc i) bd) Set.univ (k ⟨⟩) Q)
        -∗ wp frame (wpE defs 𝒱 (V dv sc i) bd) Set.univ (subcoreBarrier bar n hn >>= k) Q) := by
  rw [subcoreBarrier_bind, show (wp frame (wpE defs 𝒱 (V dv sc i) bd) Set.univ (.op .deviceId _) Q : sProp 𝕎) = _ from wp_deviceId 𝒱 (V dv sc i) bd Set.univ]
  unfold st
  rw [due_succ R EC γ i' hr]
  iintro ⟨#Hinv, HO, ⟨Hb, Hw, Hx, Hdue⟩, HP, Hcred, Hmw⟩ Hk
  imod (begin R EC g P i' hr) $$ [Hb Hw HP] with ⟨Hb, Hw⟩
  · isplitr; · iexact Hinv
    isplitl [Hb]; · iexact Hb
    isplitl [Hw] <;> iassumption
  have hsig : ∀ l : List (Fin n), l.Nodup →
      iprop(inv κ (body EC g P γ)
          ∗ owes (V dv sc i) (O + ∑ j ∈ l.toFinset, tallyAt (V dv sc (j.castLE hn), .reg bar) ι 1) W
          ∗ count EC (γ.b i') (r + 1) ∗ (bigSep l.toFinset fun j => count EC (γ.x (i', j, ⟨r, hr⟩)) 0)
          ∗ (iprop(owes (V dv sc i) O W ∗ count EC (γ.b i') (r + 1)) -∗ wp frame (wpE defs 𝒱 (V dv sc i) bd) Set.univ (.op (TpuEff.semWait bar n) k) Q))
        ⊢ wp frame (wpE defs 𝒱 (V dv sc i) bd) Set.univ
            (l.foldr (fun j r => .op (TpuEff.semSignal (dv, .scVector sc (j.castLE hn)) bar 1) fun _ => r) (.op (TpuEff.semWait bar n) k)) Q := by
    intro l hl
    induction l with
    | nil =>
      rw [List.toFinset_nil, List.foldr_nil, Finset.sum_empty, add_zero]
      iintro ⟨-, HO, Hb, -, Hk⟩; iapply Hk; isplitl [HO] <;> iassumption
    | cons j l ih =>
      rw [List.toFinset_cons, List.foldr_cons]
      have hj : j ∉ l.toFinset := fun h => (List.nodup_cons.mp hl).1 (List.mem_toFinset.mp h)
      rw [show (bigSep (insert j l.toFinset) fun j => count EC (γ.x (i', j, ⟨r, hr⟩)) 0 : sProp 𝕎)
          = iprop(count EC (γ.x (i', j, ⟨r, hr⟩)) 0 ∗ bigSep l.toFinset fun j => count EC (γ.x (i', j, ⟨r, hr⟩)) 0) from bigSep_insert hj, Finset.sum_insert hj]
      iintro ⟨#Hinv, HO, Hb, ⟨Hx, Hxs⟩, Hk⟩
      imod (arm R EC g P i' j hr) $$ [Hb Hx] with ⟨Hb, Hx⟩
      · isplitr; · iexact Hinv
        isplitl [Hb] <;> iassumption
      iapply (wp_semSignal (defs := defs) 𝒱 (V dv sc i) bd Set.univ (dst := V dv sc (j.castLE hn)) (sem := bar) (k' := 1) ι
          (O₀ := O + (tallyAt (V dv sc (j.castLE hn), .reg bar) ι 1 + ∑ j ∈ l.toFinset, tallyAt (V dv sc (j.castLE hn), .reg bar) ι 1))
          (O + ∑ j ∈ l.toFinset, tallyAt (V dv sc (j.castLE hn), .reg bar) ι 1)
          (by rw [add_comm (tallyAt _ _ _) _, ← add_assoc]) (W := W)) $$ HO [Hx]
      · have hl := land R EC g P (γ := γ) (κ := κ) i' j ⟨r, hr⟩
        rw [hg] at hl
        rw [hg]
        iapply hl
        isplitr; · iexact Hinv
        iexact Hx
      iintro HO
      iapply (ih (List.nodup_cons.mp hl).2)
      isplitr; · iexact Hinv
      isplitl [HO]; · iexact HO
      isplitl [Hb]; · iexact Hb
      isplitl [Hxs] <;> iassumption
  have := hsig (List.finRange n) (List.nodup_finRange n)
  rw [List.toFinset_finRange] at this
  iapply this
  isplitr; · iexact Hinv
  isplitl [HO]; · iexact HO
  isplitl [Hb]; · iexact Hb
  isplitl [Hx]; · iexact Hx
  iintro ⟨HO, Hb⟩
  iapply (wp_semWait_token 𝒱 (V dv sc i) bd Set.univ ι (O := O) (W := W)) $$ [Hcred HO Hmw]
  · isplitl [Hcred]; · iexact Hcred
    isplitl [HO] <;> iassumption
  subst hg
  subst hi
  iapply (wait R EC (fun j : Fin n => (V dv sc (j.castLE hn), .reg bar)) P (γ := γ) (κ := κ) i' hr)
  isplitr; · iexact Hinv
  isplitl [Hb]; · iexact Hb
  isplitl [Hw]; · iexact Hw
  iintro ⟨Hb, Hw, HP, Hv⟩ HO
  iapply Hk
  isplitl [HO]; · iexact HO
  isplitl [Hb Hw Hdue]
  · isplitl [Hb]; · iexact Hb
    isplitl [Hw] <;> iassumption
  isplitl [HP] <;> iassumption

end Meeting

end Cert.Meet
-- ==== Proof.Setup.lean ====
/- What the body's run is stated over: the launch's stages, one per layer; the ghost state; what a tile owes the others
   at each layer; and the rules of the body's single steps — a copy and its wait, a gather, a store. -/
module

public import proofs.«01_k».proof.Proof.Views
public import proofs.«01_k».proof.Proof.Meet
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch

@[expose] public section

noncomputable section

namespace Cert.KernelIdeal.Circuit

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Meet

variable {F : FTy → Type} [FloatOps F]

/-! ## The launch -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] in
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The stages: one per layer, all the one call's -/

@[reducible] instance stages : Blocks 1 12 where
  first := fun _ => 0
  last := fun _ => 11
  fst := fun k => if k = 0 then 0 else 12
  blk := fun _ ι => ∃ j, ι = some j
  first_le_last := fun _ => Fin.le_def.mpr (Nat.zero_le _)
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; decide
  blk_iff := fun _ ι => ⟨fun ⟨j, h⟩ => ⟨j, Fin.le_def.mpr (Nat.zero_le _), Fin.le_def.mpr (Nat.le_of_lt_succ j.isLt), h⟩,
    fun ⟨j, _, _, h⟩ => ⟨j, h⟩⟩

/-- The stage of layer `r`. -/
def stg (r : ℕ) : HIx 12 := some (Fin.ofNat 12 r)

/-! ## The ghost state -/

abbrev UH : Type := URounds (GSem nD τ sig) ℕ
abbrev UU : Type := UH × Counters

local notation "𝕄" => MT nD τ sig (HIx 12) (Elt F) ℕ UU ℕ

abbrev EH : Emb UH (MT nD τ sig (HIx 12) (Elt F) ℕ UU ℕ) := embL
abbrev EC : UEmb Counters (MT nD τ sig (HIx 12) (Elt F) ℕ UU ℕ) := countersEmb

/-! ## The tile -/

/-- The tile's thread. -/
abbrev th (d : Dev nD) (i : grid0.Coords) : Thread nD τ := V d ((i 0).castLE hcore0) ((i 1).castLE hsub0)

/-- The barrier's cell of tile `j` of the tile's SparseCore. -/
abbrev bcell (d : Dev nD) (c : Fin τ.nSC) (j : Fin (grid0.bound 1)) : GSem nD τ sig := (V d c (j.castLE hsub0), .reg sc_bar0)

omit [FloatOps F] in
theorem sc_bar0_ne_go : (sc_bar0 : Sem sig) ≠ sc_go := by decide

/-! ## The debts: a unit to every tile at each layer -/

/-- What a tile owes the others from layer `r` on. -/
def debt (d : Dev nD) (c : Fin τ.nSC) (r : ℕ) : CellTallies nD τ sig (HIx 12) :=
  ∑ k ∈ Finset.Ico r 12, ∑ j : Fin (grid0.bound 1), tallyAt (bcell d c j) (stg k) 1

theorem debt_step (d : Dev nD) (c : Fin τ.nSC) {r : ℕ} (hr : r < 12) :
    debt d c r = debt d c (r + 1) + ∑ j : Fin (grid0.bound 1), tallyAt (bcell d c j) (stg r) 1 := by
  unfold debt
  rw [Finset.sum_eq_sum_Ico_succ_bot hr, add_comm]

theorem debt_end (d : Dev nD) (c : Fin τ.nSC) : debt d c 12 = 0 := by unfold debt; rw [Finset.Ico_self, Finset.sum_empty]

theorem debt_pos {d : Dev nD} {c : Fin τ.nSC} {r : ℕ} {g : GSem nD τ sig} {ι : HIx 12} (h : 0 < debt d c r g ι) :
    ∃ k, ∃ j : Fin (grid0.bound 1), r ≤ k ∧ k < 12 ∧ g = bcell d c j ∧ ι = stg k := by
  unfold debt at h
  rw [Finset.sum_apply, Finsupp.finsetSum_apply] at h
  obtain ⟨k, hk, hi⟩ := Finset.exists_ne_zero_of_sum_ne_zero (Nat.pos_iff_ne_zero.mp h)
  rw [Finset.sum_apply, Finsupp.finsetSum_apply] at hi
  obtain ⟨j, -, hi⟩ := Finset.exists_ne_zero_of_sum_ne_zero hi
  rw [tallyAt_apply] at hi
  split at hi
  · next e => exact ⟨k, j, (Finset.mem_Ico.mp hk).1, (Finset.mem_Ico.mp hk).2, e.1, e.2⟩
  · exact absurd rfl hi

theorem debt_none (d : Dev nD) (c : Fin τ.nSC) (r : ℕ) (g : GSem nD τ sig) : debt d c r g none = 0 := by
  rcases Nat.eq_zero_or_pos (debt d c r g none) with h | h
  · exact h
  · obtain ⟨k, j, -, -, -, e⟩ := debt_pos h; exact nomatch e

theorem lev_bcell (d : Dev nD) (c : Fin τ.nSC) (j : Fin (grid0.bound 1)) {k : ℕ} (hk : k < 12) :
    (K (F := F)).lev (bcell d c j) (stg k) = 8 * k + 3 := by
  unfold stg
  rw [(K (F := F)).lev_V_reg d c (j.castLE hsub0) (show (sc_bar0 : Sem sig) ≠ (K (F := F)).go from sc_bar0_ne_go)]
  show 8 * (k % 12) + 3 = _
  rw [Nat.mod_eq_of_lt hk]

/-! ## Waits recorded -/

/-- The tile owes `O`, having waited, beyond `W`, only at its own index or at a stage. -/
def owing (t : Thread nD τ) (O : CellTallies nD τ sig (HIx 12)) (W : Waits sig (HIx 12)) : sProp 𝕄 :=
  iprop(∃ W', ⌜∀ p ∈ W', p ∈ W ∨ p.2 = none ∨ ∃ j, p.2 = some j⌝ ∗ owes t O W')

theorem owing_intro (t : Thread nD τ) (O : CellTallies nD τ sig (HIx 12)) (W : Waits sig (HIx 12)) :
    (owes t O W : sProp 𝕄) ⊢ owing (F := F) t O W := by
  unfold owing
  iintro H; iexists W; isplitr
  · ipureintro; exact fun p hp => .inl hp
  · iexact H

theorem insert_ok {W W' : Waits sig (HIx 12)} (sm : SemLoc sig) (ι : HIx 12)
    (h : ∀ p ∈ W', p ∈ W ∨ p.2 = none ∨ ∃ j, p.2 = some j) : ∀ p ∈ insert (sm, ι) W', p ∈ W ∨ p.2 = none ∨ ∃ j, p.2 = some j := by
  intro p hp
  rcases Finset.mem_insert.mp hp with rfl | hp
  · cases ι with
    | none => exact .inr (.inl rfl)
    | some j => exact .inr (.inr ⟨j, rfl⟩)
  · exact h p hp

theorem owing_insert (t : Thread nD τ) (O : CellTallies nD τ sig (HIx 12)) {W W' : Waits sig (HIx 12)} (sm : SemLoc sig) (ι : HIx 12)
    (h : ∀ p ∈ W', p ∈ W ∨ p.2 = none ∨ ∃ j, p.2 = some j) : (owes t O (insert (sm, ι) W') : sProp 𝕄) ⊢ owing (F := F) t O W := by
  unfold owing
  iintro H; iexists _; isplitr
  · ipureintro; exact insert_ok sm ι h
  · iexact H

/-! ## A copy and its wait -/

section Copy

/-- A tile's run. -/
abbrev wpT (d : Dev nD) (i : grid0.Coords) (p : TP F i) (Q : PUnit.{1} → sProp 𝕄) : sProp 𝕄 :=
  wp frame (wpE (defs₀ (F := F)) 𝒱₀ (th d i) none) Set.univ p Q

variable (d : Dev nD) (i : grid0.Coords) {O : CellTallies nD τ sig (HIx 12)} {W : Waits sig (HIx 12)}

variable {sp sp' : Space} {s : Shape} {e : EltTy} (src : Memref sig .scVector sp s e) (dst : Memref sig .scVector sp' s e) (sm : DmaSem sig)

/-- A copy begun: its delivery is the destination at what its source's contents are read as. -/
theorem copy_begin {hs : src.view.WordExact} {hd : dst.view.WordExact} {hsem : DmaTarget.Typed (nD := nD) sp (.dma sm) (DmaTarget.here (nD := nD) (τ := τ) (p := tileAt i) dst)}
    {q : PosShare TreeShare} {fs : Buf (Elt F) (src.view.loc (th d i))} {fd : Buf (Elt F) (dst.view.loc (th d i))}
    (G : Buf (Elt F) (dst.view.loc (th d i))) (hG : ∀ x, src.view.read (Elt F) fs x = dst.view.read (Elt F) G x) (hn : 0 < s.numel) {k : PUnit.{1} → TP F i} {Q : PUnit.{1} → sProp 𝕄} :
    iprop((src.view.loc (th d i) ↦[src.view.set]{q} fs) ∗ (dst.view.loc (th d i) ↦[dst.view.set]{fullShare} fd) ∗ semVal (th d i, .dma sm) 0)
      ⊢ iprop((Transfers.Flight EC (th d i) (.dma sm) none dst.view.dmaCredit
              iprop((dst.view.loc (th d i) ↦[dst.view.set]{fullShare} G) ∗ (src.view.loc (th d i) ↦[src.view.set]{q} fs)) -∗ wpT d i (k ⟨⟩) Q)
        -∗ wpT d i (.op (.enqueueDma src (.here dst) (.dma sm) hs hd hsem) k) Q) := by
  iintro ⟨Hs, Hd, Hv⟩ Hk
  iapply (Transfers.wp_dmaLocal EC 𝒱₀ (th d i) none (none : HIx 12) dst.view.dmaCredit rfl (dst.view.dmaCredit_pos hn) (Finset.Subset.refl _)) $$ [Hs Hd Hv]
  · isplitl [Hs]; · iexact Hs
    isplitl [Hd] <;> iassumption
  have e : (dst.view.loc (th d i) ↦[dst.view.set]{fullShare} (dst.view.write (Elt F) fd (ReadAs.same.apply (src.view.read (Elt F) fs)) Finset.univ) : sProp 𝕄)
      = dst.view.loc (th d i) ↦[dst.view.set]{fullShare} G := pointsTo_congr (write_eq dst.view fd G _ hG)
  rw [e]
  iexact Hk

/-- A copy's wait. -/
theorem copy_end {hs : src.view.WordExact} {hd : dst.view.WordExact} {N : ℕ} (hN : dst.view.dmaCredit = N) {D : sProp 𝕄} {k : PUnit.{1} → TP F i} {Q : PUnit.{1} → sProp 𝕄} :
    iprop(Transfers.Flight EC (th d i) (.dma sm) none N D ∗ owing (th d i) O W ∗ Transfers.MayWaits (th d i) none O)
      ⊢ iprop((iprop(D ∗ semVal (th d i, .dma sm) 0 ∗ owing (th d i) O W) -∗ wpT d i (k ⟨⟩) Q)
        -∗ wpT d i (.op (.waitDma2 sm src dst hs hd) k) Q) := by
  unfold owing
  iintro ⟨HF, ⟨%W', %hW, HO⟩, Hmw⟩ Hk
  ihave Hm := (Transfers.MayWaits.elim (SemLoc.dma sm)) $$ Hmw
  iapply (Transfers.wp_waitLocalO EC 𝒱₀ (th d i) none (none : HIx 12) hN) $$ [HF HO Hm]
  · isplitl [HF]; · iexact HF
    isplitl [HO] <;> iassumption
  iintro ⟨HD, Hv, HO⟩
  iapply Hk
  isplitl [HD]; · iexact HD
  isplitl [Hv]; · iexact Hv
  iexists (insert (SemLoc.dma sm, none) W'); isplitr
  · ipureintro; exact insert_ok (.dma sm) none hW
  · iexact HO

/-- A copy and its wait. -/
theorem copy {hs hs' : src.view.WordExact} {hd hd' : dst.view.WordExact} {hsem : DmaTarget.Typed (nD := nD) sp (.dma sm) (DmaTarget.here (nD := nD) (τ := τ) (p := tileAt i) dst)}
    {q : PosShare TreeShare} {fs : Buf (Elt F) (src.view.loc (th d i))} {fd : Buf (Elt F) (dst.view.loc (th d i))}
    (G : Buf (Elt F) (dst.view.loc (th d i))) (hG : ∀ x, src.view.read (Elt F) fs x = dst.view.read (Elt F) G x) (hn : 0 < s.numel) {k : PUnit.{1} → TP F i} {Q : PUnit.{1} → sProp 𝕄}
    {T : Finset (GSem nD τ sig)} (hT : (th d i, .dma sm) ∈ T) :
    iprop((src.view.loc (th d i) ↦[src.view.set]{q} fs) ∗ (dst.view.loc (th d i) ↦[dst.view.set]{fullShare} fd) ∗ (bigSep T fun g => semVal g 0)
        ∗ owing (th d i) O W ∗ Transfers.MayWaits (th d i) none O)
      ⊢ iprop((iprop((src.view.loc (th d i) ↦[src.view.set]{q} fs) ∗ (dst.view.loc (th d i) ↦[dst.view.set]{fullShare} G) ∗ (bigSep T fun g => semVal g 0)
          ∗ owing (th d i) O W) -∗ wpT d i (k ⟨⟩) Q)
        -∗ wpT d i (.op (.enqueueDma src (.here dst) (.dma sm) hs hd hsem) fun _ => .op (.waitDma2 sm src dst hs' hd') k) Q) := by
  rw [bs_erase hT]
  iintro ⟨Hs, Hd, ⟨Hv, HT⟩, HO, Hmw⟩ Hk
  iapply (copy_begin d i src dst sm G hG hn) $$ [Hs Hd Hv]
  · isplitl [Hs]; · iexact Hs
    isplitl [Hd] <;> iassumption
  iintro HF
  iapply (copy_end d i src dst sm rfl) $$ [HF HO Hmw]
  · isplitl [HF]; · iexact HF
    isplitl [HO] <;> iassumption
  iintro ⟨⟨Hd, Hs⟩, Hv, HO⟩
  iapply Hk
  isplitl [Hs]; · iexact Hs
  isplitl [Hd]; · iexact Hd
  isplitl [Hv HT]
  · isplitl [Hv] <;> iassumption
  iexact HO

/-- A copy of a batch begun. -/
theorem batch_begin {hs : src.view.WordExact} {hd : dst.view.WordExact} {hsem : DmaTarget.Typed (nD := nD) sp (.dma sm) (DmaTarget.here (nD := nD) (τ := τ) (p := tileAt i) dst)}
    {q : PosShare TreeShare} {fs : Buf (Elt F) (src.view.loc (th d i))} {fd : Buf (Elt F) (dst.view.loc (th d i))}
    {n j u N : ℕ} {D : Fin n → sProp 𝕄} (hN : dst.view.dmaCredit = N) (hj : j < n) (hu : u ≤ j * N)
    (G : Buf (Elt F) (dst.view.loc (th d i))) (hG : ∀ x, src.view.read (Elt F) fs x = dst.view.read (Elt F) G x)
    (hD : iprop((dst.view.loc (th d i) ↦[dst.view.set]{fullShare} G) ∗ (src.view.loc (th d i) ↦[src.view.set]{q} fs)) ⊢ D ⟨j, hj⟩)
    {k : PUnit.{1} → TP F i} {Q : PUnit.{1} → sProp 𝕄} :
    iprop((src.view.loc (th d i) ↦[src.view.set]{q} fs) ∗ (dst.view.loc (th d i) ↦[dst.view.set]{fullShare} fd)
        ∗ Transfers.Batch EC (th d i) (.dma sm) none N D j u)
      ⊢ iprop((Transfers.Batch EC (th d i) (.dma sm) none N D (j + 1) u -∗ wpT d i (k ⟨⟩) Q)
        -∗ wpT d i (.op (.enqueueDma src (.here dst) (.dma sm) hs hd hsem) k) Q) := by
  have e : (dst.view.loc (th d i) ↦[dst.view.set]{fullShare} (dst.view.write (Elt F) fd (ReadAs.same.apply (src.view.read (Elt F) fs)) Finset.univ) : sProp 𝕄)
      = dst.view.loc (th d i) ↦[dst.view.set]{fullShare} G := pointsTo_congr (write_eq dst.view fd G _ hG)
  exact Transfers.wp_dmaBatch EC 𝒱₀ (th d i) none (none : HIx 12) N hN (Finset.Subset.refl _) hj hu (by rw [e]; exact hD)

/-- A wait of a batch's that isn't its last. -/
theorem batch_wait {hs : src.view.WordExact} {hd : dst.view.WordExact} {n u N : ℕ} {D : Fin n → sProp 𝕄} (hN : dst.view.dmaCredit = N)
    (hu : u + N < N * n) {k : PUnit.{1} → TP F i} {Q : PUnit.{1} → sProp 𝕄} :
    iprop(Transfers.Batch EC (th d i) (.dma sm) none N D n u ∗ owing (th d i) O W ∗ Transfers.MayWaits (th d i) none O)
      ⊢ iprop((iprop(Transfers.Batch EC (th d i) (.dma sm) none N D n (u + N) ∗ owing (th d i) O W) -∗ wpT d i (k ⟨⟩) Q)
        -∗ wpT d i (.op (.waitDma2 sm src dst hs hd) k) Q) := by
  unfold owing
  iintro ⟨HF, ⟨%W', %hW, HO⟩, Hmw⟩ Hk
  ihave Hm := (Transfers.MayWaits.elim (SemLoc.dma sm)) $$ Hmw
  iapply (Transfers.wp_waitBatchO EC 𝒱₀ (th d i) none (none : HIx 12) hN hu) $$ [HF HO Hm]
  · isplitl [HF]; · iexact HF
    isplitl [HO] <;> iassumption
  iintro ⟨HD, HO⟩
  iapply Hk
  isplitl [HD]; · iexact HD
  iexists (insert (SemLoc.dma sm, none) W'); isplitr
  · ipureintro; exact insert_ok (.dma sm) none hW
  · iexact HO

/-- A batch's last wait. -/
theorem batch_end {hs : src.view.WordExact} {hd : dst.view.WordExact} {n u N : ℕ} {D : Fin n → sProp 𝕄} (hN : dst.view.dmaCredit = N)
    (hN0 : 0 < N) (hu : u + N = N * n) {k : PUnit.{1} → TP F i} {Q : PUnit.{1} → sProp 𝕄} :
    iprop(Transfers.Batch EC (th d i) (.dma sm) none N D n u ∗ owing (th d i) O W ∗ Transfers.MayWaits (th d i) none O)
      ⊢ iprop((iprop(bigSep Finset.univ D ∗ semVal (th d i, .dma sm) 0 ∗ owing (th d i) O W) -∗ wpT d i (k ⟨⟩) Q)
        -∗ wpT d i (.op (.waitDma2 sm src dst hs hd) k) Q) := by
  unfold owing
  iintro ⟨HF, ⟨%W', %hW, HO⟩, Hmw⟩ Hk
  ihave Hm := (Transfers.MayWaits.elim (SemLoc.dma sm)) $$ Hmw
  iapply (Transfers.wp_waitBatchLastO EC 𝒱₀ (th d i) none (none : HIx 12) hN hN0 hu) $$ [HF HO Hm]
  · isplitl [HF]; · iexact HF
    isplitl [HO] <;> iassumption
  iintro ⟨HD, Hv, HO⟩
  iapply Hk
  isplitl [HD]; · iexact HD
  isplitl [Hv]; · iexact Hv
  iexists (insert (SemLoc.dma sm, none) W'); isplitr
  · ipureintro; exact insert_ok (.dma sm) none hW
  · iexact HO

end Copy

end Cert.KernelIdeal.Circuit

end
-- ==== Proof.Layer.lean ====
/- A layer's sixteen groups of gates, run over the tile's own buffers: what the buffers hold before a group, what
   they hold after it, and the layer from the one to the other. -/
module

public import proofs.«01_k».proof.Proof.Setup

@[expose] public section

noncomputable section

namespace Cert.KernelIdeal.Circuit

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Meet

variable {F : FTy → Type} [FloatOps F]

local notation "𝕄" => MT nD τ sig (HIx 12) (Elt F) ℕ UU ℕ

variable (d : Dev nD) (i : grid0.Coords)

/-- A gather: the elements of `f` at the indices. -/
theorem gather_run {n : ℕ} {b : Memref sig .scVector .vmem ⟨1, ![n]⟩ .i32} {hb : b.view.Loads} {v : IVec S16 32}
    {K : IVec S16 32 → TP F i} {Q : PUnit.{1} → sProp 𝕄} {q : PosShare TreeShare} (f : Buf (Elt F) (b.view.loc (th d i)))
    (G : (⟨1, ![n]⟩ : Shape).Idx → BitVec 32) (hG : b.view.readAt (Elt F) (.whole _) f = G)
    (w : IVec S16 32) (hv : ∀ x, (v x).toNat < n) (hw : ∀ x, G (ix1 ⟨(v x).toNat, hv x⟩) = w x) :
    (b.view.loc (th d i) ↦{q} f)
      ⊢ iprop(((b.view.loc (th d i) ↦{q} f) -∗ wpT d i (K w) Q) -∗ wpT d i (gather i n b hb v K) Q) := by
  iintro Hb Hk
  unfold gather
  iapply (wp_assume 𝒱₀ (th d i) none Set.univ (inBuf_iff.mpr hv))
  iapply (wp_load 𝒱₀ (th d i) none Set.univ (S := Finset.univ) (Finset.subset_univ _)) $$ Hb
  iintro Hb
  have e : loadIdx (F := F) (e := .i32) (b.view.readAt (Elt F) (.whole _) f) ![v] (inBuf_iff.mpr hv) = w := by
    rw [hG]
    funext x
    rw [← hw x]
    exact congrArg G (funext fun a => by fin_cases a; rfl)
  rw [e]
  iapply Hk $$ Hb

variable (X : Net)

/-- The `a`-th bits of a group's gates. -/
def wireBits (s l g a : ℕ) : IVec S16 32 := fun x => lay X l (X.I l (4 * (256 * s + (16 * g + (x 0).val)) + a)).toNat

theorem wire_run (hX : X.Ok) (l : Fin 12) (g : Fin 16) (a : ℕ) (ha : a < 4) {K : IVec S16 32 → TP F i} {Q : PUnit.{1} → sProp 𝕄} :
    iprop((idxV.view.loc (th d i) ↦{fullShare} idxOf X (tn i)) ∗ (valsV.view.loc (th d i) ↦{fullShare} valsOf X l))
      ⊢ iprop((iprop((idxV.view.loc (th d i) ↦{fullShare} idxOf X (tn i)) ∗ (valsV.view.loc (th d i) ↦{fullShare} valsOf X l))
            -∗ wpT d i (K (wireBits X (tn i) l g a)) Q)
          -∗ wpT d i (wire i l g a (muli lanes (broadcast S16 4#32)) K) Q) := by
  iintro ⟨Hi, Hv⟩ Hk
  unfold wire
  have hx : ∀ x : S16.Idx, (x 0).val < 16 := fun x => (x 0).isLt
  have hl := l.isLt
  have hg := g.isLt
  iapply (gather_run d i (b := idxV) (idxOf X (tn i)) (idxOf X (tn i)) (Memref.readAt_whole _ _ _)
    (fun x => X.I l (4 * (256 * tn i + (16 * g + (x 0).val)) + a))
    (fun x => by rw [wireIx_apply l g a ha]; have := hx x; omega)
    (fun x => by
      have h := hx x
      show X.I _ _ = _
      simp only [ix1]
      rw [wireIx_apply l g a ha]
      congr 1 <;> omega)) $$ Hi
  iintro Hi
  iapply (gather_run d i (b := valsV) (valsOf X l) (valsOf X l) (Memref.readAt_whole _ _ _) (wireBits X (tn i) l g a)
    (fun x => hX.I _ _) (fun x => rfl)) $$ Hv
  iintro Hv
  iapply Hk
  isplitl [Hi] <;> iassumption

/-- The tile's buffers before group `g` of layer `l`. -/
def held (l g : ℕ) : sProp 𝕄 :=
  iprop((idxV.view.loc (th d i) ↦{fullShare} idxOf X (tn i)) ∗ (valsV.view.loc (th d i) ↦{fullShare} valsOf X l)
    ∗ (opsV.view.loc (th d i) ↦{fullShare} opsOf X (tn i)) ∗ (auxV.view.loc (th d i) ↦{fullShare} auxOf X)
    ∗ (∃ f : S256.Idx → BitVec 32, ⌜∀ y, (y 0).val < 16 * g → f y = newOf X (tn i) l y⌝ ∗ (newV.view.loc (th d i) ↦{fullShare} f))
    ∗ (∃ f : S12x256.Idx → BitVec 32, ⌜∀ y, (y 0).val = l → (y 1).val < 16 * g → f y = interOf X (tn i) y⌝
        ∗ (interV.view.loc (th d i) ↦[from2 12 256 l 0 256]{fullShare} f)))

/-- The operations of a group's gates, and their tables. -/
def gateOps (s l g : ℕ) : IVec S16 32 := fun x => X.O l (256 * s + (16 * g + (x 0).val))
def gateTables (s l g : ℕ) : IVec S16 32 := fun x => X.A (X.O l (256 * s + (16 * g + (x 0).val))).toNat

/-- Where a group's operations are. -/
abbrev opsR (l : Fin 12) (g : Fin 16) : Rect S3072 :=
  Rect.unit (s := S3072) ![l.val * 256 + g.val * 16] S16.size (inb1 (by omega))

theorem gateOps_read (l : Fin 12) (g : Fin 16) (x : S16.Idx) :
    (opsV.access (opsR l g)).read (Elt F) (opsOf X (tn i)) x
      = gateOps X (tn i) l g x := by
  have hx : (x 0).val < 16 := (x 0).isLt
  have hl := l.isLt
  have hg := g.isLt
  rw [View.read_apply]
  erw [seg_emb (View.whole cc0_scratch3) _ x (ix1 (⟨l.val * 256 + g.val * 16 + (x 0).val, by omega⟩ : Fin 3072)) rfl]
  show X.O ((l.val * 256 + g.val * 16 + (x 0).val) / 256) (256 * tn i + (l.val * 256 + g.val * 16 + (x 0).val) % 256) = _
  unfold gateOps
  congr 1 <;> omega

theorem gateBits_eq (s l g : ℕ) :
    gateBits (wireBits X s l g 0) (wireBits X s l g 1) (wireBits X s l g 2) (wireBits X s l g 3) (gateTables X s l g)
      = fun x => lay X (l + 1) (256 * s + (16 * g + (x 0).val)) := rfl

/-- Where a group's results go. -/
abbrev newR (g : Fin 16) : Rect S256 := Rect.unit (s := S256) ![g.val * 16] S16.size (inb1 (by omega))
abbrev keptR (l : Fin 12) (g : Fin 16) : Rect S12x256 :=
  Rect.unit (s := S12x256) ![l.val, g.val * 16] S1x16.size (inb2 (by omega) (by omega))
abbrev newG (g : Fin 16) := newV.access (newR g)
abbrev keptG (l : Fin 12) (g : Fin 16) := interV.access (keptR l g)

theorem newG_set (g : Fin 16) : (newG g).set = seg1 256 (g.val * 16) 16 :=
  (seg_set (View.whole cc0_scratch1) _).trans Finset.map_refl
theorem keptG_set (l : Fin 12) (g : Fin 16) : (keptG l g).set = row2 12 256 l.val (g.val * 16) 16 :=
  (part_set (View.whole cc0_scratch4) _).trans Finset.map_refl

/-- What a store of a group's results leaves in the layer's buffer. -/
theorem new_write (l : Fin 12) (g : Fin 16) (f : S256.Idx → BitVec 32) (hf : ∀ y, (y 0).val < 16 * g.val → f y = newOf X (tn i) l y) (y : S256.Idx)
    (hy : (y 0).val < 16 * (g.val + 1)) :
    (newG g).write (Elt F) f
      (fun x : S16.Idx => lay X (l + 1) (256 * tn i + (16 * g.val + (x 0).val))) Finset.univ y = newOf X (tn i) l y := by
  have hg := g.isLt
  by_cases h : (y 0).val < 16 * g.val
  · rw [View.write_of_not_mem]
    · exact hf y h
    · rw [View.setOn_univ, newG_set]
      intro hm
      have := (mem_seg1.mp hm).1
      omega
  · have e : y = (newG g).emb (ix1 (⟨(y 0).val - 16 * g.val, by omega⟩ : Fin 16)) :=
      (seg_emb (o := g.val * 16) (k := 16) (View.whole cc0_scratch1) _ (ix1 (⟨(y 0).val - 16 * g.val, by omega⟩ : Fin 16)) y (by show _ = g.val * 16 + ((y 0).val - 16 * g.val); omega)).symm
    conv_lhs => rw [e]
    rw [View.write_emb_of_mem _ _ (Finset.mem_univ _)]
    show lay X (l + 1) (256 * tn i + (16 * g.val + ((y 0).val - 16 * g.val))) = lay X (l + 1) (256 * tn i + (y 0).val)
    congr 2
    omega

/-- What it leaves in the kept results. -/
theorem kept_write (l : Fin 12) (g : Fin 16) (f : S12x256.Idx → BitVec 32)
    (hf : ∀ y, (y 0).val = l.val → (y 1).val < 16 * g.val → f y = interOf X (tn i) y) (y : S12x256.Idx)
    (hy0 : (y 0).val = l.val) (hy : (y 1).val < 16 * (g.val + 1)) :
    (keptG l g).write (Elt F) f
      (shapeCast S1x16 (fun x : S16.Idx => lay X (l + 1) (256 * tn i + (16 * g.val + (x 0).val))) shapeCasts_S16_S1x16) Finset.univ y
        = interOf X (tn i) y := by
  have hg := g.isLt
  by_cases h : (y 1).val < 16 * g.val
  · rw [View.write_of_not_mem]
    · exact hf y hy0 h
    · rw [View.setOn_univ, keptG_set]
      intro hm
      have := (mem_row2.mp hm).2.1
      omega
  · have e : y = (keptG l g).emb
        (ix2 (⟨0, Nat.one_pos⟩ : Fin 1) (⟨(y 1).val - 16 * g.val, by omega⟩ : Fin 16)) :=
      (part_emb (o := l.val) (o' := g.val * 16) (k := 16) (View.whole cc0_scratch4) _
        (ix2 (⟨0, Nat.one_pos⟩ : Fin 1) (⟨(y 1).val - 16 * g.val, by omega⟩ : Fin 16)) y hy0 (by show _ = g.val * 16 + ((y 1).val - 16 * g.val); omega)).symm
    conv_lhs => rw [e]
    rw [View.write_emb_of_mem _ _ (Finset.mem_univ _)]
    erw [ValueIdx.shapeCast_a_1a_apply]
    show lay X (l + 1) (256 * tn i + (16 * g.val + ((y 1).val - 16 * g.val))) = lay X ((y 0).val + 1) (256 * tn i + (y 1).val)
    rw [hy0]
    congr 2
    omega

/-- A group's results stored. -/
theorem keep_run (l : Fin 12) (g : Fin 16) {K : PUnit.{1} → TP F i} {Q : PUnit.{1} → sProp 𝕄} :
    iprop((∃ f : S256.Idx → BitVec 32, ⌜∀ y, (y 0).val < 16 * g.val → f y = newOf X (tn i) l y⌝ ∗ (newV.view.loc (th d i) ↦{fullShare} f))
        ∗ (∃ f : S12x256.Idx → BitVec 32, ⌜∀ y, (y 0).val = l.val → (y 1).val < 16 * g.val → f y = interOf X (tn i) y⌝
          ∗ (interV.view.loc (th d i) ↦[from2 12 256 l 0 256]{fullShare} f)))
      ⊢ iprop((iprop((∃ f : S256.Idx → BitVec 32, ⌜∀ y, (y 0).val < 16 * (g.val + 1) → f y = newOf X (tn i) l y⌝ ∗ (newV.view.loc (th d i) ↦{fullShare} f))
            ∗ (∃ f : S12x256.Idx → BitVec 32, ⌜∀ y, (y 0).val = l.val → (y 1).val < 16 * (g.val + 1) → f y = interOf X (tn i) y⌝
              ∗ (interV.view.loc (th d i) ↦[from2 12 256 l 0 256]{fullShare} f))) -∗ wpT d i (K ⟨⟩) Q)
          -∗ wpT d i (keep i l g (fun x : S16.Idx => lay X (l + 1) (256 * tn i + (16 * g.val + (x 0).val))) K) Q) := by
  have hset : (keptG l g).set ⊆ from2 12 256 l 0 256 := by
    have hg := g.isLt
    rw [keptG_set]
    intro x hx
    rw [mem_row2] at hx
    rw [mem_from2]
    omega
  iintro ⟨⟨%f, %hf, Hn⟩, %f', %hf', Hk⟩ HK
  unfold keep
  iapply (wp_load_rect 𝒱₀ (th d i) none Set.univ (m := newV) (r := newR g) (f := f) (S := Finset.univ) (Finset.subset_univ _)) $$ Hn
  iintro Hn
  iapply (wp_store 𝒱₀ (th d i) none Set.univ (m := newV) (r := newR g) (f := f) (S := Finset.univ) (Finset.subset_univ _)) $$ Hn
  iintro Hn
  iapply (wp_load_rect 𝒱₀ (th d i) none Set.univ (m := interV) (r := keptR l g) (f := f') (S := from2 12 256 l 0 256) hset) $$ Hk
  iintro Hk
  iapply (wp_store 𝒱₀ (th d i) none Set.univ (m := interV) (r := keptR l g) (f := f') (S := from2 12 256 l 0 256) (by rw [View.setOn_univ]; exact hset)) $$ Hk
  iintro Hk
  iapply HK
  isplitl [Hn]
  · iexists _; isplitr
    · ipureintro; exact fun y hy => new_write (F := F) i X l g f hf y hy
    · iexact Hn
  · iexists _; isplitr
    · ipureintro; exact fun y h0 hy => kept_write (F := F) i X l g f' hf' y h0 hy
    · iexact Hk

/-- A group's run. -/
theorem group_run (hX : X.Ok) (l : Fin 12) (g : Fin 16) {K : PUnit.{1} → TP F i} {Q : PUnit.{1} → sProp 𝕄} :
    held (F := F) d i X l g ⊢ iprop((held (F := F) d i X l (g + 1) -∗ wpT d i (K ⟨⟩) Q)
      -∗ wpT d i (group i (muli lanes (broadcast S16 4#32)) l g K) Q) := by
  unfold held group
  iintro ⟨Hi, Hv, Ho, Ha, Hs⟩ Hk
  iapply (wire_run d i X hX l g 0 (by omega)) $$ [Hi Hv]
  · isplitl [Hi] <;> iassumption
  iintro ⟨Hi, Hv⟩
  iapply (wire_run d i X hX l g 1 (by omega)) $$ [Hi Hv]
  · isplitl [Hi] <;> iassumption
  iintro ⟨Hi, Hv⟩
  iapply (wire_run d i X hX l g 2 (by omega)) $$ [Hi Hv]
  · isplitl [Hi] <;> iassumption
  iintro ⟨Hi, Hv⟩
  iapply (wire_run d i X hX l g 3 (by omega)) $$ [Hi Hv]
  · isplitl [Hi] <;> iassumption
  iintro ⟨Hi, Hv⟩
  iapply (wp_load_rect 𝒱₀ (th d i) none Set.univ (m := opsV) (r := opsR l g) (f := opsOf X (tn i)) (S := Finset.univ) (Finset.subset_univ _)) $$ Ho
  iintro Ho
  rw [show (opsV.access (opsR l g)).read (Elt F) (opsOf X (tn i))
    = gateOps X (tn i) l g from funext fun x => gateOps_read i X l g x]
  iapply (gather_run d i (b := auxV) (auxOf X) (auxOf X) (Memref.readAt_whole _ _ _) (gateTables X (tn i) l g)
    (fun x => hX.O _ _) (fun x => rfl)) $$ Ha
  iintro Ha
  rw [gateBits_eq]
  iapply (keep_run d i X l g) $$ Hs
  iintro Hs
  iapply Hk
  isplitl [Hi]; · iexact Hi
  isplitl [Hv]; · iexact Hv
  isplitl [Ho]; · iexact Ho
  isplitl [Ha]; · iexact Ha
  iexact Hs

/-- The groups' run, from the `16 - n`-th on. -/
theorem groups_run (hX : X.Ok) (l : Fin 12) {K : TP F i} {Q : PUnit.{1} → sProp 𝕄} : ∀ (n : ℕ) (h : n ≤ 16),
    held (F := F) d i X l (16 - n) ⊢ iprop((held (F := F) d i X l 16 -∗ wpT d i K Q)
      -∗ wpT d i (groups i (muli lanes (broadcast S16 4#32)) l n h K) Q)
  | 0, _ => by
    iintro H Hk
    iapply Hk $$ H
  | n + 1, h => by
    have e : 15 - n + 1 = 16 - n := by omega
    have e' : 16 - (n + 1) = 15 - n := by omega
    rw [e']
    iintro H Hk
    iapply (group_run d i X hX l ⟨15 - n, by omega⟩) $$ H
    iintro H
    iapply (groups_run hX l n _) $$ [H]
    · iapply (show held (F := F) d i X l (15 - n + 1) ⊢ held (F := F) d i X l (16 - n) by rw [e]) $$ H
    iexact Hk

end Cert.KernelIdeal.Circuit

end
-- ==== Proof.Share.lean ====
/- The shared memory between two layers: what a tile lays down for each tile at the barrier, and what it takes from
   each. Before the barrier of layer `r` a tile holds its own part of the layer's slot, written, and a share of the
   whole of the other slot, which it has read; after it a share of the whole of the layer's slot and its own part of the
   other, to be written next. -/
module

public import proofs.«01_k».proof.Proof.Layer

@[expose] public section

noncomputable section

namespace Cert.KernelIdeal.Circuit

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Meet

variable {F : FTy → Type} [FloatOps F]

local notation "𝕄" => MT nD τ sig (HIx 12) (Elt F) ℕ UU ℕ

/-- The number of tiles. -/
abbrev nT : ℕ := grid0.bound 1

/-- The shared memory of SparseCore `c`. -/
abbrev shLoc (d : Dev nD) (c : Fin τ.nSC) : Loc nD τ sig := (d, ⟨.shared, ⟨0, by decide⟩, c⟩)

theorem shared_loc (d : Dev nD) (i : grid0.Coords) : shared.view.loc (th d i) = shLoc d ((i 0).castLE hcore0) := rfl

/-- Tile `j`'s share of what is dealt among the tiles. -/
def lf (j : Fin nT) : PosShare TreeShare := Transfers.dealOf fullShare (Finset.univ : Finset (Fin nT)) j

section Share

variable (X : Net) (d : Dev nD) (c : Fin τ.nSC)

/-- The part of slot `s` that tile `k` writes, and the slot. -/
def part (q : PosShare TreeShare) (s : ℕ) (k : Fin nT) (f : S2x4096.Idx → BitVec 32) : sProp 𝕄 :=
  shLoc d c ↦[row2 2 4096 s (256 * k.val) 256]{q} f
def slot (q : PosShare TreeShare) (s : ℕ) (f : S2x4096.Idx → BitVec 32) : sProp 𝕄 := shLoc d c ↦[row2 2 4096 s 0 4096]{q} f

theorem part_deal (s : ℕ) (k : Fin nT) (f : S2x4096.Idx → BitVec 32) :
    (part d c fullShare s k f : sProp 𝕄) = bigSep Finset.univ fun j => part d c (lf j) s k f :=
  Transfers.pointsTo_deal (Finset.univ : Finset (Fin nT)) ⟨⟨0, by decide⟩, Finset.mem_univ _⟩ fullShare

theorem slot_parts (q : PosShare TreeShare) (s : ℕ) (f : S2x4096.Idx → BitVec 32) :
    (slot d c q s f : sProp 𝕄) = bigSep Finset.univ fun j => part d c q s j f := by
  unfold slot part
  rw [← rowParts_cover 2 4096 s nT 256 rfl (by omega)]
  exact pointsTo_biUnion (Finset.univ : Finset (Fin nT)) _ (rowParts_disjoint 2 4096 s nT 256)

/-- What tile `k` lays down for tile `j` at the barrier of layer `r`. -/
def pay : ℕ → Fin nT → Fin nT → sProp 𝕄
  | 0, k, j => part d c (lf j) 0 k (slotOf X 0)
  | r + 1, k, j => iprop(part d c (lf j) ((r + 1) % 2) k (slotOf X (r + 1)) ∗ part d c (lf k) (r % 2) j (slotOf X r))

instance pay_storable : ∀ (r : ℕ) (k j : Fin nT), Storable (upEmb : UEmb _ 𝕄) (pay (F := F) X d c r k j)
  | 0, _, _ => by simp only [pay, part]; infer_instance
  | _ + 1, _, _ => by simp only [pay, part]; infer_instance

/-- What tile `k` holds of the shared memory before layer `r`. -/
def mine : ℕ → Fin nT → sProp 𝕄
  | 0, k => iprop((∃ f, part d c fullShare 0 k f) ∗ ∃ f, part d c fullShare 1 k f)
  | r + 1, k => iprop((∃ f, part d c fullShare ((r + 1) % 2) k f) ∗ slot d c (lf k) (r % 2) (slotOf X r))

/-- What it holds at the barrier. -/
def laid : ℕ → Fin nT → sProp 𝕄
  | 0, k => iprop(part d c fullShare 0 k (slotOf X 0) ∗ ∃ f, part d c fullShare 1 k f)
  | r + 1, k => iprop(part d c fullShare ((r + 1) % 2) k (slotOf X (r + 1)) ∗ slot d c (lf k) (r % 2) (slotOf X r))

/-- What it keeps across the barrier. -/
def aside : ℕ → Fin nT → sProp 𝕄
  | 0, k => iprop(∃ f, part d c fullShare 1 k f)
  | _ + 1, _ => iprop(emp)

theorem mine_open (r : ℕ) (k : Fin nT) :
    (mine (F := F) X d c r k) ⊢ iprop((∃ f, part d c fullShare (r % 2) k f) ∗ (part d c fullShare (r % 2) k (slotOf X r) -∗ laid (F := F) X d c r k)) := by
  cases r with
  | zero =>
    simp only [mine, laid]
    iintro ⟨H, H'⟩
    isplitl [H]; · iexact H
    iintro H
    isplitl [H] <;> iassumption
  | succ r =>
    simp only [mine, laid]
    iintro ⟨H, H'⟩
    isplitl [H]; · iexact H
    iintro H
    isplitl [H] <;> iassumption

theorem laid_give (r : ℕ) (k : Fin nT) :
    (laid (F := F) X d c r k) ⊢ iprop((bigSep Finset.univ fun j => pay (F := F) X d c r k j) ∗ aside (F := F) d c r k) := by
  cases r with
  | zero =>
    simp only [laid, pay, aside]
    rw [part_deal]
  | succ r =>
    simp only [laid, pay, aside]
    rw [part_deal, slot_parts, bs_sep]
    iintro H
    isplitl [H]; · iexact H
    iempintro

theorem mine_take (r : ℕ) (k : Fin nT) :
    iprop((bigSep Finset.univ fun j => pay (F := F) X d c r j k) ∗ aside (F := F) d c r k) ⊢ (mine (F := F) X d c (r + 1) k) := by
  cases r with
  | zero =>
    simp only [mine, pay, aside]
    rw [slot_parts]
    iintro ⟨H, H'⟩
    isplitl [H'] <;> iassumption
  | succ r =>
    simp only [mine, pay, aside]
    rw [slot_parts, bs_sep, ← part_deal, show (r + 1 + 1) % 2 = r % 2 by omega]
    iintro ⟨⟨H, H'⟩, -⟩
    isplitl [H']
    · iexists _; iexact H'
    · iexact H

theorem mine_slot (r : ℕ) (k : Fin nT) :
    (mine (F := F) X d c (r + 1) k) ⊢ iprop(slot d c (lf k) (r % 2) (slotOf X r) ∗ (slot d c (lf k) (r % 2) (slotOf X r) -∗ mine (F := F) X d c (r + 1) k)) := by
  simp only [mine]
  iintro ⟨H, H'⟩
  isplitl [H']; · iexact H'
  iintro H'
  isplitl [H] <;> iassumption

end Share

end Cert.KernelIdeal.Circuit

end
-- ==== Proof.Exchange.lean ====
/- A layer of the body, from its groups to the slot read back: what the tile holds before a layer, and the layer from
   that to what it holds before the next. -/
module

public import proofs.«01_k».proof.Proof.Share

@[expose] public section

noncomputable section

namespace Cert.KernelIdeal.Circuit

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Meet

variable {F : FTy → Type} [FloatOps F]

local notation "𝕄" => MT nD τ sig (HIx 12) (Elt F) ℕ UU ℕ

variable (X : Net) (d : Dev nD) (i : grid0.Coords)

/-- The tile's number among the tiles. -/
abbrev me (i : grid0.Coords) : Fin nT := i 1
abbrev co (i : grid0.Coords) : Fin τ.nSC := (i 0).castLE hcore0

/-- The cells of the tile's semaphores that its copies use one at a time. -/
def cells (t : Thread nD τ) : Finset (GSem nD τ sig) :=
  (((((((ownCells t).erase (t, .dma cc0_scratch8.sem)).erase (t, .dma cc0_scratch9.sem)).erase (t, .dma cc0_scratch10.sem)).erase
    (t, .dma cc0_scratch11.sem)).erase (t, .dma cc0_scratch12.sem)).erase (t, .dma cc0_scratch13.sem))

theorem mem_cells (sm : DmaSem sig) (h : (SemLoc.dma sm : SemLoc sig).isScoped .scVector = true)
    (h' : sm ∉ [cc0_scratch8.sem, cc0_scratch9.sem, cc0_scratch10.sem, cc0_scratch11.sem, cc0_scratch12.sem, cc0_scratch13.sem]) :
    (th d i, SemLoc.dma sm) ∈ cells (th d i) := by
  simp only [List.mem_cons, not_or] at h'
  have ne : ∀ s : DmaSem sig, sm ≠ s → ((th d i, SemLoc.dma sm) : GSem nD τ sig) ≠ (th d i, .dma s) := fun s hs e => hs (SemLoc.dma.inj (Prod.mk.inj e).2)
  unfold cells
  refine Finset.mem_erase.mpr ⟨ne _ h'.2.2.2.2.2.1, Finset.mem_erase.mpr ⟨ne _ h'.2.2.2.2.1, Finset.mem_erase.mpr ⟨ne _ h'.2.2.2.1,
    Finset.mem_erase.mpr ⟨ne _ h'.2.2.1, Finset.mem_erase.mpr ⟨ne _ h'.2.1, Finset.mem_erase.mpr ⟨ne _ h'.1, ?_⟩⟩⟩⟩⟩⟩
  exact mem_ownCells.mpr ⟨rfl, h⟩

theorem putSem_mem (l : Fin 12) : (th d i, SemLoc.dma (putSem l).sem) ∈ cells (th d i) := by
  apply mem_cells <;> revert l <;> decide
theorem getSem_mem (l : Fin 12) : (th d i, SemLoc.dma (getSem l).sem) ∈ cells (th d i) := by
  apply mem_cells <;> revert l <;> decide
theorem outSem_lt (l : Fin 12) (h : l.val < 11) : (outSem l).sem = cc0_scratch12.sem := by
  revert l; decide

/-! ## The write-outs -/

/-- What a write-out moves. -/
abbrev wN : ℕ := (keptH i 0).view.dmaCredit

/-- What the write-out of layer `t` delivers. -/
def wD (t : Fin 12) : sProp 𝕄 :=
  iprop((interH.view.loc (th d i) ↦[row2 12 4096 t.val (256 * tn i) 256]{fullShare} resOf X)
    ∗ (interV.view.loc (th d i) ↦[row2 12 256 t.val 0 256]{fullShare} interOf X (tn i)))

instance wD_storable (t : Fin 12) : Storable (upEmb : UEmb _ 𝕄) (wD (F := F) X d i t) := by unfold wD; infer_instance

/-- The write-outs before layer `r`. -/
def outs (r : ℕ) : sProp 𝕄 :=
  if r < 12 then iprop(Transfers.Batch EC (th d i) (.dma cc0_scratch12.sem) none (wN i) (fun t : Fin 11 => wD (F := F) X d i t.castSucc) r 0
      ∗ semVal (th d i, .dma cc0_scratch13.sem) 0)
    else iprop(Transfers.Batch EC (th d i) (.dma cc0_scratch12.sem) none (wN i) (fun t : Fin 11 => wD (F := F) X d i t.castSucc) 11 0
      ∗ Transfers.Flight EC (th d i) (.dma cc0_scratch13.sem) none (wN i) (wD (F := F) X d i 11))

/-- A write-out begun. -/
theorem out_run (l : Fin 12) {K : PUnit.{1} → TP F i} {Q : PUnit.{1} → sProp 𝕄}
    {hs : (keptV l).view.WordExact} {hd : (keptH i l).view.WordExact}
    {hsem : DmaTarget.Typed (nD := nD) .vmem (.dma (outSem l).sem) (DmaTarget.here (nD := nD) (τ := τ) (p := tileAt i) (keptH i l))}
    {f : S12x4096.Idx → BitVec 32} :
    iprop((interV.view.loc (th d i) ↦[row2 12 256 l.val 0 256]{fullShare} interOf X (tn i))
        ∗ (interH.view.loc (th d i) ↦[row2 12 4096 l.val (256 * tn i) 256]{fullShare} f) ∗ outs (F := F) X d i l)
      ⊢ iprop((outs (F := F) X d i (l + 1) -∗ wpT d i (K ⟨⟩) Q)
        -∗ wpT d i (.op (.enqueueDma (keptV l) (.here (keptH i l)) (.dma (outSem l).sem) hs hd hsem) K) Q) := by
  have hG : ∀ x, (keptV l).view.read (Elt F) (interOf X (tn i)) x = (keptH i l).view.read (Elt F) (resOf X) x :=
    fun x => (keptV_read i l X x).trans (keptH_read i l X x).symm
  have hw : iprop(((keptH i l).view.loc (th d i) ↦[(keptH i l).view.set]{fullShare} resOf X)
      ∗ ((keptV l).view.loc (th d i) ↦[(keptV l).view.set]{fullShare} interOf X (tn i))) ⊢ wD (F := F) X d i l := by
    unfold wD
    rw [keptH_set, keptV_set]
  have ev : (interV.view.loc (th d i) ↦[row2 12 256 l.val 0 256]{fullShare} interOf X (tn i) : sProp 𝕄)
    = ((keptV l).view.loc (th d i) ↦[(keptV l).view.set]{fullShare} interOf X (tn i)) := by rw [keptV_set]
  have eh : (interH.view.loc (th d i) ↦[row2 12 4096 l.val (256 * tn i) 256]{fullShare} f : sProp 𝕄)
    = ((keptH i l).view.loc (th d i) ↦[(keptH i l).view.set]{fullShare} f) := by rw [keptH_set]
  rw [ev, eh]
  by_cases h : l.val < 11
  · have e : (SemLoc.dma (outSem l).sem : SemLoc sig) = .dma cc0_scratch12.sem := by rw [outSem_lt l h]
    unfold outs
    rw [if_pos l.isLt, if_pos (show l.val + 1 < 12 by omega), ← e]
    iintro ⟨Hv, Hh, Hb, Hx⟩ Hk
    iapply (batch_begin d i (keptV l) (keptH i l) (outSem l).sem (D := fun t : Fin 11 => wD (F := F) X d i t.castSucc) rfl h (Nat.zero_le _) (resOf X) hG hw) $$ [Hv Hh Hb]
    · isplitl [Hv]; · iexact Hv
      isplitl [Hh] <;> iassumption
    iintro Hb
    iapply Hk
    isplitl [Hb] <;> iassumption
  · obtain rfl : l = 11 := Fin.ext (by have := l.isLt; show l.val = 11; omega)
    unfold outs
    rw [if_pos (by decide), if_neg (by decide)]
    iintro ⟨Hv, Hh, Hb, Hx⟩ Hk
    iapply (copy_begin d i (keptV 11) (keptH i 11) (outSem 11).sem (resOf X) hG (by decide)) $$ [Hv Hh Hx]
    · isplitl [Hv]; · iexact Hv
      isplitl [Hh]; · iexact Hh
      iexact Hx
    iintro Hx
    iapply Hk
    isplitl [Hb]; · iexact Hb
    unfold wD
    rw [show (row2 12 4096 (11 : Fin 12).val (256 * tn i) 256) = (keptH i 11).view.set from (keptH_set i 11).symm,
      show (row2 12 256 (11 : Fin 12).val 0 256) = (keptV 11).view.set from (keptV_set 11).symm]
    iexact Hx

/-! ## The barrier -/

/-- The barrier's invariant on SparseCore `c`. -/
abbrev meeting (γ : Names nT 12) (κ : ℕ) (c : Fin τ.nSC) : sProp 𝕄 :=
  inv κ (Cert.Meet.body EC (fun j => bcell d c j) (fun r k j => pay (F := F) X d c r k j) γ)

/-- The credits of a tile's waits from layer `r` on. -/
def credits (r : ℕ) : sProp 𝕄 :=
  bigSep (Finset.Ico r 12) fun k => cred (tallyAt (bcell d (co i) (me i)) (stg k) nT)

theorem credits_step {r : ℕ} (hr : r < 12) :
    (credits (F := F) d i r) = iprop(cred (tallyAt (bcell d (co i) (me i)) (stg r) nT) ∗ credits (F := F) d i (r + 1)) := by
  unfold credits
  rw [bs_erase (Finset.mem_Ico.mpr ⟨le_rfl, hr⟩), show (Finset.Ico r 12).erase r = Finset.Ico (r + 1) 12 by
    ext k; simp only [Finset.mem_erase, Finset.mem_Ico]; omega]

variable {O : CellTallies nD τ sig (HIx 12)} {W : Waits sig (HIx 12)}

/-- A wait of the barrier's is below everything owed past its layer. -/
theorem bar_wait (hO : ∀ g ι, 0 < O g ι → 8 * 11 + 6 ≤ (K (F := F)).lev g ι) {r : ℕ} (hr : r < 12) :
    levAts (K (F := F)).L (K (F := F)).lev ⊢ (MayWait (th d i) (.reg sc_bar0) (stg r) (O + debt d (co i) (r + 1)) : sProp 𝕄) := by
  refine (K (F := F)).mayOwe_of_bound (thr := th d i) (8 * r + 3) (fun p hp => ?_) (fun g ι hg => ?_)
  · rw [Finset.mem_singleton] at hp
    subst hp
    exact le_of_eq (lev_bcell (F := F) d (co i) (me i) hr)
  · rw [Pi.add_apply, Finsupp.add_apply] at hg
    rcases Nat.eq_zero_or_pos (O g ι) with h | h
    · rw [h, Nat.zero_add] at hg
      obtain ⟨k, j, hk, hk', rfl, rfl⟩ := debt_pos hg
      rw [lev_bcell (F := F) d (co i) j hk']
      omega
    · exact lt_of_lt_of_le (by omega) (hO g ι h)

theorem own_waits (hO : ∀ g, O g none = 0) (r : ℕ) :
    levAts (K (F := F)).L (K (F := F)).lev ⊢ (Transfers.MayWaits (th d i) (none : HIx 12) (O + debt d (co i) r) : sProp 𝕄) :=
  (K (F := F)).mayWaits_none (thr := th d i) fun g => by rw [Pi.add_apply, Finsupp.add_apply, hO g, debt_none]

/-- The barrier of layer `r`: the tile lays down its parts and takes the others'. -/
theorem meet_run (hO : ∀ g ι, 0 < O g ι → 8 * 11 + 6 ≤ (K (F := F)).lev g ι) {γ : Names nT 12} {κ : ℕ} {r : ℕ} (hr : r < 12)
    {K' : PUnit.{1} → TP F i} {Q : PUnit.{1} → sProp 𝕄} :
    iprop(levAts (K (F := F)).L (K (F := F)).lev ∗ meeting (F := F) X d γ κ (co i)
        ∗ owing (th d i) (O + debt d (co i) r) W ∗ st EC γ (me i) r ∗ laid (F := F) X d (co i) r (me i)
        ∗ credits (F := F) d i r)
      ⊢ iprop((iprop(owing (th d i) (O + debt d (co i) (r + 1)) W ∗ st EC γ (me i) (r + 1) ∗ mine (F := F) X d (co i) (r + 1) (me i)
            ∗ credits (F := F) d i (r + 1) ∗ (if r + 1 = 12 then semVal (bcell d (co i) (me i)) 0 else iprop(emp)))
          -∗ wpT d i (K' ⟨⟩) Q)
        -∗ wpT d i ((meet (F := F) i).bind K') Q) := by
  rw [credits_step d i hr, debt_step d (co i) hr, ← add_assoc]
  unfold owing
  iintro ⟨#Hlv, #Hinv, ⟨%W', %hW, HO⟩, Hst, Hl, Hc, Hcs⟩ Hk
  ihave Hl := (laid_give X d (co i) r (me i)) $$ Hl
  icases Hl with ⟨Hp, Ha⟩
  iapply (wp_meet (R := 12) (g := fun j => bcell d (co i) j) EC 𝒱₀ none (fun r k j => pay (F := F) X d (co i) r k j) d sc_bar0 hsub0 (me i) rfl rfl hr
    (stg r) (O + debt d (co i) (r + 1)) W' (k := K')) $$ [HO Hst Hp Hc]
  · isplitr; · iexact Hinv
    isplitl [HO]; · iexact HO
    isplitl [Hst]; · iexact Hst
    isplitl [Hp]; · iexact Hp
    isplitl [Hc]; · iexact Hc
    iapply (bar_wait d i hO hr) $$ Hlv
  iintro ⟨HO, Hst, Hp, Hv⟩
  iapply Hk
  isplitl [HO]
  · iexists (insert (SemLoc.reg sc_bar0, stg r) W'); isplitr
    · ipureintro; exact insert_ok _ _ hW
    · iexact HO
  isplitl [Hst]; · iexact Hst
  isplitl [Hp Ha]
  · iapply (mine_take X d (co i) r (me i))
    isplitl [Hp] <;> iassumption
  isplitl [Hcs]; · iexact Hcs
  iexact Hv

/-! ## A layer -/

theorem whole_new : newV.view.set = Finset.univ := View.set_whole _
theorem whole_vals : valsV.view.set = Finset.univ := View.set_whole _

theorem part_view (q : PosShare TreeShare) (l : Fin 12) (f : S2x4096.Idx → BitVec 32) :
    ((partS i l).view.loc (th d i) ↦[(partS i l).view.set]{q} f : sProp 𝕄) = part d (co i) q (l.val % 2) (me i) f := by
  unfold part; rw [partS_set]; rfl
theorem slot_view (q : PosShare TreeShare) (l : Fin 12) (f : S2x4096.Idx → BitVec 32) :
    ((slotS l).view.loc (th d i) ↦[(slotS l).view.set]{q} f : sProp 𝕄) = slot d (co i) q (l.val % 2) f := by
  unfold slot; rw [slotS_set]; rfl

/-- What the tile holds before layer `r`. -/
def stand (O : CellTallies nD τ sig (HIx 12)) (W : Waits sig (HIx 12)) (γ : Names nT 12) (r : ℕ) : sProp 𝕄 :=
  iprop(held (F := F) d i X r 0
    ∗ (∃ f : S12x4096.Idx → BitVec 32, interH.view.loc (th d i) ↦[from2 12 4096 r (256 * tn i) 256]{fullShare} f)
    ∗ outs (F := F) X d i r ∗ mine (F := F) X d (co i) r (me i) ∗ st EC γ (me i) r ∗ credits (F := F) d i r
    ∗ (bigSep (cells (th d i)) fun g => semVal g 0) ∗ owing (th d i) (O + debt d (co i) r) W
    ∗ (if r = 12 then semVal (bcell d (co i) (me i)) 0 else iprop(emp)))

/-- A layer's run. -/
theorem layer_run (hX : X.Ok) (hO0 : ∀ g, O g none = 0) (hO : ∀ g ι, 0 < O g ι → 8 * 11 + 6 ≤ (K (F := F)).lev g ι) {γ : Names nT 12} {κ : ℕ}
    (l : Fin 12) {K' : TP F i} {Q : PUnit.{1} → sProp 𝕄} :
    iprop(levAts (K (F := F)).L (K (F := F)).lev ∗ meeting (F := F) X d γ κ (co i) ∗ stand (F := F) X d i O W γ l)
      ⊢ iprop((stand (F := F) X d i O W γ (l + 1) -∗ wpT d i K' Q)
        -∗ wpT d i (groups i (muli lanes (broadcast S16 4#32)) l 16 le_rfl <|
            put i l fun _ => (meet i).bind fun _ => get i l fun _ => K') Q) := by
  unfold stand
  iintro ⟨#Hlv, #Hinv, Hh, ⟨%fh, Hih⟩, Hout, Hm, Hst, Hc, HT, HO, -⟩ Hk
  ihave #Hmw := (own_waits (F := F) d i hO0 l) $$ Hlv
  ihave #Hmw' := (own_waits (F := F) d i hO0 (l + 1)) $$ Hlv
  iapply (groups_run d i X hX l 16 le_rfl) $$ Hh
  unfold held
  iintro ⟨Hidx, Hvals, Hops, Haux, ⟨%f, %hf, Hnew⟩, ⟨%f', %hf', Hint⟩⟩
  obtain rfl : f = newOf X (tn i) l := funext fun y => hf y (by have : (y 0).val < 256 := (y 0).isLt; omega)
  -- the part put into the slot
  unfold put
  ihave Hm := (mine_open X d (co i) l (me i)) $$ Hm
  icases Hm with ⟨⟨%fs, Hpart⟩, Hm⟩
  ihave Hpart := (Entails.of_eq (part_view (F := F) d i fullShare l fs).symm) $$ Hpart
  ihave Hnew := (Entails.of_eq (show (newV.view.loc (th d i) ↦{fullShare} newOf X (tn i) l : sProp 𝕄)
    = (newV.view.loc (th d i) ↦[newV.view.set]{fullShare} newOf X (tn i) l) by rw [whole_new])) $$ Hnew
  iapply (copy (F := F) d i newV (partS i l) (putSem l).sem (fs := newOf X (tn i) l) (slotOf X l)
    (fun x => (partS_read (F := F) i l X x).symm) (by decide) (putSem_mem d i l)) $$ [Hnew Hpart HT HO]
  · isplitl [Hnew]; · iexact Hnew
    isplitl [Hpart]; · iexact Hpart
    isplitl [HT]; · iexact HT
    isplitl [HO]; · iexact HO
    iexact Hmw
  iintro ⟨Hnew, Hpart, HT, HO⟩
  ihave Hpart := (Entails.of_eq (part_view (F := F) d i fullShare l (slotOf X l))) $$ Hpart
  -- the write-out begun
  ihave Hint := (pointsTo_split_subset (row2_subset 12 256 l.val 0 256)).1 $$ Hint
  icases Hint with ⟨Hrow, Hint⟩
  ihave Hih := (pointsTo_split_subset (row2_subset 12 4096 l.val (256 * tn i) 256)).1 $$ Hih
  icases Hih with ⟨Hhrow, Hih⟩
  rw [from2_sdiff, from2_sdiff]
  ihave Hrow := (Entails.of_eq (pointsTo_congr (f := f') (g := interOf X (tn i)) (fun y hy => by
    have := mem_row2.mp hy
    exact hf' y this.1 (by omega)))) $$ Hrow
  iapply (out_run X d i l) $$ [Hrow Hhrow Hout]
  · isplitl [Hrow]; · iexact Hrow
    isplitl [Hhrow]; · iexact Hhrow
    iexact Hout
  iintro Hout
  -- the barrier
  ihave Hm := Hm $$ Hpart
  iapply (meet_run X d i hO l.isLt) $$ [HO Hst Hm Hc]
  · isplitr; · iexact Hlv
    isplitr; · iexact Hinv
    isplitl [HO]; · iexact HO
    isplitl [Hst]; · iexact Hst
    isplitl [Hm] <;> iassumption
  iintro ⟨HO, Hst, Hm, Hc, Hbar⟩
  -- the slot read back
  unfold get
  ihave Hm := (mine_slot X d (co i) l (me i)) $$ Hm
  icases Hm with ⟨Hslot, Hm⟩
  ihave Hslot := (Entails.of_eq (slot_view (F := F) d i (lf (me i)) l (slotOf X l)).symm) $$ Hslot
  ihave Hvals := (Entails.of_eq (show (valsV.view.loc (th d i) ↦{fullShare} valsOf X l : sProp 𝕄)
    = (valsV.view.loc (th d i) ↦[valsV.view.set]{fullShare} valsOf X l) by rw [whole_vals])) $$ Hvals
  iapply (copy (F := F) d i (slotS l) valsV (getSem l).sem (fs := slotOf X l) (valsOf X (l + 1))
    (fun x => slotS_read l X x) (by decide) (getSem_mem d i l)) $$ [Hslot Hvals HT HO]
  · isplitl [Hslot]; · iexact Hslot
    isplitl [Hvals]; · iexact Hvals
    isplitl [HT]; · iexact HT
    isplitl [HO]; · iexact HO
    iexact Hmw'
  iintro ⟨Hslot, Hvals, HT, HO⟩
  ihave Hslot := (Entails.of_eq (slot_view (F := F) d i (lf (me i)) l (slotOf X l))) $$ Hslot
  ihave Hm := Hm $$ Hslot
  rw [whole_vals, whole_new]
  iapply Hk
  isplitl [Hidx Hvals Hops Haux Hnew Hint]
  · isplitl [Hidx]; · iexact Hidx
    isplitl [Hvals]; · iexact Hvals
    isplitl [Hops]; · iexact Hops
    isplitl [Haux]; · iexact Haux
    isplitl [Hnew]
    · iexists _; isplitr
      swap; · iexact Hnew
      ipureintro; exact fun y hy => absurd hy (by omega)
    · iexists _; isplitr
      swap; · iexact Hint
      ipureintro; exact fun y _ hy => absurd hy (by omega)
  isplitl [Hih]; · iexists _; iexact Hih
  isplitl [Hout]; · iexact Hout
  isplitl [Hm]; · iexact Hm
  isplitl [Hst]; · iexact Hst
  isplitl [Hc]; · iexact Hc
  isplitl [HT]; · iexact HT
  isplitl [HO]; · iexact HO
  iexact Hbar

/-- The layers' run, from layer `12 - n` on. -/
theorem layers_run (hX : X.Ok) (hO0 : ∀ g, O g none = 0) (hO : ∀ g ι, 0 < O g ι → 8 * 11 + 6 ≤ (K (F := F)).lev g ι) {γ : Names nT 12} {κ : ℕ}
    {K' : TP F i} {Q : PUnit.{1} → sProp 𝕄} : ∀ (n : ℕ) (h : n ≤ 12),
    iprop(levAts (K (F := F)).L (K (F := F)).lev ∗ meeting (F := F) X d γ κ (co i) ∗ stand (F := F) X d i O W γ (12 - n))
      ⊢ iprop((stand (F := F) X d i O W γ 12 -∗ wpT d i K' Q)
        -∗ wpT d i (layers i (muli lanes (broadcast S16 4#32)) n h K') Q)
  | 0, _ => by
    iintro ⟨-, -, H⟩ Hk
    iapply Hk $$ H
  | n + 1, h => by
    have e : 11 - n + 1 = 12 - n := by omega
    have e' : 12 - (n + 1) = 11 - n := by omega
    rw [e']
    iintro ⟨#Hlv, #Hinv, H⟩ Hk
    iapply (layer_run X d i hX hO0 hO (γ := γ) (κ := κ) ⟨11 - n, by omega⟩) $$ [H]
    · isplitr; · iexact Hlv
      isplitr; · iexact Hinv
      iexact H
    iintro H
    iapply (layers_run hX hO0 hO n _) $$ [H]
    · isplitr; · iexact Hlv
      isplitr; · iexact Hinv
      iapply (show stand (F := F) X d i O W γ (11 - n + 1) ⊢ stand (F := F) X d i O W γ (12 - n) by rw [e]) $$ H
    iexact Hk

end Cert.KernelIdeal.Circuit

end
-- ==== Proof.Body.lean ====
/- The body's run: the inputs' copies, the layers, the write-outs' waits and the last gate, from what the launch hands a
   tile to what the tile hands back. -/
module

public import proofs.«01_k».proof.Proof.Exchange

@[expose] public section

noncomputable section

namespace Cert.KernelIdeal.Circuit

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Meet

variable {F : FTy → Type} [FloatOps F]

local notation "𝕄" => MT nD τ sig (HIx 12) (Elt F) ℕ UU ℕ

variable (X : Net) (d : Dev nD) (i : grid0.Coords)
variable {O : CellTallies nD τ sig (HIx 12)} {W : Waits sig (HIx 12)}

/-! ## A batch's waits, one after another -/

/-- A batch of `n` copies, all begun, after `m` waits. -/
def due (sm : DmaSem sig) {n : ℕ} (N : ℕ) (D : Fin n → sProp 𝕄) (m : ℕ) : sProp 𝕄 :=
  if m < n then Transfers.Batch EC (th d i) (.dma sm) none N D n (m * N)
  else iprop(bigSep Finset.univ D ∗ semVal (th d i, .dma sm) 0)

theorem due_none (sm : DmaSem sig) {n : ℕ} (N : ℕ) (D : Fin n → sProp 𝕄) (hn : 0 < n) :
    due d i sm N D 0 = Transfers.Batch EC (th d i) (.dma sm) none N D n 0 := by unfold due; rw [if_pos hn, Nat.zero_mul]
theorem due_all (sm : DmaSem sig) {n : ℕ} (N : ℕ) (D : Fin n → sProp 𝕄) :
    due d i sm N D n = iprop(bigSep Finset.univ D ∗ semVal (th d i, .dma sm) 0) := by unfold due; rw [if_neg (lt_irrefl _)]

theorem due_run {sp sp' : Space} {s : Shape} {e : EltTy} (src : Memref sig .scVector sp s e) (dst : Memref sig .scVector sp' s e) (sm : DmaSem sig)
    {hs : src.view.WordExact} {hd : dst.view.WordExact} {n m N : ℕ} {D : Fin n → sProp 𝕄} (hN : dst.view.dmaCredit = N) (hN0 : 0 < N) (hm : m < n)
    {k : PUnit.{1} → TP F i} {Q : PUnit.{1} → sProp 𝕄} :
    iprop(due d i sm N D m ∗ owing (th d i) O W ∗ Transfers.MayWaits (th d i) none O)
      ⊢ iprop((iprop(due d i sm N D (m + 1) ∗ owing (th d i) O W) -∗ wpT d i (k ⟨⟩) Q)
        -∗ wpT d i (.op (.waitDma2 sm src dst hs hd) k) Q) := by
  unfold due
  rw [if_pos hm]
  have e : m * N + N = (m + 1) * N := (Nat.succ_mul m N).symm
  by_cases h : m + 1 < n
  · rw [if_pos h, ← e]
    exact batch_wait d i src dst sm hN (by rw [e, Nat.mul_comm N]; exact Nat.mul_lt_mul_of_pos_right h hN0)
  · rw [if_neg h]
    iintro H Hk
    iapply (batch_end d i src dst sm hN hN0 (by rw [e, Nat.mul_comm N, show m + 1 = n by omega])) $$ H
    iintro ⟨H, H', HO⟩
    iapply Hk
    isplitl [H H']
    · isplitl [H] <;> iassumption
    iexact HO

/-! ## The copies of the wires and the operations -/

/-- What a copy of each kind moves. -/
abbrev wiresN : ℕ := (wiresV 0).view.dmaCredit
abbrev gatesN : ℕ := (gatesV 0).view.dmaCredit

theorem wires_credit (l : Fin 12) : (wiresV l).view.dmaCredit = wiresN := rfl
theorem gates_credit (l : Fin 12) : (gatesV l).view.dmaCredit = gatesN := rfl
theorem kept_credit (l : Fin 12) : (keptH i l).view.dmaCredit = wN i := rfl
theorem wiresN_pos : 0 < wiresN := View.dmaCredit_pos _ (by decide)
theorem gatesN_pos : 0 < gatesN := View.dmaCredit_pos _ (by decide)
theorem wN_pos : 0 < wN i := View.dmaCredit_pos _ (by decide)

/-- What each delivers. -/
def wiresD (t : Fin 12) : sProp 𝕄 := idxV.view.loc (th d i) ↦[seg1 12288 (t.val * 1024) 1024]{fullShare} idxOf X (tn i)
def gatesD (t : Fin 12) : sProp 𝕄 := opsV.view.loc (th d i) ↦[seg1 3072 (t.val * 256) 256]{fullShare} opsOf X (tn i)

instance wiresD_storable (t : Fin 12) : Storable (upEmb : UEmb _ 𝕄) (wiresD (F := F) X d i t) := by unfold wiresD; infer_instance
instance gatesD_storable (t : Fin 12) : Storable (upEmb : UEmb _ 𝕄) (gatesD (F := F) X d i t) := by unfold gatesD; infer_instance

theorem wires_join : (bigSep Finset.univ (wiresD (F := F) X d i)) = (idxV.view.loc (th d i) ↦{fullShare} idxOf X (tn i) : sProp 𝕄) := by
  unfold wiresD
  rw [← pointsTo_biUnion (Finset.univ : Finset (Fin 12)) _ (segs_disjoint 12288 12 1024), segs_cover 12288 12 1024 rfl (by omega)]
theorem gates_join : (bigSep Finset.univ (gatesD (F := F) X d i)) = (opsV.view.loc (th d i) ↦{fullShare} opsOf X (tn i) : sProp 𝕄) := by
  unfold gatesD
  rw [← pointsTo_biUnion (Finset.univ : Finset (Fin 12)) _ (segs_disjoint 3072 12 256), segs_cover 3072 12 256 rfl (by omega)]

variable (q : PosShare TreeShare)

/-- The copies begun, of the layers below `m`. -/
def fetched (m : ℕ) : sProp 𝕄 :=
  iprop((idxsH.view.loc (th d i) ↦[from2 12 16384 m (1024 * tn i) 1024]{q} wiresOf X)
    ∗ (opsH.view.loc (th d i) ↦[from2 12 4096 m (256 * tn i) 256]{q} gatesOf X)
    ∗ (∃ f : S12288.Idx → BitVec 32, idxV.view.loc (th d i) ↦[from1 12288 (m * 1024)]{fullShare} f)
    ∗ (∃ f : S3072.Idx → BitVec 32, opsV.view.loc (th d i) ↦[from1 3072 (m * 256)]{fullShare} f)
    ∗ Transfers.Batch EC (th d i) (.dma cc0_scratch9.sem) none wiresN (wiresD (F := F) X d i) m 0
    ∗ Transfers.Batch EC (th d i) (.dma cc0_scratch10.sem) none gatesN (gatesD (F := F) X d i) m 0)

theorem fetch_run (l : Fin 12) {K : PUnit.{1} → TP F i} {Q : PUnit.{1} → sProp 𝕄}
    {hs : (wiresH i l).view.WordExact} {hd : (wiresV l).view.WordExact}
    {hsem : DmaTarget.Typed (nD := nD) .hbm (.dma cc0_scratch9.sem) (DmaTarget.here (nD := nD) (τ := τ) (p := tileAt i) (wiresV l))}
    {hs' : (gatesH i l).view.WordExact} {hd' : (gatesV l).view.WordExact}
    {hsem' : DmaTarget.Typed (nD := nD) .hbm (.dma cc0_scratch10.sem) (DmaTarget.here (nD := nD) (τ := τ) (p := tileAt i) (gatesV l))} :
    fetched (F := F) X d i q l
      ⊢ iprop((fetched (F := F) X d i q (l + 1) -∗ wpT d i (K ⟨⟩) Q)
        -∗ wpT d i (.op (.enqueueDma (wiresH i l) (.here (wiresV l)) (.dma cc0_scratch9.sem) hs hd hsem) fun _ =>
            .op (.enqueueDma (gatesH i l) (.here (gatesV l)) (.dma cc0_scratch10.sem) hs' hd' hsem') K) Q) := by
  have hG : ∀ x, (wiresH i l).view.read (Elt F) (wiresOf X) x = (wiresV l).view.read (Elt F) (idxOf X (tn i)) x :=
    fun x => (wiresH_read i l X x).trans (wiresV_read i l X x).symm
  have hG' : ∀ x, (gatesH i l).view.read (Elt F) (gatesOf X) x = (gatesV l).view.read (Elt F) (opsOf X (tn i)) x :=
    fun x => (gatesH_read i l X x).trans (gatesV_read i l X x).symm
  have hw : iprop(((wiresV l).view.loc (th d i) ↦[(wiresV l).view.set]{fullShare} idxOf X (tn i))
      ∗ ((wiresH i l).view.loc (th d i) ↦[(wiresH i l).view.set]{q} wiresOf X)) ⊢ wiresD (F := F) X d i l := by
    unfold wiresD
    rw [wiresV_set]
    iintro ⟨H, -⟩
    iexact H
  have hw' : iprop(((gatesV l).view.loc (th d i) ↦[(gatesV l).view.set]{fullShare} opsOf X (tn i))
      ∗ ((gatesH i l).view.loc (th d i) ↦[(gatesH i l).view.set]{q} gatesOf X)) ⊢ gatesD (F := F) X d i l := by
    unfold gatesD
    rw [gatesV_set]
    iintro ⟨H, -⟩
    iexact H
  have e1 (f : S12288.Idx → BitVec 32) : (idxV.view.loc (th d i) ↦[seg1 12288 (l.val * 1024) 1024]{fullShare} f : sProp 𝕄)
    = ((wiresV l).view.loc (th d i) ↦[(wiresV l).view.set]{fullShare} f) := by rw [wiresV_set]
  have e2 (f : S3072.Idx → BitVec 32) : (opsV.view.loc (th d i) ↦[seg1 3072 (l.val * 256) 256]{fullShare} f : sProp 𝕄)
    = ((gatesV l).view.loc (th d i) ↦[(gatesV l).view.set]{fullShare} f) := by rw [gatesV_set]
  have e3 : (idxsH.view.loc (th d i) ↦[row2 12 16384 l.val (1024 * tn i) 1024]{q} wiresOf X : sProp 𝕄)
    = ((wiresH i l).view.loc (th d i) ↦[(wiresH i l).view.set]{q} wiresOf X) := by rw [wiresH_set]
  have e4 : (opsH.view.loc (th d i) ↦[row2 12 4096 l.val (256 * tn i) 256]{q} gatesOf X : sProp 𝕄)
    = ((gatesH i l).view.loc (th d i) ↦[(gatesH i l).view.set]{q} gatesOf X) := by rw [gatesH_set]
  unfold fetched
  iintro ⟨Hi, Ho, ⟨%f, Hiv⟩, ⟨%f', Hov⟩, B, B'⟩ Hk
  ihave Hi := (pointsTo_split_subset (row2_subset 12 16384 l.val (1024 * tn i) 1024)).1 $$ Hi
  icases Hi with ⟨Hi, Hir⟩
  ihave Ho := (pointsTo_split_subset (row2_subset 12 4096 l.val (256 * tn i) 256)).1 $$ Ho
  icases Ho with ⟨Ho, Hor⟩
  ihave Hiv := (pointsTo_split_subset (seg1_subset 12288 (l.val * 1024) 1024)).1 $$ Hiv
  icases Hiv with ⟨Hiv, Hivr⟩
  ihave Hov := (pointsTo_split_subset (seg1_subset 3072 (l.val * 256) 256)).1 $$ Hov
  icases Hov with ⟨Hov, Hovr⟩
  rw [from2_sdiff, from2_sdiff, from1_sdiff, from1_sdiff, ← Nat.succ_mul, ← Nat.succ_mul]
  ihave Hiv := (Entails.of_eq (e1 f)) $$ Hiv
  ihave Hov := (Entails.of_eq (e2 f')) $$ Hov
  ihave Hi := (Entails.of_eq e3) $$ Hi
  ihave Ho := (Entails.of_eq e4) $$ Ho
  iapply (batch_begin d i (wiresH i l) (wiresV l) cc0_scratch9.sem (D := wiresD (F := F) X d i) (wires_credit l) l.isLt (Nat.zero_le _) (idxOf X (tn i)) hG hw) $$ [Hi Hiv B]
  · isplitl [Hi]; · iexact Hi
    isplitl [Hiv] <;> iassumption
  iintro B
  iapply (batch_begin d i (gatesH i l) (gatesV l) cc0_scratch10.sem (D := gatesD (F := F) X d i) (gates_credit l) l.isLt (Nat.zero_le _) (opsOf X (tn i)) hG' hw') $$ [Ho Hov B']
  · isplitl [Ho]; · iexact Ho
    isplitl [Hov] <;> iassumption
  iintro B'
  iapply Hk
  isplitl [Hir]; · iexact Hir
  isplitl [Hor]; · iexact Hor
  isplitl [Hivr]; · iexists _; iexact Hivr
  isplitl [Hovr]; · iexists _; iexact Hovr
  isplitl [B] <;> iassumption

/-- The copies begun, from layer `12 - n` on. -/
theorem fetches_run {K' : TP F i} {Q : PUnit.{1} → sProp 𝕄} : ∀ (n : ℕ) (h : n ≤ 12),
    fetched (F := F) X d i q (12 - n)
      ⊢ iprop((fetched (F := F) X d i q 12 -∗ wpT d i K' Q) -∗ wpT d i (fetches i n h K') Q)
  | 0, _ => by
    iintro H Hk
    iapply Hk $$ H
  | n + 1, h => by
    have e : 11 - n + 1 = 12 - n := by omega
    have e' : 12 - (n + 1) = 11 - n := by omega
    rw [e']
    iintro H Hk
    iapply (fetch_run X d i q ⟨11 - n, by omega⟩) $$ H
    iintro H
    iapply (fetches_run n _) $$ [H]
    · iapply (show fetched (F := F) X d i q (11 - n + 1) ⊢ fetched (F := F) X d i q (12 - n) by rw [e]) $$ H
    iexact Hk

/-- The waits for them. -/
theorem landings_run {K' : TP F i} {Q : PUnit.{1} → sProp 𝕄} : ∀ (n : ℕ) (h : n ≤ 12),
    iprop(due d i cc0_scratch9.sem wiresN (wiresD (F := F) X d i) (12 - n) ∗ due d i cc0_scratch10.sem gatesN (gatesD (F := F) X d i) (12 - n)
        ∗ owing (th d i) O W ∗ Transfers.MayWaits (th d i) none O)
      ⊢ iprop((iprop(due d i cc0_scratch9.sem wiresN (wiresD (F := F) X d i) 12 ∗ due d i cc0_scratch10.sem gatesN (gatesD (F := F) X d i) 12
          ∗ owing (th d i) O W) -∗ wpT d i K' Q) -∗ wpT d i (landings i n h K') Q)
  | 0, _ => by
    iintro ⟨H, H', HO, -⟩ Hk
    iapply Hk
    isplitl [H]; · iexact H
    isplitl [H'] <;> iassumption
  | n + 1, h => by
    have e : 11 - n + 1 = 12 - n := by omega
    have e' : 12 - (n + 1) = 11 - n := by omega
    rw [e']
    iintro ⟨H, H', HO, #Hm⟩ Hk
    iapply (due_run d i (gatesH i ⟨n, by omega⟩) (gatesV ⟨n, by omega⟩) cc0_scratch10.sem (m := 11 - n) (D := gatesD (F := F) X d i) (gates_credit _)
      gatesN_pos (by omega)) $$ [H' HO]
    · isplitl [H']; · iexact H'
      isplitl [HO]; · iexact HO
      iexact Hm
    iintro ⟨H', HO⟩
    iapply (due_run d i (wiresH i ⟨n, _⟩) (wiresV ⟨n, _⟩) cc0_scratch9.sem (m := 11 - n) (D := wiresD (F := F) X d i) (wires_credit _)
      wiresN_pos (by omega)) $$ [H HO]
    · isplitl [H]; · iexact H
      isplitl [HO]; · iexact HO
      iexact Hm
    iintro ⟨H, HO⟩
    rw [e]
    iapply (landings_run n _) $$ [H H' HO]
    · isplitl [H]; · iexact H
      isplitl [H']; · iexact H'
      isplitl [HO]; · iexact HO
      iexact Hm
    iexact Hk

/-! ## The write-outs' waits -/

theorem writeOuts_run' {K' : TP F i} {Q : PUnit.{1} → sProp 𝕄} : ∀ (n : ℕ) (h : n ≤ 11) (h' : n ≤ 12),
    iprop(due d i cc0_scratch12.sem (wN i) (fun t : Fin 11 => wD (F := F) X d i t.castSucc) (11 - n)
        ∗ owing (th d i) O W ∗ Transfers.MayWaits (th d i) none O)
      ⊢ iprop((iprop(due d i cc0_scratch12.sem (wN i) (fun t : Fin 11 => wD (F := F) X d i t.castSucc) 11
          ∗ owing (th d i) O W) -∗ wpT d i K' Q) -∗ wpT d i (writeOuts i n h' K') Q)
  | 0, _, _ => by
    iintro ⟨H, HO, -⟩ Hk
    iapply Hk
    isplitl [H] <;> iassumption
  | n + 1, h, h' => by
    have e : 10 - n + 1 = 11 - n := by omega
    have e' : 11 - (n + 1) = 10 - n := by omega
    have es : (outSem ⟨n, by omega⟩).sem = cc0_scratch12.sem := outSem_lt ⟨n, by omega⟩ (by show n < 11; omega)
    rw [e', ← es]
    iintro ⟨H, HO, #Hm⟩ Hk
    iapply (due_run d i (keptV ⟨n, by omega⟩) (keptH i ⟨n, by omega⟩) (outSem ⟨n, by omega⟩).sem (m := 10 - n)
      (D := fun t : Fin 11 => wD (F := F) X d i t.castSucc) (kept_credit i _) (wN_pos i) (by omega)) $$ [H HO]
    · isplitl [H]; · iexact H
      isplitl [HO]; · iexact HO
      iexact Hm
    iintro ⟨H, HO⟩
    rw [e, es]
    iapply (writeOuts_run' n (by omega) _) $$ [H HO]
    · isplitl [H]; · iexact H
      isplitl [HO]; · iexact HO
      iexact Hm
    iexact Hk

/-- What the write-outs deliver. -/
theorem outs_join : iprop((bigSep Finset.univ fun t : Fin 11 => wD (F := F) X d i t.castSucc) ∗ wD (F := F) X d i 11)
    ⊢ iprop((interH.view.loc (th d i) ↦[from2 12 4096 0 (256 * tn i) 256]{fullShare} resOf X)
      ∗ (interV.view.loc (th d i) ↦{fullShare} interOf X (tn i))) := by
  have e : (bigSep Finset.univ (wD (F := F) X d i)) = iprop(wD (F := F) X d i 11 ∗ bigSep Finset.univ fun t : Fin 11 => wD (F := F) X d i t.castSucc) := by
    rw [bs_erase (Finset.mem_univ (11 : Fin 12)), show (Finset.univ.erase (11 : Fin 12)) = Finset.univ.image (Fin.castSucc : Fin 11 → Fin 12) by decide,
      SparseCore.bigSep_image_of_injOn (fun a _ b _ h => Fin.castSucc_injective _ h)]
  have e' : (bigSep Finset.univ (wD (F := F) X d i)) = iprop((interH.view.loc (th d i) ↦[from2 12 4096 0 (256 * tn i) 256]{fullShare} resOf X)
      ∗ (interV.view.loc (th d i) ↦{fullShare} interOf X (tn i))) := by
    unfold wD
    rw [bs_sep, ← pointsTo_biUnion (Finset.univ : Finset (Fin 12)) _ (rows_disjoint 12 4096 (256 * tn i) 256), rows_cover,
      ← pointsTo_biUnion (Finset.univ : Finset (Fin 12)) _ (rows_disjoint 12 256 0 256), rows_cover, from2_zero]
  rw [← e', e]
  iintro ⟨H, H'⟩
  isplitl [H'] <;> iassumption

/-- The write-outs' waits, the last layer's first. -/
theorem writeOuts_run {K' : TP F i} {Q : PUnit.{1} → sProp 𝕄} :
    iprop(outs (F := F) X d i 12 ∗ owing (th d i) O W ∗ Transfers.MayWaits (th d i) none O)
      ⊢ iprop((iprop((interH.view.loc (th d i) ↦[from2 12 4096 0 (256 * tn i) 256]{fullShare} resOf X)
            ∗ (interV.view.loc (th d i) ↦{fullShare} interOf X (tn i))
            ∗ semVal (th d i, .dma cc0_scratch12.sem) 0 ∗ semVal (th d i, .dma cc0_scratch13.sem) 0
            ∗ owing (th d i) O W) -∗ wpT d i K' Q) -∗ wpT d i (writeOuts i 12 le_rfl K') Q) := by
  unfold outs
  rw [if_neg (by decide)]
  iintro ⟨⟨HB, HF⟩, HO, #Hm⟩ Hk
  iapply (copy_end d i (keptV 11) (keptH i 11) cc0_scratch13.sem (N := wN i) rfl) $$ [HF HO]
  · isplitl [HF]; · iexact HF
    isplitl [HO]; · iexact HO
    iexact Hm
  iintro ⟨HD, Hx, HO⟩
  iapply (writeOuts_run' X d i 11 le_rfl _) $$ [HB HO]
  · isplitl [HB]
    · iapply (Entails.of_eq (due_none (F := F) d i cc0_scratch12.sem (wN i) (fun t : Fin 11 => wD (F := F) X d i t.castSucc) (by decide)).symm)
      iexact HB
    isplitl [HO]; · iexact HO
    iexact Hm
  iintro ⟨HB, HO⟩
  ihave HB := (Entails.of_eq (due_all (F := F) d i cc0_scratch12.sem (wN i) fun t : Fin 11 => wD (F := F) X d i t.castSucc)) $$ HB
  icases HB with ⟨HB, Hv⟩
  ihave H := (outs_join X d i) $$ [HB HD]
  · isplitl [HB] <;> iassumption
  icases H with ⟨Hh, Hv'⟩
  iapply Hk
  isplitl [Hh]; · iexact Hh
  isplitl [Hv']; · iexact Hv'
  isplitl [Hv]; · iexact Hv
  isplitl [Hx]; · iexact Hx
  iexact HO

/-! ## The last gate -/

theorem cond_iff : Iff (k0_cond1 i = 1#1) (tn i = 0) := by
  have h : ∀ t : Fin 16, Iff (Scalar.cmpi .ne (Scalar.extui (Scalar.cmpi .eq (BitVec.ofNat 32 t.val) 0#32) : BitVec 32) 0#32 = 1#1) (t.val = 0) := by decide
  exact h (i 1)

theorem lastIx_apply (x : S16.Idx) :
    (addi (andi lanes (broadcast S16 3#32)) (broadcast S16 4#32) x).toNat = 4 + (x 0).val % 4 := by
  have h : (x 0).val < 16 := (x 0).isLt
  have e : addi (andi lanes (broadcast S16 3#32)) (broadcast S16 4#32) x = (lanes x &&& 3#32) + 4#32 := rfl
  have e' : (x 0).val &&& 3 = (x 0).val % 4 := Nat.and_two_pow_sub_one_eq_mod _ 2
  rw [e, BitVec.toNat_add, BitVec.toNat_and, lanes_apply, BitVec.toNat_ofNat, BitVec.toNat_ofNat, show 3 % 2 ^ 32 = 3 by decide, e']
  omega

theorem opIx_apply (x : S16.Idx) :
    (addi (andi lanes (broadcast S16 0#32)) (broadcast S16 8#32) x).toNat = 8 := by
  have e : addi (andi lanes (broadcast S16 0#32)) (broadcast S16 8#32) x = (lanes x &&& 0#32) + 8#32 := rfl
  rw [e, BitVec.and_zero]
  rfl

/-- The last gate's wires' bits, each four times, and its result. -/
def lastBits (X : Net) : IVec S16 32 := fun x => lay X 12 (X.A (4 + (x 0).val % 4)).toNat
def outOf (X : Net) : IVec S16 32 :=
  andi (shrui (fun _ => X.A (X.A 8).toNat) (broadcast S16 (Scalar.shrsi (extractAt ![15] (scan .sum (lastBits X)) inpos_S16_p15) 2#32)))
    (broadcast S16 1#32)

/-- A gather of the last gate's: the elements of `f` at the indices. -/
theorem gatherIf_run (hi : k0_cond1 i = 1#1) {n : ℕ} {b : Memref sig .scVector .vmem ⟨1, ![n]⟩ .i32} {hb : b.view.Loads} {v : IVec S16 32}
    {K : IVec S16 32 → TP F i} {Q : PUnit.{1} → sProp 𝕄} {q : PosShare TreeShare} (f : Buf (Elt F) (b.view.loc (th d i)))
    (G : (⟨1, ![n]⟩ : Shape).Idx → BitVec 32) (hG : b.view.readAt (Elt F) (.whole _) f = G)
    (w : IVec S16 32) (hv : ∀ x, (v x).toNat < n) (hw : ∀ x, G (ix1 ⟨(v x).toNat, hv x⟩) = w x) :
    (b.view.loc (th d i) ↦{q} f)
      ⊢ iprop(((b.view.loc (th d i) ↦{q} f) -∗ wpT d i (K w) Q) -∗ wpT d i (gatherIf i hi n b hb v K) Q) := by
  iintro Hb Hk
  unfold gatherIf
  iapply (wp_assume 𝒱₀ (th d i) none Set.univ (show InBufIf i n v from fun _ => inBuf_iff.mpr hv))
  iapply (wp_load 𝒱₀ (th d i) none Set.univ (S := Finset.univ) (Finset.subset_univ _)) $$ Hb
  iintro Hb
  have e : loadIdx (F := F) (e := .i32) (b.view.readAt (Elt F) (.whole _) f) ![v] (inBuf_iff.mpr hv) = w := by
    rw [hG]
    funext x
    rw [← hw x]
    exact congrArg G (funext fun a => by fin_cases a; rfl)
  rw [e]
  iapply Hk $$ Hb

/-- Where the last gate's result goes. -/
abbrev outR : Rect S16 := Rect.unit (s := S16) ![0] S16.size (inb1 (by omega))
abbrev outG := outV.access outR

theorem out_write (f : S16.Idx → BitVec 32) (r : S16.Idx → BitVec 32) (y : S16.Idx) : outG.write (Elt F) f r Finset.univ y = r y := by
  have e : y = outG.emb y := (seg_emb (o := 0) (k := 16) (View.whole cc0_scratch6) _ y y (Nat.zero_add _).symm).symm
  conv_lhs => rw [e]
  rw [View.write_emb_of_mem _ _ (Finset.mem_univ _)]
  rfl

theorem whole_outV : outV.view.set = Finset.univ := View.set_whole _
theorem whole_outH : outH.view.set = Finset.univ := View.set_whole _

theorem last_mem : (th d i, SemLoc.dma cc0_scoped24.sem) ∈ cells (th d i) := by
  apply mem_cells <;> decide

theorem lastGate_run (hX : X.Ok) (hi : k0_cond1 i = 1#1) {Q : PUnit.{1} → sProp 𝕄} :
    iprop((valsV.view.loc (th d i) ↦{fullShare} valsOf X 12) ∗ (auxV.view.loc (th d i) ↦{fullShare} auxOf X)
        ∗ (∃ f : S16.Idx → BitVec 32, outV.view.loc (th d i) ↦{fullShare} f) ∗ (∃ f : S16.Idx → BitVec 32, outH.view.loc (th d i) ↦{fullShare} f)
        ∗ (bigSep (cells (th d i)) fun g => semVal g 0) ∗ owing (th d i) O W ∗ Transfers.MayWaits (th d i) none O)
      ⊢ iprop((iprop((valsV.view.loc (th d i) ↦{fullShare} valsOf X 12) ∗ (auxV.view.loc (th d i) ↦{fullShare} auxOf X)
          ∗ (∃ f : S16.Idx → BitVec 32, outV.view.loc (th d i) ↦{fullShare} f) ∗ (outH.view.loc (th d i) ↦{fullShare} outOf X)
          ∗ (bigSep (cells (th d i)) fun g => semVal g 0) ∗ owing (th d i) O W) -∗ wpT d i (.ret ⟨⟩) Q)
        -∗ wpT d i (lastGate i lanes hi) Q) := by
  iintro ⟨Hv, Ha, ⟨%f, Ho⟩, ⟨%f', Hh⟩, HT, HO, #Hm⟩ Hk
  unfold lastGate
  iapply (gatherIf_run d i hi (b := auxV) (auxOf X) (auxOf X) (Memref.readAt_whole _ _ _) (fun x => X.A (4 + (x 0).val % 4))
    (fun x => by rw [lastIx_apply]; omega) (fun x => by show X.A _ = _; simp only [ix1]; rw [lastIx_apply])) $$ Ha
  iintro Ha
  iapply (gatherIf_run d i hi (b := valsV) (valsOf X 12) (valsOf X 12) (Memref.readAt_whole _ _ _) (lastBits X)
    (fun x => hX.A4 _ (by omega)) (fun x => rfl)) $$ Hv
  iintro Hv
  iapply (gatherIf_run d i hi (b := auxV) (auxOf X) (auxOf X) (Memref.readAt_whole _ _ _) (fun x => X.A 8)
    (fun x => by rw [opIx_apply]; omega) (fun x => by show X.A _ = _; simp only [ix1]; rw [opIx_apply])) $$ Ha
  iintro Ha
  iapply (gatherIf_run d i hi (b := auxV) (auxOf X) (auxOf X) (Memref.readAt_whole _ _ _) (fun x => X.A (X.A 8).toNat)
    (fun x => hX.A8) (fun x => rfl)) $$ Ha
  iintro Ha
  iapply (wp_load_rect 𝒱₀ (th d i) none Set.univ (m := outV) (r := outR) (f := f) (S := Finset.univ) (Finset.subset_univ _)) $$ Ho
  iintro Ho
  iapply (wp_store 𝒱₀ (th d i) none Set.univ (m := outV) (r := outR) (f := f) (S := Finset.univ) (Finset.subset_univ _)) $$ Ho
  iintro Ho
  ihave Ho := (Entails.of_eq (pointsTo_congr (g := outOf X) (fun y _ => out_write (F := F) f _ y))) $$ Ho
  ihave Ho := (Entails.of_eq (show (outV.view.loc (th d i) ↦{fullShare} outOf X : sProp 𝕄)
    = (outV.view.loc (th d i) ↦[outV.view.set]{fullShare} outOf X) by rw [whole_outV])) $$ Ho
  ihave Hh := (Entails.of_eq (show (outH.view.loc (th d i) ↦{fullShare} f' : sProp 𝕄)
    = (outH.view.loc (th d i) ↦[outH.view.set]{fullShare} f') by rw [whole_outH])) $$ Hh
  iapply (copy (F := F) d i outV outH cc0_scoped24.sem (fs := outOf X) (outOf X) (fun x => rfl) (by decide) (last_mem d i)) $$ [Ho Hh HT HO]
  · isplitl [Ho]; · iexact Ho
    isplitl [Hh]; · iexact Hh
    isplitl [HT]; · iexact HT
    isplitl [HO]; · iexact HO
    iexact Hm
  rw [whole_outV, whole_outH]
  iintro ⟨Ho, Hh, HT, HO⟩
  iapply Hk
  isplitl [Hv]; · iexact Hv
  isplitl [Ha]; · iexact Ha
  isplitl [Ho]; · iexists _; iexact Ho
  isplitl [Hh]; · iexact Hh
  isplitl [HT] <;> iassumption

/-! ## The body -/

/-- What the launch hands the tile. -/
def given : sProp 𝕄 :=
  iprop((valsH.view.loc (th d i) ↦{lf (me i)} valsOf X 0) ∗ (auxH.view.loc (th d i) ↦{lf (me i)} auxOf X)
    ∗ (idxsH.view.loc (th d i) ↦[from2 12 16384 0 (1024 * tn i) 1024]{q} wiresOf X)
    ∗ (opsH.view.loc (th d i) ↦[from2 12 4096 0 (256 * tn i) 256]{q} gatesOf X)
    ∗ (∃ f : S12x4096.Idx → BitVec 32, interH.view.loc (th d i) ↦[from2 12 4096 0 (256 * tn i) 256]{fullShare} f)
    ∗ mine (F := F) X d (co i) 0 (me i)
    ∗ (if tn i = 0 then iprop(∃ f : S16.Idx → BitVec 32, outH.view.loc (th d i) ↦{fullShare} f) else iprop(emp)))

/-- What it hands back. -/
def taken : sProp 𝕄 :=
  iprop((interH.view.loc (th d i) ↦[from2 12 4096 0 (256 * tn i) 256]{fullShare} resOf X)
    ∗ mine (F := F) X d (co i) 12 (me i)
    ∗ (if tn i = 0 then (outH.view.loc (th d i) ↦{fullShare} outOf X) else iprop(emp))
    ∗ semVal (bcell d (co i) (me i)) 0)

/-- The tile's own buffers, at some contents. -/
def bufs : sProp 𝕄 :=
  iprop((∃ f : S4096.Idx → BitVec 32, valsV.view.loc (th d i) ↦{fullShare} f) ∗ (∃ f : S256.Idx → BitVec 32, newV.view.loc (th d i) ↦{fullShare} f)
    ∗ (∃ f : S12288.Idx → BitVec 32, idxV.view.loc (th d i) ↦{fullShare} f) ∗ (∃ f : S3072.Idx → BitVec 32, opsV.view.loc (th d i) ↦{fullShare} f)
    ∗ (∃ f : S12x256.Idx → BitVec 32, interV.view.loc (th d i) ↦{fullShare} f) ∗ (∃ f : S16.Idx → BitVec 32, auxV.view.loc (th d i) ↦{fullShare} f)
    ∗ (∃ f : S16.Idx → BitVec 32, outV.view.loc (th d i) ↦{fullShare} f))

/-- Its semaphores, at zero. -/
def sems : sProp 𝕄 :=
  iprop(semVal (th d i, .dma cc0_scratch8.sem) 0 ∗ semVal (th d i, .dma cc0_scratch9.sem) 0 ∗ semVal (th d i, .dma cc0_scratch10.sem) 0
    ∗ semVal (th d i, .dma cc0_scratch11.sem) 0 ∗ semVal (th d i, .dma cc0_scratch12.sem) 0 ∗ semVal (th d i, .dma cc0_scratch13.sem) 0
    ∗ bigSep (cells (th d i)) fun g => semVal g 0)

theorem whole_valsH : valsH.view.set = Finset.univ := View.set_whole _
theorem whole_auxH : auxH.view.set = Finset.univ := View.set_whole _
theorem whole_auxV : auxV.view.set = Finset.univ := View.set_whole _

theorem ret_run {Q : PUnit.{1} → sProp 𝕄} : Q ⟨⟩ ⊢ wpT d i (.ret ⟨⟩) Q := by
  show Q ⟨⟩ ⊢ iprop(|={Set.univ}=> Q ⟨⟩)
  iintro H
  imodintro
  iexact H

/-- The run from the layers on. -/
theorem compute_run (hX : X.Ok) (hO0 : ∀ g, O g none = 0) (hO : ∀ g ι, 0 < O g ι → 8 * 11 + 6 ≤ (K (F := F)).lev g ι) {γ : Names nT 12} {κ : ℕ}
    {Q : PUnit.{1} → sProp 𝕄} :
    iprop(levAts (K (F := F)).L (K (F := F)).lev ∗ meeting (F := F) X d γ κ (co i) ∗ stand (F := F) X d i O W γ 0
        ∗ (∃ f : S16.Idx → BitVec 32, outV.view.loc (th d i) ↦{fullShare} f)
        ∗ (if tn i = 0 then iprop(∃ f : S16.Idx → BitVec 32, outH.view.loc (th d i) ↦{fullShare} f) else iprop(emp))
        ∗ semVal (th d i, .dma cc0_scratch8.sem) 0 ∗ semVal (th d i, .dma cc0_scratch9.sem) 0 ∗ semVal (th d i, .dma cc0_scratch10.sem) 0
        ∗ semVal (th d i, .dma cc0_scratch11.sem) 0)
      ⊢ iprop((iprop(taken (F := F) X d i ∗ bufs (F := F) d i ∗ sems (F := F) d i ∗ owing (th d i) O W) -∗ Q ⟨⟩)
        -∗ wpT d i (compute i) Q) := by
  iintro ⟨#Hlv, #Hinv, Hs, Ho, Hh, H8, H9, H10, H11⟩ Hk
  unfold compute
  iapply (layers_run X d i hX hO0 hO (γ := γ) (κ := κ) 12 le_rfl) $$ [Hs]
  · isplitr; · iexact Hlv
    isplitr; · iexact Hinv
    iexact Hs
  unfold stand held
  rw [if_pos rfl, debt_end, add_zero]
  iintro ⟨⟨Hidx, Hvals, Hops, Haux, ⟨%f, -, Hnew⟩, -⟩, -, Hout, Hm, -, -, HT, HO, Hb⟩
  ihave #Hmw := (show levAts (K (F := F)).L (K (F := F)).lev ⊢ (Transfers.MayWaits (th d i) (none : HIx 12) O : sProp 𝕄) from
    (K (F := F)).mayWaits_none (thr := th d i) hO0) $$ Hlv
  iapply (writeOuts_run X d i) $$ [Hout HO]
  · isplitl [Hout]; · iexact Hout
    isplitl [HO]; · iexact HO
    iexact Hmw
  iintro ⟨Hih, Hiv, H12, H13, HO⟩
  by_cases hi : k0_cond1 i = 1#1
  · have h0 : tn i = 0 := (cond_iff i).mp hi
    rw [dif_pos hi]
    ihave Hh := (Entails.of_eq (if_pos h0)) $$ Hh
    iapply (lastGate_run X d i hX hi) $$ [Hvals Haux Ho Hh HT HO]
    · isplitl [Hvals]; · iexact Hvals
      isplitl [Haux]; · iexact Haux
      isplitl [Ho]; · iexact Ho
      isplitl [Hh]; · iexact Hh
      isplitl [HT]; · iexact HT
      isplitl [HO]; · iexact HO
      iexact Hmw
    iintro ⟨Hvals, Haux, Ho, Hh, HT, HO⟩
    iapply (ret_run (F := F) d i)
    iapply Hk
    unfold taken bufs sems
    rw [if_pos h0]
    isplitl [Hih Hm Hh Hb]
    · isplitl [Hih]; · iexact Hih
      isplitl [Hm]; · iexact Hm
      isplitl [Hh] <;> iassumption
    isplitl [Hidx Hvals Hops Haux Hnew Hiv Ho]
    · isplitl [Hvals]; · iexists _; iexact Hvals
      isplitl [Hnew]; · iexists _; iexact Hnew
      isplitl [Hidx]; · iexists _; iexact Hidx
      isplitl [Hops]; · iexists _; iexact Hops
      isplitl [Hiv]; · iexists _; iexact Hiv
      isplitl [Haux]; · iexists _; iexact Haux
      iexact Ho
    isplitl [H8 H9 H10 H11 H12 H13 HT]
    · isplitl [H8]; · iexact H8
      isplitl [H9]; · iexact H9
      isplitl [H10]; · iexact H10
      isplitl [H11]; · iexact H11
      isplitl [H12]; · iexact H12
      isplitl [H13] <;> iassumption
    iexact HO
  · have h0 : ¬ tn i = 0 := fun h => hi ((cond_iff i).mpr h)
    rw [dif_neg hi]
    iapply (ret_run (F := F) d i)
    iapply Hk
    unfold taken bufs sems
    isplitl [Hih Hm Hb]
    · isplitl [Hih]; · iexact Hih
      isplitl [Hm]; · iexact Hm
      isplitr
      · iapply (Entails.of_eq (if_neg h0).symm)
        iempintro
      iexact Hb
    isplitl [Hidx Hvals Hops Haux Hnew Hiv Ho]
    · isplitl [Hvals]; · iexists _; iexact Hvals
      isplitl [Hnew]; · iexists _; iexact Hnew
      isplitl [Hidx]; · iexists _; iexact Hidx
      isplitl [Hops]; · iexists _; iexact Hops
      isplitl [Hiv]; · iexists _; iexact Hiv
      isplitl [Haux]; · iexists _; iexact Haux
      iexact Ho
    isplitl [H8 H9 H10 H11 H12 H13 HT]
    · isplitl [H8]; · iexact H8
      isplitl [H9]; · iexact H9
      isplitl [H10]; · iexact H10
      isplitl [H11]; · iexact H11
      isplitl [H12]; · iexact H12
      isplitl [H13] <;> iassumption
    iexact HO

/-- The body's run. -/
theorem circuit_run (hX : X.Ok) (hO0 : ∀ g, O g none = 0) (hO : ∀ g ι, 0 < O g ι → 8 * 11 + 6 ≤ (K (F := F)).lev g ι) {γ : Names nT 12} {κ : ℕ}
    {Q : PUnit.{1} → sProp 𝕄} :
    iprop(levAts (K (F := F)).L (K (F := F)).lev ∗ (meeting (F := F) X d γ κ (co i) ∗ st EC γ (me i) 0 ∗ credits (F := F) d i 0)
        ∗ given (F := F) X d i q ∗ bufs (F := F) d i ∗ sems (F := F) d i ∗ owing (th d i) (O + debt d (co i) 0) W)
      ⊢ iprop((iprop(taken (F := F) X d i ∗ bufs (F := F) d i ∗ sems (F := F) d i ∗ owing (th d i) O W) -∗ Q ⟨⟩)
        -∗ wpT d i (circuit i) Q) := by
  unfold given
  iintro ⟨#Hlv, ⟨#Hinv, Hst, Hc⟩, ⟨Hv, Ha, Hi, Ho, Hih, Hm, Hout⟩, Hb, Hs, HO⟩ Hk
  unfold bufs sems
  icases Hb with ⟨⟨%fv, Hvv⟩, ⟨%fn, Hnv⟩, ⟨%fi, Hiv⟩, ⟨%fo, Hov⟩, ⟨%fk, Hkv⟩, ⟨%fa, Hav⟩, Houtv⟩
  icases Hs with ⟨H8, H9, H10, H11, H12, H13, HT⟩
  ihave #Hmw := (own_waits (F := F) d i hO0 0) $$ Hlv
  unfold circuit
  ihave Hv := (Entails.of_eq (show (valsH.view.loc (th d i) ↦{lf (me i)} valsOf X 0 : sProp 𝕄)
    = (valsH.view.loc (th d i) ↦[valsH.view.set]{lf (me i)} valsOf X 0) by rw [whole_valsH])) $$ Hv
  ihave Hvv := (Entails.of_eq (show (valsV.view.loc (th d i) ↦{fullShare} fv : sProp 𝕄)
    = (valsV.view.loc (th d i) ↦[valsV.view.set]{fullShare} fv) by rw [whole_vals])) $$ Hvv
  iapply (copy_begin (F := F) d i valsH valsV cc0_scratch8.sem (fs := valsOf X 0) (valsOf X 0) (fun x => rfl) (by decide)) $$ [Hv Hvv H8]
  · isplitl [Hv]; · iexact Hv
    isplitl [Hvv] <;> iassumption
  iintro F8
  ihave Ha := (Entails.of_eq (show (auxH.view.loc (th d i) ↦{lf (me i)} auxOf X : sProp 𝕄)
    = (auxH.view.loc (th d i) ↦[auxH.view.set]{lf (me i)} auxOf X) by rw [whole_auxH])) $$ Ha
  ihave Hav := (Entails.of_eq (show (auxV.view.loc (th d i) ↦{fullShare} fa : sProp 𝕄)
    = (auxV.view.loc (th d i) ↦[auxV.view.set]{fullShare} fa) by rw [whole_auxV])) $$ Hav
  iapply (copy_begin (F := F) d i auxH auxV cc0_scratch11.sem (fs := auxOf X) (auxOf X) (fun x => rfl) (by decide)) $$ [Ha Hav H11]
  · isplitl [Ha]; · iexact Ha
    isplitl [Hav] <;> iassumption
  iintro F11
  -- the wires' and the operations' copies
  iapply (fupd_wp frame _ Set.univ _ _)
  imod (Transfers.batch_alloc' EC (c := th d i) (sm := .dma cc0_scratch9.sem) (none : HIx 12) wiresN (wiresD (F := F) X d i)) $$ H9 with B9
  imod (Transfers.batch_alloc' EC (c := th d i) (sm := .dma cc0_scratch10.sem) (none : HIx 12) gatesN (gatesD (F := F) X d i)) $$ H10 with B10
  imod (Transfers.batch_alloc' EC (c := th d i) (sm := .dma cc0_scratch12.sem) (none : HIx 12) (wN i) (fun t : Fin 11 => wD (F := F) X d i t.castSucc)) $$ H12 with B12
  imodintro
  iapply (fetches_run X d i q 12 le_rfl) $$ [Hi Ho Hiv Hov B9 B10]
  · unfold fetched
    rw [Nat.sub_self, Nat.zero_mul, from1_zero, from1_zero]
    isplitl [Hi]; · iexact Hi
    isplitl [Ho]; · iexact Ho
    isplitl [Hiv]; · iexists _; iexact Hiv
    isplitl [Hov]; · iexists _; iexact Hov
    isplitl [B9] <;> iassumption
  unfold fetched
  iintro ⟨-, -, -, -, B9, B10⟩
  iapply (landings_run X d i 12 le_rfl) $$ [B9 B10 HO]
  · rw [Nat.sub_self, due_none _ _ _ _ _ (by decide), due_none _ _ _ _ _ (by decide)]
    isplitl [B9]; · iexact B9
    isplitl [B10]; · iexact B10
    isplitl [HO]; · iexact HO
    iexact Hmw
  rw [due_all, due_all, wires_join, gates_join]
  iintro ⟨⟨Hiv, H9⟩, ⟨Hov, H10⟩, HO⟩
  iapply (copy_end d i auxH auxV cc0_scratch11.sem rfl) $$ [F11 HO]
  · isplitl [F11]; · iexact F11
    isplitl [HO]; · iexact HO
    iexact Hmw
  iintro ⟨⟨Hav, -⟩, H11, HO⟩
  iapply (copy_end d i valsH valsV cc0_scratch8.sem rfl) $$ [F8 HO]
  · isplitl [F8]; · iexact F8
    isplitl [HO]; · iexact HO
    iexact Hmw
  iintro ⟨⟨Hvv, -⟩, H8, HO⟩
  rw [whole_auxV, whole_vals]
  iapply (compute_run X d i hX hO0 hO (γ := γ) (κ := κ)) $$ [Hst Hc Hih Hm Hout Hvv Hnv Hiv Hov Hkv Hav Houtv H8 H9 H10 H11 H13 B12 HT HO]
  · isplitr; · iexact Hlv
    isplitr; · iexact Hinv
    isplitl [Hst Hc Hih Hm Hvv Hnv Hiv Hov Hkv Hav H13 B12 HT HO]
    · unfold stand held outs
      rw [if_pos (show 0 < 12 by decide), if_neg (show ¬ 0 = 12 by decide), from2_zero]
      isplitl [Hvv Hnv Hiv Hov Hkv Hav]
      · isplitl [Hiv]; · iexact Hiv
        isplitl [Hvv]; · iexact Hvv
        isplitl [Hov]; · iexact Hov
        isplitl [Hav]; · iexact Hav
        isplitl [Hnv]
        · iexists _; isplitr
          swap; · iexact Hnv
          ipureintro; exact fun y hy => absurd hy (by omega)
        · iexists _; isplitr
          swap; · iexact Hkv
          ipureintro; exact fun y _ hy => absurd hy (by omega)
      isplitl [Hih]; · iexact Hih
      isplitl [B12 H13]
      · isplitl [B12] <;> iassumption
      isplitl [Hm]; · iexact Hm
      isplitl [Hst]; · iexact Hst
      isplitl [Hc]; · iexact Hc
      isplitl [HT]; · iexact HT
      isplitl [HO]; · iexact HO
      iempintro
    isplitl [Houtv]; · iexact Houtv
    isplitl [Hout]; · iexact Hout
    isplitl [H8]; · iexact H8
    isplitl [H9]; · iexact H9
    isplitl [H10] <;> iassumption
  unfold bufs sems
  iexact Hk

end Cert.KernelIdeal.Circuit

end
-- ==== Proof.Unrolled.lean ====
/- The printed body is the body with its loops. -/
module

public import proofs.«01_k».proof.Proof.Circuit

@[expose] public section

noncomputable section

namespace Cert.KernelIdeal.Circuit

open Idealize.ShloMosaic Idealize.SL.Sem
open Cert.KernelIdeal.Gen

variable {F : FTy → Type} [FloatOps F]

/-- The printed body of the tile at `i`. -/
abbrev printed (i : grid0.Coords) : TP F i :=
  cc0__circuit_body i (Memref.whole main_v0_scv) (Memref.isWhole_whole _) (Memref.whole main_v1_scv) (Memref.isWhole_whole _)
    (Memref.whole main_arg2_scv) (Memref.isWhole_whole _) (Memref.whole main_v4_scv) (Memref.isWhole_whole _)
    (Memref.whole main_v5_0_scv) (Memref.isWhole_whole _) (Memref.whole main_v5_1_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 cc0_scratch12 cc0_scratch13
    cc0_scoped0 cc0_scoped1 cc0_scoped2 cc0_scoped3 cc0_scoped4 cc0_scoped5 cc0_scoped6 cc0_scoped7 cc0_scoped8
    cc0_scoped9 cc0_scoped10 cc0_scoped11 cc0_scoped12 cc0_scoped13 cc0_scoped14 cc0_scoped15 cc0_scoped16
    cc0_scoped17 cc0_scoped18 cc0_scoped19 cc0_scoped20 cc0_scoped21 cc0_scoped22 cc0_scoped23 cc0_scoped24

section steps

variable {i : grid0.Coords} {P : TP F i} {lanes4 : IVec S16 32}

/-- One effect. -/
theorem step_op {e : TpuEff nD τ sig (Elt F) Λ₀ (tileAt i) PUnit.{1}} {R K : PUnit.{1} → TP F i}
    (h : P = .op e R) (h' : R ⟨⟩ = K ⟨⟩) : P = .op e K := by
  rw [h]; congr 1; funext x; exact h'

theorem step_fetch {n : Nat} {hn : n + 1 ≤ 12} {R : PUnit.{1} → TP F i} {R' : PUnit.{1} → TP F i} {K : TP F i}
    (h : P = .op (.enqueueDma (wiresH i ⟨11 - n, by omega⟩) (.here (wiresV ⟨11 - n, by omega⟩)) (.dma cc0_scratch9.sem)
      ((View.wordExact_bits rfl).reshape _ _) (View.wordExact_bits rfl) ⟨Or.inl rfl, trivial⟩) R)
    (h' : R ⟨⟩ = .op (.enqueueDma (gatesH i ⟨11 - n, by omega⟩) (.here (gatesV ⟨11 - n, by omega⟩))
      (.dma cc0_scratch10.sem)
      ((View.wordExact_bits rfl).reshape _ _) (View.wordExact_bits rfl) ⟨Or.inl rfl, trivial⟩) R')
    (h'' : R' ⟨⟩ = fetches i n (by omega) K) : P = fetches i (n + 1) hn K :=
  step_op h (step_op h' h'')

theorem step_landing {n : Nat} {hn : n + 1 ≤ 12} {R : PUnit.{1} → TP F i} {R' : PUnit.{1} → TP F i} {K : TP F i}
    (h : P = .op (.waitDma2 cc0_scratch10.sem (gatesH i ⟨n, by omega⟩) (gatesV ⟨n, by omega⟩)
      ((View.wordExact_bits rfl).reshape _ _) (View.wordExact_bits rfl)) R)
    (h' : R ⟨⟩ = .op (.waitDma2 cc0_scratch9.sem (wiresH i ⟨n, by omega⟩) (wiresV ⟨n, by omega⟩)
      ((View.wordExact_bits rfl).reshape _ _) (View.wordExact_bits rfl)) R')
    (h'' : R' ⟨⟩ = landings i n (by omega) K) : P = landings i (n + 1) hn K :=
  step_op h (step_op h' h'')

theorem step_writeOut {n : Nat} {hn : n + 1 ≤ 12} {R : PUnit.{1} → TP F i} {K : TP F i}
    (h : P = .op (.waitDma2 (outSem ⟨n, by omega⟩).sem (keptV ⟨n, by omega⟩) (keptH i ⟨n, by omega⟩)
      ((View.wordExact_bits rfl).reshape _ _) ((View.wordExact_bits rfl).reshape _ _)) R)
    (h' : R ⟨⟩ = writeOuts i n (by omega) K) : P = writeOuts i (n + 1) hn K :=
  step_op h h'

theorem step_group {l : Fin 12} {n : Nat} {hn : n + 1 ≤ 16} {R : PUnit.{1} → TP F i} {K : TP F i}
    (h : P = group i lanes4 l ⟨15 - n, by omega⟩ R) (h' : R ⟨⟩ = groups i lanes4 l n (by omega) K) :
    P = groups i lanes4 l (n + 1) hn K := by
  have : R = fun _ => groups i lanes4 l n (by omega) K := by funext x; exact h'
  rw [h, this]; rfl

theorem step_put {l : Fin 12} {R : PUnit.{1} → TP F i} {K : TP F i} (h : P = put i l R) (h' : R ⟨⟩ = K) :
    P = groups i lanes4 l 0 (by omega) (put i l fun _ => K) := by
  have e : R = fun _ => K := by funext x; exact h'
  rw [h, e]; rfl

theorem step_meet {R : PUnit.{1} → TP F i} {K : TP F i}
    (h : P = .op .deviceId fun d => SparseCore.each (grid0.bound 1)
      (fun j => .semSignal (d, .scVector ((i 0).castLE hcore0) (j.castLE hsub0)) sc_bar0 1)
      (.op (.semWait sc_bar0 (grid0.bound 1)) R)) (h' : R ⟨⟩ = K) :
    P = (meet i).bind fun _ => K := by
  have e : R = fun _ => K := by funext x; exact h'
  rw [h, e]; rfl

theorem step_get {l : Fin 12} {R : PUnit.{1} → TP F i} {K : TP F i} (h : P = get i l R) (h' : R ⟨⟩ = K) :
    P = get i l fun _ => K := by
  have e : R = fun _ => K := by funext x; exact h'
  rw [h, e]

theorem step_layer {n : Nat} {hn : n + 1 ≤ 12} {K : TP F i}
    (h : P = groups i lanes4 ⟨11 - n, by omega⟩ 16 le_rfl
      (put i ⟨11 - n, by omega⟩ fun _ => (meet i).bind fun _ => get i ⟨11 - n, by omega⟩ fun _ =>
        layers i lanes4 n (by omega) K)) : P = layers i lanes4 (n + 1) hn K :=
  h

end steps

set_option maxHeartbeats 4000000
set_option maxRecDepth 100000

theorem printed_eq (i : grid0.Coords) : printed (F := F) i = circuit i := by
  refine step_op rfl (step_op rfl ?_)
  iterate 12 refine step_fetch rfl rfl ?_
  iterate 12 refine step_landing rfl rfl ?_
  refine step_op rfl (step_op rfl ?_)
  iterate 12
    refine step_layer ?_
    iterate 16 refine step_group rfl ?_
    refine step_put rfl (step_meet rfl (step_get rfl ?_))
  iterate 12 refine step_writeOut rfl ?_
  rfl

end Cert.KernelIdeal.Circuit

end
-- ==== Proof.Tile.lean ====
/- What the one call of the kernel takes and brings back, and the tiles' part of it: each tile's run, from the buffers and
   semaphores the launch gives it. The circuit is read off the arrays' contents at the call. -/
module

public import proofs.«01_k».proof.Proof.Body
public import proofs.«01_k».proof.Proof.Unrolled

@[expose] public section

noncomputable section

namespace Cert.KernelIdeal.Circuit

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Meet

variable {F : FTy → Type} [FloatOps F]

local notation "𝕄" => MT nD τ sig (HIx 12) (Elt F) ℕ UU ℕ

/-! ## The circuit that four arrays hold -/

/-- The circuit held by the inputs' bits, the wires, the operations and the auxiliary words. -/
def netOf (v : S4096.Idx → BitVec 32) (w : S12x16384.Idx → BitVec 32) (o : S12x4096.Idx → BitVec 32) (a : S16.Idx → BitVec 32) : Net where
  V n := if h : n < 4096 then v (ix1 ⟨n, h⟩) else 0
  I l n := if h : l < 12 ∧ n < 16384 then w (ix2 ⟨l, h.1⟩ ⟨n, h.2⟩) else 0
  O l n := if h : l < 12 ∧ n < 4096 then o (ix2 ⟨l, h.1⟩ ⟨n, h.2⟩) else 0
  A n := if h : n < 16 then a (ix1 ⟨n, h⟩) else 0

section Read

variable (v : S4096.Idx → BitVec 32) (w : S12x16384.Idx → BitVec 32) (o : S12x4096.Idx → BitVec 32) (a : S16.Idx → BitVec 32)

theorem ix1_self {n : ℕ} (x : (⟨1, ![n]⟩ : Shape).Idx) (h : (x 0).val < n) : ix1 ⟨(x 0).val, h⟩ = x := by
  funext b; fin_cases b; rfl
theorem ix2_self {n n' : ℕ} (x : (⟨2, ![n, n']⟩ : Shape).Idx) (h : (x 0).val < n) (h' : (x 1).val < n') :
    ix2 ⟨(x 0).val, h⟩ ⟨(x 1).val, h'⟩ = x := by
  funext b; fin_cases b <;> rfl

theorem netOf_vals : valsOf (netOf v w o a) 0 = v := by
  funext x
  show (if h : (x 0).val < 4096 then v (ix1 ⟨(x 0).val, h⟩) else 0) = v x
  have h : (x 0).val < 4096 := (x 0).isLt
  rw [dif_pos h]; exact congrArg v (ix1_self x h)
theorem netOf_wires : wiresOf (netOf v w o a) = w := by
  funext x
  show (if h : (x 0).val < 12 ∧ (x 1).val < 16384 then w (ix2 ⟨(x 0).val, h.1⟩ ⟨(x 1).val, h.2⟩) else 0) = w x
  have h : (x 0).val < 12 ∧ (x 1).val < 16384 := ⟨(x 0).isLt, (x 1).isLt⟩
  rw [dif_pos h]; exact congrArg w (ix2_self x h.1 h.2)
theorem netOf_gates : gatesOf (netOf v w o a) = o := by
  funext x
  show (if h : (x 0).val < 12 ∧ (x 1).val < 4096 then o (ix2 ⟨(x 0).val, h.1⟩ ⟨(x 1).val, h.2⟩) else 0) = o x
  have h : (x 0).val < 12 ∧ (x 1).val < 4096 := ⟨(x 0).isLt, (x 1).isLt⟩
  rw [dif_pos h]; exact congrArg o (ix2_self x h.1 h.2)
theorem netOf_aux : auxOf (netOf v w o a) = a := by
  funext x
  show (if h : (x 0).val < 16 then a (ix1 ⟨(x 0).val, h⟩) else 0) = a x
  have h : (x 0).val < 16 := (x 0).isLt
  rw [dif_pos h]; exact congrArg a (ix1_self x h)

end Read

/-! ## The tile's own buffers and semaphores -/

variable (X : Net) (d : Dev nD) (i : grid0.Coords)
variable {O : CellTallies nD τ sig (HIx 12)} {W : Waits sig (HIx 12)}

/-- The tile's processor. -/
abbrev pr (i : grid0.Coords) : Proc τ := .scVector (co i) ((i 1).castLE hsub0)

/-- The tile's buffers beside the body's. -/
def spare (i : grid0.Coords) : Finset (DevRef τ sig) :=
  ((((((((ownRefs (τ := τ) (sig := sig) (pr i)).erase ((pr i).devRef cc0_scratch0)).erase ((pr i).devRef cc0_scratch1)).erase ((pr i).devRef cc0_scratch2)).erase
    ((pr i).devRef cc0_scratch3)).erase ((pr i).devRef cc0_scratch4)).erase ((pr i).devRef cc0_scratch5)).erase ((pr i).devRef cc0_scratch6))

theorem own_ref (b : Ref sig .scVector) (h : ((pr i).devRef b).owner = .proc (pr i)) : (pr i).devRef b ∈ ownRefs (τ := τ) (sig := sig) (pr i) :=
  SparseCore.Cfg.mem_ownRefs_of_owner h
theorem in_erase {s : Finset (DevRef τ sig)} {b b' : Ref sig .scVector} (h : b ≠ b') (hb : (pr i).devRef b ∈ s) : (pr i).devRef b ∈ s.erase ((pr i).devRef b') :=
  Finset.mem_erase.mpr ⟨fun e => h (Proc.devRef_injective _ e), hb⟩

theorem ownBufs_tile :
    (ownBufs (th d i) : sProp 𝕄) = iprop((∃ f, (th d i).loc cc0_scratch0 ↦{fullShare} f) ∗ (∃ f, (th d i).loc cc0_scratch1 ↦{fullShare} f)
      ∗ (∃ f, (th d i).loc cc0_scratch2 ↦{fullShare} f) ∗ (∃ f, (th d i).loc cc0_scratch3 ↦{fullShare} f) ∗ (∃ f, (th d i).loc cc0_scratch4 ↦{fullShare} f)
      ∗ (∃ f, (th d i).loc cc0_scratch5 ↦{fullShare} f) ∗ (∃ f, (th d i).loc cc0_scratch6 ↦{fullShare} f)
      ∗ bigSep (spare i) fun b => iprop(∃ f, ((d, b) : Loc nD τ sig) ↦{fullShare} f)) := by
  unfold SparseCore.Cfg.ownBufs spare
  show (bigSep (ownRefs (τ := τ) (sig := sig) (pr i)) fun b => iprop(∃ f, ((d, b) : Loc nD τ sig) ↦{fullShare} f) : sProp 𝕄) = _
  have h0 := own_ref i cc0_scratch0 rfl
  have h1 := in_erase i (b' := cc0_scratch0) (by decide) (own_ref i cc0_scratch1 rfl)
  have h2 := in_erase i (b' := cc0_scratch1) (by decide) (in_erase i (b' := cc0_scratch0) (by decide) (own_ref i cc0_scratch2 rfl))
  have h3 := in_erase i (b' := cc0_scratch2) (by decide) (in_erase i (b' := cc0_scratch1) (by decide) (in_erase i (b' := cc0_scratch0) (by decide)
    (own_ref i cc0_scratch3 rfl)))
  have h4 := in_erase i (b' := cc0_scratch3) (by decide) (in_erase i (b' := cc0_scratch2) (by decide) (in_erase i (b' := cc0_scratch1) (by decide)
    (in_erase i (b' := cc0_scratch0) (by decide) (own_ref i cc0_scratch4 rfl))))
  have h5 := in_erase i (b' := cc0_scratch4) (by decide) (in_erase i (b' := cc0_scratch3) (by decide) (in_erase i (b' := cc0_scratch2) (by decide)
    (in_erase i (b' := cc0_scratch1) (by decide) (in_erase i (b' := cc0_scratch0) (by decide) (own_ref i cc0_scratch5 rfl)))))
  have h6 := in_erase i (b' := cc0_scratch5) (by decide) (in_erase i (b' := cc0_scratch4) (by decide) (in_erase i (b' := cc0_scratch3) (by decide)
    (in_erase i (b' := cc0_scratch2) (by decide) (in_erase i (b' := cc0_scratch1) (by decide) (in_erase i (b' := cc0_scratch0) (by decide)
      (own_ref i cc0_scratch6 rfl))))))
  rw [SparseCore.bigSep_erase' h0, SparseCore.bigSep_erase' h1, SparseCore.bigSep_erase' h2, SparseCore.bigSep_erase' h3, SparseCore.bigSep_erase' h4,
    SparseCore.bigSep_erase' h5, SparseCore.bigSep_erase' h6]

theorem own_cell (sm : DmaSem sig) (h : (SemLoc.dma sm : SemLoc sig).isScoped .scVector = true) : ((th d i, .dma sm) : GSem nD τ sig) ∈ ownCells (th d i) :=
  mem_ownCells.mpr ⟨rfl, h⟩
theorem cell_in {s : Finset (GSem nD τ sig)} {sm sm' : DmaSem sig} (h : sm ≠ sm') (hb : ((th d i, .dma sm) : GSem nD τ sig) ∈ s) :
    ((th d i, .dma sm) : GSem nD τ sig) ∈ s.erase (th d i, .dma sm') :=
  Finset.mem_erase.mpr ⟨fun e => h (SemLoc.dma.inj (Prod.mk.inj e).2), hb⟩

theorem ownSems_tile : (ownSems0 (th d i) : sProp 𝕄) = sems (F := F) d i := by
  unfold SparseCore.Cfg.ownSems0 sems cells
  have h0 := own_cell d i cc0_scratch8.sem (by decide)
  have h1 := cell_in d i (sm' := cc0_scratch8.sem) (by decide) (own_cell d i cc0_scratch9.sem (by decide))
  have h2 := cell_in d i (sm' := cc0_scratch9.sem) (by decide) (cell_in d i (sm' := cc0_scratch8.sem) (by decide) (own_cell d i cc0_scratch10.sem (by decide)))
  have h3 := cell_in d i (sm' := cc0_scratch10.sem) (by decide) (cell_in d i (sm' := cc0_scratch9.sem) (by decide)
    (cell_in d i (sm' := cc0_scratch8.sem) (by decide) (own_cell d i cc0_scratch11.sem (by decide))))
  have h4 := cell_in d i (sm' := cc0_scratch11.sem) (by decide) (cell_in d i (sm' := cc0_scratch10.sem) (by decide)
    (cell_in d i (sm' := cc0_scratch9.sem) (by decide) (cell_in d i (sm' := cc0_scratch8.sem) (by decide) (own_cell d i cc0_scratch12.sem (by decide)))))
  have h5 := cell_in d i (sm' := cc0_scratch12.sem) (by decide) (cell_in d i (sm' := cc0_scratch11.sem) (by decide)
    (cell_in d i (sm' := cc0_scratch10.sem) (by decide) (cell_in d i (sm' := cc0_scratch9.sem) (by decide)
      (cell_in d i (sm' := cc0_scratch8.sem) (by decide) (own_cell d i cc0_scratch13.sem (by decide))))))
  rw [SparseCore.bigSep_erase' h0, SparseCore.bigSep_erase' h1, SparseCore.bigSep_erase' h2, SparseCore.bigSep_erase' h3, SparseCore.bigSep_erase' h4,
    SparseCore.bigSep_erase' h5]

/-! ## A tile's run -/

/-- What a tile has of the barrier: the barrier itself, its own place in it, and the credits of its waits. -/
def kit (c : Fin τ.nSC) (j : Fin nT) : sProp 𝕄 :=
  iprop(∃ (γ : Names nT 12) (κ : ℕ), meeting (F := F) X d γ κ c ∗ st EC γ j 0
    ∗ bigSep (Finset.Ico 0 12) fun k => cred (tallyAt (bcell d c j) (stg k) nT))

theorem tile_run (hX : X.Ok) (q : PosShare TreeShare) (hO0 : ∀ g, O g none = 0) (hO : ∀ g ι, 0 < O g ι → 8 * 11 + 6 ≤ (K (F := F)).lev g ι) :
    iprop(levAts (K (F := F)).L (K (F := F)).lev ∗ kit (F := F) X d (co i) (me i) ∗ given (F := F) X d i q
        ∗ scopedBufs (th d i) ∗ scopedSems0 (th d i) ∗ owes (th d i) (O + debt d (co i) 0) W)
      ⊢ wpT d i (printed i) fun _ => iprop(taken (F := F) X d i ∗ scopedBufs (th d i) ∗ scopedSems0 (th d i)
          ∗ ∃ W', ⌜∀ p ∈ W', p ∈ W ∨ p.2 = none ∨ ∃ j, p.2 = some j⌝ ∗ owes (th d i) O W') := by
  rw [(K (F := F)).scopedBufs_V facts d (co i) ((i 1).castLE hsub0), SparseCore.Cfg.scopedSems0_V (Val := Elt F) d (co i) ((i 1).castLE hsub0),
    ownBufs_tile, ownSems_tile, printed_eq]
  unfold kit
  iintro ⟨#Hlv, ⟨%γ, %κ, #Hm, Hst, Hc⟩, Hg, ⟨B0, B1, B2, B3, B4, B5, B6, BR⟩, Hs, HO⟩
  iapply (circuit_run X d i q hX hO0 hO (γ := γ) (κ := κ)) $$ [Hst Hc Hg B0 B1 B2 B3 B4 B5 B6 Hs HO]
  · isplitr; · iexact Hlv
    isplitl [Hst Hc]
    · isplitr; · iexact Hm
      isplitl [Hst]; · iexact Hst
      unfold credits; iexact Hc
    isplitl [Hg]; · iexact Hg
    isplitl [B0 B1 B2 B3 B4 B5 B6]
    · unfold bufs
      isplitl [B0]; · iexact B0
      isplitl [B1]; · iexact B1
      isplitl [B2]; · iexact B2
      isplitl [B3]; · iexact B3
      isplitl [B4]; · iexact B4
      isplitl [B5]; · iexact B5
      iexact B6
    isplitl [Hs]; · iexact Hs
    iapply (owing_intro (F := F)); iexact HO
  iintro ⟨Ht, Hb, Hs, HO⟩
  isplitl [Ht]; · iexact Ht
  isplitl [Hb BR]
  · unfold bufs
    icases Hb with ⟨B0, B1, B2, B3, B4, B5, B6⟩
    isplitl [B0]; · iexact B0
    isplitl [B1]; · iexact B1
    isplitl [B2]; · iexact B2
    isplitl [B3]; · iexact B3
    isplitl [B4]; · iexact B4
    isplitl [B5]; · iexact B5
    isplitl [B6] <;> iassumption
  isplitl [Hs]; · iexact Hs
  unfold owing
  iexact HO

end Cert.KernelIdeal.Circuit

end
-- ==== Proof.Deal.lean ====
/- The one call: what it takes of the arrays and brings back, and how that is dealt among the tiles and gathered again. -/
module

public import proofs.«01_k».proof.Proof.Tile

@[expose] public section

noncomputable section

namespace Cert.KernelIdeal.Circuit

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Meet

variable {F : FTy → Type} [FloatOps F]

local notation "𝕄" => MT nD τ sig (HIx 12) (Elt F) ℕ UU ℕ

/-! ## The arrays -/

abbrev valsL (d : Dev nD) : Loc nD τ sig := (SparseCore.T d).loc main_v0
abbrev wiresL (d : Dev nD) : Loc nD τ sig := (SparseCore.T d).loc main_v1
abbrev gatesL (d : Dev nD) : Loc nD τ sig := (SparseCore.T d).loc main_arg2
abbrev auxL (d : Dev nD) : Loc nD τ sig := (SparseCore.T d).loc main_v4
abbrev interL (d : Dev nD) : Loc nD τ sig := (SparseCore.T d).loc main_v5_0
abbrev outL (d : Dev nD) : Loc nD τ sig := (SparseCore.T d).loc main_v5_1

/-- The two halves of a buffer's share. -/
def half (k : Fin 2) : PosShare TreeShare := Transfers.dealOf fullShare (Finset.univ : Finset (Fin 2)) k

theorem halves (ℓ : Loc nD τ sig) (f : Buf (Elt F) ℓ) : (ℓ ↦{fullShare} f : sProp 𝕄) = iprop((ℓ ↦{half 0} f) ∗ ℓ ↦{half 1} f) := by
  have h : (ℓ ↦{fullShare} f : sProp 𝕄) = bigSep Finset.univ fun k : Fin 2 => ℓ ↦{half k} f :=
    Transfers.pointsTo_deal (Finset.univ : Finset (Fin 2)) ⟨0, Finset.mem_univ _⟩ fullShare
  rw [h, bs_split (0 : Fin 2), show (Finset.univ : Finset (Fin 2)).erase 0 = {1} by decide, BI.bigSep_singleton]

/-- A tile's coordinates. -/
def coordsV (c : Fin (grid0.bound 0)) (s : Fin (grid0.bound 1)) : grid0.Coords :=
  fun | 0 => c | 1 => s | ⟨_ + 2, h⟩ => absurd h (Nat.not_lt.2 (Nat.le_add_left _ _))

variable (X : Net) (d : Dev nD) (c : Fin (grid0.bound 0))

/-- What the call takes: the circuit's arrays, half of the wires and of the operations, and the results' arrays. -/
def takes : sProp 𝕄 :=
  iprop((valsL d ↦{fullShare} valsOf X 0) ∗ (auxL d ↦{fullShare} auxOf X) ∗ (wiresL d ↦{half 0} wiresOf X) ∗ (gatesL d ↦{half 0} gatesOf X)
    ∗ (∃ f : S12x4096.Idx → BitVec 32, interL d ↦{fullShare} f) ∗ ∃ f : S16.Idx → BitVec 32, outL d ↦{fullShare} f)

/-- The barrier's semaphores at zero. -/
def bars (c : Fin τ.nSC) : sProp 𝕄 := bigSep Finset.univ fun j : Fin nT => semVal (bcell d c j) 0

/-- What it brings back: the results. -/
def brings : sProp 𝕄 := iprop((interL d ↦{fullShare} resOf X) ∗ outL d ↦{fullShare} outOf X)

/-! ## Each array dealt -/

theorem dealt (ℓ : Loc nD τ sig) (f : Buf (Elt F) ℓ) : (ℓ ↦{fullShare} f : sProp 𝕄) = bigSep Finset.univ fun j : Fin nT => ℓ ↦{lf j} f :=
  Transfers.pointsTo_deal (Finset.univ : Finset (Fin nT)) ⟨⟨0, by decide⟩, Finset.mem_univ _⟩ fullShare

theorem cut_wires (q : PosShare TreeShare) (f : S12x16384.Idx → BitVec 32) :
    (wiresL d ↦{q} f : sProp 𝕄) = bigSep Finset.univ fun j : Fin nT => wiresL d ↦[from2 12 16384 0 (1024 * j.val) 1024]{q} f := by
  rw [← pointsTo_biUnion (Finset.univ : Finset (Fin nT)) (ℓ := wiresL d) (fun j => from2 12 16384 0 (1024 * j.val) 1024) (parts_disjoint 12 16384 0 nT 1024),
    parts_cover 12 16384 nT 1024 rfl (by omega)]
theorem cut_gates (q : PosShare TreeShare) (f : S12x4096.Idx → BitVec 32) :
    (gatesL d ↦{q} f : sProp 𝕄) = bigSep Finset.univ fun j : Fin nT => gatesL d ↦[from2 12 4096 0 (256 * j.val) 256]{q} f := by
  rw [← pointsTo_biUnion (Finset.univ : Finset (Fin nT)) (ℓ := gatesL d) (fun j => from2 12 4096 0 (256 * j.val) 256) (parts_disjoint 12 4096 0 nT 256),
    parts_cover 12 4096 nT 256 rfl (by omega)]
theorem cut_inter (f : S12x4096.Idx → BitVec 32) :
    (interL d ↦{fullShare} f : sProp 𝕄) = bigSep Finset.univ fun j : Fin nT => interL d ↦[from2 12 4096 0 (256 * j.val) 256]{fullShare} f := by
  rw [← pointsTo_biUnion (Finset.univ : Finset (Fin nT)) (ℓ := interL d) (fun j => from2 12 4096 0 (256 * j.val) 256) (parts_disjoint 12 4096 0 nT 256),
    parts_cover 12 4096 nT 256 rfl (by omega)]

theorem some_inter (f : S12x4096.Idx → BitVec 32) :
    (bigSep Finset.univ fun j : Fin nT => interL d ↦[from2 12 4096 0 (256 * j.val) 256]{fullShare} f)
      ⊢ (bigSep Finset.univ fun j : Fin nT => iprop(∃ f : S12x4096.Idx → BitVec 32, interL d ↦[from2 12 4096 0 (256 * j.val) 256]{fullShare} f) : sProp 𝕄) :=
  SparseCore.ent (bigSep_mono fun j _ =>
    BI.BIClass.exists_intro (Φ := fun f : S12x4096.Idx → BitVec 32 => (interL d ↦[from2 12 4096 0 (256 * j.val) 256]{fullShare} f : sProp 𝕄)) f)

/-- What tile 0 alone has. -/
theorem first_tile (R : sProp 𝕄) : (bigSep Finset.univ fun j : Fin nT => if j.val = 0 then R else iprop(emp)) = R := by
  rw [bs_split (⟨0, by decide⟩ : Fin nT), if_pos rfl,
    show (bigSep ((Finset.univ : Finset (Fin nT)).erase ⟨0, by decide⟩) fun j => if j.val = 0 then R else iprop(emp) : sProp 𝕄)
      = bigSep ((Finset.univ : Finset (Fin nT)).erase ⟨0, by decide⟩) fun _ => iprop(emp) from
      bigSep_congr fun j hj => if_neg fun h => (Finset.mem_erase.mp hj).1 (Fin.ext h), bs_emp]
  exact equiv_iff.mp sep_emp

/-! ## The shared memory dealt -/

/-- The shared memory's two slots. -/
theorem slots_cover : row2 2 4096 0 0 4096 ∪ row2 2 4096 1 0 4096 = Finset.univ := by
  ext x
  have h : (x 0).val < 2 := (x 0).isLt
  have h' : (x 1).val < 4096 := (x 1).isLt
  simp only [Finset.mem_union, mem_row2, Finset.mem_univ, iff_true]
  omega

theorem slots_disjoint : Disjoint (row2 2 4096 0 0 4096) (row2 2 4096 1 0 4096) :=
  Finset.disjoint_left.mpr fun x h h' => by rw [mem_row2] at h h'; omega

theorem shared_slots (s : Fin τ.nSC) (f : S2x4096.Idx → BitVec 32) :
    (shLoc d s ↦{fullShare} f : sProp 𝕄) ⊢ iprop(slot d s fullShare 0 f ∗ slot d s fullShare 1 f) := by
  unfold slot
  have h : (shLoc d s ↦{fullShare} f : sProp 𝕄) = shLoc d s ↦[row2 2 4096 0 0 4096 ∪ row2 2 4096 1 0 4096]{fullShare} f := by rw [slots_cover]
  rw [h]
  exact (pointsTo_union (ℓ := shLoc d s) (I := row2 2 4096 0 0 4096) (J := row2 2 4096 1 0 4096) slots_disjoint).1

/-- The shared memory before the first layer. -/
theorem mine_first (s : Fin τ.nSC) :
    iprop(∃ f : S2x4096.Idx → BitVec 32, shLoc d s ↦{fullShare} f) ⊢ (bigSep Finset.univ fun j : Fin nT => mine (F := F) X d s 0 j) := by
  simp only [mine]
  rw [bs_sep]
  iintro ⟨%f, H⟩
  ihave H := (shared_slots (F := F) d s f) $$ H
  rw [slot_parts, slot_parts]
  icases H with ⟨H, H'⟩
  isplitl [H]
  · iapply (SparseCore.ent (bigSep_mono (Φ := fun j => part (F := F) d s fullShare 0 j f) fun j _ =>
      BI.BIClass.exists_intro (Φ := fun f => part (F := F) d s fullShare 0 j f) f))
    iexact H
  · iapply (SparseCore.ent (bigSep_mono (Φ := fun j => part (F := F) d s fullShare 1 j f) fun j _ =>
      BI.BIClass.exists_intro (Φ := fun f => part (F := F) d s fullShare 1 j f) f))
    iexact H'

/-- The shared memory after the last layer. -/
theorem mine_last (s : Fin τ.nSC) :
    (bigSep Finset.univ fun j : Fin nT => mine (F := F) X d s 12 j) ⊢ iprop(∃ f : S2x4096.Idx → BitVec 32, shLoc d s ↦{fullShare} f) := by
  simp only [mine]
  rw [bs_sep]
  iintro ⟨H, H'⟩
  ihave H := (SparseCore.ent (bigSep_exists_pi (Finset.univ : Finset (Fin nT)) fun j (f : S2x4096.Idx → BitVec 32) => part (F := F) d s fullShare 0 j f)) $$ H
  icases H with ⟨%fs, H⟩
  unfold part
  ihave H := (pointsTo_biUnion_join (ℓ := shLoc d s) (q := fullShare) (Finset.univ : Finset (Fin nT)) (fun j => row2 2 4096 0 (256 * j.val) 256) fs (fs ⟨0, by decide⟩) (rowParts_disjoint 2 4096 0 nT 256)) $$ H
  icases H with ⟨%g, -, H⟩
  rw [rowParts_cover 2 4096 0 nT 256 rfl (by omega)]
  ihave H' := (Entails.of_eq (show (bigSep Finset.univ fun j : Fin nT => slot (F := F) d s (lf j) 1 (slotOf X 11)) = slot (F := F) d s fullShare 1 (slotOf X 11) from
    (Transfers.pointsTo_deal (Finset.univ : Finset (Fin nT)) ⟨⟨0, by decide⟩, Finset.mem_univ _⟩ fullShare).symm)) $$ H'
  unfold slot
  ihave H := (pointsTo_join (ℓ := shLoc d s) (q := fullShare) (I := row2 2 4096 0 0 4096) (J := row2 2 4096 1 0 4096) (f := g) (g := slotOf X 11) slots_disjoint) $$ [H H']
  · isplitl [H] <;> iassumption
  rw [slots_cover]
  iexists _; iexact H

/-! ## The call's deal -/

/-- The sequencer's own buffers: the shared memory, and the others. -/
theorem ownBufs_seq (s : Fin τ.nSC) :
    (ownBufs (S d s) : sProp 𝕄) = iprop((∃ f, shLoc d s ↦{fullShare} f)
      ∗ bigSep ((ownRefs (τ := τ) (sig := sig) (.scScalar s)).erase ⟨.shared, ⟨0, by decide⟩, s⟩) fun b => iprop(∃ f, ((d, b) : Loc nD τ sig) ↦{fullShare} f)) := by
  unfold SparseCore.Cfg.ownBufs
  have h : (⟨.shared, ⟨0, by decide⟩, s⟩ : DevRef τ sig) ∈ ownRefs (τ := τ) (sig := sig) (.scScalar s) := (mem_ownRefs (p := Proc.scScalar s)).mpr rfl
  exact SparseCore.bigSep_erase' h

theorem given_all : iprop(takes (F := F) X d ∗ ∃ f : S2x4096.Idx → BitVec 32, shLoc d (c.castLE hcore0) ↦{fullShare} f)
    ⊢ (bigSep Finset.univ fun j : Fin nT => given (F := F) X d (coordsV c j) (half 0)) := by
  show _ ⊢ (bigSep Finset.univ fun j : Fin nT => iprop((valsL d ↦{lf j} valsOf X 0) ∗ (auxL d ↦{lf j} auxOf X)
    ∗ (wiresL d ↦[from2 12 16384 0 (1024 * j.val) 1024]{half 0} wiresOf X)
    ∗ (gatesL d ↦[from2 12 4096 0 (256 * j.val) 256]{half 0} gatesOf X)
    ∗ (∃ f : S12x4096.Idx → BitVec 32, interL d ↦[from2 12 4096 0 (256 * j.val) 256]{fullShare} f)
    ∗ mine (F := F) X d (c.castLE hcore0) 0 j
    ∗ (if j.val = 0 then iprop(∃ f : S16.Idx → BitVec 32, outL d ↦{fullShare} f) else iprop(emp))) : sProp 𝕄)
  rw [bs_sep, bs_sep, bs_sep, bs_sep, bs_sep, bs_sep, first_tile, ← dealt, ← dealt, ← cut_wires, ← cut_gates]
  unfold takes
  iintro ⟨⟨Hv, Ha, Hw, Hg, ⟨%f, Hi⟩, Ho⟩, Hs⟩
  isplitl [Hv]; · iexact Hv
  isplitl [Ha]; · iexact Ha
  isplitl [Hw]; · iexact Hw
  isplitl [Hg]; · iexact Hg
  isplitl [Hi]
  · ihave Hi := (Entails.of_eq (cut_inter (F := F) d f)) $$ Hi
    iapply (some_inter (F := F) d f); iexact Hi
  isplitl [Hs]
  · iapply (mine_first (F := F) X d); iexact Hs
  iexact Ho

theorem taken_all : (bigSep Finset.univ fun j : Fin nT => taken (F := F) X d (coordsV c j))
    ⊢ iprop((brings (F := F) X d ∗ bars (F := F) d (c.castLE hcore0)) ∗ ∃ f : S2x4096.Idx → BitVec 32, shLoc d (c.castLE hcore0) ↦{fullShare} f) := by
  show (bigSep Finset.univ fun j : Fin nT => iprop((interL d ↦[from2 12 4096 0 (256 * j.val) 256]{fullShare} resOf X)
    ∗ mine (F := F) X d (c.castLE hcore0) 12 j
    ∗ (if j.val = 0 then (outL d ↦{fullShare} outOf X) else iprop(emp))
    ∗ semVal (bcell d (c.castLE hcore0) j) 0) : sProp 𝕄) ⊢ _
  rw [bs_sep, bs_sep, bs_sep, first_tile, ← cut_inter]
  unfold brings bars
  iintro ⟨Hi, Hm, Ho, Hb⟩
  isplitl [Hi Ho Hb]
  · isplitr [Hb]
    · isplitl [Hi] <;> iassumption
    · iexact Hb
  iapply (mine_last (F := F) X d); iexact Hm

theorem deal : iprop(takes (F := F) X d ∗ ownBufs (S d (c.castLE hcore0))) ⊢ |={Set.univ}=> iprop(
      (bigSep Finset.univ fun j : Fin nT => given (F := F) X d (coordsV c j) (half 0))
      ∗ ((bigSep Finset.univ fun j : Fin nT => taken (F := F) X d (coordsV c j))
          -∗ iprop((brings (F := F) X d ∗ bars (F := F) d (c.castLE hcore0)) ∗ ownBufs (S d (c.castLE hcore0))))) := by
  rw [ownBufs_seq]
  iintro ⟨Ht, Hs, HR⟩
  imodintro
  isplitl [Ht Hs]
  · iapply (given_all (F := F) X d c)
    isplitl [Ht]; · iexact Ht
    iexact Hs
  iintro Ht
  ihave H := (taken_all (F := F) X d c) $$ Ht
  icases H with ⟨H, Hs⟩
  isplitl [H]; · iexact H
  isplitl [Hs]; · iexact Hs
  iexact HR

end Cert.KernelIdeal.Circuit

end
-- ==== Proof.Launch.lean ====
/- The launch: what the call takes and brings back, each tile's obligation, the sequencer's deal, and what the launch
   hands the tiles of the barrier. -/
module

public import proofs.«01_k».proof.Proof.Deal

@[expose] public section

noncomputable section

namespace Cert.KernelIdeal.Circuit

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Meet

variable {F : FTy → Type} [FloatOps F]

local notation "𝕄" => MT nD τ sig (HIx 12) (Elt F) ℕ UU ℕ

variable (X : Dev nD → Net)

/-! ## What the threads pass one another -/

set_option backward.proofsInPublic true in
/-- The one call's payments: the call's arrays to and from the sequencer, each tile's from and to it; each tile of
    SparseCore 0 starts with its place at the barrier and owes every tile a unit per layer. -/
def P : (K (F := F)).Pay (N := 12) (nD := nD) (Val := Elt F) (Name := ℕ) (U := UU) where
  st := fun q d _ => match q with | 0 => takes (F := F) (X d) d
  dn := fun q d c => match q with | 0 => iprop(brings (F := F) (X d) d ∗ bars (F := F) d ((K (F := F)).core 0 c))
  go := fun q d c i => match q with | 0 => given (F := F) (X d) d (coordsV c i) (half 0)
  td := fun q d c i => match q with | 0 => taken (F := F) (X d) d (coordsV c i)
  x := fun _ thr => match thr with
    | (d, .scVector c i) => if c.val < 1 then kit (F := F) (X d) d c i else iprop(emp)
    | _ => iprop(emp)
  ox := fun _ thr => match thr with
    | (d, .scVector c _) => if c.val < 1 then debt d c 0 else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨k, j, -, hk, rfl, rfl⟩ := debt_pos h
        rw [lev_bcell d c j hk]
        exact ⟨by show 8 * 0 + 3 ≤ _; omega, by show _ ≤ 8 * 11 + 5; omega⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

theorem mine_storable (Y : Net) (d : Dev nD) (c : Fin τ.nSC) : ∀ (r : ℕ) (k : Fin nT), Storable (upEmb : UEmb _ 𝕄) (mine (F := F) Y d c r k)
  | 0, _ => by simp only [mine, part]; infer_instance
  | _ + 1, _ => by simp only [mine, part, slot]; infer_instance

theorem given_storable (Y : Net) (d : Dev nD) (i : grid0.Coords) (q : PosShare TreeShare) : Storable (upEmb : UEmb _ 𝕄) (given (F := F) Y d i q) := by
  have := mine_storable (F := F) Y d (co i) 0 (me i)
  unfold given; split <;> infer_instance
theorem taken_storable (Y : Net) (d : Dev nD) (i : grid0.Coords) : Storable (upEmb : UEmb _ 𝕄) (taken (F := F) Y d i) := by
  have := mine_storable (F := F) Y d (co i) 12 (me i)
  unfold taken; split <;> infer_instance

instance P_storable : (P (F := F) X).IsStorable where
  st q d _ := match q with | 0 => (by unfold takes; infer_instance : Storable (upEmb : UEmb _ 𝕄) (takes (F := F) (X d) d))
  dn q d c := match q with
    | 0 => (by unfold brings bars; infer_instance : Storable (upEmb : UEmb _ 𝕄) iprop(brings (F := F) (X d) d ∗ bars (F := F) d ((K (F := F)).core 0 c)))
  go q d c i := match q with | 0 => given_storable (F := F) (X d) d (coordsV c i) (half 0)
  td q d c i := match q with | 0 => taken_storable (F := F) (X d) d (coordsV c i)

/-! ## The tiles' obligation, and the sequencer's -/

theorem defs₀_vector (c : Fin τ.nSC) (s : Fin τ.nSub) :
    defs₀ (F := F) (.scVector c s) 0 () = SparseCore.onTile hcore0 hsub0 (fun c s => printed (coordsV c s)) ⟨⟩ c s := rfl

set_option maxRecDepth 200000 in
set_option maxHeartbeats 4000000 in
theorem tileObl (hX : ∀ d, (X d).Ok) : (K (F := F)).TileObl (D (F := F)) 𝒱 (P X) v₀ 0 := by
  intro d c i O W hO hOlev _
  have hc : ((K (F := F)).core 0 c).val < 1 := c.isLt
  have hci : ((K (F := F)).core 0 c).val < grid0.bound 0 ∧ ((K (F := F)).sub 0 i).val < grid0.bound 1 := ⟨c.isLt, i.isLt⟩
  rw [show (P (F := F) X).ox 0 (V d ((K (F := F)).core 0 c) ((K (F := F)).sub 0 i)) = debt d ((K (F := F)).core 0 c) 0 from if_pos hc,
    show (P (F := F) X).x 0 (V d ((K (F := F)).core 0 c) ((K (F := F)).sub 0 i)) = kit (F := F) (X d) d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have e1 : V d ((K (F := F)).core 0 c) ((K (F := F)).sub 0 i) = th d (coordsV c i) := rfl
  have e2 : (P (F := F) X).go 0 d c i = given (F := F) (X d) d (coordsV c i) (half 0) := rfl
  have e3 : (P (F := F) X).td 0 d c i = taken (F := F) (X d) d (coordsV c i) := rfl
  have e4 : (K (F := F)).core 0 c = co (coordsV c i) := rfl
  have e5 : kit (F := F) (X d) d ((K (F := F)).core 0 c) ((K (F := F)).sub 0 i) = kit (F := F) (X d) d (co (coordsV c i)) (me (coordsV c i)) := rfl
  have e6 : debt d ((K (F := F)).core 0 c) 0 = debt d (co (coordsV c i)) 0 := rfl
  rw [e2, e3, e5, e6]
  exact tile_run (F := F) (X d) d (coordsV c i) (hX d) (half 0) hO hOlev

theorem vecSplit : (K (F := F)).VecSplit (P X) 0 := fun d c => deal (F := F) (X d) d c

end Cert.KernelIdeal.Circuit

end
-- ==== Proof.Start.lean ====
/- The launch's ghost state: what the launch starts from, and what it makes of it for the tiles — SparseCore 0's barrier
   set up once, each tile given its place in it and the credits of its waits. -/
module

public import proofs.«01_k».proof.Proof.Launch
public import Idealize.SL.ProofMode.BigOp

@[expose] public section

noncomputable section

namespace Cert.KernelIdeal.Circuit

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Meet

variable {F : FTy → Type} [FloatOps F]

local notation "𝕄" => MT nD τ sig (HIx 12) (Elt F) ℕ UU ℕ

variable (X : Dev nD → Net)

abbrev d₀ : Dev nD := (0 : Fin 1)
abbrev c₀ : Fin τ.nSC := ⟨0, by decide⟩

/-! ## The tiles of the call and their barrier's cells -/

abbrev DCI : Type := Dev nD × Fin τ.nSC × Fin τ.nSub

/-- Tile `j` of the call. -/
def tile (j : Fin nT) : DCI := (d₀, c₀, j.castLE hsub0)
theorem tile_injective : Function.Injective tile := fun a b e =>
  Fin.castLE_injective hsub0 (Prod.mk.inj (Prod.mk.inj e).2).2
theorem tiles_eq : (Finset.univ.filter fun x : DCI => x.2.1.val < 1) = Finset.univ.image tile := by
  ext ⟨d, c, s⟩
  simp only [Finset.mem_filter, Finset.mem_univ, true_and, Finset.mem_image, tile]
  constructor
  · intro h
    exact ⟨s, by rw [Subsingleton.elim d d₀, show c = c₀ from Fin.ext (Nat.lt_one_iff.mp h)]; rfl⟩
  · rintro ⟨j, e⟩
    rw [← (Prod.mk.inj (Prod.mk.inj e).2).1]
    exact Nat.one_pos

/-- Of what every tile of the machine has, the call's tiles' part. -/
theorem at_tiles (Φ : DCI → sProp 𝕄) : bigSep Finset.univ Φ ⊢ bigSep Finset.univ fun j : Fin nT => Φ (tile j) := by
  rw [bigSep_filter_split Finset.univ (fun x : DCI => x.2.1.val < 1), tiles_eq,
    SparseCore.bigSep_image_of_injOn (fun a _ b _ e => tile_injective e)]
  exact sep_elim_left
/-- The call's tiles' part, and nothing for the others. -/
theorem of_tiles (Φ : DCI → sProp 𝕄) :
    (bigSep Finset.univ fun j : Fin nT => Φ (tile j)) ⊢ bigSep Finset.univ fun x : DCI => if x.2.1.val < 1 then Φ x else iprop(emp) := by
  refine BI.Entails.trans ?_ (Entails.of_eq (bigSep_filter_split Finset.univ (fun x : DCI => x.2.1.val < 1)).symm)
  show (bigSep Finset.univ fun j : Fin nT => Φ (tile j)) ⊢ (iprop((bigSep _ _) ∗ bigSep _ _) : sProp 𝕄)
  iintro H
  isplitl [H]
  · rw [BI.bigSep_congr (Ψ := Φ) (fun x hx => if_pos (Finset.mem_filter.mp hx).2), tiles_eq,
      SparseCore.bigSep_image_of_injOn (fun a _ b _ e => tile_injective e)]
    iexact H
  · rw [BI.bigSep_congr (Ψ := fun _ => iprop(emp)) (fun x hx => if_neg (Finset.mem_filter.mp hx).2), bs_emp]
    iempintro

/-- The cells of the barrier. -/
def bCells : Finset (GSem nD τ sig) := Finset.univ.image fun j : Fin nT => bcell d₀ c₀ j
theorem mem_bCells (j : Fin nT) : bcell d₀ c₀ j ∈ bCells := Finset.mem_image_of_mem _ (Finset.mem_univ j)

/-! ## What the launch starts from -/

def u₀ : UU := (initOf (K (F := F)).hsCells (K (F := F)).hsToks, 1)

theorem ownU_part : (ownU (u₀ (F := F)) : sProp 𝕄) ⊢ BI.own (EH (initOf (K (F := F)).hsCells (K (F := F)).hsToks)) :=
  Entails.of_eq rfl

/-- The barrier's semaphores, of those free. -/
theorem free_bars : ((K (F := F)).freeOn (· ∈ bCells) : sProp 𝕄) ⊢ bars (F := F) d₀ c₀ := by
  unfold SparseCore.Cfg.freeOn bars
  refine sep_elim_right.trans ((at_tiles _).trans (bigSep_mono fun j _ => ?_))
  exact bigSep_elim (Φ := fun sm : SemLoc sig => (semVal (V d₀ c₀ (j.castLE hsub0), sm) 0 : sProp 𝕄)) (Finset.mem_filter.mpr
    ⟨Finset.mem_erase.mpr ⟨fun h => sc_bar0_ne_go (SemLoc.reg.inj h), Finset.mem_filter.mpr ⟨Finset.mem_univ _, by decide⟩⟩, mem_bCells j⟩)

/-! ## The credits -/

theorem tally_units (g : GSem nD τ sig) (ι : HIx 12) : ∀ n : ℕ, ∑ _ : Fin n, tallyAt g ι 1 = (tallyAt g ι n : CellTallies nD τ sig (HIx 12))
  | 0 => by rw [Fin.sum_univ_zero, tallyAt_zero]
  | n + 1 => by rw [Fin.sum_univ_succ, tally_units g ι n, tallyAt_add, add_comm n 1]

/-- The debts of all the tiles, by the tile owed. -/
theorem debts (d : Dev nD) (c : Fin τ.nSC) : ∑ _ : Fin nT, debt d c 0 = ∑ j : Fin nT, ∑ k ∈ Finset.Ico 0 12, tallyAt (bcell d c j) (stg k) nT := by
  unfold debt
  rw [Finset.sum_comm, Finset.sum_comm (s := (Finset.univ : Finset (Fin nT)))]
  refine Finset.sum_congr rfl fun k _ => ?_
  rw [Finset.sum_comm]
  exact Finset.sum_congr rfl fun j _ => tally_units _ _ nT

/-- The credits of the tiles' debts, to each tile those of its waits. -/
theorem credits_deal : ((P (F := F) X).oxCred : sProp 𝕄)
    ⊢ bigSep Finset.univ fun j : Fin nT => bigSep (Finset.Ico 0 12) fun k => cred (tallyAt (bcell d₀ c₀ j) (stg k) nT) := by
  unfold SparseCore.Cfg.Pay.oxCred
  rw [SparseCore.Cfg.bigSep_threads (fun thr : Thread nD τ => (cred ((P (F := F) X).oxFrom 0 thr) : sProp 𝕄))]
  refine sep_elim_right.trans (sep_elim_right.trans ((at_tiles _).trans ?_))
  have hox : ∀ j : Fin nT, (P (F := F) X).oxFrom 0 (V (tile j).1 (tile j).2.1 (tile j).2.2) = debt d₀ c₀ 0 := fun j => by
    rw [show (0 : ℕ) = (0 : Fin 1).val from rfl, (P X).oxFrom_step, (P X).oxFrom_end _ (n := (0 : Fin 1).val + 1) le_rfl, add_zero]
    show (P (F := F) X).ox 0 (V d₀ c₀ (j.castLE hsub0)) = debt d₀ c₀ 0
    exact if_pos (c := c₀.val < 1) (t := debt d₀ c₀ 0) (e := 0) Nat.one_pos
  simp only [hox]
  rw [← SparseCore.Cfg.cred_finsum, debts, SparseCore.Cfg.cred_finsum]
  exact bigSep_mono fun j _ => Entails.of_eq (SparseCore.Cfg.cred_finsum _ _)

/-! ## The kits -/

theorem kits (γ : Names nT 12) (κ : ℕ) :
    iprop(meeting (F := F) (X d₀) d₀ γ κ c₀ ∗ (bigSep Finset.univ fun j : Fin nT => st EC γ j 0)
        ∗ bigSep Finset.univ fun j : Fin nT => bigSep (Finset.Ico 0 12) fun k => cred (tallyAt (bcell d₀ c₀ j) (stg k) nT))
      ⊢ (bigSep Finset.univ fun j : Fin nT => kit (F := F) (X d₀) d₀ c₀ j : sProp 𝕄) := by
  rw [← bs_sep]
  iintro ⟨#Hm, H⟩
  iapply (bigSep_with_persistent (S := (Finset.univ : Finset (Fin nT))) (R := meeting (F := F) (X d₀) d₀ γ κ c₀) (Φ := fun j : Fin nT => iprop(st EC γ j 0
      ∗ bigSep (Finset.Ico 0 12) fun k => cred (tallyAt (bcell d₀ c₀ j) (stg k) nT))) fun j _ => by
    unfold kit
    iintro ⟨#Hm, Hs, Hc⟩
    iexists γ, κ
    isplitr; · iexact Hm
    isplitl [Hs] <;> iassumption)
  isplitr; · iexact Hm
  iexact H

/-- What the launch hands each thread. -/
theorem handed : (bigSep Finset.univ fun j : Fin nT => kit (F := F) (X d₀) d₀ c₀ j)
    ⊢ (bigSep Finset.univ fun thr : Thread nD τ => bigSep Finset.univ fun q : Fin 1 => (P (F := F) X).x q thr : sProp 𝕄) := by
  rw [SparseCore.Cfg.bigSep_threads (fun thr : Thread nD τ => bigSep Finset.univ fun q : Fin 1 => (P X).x q thr)]
  have hT : ∀ d : Dev nD, (bigSep Finset.univ fun q : Fin 1 => (P (F := F) X).x q (SparseCore.T d)) = iprop(emp) :=
    fun d => bigSep_univ_of_subsingleton (0 : Fin 1)
  have hS : ∀ dc : Dev nD × Fin τ.nSC, (bigSep Finset.univ fun q : Fin 1 => (P (F := F) X).x q (S dc.1 dc.2)) = iprop(emp) :=
    fun dc => bigSep_univ_of_subsingleton (0 : Fin 1)
  have hV : ∀ x : DCI, (bigSep Finset.univ fun q : Fin 1 => (P (F := F) X).x q (V x.1 x.2.1 x.2.2))
      = if x.2.1.val < 1 then kit (F := F) (X x.1) x.1 x.2.1 x.2.2 else iprop(emp) := fun x => bigSep_univ_of_subsingleton (0 : Fin 1)
  simp only [hT, hS, hV, bs_emp]
  iintro H
  isplitr; · iempintro
  isplitr; · iempintro
  iapply (of_tiles (F := F) fun x : DCI => kit (F := F) (X x.1) x.1 x.2.1 x.2.2)
  iexact H

theorem hu₀ : iprop(ownU (u₀ (F := F)) ∗ (P (F := F) X).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P X).x q thr) : sProp 𝕄) := by
  iintro ⟨Hu, Hcred, Hfree⟩
  ihave HH := (ownU_part (F := F)) $$ Hu
  ihave Hb := (free_bars (F := F)) $$ Hfree
  ihave Hc := (credits_deal (F := F) X) $$ Hcred
  unfold bars
  imod (Cert.Meet.alloc (R := 12) EC (fun j : Fin nT => bcell d₀ c₀ j) (fun r k j => pay (F := F) (X d₀) d₀ c₀ r k j) (by decide) (E := Set.univ)) $$ Hb with ⟨%γ, %κ, #Hm, Hst⟩
  imodintro
  isplitl [HH]; · iexact HH
  isplitr; · rw [bs_emp]; iempintro
  iapply (handed (F := F) X)
  iapply (kits (F := F) X γ κ)
  isplitr; · iexact Hm
  isplitl [Hst]; · iexact Hst
  iexact Hc

end Cert.KernelIdeal.Circuit

end
-- ==== Proof.Host.lean ====
/- The operations of the program's main before the call and after it. -/
module

public import proofs.«01_k».proof.Proof.Setup

@[expose] public section

noncomputable section

namespace Cert.KernelIdeal.Circuit

open Idealize.ShloMosaic Idealize.SL.Sem
open Idealize.ShloMosaic.StableHlo (seq)
open Cert.KernelIdeal.Gen

variable {F : FTy → Type} [FloatOps F]

/-- Those before the call. -/
abbrev before : List (HloOp τ sig (Elt F)) :=
  [StableHlo.nullary main_c (fun i => lit0 (S4.rowMajor i)),
   StableHlo.unary main_arg0 main_v0 ((extui 32 · natLt_1_32) : (⟨S4096, .i1⟩ : BufTy).Contents (Elt F) → (⟨S4096, .i32⟩ : BufTy).Contents (Elt F)),
   StableHlo.reshape main_arg1 main_v1 (rfl : (.i32 : EltTy) = .i32) shapeCasts_S12x4096x4_S12x16384,
   StableHlo.reshape main_arg4 main_v2 (rfl : (.i32 : EltTy) = .i32) shapeCasts_S_S1,
   StableHlo.unary main_v2 main_v3 (broadcastInDim S8 ![0] bcast_S1_S8_0 : (⟨S1, .i32⟩ : BufTy).Contents (Elt F) → (⟨S8, .i32⟩ : BufTy).Contents (Elt F)),
   StableHlo.nary ![main_c, main_arg3, main_v3] main_v4 (fun u => (concatenate S16 0 [⟨S4, (u 0 : (⟨S4, .i32⟩ : BufTy).Contents (Elt F))⟩, ⟨S4, (u 1 : (⟨S4, .i32⟩ : BufTy).Contents (Elt F))⟩, ⟨S8, (u 2 : (⟨S8, .i32⟩ : BufTy).Contents (Elt F))⟩] concatenates_S4_S4_S8_S16_d0 : (⟨S16, .i32⟩ : BufTy).Contents (Elt F)))]

/-- Those after it. -/
abbrev behind : List (HloOp τ sig (Elt F)) :=
  [StableHlo.unary main_v5_1 main_v6 ((extractStridedSlice S1 ![0] · slices_S16_S1_0) : (⟨S16, .i32⟩ : BufTy).Contents (Elt F) → (⟨S1, .i32⟩ : BufTy).Contents (Elt F)),
   StableHlo.reshape main_v6 main_v7 (rfl : (.i32 : EltTy) = .i32) shapeCasts_S1_S_,
   StableHlo.reshape main_v5_0 main_v8 (rfl : (.i32 : EltTy) = .i32) shapeCasts_S12x4096_S49152]

theorem main_eq (d : Dev nD) : main (F := F) d = (seq before >>= fun _ => (K (F := F)).run d 0 >>= fun _ => seq behind >>= fun _ => pure ⟨⟩) := rfl

end Cert.KernelIdeal.Circuit

end
-- ==== Proof.Run.lean ====
/- The program's main: the operations before the call, the call, the operations after it; what each array holds at the
   end; and the program's run. -/
module

public import proofs.«01_k».proof.Proof.Start
public import proofs.«01_k».proof.Proof.Host

@[expose] public section

noncomputable section

namespace Cert.KernelIdeal.Circuit

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (seq after)
open Cert.KernelIdeal.Gen Cert.Meet

variable {F : FTy → Type} [FloatOps F]

local notation "𝕄" => MT nD τ sig (HIx 12) (Elt F) ℕ UU ℕ

/-! ## The arrays -/

abbrev dr (b : Ref sig .tc) : DevRef τ sig := Proc.devRef .tc b

/-- The arrays. -/
abbrev arrays : Finset (DevRef τ sig) := Pipeline.ucRefs τ sig
/-- The arrays the call takes. -/
abbrev called : Finset (DevRef τ sig) := {dr main_v0, dr main_v1, dr main_arg2, dr main_v4, dr main_v5_0, dr main_v5_1}
/-- The results' arrays. -/
abbrev results : Finset (DevRef τ sig) := {dr main_v5_0, dr main_v5_1}
/-- The arrays left to the operations after the call. -/
abbrev left : Finset (DevRef τ sig) := (arrays \ called) ∪ results

theorem before_sub : (before (F := F)).Forall fun op => op.bufs ⊆ StableHlo.tcRefs τ sig :=
  ⟨StableHlo.nullary_bufs_sub .., StableHlo.unary_bufs_sub .., StableHlo.reshape_bufs_sub .., StableHlo.reshape_bufs_sub ..,
    StableHlo.unary_bufs_sub .., StableHlo.nary_bufs_sub ..⟩
theorem behind_sub : (behind (F := F)).Forall fun op => op.bufs ⊆ left :=
  ⟨show ({dr main_v5_1, dr main_v6} : Finset (DevRef τ sig)) ⊆ left by decide, show ({dr main_v6, dr main_v7} : Finset (DevRef τ sig)) ⊆ left by decide,
    show ({dr main_v5_0, dr main_v8} : Finset (DevRef τ sig)) ⊆ left by decide⟩
theorem called_sub : called ⊆ arrays := by decide

/-! ## The arrays' contents -/

variable (m : (ℓ : Loc nD τ sig) → Buf (Elt F) ℓ) (ρ : Dev nD → PrngReg)

/-- At the call. -/
def V₁ (d : Dev nD) : Valuation τ sig (Elt F) := after before fun b => m (d, b)

/-- The circuit the call is given. -/
def net (d : Dev nD) : Net := netOf (V₁ m d (dr main_v0)) (V₁ m d (dr main_v1)) (V₁ m d (dr main_arg2)) (V₁ m d (dr main_v4))

/-- After the call. -/
def V₂ (d : Dev nD) : Valuation τ sig (Elt F) :=
  Function.update (Function.update (V₁ m d) (dr main_v5_0) (resOf (net m d))) (dr main_v5_1) (outOf (net m d))

/-- At the end. -/
def V₃ (d : Dev nD) : Valuation τ sig (Elt F) := after behind (V₂ m d)

theorem held_called (d : Dev nD) : (StableHlo.held (T d) called (V₁ m d) : sProp 𝕄)
    ⊢ iprop(takes (F := F) (net m d) d ∗ gatesL d ↦{half 1} gatesOf (net m d)) := by
  unfold StableHlo.held takes net
  rw [netOf_vals, netOf_wires, netOf_gates, netOf_aux]
  rw [SparseCore.bigSep_insert' (by decide), SparseCore.bigSep_insert' (by decide), SparseCore.bigSep_insert' (by decide), SparseCore.bigSep_insert' (by decide),
    SparseCore.bigSep_insert' (by decide), BI.bigSep_singleton]
  iintro ⟨H0, H1, H2, H3, H4, H5⟩
  ihave H1 := (Entails.of_eq (halves (F := F) (wiresL d) (V₁ m d (dr main_v1)))) $$ H1
  icases H1 with ⟨H1, -⟩
  ihave H2 := (Entails.of_eq (halves (F := F) (gatesL d) (V₁ m d (dr main_arg2)))) $$ H2
  icases H2 with ⟨H2, H2'⟩
  isplitr [H2']
  · isplitl [H0]; · iexact H0
    isplitl [H3]; · iexact H3
    isplitl [H1]; · iexact H1
    isplitl [H2]; · iexact H2
    isplitl [H4]
    · iexists _; iexact H4
    · iexists _; iexact H5
  · iexact H2'

theorem held_left (d : Dev nD) : iprop(StableHlo.held (T d) (arrays \ called) (V₁ m d) ∗ brings (F := F) (net m d) d)
    ⊢ (StableHlo.held (T d) left (V₂ m d) : sProp 𝕄) := by
  rw [StableHlo.held_sub_split (T d) (show results ⊆ left from Finset.subset_union_right) (V₂ m d), show left \ results = arrays \ called by decide]
  have h0 : V₂ m d (dr main_v5_0) = resOf (net m d) := by
    unfold V₂; rw [Function.update_of_ne (by decide), Function.update_self]
  have h1 : V₂ m d (dr main_v5_1) = outOf (net m d) := by
    unfold V₂; rw [Function.update_self]
  rw [StableHlo.held_congr (T d) (V := V₁ m d) (V' := V₂ m d) (fun b hb => ?_)]
  · unfold brings StableHlo.held
    rw [SparseCore.bigSep_insert' (s := {dr main_v5_1}) (by decide), BI.bigSep_singleton, h0, h1]
    iintro ⟨Hr, H0, H1⟩
    isplitr [Hr]
    · isplitl [H0]; · iexact H0
      iexact H1
    · iexact Hr
  · unfold V₂
    rw [Function.update_of_ne, Function.update_of_ne]
    · rintro rfl; revert hb; decide
    · rintro rfl; revert hb; decide

/-! ## The run of main -/

abbrev FIN (d : Dev nD) : sProp 𝕄 :=
  iprop(StableHlo.held (T d) left (V₃ m d) ∗ (gatesL d ↦{half 1} gatesOf (net m d)) ∗ bars (F := F) d c₀)

theorem st_one (d : Dev nD) : (bigSep Finset.univ fun c : Fin ((K (F := F)).nCore 0) => (P (F := F) (net m)).st 0 d c) = takes (F := F) (net m d) d :=
  bigSep_univ_of_subsingleton (0 : Fin 1)
theorem dn_one (d : Dev nD) : (bigSep Finset.univ fun c : Fin ((K (F := F)).nCore 0) => (P (F := F) (net m)).dn 0 d c)
    = iprop(brings (F := F) (net m d) d ∗ bars (F := F) d c₀) :=
  bigSep_univ_of_subsingleton (0 : Fin 1)

theorem hmain (κ : GSem nD τ sig → ℕ) (d : Dev nD) :
    iprop((K (F := F)).ctx EH (P (F := F) (net m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (d.tc : Thread nD τ) arrays (fun b => m (d, b))
    from Pipeline.unscopedBufs_held d (fun b => m (d, b))]
  iintro ⟨#Hctx, Hst, ⟨Hb, Hh, Hts, -⟩, -⟩
  iapply (StableHlo.wp_seq 𝒱 none Set.univ d arrays _ before (fun op h => Pipeline.sub_ucRefs op (List.forall_iff_forall_mem.mp before_sub op h)) (by intro op h; fin_cases h <;> rfl) (fun b => m (d, b))) $$ [Hb Hh]
  · isplitl [Hb] <;> iassumption
  iintro ⟨Hb, Hh⟩
  ihave Hh := (Entails.of_eq (show (StableHlo.held (d.tc : Thread nD τ) arrays (after before fun b => m (d, b)) : sProp 𝕄) = _
    from StableHlo.held_sub_split (SparseCore.T d) called_sub (V₁ m d))) $$ Hh
  icases Hh with ⟨Hc, Hr⟩
  ihave Hc := (held_called m d) $$ Hc
  icases Hc with ⟨Hc, Hg⟩
  rw [wp_bind]
  iapply ((K (F := F)).wp_run (D (F := F)) 𝒱 (EH := EH) (P := P (F := F) (net m)) κ d 0) $$ [Hst Hc Hr Hg Hb Hts]
  isplitr; · iexact Hctx
  isplitl [Hst]; · iexact Hst
  isplitl [Hc]
  · rw [st_one]; iexact Hc
  iintro ⟨Hst, Hdn⟩
  ihave Hdn := (Entails.of_eq (dn_one m d)) $$ Hdn
  icases Hdn with ⟨Hc, Hbars⟩
  ihave Hh := (held_left m d) $$ [Hr Hc]
  · isplitl [Hr] <;> iassumption
  iapply (StableHlo.wp_seq 𝒱 none Set.univ d left _ behind (List.forall_iff_forall_mem.mp behind_sub) (by intro op h; fin_cases h <;> rfl) (V₂ m d)) $$ [Hb Hh]
  · isplitl [Hb] <;> iassumption
  iintro ⟨Hb, Hh⟩
  rw [wp_pure]
  imodintro
  isplitl [Hst]; · iexact Hst
  isplitr [Hb Hts]
  · isplitl [Hh]; · iexact Hh
    isplitl [Hg] <;> iassumption
  isplitl [Hb] <;> iassumption

/-! ## What it tells of the memory -/

def fq (d : Dev nD) (s' : Phys nD τ sig (Elt F)) : Prop :=
  (∀ b ∈ left, s'.mem.mem (d, b) = V₃ m d b) ∧ s'.mem.mem (gatesL d) = gatesOf (net m d) ∧ ∀ j : Fin nT, s'.mem.sem (bcell d c₀ j) = 0

theorem whole_read (ℓ : Loc nD τ sig) (q : PosShare TreeShare) (f : Buf (Elt F) ℓ) (s' : Phys nD τ sig (Elt F)) :
    iprop((ℓ ↦{q} f) ∗ SI s') ⊢ (⌜s'.mem.mem ℓ = f⌝ : sProp 𝕄) := by
  iintro ⟨Hx, HSI⟩
  ihave H := (SI_pointsTo_agree (st := s') (ℓ := ℓ) (I := Finset.univ) (q := q) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx => ⟨fun b hb => ((sep_mono_left (sep_elim_left.trans (SparseCore.ent (bigSep_elim hb)))).trans (whole_read (d, b) fullShare (V₃ m d b) s')) x hx,
    ((sep_mono_left (sep_elim_right.trans sep_elim_left)).trans (whole_read (gatesL d) (half 1) (gatesOf (net m d)) s')) x hx,
    fun j => ((sep_mono_left (sep_elim_right.trans (sep_elim_right.trans (SparseCore.ent (bigSep_elim (Finset.mem_univ j)))))).trans
      (SparseCore.Cfg.semVal_zero_read _ s')) x hx⟩

theorem hA (s' : Phys nD τ sig (Elt F)) (h : ∀ d, fq m d s') (g : GSem nD τ sig) (hg : g ∈ bCells) : s'.mem.sem g = 0 := by
  obtain ⟨j, -, rfl⟩ := Finset.mem_image.mp hg
  exact (h d₀).2.2 j

/-! ## The program's run -/

/-- From any memory whose circuits are in range: the arrays at the end, and every semaphore at zero. -/
theorem run_arrays [∀ e, Nonempty (Elt F e)] (hX : ∀ d, (net m d).Ok) :
    θ_run (Cert.KernelIdeal.defs (F := F)) (Cert.KernelIdeal.threads (F := F)) ⟨m, fun _ => 0, ρ⟩
      (fun r => (∀ d : Dev nD, (∀ b ∈ left, r.2.mem (d, b) = V₃ m d b) ∧ r.2.mem (gatesL d) = gatesOf (net m d)) ∧ r.2.sem = fun _ => 0) :=
  SparseCore.Cfg.θ_run_sc_quiescent (K := K (F := F)) (D := D (F := F)) (𝒱 := 𝒱) (EH := EH) (P := P (F := F) (net m)) (hA := hA m) facts v₀
    (fun q hq => match q with | 0 => nomatch hq)
    (fun q _ => match q with | 0 => tileObl (net m) hX)
    (fun q _ => match q with | 0 => vecSplit (net m))
    m ρ main (fun _ => iprop(emp)) (FIN m) (u₀ (F := F)) (hu₀ (net m)) (hmain m ρ) (fq m) (hfin m) _ (fun _ h hz => ⟨fun d => ⟨(h d).1, (h d).2.1⟩, hz⟩)

end Cert.KernelIdeal.Circuit

end
-- ==== Proof.Arrays.lean ====
/- The arrays at the end of the program's run, as functions of the arguments: the arguments are kept, and the results
   are read off the circuit the arguments state. -/
module

public import proofs.«01_k».proof.Proof.Run

@[expose] public section

noncomputable section

namespace Cert.KernelIdeal.Circuit

open Idealize.ShloMosaic Idealize.SL.Sem
open Idealize.ShloMosaic.StableHlo (seq after)
open Cert.KernelIdeal.Gen

variable {F : FTy → Type} [FloatOps F]

variable (m : (ℓ : Loc nD τ sig) → Buf (Elt F) ℓ) (ρ : Dev nD → PrngReg) (d : Dev nD)

/-- The auxiliary words: the operations' tables, the output gate's wires, and its operation eight times. -/
def auxWords (oi : S4.Idx → BitVec 32) (oo : S_.Idx → BitVec 32) : S16.Idx → BitVec 32 :=
  concatenate S16 0 [⟨S4, fun i => lit0 (S4.rowMajor i)⟩, ⟨S4, oi⟩,
    ⟨S8, broadcastInDim S8 ![0] bcast_S1_S8_0 (shapeCast S1 oo shapeCasts_S_S1)⟩] concatenates_S4_S4_S8_S16_d0

/-- The circuit that the arguments state. -/
def argNet (v : S4096.Idx → BitVec 1) (w : S12x4096x4.Idx → BitVec 32) (o : S12x4096.Idx → BitVec 32) (oi : S4.Idx → BitVec 32)
    (oo : S_.Idx → BitVec 32) : Net :=
  netOf (extui 32 v natLt_1_32) (shapeCast S12x16384 w shapeCasts_S12x4096x4_S12x16384) o (auxWords oi oo)

/-- What an argument's array holds at the start. -/
abbrev at0 (b : Ref sig .tc) : Buf (Elt F) ((d, dr b) : Loc nD τ sig) := m (d, dr b)

theorem net_eq : net m d = argNet (at0 m d main_arg0) (at0 m d main_arg1) (at0 m d main_arg2) (at0 m d main_arg3) (at0 m d main_arg4) := by
  have h0 : V₁ m d (dr main_v0) = (extui 32 (at0 m d main_arg0 : S4096.Idx → BitVec 1) natLt_1_32 : S4096.Idx → BitVec 32) := by
    unfold V₁; after_results
  have h1 : V₁ m d (dr main_v1) = (shapeCast S12x16384 (at0 m d main_arg1 : S12x4096x4.Idx → BitVec 32) shapeCasts_S12x4096x4_S12x16384 : S12x16384.Idx → BitVec 32) := by
    unfold V₁; after_results; rfl
  have h2 : V₁ m d (dr main_arg2) = at0 m d main_arg2 := by
    unfold V₁; after_results
  have h4 : V₁ m d (dr main_v4) = auxWords (at0 m d main_arg3) (at0 m d main_arg4) := by
    unfold V₁; after_results; rfl
  unfold net argNet
  rw [h0, h1, h2, h4]

/-- The first result: the output gate's word, alone. -/
def firstRes (X : Net) : S_.Idx → BitVec 32 :=
  shapeCast S_ (extractStridedSlice S1 ![0] (outOf X) slices_S16_S1_0) shapeCasts_S1_S_

/-- The second result: the layers' bits, one layer after another. -/
def secondRes (X : Net) : S49152.Idx → BitVec 32 := shapeCast S49152 (resOf X) shapeCasts_S12x4096_S49152

/-- An array written neither by the host's operations nor by the call holds at the end what it held at the start. -/
theorem V₃_kept (b : Ref sig .tc) (hb : dr b ≠ dr main_v5_0 ∧ dr b ≠ dr main_v5_1)
    (h₁ : after (before (F := F)) (fun b => m (d, b)) (dr b) = m (d, dr b))
    (h₃ : after (behind (F := F)) (V₂ m d) (dr b) = V₂ m d (dr b)) : V₃ m d (dr b) = at0 m d b := by
  unfold V₃
  rw [h₃]
  unfold V₂
  rw [Function.update_of_ne hb.2, Function.update_of_ne hb.1]
  exact h₁

theorem V₃_arg0 : V₃ m d (dr main_arg0) = at0 m d main_arg0 :=
  V₃_kept m d main_arg0 (by decide) (by after_results) (by after_results)
theorem V₃_arg1 : V₃ m d (dr main_arg1) = at0 m d main_arg1 :=
  V₃_kept m d main_arg1 (by decide) (by after_results) (by after_results)
theorem V₃_arg3 : V₃ m d (dr main_arg3) = at0 m d main_arg3 :=
  V₃_kept m d main_arg3 (by decide) (by after_results) (by after_results)
theorem V₃_arg4 : V₃ m d (dr main_arg4) = at0 m d main_arg4 :=
  V₃_kept m d main_arg4 (by decide) (by after_results) (by after_results)

theorem V₃_v7 : V₃ m d (dr main_v7) = firstRes (net m d) := by
  have h : V₂ m d (dr main_v5_1) = outOf (net m d) := by
    unfold V₂; rw [Function.update_self]
  unfold V₃; after_results; rw [h]; rfl

theorem V₃_v8 : V₃ m d (dr main_v8) = secondRes (net m d) := by
  have h : V₂ m d (dr main_v5_0) = resOf (net m d) := by
    unfold V₂; rw [Function.update_of_ne (by decide), Function.update_self]
  unfold V₃; after_results; rw [h]; rfl

theorem gates_arg2 : gatesOf (net m d) = at0 m d main_arg2 := by
  rw [net_eq]; exact netOf_gates _ _ _ _

/-- The circuit of the arguments at a device. -/
abbrev circuitAt : Net := argNet (at0 m d main_arg0) (at0 m d main_arg1) (at0 m d main_arg2) (at0 m d main_arg3) (at0 m d main_arg4)

/-- The program's run from any memory whose circuits are in range: the results, the arguments kept, every semaphore at zero. -/
theorem run_main [∀ e, Nonempty (Elt F e)] (hX : ∀ d, (circuitAt m d).Ok) :
    θ_run (Cert.KernelIdeal.defs (F := F)) (Cert.KernelIdeal.threads (F := F)) ⟨m, fun _ => 0, ρ⟩
      (fun r => (∀ c : Dev nD,
        (r.2.mem ((c.tc : Thread nD τ).loc main_v7) = firstRes (circuitAt m c)
          ∧ r.2.mem ((c.tc : Thread nD τ).loc main_v8) = secondRes (circuitAt m c))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) := by
  refine (θ_run _ _ _).mono (fun r h => ⟨fun c => ?_, h.2⟩) (run_arrays m ρ fun d => (net_eq m d) ▸ hX d)
  have hc := (h.1 c).1
  refine ⟨⟨?_, ?_⟩, ?_, ?_, ?_, ?_, ?_⟩
  · exact (hc (dr main_v7) (by decide)).trans ((V₃_v7 m c).trans (congrArg firstRes (net_eq m c)))
  · exact (hc (dr main_v8) (by decide)).trans ((V₃_v8 m c).trans (congrArg secondRes (net_eq m c)))
  · exact (hc (dr main_arg0) (by decide)).trans (V₃_arg0 m c)
  · exact (hc (dr main_arg1) (by decide)).trans (V₃_arg1 m c)
  · exact (h.1 c).2.trans (gates_arg2 m c)
  · exact (hc (dr main_arg3) (by decide)).trans (V₃_arg3 m c)
  · exact (hc (dr main_arg4) (by decide)).trans (V₃_arg4 m c)

end Cert.KernelIdeal.Circuit

end
-- ==== Proof.Range.lean ====
/- What the precondition says of the arguments, element by element, and the circuit they state then: its auxiliary
   words, and that it is in range. -/
module

public import proofs.«01_k».proof.Proof.Arrays
public import proofs.«01_k».proof.Pre_in_range
public import Idealize.ShloMosaic.Lib.ReduceAll

@[expose] public section

noncomputable section

namespace Cert.KernelIdeal.Circuit

open Idealize.ShloMosaic Idealize.SL.Sem
open Cert.KernelIdeal.Gen

variable {F : FTy → Type} [FloatOps F]

/-! ## The precondition -/

/-- The wires name gates and the operations are the four. -/
structure InRange (w : S12x4096x4.Idx → BitVec 32) (o : S12x4096.Idx → BitVec 32) (oi : S4.Idx → BitVec 32)
    (oo : S_.Idx → BitVec 32) : Prop where
  w : ∀ i, (w i).toNat < 4096
  o : ∀ i, (o i).toNat < 4
  oi : ∀ i, (oi i).toNat < 4096
  oo : ∀ i, (oo i).toNat < 4

/-- A word that is at least zero and below `n`, read signed. -/
theorem toNat_lt_of_between (a : BitVec 32) (n : ℕ) (hn : n < 2 ^ 31)
    (h : IntOp.andi (IntOp.cmpi .sge a 0#32) (IntOp.cmpi .slt a (BitVec.ofNat 32 n)) = 1#1) : a.toNat < n := by
  obtain ⟨h₁, h₂⟩ := IntOp.andi_eq_one.1 h
  unfold IntOp.cmpi at h₁ h₂
  have e₁ : (0#32 : BitVec 32).sle a = true := by
    revert h₁; show BitVec.ofBool ((0#32 : BitVec 32).sle a) = 1#1 → _; cases (0#32 : BitVec 32).sle a <;> decide
  have e₂ : a.slt (BitVec.ofNat 32 n) = true := by
    revert h₂; show BitVec.ofBool (a.slt (BitVec.ofNat 32 n)) = 1#1 → _; cases a.slt (BitVec.ofNat 32 n) <;> decide
  rw [BitVec.sle_eq_decide, decide_eq_true_eq] at e₁
  rw [BitVec.slt_eq_decide, decide_eq_true_eq] at e₂
  rw [BitVec.toInt_eq_toNat_cond] at e₁ e₂
  rw [BitVec.toInt_eq_toNat_cond, BitVec.toNat_ofNat] at e₂
  rw [BitVec.toInt_eq_toNat_cond] at e₁
  simp only [BitVec.toNat_ofNat] at e₁
  omega

theorem inRange_of_fn [Cert.Pre_in_range.Facts] (v : S4096.Idx → BitVec 1) (w : S12x4096x4.Idx → BitVec 32) (o : S12x4096.Idx → BitVec 32)
    (oi : S4.Idx → BitVec 32) (oo : S_.Idx → BitVec 32) (h : Cert.Pre_in_range.fn (F := F) v w o oi oo = fun _ => 1#1) :
    InRange w o oi oo := by
  have : Subsingleton (Cert.Pre_in_range.S_).Idx := ⟨fun a b => funext fun k => k.elim0⟩
  have h0 : ∀ i, Cert.Pre_in_range.fn (F := F) v w o oi oo i = 1#1 := fun i => by rw [h]
  unfold Cert.Pre_in_range.fn Cert.Pre_in_range.fn_part1 at h0
  refine ⟨fun i => ?_, fun i => ?_, fun i => ?_, fun i => ?_⟩
  · have h1 := (IntOp.andi_eq_one.1 (IntOp.andi_eq_one.1 (IntOp.andi_eq_one.1 (IntOp.andi_eq_one.1 (h0 (fun k => k.elim0))).1).1).1).1
    exact toNat_lt_of_between _ 4096 (by decide) (Host.reduce_andi_all _ _ _ _ _ h1 i)
  · have h1 := (IntOp.andi_eq_one.1 (IntOp.andi_eq_one.1 (IntOp.andi_eq_one.1 (IntOp.andi_eq_one.1 (h0 (fun k => k.elim0))).1).1).1).2
    exact toNat_lt_of_between _ 4 (by decide) (Host.reduce_andi_all _ _ _ _ _ h1 i)
  · have h1 := (IntOp.andi_eq_one.1 (IntOp.andi_eq_one.1 (IntOp.andi_eq_one.1 (h0 (fun k => k.elim0))).1).1).2
    exact toNat_lt_of_between _ 4096 (by decide) (Host.reduce_andi_all _ _ _ _ _ h1 i)
  · have h1 := IntOp.andi_eq_one.1 (h0 i)
    exact toNat_lt_of_between _ 4 (by decide) (IntOp.andi_eq_one.2 ⟨(IntOp.andi_eq_one.1 h1.1).2, h1.2⟩)

/-! ## The circuit's words -/

section Words
variable (v : S4096.Idx → BitVec 1) (w : S12x4096x4.Idx → BitVec 32) (o : S12x4096.Idx → BitVec 32)
  (oi : S4.Idx → BitVec 32) (oo : S_.Idx → BitVec 32)

theorem argNet_V (n : Fin 4096) : (argNet v w o oi oo).V n = (v (ix1 n)).setWidth 32 := by
  show (if h : n.val < 4096 then extui 32 v natLt_1_32 (ix1 ⟨n.val, h⟩) else 0) = _
  rw [dif_pos n.isLt]; rfl

theorem argNet_I (l : Fin 12) (n : Fin 4096) (k : Fin 4) : (argNet v w o oi oo).I l (4 * n + k) = w (ix3 l n k) := by
  show (if h : l.val < 12 ∧ 4 * n.val + k.val < 16384 then
    shapeCast S12x16384 w shapeCasts_S12x4096x4_S12x16384 (ix2 ⟨l.val, h.1⟩ ⟨4 * n.val + k.val, h.2⟩) else 0) = _
  rw [dif_pos ⟨l.isLt, by omega⟩]
  pointwise

theorem argNet_O (l : Fin 12) (n : Fin 4096) : (argNet v w o oi oo).O l n = o (ix2 l n) := by
  show (if h : l.val < 12 ∧ n.val < 4096 then o (ix2 ⟨l.val, h.1⟩ ⟨n.val, h.2⟩) else 0) = _
  rw [dif_pos ⟨l.isLt, n.isLt⟩]

theorem argNet_table (k : Fin 4) : (argNet v w o oi oo).A k = ![16#32, 30#32, 10#32, 15#32] k := by
  show (if h : k.val < 16 then auxWords oi oo (ix1 ⟨k.val, h⟩) else 0) = _
  rw [dif_pos (by omega)]
  unfold auxWords
  pointwise
  fin_cases k <;> decide

theorem argNet_wire (k : Fin 4) : (argNet v w o oi oo).A (4 + k) = oi (ix1 k) := by
  show (if h : 4 + k.val < 16 then auxWords oi oo (ix1 ⟨4 + k.val, h⟩) else 0) = _
  rw [dif_pos (by omega)]
  unfold auxWords
  pointwise

theorem argNet_op (i : S_.Idx) : (argNet v w o oi oo).A 8 = oo i := by
  show (if h : 8 < 16 then auxWords oi oo (ix1 ⟨8, h⟩) else 0) = _
  rw [dif_pos (by omega)]
  unfold auxWords
  pointwise
  exact congrArg oo (funext fun k => k.elim0)

theorem argNet_ok (h : InRange w o oi oo) : (argNet v w o oi oo).Ok where
  I l n := by
    show (if h : l < 12 ∧ n < 16384 then shapeCast S12x16384 w shapeCasts_S12x4096x4_S12x16384 (ix2 ⟨l, h.1⟩ ⟨n, h.2⟩) else 0).toNat < 4096
    split
    · exact h.w _
    · decide
  O l n := by
    show (if h : l < 12 ∧ n < 4096 then o (ix2 ⟨l, h.1⟩ ⟨n, h.2⟩) else 0).toNat < 16
    split
    · exact (h.o _).trans (by decide)
    · decide
  A4 k hk := by rw [argNet_wire v w o oi oo ⟨k, hk⟩]; exact h.oi _
  A8 := by rw [argNet_op v w o oi oo (fun k => k.elim0)]; exact (h.oo _).trans (by decide)

end Words

end Cert.KernelIdeal.Circuit

end
-- ==== Proof.Reference.lean ====
/- The reference's results: its loop's contents after each layer are the circuit's bits, and the arrays at its end are
   those the kernel's program leaves. -/
module

public import proofs.«01_k».proof.Proof.Range
public import proofs.«01_k».proof.Proof.Gen.ReferenceIdeal.Run
public import Idealize.ShloMosaic.Lib.StableHlo.Predicate
public import Idealize.ShloMosaic.Lib.ValueIdxCore

@[expose] public section

noncomputable section

namespace Cert.ReferenceIdeal.Circuit

open Idealize.ShloMosaic Idealize.ShloMosaic.StableHlo Idealize.ShloMosaic.Pipeline Idealize.SL.Sem
open Cert.KernelIdeal.Circuit (Net InRange gateBit lay argNet argNet_V argNet_I argNet_O argNet_table argNet_wire argNet_op lastBits
  outOf resOf firstRes secondRes)
open Cert.ReferenceIdeal.Gen Cert.ReferenceIdeal.Facts Cert.ReferenceIdeal.Value

variable {F : FTy → Type} [FloatOps F]

/-! ## The reference's operations, a layer's and the last gate's -/

/-- The wires of the layer whose number is at `c`. -/
def wiresRow (w : S12x4096x4.Idx → BitVec 32) (c : S_.Idx → BitVec 32) : S4096x4.Idx → BitVec 32 :=
  shapeCast S4096x4 (Host.dynamicSlice S1x4096x4 w
    (fun k => ((![c, constantI S_ 32 0#32, constantI S_ 32 0#32] : Fin 3 → S_.Idx → BitVec 32) k (Shape.Idx.first h_S_)).toInt)
    sliceFits_S12x4096x4_S1x4096x4) shapeCasts_S1x4096x4_S4096x4

/-- The operations of that layer. -/
def opsRow (o : S12x4096.Idx → BitVec 32) (c : S_.Idx → BitVec 32) : S4096.Idx → BitVec 32 :=
  shapeCast S4096 (Host.dynamicSlice S1x4096 o
    (fun k => ((![c, constantI S_ 32 0#32] : Fin 2 → S_.Idx → BitVec 32) k (Shape.Idx.first h_S_)).toInt)
    sliceFits_S12x4096_S1x4096) shapeCasts_S1x4096_S4096

/-- The bits at the wires. -/
def taken (v : S4096.Idx → BitVec 1) (w : S4096x4.Idx → BitVec 32) : S4096x4.Idx → BitVec 1 :=
  Host.gather gather_S4096_S4096x4x1_S4096x4_n_0_n_n_0_2_1 v (broadcastInDim S4096x4x1 ![0, 1] bcast_S4096x4_S4096x4x1_0_1
    (select (cmpi .slt w (broadcastInDim S4096x4 ![] bcast_S_S4096x4 (constantI S_ 32 0#32)))
      (addi w (broadcastInDim S4096x4 ![] bcast_S_S4096x4 (constantI S_ 32 4096#32))) w))

/-- The gates of those bits and operations. -/
def gates (b : S4096x4.Idx → BitVec 1) (o : S4096.Idx → BitVec 32) : S4096.Idx → BitVec 1 :=
  select (cmpi .eq o (broadcastInDim S4096 ![] bcast_S_S4096 (constantI S_ 32 0#32)))
    (Host.reduce IntOp.andi b (constantI S_ 1 1#1) reducesTo_S4096x4_S4096_d1 h_S_)
    (select (cmpi .eq o (broadcastInDim S4096 ![] bcast_S_S4096 (constantI S_ 32 1#32)))
      (Host.reduce IntOp.ori b (constantI S_ 1 0#1) reducesTo_S4096x4_S4096_d1 h_S_)
      (select (cmpi .eq o (broadcastInDim S4096 ![] bcast_S_S4096 (constantI S_ 32 2#32)))
        (cmpi .ne (Host.remsi (Host.reduce IntOp.addi (extui 32 b natLt_1_32) (constantI S_ 32 0#32) reducesTo_S4096x4_S4096_d1 h_S_)
          (broadcastInDim S4096 ![] bcast_S_S4096 (constantI S_ 32 2#32))) (broadcastInDim S4096 ![] bcast_S_S4096 (constantI S_ 32 0#32)))
        (noti (Host.reduce IntOp.andi b (constantI S_ 1 1#1) reducesTo_S4096x4_S4096_d1 h_S_))))

/-- The layers' rows with the bits put as the row at `c`. -/
def rowsPut (r : S12x4096.Idx → BitVec 32) (b : S4096.Idx → BitVec 1) (c : S_.Idx → BitVec 32) : S12x4096.Idx → BitVec 32 :=
  Host.dynamicUpdateSlice r (broadcastInDim S1x4096 ![1] bcast_S4096_S1x4096_1 (extui 32 b natLt_1_32))
    (fun k => ((![c, constantI S_ 32 0#32] : Fin 2 → S_.Idx → BitVec 32) k (Shape.Idx.first h_S_)).toInt) updateFits_S12x4096_S1x4096

/-- The bits the last gate reads. -/
def lastTaken (v : S4096.Idx → BitVec 1) (w : S4.Idx → BitVec 32) : S4.Idx → BitVec 1 :=
  Host.gather gather_S4096_S4x1_S4_n_0_n_n_0_1_1 v (broadcastInDim S4x1 ![0] bcast_S4_S4x1_0
    (select (cmpi .slt w (broadcastInDim S4 ![] bcast_S_S4 (constantI S_ 32 0#32))) (addi w (broadcastInDim S4 ![] bcast_S_S4 (constantI S_ 32 4096#32))) w))

/-- The last gate, one row of bits. -/
def lastGate (b : S4.Idx → BitVec 1) (o : S_.Idx → BitVec 32) : S_.Idx → BitVec 32 :=
  extui 32 (shapeCast S_
    (select (cmpi .eq (broadcastInDim S1 ![] bcast_S_S1 o) (broadcastInDim S1 ![] bcast_S_S1 (constantI S_ 32 0#32)))
      (Host.reduce IntOp.andi (broadcastInDim S1x4 ![1] bcast_S4_S1x4_1 b) (constantI S_ 1 1#1) reducesTo_S1x4_S1_d1 h_S_)
      (select (cmpi .eq (broadcastInDim S1 ![] bcast_S_S1 o) (broadcastInDim S1 ![] bcast_S_S1 (constantI S_ 32 1#32)))
        (Host.reduce IntOp.ori (broadcastInDim S1x4 ![1] bcast_S4_S1x4_1 b) (constantI S_ 1 0#1) reducesTo_S1x4_S1_d1 h_S_)
        (select (cmpi .eq (broadcastInDim S1 ![] bcast_S_S1 o) (broadcastInDim S1 ![] bcast_S_S1 (constantI S_ 32 2#32)))
          (cmpi .ne (Host.remsi (Host.reduce IntOp.addi (extui 32 (broadcastInDim S1x4 ![1] bcast_S4_S1x4_1 b) natLt_1_32) (constantI S_ 32 0#32) reducesTo_S1x4_S1_d1 h_S_)
            (broadcastInDim S1 ![] bcast_S_S1 (constantI S_ 32 2#32))) (broadcastInDim S1 ![] bcast_S_S1 (constantI S_ 32 0#32)))
          (noti (Host.reduce IntOp.andi (broadcastInDim S1x4 ![1] bcast_S4_S1x4_1 b) (constantI S_ 1 1#1) reducesTo_S1x4_S1_d1 h_S_)))))
    shapeCasts_S1_S_) natLt_1_32

set_option maxRecDepth 65536 in
/-- A trip's bits are the gates of the bits taken at the layer's wires. -/
theorem res_eq (V : Valuation τ sig (Elt F)) : res_main_while0b_v60 V
    = gates (taken (V (Proc.devRef .tc main_v1_3)) (wiresRow (V (Proc.devRef .tc main_v1_0)) (V (Proc.devRef .tc main_v1_2))))
      (opsRow (V (Proc.devRef .tc main_v1_1)) (V (Proc.devRef .tc main_v1_2))) := by
  unfold res_main_while0b_v60 res_main_while0b_v42 res_main_while0b_v41 res_main_while0b_v34 res_main_while0b_v33
  rfl

/-- A trip puts its bits as the layer's row. -/
theorem step4_eq (V : Valuation τ sig (Elt F)) : step_main_v1_4 V
    = rowsPut (V (Proc.devRef .tc main_v1_4)) (res_main_while0b_v60 V) (V (Proc.devRef .tc main_v1_2)) := by
  unfold step_main_v1_4
  rfl

set_option maxRecDepth 65536 in
/-- The first result is the last gate's, of the bits taken at its wires. -/
theorem out31_eq (V : Valuation τ sig (Elt F)) : out_main_v31 V
    = lastGate (lastTaken (V (Proc.devRef .tc main_v1_3)) (V (Proc.devRef .tc main_arg3))) (V (Proc.devRef .tc main_arg4)) := by
  unfold out_main_v31
  rfl

/-! ## A gate -/

/-- The gate of operation `o` at four bits, as the reference picks it. -/
def pick (x : Fin 4 → BitVec 1) (o : BitVec 32) : BitVec 1 :=
  Scalar.select (IntOp.cmpi .eq o 0#32) (Finset.fold IntOp.andi 1#1 x Finset.univ)
    (Scalar.select (IntOp.cmpi .eq o 1#32) (Finset.fold IntOp.ori 0#1 x Finset.univ)
      (Scalar.select (IntOp.cmpi .eq o 2#32)
        (IntOp.cmpi .ne (IntOp.remsi ArithUnit.host (Finset.fold IntOp.addi 0#32 (fun k => (x k).setWidth 32) Finset.univ) 2#32) 0#32)
        (~~~(Finset.fold IntOp.andi 1#1 x Finset.univ))))

/-- A fold over four, written out. -/
theorem fold_four {β : Type} (f : β → β → β) [Std.Commutative f] [Std.Associative f] (b : β) (x : Fin 4 → β) :
    Finset.fold f b x Finset.univ = f (x 0) (f (x 1) (f (x 2) (f (x 3) b))) := rfl

/-- It is what the operation's table holds at the number of bits set. -/
theorem pick_eq (x : Fin 4 → BitVec 1) (o : BitVec 32) (a : ℕ → BitVec 32) (ha : ∀ k : Fin 4, a k = ![16#32, 30#32, 10#32, 15#32] k)
    (h : o.toNat < 4) : (pick x o).setWidth 32
      = gateBit ((x 0).setWidth 32) ((x 1).setWidth 32) ((x 2).setWidth 32) ((x 3).setWidth 32) (a o.toNat) := by
  obtain ⟨k, rfl⟩ : ∃ k : Fin 4, o = BitVec.ofNat 32 k := ⟨⟨o.toNat, h⟩, by simp⟩
  have hk : (BitVec.ofNat 32 (k : ℕ)).toNat = k := by simp; omega
  rw [hk, ha]
  unfold pick
  rw [fold_four, fold_four, fold_four]
  generalize x 0 = x0, x 1 = x1, x 2 = x2, x 3 = x3
  clear ha hk h
  revert x0 x1 x2 x3
  fin_cases k <;> decide

/-! ## The operations read at an index -/

/-- A layer's number, read signed. -/
theorem toInt_layer (j : Fin 12) : (BitVec.ofNat 32 (j : ℕ)).toInt = ((j : ℕ) : ℤ) := by
  rw [BitVec.toInt_eq_toNat_of_lt] <;> simp <;> omega

/-- A slice one layer thick starts at the layer named. -/
theorem start_layer {s t : Shape} (ht : t.rank = s.rank) (st : Fin s.rank → Int) (a : Fin s.rank) (j : Fin 12)
    (hs : st a = (BitVec.ofNat 32 (j : ℕ)).toInt) (h : 12 ≤ s.size a) (h' : t.size (a.cast ht.symm) = 1) : Host.clampedStart s t ht st a = j :=
  Host.clampedStart_of_le ht st a j (hs.trans (toInt_layer j)) (by omega)

/-- A slice as long as the array starts at zero. -/
theorem start_whole {s t : Shape} (ht : t.rank = s.rank) (st : Fin s.rank → Int) (a : Fin s.rank)
    (h : t.size (a.cast ht.symm) = s.size a) : Host.clampedStart s t ht st a = 0 := by
  unfold Host.clampedStart; omega

/-- The layer's wires are the array's row of that number. -/
theorem wiresRow_apply (w) (j : Fin 12) (n : Fin 4096) (k : Fin 4) : wiresRow w (fun _ => BitVec.ofNat 32 j) (ix2 n k) = w (ix3 j n k) := by
  unfold wiresRow
  pointwise
  have e0 := fun h => start_layer (s := S12x4096x4) (t := S1x4096x4) h
    (fun k => (![fun _ => BitVec.ofNat 32 (j : ℕ), constantI S_ 32 0#32, constantI S_ 32 0#32] k (Shape.Idx.first h_S_)).toInt) 0 j rfl (le_refl 12) rfl
  have e1 := fun h st => start_whole (s := S12x4096x4) (t := S1x4096x4) h st 1 rfl
  have e2 := fun h st => start_whole (s := S12x4096x4) (t := S1x4096x4) h st 2 rfl
  simp only [e0, e1, e2, Nat.zero_add, Fin.eta]

/-- The row of that number starts there. -/
theorem row_start (j : Fin 12) (h : S1x4096.rank = S12x4096.rank) : Host.clampedStart S12x4096 S1x4096 h
    (fun k => ((![fun _ => BitVec.ofNat 32 (j : ℕ), constantI S_ 32 0#32] : Fin 2 → S_.Idx → BitVec 32) k (Shape.Idx.first h_S_)).toInt) 0 = j :=
  start_layer h _ 0 j rfl (le_refl 12) rfl

/-- The layer's operations are the array's row of that number. -/
theorem opsRow_apply (w) (j : Fin 12) (n : Fin 4096)  : opsRow w (fun _ => BitVec.ofNat 32 j) (ix1 n) = w (ix2 j n) := by
  unfold opsRow
  pointwise
  have e0 := row_start j
  have e1 := fun h st => start_whole (s := S12x4096) (t := S1x4096) h st 1 rfl
  simp only [e0, e1, Nat.zero_add, Fin.eta]

/-- The row of that number is the bits, every other row as it was. -/
theorem rowsPut_apply (r b) (j l : Fin 12) (n : Fin 4096) : rowsPut r b (fun _ => BitVec.ofNat 32 j) (ix2 l n)
    = if l = j then (b (ix1 n)).setWidth 32 else r (ix2 l n) := by
  unfold rowsPut
  pointwise
  have e0 := row_start j
  have e1 := fun h st => start_whole (s := S12x4096) (t := S1x4096) h st 1 rfl
  simp only [e0, e1, Nat.sub_zero, Fin.eta]
  by_cases h : l = j
  · subst h; simp
  · rw [dif_neg (fun hh => h (Fin.ext (by omega))), if_neg h]

/-- A word in range is not wrapped and not clamped. -/
theorem wrap_eq (x : BitVec 32) (h : x.toNat < 4096) :
    min (Scalar.select (IntOp.cmpi .slt x 0#32) (x + 4096#32) x).toInt.toNat (4096 - 1) = x.toNat := by
  have h0 : x.toInt = x.toNat := BitVec.toInt_eq_toNat_of_lt (by omega)
  have : Scalar.select (IntOp.cmpi .slt x 0#32) (x + 4096#32) x = x := by
    have : IntOp.cmpi .slt x 0#32 = 0#1 := by
      have : ¬ ((x.toNat : ℤ) < 0) := by omega
      simp [IntOp.cmpi, BitVec.slt, h0, this]
    rw [this]; rfl
  rw [this, h0]; omega

/-- The bit taken is the one that the wire names. -/
theorem taken_apply (v w) (n : Fin 4096) (k : Fin 4) (h : (w (ix2 n k)).toNat < 4096) : taken v w (ix2 n k) = v (ix1 ⟨_, h⟩) := by
  unfold taken
  refine (ValueIdx.gather_take_apply (by norm_num) gather_S4096_S4096x4x1_S4096x4_n_0_n_n_0_2_1.wf v _ (ix2 n k)).trans ?_
  congr 2
  refine Fin.ext ?_
  pointwise
  exact wrap_eq _ h

/-- A gate is picked from its own four bits, by its own operation. -/
theorem gates_apply (b o) (n : Fin 4096) : gates b o (ix1 n) = pick (fun k => b (ix2 n k)) (o (ix1 n)) := by
  unfold gates pick
  pointwise

/-- The bit that the last gate takes is the one its wire names. -/
theorem lastTaken_apply (v w) (k : Fin 4) (h : (w (ix1 k)).toNat < 4096) : lastTaken v w (ix1 k) = v (ix1 ⟨_, h⟩) := by
  have e : (Shape.Idx.ofFin k : S4.Idx) = ix1 k := by funext a; obtain rfl : a = 0 := Subsingleton.elim _ _; rfl
  unfold lastTaken
  refine (congrArg _ e.symm).trans ((StableHlo.Predicate.gather_take gather_S4096_S4x1_S4_n_0_n_n_0_1_1 rfl rfl rfl rfl v _ k (by norm_num)).trans ?_)
  congr 1
  funext a
  obtain rfl : a = 0 := Subsingleton.elim _ _
  have hi : ∀ g : S4.Idx → BitVec 32, broadcastInDim S4x1 ![0] bcast_S4_S4x1_0 g (StableHlo.Predicate.ixP k) = g (ix1 k) := fun g => by
    unfold broadcastInDim
    congr 1
    funext a
    obtain rfl : a = 0 := Subsingleton.elim _ _
    rfl
  exact Fin.ext ((congrArg (fun z : BitVec 32 => min z.toInt.toNat (4096 - 1)) (hi _)).trans (wrap_eq _ h))

/-- The last gate is picked in the same way. -/
theorem lastGate_apply (b o) (i : S_.Idx) : lastGate b o i = (pick (fun k => b (ix1 k)) (o i)).setWidth 32 := by
  obtain rfl : i = ix0 := by funext a; exact a.elim0
  unfold lastGate pick
  pointwise

/-! ## The loop -/

section Loop
variable (v : S4096.Idx → BitVec 1) (w : S12x4096x4.Idx → BitVec 32) (o : S12x4096.Idx → BitVec 32) (oi : S4.Idx → BitVec 32)
  (oo : S_.Idx → BitVec 32)

/-- What the loop's arrays hold with `j` layers computed. -/
structure Computed (j : ℕ) (V : Valuation τ sig (Elt F)) : Prop where
  wires : V (Proc.devRef .tc main_v1_0) = w
  ops : V (Proc.devRef .tc main_v1_1) = o
  number : V (Proc.devRef .tc main_v1_2) = fun _ => BitVec.ofNat 32 j
  bits : ∀ n : Fin 4096, ((V (Proc.devRef .tc main_v1_3) : S4096.Idx → BitVec 1) (ix1 n)).setWidth 32 = lay (argNet v w o oi oo) j n
  rows : ∀ l : Fin 12, (l : ℕ) < j → ∀ n : Fin 4096,
    (V (Proc.devRef .tc main_v1_4) : S12x4096.Idx → BitVec 32) (ix2 l n) = lay (argNet v w o oi oo) (l + 1) n

variable {v w o oi oo}

/-- A layer's gates, read off the bits of the layer before it. -/
theorem layer_eq (h : InRange w o oi oo) (j : Fin 12) (b : S4096.Idx → BitVec 1)
    (hb : ∀ n : Fin 4096, (b (ix1 n)).setWidth 32 = lay (argNet v w o oi oo) j n) (n : Fin 4096) :
    (gates (taken b (wiresRow w (fun _ => BitVec.ofNat 32 j))) (opsRow o (fun _ => BitVec.ofNat 32 j)) (ix1 n)).setWidth 32
      = lay (argNet v w o oi oo) (j + 1) n := by
  have hk : ∀ k : Fin 4, ((taken b (wiresRow w (fun _ => BitVec.ofNat 32 j)) (ix2 n k)).setWidth 32 : BitVec 32)
      = lay (argNet v w o oi oo) j ((argNet v w o oi oo).I j (4 * n + k)).toNat := fun k => by
    have hw : (wiresRow w (fun _ => BitVec.ofNat 32 j) (ix2 n k)).toNat < 4096 := by rw [wiresRow_apply]; exact h.w _
    rw [taken_apply _ _ n k hw, hb, argNet_I]
    simp only [wiresRow_apply]
  rw [gates_apply, opsRow_apply, pick_eq _ _ (argNet v w o oi oo).A (argNet_table v w o oi oo) (h.o _), ← argNet_O v w o oi oo j n]
  exact congr (congr (congr (congr (congrArg gateBit (hk 0)) (hk 1)) (hk 2)) (hk 3)) rfl

/-- A trip computes one layer more. -/
theorem Computed.step (h : InRange w o oi oo) (j : Fin 12) {V : Valuation τ sig (Elt F)} (hV : Computed v w o oi oo j V) :
    Computed v w o oi oo (j + 1) (STEP V) := by
  have hres : res_main_while0b_v60 V = gates (taken (V (Proc.devRef .tc main_v1_3)) (wiresRow w (fun _ => BitVec.ofNat 32 j)))
      (opsRow o (fun _ => BitVec.ofNat 32 j)) := by
    rw [res_eq, hV.wires, hV.ops, hV.number]
    rfl
  have hlay := layer_eq h j _ hV.bits
  refine ⟨(STEP_main_v1_0 V).trans hV.wires, (STEP_main_v1_1 V).trans hV.ops, (STEP_main_v1_2 V).trans ?_, fun n => ?_, fun l hl n => ?_⟩
  · unfold step_main_v1_2
    rw [hV.number]
    funext i
    show BitVec.ofNat 32 j + 1#32 = BitVec.ofNat 32 (j + 1)
    simp only [BitVec.ofNat_add]
  · rw [STEP_main_v1_3]
    unfold step_main_v1_3
    rw [hres]
    exact hlay n
  · rw [STEP_main_v1_4, step4_eq, hres, hV.number]
    refine (rowsPut_apply _ _ j l n).trans ?_
    by_cases hj : l = j
    · rw [if_pos hj, hj]; exact hlay n
    · rw [if_neg hj]
      exact hV.rows l (by have := fun e => hj (Fin.ext e); omega) n

end Loop

variable (m : (ℓ : Loc nD τ sig) → Buf (Elt F) ℓ) (c : Dev nD)

/-- The circuit the arguments state. -/
def circuitAt : Net := argNet (m (c.tc.loc main_arg0)) (m (c.tc.loc main_arg1)) (m (c.tc.loc main_arg2)) (m (c.tc.loc main_arg3))
  (m (c.tc.loc main_arg4))

set_option maxRecDepth 65536 in
/-- At the loop's entry no layer is computed. -/
theorem computed_zero : Computed (m (c.tc.loc main_arg0)) (m (c.tc.loc main_arg1)) (m (c.tc.loc main_arg2)) (m (c.tc.loc main_arg3))
    (m (c.tc.loc main_arg4)) 0 (entryContents preI m c) := by
  have e0 : entryContents preI m c (Proc.devRef .tc main_v1_0) = m (c.tc.loc main_arg1) := by
    simp only [entryContents, afterL_cons, afterL_nil]; after_reads_simp <;> rfl
  have e1 : entryContents preI m c (Proc.devRef .tc main_v1_1) = m (c.tc.loc main_arg2) := by
    simp only [entryContents, afterL_cons, afterL_nil]; after_reads_simp <;> rfl
  have e2 : entryContents preI m c (Proc.devRef .tc main_v1_2) = constantI S_ 32 0#32 := by
    simp only [entryContents, afterL_cons, afterL_nil]; after_reads_simp <;> rfl
  have e3 : entryContents preI m c (Proc.devRef .tc main_v1_3) = m (c.tc.loc main_arg0) := by
    simp only [entryContents, afterL_cons, afterL_nil]; after_reads_simp <;> rfl
  refine ⟨e0, e1, e2, fun n => ?_, fun l hl => absurd hl (Nat.not_lt_zero _)⟩
  rw [e3]
  exact (argNet_V _ _ _ _ _ n).symm

/-- After `j` trips `j` layers are computed. -/
theorem computed (h : InRange (m (c.tc.loc main_arg1)) (m (c.tc.loc main_arg2)) (m (c.tc.loc main_arg3)) (m (c.tc.loc main_arg4))) :
    ∀ j ≤ 12, Computed (m (c.tc.loc main_arg0)) (m (c.tc.loc main_arg1)) (m (c.tc.loc main_arg2)) (m (c.tc.loc main_arg3))
      (m (c.tc.loc main_arg4)) j (STEP^[j] (entryContents preI m c))
  | 0, _ => computed_zero m c
  | j + 1, hj => by
    rw [Function.iterate_succ_apply']
    exact (computed h j (by omega)).step h ⟨j, by omega⟩

/-! ## The results -/

/-- Sixteen lanes' sum, four bits four times over, halved twice. -/
theorem lanes_sum (x : Fin 4 → BitVec 1) :
    Scalar.shrsi (extractAt ![15] (scan .sum (fun y : Cert.KernelIdeal.S16.Idx => (x ⟨(y 0).val % 4, Nat.mod_lt _ (by decide)⟩).setWidth 32))
      Cert.KernelIdeal.Gen.inpos_S16_p15) 2#32
      = IntOp.addi (IntOp.addi (IntOp.addi ((x 0).setWidth 32) ((x 1).setWidth 32)) ((x 2).setWidth 32)) ((x 3).setWidth 32) := by
  obtain ⟨x0, x1, x2, x3, rfl⟩ : ∃ a b c d, x = ![a, b, c, d] := ⟨x 0, x 1, x 2, x 3, by funext k; fin_cases k <;> rfl⟩
  revert x0 x1 x2 x3
  decide

/-- The reference's first result is the kernel's. -/
theorem first_eq (h : InRange (m (c.tc.loc main_arg1)) (m (c.tc.loc main_arg2)) (m (c.tc.loc main_arg3)) (m (c.tc.loc main_arg4))) :
    out_main_v31 (STEP^[12] (entryContents preI m c)) = firstRes (circuitAt m c) := by
  have hV := computed m c h 12 le_rfl
  rw [out31_eq, iter_main_arg3, iter_main_arg4]
  generalize STEP^[12] (entryContents preI m c) = V at hV
  have hb := hV.bits
  generalize (V (Proc.devRef .tc main_v1_3) : S4096.Idx → BitVec 1) = b at hb
  have hx : ∀ k : Fin 4, lay (circuitAt m c) 12 ((circuitAt m c).A (4 + k)).toNat
      = (lastTaken b (m (c.tc.loc main_arg3)) (ix1 k)).setWidth 32 := fun k => by
    unfold circuitAt
    rw [argNet_wire, lastTaken_apply b _ k (h.oi _), hb]
  have hl : lastBits (circuitAt m c) = fun y => (lastTaken b (m (c.tc.loc main_arg3)) (ix1 ⟨(y 0).val % 4, Nat.mod_lt _ (by decide)⟩)).setWidth 32 :=
    funext fun y => hx ⟨(y 0).val % 4, Nat.mod_lt _ (by decide)⟩
  funext i
  rw [lastGate_apply, pick_eq _ _ (circuitAt m c).A (argNet_table _ _ _ _ _) (h.oo _)]
  have hs := lanes_sum (fun k => lastTaken b (m (c.tc.loc main_arg3)) (ix1 k))
  show _ = IntOp.andi (IntOp.shrui .vector ((circuitAt m c).A ((circuitAt m c).A 8).toNat)
    (Scalar.shrsi (extractAt ![15] (scan .sum (lastBits (circuitAt m c))) Cert.KernelIdeal.Gen.inpos_S16_p15) 2#32)) 1#32
  rw [hl, hs, show (circuitAt m c).A 8 = _ from argNet_op _ _ _ _ _ i]
  rfl

/-- The reference's second result is the kernel's. -/
theorem second_eq (h : InRange (m (c.tc.loc main_arg1)) (m (c.tc.loc main_arg2)) (m (c.tc.loc main_arg3)) (m (c.tc.loc main_arg4))) :
    out_main_v32 (STEP^[12] (entryContents preI m c)) = secondRes (circuitAt m c) := by
  have hV := computed m c h 12 le_rfl
  have e : (STEP^[12] (entryContents preI m c) (Proc.devRef .tc main_v1_4) : S12x4096.Idx → BitVec 32) = resOf (circuitAt m c) := by
    funext i
    obtain ⟨l, n, rfl⟩ : ∃ (l : Fin 12) (n : Fin 4096), i = ix2 l n := ⟨i 0, i 1, by funext a; match a with | ⟨0, _⟩ => rfl | ⟨1, _⟩ => rfl⟩
    exact hV.rows l l.2 n
  unfold out_main_v32
  exact congrArg (fun r : S12x4096.Idx → BitVec 32 => shapeCast S49152 r shapeCasts_S12x4096_S49152) e

end Cert.ReferenceIdeal.Circuit

end
-- ==== Proof.lean ====
/- The proof of the six claims of `Cert.Claim`. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Pre_in_range
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-! ## The kernel -/

/-- The arguments in range are what the precondition says, for the kernel at either reading of its floats. -/
theorem inRange_at {F : FTy → Type} [FloatOps F] (m : (ℓ : Loc KernelIdeal.nD KernelIdeal.τ KernelIdeal.sig) → Buf (Elt F) ℓ)
    (c : Dev KernelIdeal.nD)
    (h : Cert.Pre_in_range.fn (F := F) (m (c.tc.loc KernelIdeal.main_arg0)) (m (c.tc.loc KernelIdeal.main_arg1))
      (m (c.tc.loc KernelIdeal.main_arg2)) (m (c.tc.loc KernelIdeal.main_arg3)) (m (c.tc.loc KernelIdeal.main_arg4)) = fun _ => 1#1) :
    KernelIdeal.Circuit.InRange (m (c.tc.loc KernelIdeal.main_arg1)) (m (c.tc.loc KernelIdeal.main_arg2))
      (m (c.tc.loc KernelIdeal.main_arg3)) (m (c.tc.loc KernelIdeal.main_arg4)) :=
  KernelIdeal.Circuit.inRange_of_fn _ _ _ _ _ h

theorem frame_kernel : Cert.quiescent_Kernel := fun m ρ hm =>
  (θ_run Cert.KernelIdeal.defs _ _).mono (fun _ h => ⟨fun c => (h.1 c).2, h.2⟩)
    (KernelIdeal.Circuit.run_main (F := Bits) m ρ fun d => KernelIdeal.Circuit.argNet_ok _ _ _ _ _ (inRange_at (F := Bits) m d (hm d)))

theorem frame_ideal : Cert.quiescent_KernelIdeal := fun m ρ hm =>
  (θ_run Cert.KernelIdeal.defs _ _).mono (fun _ h => ⟨fun c => (h.1 c).2, h.2⟩)
    (KernelIdeal.Circuit.run_main (F := Ideal) m ρ fun d => KernelIdeal.Circuit.argNet_ok _ _ _ _ _ (inRange_at (F := Ideal) m d (hm d)))

/-! ## The reference -/

/-- It declares no semaphore, so none is left off zero. -/
theorem frame_reference : Cert.quiescent_ReferenceIdeal := fun m ρ _ =>
  (θ_run Cert.ReferenceIdeal.defs _ _).mono (fun r h => ⟨fun c => (h c).2.2, sem_eq_zero_of_no_sems rfl r.2⟩)
    (ReferenceIdeal.Value.run (F := Ideal) m ρ)

theorem frame_reference_in_range : Cert.quiescent_ReferenceIdeal_pre_in_range := fun m ρ _ => frame_reference m ρ trivial

/-! ## The two together -/

theorem equal : Cert.algebraic_KernelIdeal_ReferenceIdeal := fun m ρ m' ρ' hm hargs => by
  have hr := fun c => inRange_at (F := Ideal) m c (hm c)
  have hx : ∀ c, ReferenceIdeal.Circuit.circuitAt m' c = KernelIdeal.Circuit.circuitAt m c := fun c => by
    obtain ⟨h0, h1, h2, h3, h4⟩ := hargs c
    unfold ReferenceIdeal.Circuit.circuitAt
    rw [h0, h1, h2, h3, h4]
  have hr' : ∀ c : Dev ReferenceIdeal.nD, KernelIdeal.Circuit.InRange (m' (c.tc.loc ReferenceIdeal.main_arg1)) (m' (c.tc.loc ReferenceIdeal.main_arg2))
      (m' (c.tc.loc ReferenceIdeal.main_arg3)) (m' (c.tc.loc ReferenceIdeal.main_arg4)) := fun c => by
    obtain ⟨h0, h1, h2, h3, h4⟩ := hargs c
    rw [h1, h2, h3, h4]
    exact hr c
  refine ⟨fun c => KernelIdeal.Circuit.firstRes (KernelIdeal.Circuit.circuitAt m c),
    fun c => KernelIdeal.Circuit.secondRes (KernelIdeal.Circuit.circuitAt m c), ?_, ?_⟩
  · exact (θ_run Cert.KernelIdeal.defs _ _).mono (fun _ h c => ⟨(h.1 c).1.1, (h.1 c).1.2, (h.1 c).2⟩)
      (KernelIdeal.Circuit.run_main (F := Ideal) m ρ fun d => KernelIdeal.Circuit.argNet_ok _ _ _ _ _ (hr d))
  · refine (θ_run Cert.ReferenceIdeal.defs _ _).mono (fun _ h c => ⟨?_, ?_, (h c).2.2⟩) (ReferenceIdeal.Value.run (F := Ideal) m' ρ')
    · exact (h c).1.trans ((ReferenceIdeal.Circuit.first_eq m' c (hr' c)).trans (congrArg KernelIdeal.Circuit.firstRes (hx c)))
    · exact (h c).2.1.trans ((ReferenceIdeal.Circuit.second_eq m' c (hr' c)).trans (congrArg KernelIdeal.Circuit.secondRes (hx c)))

theorem claim : Cert.Claim :=
  ⟨inferInstance, inferInstance, inferInstance, inferInstance, frame_kernel, frame_ideal, frame_reference, frame_reference_in_range,
    trivial, equal⟩

end Cert.Proof

end
